-- ==== Defs.lean ====
def Pre_Kernel [hPre_counts_of_choices : Cert.Pre_counts_of_choices.Facts] (m : (ℓ : Loc Cert.Kernel.nD Cert.Kernel.τ Cert.Kernel.sig) → Buf (Elt Bits) ℓ) : Prop :=
  ∀ c : Dev Cert.Kernel.nD,
    (Cert.Pre_counts_of_choices.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_counts_of_choices : Cert.Pre_counts_of_choices.Facts] (m : (ℓ : Loc Cert.KernelIdeal.nD Cert.KernelIdeal.τ Cert.KernelIdeal.sig) → Buf (Elt Ideal) ℓ) : Prop :=
  ∀ c : Dev Cert.KernelIdeal.nD,
    (Cert.Pre_counts_of_choices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_of_choices [hPre_counts_of_choices : Cert.Pre_counts_of_choices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_of_choices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_weights [hPre_finite_weights : Cert.Pre_finite_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_weights [hPre_finite_weights : Cert.Pre_finite_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_counts_of_choices : Cert.Pre_counts_of_choices.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_counts_of_choices : Cert.Pre_counts_of_choices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_counts_of_choices [hReferenceIdeal : Cert.ReferenceIdeal.Facts] [hPre_counts_of_choices : Cert.Pre_counts_of_choices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_of_choices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_weights [hKernel3Ideal : Cert.Kernel3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_weights [hReference3Ideal : Cert.Reference3Ideal.Facts] [hPre_finite_weights : Cert.Pre_finite_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_of_choices : Cert.Pre_counts_of_choices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)) (v1 : (c : Dev Cert.Kernel2Ideal.nD) → Buf (Elt Ideal) ((c.tc : Thread Cert.Kernel2Ideal.nD Cert.Kernel2Ideal.τ).loc Cert.Kernel2Ideal.main_v16)) (v2 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_v17) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.bf16_pack.Statement Cert.Kernel3Ideal.S512x512

def algebraic_Kernel3Ideal_Reference3Ideal_pre_finite_weights [hKernel3Ideal : Cert.Kernel3Ideal.Facts] [hReference3Ideal : Cert.Reference3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)) (v2 : (c : Dev Cert.Kernel3Ideal.nD) → Buf (Elt Ideal) ((c.tc : Thread Cert.Kernel3Ideal.nD Cert.Kernel3Ideal.τ).loc Cert.Kernel3Ideal.main_v31)) (v3 : (c : Dev Cert.Kernel3Ideal.nD) → Buf (Elt Ideal) ((c.tc : Thread Cert.Kernel3Ideal.nD Cert.Kernel3Ideal.τ).loc Cert.Kernel3Ideal.main_v36)) (v4 : (c : Dev Cert.Kernel3Ideal.nD) → Buf (Elt Ideal) ((c.tc : Thread Cert.Kernel3Ideal.nD Cert.Kernel3Ideal.τ).loc Cert.Kernel3Ideal.main_v39)) (v5 : (c : Dev Cert.Kernel3Ideal.nD) → Buf (Elt Ideal) ((c.tc : Thread Cert.Kernel3Ideal.nD Cert.Kernel3Ideal.τ).loc Cert.Kernel3Ideal.main_v42)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_v31) = v2 c
          ∧ r.2.mem ((c.tc : Thread Cert.Kernel3Ideal.nD Cert.Kernel3Ideal.τ).loc Cert.Kernel3Ideal.main_v36) = v3 c
          ∧ r.2.mem ((c.tc : Thread Cert.Kernel3Ideal.nD Cert.Kernel3Ideal.τ).loc Cert.Kernel3Ideal.main_v39) = v4 c
          ∧ r.2.mem ((c.tc : Thread Cert.Kernel3Ideal.nD Cert.Kernel3Ideal.τ).loc Cert.Kernel3Ideal.main_v42) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v62) = v2 c
          ∧ r.2.mem ((c.tc : Thread Cert.Reference3Ideal.nD Cert.Reference3Ideal.τ).loc Cert.Reference3Ideal.main_v66) = v3 c
          ∧ r.2.mem ((c.tc : Thread Cert.Reference3Ideal.nD Cert.Reference3Ideal.τ).loc Cert.Reference3Ideal.main_v69) = v4 c
          ∧ r.2.mem ((c.tc : Thread Cert.Reference3Ideal.nD Cert.Reference3Ideal.τ).loc Cert.Reference3Ideal.main_v72) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.bf16_pack.Statement Cert.Kernel4Ideal.S512x1024

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v13_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.bf16_pack.Statement Cert.Kernel5Ideal.S512x1024

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)) (v3 : (c : Dev Cert.Kernel6Ideal.nD) → Buf (Elt Ideal) ((c.tc : Thread Cert.Kernel6Ideal.nD Cert.Kernel6Ideal.τ).loc Cert.Kernel6Ideal.main_v12_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_v12_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_v46) = v1 c
          ∧ r.2.mem ((c.tc : Thread Cert.Reference6Ideal.nD Cert.Reference6Ideal.τ).loc Cert.Reference6Ideal.main_v47) = v2 c
          ∧ r.2.mem ((c.tc : Thread Cert.Reference6Ideal.nD Cert.Reference6Ideal.τ).loc Cert.Reference6Ideal.main_v48) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v255) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v255) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_counts_of_choices : Cert.Pre_counts_of_choices.Facts) (hPre_finite_weights : Cert.Pre_finite_weights.Facts),
    quiescent_Kernel (hKernel := hKernel) (hPre_counts_of_choices := hPre_counts_of_choices)
    ∧ quiescent_KernelIdeal (hKernelIdeal := hKernelIdeal) (hPre_counts_of_choices := hPre_counts_of_choices)
    ∧ quiescent_ReferenceIdeal (hReferenceIdeal := hReferenceIdeal)
    ∧ quiescent_ReferenceIdeal_pre_counts_of_choices (hReferenceIdeal := hReferenceIdeal) (hPre_counts_of_choices := hPre_counts_of_choices)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_weights (hKernel3Ideal := hKernel3Ideal) (hPre_finite_weights := hPre_finite_weights)
    ∧ quiescent_Reference3Ideal (hReference3Ideal := hReference3Ideal)
    ∧ quiescent_Reference3Ideal_pre_finite_weights (hReference3Ideal := hReference3Ideal) (hPre_finite_weights := hPre_finite_weights)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_counts_of_choices := hPre_counts_of_choices)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_weights (hKernel3Ideal := hKernel3Ideal) (hReference3Ideal := hReference3Ideal) (hPre_finite_weights := hPre_finite_weights)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_counts_of_choices.lean ====
abbrev S49664x1024 : Shape := ⟨2, ![49664, 1024]⟩
abbrev S1x128 : Shape := ⟨2, ![1, 128]⟩
abbrev S2x32x1024x1024 : Shape := ⟨4, ![2, 32, 1024, 1024]⟩
abbrev S2x32x512x1024 : Shape := ⟨4, ![2, 32, 512, 1024]⟩
abbrev S1x32 : Shape := ⟨2, ![1, 32]⟩
abbrev S32 : Shape := ⟨1, ![32]⟩
abbrev S_ : Shape := ⟨0, ![]⟩

class Facts : Prop where
  slices_S1x128_S1x32_0_0 : S1x128.Slices ![0, 0] S1x32
  shapeCasts_S1x32_S32 : S1x32.ShapeCasts S32
  reducesTo_S32_S_d0 : S32.ReducesTo [0] S_
  h_S_ : 0 < S_.numel
  bcast_S_S32 : S_.BroadcastsInDim S32 (![] : Fin 0 → Fin S32.rank)

variable [Facts]

def fn {F : FTy → Type} [FloatOps F] (main_arg0 : FVec F S49664x1024 .f32) (main_arg1 : FVec F S1x128 .f32) (main_arg2 : FVec F S2x32x1024x1024 .f32) (main_arg3 : FVec F S2x32x512x1024 .f32) : IVec S_ 1 :=
  let main_v0 : FVec F S1x32 .f32 := (extractStridedSlice S1x32 ![0, 0] · slices_S1x128_S1x32_0_0) main_arg1
  let main_v1 : FVec F S32 .f32 := shapeCast S32 main_v0 shapeCasts_S1x32_S32
  let main_v2 : IVec S32 32 := fptosi 32 main_v1
  let main_c : IVec S_ 32 := constantI S_ 32 0#32
  let main_v3 : IVec S_ 32 := (fun x v => Host.reduce IntOp.addi x v reducesTo_S32_S_d0 h_S_) main_v2 main_c
  let main_c_0 : IVec S_ 32 := constantI S_ 32 0#32
  let main_v4 : IVec S32 32 := broadcastInDim S32 ![] bcast_S_S32 main_c_0
  let main_v5 : IVec S32 1 := cmpi .sge main_v2 main_v4
  let main_c_1 : IVec S_ 32 := constantI S_ 32 33792#32
  let main_v6 : IVec S32 32 := broadcastInDim S32 ![] bcast_S_S32 main_c_1
  let main_v7 : IVec S32 1 := cmpi .sle main_v2 main_v6
  let main_v8 : IVec S32 1 := andi main_v5 main_v7
  let main_c_2 : IVec S_ 1 := constantI S_ 1 1#1
  let main_v9 : IVec S_ 1 := (fun x v => Host.reduce IntOp.andi x v reducesTo_S32_S_d0 h_S_) main_v8 main_c_2
  let main_c_3 : IVec S_ 32 := constantI S_ 32 1#32
  let main_v10 : IVec S_ 1 := cmpi .sge main_v3 main_c_3
  let main_v11 : IVec S_ 1 := andi main_v9 main_v10
  main_v11
-- ==== Pre_finite_weights.lean ====
abbrev S2x8192x1024 : Shape := ⟨3, ![2, 8192, 1024]⟩
abbrev S8x64x1024 : Shape := ⟨3, ![8, 64, 1024]⟩
abbrev S2x1024 : Shape := ⟨2, ![2, 1024]⟩
abbrev S1x1024x2048 : Shape := ⟨3, ![1, 1024, 2048]⟩
abbrev S1x64 : Shape := ⟨2, ![1, 64]⟩
abbrev S1x1024 : Shape := ⟨2, ![1, 1024]⟩
abbrev S_ : Shape := ⟨0, ![]⟩
abbrev S1x1024x1024 : Shape := ⟨3, ![1, 1024, 1024]⟩

class Facts : Prop where
  slices_S2x1024_S1x1024_0_0 : S2x1024.Slices ![0, 0] S1x1024
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x2048_S1x1024x1024_0_0_512 : S1x1024x2048.Slices ![0, 0, 512] S1x1024x1024
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S2x8192x1024 .f32) (main_arg1 : FVec F S8x64x1024 .f32) (main_arg2 : FVec F S2x1024 .f32) (main_arg3 : FVec F S1x1024x2048 .f32) (main_arg4 : FVec F S1x64 .f32) (main_arg5 : FVec F S1x64 .f32) : IVec S_ 1 :=
  let main_v0 : FVec F S1x1024 .f32 := (extractStridedSlice S1x1024 ![0, 0] · slices_S2x1024_S1x1024_0_0) main_arg2
  let main_v1 : FVec F S1x1024 .f32 := Host.absf main_v0
  let main_cst : FVec F S_ .f32 := constant S_ .f32 0x7F7FFFFF#32
  let main_v2 : FVec F S1x1024 .f32 := broadcastInDim S1x1024 ![] bcast_S_S1x1024 main_cst
  let main_v3 : IVec S1x1024 1 := cmpf .ole main_v1 main_v2
  let main_c : IVec S_ 1 := constantI S_ 1 1#1
  let main_v4 : IVec S_ 1 := (fun x v => Host.reduce IntOp.andi x v reducesTo_S1x1024_S_d0_1 h_S_) main_v3 main_c
  let main_v5 : FVec F S1x1024x1024 .f32 := (extractStridedSlice S1x1024x1024 ![0, 0, 512] · slices_S1x1024x2048_S1x1024x1024_0_0_512) main_arg3
  let main_v6 : FVec F S1x1024x1024 .f32 := Host.absf main_v5
  let main_cst_0 : FVec F S_ .f32 := constant S_ .f32 0x7F7FFFFF#32
  let main_v7 : FVec F S1x1024x1024 .f32 := broadcastInDim S1x1024x1024 ![] bcast_S_S1x1024x1024 main_cst_0
  let main_v8 : IVec S1x1024x1024 1 := cmpf .ole main_v6 main_v7
  let main_c_1 : IVec S_ 1 := constantI S_ 1 1#1
  let main_v9 : IVec S_ 1 := (fun x v => Host.reduce IntOp.andi x v reducesTo_S1x1024x1024_S_d0_1_2 h_S_) main_v8 main_c_1
  let main_v10 : IVec S_ 1 := andi main_v4 main_v9
  main_v10
-- ==== Kernel.lean ====
abbrev S49664x1024 : Shape := ⟨2, ![49664, 1024]⟩
abbrev S1x128 : Shape := ⟨2, ![1, 128]⟩
abbrev S2x32x1024x1024 : Shape := ⟨4, ![2, 32, 1024, 1024]⟩
abbrev S2x32x512x1024 : Shape := ⟨4, ![2, 32, 512, 1024]⟩
abbrev S1x32 : Shape := ⟨2, ![1, 32]⟩
abbrev S32 : Shape := ⟨1, ![32]⟩
abbrev S_ : Shape := ⟨0, ![]⟩
abbrev S1 : Shape := ⟨1, ![1]⟩
abbrev S97 : Shape := ⟨1, ![97]⟩
abbrev S97x1 : Shape := ⟨2, ![97, 1]⟩
abbrev S97x32 : Shape := ⟨2, ![97, 32]⟩
abbrev S397312x128 : Shape := ⟨2, ![397312, 128]⟩
abbrev S4096x128 : Shape := ⟨2, ![4096, 128]⟩
abbrev S1x1x1024x1024 : Shape := ⟨4, ![1, 1, 1024, 1024]⟩
abbrev S1x1x512x1024 : Shape := ⟨4, ![1, 1, 512, 1024]⟩
abbrev S1024x1024 : Shape := ⟨2, ![1024, 1024]⟩
abbrev S512x1024 : Shape := ⟨2, ![512, 1024]⟩
abbrev S512x128 : Shape := ⟨2, ![512, 128]⟩
abbrev S512x512 : Shape := ⟨2, ![512, 512]⟩

abbrev nBuf : Space → Nat
  | .hbm => 68
  | .vmem => 10
  | .smem => 2
  | _ => 0

abbrev bufTy : (tb : Table) → Fin (tcTables nBuf tb) → BufTy
  | .hbm, ⟨0, _⟩ => ⟨S49664x1024, .f32⟩
  | .hbm, ⟨1, _⟩ => ⟨S1x128, .f32⟩
  | .hbm, ⟨2, _⟩ => ⟨S2x32x1024x1024, .f32⟩
  | .hbm, ⟨3, _⟩ => ⟨S2x32x512x1024, .f32⟩
  | .hbm, ⟨4, _⟩ => ⟨S1x32, .f32⟩
  | .hbm, ⟨5, _⟩ => ⟨S32, .f32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i1⟩
  | .hbm, ⟨26, _⟩ => ⟨S32, .i1⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S_, .i32⟩
  | .hbm, ⟨36, _⟩ => ⟨S32, .i32⟩
  | .hbm, ⟨37, _⟩ => ⟨S1, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S97, .i32⟩
  | .hbm, ⟨53, _⟩ => ⟨S_, .i32⟩
  | .hbm, ⟨54, _⟩ => ⟨S97, .i32⟩
  | .hbm, ⟨55, _⟩ => ⟨S97, .i32⟩
  | .hbm, ⟨56, _⟩ => ⟨S1x32, .i32⟩
  | .hbm, ⟨57, _⟩ => ⟨S97x1, .i32⟩
  | .hbm, ⟨58, _⟩ => ⟨S97x32, .i32⟩
  | .hbm, ⟨59, _⟩ => ⟨S97x32, .i32⟩
  | .hbm, ⟨60, _⟩ => ⟨S97x32, .i1⟩
  | .hbm, ⟨61, _⟩ => ⟨S97x32, .i32⟩
  | .hbm, ⟨62, _⟩ => ⟨S_, .i32⟩
  | .hbm, ⟨63, _⟩ => ⟨S97, .i32⟩
  | .hbm, ⟨64, _⟩ => ⟨S_, .i32⟩
  | .hbm, ⟨65, _⟩ => ⟨S97, .i32⟩
  | .hbm, ⟨66, _⟩ => ⟨S397312x128, .f32⟩
  | .hbm, ⟨67, _⟩ => ⟨S397312x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x512x1024, .f32⟩
  | .local _ .vmem, ⟨5, _⟩ => ⟨S1x1x512x1024, .f32⟩
  | .local _ .vmem, ⟨6, _⟩ => ⟨S4096x128, .f32⟩
  | .local _ .vmem, ⟨7, _⟩ => ⟨S4096x128, .f32⟩
  | .local _ .vmem, ⟨8, _⟩ => ⟨S1024x1024, .bf16⟩
  | .local _ .vmem, ⟨9, _⟩ => ⟨S512x1024, .bf16⟩
  | .local _ .smem, ⟨0, _⟩ => ⟨S97, .i32⟩
  | .local _ .smem, ⟨1, _⟩ => ⟨S1, .i32⟩
  | _, _ => ⟨S49664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_c_2 : Ref sig .tc := ⟨.hbm, 31, rfl⟩
abbrev main_v8 : Ref sig .tc := ⟨.hbm, 32, rfl⟩
abbrev main_v9 : Ref sig .tc := ⟨.hbm, 33, rfl⟩
abbrev main_call1_call0_c : Ref sig .tc := ⟨.hbm, 34, rfl⟩
abbrev main_call1_call0_v0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c : Ref sig .tc := ⟨.hbm, 46, rfl⟩
abbrev main_call2_v6 : Ref sig .tc := ⟨.hbm, 47, rfl⟩
abbrev main_call2_v7 : Ref sig .tc := ⟨.hbm, 48, rfl⟩
abbrev main_call2_c_0 : Ref sig .tc := ⟨.hbm, 49, rfl⟩
abbrev main_call2_v8 : Ref sig .tc := ⟨.hbm, 50, rfl⟩
abbrev main_v13 : Ref sig .tc := ⟨.hbm, 51, rfl⟩
abbrev main_v15 : Ref sig .tc := ⟨.hbm, 52, rfl⟩
abbrev main_c_4 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c_5 : Ref sig .tc := ⟨.hbm, 62, rfl⟩
abbrev main_v24 : Ref sig .tc := ⟨.hbm, 63, rfl⟩
abbrev main_c_6 : Ref sig .tc := ⟨.hbm, 64, rfl⟩
abbrev main_v25 : Ref sig .tc := ⟨.hbm, 65, rfl⟩
abbrev main_v27 : Ref sig .tc := ⟨.hbm, 66, rfl⟩
abbrev main_v28 : Ref sig .tc := ⟨.hbm, 67, rfl⟩
abbrev main_v26 : Ref sig .tc := ⟨.smem, 0, rfl⟩
abbrev main_v14 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![97], ![false]⟩

abbrev pre0 : Pipeline.Prefetch sig := ⟨2, ![main_v26.idx, main_v14.idx], fun | 0 => main_v26.names | 1 => main_v14.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S49664x1024 : Shape := ⟨2, ![49664, 1024]⟩
abbrev S1x128 : Shape := ⟨2, ![1, 128]⟩
abbrev S2x32x1024x1024 : Shape := ⟨4, ![2, 32, 1024, 1024]⟩
abbrev S2x32x512x1024 : Shape := ⟨4, ![2, 32, 512, 1024]⟩
abbrev S1x32x1024x1024 : Shape := ⟨4, ![1, 32, 1024, 1024]⟩
abbrev S32x1024x1024 : Shape := ⟨3, ![32, 1024, 1024]⟩
abbrev S1x32x512x1024 : Shape := ⟨4, ![1, 32, 512, 1024]⟩
abbrev S32x512x1024 : Shape := ⟨3, ![32, 512, 1024]⟩
abbrev S1x32 : Shape := ⟨2, ![1, 32]⟩
abbrev S32 : Shape := ⟨1, ![32]⟩
abbrev S_ : Shape := ⟨0, ![]⟩
abbrev S49664 : Shape := ⟨1, ![49664]⟩
abbrev S49664x1 : Shape := ⟨2, ![49664, 1]⟩
abbrev S49664x32 : Shape := ⟨2, ![49664, 32]⟩
abbrev S32x1024x49664 : Shape := ⟨3, ![32, 1024, 49664]⟩
abbrev S32x49664x1024 : Shape := ⟨3, ![32, 49664, 1024]⟩
abbrev S32x49664x512 : Shape := ⟨3, ![32, 49664, 512]⟩
abbrev S32x49664 : Shape := ⟨2, ![32, 49664]⟩
abbrev S32x49664x1 : Shape := ⟨3, ![32, 49664, 1]⟩
abbrev S397312x128 : Shape := ⟨2, ![397312, 128]⟩

abbrev nBuf : Space → Nat
  | .hbm => 78
  | .vmem => 0
  | .smem => 0
  | _ => 0

abbrev bufTy : (tb : Table) → Fin (tcTables nBuf tb) → BufTy
  | .hbm, ⟨0, _⟩ => ⟨S49664x1024, .f32⟩
  | .hbm, ⟨1, _⟩ => ⟨S1x128, .f32⟩
  | .hbm, ⟨2, _⟩ => ⟨S2x32x1024x1024, .f32⟩
  | .hbm, ⟨3, _⟩ => ⟨S2x32x512x1024, .f32⟩
  | .hbm, ⟨4, _⟩ => ⟨S1x32x1024x1024, .f32⟩
  | .hbm, ⟨5, _⟩ => ⟨S32x1024x1024, .f32⟩
  | .hbm, ⟨6, _⟩ => ⟨S1x32x512x1024, .f32⟩
  | .hbm, ⟨7, _⟩ => ⟨S32x512x1024, .f32⟩
  | .hbm, ⟨8, _⟩ => ⟨S1x32, .f32⟩
  | .hbm, ⟨9, _⟩ => ⟨S32, .f32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S49664, .i32⟩
  | .hbm, ⟨39, _⟩ => ⟨S49664x1, .i32⟩
  | .hbm, ⟨40, _⟩ => ⟨S32, .i32⟩
  | .hbm, ⟨41, _⟩ => ⟨S1x32, .i32⟩
  | .hbm, ⟨42, _⟩ => ⟨S49664x32, .i32⟩
  | .hbm, ⟨43, _⟩ => ⟨S49664x32, .i32⟩
  | .hbm, ⟨44, _⟩ => ⟨S49664x32, .i1⟩
  | .hbm, ⟨45, _⟩ => ⟨S1x32, .i32⟩
  | .hbm, ⟨46, _⟩ => ⟨S49664x32, .i32⟩
  | .hbm, ⟨47, _⟩ => ⟨S49664x32, .i32⟩
  | .hbm, ⟨48, _⟩ => ⟨S49664x32, .i1⟩
  | .hbm, ⟨49, _⟩ => ⟨S49664x32, .i1⟩
  | .hbm, ⟨50, _⟩ => ⟨S_, .f32⟩
  | .hbm, ⟨51, _⟩ => ⟨S_, .f32⟩
  | .hbm, ⟨52, _⟩ => ⟨S49664x32, .f32⟩
  | .hbm, ⟨53, _⟩ => ⟨S49664x32, .f32⟩
  | .hbm, ⟨54, _⟩ => ⟨S49664x32, .f32⟩
  | .hbm, ⟨55, _⟩ => ⟨S32x1024x49664, .f32⟩
  | .hbm, ⟨56, _⟩ => ⟨S32x49664x1024, .f32⟩
  | .hbm, ⟨57, _⟩ => ⟨S32x49664x512, .f32⟩
  | .hbm, ⟨58, _⟩ => ⟨S32x49664x512, .f32⟩
  | .hbm, ⟨59, _⟩ => ⟨S32x49664x512, .f32⟩
  | .hbm, ⟨60, _⟩ => ⟨S32x49664x512, .f32⟩
  | .hbm, ⟨61, _⟩ => ⟨S_, .f32⟩
  | .hbm, ⟨62, _⟩ => ⟨S32x49664x512, .f32⟩
  | .hbm, ⟨63, _⟩ => ⟨S32x49664x512, .f32⟩
  | .hbm, ⟨64, _⟩ => ⟨S_, .f32⟩
  | .hbm, ⟨65, _⟩ => ⟨S32x49664x512, .f32⟩
  | .hbm, ⟨66, _⟩ => ⟨S32x49664x512, .f32⟩
  | .hbm, ⟨67, _⟩ => ⟨S32x49664x512, .f32⟩
  | .hbm, ⟨68, _⟩ => ⟨S32x49664x512, .f32⟩
  | .hbm, ⟨69, _⟩ => ⟨S32x49664x1024, .f32⟩
  | .hbm, ⟨70, _⟩ => ⟨S32x49664, .f32⟩
  | .hbm, ⟨71, _⟩ => ⟨S32x49664x1, .f32⟩
  | .hbm, ⟨72, _⟩ => ⟨S32x49664x1, .f32⟩
  | .hbm, ⟨73, _⟩ => ⟨S32x49664x1024, .f32⟩
  | .hbm, ⟨74, _⟩ => ⟨S32x49664x1024, .f32⟩
  | .hbm, ⟨75, _⟩ => ⟨S_, .f32⟩
  | .hbm, ⟨76, _⟩ => ⟨S49664x1024, .f32⟩
  | .hbm, ⟨77, _⟩ => ⟨S397312x128, .f32⟩
  | _, _ => ⟨S49664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_call1_call0_c : Ref sig .tc := ⟨.hbm, 35, rfl⟩
abbrev main_call1_call0_v0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_cst_2 : Ref sig .tc := ⟨.hbm, 51, rfl⟩
abbrev main_call2_v0 : Ref sig .tc := ⟨.hbm, 52, rfl⟩
abbrev main_call2_v1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_3 : Ref sig .tc := ⟨.hbm, 75, rfl⟩
abbrev main_v38 : Ref sig .tc := ⟨.hbm, 76, rfl⟩
abbrev main_v39 : Ref sig .tc := ⟨.hbm, 77, rfl⟩

abbrev nD : Nat := 1
abbrev τ : Topo := Topo.v7x

variable {F : FTy → Type} [FloatOps F]
-- ==== Kernel2.lean ====
abbrev S16896x1024 : Shape := ⟨2, ![16896, 1024]⟩
abbrev S2x1024 : Shape := ⟨2, ![2, 1024]⟩
abbrev S1x1024x2048 : Shape := ⟨3, ![1, 1024, 2048]⟩
abbrev S1x8x30x1024 : Shape := ⟨4, ![1, 8, 30, 1024]⟩
abbrev S1x1024 : Shape := ⟨2, ![1, 1024]⟩
abbrev S1024 : Shape := ⟨1, ![1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S30x1024 : Shape := ⟨2, ![30, 1024]⟩
abbrev S1x30x1024 : Shape := ⟨3, ![1, 30, 1024]⟩
abbrev S2x30x1024 : Shape := ⟨3, ![2, 30, 1024]⟩
abbrev S8x30x1024 : Shape := ⟨3, ![8, 30, 1024]⟩
abbrev S8x64x1024 : Shape := ⟨3, ![8, 64, 1024]⟩
abbrev S8x94x1024 : Shape := ⟨3, ![8, 94, 1024]⟩
abbrev S1x2x30x1024 : Shape := ⟨4, ![1, 2, 30, 1024]⟩

abbrev nBuf : Space → Nat
  | .hbm => 22
  | .vmem => 6
  | .smem => 0
  | _ => 0

abbrev bufTy : (tb : Table) → Fin (tcTables nBuf tb) → BufTy
  | .hbm, ⟨0, _⟩ => ⟨S16896x1024, .f32⟩
  | .hbm, ⟨1, _⟩ => ⟨S2x1024, .f32⟩
  | .hbm, ⟨2, _⟩ => ⟨S1x1024x2048, .f32⟩
  | .hbm, ⟨3, _⟩ => ⟨S1x8x30x1024, .f32⟩
  | .hbm, ⟨4, _⟩ => ⟨S1x1024, .f32⟩
  | .hbm, ⟨5, _⟩ => ⟨S1024, .f32⟩
  | .hbm, ⟨6, _⟩ => ⟨S1024x2048, .f32⟩
  | .hbm, ⟨7, _⟩ => ⟨S1x1024, .f32⟩
  | .hbm, ⟨8, _⟩ => ⟨S1024x2048, .bf16⟩
  | .hbm, ⟨9, _⟩ => ⟨S16896x1024, .f32⟩
  | .hbm, ⟨10, _⟩ => ⟨S30x1024, .f32⟩
  | .hbm, ⟨11, _⟩ => ⟨S30x1024, .f32⟩
  | .hbm, ⟨12, _⟩ => ⟨S1x30x1024, .f32⟩
  | .hbm, ⟨13, _⟩ => ⟨S1x30x1024, .f32⟩
  | .hbm, ⟨14, _⟩ => ⟨S2x30x1024, .f32⟩
  | .hbm, ⟨15, _⟩ => ⟨S8x30x1024, .f32⟩
  | .hbm, ⟨16, _⟩ => ⟨S512x1024, .f32⟩
  | .hbm, ⟨17, _⟩ => ⟨S8x64x1024, .f32⟩
  | .hbm, ⟨18, _⟩ => ⟨S8x94x1024, .f32⟩
  | .hbm, ⟨19, _⟩ => ⟨S8x30x1024, .f32⟩
  | .hbm, ⟨20, _⟩ => ⟨S1x2x30x1024, .f32⟩
  | .hbm, ⟨21, _⟩ => ⟨S1x8x30x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S16896x1024 : Shape := ⟨2, ![16896, 1024]⟩
abbrev S2x1024 : Shape := ⟨2, ![2, 1024]⟩
abbrev S1x1024x2048 : Shape := ⟨3, ![1, 1024, 2048]⟩
abbrev S1x8x30x1024 : Shape := ⟨4, ![1, 8, 30, 1024]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1024x2048 : Shape := ⟨2, ![1024, 2048]⟩
abbrev S16896x2048 : Shape := ⟨2, ![16896, 2048]⟩
abbrev S2x30x1024 : Shape := ⟨3, ![2, 30, 1024]⟩
abbrev S16384x1024 : Shape := ⟨2, ![16384, 1024]⟩
abbrev S2x8192x1024 : Shape := ⟨3, ![2, 8192, 1024]⟩
abbrev S2x8222x1024 : Shape := ⟨3, ![2, 8222, 1024]⟩
abbrev S8x30x1024 : Shape := ⟨3, ![8, 30, 1024]⟩
abbrev S512x1024 : Shape := ⟨2, ![512, 1024]⟩
abbrev S8x64x1024 : Shape := ⟨3, ![8, 64, 1024]⟩
abbrev S8x94x1024 : Shape := ⟨3, ![8, 94, 1024]⟩
abbrev S1x2x30x1024 : Shape := ⟨4, ![1, 2, 30, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S2x1024, .f32⟩
  | .hbm, ⟨2, _⟩ => ⟨S1x1024x2048, .f32⟩
  | .hbm, ⟨3, _⟩ => ⟨S1x8x30x1024, .f32⟩
  | .hbm, ⟨4, _⟩ => ⟨S1x1024, .f32⟩
  | .hbm, ⟨5, _⟩ => ⟨S1024, .f32⟩
  | .hbm, ⟨6, _⟩ => ⟨S16896x1024, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x1024, .f32⟩
  | .hbm, ⟨18, _⟩ => ⟨S16896x1024, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S1024x2048, .f32⟩
  | .hbm, ⟨23, _⟩ => ⟨S16896x2048, .f32⟩
  | .hbm, ⟨24, _⟩ => ⟨S16896x1024, .f32⟩
  | .hbm, ⟨25, _⟩ => ⟨S16896x1024, .f32⟩
  | .hbm, ⟨26, _⟩ => ⟨S16896x1024, .f32⟩
  | .hbm, ⟨27, _⟩ => ⟨S16896x1024, .f32⟩
  | .hbm, ⟨28, _⟩ => ⟨S_, .f32⟩
  | .hbm, ⟨29, _⟩ => ⟨S16896x1024, .f32⟩
  | .hbm, ⟨30, _⟩ => ⟨S16896x1024, .f32⟩
  | .hbm, ⟨31, _⟩ => ⟨S_, .f32⟩
  | .hbm, ⟨32, _⟩ => ⟨S16896x1024, .f32⟩
  | .hbm, ⟨33, _⟩ => ⟨S16896x1024, .f32⟩
  | .hbm, ⟨34, _⟩ => ⟨S16896x1024, .f32⟩
  | .hbm, ⟨35, _⟩ => ⟨S_, .f32⟩
  | .hbm, ⟨36, _⟩ => ⟨S2x30x1024, .f32⟩
  | .hbm, ⟨37, _⟩ => ⟨S16384x1024, .f32⟩
  | .hbm, ⟨38, _⟩ => ⟨S2x8192x1024, .f32⟩
  | .hbm, ⟨39, _⟩ => ⟨S2x8222x1024, .f32⟩
  | .hbm, ⟨40, _⟩ => ⟨S8x30x1024, .f32⟩
  | .hbm, ⟨41, _⟩ => ⟨S512x1024, .f32⟩
  | .hbm, ⟨42, _⟩ => ⟨S8x64x1024, .f32⟩
  | .hbm, ⟨43, _⟩ => ⟨S8x94x1024, .f32⟩
  | .hbm, ⟨44, _⟩ => ⟨S2x30x1024, .f32⟩
  | .hbm, ⟨45, _⟩ => ⟨S1x2x30x1024, .f32⟩
  | .hbm, ⟨46, _⟩ => ⟨S8x30x1024, .f32⟩
  | .hbm, ⟨47, _⟩ => ⟨S1x8x30x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel3.lean ====
abbrev S2x8192x1024 : Shape := ⟨3, ![2, 8192, 1024]⟩
abbrev S8x64x1024 : Shape := ⟨3, ![8, 64, 1024]⟩
abbrev S2x1024 : Shape := ⟨2, ![2, 1024]⟩
abbrev S1x1024x2048 : Shape := ⟨3, ![1, 1024, 2048]⟩
abbrev S1x64 : Shape := ⟨2, ![1, 64]⟩
abbrev S16384x1024 : Shape := ⟨2, ![16384, 1024]⟩
abbrev S512x1024 : Shape := ⟨2, ![512, 1024]⟩
abbrev S1x1024 : Shape := ⟨2, ![1, 1024]⟩
abbrev S1024 : Shape := ⟨1, ![1024]⟩
abbrev S1024x2048 : Shape := ⟨2, ![1024, 2048]⟩
abbrev S64 : Shape := ⟨1, ![64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S8x64 : Shape := ⟨2, ![8, 64]⟩
abbrev S512 : Shape := ⟨1, ![512]⟩
abbrev S1x512 : Shape := ⟨2, ![1, 512]⟩
abbrev S16896x512 : Shape := ⟨2, ![16896, 512]⟩
abbrev S512x1 : Shape := ⟨2, ![512, 1]⟩
abbrev S512x2048 : Shape := ⟨2, ![512, 2048]⟩
abbrev S1024x512 : Shape := ⟨2, ![1024, 512]⟩
abbrev S2x512x8x64 : Shape := ⟨4, ![2, 512, 8, 64]⟩
abbrev S2x8x512x64 : Shape := ⟨4, ![2, 8, 512, 64]⟩
abbrev S8x8x64x64 : Shape := ⟨4, ![8, 8, 64, 64]⟩

abbrev nBuf : Space → Nat
  | .hbm => 59
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S8x64x1024, .f32⟩
  | .hbm, ⟨2, _⟩ => ⟨S2x1024, .f32⟩
  | .hbm, ⟨3, _⟩ => ⟨S1x1024x2048, .f32⟩
  | .hbm, ⟨4, _⟩ => ⟨S1x64, .f32⟩
  | .hbm, ⟨5, _⟩ => ⟨S1x64, .f32⟩
  | .hbm, ⟨6, _⟩ => ⟨S16384x1024, .f32⟩
  | .hbm, ⟨7, _⟩ => ⟨S512x1024, .f32⟩
  | .hbm, ⟨8, _⟩ => ⟨S1x1024, .f32⟩
  | .hbm, ⟨9, _⟩ => ⟨S1024, .f32⟩
  | .hbm, ⟨10, _⟩ => ⟨S1024x2048, .f32⟩
  | .hbm, ⟨11, _⟩ => ⟨S64, .f32⟩
  | .hbm, ⟨12, _⟩ => ⟨S64, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S_, .f32⟩
  | .hbm, ⟨21, _⟩ => ⟨S64x64, .f32⟩
  | .hbm, ⟨22, _⟩ => ⟨S8x1x8x1, .f32⟩
  | .hbm, ⟨23, _⟩ => ⟨S1x64x1x64, .f32⟩
  | .hbm, ⟨24, _⟩ => ⟨S8x64x8x64, .f32⟩
  | .hbm, ⟨25, _⟩ => ⟨S8x64x8x64, .f32⟩
  | .hbm, ⟨26, _⟩ => ⟨S8x64x8x64, .f32⟩
  | .hbm, ⟨27, _⟩ => ⟨S512x512, .f32⟩
  | .hbm, ⟨28, _⟩ => ⟨S512x512, .bf16⟩
  | .hbm, ⟨29, _⟩ => ⟨S1x1024, .f32⟩
  | .hbm, ⟨30, _⟩ => ⟨S1024x2048, .bf16⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S1x64, .f32⟩
  | .hbm, ⟨36, _⟩ => ⟨S8x64, .f32⟩
  | .hbm, ⟨37, _⟩ => ⟨S512, .f32⟩
  | .hbm, ⟨38, _⟩ => ⟨S1x512, .f32⟩
  | .hbm, ⟨39, _⟩ => ⟨S16896x512, .f32⟩
  | .hbm, ⟨40, _⟩ => ⟨S16896x512, .bf16⟩
  | .hbm, ⟨41, _⟩ => ⟨S16896x512, .f32⟩
  | .hbm, ⟨42, _⟩ => ⟨S16896x512, .f32⟩
  | .hbm, ⟨43, _⟩ => ⟨S512x512, .f32⟩
  | .hbm, ⟨44, _⟩ => ⟨S512x512, .f32⟩
  | .hbm, ⟨45, _⟩ => ⟨S1024x512, .f32⟩
  | .hbm, ⟨46, _⟩ => ⟨S2x512x8x64, .f32⟩
  | .hbm, ⟨47, _⟩ => ⟨S2x8x512x64, .f32⟩
  | .hbm, ⟨48, _⟩ => ⟨S512x512, .f32⟩
  | .hbm, ⟨49, _⟩ => ⟨S512x512, .f32⟩
  | .hbm, ⟨50, _⟩ => ⟨S1024x512, .f32⟩
  | .hbm, ⟨51, _⟩ => ⟨S2x512x8x64, .f32⟩
  | .hbm, ⟨52, _⟩ => ⟨S2x8x512x64, .f32⟩
  | .hbm, ⟨53, _⟩ => ⟨S512x512, .f32⟩
  | .hbm, ⟨54, _⟩ => ⟨S8x64x8x64, .f32⟩
  | .hbm, ⟨55, _⟩ => ⟨S8x8x64x64, .f32⟩
  | .hbm, ⟨56, _⟩ => ⟨S512x512, .f32⟩
  | .hbm, ⟨57, _⟩ => ⟨S8x64x8x64, .f32⟩
  | .hbm, ⟨58, _⟩ => ⟨S8x8x64x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2048, .bf16⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel3Ideal.lean ====
variable {F : FTy → Type} [FloatOps F]
-- ==== Reference3Ideal.lean ====
abbrev S2x8192x1024 : Shape := ⟨3, ![2, 8192, 1024]⟩
abbrev S8x64x1024 : Shape := ⟨3, ![8, 64, 1024]⟩
abbrev S2x1024 : Shape := ⟨2, ![2, 1024]⟩
abbrev S1x1024x2048 : Shape := ⟨3, ![1, 1024, 2048]⟩
abbrev S1x64 : Shape := ⟨2, ![1, 64]⟩
abbrev S16384x1024 : Shape := ⟨2, ![16384, 1024]⟩
abbrev S512x1024 : Shape := ⟨2, ![512, 1024]⟩
abbrev S16896x1024 : Shape := ⟨2, ![16896, 1024]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1024x2048 : Shape := ⟨2, ![1024, 2048]⟩
abbrev S16896x2048 : Shape := ⟨2, ![16896, 2048]⟩
abbrev S16896x512 : Shape := ⟨2, ![16896, 512]⟩
abbrev S16896x8x64 : Shape := ⟨3, ![16896, 8, 64]⟩
abbrev S64 : Shape := ⟨1, ![64]⟩
abbrev S16896x8 : Shape := ⟨2, ![16896, 8]⟩
abbrev S16896x8x1 : Shape := ⟨3, ![16896, 8, 1]⟩
abbrev S1x1x64 : Shape := ⟨3, ![1, 1, 64]⟩
abbrev S16384x8x64 : Shape := ⟨3, ![16384, 8, 64]⟩
abbrev S2x8192x8x64 : Shape := ⟨4, ![2, 8192, 8, 64]⟩
abbrev S2x512x8x64 : Shape := ⟨4, ![2, 512, 8, 64]⟩
abbrev S2x8x512x64 : Shape := ⟨4, ![2, 8, 512, 64]⟩
abbrev S512x8x64 : Shape := ⟨3, ![512, 8, 64]⟩
abbrev S8x64x8x64 : Shape := ⟨4, ![8, 64, 8, 64]⟩
abbrev S8x8x64x64 : Shape := ⟨4, ![8, 8, 64, 64]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x64x1024, .f32⟩
  | .hbm, ⟨2, _⟩ => ⟨S2x1024, .f32⟩
  | .hbm, ⟨3, _⟩ => ⟨S1x1024x2048, .f32⟩
  | .hbm, ⟨4, _⟩ => ⟨S1x64, .f32⟩
  | .hbm, ⟨5, _⟩ => ⟨S1x64, .f32⟩
  | .hbm, ⟨6, _⟩ => ⟨S16384x1024, .f32⟩
  | .hbm, ⟨7, _⟩ => ⟨S512x1024, .f32⟩
  | .hbm, ⟨8, _⟩ => ⟨S16896x1024, .f32⟩
  | .hbm, ⟨9, _⟩ => ⟨S1x1024, .f32⟩
  | .hbm, ⟨10, _⟩ => ⟨S1024, .f32⟩
  | .hbm, ⟨11, _⟩ => ⟨S16896x1024, .f32⟩
  | .hbm, ⟨12, _⟩ => ⟨S_, .f32⟩
  | .hbm, ⟨13, _⟩ => ⟨S16896, .f32⟩
  | .hbm, ⟨14, _⟩ => ⟨S16896x1, .f32⟩
  | .hbm, ⟨15, _⟩ => ⟨S_, .f32⟩
  | .hbm, ⟨16, _⟩ => ⟨S16896x1, .f32⟩
  | .hbm, ⟨17, _⟩ => ⟨S16896x1, .f32⟩
  | .hbm, ⟨18, _⟩ => ⟨S_, .f32⟩
  | .hbm, ⟨19, _⟩ => ⟨S16896x1, .f32⟩
  | .hbm, ⟨20, _⟩ => ⟨S16896x1, .f32⟩
  | .hbm, ⟨21, _⟩ => ⟨S16896x1, .f32⟩
  | .hbm, ⟨22, _⟩ => ⟨S16896x1024, .f32⟩
  | .hbm, ⟨23, _⟩ => ⟨S16896x1024, .f32⟩
  | .hbm, ⟨24, _⟩ => ⟨S1x1024, .f32⟩
  | .hbm, ⟨25, _⟩ => ⟨S16896x1024, .f32⟩
  | .hbm, ⟨26, _⟩ => ⟨S16896x1024, .f32⟩
  | .hbm, ⟨27, _⟩ => ⟨S1024x2048, .f32⟩
  | .hbm, ⟨28, _⟩ => ⟨S16896x2048, .f32⟩
  | .hbm, ⟨29, _⟩ => ⟨S16896x512, .f32⟩
  | .hbm, ⟨30, _⟩ => ⟨S16896x512, .f32⟩
  | .hbm, ⟨31, _⟩ => ⟨S16896x512, .f32⟩
  | .hbm, ⟨32, _⟩ => ⟨S16896x512, .f32⟩
  | .hbm, ⟨33, _⟩ => ⟨S16896x8x64, .f32⟩
  | .hbm, ⟨34, _⟩ => ⟨S64, .f32⟩
  | .hbm, ⟨35, _⟩ => ⟨S16896x8x64, .f32⟩
  | .hbm, ⟨36, _⟩ => ⟨S_, .f32⟩
  | .hbm, ⟨37, _⟩ => ⟨S16896x8, .f32⟩
  | .hbm, ⟨38, _⟩ => ⟨S16896x8x1, .f32⟩
  | .hbm, ⟨39, _⟩ => ⟨S_, .f32⟩
  | .hbm, ⟨40, _⟩ => ⟨S16896x8x1, .f32⟩
  | .hbm, ⟨41, _⟩ => ⟨S16896x8x1, .f32⟩
  | .hbm, ⟨42, _⟩ => ⟨S_, .f32⟩
  | .hbm, ⟨43, _⟩ => ⟨S16896x8x1, .f32⟩
  | .hbm, ⟨44, _⟩ => ⟨S16896x8x1, .f32⟩
  | .hbm, ⟨45, _⟩ => ⟨S16896x8x1, .f32⟩
  | .hbm, ⟨46, _⟩ => ⟨S16896x8x64, .f32⟩
  | .hbm, ⟨47, _⟩ => ⟨S16896x8x64, .f32⟩
  | .hbm, ⟨48, _⟩ => ⟨S1x1x64, .f32⟩
  | .hbm, ⟨49, _⟩ => ⟨S16896x8x64, .f32⟩
  | .hbm, ⟨50, _⟩ => ⟨S16896x8x64, .f32⟩
  | .hbm, ⟨51, _⟩ => ⟨S16896x8x64, .f32⟩
  | .hbm, ⟨52, _⟩ => ⟨S64, .f32⟩
  | .hbm, ⟨53, _⟩ => ⟨S16896x8x64, .f32⟩
  | .hbm, ⟨54, _⟩ => ⟨S_, .f32⟩
  | .hbm, ⟨55, _⟩ => ⟨S16896x8, .f32⟩
  | .hbm, ⟨56, _⟩ => ⟨S16896x8x1, .f32⟩
  | .hbm, ⟨57, _⟩ => ⟨S_, .f32⟩
  | .hbm, ⟨58, _⟩ => ⟨S16896x8x1, .f32⟩
  | .hbm, ⟨59, _⟩ => ⟨S16896x8x1, .f32⟩
  | .hbm, ⟨60, _⟩ => ⟨S_, .f32⟩
  | .hbm, ⟨61, _⟩ => ⟨S16896x8x1, .f32⟩
  | .hbm, ⟨62, _⟩ => ⟨S16896x8x1, .f32⟩
  | .hbm, ⟨63, _⟩ => ⟨S16896x8x1, .f32⟩
  | .hbm, ⟨64, _⟩ => ⟨S16896x8x64, .f32⟩
  | .hbm, ⟨65, _⟩ => ⟨S16896x8x64, .f32⟩
  | .hbm, ⟨66, _⟩ => ⟨S1x1x64, .f32⟩
  | .hbm, ⟨67, _⟩ => ⟨S16896x8x64, .f32⟩
  | .hbm, ⟨68, _⟩ => ⟨S16896x8x64, .f32⟩
  | .hbm, ⟨69, _⟩ => ⟨S16896x8x64, .f32⟩
  | .hbm, ⟨70, _⟩ => ⟨S_, .f32⟩
  | .hbm, ⟨71, _⟩ => ⟨S16896x8x64, .f32⟩
  | .hbm, ⟨72, _⟩ => ⟨S16896x8x64, .f32⟩
  | .hbm, ⟨73, _⟩ => ⟨S16896x512, .f32⟩
  | .hbm, ⟨74, _⟩ => ⟨S16896x512, .bf16⟩
  | .hbm, ⟨75, _⟩ => ⟨S16384x8x64, .f32⟩
  | .hbm, ⟨76, _⟩ => ⟨S2x8192x8x64, .f32⟩
  | .hbm, ⟨77, _⟩ => ⟨S2x512x8x64, .f32⟩
  | .hbm, ⟨78, _⟩ => ⟨S2x8x512x64, .f32⟩
  | .hbm, ⟨79, _⟩ => ⟨S16384x8x64, .f32⟩
  | .hbm, ⟨80, _⟩ => ⟨S2x8192x8x64, .f32⟩
  | .hbm, ⟨81, _⟩ => ⟨S2x512x8x64, .f32⟩
  | .hbm, ⟨82, _⟩ => ⟨S2x8x512x64, .f32⟩
  | .hbm, ⟨83, _⟩ => ⟨S512x8x64, .f32⟩
  | .hbm, ⟨84, _⟩ => ⟨S8x64x8x64, .f32⟩
  | .hbm, ⟨85, _⟩ => ⟨S8x8x64x64, .f32⟩
  | .hbm, ⟨86, _⟩ => ⟨S512x8x64, .f32⟩
  | .hbm, ⟨87, _⟩ => ⟨S8x64x8x64, .f32⟩
  | .hbm, ⟨88, _⟩ => ⟨S8x8x64x64, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩

abbrev nD : Nat := 1
abbrev τ : Topo := Topo.v7x

variable {F : FTy → Type} [FloatOps F]
-- ==== Kernel4.lean ====
abbrev S2x8192x1024 : Shape := ⟨3, ![2, 8192, 1024]⟩
abbrev S8x64x1024 : Shape := ⟨3, ![8, 64, 1024]⟩
abbrev S16384x512 : Shape := ⟨2, ![16384, 512]⟩
abbrev S512x512 : Shape := ⟨2, ![512, 512]⟩
abbrev S1x1024x1024 : Shape := ⟨3, ![1, 1024, 1024]⟩
abbrev S2x1024 : Shape := ⟨2, ![2, 1024]⟩
abbrev S1024x256 : Shape := ⟨2, ![1024, 256]⟩
abbrev S1x128 : Shape := ⟨2, ![1, 128]⟩
abbrev S_ : Shape := ⟨0, ![]⟩
abbrev S1024x1024 : Shape := ⟨2, ![1024, 1024]⟩
abbrev S16384x1024 : Shape := ⟨2, ![16384, 1024]⟩
abbrev S512x1024 : Shape := ⟨2, ![512, 1024]⟩
abbrev S1x1024 : Shape := ⟨2, ![1, 1024]⟩
abbrev S1024 : Shape := ⟨1, ![1024]⟩
abbrev S16896x1024 : Shape := ⟨2, ![16896, 1024]⟩
abbrev S16896x128 : Shape := ⟨2, ![16896, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S128 : Shape := ⟨1, ![128]⟩

abbrev nBuf : Space → Nat
  | .hbm => 37
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S8x64x1024, .f32⟩
  | .hbm, ⟨2, _⟩ => ⟨S16384x512, .bf16⟩
  | .hbm, ⟨3, _⟩ => ⟨S512x512, .bf16⟩
  | .hbm, ⟨4, _⟩ => ⟨S16384x512, .bf16⟩
  | .hbm, ⟨5, _⟩ => ⟨S512x512, .bf16⟩
  | .hbm, ⟨6, _⟩ => ⟨S1x1024x1024, .f32⟩
  | .hbm, ⟨7, _⟩ => ⟨S2x1024, .f32⟩
  | .hbm, ⟨8, _⟩ => ⟨S1024x256, .bf16⟩
  | .hbm, ⟨9, _⟩ => ⟨S1x128, .f32⟩
  | .hbm, ⟨10, _⟩ => ⟨S_, .f32⟩
  | .hbm, ⟨11, _⟩ => ⟨S512x512, .f32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .bf16⟩
  | .hbm, ⟨22, _⟩ => ⟨S1024x1024, .f32⟩
  | .hbm, ⟨23, _⟩ => ⟨S1024x1024, .bf16⟩
  | .hbm, ⟨24, _⟩ => ⟨S16384x1024, .f32⟩
  | .hbm, ⟨25, _⟩ => ⟨S512x1024, .f32⟩
  | .hbm, ⟨26, _⟩ => ⟨S512x1024, .bf16⟩
  | .hbm, ⟨27, _⟩ => ⟨S512x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S_, .f32⟩
  | .hbm, ⟨32, _⟩ => ⟨S1x128, .f32⟩
  | .hbm, ⟨33, _⟩ => ⟨S16896x1024, .f32⟩
  | .hbm, ⟨34, _⟩ => ⟨S16896x128, .i32⟩
  | .hbm, ⟨35, _⟩ => ⟨S16896x128, .f32⟩
  | .hbm, ⟨36, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1024x256, .bf16⟩
  | .local _ .vmem, ⟨16, _⟩ => ⟨S1x128, .f32⟩
  | .local _ .vmem, ⟨17, _⟩ => ⟨S512x512, .bf16⟩
  | .local _ .vmem, ⟨18, _⟩ => ⟨S1x128, .f32⟩
  | .local _ .vmem, ⟨19, _⟩ => ⟨S512x1024, .f32⟩
  | .local _ .vmem, ⟨20, _⟩ => ⟨S512x1024, .f32⟩
  | .local _ .vmem, ⟨21, _⟩ => ⟨S512x128, .i32⟩
  | .local _ .vmem, ⟨22, _⟩ => ⟨S512x128, .i32⟩
  | .local _ .vmem, ⟨23, _⟩ => ⟨S512x128, .f32⟩
  | .local _ .vmem, ⟨24, _⟩ => ⟨S512x128, .f32⟩
  | .local _ .vmem, ⟨25, _⟩ => ⟨S1x128, .f32⟩
  | .local _ .vmem, ⟨26, _⟩ => ⟨S1x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_v13_2 : Ref sig .tc := ⟨.hbm, 35, rfl⟩
abbrev main_v13_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Kernel4Ideal.lean ====
variable {F : FTy → Type} [FloatOps F]
-- ==== Reference4Ideal.lean ====
abbrev S2x8192x1024 : Shape := ⟨3, ![2, 8192, 1024]⟩
abbrev S8x64x1024 : Shape := ⟨3, ![8, 64, 1024]⟩
abbrev S16384x512 : Shape := ⟨2, ![16384, 512]⟩
abbrev S512x512 : Shape := ⟨2, ![512, 512]⟩
abbrev S1x1024x1024 : Shape := ⟨3, ![1, 1024, 1024]⟩
abbrev S2x1024 : Shape := ⟨2, ![2, 1024]⟩
abbrev S1024x256 : Shape := ⟨2, ![1024, 256]⟩
abbrev S1x128 : Shape := ⟨2, ![1, 128]⟩
abbrev S16384x1024 : Shape := ⟨2, ![16384, 1024]⟩
abbrev S512x1024 : Shape := ⟨2, ![512, 1024]⟩
abbrev S16896x1024 : Shape := ⟨2, ![16896, 1024]⟩
abbrev S16896x512 : Shape := ⟨2, ![16896, 512]⟩
abbrev S1024x1024 : Shape := ⟨2, ![1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x64x1024, .f32⟩
  | .hbm, ⟨2, _⟩ => ⟨S16384x512, .bf16⟩
  | .hbm, ⟨3, _⟩ => ⟨S512x512, .bf16⟩
  | .hbm, ⟨4, _⟩ => ⟨S16384x512, .bf16⟩
  | .hbm, ⟨5, _⟩ => ⟨S512x512, .bf16⟩
  | .hbm, ⟨6, _⟩ => ⟨S1x1024x1024, .f32⟩
  | .hbm, ⟨7, _⟩ => ⟨S2x1024, .f32⟩
  | .hbm, ⟨8, _⟩ => ⟨S1024x256, .bf16⟩
  | .hbm, ⟨9, _⟩ => ⟨S1x128, .f32⟩
  | .hbm, ⟨10, _⟩ => ⟨S16384x1024, .f32⟩
  | .hbm, ⟨11, _⟩ => ⟨S512x1024, .f32⟩
  | .hbm, ⟨12, _⟩ => ⟨S16896x1024, .f32⟩
  | .hbm, ⟨13, _⟩ => ⟨S16896x512, .bf16⟩
  | .hbm, ⟨14, _⟩ => ⟨S16896x512, .bf16⟩
  | .hbm, ⟨15, _⟩ => ⟨S16896x1024, .bf16⟩
  | .hbm, ⟨16, _⟩ => ⟨S16896x1024, .f32⟩
  | .hbm, ⟨17, _⟩ => ⟨S1024x1024, .f32⟩
  | .hbm, ⟨18, _⟩ => ⟨S16896x1024, .f32⟩
  | .hbm, ⟨19, _⟩ => ⟨S16896x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel5.lean ====
abbrev S16896x1024 : Shape := ⟨2, ![16896, 1024]⟩
abbrev S16384x1024 : Shape := ⟨2, ![16384, 1024]⟩
abbrev S512x1024 : Shape := ⟨2, ![512, 1024]⟩
abbrev S1x1024x1024 : Shape := ⟨3, ![1, 1024, 1024]⟩
abbrev S2x1024 : Shape := ⟨2, ![2, 1024]⟩
abbrev S1024x256 : Shape := ⟨2, ![1024, 256]⟩
abbrev S1x128 : Shape := ⟨2, ![1, 128]⟩
abbrev S_ : Shape := ⟨0, ![]⟩
abbrev S512x512 : Shape := ⟨2, ![512, 512]⟩
abbrev S1024x1024 : Shape := ⟨2, ![1024, 1024]⟩
abbrev S1x1024 : Shape := ⟨2, ![1, 1024]⟩
abbrev S1024 : Shape := ⟨1, ![1024]⟩
abbrev S16896x128 : Shape := ⟨2, ![16896, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S128 : Shape := ⟨1, ![128]⟩

abbrev nBuf : Space → Nat
  | .hbm => 30
  | .vmem => 20
  | .smem => 0
  | _ => 0

abbrev bufTy : (tb : Table) → Fin (tcTables nBuf tb) → BufTy
  | .hbm, ⟨0, _⟩ => ⟨S16896x1024, .f32⟩
  | .hbm, ⟨1, _⟩ => ⟨S16384x1024, .bf16⟩
  | .hbm, ⟨2, _⟩ => ⟨S512x1024, .bf16⟩
  | .hbm, ⟨3, _⟩ => ⟨S1x1024x1024, .f32⟩
  | .hbm, ⟨4, _⟩ => ⟨S2x1024, .f32⟩
  | .hbm, ⟨5, _⟩ => ⟨S1024x256, .bf16⟩
  | .hbm, ⟨6, _⟩ => ⟨S1x128, .f32⟩
  | .hbm, ⟨7, _⟩ => ⟨S_, .f32⟩
  | .hbm, ⟨8, _⟩ => ⟨S512x512, .f32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .bf16⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1x128, .f32⟩
  | .hbm, ⟨26, _⟩ => ⟨S16896x1024, .f32⟩
  | .hbm, ⟨27, _⟩ => ⟨S16896x128, .i32⟩
  | .hbm, ⟨28, _⟩ => ⟨S16896x128, .f32⟩
  | .hbm, ⟨29, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S1x128, .f32⟩
  | .local _ .vmem, ⟨10, _⟩ => ⟨S512x512, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x128, .i32⟩
  | .local _ .vmem, ⟨15, _⟩ => ⟨S512x128, .i32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v9_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel5Ideal.lean ====
variable {F : FTy → Type} [FloatOps F]
-- ==== Reference5Ideal.lean ====
abbrev S16896x1024 : Shape := ⟨2, ![16896, 1024]⟩
abbrev S16384x1024 : Shape := ⟨2, ![16384, 1024]⟩
abbrev S512x1024 : Shape := ⟨2, ![512, 1024]⟩
abbrev S1x1024x1024 : Shape := ⟨3, ![1, 1024, 1024]⟩
abbrev S2x1024 : Shape := ⟨2, ![2, 1024]⟩
abbrev S1024x256 : Shape := ⟨2, ![1024, 256]⟩
abbrev S1x128 : Shape := ⟨2, ![1, 128]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16384x1024, .bf16⟩
  | .hbm, ⟨2, _⟩ => ⟨S512x1024, .bf16⟩
  | .hbm, ⟨3, _⟩ => ⟨S1x1024x1024, .f32⟩
  | .hbm, ⟨4, _⟩ => ⟨S2x1024, .f32⟩
  | .hbm, ⟨5, _⟩ => ⟨S1024x256, .bf16⟩
  | .hbm, ⟨6, _⟩ => ⟨S1x128, .f32⟩
  | .hbm, ⟨7, _⟩ => ⟨S16896x1024, .bf16⟩
  | .hbm, ⟨8, _⟩ => ⟨S16896x1024, .f32⟩
  | .hbm, ⟨9, _⟩ => ⟨S1024x1024, .f32⟩
  | .hbm, ⟨10, _⟩ => ⟨S16896x1024, .f32⟩
  | .hbm, ⟨11, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Kernel6.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32 : Shape := ⟨1, ![32]⟩
abbrev S32x64x16 : Shape := ⟨3, ![32, 64, 16]⟩
abbrev S2048x1 : Shape := ⟨2, ![2048, 1]⟩
abbrev S2048 : Shape := ⟨1, ![2048]⟩
abbrev S2048x16 : Shape := ⟨2, ![2048, 16]⟩

abbrev nBuf : Space → Nat
  | .hbm => 21
  | .vmem => 9
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S32x64x16, .f32⟩
  | .hbm, ⟨9, _⟩ => ⟨S32x64x16, .f32⟩
  | .hbm, ⟨10, _⟩ => ⟨S2048x1, .f32⟩
  | .hbm, ⟨11, _⟩ => ⟨S2048x1, .f32⟩
  | .hbm, ⟨12, _⟩ => ⟨S32x64, .f32⟩
  | .hbm, ⟨13, _⟩ => ⟨S2048, .f32⟩
  | .hbm, ⟨14, _⟩ => ⟨S2048x1, .f32⟩
  | .hbm, ⟨15, _⟩ => ⟨S2048x16, .f32⟩
  | .hbm, ⟨16, _⟩ => ⟨S2048x16, .f32⟩
  | .hbm, ⟨17, _⟩ => ⟨S2048x1, .f32⟩
  | .hbm, ⟨18, _⟩ => ⟨S2048x1, .f32⟩
  | .hbm, ⟨19, _⟩ => ⟨S2048x16, .f32⟩
  | .hbm, ⟨20, _⟩ => ⟨S2048x16, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x16, .f32⟩
  | .local _ .vmem, ⟨4, _⟩ => ⟨S2048x16, .f32⟩
  | .local _ .vmem, ⟨5, _⟩ => ⟨S2048x1, .f32⟩
  | .local _ .vmem, ⟨6, _⟩ => ⟨S2048x1, .f32⟩
  | .local _ .vmem, ⟨7, _⟩ => ⟨S2048x16, .f32⟩
  | .local _ .vmem, ⟨8, _⟩ => ⟨S2048x16, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference6Ideal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32 : Shape := ⟨1, ![32]⟩
abbrev S32x1 : Shape := ⟨2, ![32, 1]⟩
abbrev S_ : Shape := ⟨0, ![]⟩
abbrev S32x64x16 : Shape := ⟨3, ![32, 64, 16]⟩
abbrev S32x64x1 : Shape := ⟨3, ![32, 64, 1]⟩
abbrev S2048x1 : Shape := ⟨2, ![2048, 1]⟩
abbrev S2048x16 : Shape := ⟨2, ![2048, 16]⟩

abbrev nBuf : Space → Nat
  | .hbm => 55
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S32, .f32⟩
  | .hbm, ⟨9, _⟩ => ⟨S32x1, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S_, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64x16, .f32⟩
  | .hbm, ⟨36, _⟩ => ⟨S32x64x16, .f32⟩
  | .hbm, ⟨37, _⟩ => ⟨S32x64x1, .f32⟩
  | .hbm, ⟨38, _⟩ => ⟨S32x64x16, .f32⟩
  | .hbm, ⟨39, _⟩ => ⟨S32x64x16, .f32⟩
  | .hbm, ⟨40, _⟩ => ⟨S32x64x1, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x1, .f32⟩
  | .hbm, ⟨45, _⟩ => ⟨S32x64x16, .f32⟩
  | .hbm, ⟨46, _⟩ => ⟨S32x64x16, .f32⟩
  | .hbm, ⟨47, _⟩ => ⟨S32x64x1, .f32⟩
  | .hbm, ⟨48, _⟩ => ⟨S32x64x16, .f32⟩
  | .hbm, ⟨49, _⟩ => ⟨S32x64x16, .f32⟩
  | .hbm, ⟨50, _⟩ => ⟨S32x64x16, .f32⟩
  | .hbm, ⟨51, _⟩ => ⟨S2048x1, .f32⟩
  | .hbm, ⟨52, _⟩ => ⟨S2048x1, .f32⟩
  | .hbm, ⟨53, _⟩ => ⟨S2048x16, .f32⟩
  | .hbm, ⟨54, _⟩ => ⟨S2048x16, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩

abbrev nD : Nat := 1
abbrev τ : Topo := Topo.v7x

variable {F : FTy → Type} [FloatOps F]
-- ==== Kernel7.lean ====
abbrev S16896x1024 : Shape := ⟨2, ![16896, 1024]⟩
abbrev S1x8x30x1024 : Shape := ⟨4, ![1, 8, 30, 1024]⟩
abbrev S1x31x1024 : Shape := ⟨3, ![1, 31, 1024]⟩
abbrev S1x1024 : Shape := ⟨2, ![1, 1024]⟩
abbrev S31x1024 : Shape := ⟨2, ![31, 1024]⟩
abbrev S1024 : Shape := ⟨1, ![1024]⟩
abbrev S8x30x1024 : Shape := ⟨3, ![8, 30, 1024]⟩
abbrev S_ : Shape := ⟨0, ![]⟩
abbrev S8x32x1024 : Shape := ⟨3, ![8, 32, 1024]⟩
abbrev S31x8x128 : Shape := ⟨3, ![31, 8, 128]⟩
abbrev S512x1024 : Shape := ⟨2, ![512, 1024]⟩
abbrev S64x1024 : Shape := ⟨2, ![64, 1024]⟩
abbrev S32x1024 : Shape := ⟨2, ![32, 1024]⟩
abbrev S1x32x1024 : Shape := ⟨3, ![1, 32, 1024]⟩
abbrev S768x128 : Shape := ⟨2, ![768, 128]⟩
abbrev S512x128 : Shape := ⟨2, ![512, 128]⟩
abbrev S32x128 : Shape := ⟨2, ![32, 128]⟩
abbrev S64x128 : Shape := ⟨2, ![64, 128]⟩
abbrev S1x8x128 : Shape := ⟨3, ![1, 8, 128]⟩
abbrev S8x128 : Shape := ⟨2, ![8, 128]⟩
abbrev S64 : Shape := ⟨1, ![64]⟩
abbrev S64x1 : Shape := ⟨2, ![64, 1]⟩

abbrev nBuf : Space → Nat
  | .hbm => 19
  | .vmem => 14
  | .smem => 0
  | _ => 0

abbrev bufTy : (tb : Table) → Fin (tcTables nBuf tb) → BufTy
  | .hbm, ⟨0, _⟩ => ⟨S16896x1024, .f32⟩
  | .hbm, ⟨1, _⟩ => ⟨S1x8x30x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S31x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S8x30x1024, .f32⟩
  | .hbm, ⟨11, _⟩ => ⟨S_, .i32⟩
  | .hbm, ⟨12, _⟩ => ⟨S_, .f32⟩
  | .hbm, ⟨13, _⟩ => ⟨S8x32x1024, .f32⟩
  | .hbm, ⟨14, _⟩ => ⟨S31x8x128, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S512x1024, .bf16⟩
  | .local _ .vmem, ⟨0, _⟩ => ⟨S64x1024, .f32⟩
  | .local _ .vmem, ⟨1, _⟩ => ⟨S64x1024, .f32⟩
  | .local _ .vmem, ⟨2, _⟩ => ⟨S32x1024, .f32⟩
  | .local _ .vmem, ⟨3, _⟩ => ⟨S32x1024, .f32⟩
  | .local _ .vmem, ⟨4, _⟩ => ⟨S1x32x1024, .f32⟩
  | .local _ .vmem, ⟨5, _⟩ => ⟨S1x32x1024, .f32⟩
  | .local _ .vmem, ⟨6, _⟩ => ⟨S31x8x128, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S64x1024, .bf16⟩
  | .local _ .vmem, ⟨11, _⟩ => ⟨S64x1024, .bf16⟩
  | .local _ .vmem, ⟨12, _⟩ => ⟨S768x128, .f32⟩
  | .local _ .vmem, ⟨13, _⟩ => ⟨S512x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_93 : BitVec 32 := 0#32
  let c8_i32 : BitVec 32 := 8#32
  let v132 : BitVec 32 := Scalar.addi c0_i32_93 c8_i32
  let c1_i32 : BitVec 32 := 1#32
  ⟨c0_i32_93, v132, c1_i32⟩
def k0_mult1 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32 : BitVec 32 := 2#32
  let v182 : BitVec 32 := Scalar.addi v181 c2_i32
  let c0_i32_128 : BitVec 32 := 0#32
  let v183 : BitVec 32 := Scalar.addi v182 c0_i32_128
  let c8_i32_129 : BitVec 32 := 8#32
  let v184 : BitVec 32 := Scalar.muli v183 c8_i32_129
  v184
def k0_off1 (k0_t1 : Fin k0_t1_loop.trips) (c0_i32_127 : BitVec 32) (c0_i32_128 : BitVec 32) : Fin 2 → Nat :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let v181 : BitVec 32 := Scalar.addi v180 c0_i32_127
  let c2_i32 : BitVec 32 := 2#32
  let v182 : BitVec 32 := Scalar.addi v181 c2_i32
  let v183 : BitVec 32 := Scalar.addi v182 c0_i32_128
  let c8_i32_129 : BitVec 32 := 8#32
  let v184 : BitVec 32 := Scalar.muli v183 c8_i32_129
  let v185 : BitVec 32 := v184
  let v186 : Index := Scalar.indexCast v185
  let c0_130 : Index := 0#32
  ![v186.toNat, 0]
def k0_mult2 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_131 : BitVec 32 := 2#32
  let v189 : BitVec 32 := Scalar.addi v181 c2_i32_131
  let c1_i32_132 : BitVec 32 := 1#32
  let v190 : BitVec 32 := Scalar.addi v189 c1_i32_132
  let c8_i32_133 : BitVec 32 := 8#32
  let v191 : BitVec 32 := Scalar.muli v190 c8_i32_133
  v191
def k0_mult3 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_135 : BitVec 32 := 2#32
  let v197 : BitVec 32 := Scalar.addi v181 c2_i32_135
  let c2_i32_136 : BitVec 32 := 2#32
  let v198 : BitVec 32 := Scalar.addi v197 c2_i32_136
  let c8_i32_137 : BitVec 32 := 8#32
  let v199 : BitVec 32 := Scalar.muli v198 c8_i32_137
  v199
def k0_mult4 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_139 : BitVec 32 := 2#32
  let v205 : BitVec 32 := Scalar.addi v181 c2_i32_139
  let c3_i32 : BitVec 32 := 3#32
  let v206 : BitVec 32 := Scalar.addi v205 c3_i32
  let c8_i32_140 : BitVec 32 := 8#32
  let v207 : BitVec 32 := Scalar.muli v206 c8_i32_140
  v207
def k0_mult5 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_142 : BitVec 32 := 2#32
  let v213 : BitVec 32 := Scalar.addi v181 c2_i32_142
  let c4_i32 : BitVec 32 := 4#32
  let v214 : BitVec 32 := Scalar.addi v213 c4_i32
  let c8_i32_143 : BitVec 32 := 8#32
  let v215 : BitVec 32 := Scalar.muli v214 c8_i32_143
  v215
def k0_mult6 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_145 : BitVec 32 := 2#32
  let v221 : BitVec 32 := Scalar.addi v181 c2_i32_145
  let c5_i32 : BitVec 32 := 5#32
  let v222 : BitVec 32 := Scalar.addi v221 c5_i32
  let c8_i32_146 : BitVec 32 := 8#32
  let v223 : BitVec 32 := Scalar.muli v222 c8_i32_146
  v223
def k0_mult7 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_148 : BitVec 32 := 2#32
  let v229 : BitVec 32 := Scalar.addi v181 c2_i32_148
  let c6_i32 : BitVec 32 := 6#32
  let v230 : BitVec 32 := Scalar.addi v229 c6_i32
  let c8_i32_149 : BitVec 32 := 8#32
  let v231 : BitVec 32 := Scalar.muli v230 c8_i32_149
  v231
def k0_mult8 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_151 : BitVec 32 := 2#32
  let v237 : BitVec 32 := Scalar.addi v181 c2_i32_151
  let c7_i32 : BitVec 32 := 7#32
  let v238 : BitVec 32 := Scalar.addi v237 c7_i32
  let c8_i32_152 : BitVec 32 := 8#32
  let v239 : BitVec 32 := Scalar.muli v238 c8_i32_152
  v239
def k0_mult9 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_154 : BitVec 32 := 2#32
  let v245 : BitVec 32 := Scalar.addi v181 c2_i32_154
  let c8_i32_155 : BitVec 32 := 8#32
  let v246 : BitVec 32 := Scalar.addi v245 c8_i32_155
  let c8_i32_156 : BitVec 32 := 8#32
  let v247 : BitVec 32 := Scalar.muli v246 c8_i32_156
  v247
def k0_mult10 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_158 : BitVec 32 := 2#32
  let v253 : BitVec 32 := Scalar.addi v181 c2_i32_158
  let c9_i32 : BitVec 32 := 9#32
  let v254 : BitVec 32 := Scalar.addi v253 c9_i32
  let c8_i32_159 : BitVec 32 := 8#32
  let v255 : BitVec 32 := Scalar.muli v254 c8_i32_159
  v255
def k0_mult11 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_161 : BitVec 32 := 2#32
  let v261 : BitVec 32 := Scalar.addi v181 c2_i32_161
  let c10_i32 : BitVec 32 := 10#32
  let v262 : BitVec 32 := Scalar.addi v261 c10_i32
  let c8_i32_162 : BitVec 32 := 8#32
  let v263 : BitVec 32 := Scalar.muli v262 c8_i32_162
  v263
def k0_mult12 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_164 : BitVec 32 := 2#32
  let v269 : BitVec 32 := Scalar.addi v181 c2_i32_164
  let c11_i32 : BitVec 32 := 11#32
  let v270 : BitVec 32 := Scalar.addi v269 c11_i32
  let c8_i32_165 : BitVec 32 := 8#32
  let v271 : BitVec 32 := Scalar.muli v270 c8_i32_165
  v271
def k0_mult13 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_167 : BitVec 32 := 2#32
  let v277 : BitVec 32 := Scalar.addi v181 c2_i32_167
  let c12_i32 : BitVec 32 := 12#32
  let v278 : BitVec 32 := Scalar.addi v277 c12_i32
  let c8_i32_168 : BitVec 32 := 8#32
  let v279 : BitVec 32 := Scalar.muli v278 c8_i32_168
  v279
def k0_mult14 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_170 : BitVec 32 := 2#32
  let v285 : BitVec 32 := Scalar.addi v181 c2_i32_170
  let c13_i32 : BitVec 32 := 13#32
  let v286 : BitVec 32 := Scalar.addi v285 c13_i32
  let c8_i32_171 : BitVec 32 := 8#32
  let v287 : BitVec 32 := Scalar.muli v286 c8_i32_171
  v287
def k0_mult15 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_173 : BitVec 32 := 2#32
  let v293 : BitVec 32 := Scalar.addi v181 c2_i32_173
  let c14_i32 : BitVec 32 := 14#32
  let v294 : BitVec 32 := Scalar.addi v293 c14_i32
  let c8_i32_174 : BitVec 32 := 8#32
  let v295 : BitVec 32 := Scalar.muli v294 c8_i32_174
  v295
def k0_mult16 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_176 : BitVec 32 := 2#32
  let v301 : BitVec 32 := Scalar.addi v181 c2_i32_176
  let c15_i32 : BitVec 32 := 15#32
  let v302 : BitVec 32 := Scalar.addi v301 c15_i32
  let c8_i32_177 : BitVec 32 := 8#32
  let v303 : BitVec 32 := Scalar.muli v302 c8_i32_177
  v303
def k0_mult17 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_179 : BitVec 32 := 2#32
  let v309 : BitVec 32 := Scalar.addi v181 c2_i32_179
  let c16_i32 : BitVec 32 := 16#32
  let v310 : BitVec 32 := Scalar.addi v309 c16_i32
  let c8_i32_180 : BitVec 32 := 8#32
  let v311 : BitVec 32 := Scalar.muli v310 c8_i32_180
  v311
def k0_mult18 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_182 : BitVec 32 := 2#32
  let v317 : BitVec 32 := Scalar.addi v181 c2_i32_182
  let c17_i32 : BitVec 32 := 17#32
  let v318 : BitVec 32 := Scalar.addi v317 c17_i32
  let c8_i32_183 : BitVec 32 := 8#32
  let v319 : BitVec 32 := Scalar.muli v318 c8_i32_183
  v319
def k0_mult19 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_185 : BitVec 32 := 2#32
  let v325 : BitVec 32 := Scalar.addi v181 c2_i32_185
  let c18_i32 : BitVec 32 := 18#32
  let v326 : BitVec 32 := Scalar.addi v325 c18_i32
  let c8_i32_186 : BitVec 32 := 8#32
  let v327 : BitVec 32 := Scalar.muli v326 c8_i32_186
  v327
def k0_mult20 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_188 : BitVec 32 := 2#32
  let v333 : BitVec 32 := Scalar.addi v181 c2_i32_188
  let c19_i32 : BitVec 32 := 19#32
  let v334 : BitVec 32 := Scalar.addi v333 c19_i32
  let c8_i32_189 : BitVec 32 := 8#32
  let v335 : BitVec 32 := Scalar.muli v334 c8_i32_189
  v335
def k0_mult21 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_191 : BitVec 32 := 2#32
  let v341 : BitVec 32 := Scalar.addi v181 c2_i32_191
  let c20_i32 : BitVec 32 := 20#32
  let v342 : BitVec 32 := Scalar.addi v341 c20_i32
  let c8_i32_192 : BitVec 32 := 8#32
  let v343 : BitVec 32 := Scalar.muli v342 c8_i32_192
  v343
def k0_mult22 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_194 : BitVec 32 := 2#32
  let v349 : BitVec 32 := Scalar.addi v181 c2_i32_194
  let c21_i32 : BitVec 32 := 21#32
  let v350 : BitVec 32 := Scalar.addi v349 c21_i32
  let c8_i32_195 : BitVec 32 := 8#32
  let v351 : BitVec 32 := Scalar.muli v350 c8_i32_195
  v351
def k0_mult23 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_197 : BitVec 32 := 2#32
  let v357 : BitVec 32 := Scalar.addi v181 c2_i32_197
  let c22_i32 : BitVec 32 := 22#32
  let v358 : BitVec 32 := Scalar.addi v357 c22_i32
  let c8_i32_198 : BitVec 32 := 8#32
  let v359 : BitVec 32 := Scalar.muli v358 c8_i32_198
  v359
def k0_mult24 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_200 : BitVec 32 := 2#32
  let v365 : BitVec 32 := Scalar.addi v181 c2_i32_200
  let c23_i32 : BitVec 32 := 23#32
  let v366 : BitVec 32 := Scalar.addi v365 c23_i32
  let c8_i32_201 : BitVec 32 := 8#32
  let v367 : BitVec 32 := Scalar.muli v366 c8_i32_201
  v367
def k0_mult25 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_203 : BitVec 32 := 2#32
  let v373 : BitVec 32 := Scalar.addi v181 c2_i32_203
  let c24_i32 : BitVec 32 := 24#32
  let v374 : BitVec 32 := Scalar.addi v373 c24_i32
  let c8_i32_204 : BitVec 32 := 8#32
  let v375 : BitVec 32 := Scalar.muli v374 c8_i32_204
  v375
def k0_mult26 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_206 : BitVec 32 := 2#32
  let v381 : BitVec 32 := Scalar.addi v181 c2_i32_206
  let c25_i32 : BitVec 32 := 25#32
  let v382 : BitVec 32 := Scalar.addi v381 c25_i32
  let c8_i32_207 : BitVec 32 := 8#32
  let v383 : BitVec 32 := Scalar.muli v382 c8_i32_207
  v383
def k0_mult27 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_209 : BitVec 32 := 2#32
  let v389 : BitVec 32 := Scalar.addi v181 c2_i32_209
  let c26_i32 : BitVec 32 := 26#32
  let v390 : BitVec 32 := Scalar.addi v389 c26_i32
  let c8_i32_210 : BitVec 32 := 8#32
  let v391 : BitVec 32 := Scalar.muli v390 c8_i32_210
  v391
def k0_mult28 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_212 : BitVec 32 := 2#32
  let v397 : BitVec 32 := Scalar.addi v181 c2_i32_212
  let c27_i32 : BitVec 32 := 27#32
  let v398 : BitVec 32 := Scalar.addi v397 c27_i32
  let c8_i32_213 : BitVec 32 := 8#32
  let v399 : BitVec 32 := Scalar.muli v398 c8_i32_213
  v399
def k0_mult29 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_215 : BitVec 32 := 2#32
  let v405 : BitVec 32 := Scalar.addi v181 c2_i32_215
  let c28_i32 : BitVec 32 := 28#32
  let v406 : BitVec 32 := Scalar.addi v405 c28_i32
  let c8_i32_216 : BitVec 32 := 8#32
  let v407 : BitVec 32 := Scalar.muli v406 c8_i32_216
  v407
def k0_mult30 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_218 : BitVec 32 := 2#32
  let v413 : BitVec 32 := Scalar.addi v181 c2_i32_218
  let c29_i32 : BitVec 32 := 29#32
  let v414 : BitVec 32 := Scalar.addi v413 c29_i32
  let c8_i32_219 : BitVec 32 := 8#32
  let v415 : BitVec 32 := Scalar.muli v414 c8_i32_219
  v415
def k0_mult31 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c2_i32_221 : BitVec 32 := 2#32
  let v421 : BitVec 32 := Scalar.addi v181 c2_i32_221
  let c30_i32 : BitVec 32 := 30#32
  let v422 : BitVec 32 := Scalar.addi v421 c30_i32
  let c8_i32_222 : BitVec 32 := 8#32
  let v423 : BitVec 32 := Scalar.muli v422 c8_i32_222
  v423
def k0_mult32 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let c0_i32_127 : BitVec 32 := 0#32
  let v181 : BitVec 32 := Scalar.addi v180 c0_i32_127
  let c8_i32_224 : BitVec 32 := 8#32
  let v429 : BitVec 32 := Scalar.muli v181 c8_i32_224
  v429
def k0_off2 (k0_t1 : Fin k0_t1_loop.trips) (c0_i32_127 : BitVec 32) : Fin 2 → Nat :=
  let c0_i32_93 : BitVec 32 := 0#32
  let c1_i32 : BitVec 32 := 1#32
  let arg12 : BitVec 32 := Scf.iv c0_i32_93 c1_i32 k0_t1
  let c8_i32_126 : BitVec 32 := 8#32
  let v180 : BitVec 32 := Scalar.muli arg12 c8_i32_126
  let v181 : BitVec 32 := Scalar.addi v180 c0_i32_127
  let c8_i32_224 : BitVec 32 := 8#32
  let v429 : BitVec 32 := Scalar.muli v181 c8_i32_224
  let v430 : BitVec 32 := v429
  let v431 : Index := Scalar.indexCast v430
  let c0_225 : Index := 0#32
  ![v431.toNat, 0]
def k0_mult33 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_228 : BitVec 32 := 2#32
  let v437 : BitVec 32 := Scalar.addi v436 c2_i32_228
  let c0_i32_229 : BitVec 32 := 0#32
  let v438 : BitVec 32 := Scalar.addi v437 c0_i32_229
  let c8_i32_230 : BitVec 32 := 8#32
  let v439 : BitVec 32 := Scalar.muli v438 c8_i32_230
  v439
def k0_mult34 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_232 : BitVec 32 := 2#32
  let v444 : BitVec 32 := Scalar.addi v436 c2_i32_232
  let c1_i32_233 : BitVec 32 := 1#32
  let v445 : BitVec 32 := Scalar.addi v444 c1_i32_233
  let c8_i32_234 : BitVec 32 := 8#32
  let v446 : BitVec 32 := Scalar.muli v445 c8_i32_234
  v446
def k0_mult35 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_236 : BitVec 32 := 2#32
  let v452 : BitVec 32 := Scalar.addi v436 c2_i32_236
  let c2_i32_237 : BitVec 32 := 2#32
  let v453 : BitVec 32 := Scalar.addi v452 c2_i32_237
  let c8_i32_238 : BitVec 32 := 8#32
  let v454 : BitVec 32 := Scalar.muli v453 c8_i32_238
  v454
def k0_mult36 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_240 : BitVec 32 := 2#32
  let v460 : BitVec 32 := Scalar.addi v436 c2_i32_240
  let c3_i32_241 : BitVec 32 := 3#32
  let v461 : BitVec 32 := Scalar.addi v460 c3_i32_241
  let c8_i32_242 : BitVec 32 := 8#32
  let v462 : BitVec 32 := Scalar.muli v461 c8_i32_242
  v462
def k0_mult37 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_244 : BitVec 32 := 2#32
  let v468 : BitVec 32 := Scalar.addi v436 c2_i32_244
  let c4_i32_245 : BitVec 32 := 4#32
  let v469 : BitVec 32 := Scalar.addi v468 c4_i32_245
  let c8_i32_246 : BitVec 32 := 8#32
  let v470 : BitVec 32 := Scalar.muli v469 c8_i32_246
  v470
def k0_mult38 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_248 : BitVec 32 := 2#32
  let v476 : BitVec 32 := Scalar.addi v436 c2_i32_248
  let c5_i32_249 : BitVec 32 := 5#32
  let v477 : BitVec 32 := Scalar.addi v476 c5_i32_249
  let c8_i32_250 : BitVec 32 := 8#32
  let v478 : BitVec 32 := Scalar.muli v477 c8_i32_250
  v478
def k0_mult39 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_252 : BitVec 32 := 2#32
  let v484 : BitVec 32 := Scalar.addi v436 c2_i32_252
  let c6_i32_253 : BitVec 32 := 6#32
  let v485 : BitVec 32 := Scalar.addi v484 c6_i32_253
  let c8_i32_254 : BitVec 32 := 8#32
  let v486 : BitVec 32 := Scalar.muli v485 c8_i32_254
  v486
def k0_mult40 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_256 : BitVec 32 := 2#32
  let v492 : BitVec 32 := Scalar.addi v436 c2_i32_256
  let c7_i32_257 : BitVec 32 := 7#32
  let v493 : BitVec 32 := Scalar.addi v492 c7_i32_257
  let c8_i32_258 : BitVec 32 := 8#32
  let v494 : BitVec 32 := Scalar.muli v493 c8_i32_258
  v494
def k0_mult41 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_260 : BitVec 32 := 2#32
  let v500 : BitVec 32 := Scalar.addi v436 c2_i32_260
  let c8_i32_261 : BitVec 32 := 8#32
  let v501 : BitVec 32 := Scalar.addi v500 c8_i32_261
  let c8_i32_262 : BitVec 32 := 8#32
  let v502 : BitVec 32 := Scalar.muli v501 c8_i32_262
  v502
def k0_mult42 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_264 : BitVec 32 := 2#32
  let v508 : BitVec 32 := Scalar.addi v436 c2_i32_264
  let c9_i32_265 : BitVec 32 := 9#32
  let v509 : BitVec 32 := Scalar.addi v508 c9_i32_265
  let c8_i32_266 : BitVec 32 := 8#32
  let v510 : BitVec 32 := Scalar.muli v509 c8_i32_266
  v510
def k0_mult43 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_268 : BitVec 32 := 2#32
  let v516 : BitVec 32 := Scalar.addi v436 c2_i32_268
  let c10_i32_269 : BitVec 32 := 10#32
  let v517 : BitVec 32 := Scalar.addi v516 c10_i32_269
  let c8_i32_270 : BitVec 32 := 8#32
  let v518 : BitVec 32 := Scalar.muli v517 c8_i32_270
  v518
def k0_mult44 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_272 : BitVec 32 := 2#32
  let v524 : BitVec 32 := Scalar.addi v436 c2_i32_272
  let c11_i32_273 : BitVec 32 := 11#32
  let v525 : BitVec 32 := Scalar.addi v524 c11_i32_273
  let c8_i32_274 : BitVec 32 := 8#32
  let v526 : BitVec 32 := Scalar.muli v525 c8_i32_274
  v526
def k0_mult45 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_276 : BitVec 32 := 2#32
  let v532 : BitVec 32 := Scalar.addi v436 c2_i32_276
  let c12_i32_277 : BitVec 32 := 12#32
  let v533 : BitVec 32 := Scalar.addi v532 c12_i32_277
  let c8_i32_278 : BitVec 32 := 8#32
  let v534 : BitVec 32 := Scalar.muli v533 c8_i32_278
  v534
def k0_mult46 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_280 : BitVec 32 := 2#32
  let v540 : BitVec 32 := Scalar.addi v436 c2_i32_280
  let c13_i32_281 : BitVec 32 := 13#32
  let v541 : BitVec 32 := Scalar.addi v540 c13_i32_281
  let c8_i32_282 : BitVec 32 := 8#32
  let v542 : BitVec 32 := Scalar.muli v541 c8_i32_282
  v542
def k0_mult47 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_284 : BitVec 32 := 2#32
  let v548 : BitVec 32 := Scalar.addi v436 c2_i32_284
  let c14_i32_285 : BitVec 32 := 14#32
  let v549 : BitVec 32 := Scalar.addi v548 c14_i32_285
  let c8_i32_286 : BitVec 32 := 8#32
  let v550 : BitVec 32 := Scalar.muli v549 c8_i32_286
  v550
def k0_mult48 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_288 : BitVec 32 := 2#32
  let v556 : BitVec 32 := Scalar.addi v436 c2_i32_288
  let c15_i32_289 : BitVec 32 := 15#32
  let v557 : BitVec 32 := Scalar.addi v556 c15_i32_289
  let c8_i32_290 : BitVec 32 := 8#32
  let v558 : BitVec 32 := Scalar.muli v557 c8_i32_290
  v558
def k0_mult49 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_292 : BitVec 32 := 2#32
  let v564 : BitVec 32 := Scalar.addi v436 c2_i32_292
  let c16_i32_293 : BitVec 32 := 16#32
  let v565 : BitVec 32 := Scalar.addi v564 c16_i32_293
  let c8_i32_294 : BitVec 32 := 8#32
  let v566 : BitVec 32 := Scalar.muli v565 c8_i32_294
  v566
def k0_mult50 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_296 : BitVec 32 := 2#32
  let v572 : BitVec 32 := Scalar.addi v436 c2_i32_296
  let c17_i32_297 : BitVec 32 := 17#32
  let v573 : BitVec 32 := Scalar.addi v572 c17_i32_297
  let c8_i32_298 : BitVec 32 := 8#32
  let v574 : BitVec 32 := Scalar.muli v573 c8_i32_298
  v574
def k0_mult51 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_300 : BitVec 32 := 2#32
  let v580 : BitVec 32 := Scalar.addi v436 c2_i32_300
  let c18_i32_301 : BitVec 32 := 18#32
  let v581 : BitVec 32 := Scalar.addi v580 c18_i32_301
  let c8_i32_302 : BitVec 32 := 8#32
  let v582 : BitVec 32 := Scalar.muli v581 c8_i32_302
  v582
def k0_mult52 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_304 : BitVec 32 := 2#32
  let v588 : BitVec 32 := Scalar.addi v436 c2_i32_304
  let c19_i32_305 : BitVec 32 := 19#32
  let v589 : BitVec 32 := Scalar.addi v588 c19_i32_305
  let c8_i32_306 : BitVec 32 := 8#32
  let v590 : BitVec 32 := Scalar.muli v589 c8_i32_306
  v590
def k0_mult53 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_308 : BitVec 32 := 2#32
  let v596 : BitVec 32 := Scalar.addi v436 c2_i32_308
  let c20_i32_309 : BitVec 32 := 20#32
  let v597 : BitVec 32 := Scalar.addi v596 c20_i32_309
  let c8_i32_310 : BitVec 32 := 8#32
  let v598 : BitVec 32 := Scalar.muli v597 c8_i32_310
  v598
def k0_mult54 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_312 : BitVec 32 := 2#32
  let v604 : BitVec 32 := Scalar.addi v436 c2_i32_312
  let c21_i32_313 : BitVec 32 := 21#32
  let v605 : BitVec 32 := Scalar.addi v604 c21_i32_313
  let c8_i32_314 : BitVec 32 := 8#32
  let v606 : BitVec 32 := Scalar.muli v605 c8_i32_314
  v606
def k0_mult55 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_316 : BitVec 32 := 2#32
  let v612 : BitVec 32 := Scalar.addi v436 c2_i32_316
  let c22_i32_317 : BitVec 32 := 22#32
  let v613 : BitVec 32 := Scalar.addi v612 c22_i32_317
  let c8_i32_318 : BitVec 32 := 8#32
  let v614 : BitVec 32 := Scalar.muli v613 c8_i32_318
  v614
def k0_mult56 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_320 : BitVec 32 := 2#32
  let v620 : BitVec 32 := Scalar.addi v436 c2_i32_320
  let c23_i32_321 : BitVec 32 := 23#32
  let v621 : BitVec 32 := Scalar.addi v620 c23_i32_321
  let c8_i32_322 : BitVec 32 := 8#32
  let v622 : BitVec 32 := Scalar.muli v621 c8_i32_322
  v622
def k0_mult57 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_324 : BitVec 32 := 2#32
  let v628 : BitVec 32 := Scalar.addi v436 c2_i32_324
  let c24_i32_325 : BitVec 32 := 24#32
  let v629 : BitVec 32 := Scalar.addi v628 c24_i32_325
  let c8_i32_326 : BitVec 32 := 8#32
  let v630 : BitVec 32 := Scalar.muli v629 c8_i32_326
  v630
def k0_mult58 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_328 : BitVec 32 := 2#32
  let v636 : BitVec 32 := Scalar.addi v436 c2_i32_328
  let c25_i32_329 : BitVec 32 := 25#32
  let v637 : BitVec 32 := Scalar.addi v636 c25_i32_329
  let c8_i32_330 : BitVec 32 := 8#32
  let v638 : BitVec 32 := Scalar.muli v637 c8_i32_330
  v638
def k0_mult59 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_332 : BitVec 32 := 2#32
  let v644 : BitVec 32 := Scalar.addi v436 c2_i32_332
  let c26_i32_333 : BitVec 32 := 26#32
  let v645 : BitVec 32 := Scalar.addi v644 c26_i32_333
  let c8_i32_334 : BitVec 32 := 8#32
  let v646 : BitVec 32 := Scalar.muli v645 c8_i32_334
  v646
def k0_mult60 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_336 : BitVec 32 := 2#32
  let v652 : BitVec 32 := Scalar.addi v436 c2_i32_336
  let c27_i32_337 : BitVec 32 := 27#32
  let v653 : BitVec 32 := Scalar.addi v652 c27_i32_337
  let c8_i32_338 : BitVec 32 := 8#32
  let v654 : BitVec 32 := Scalar.muli v653 c8_i32_338
  v654
def k0_mult61 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_340 : BitVec 32 := 2#32
  let v660 : BitVec 32 := Scalar.addi v436 c2_i32_340
  let c28_i32_341 : BitVec 32 := 28#32
  let v661 : BitVec 32 := Scalar.addi v660 c28_i32_341
  let c8_i32_342 : BitVec 32 := 8#32
  let v662 : BitVec 32 := Scalar.muli v661 c8_i32_342
  v662
def k0_mult62 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_344 : BitVec 32 := 2#32
  let v668 : BitVec 32 := Scalar.addi v436 c2_i32_344
  let c29_i32_345 : BitVec 32 := 29#32
  let v669 : BitVec 32 := Scalar.addi v668 c29_i32_345
  let c8_i32_346 : BitVec 32 := 8#32
  let v670 : BitVec 32 := Scalar.muli v669 c8_i32_346
  v670
def k0_mult63 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c2_i32_348 : BitVec 32 := 2#32
  let v676 : BitVec 32 := Scalar.addi v436 c2_i32_348
  let c30_i32_349 : BitVec 32 := 30#32
  let v677 : BitVec 32 := Scalar.addi v676 c30_i32_349
  let c8_i32_350 : BitVec 32 := 8#32
  let v678 : BitVec 32 := Scalar.muli v677 c8_i32_350
  v678
def k0_mult64 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_226 : BitVec 32 := 8#32
  let v435 : BitVec 32 := Scalar.muli arg12 c8_i32_226
  let c1_i32_227 : BitVec 32 := 1#32
  let v436 : BitVec 32 := Scalar.addi v435 c1_i32_227
  let c8_i32_352 : BitVec 32 := 8#32
  let v684 : BitVec 32 := Scalar.muli v436 c8_i32_352
  v684
def k0_mult65 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_356 : BitVec 32 := 2#32
  let v692 : BitVec 32 := Scalar.addi v691 c2_i32_356
  let c0_i32_357 : BitVec 32 := 0#32
  let v693 : BitVec 32 := Scalar.addi v692 c0_i32_357
  let c8_i32_358 : BitVec 32 := 8#32
  let v694 : BitVec 32 := Scalar.muli v693 c8_i32_358
  v694
def k0_mult66 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_360 : BitVec 32 := 2#32
  let v699 : BitVec 32 := Scalar.addi v691 c2_i32_360
  let c1_i32_361 : BitVec 32 := 1#32
  let v700 : BitVec 32 := Scalar.addi v699 c1_i32_361
  let c8_i32_362 : BitVec 32 := 8#32
  let v701 : BitVec 32 := Scalar.muli v700 c8_i32_362
  v701
def k0_mult67 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_364 : BitVec 32 := 2#32
  let v707 : BitVec 32 := Scalar.addi v691 c2_i32_364
  let c2_i32_365 : BitVec 32 := 2#32
  let v708 : BitVec 32 := Scalar.addi v707 c2_i32_365
  let c8_i32_366 : BitVec 32 := 8#32
  let v709 : BitVec 32 := Scalar.muli v708 c8_i32_366
  v709
def k0_mult68 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_368 : BitVec 32 := 2#32
  let v715 : BitVec 32 := Scalar.addi v691 c2_i32_368
  let c3_i32_369 : BitVec 32 := 3#32
  let v716 : BitVec 32 := Scalar.addi v715 c3_i32_369
  let c8_i32_370 : BitVec 32 := 8#32
  let v717 : BitVec 32 := Scalar.muli v716 c8_i32_370
  v717
def k0_mult69 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_372 : BitVec 32 := 2#32
  let v723 : BitVec 32 := Scalar.addi v691 c2_i32_372
  let c4_i32_373 : BitVec 32 := 4#32
  let v724 : BitVec 32 := Scalar.addi v723 c4_i32_373
  let c8_i32_374 : BitVec 32 := 8#32
  let v725 : BitVec 32 := Scalar.muli v724 c8_i32_374
  v725
def k0_mult70 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_376 : BitVec 32 := 2#32
  let v731 : BitVec 32 := Scalar.addi v691 c2_i32_376
  let c5_i32_377 : BitVec 32 := 5#32
  let v732 : BitVec 32 := Scalar.addi v731 c5_i32_377
  let c8_i32_378 : BitVec 32 := 8#32
  let v733 : BitVec 32 := Scalar.muli v732 c8_i32_378
  v733
def k0_mult71 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_380 : BitVec 32 := 2#32
  let v739 : BitVec 32 := Scalar.addi v691 c2_i32_380
  let c6_i32_381 : BitVec 32 := 6#32
  let v740 : BitVec 32 := Scalar.addi v739 c6_i32_381
  let c8_i32_382 : BitVec 32 := 8#32
  let v741 : BitVec 32 := Scalar.muli v740 c8_i32_382
  v741
def k0_mult72 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_384 : BitVec 32 := 2#32
  let v747 : BitVec 32 := Scalar.addi v691 c2_i32_384
  let c7_i32_385 : BitVec 32 := 7#32
  let v748 : BitVec 32 := Scalar.addi v747 c7_i32_385
  let c8_i32_386 : BitVec 32 := 8#32
  let v749 : BitVec 32 := Scalar.muli v748 c8_i32_386
  v749
def k0_mult73 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_388 : BitVec 32 := 2#32
  let v755 : BitVec 32 := Scalar.addi v691 c2_i32_388
  let c8_i32_389 : BitVec 32 := 8#32
  let v756 : BitVec 32 := Scalar.addi v755 c8_i32_389
  let c8_i32_390 : BitVec 32 := 8#32
  let v757 : BitVec 32 := Scalar.muli v756 c8_i32_390
  v757
def k0_mult74 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_392 : BitVec 32 := 2#32
  let v763 : BitVec 32 := Scalar.addi v691 c2_i32_392
  let c9_i32_393 : BitVec 32 := 9#32
  let v764 : BitVec 32 := Scalar.addi v763 c9_i32_393
  let c8_i32_394 : BitVec 32 := 8#32
  let v765 : BitVec 32 := Scalar.muli v764 c8_i32_394
  v765
def k0_mult75 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_396 : BitVec 32 := 2#32
  let v771 : BitVec 32 := Scalar.addi v691 c2_i32_396
  let c10_i32_397 : BitVec 32 := 10#32
  let v772 : BitVec 32 := Scalar.addi v771 c10_i32_397
  let c8_i32_398 : BitVec 32 := 8#32
  let v773 : BitVec 32 := Scalar.muli v772 c8_i32_398
  v773
def k0_mult76 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_400 : BitVec 32 := 2#32
  let v779 : BitVec 32 := Scalar.addi v691 c2_i32_400
  let c11_i32_401 : BitVec 32 := 11#32
  let v780 : BitVec 32 := Scalar.addi v779 c11_i32_401
  let c8_i32_402 : BitVec 32 := 8#32
  let v781 : BitVec 32 := Scalar.muli v780 c8_i32_402
  v781
def k0_mult77 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_404 : BitVec 32 := 2#32
  let v787 : BitVec 32 := Scalar.addi v691 c2_i32_404
  let c12_i32_405 : BitVec 32 := 12#32
  let v788 : BitVec 32 := Scalar.addi v787 c12_i32_405
  let c8_i32_406 : BitVec 32 := 8#32
  let v789 : BitVec 32 := Scalar.muli v788 c8_i32_406
  v789
def k0_mult78 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_408 : BitVec 32 := 2#32
  let v795 : BitVec 32 := Scalar.addi v691 c2_i32_408
  let c13_i32_409 : BitVec 32 := 13#32
  let v796 : BitVec 32 := Scalar.addi v795 c13_i32_409
  let c8_i32_410 : BitVec 32 := 8#32
  let v797 : BitVec 32 := Scalar.muli v796 c8_i32_410
  v797
def k0_mult79 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_412 : BitVec 32 := 2#32
  let v803 : BitVec 32 := Scalar.addi v691 c2_i32_412
  let c14_i32_413 : BitVec 32 := 14#32
  let v804 : BitVec 32 := Scalar.addi v803 c14_i32_413
  let c8_i32_414 : BitVec 32 := 8#32
  let v805 : BitVec 32 := Scalar.muli v804 c8_i32_414
  v805
def k0_mult80 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_416 : BitVec 32 := 2#32
  let v811 : BitVec 32 := Scalar.addi v691 c2_i32_416
  let c15_i32_417 : BitVec 32 := 15#32
  let v812 : BitVec 32 := Scalar.addi v811 c15_i32_417
  let c8_i32_418 : BitVec 32 := 8#32
  let v813 : BitVec 32 := Scalar.muli v812 c8_i32_418
  v813
def k0_mult81 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_420 : BitVec 32 := 2#32
  let v819 : BitVec 32 := Scalar.addi v691 c2_i32_420
  let c16_i32_421 : BitVec 32 := 16#32
  let v820 : BitVec 32 := Scalar.addi v819 c16_i32_421
  let c8_i32_422 : BitVec 32 := 8#32
  let v821 : BitVec 32 := Scalar.muli v820 c8_i32_422
  v821
def k0_mult82 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_424 : BitVec 32 := 2#32
  let v827 : BitVec 32 := Scalar.addi v691 c2_i32_424
  let c17_i32_425 : BitVec 32 := 17#32
  let v828 : BitVec 32 := Scalar.addi v827 c17_i32_425
  let c8_i32_426 : BitVec 32 := 8#32
  let v829 : BitVec 32 := Scalar.muli v828 c8_i32_426
  v829
def k0_mult83 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_428 : BitVec 32 := 2#32
  let v835 : BitVec 32 := Scalar.addi v691 c2_i32_428
  let c18_i32_429 : BitVec 32 := 18#32
  let v836 : BitVec 32 := Scalar.addi v835 c18_i32_429
  let c8_i32_430 : BitVec 32 := 8#32
  let v837 : BitVec 32 := Scalar.muli v836 c8_i32_430
  v837
def k0_mult84 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_432 : BitVec 32 := 2#32
  let v843 : BitVec 32 := Scalar.addi v691 c2_i32_432
  let c19_i32_433 : BitVec 32 := 19#32
  let v844 : BitVec 32 := Scalar.addi v843 c19_i32_433
  let c8_i32_434 : BitVec 32 := 8#32
  let v845 : BitVec 32 := Scalar.muli v844 c8_i32_434
  v845
def k0_mult85 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_436 : BitVec 32 := 2#32
  let v851 : BitVec 32 := Scalar.addi v691 c2_i32_436
  let c20_i32_437 : BitVec 32 := 20#32
  let v852 : BitVec 32 := Scalar.addi v851 c20_i32_437
  let c8_i32_438 : BitVec 32 := 8#32
  let v853 : BitVec 32 := Scalar.muli v852 c8_i32_438
  v853
def k0_mult86 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_440 : BitVec 32 := 2#32
  let v859 : BitVec 32 := Scalar.addi v691 c2_i32_440
  let c21_i32_441 : BitVec 32 := 21#32
  let v860 : BitVec 32 := Scalar.addi v859 c21_i32_441
  let c8_i32_442 : BitVec 32 := 8#32
  let v861 : BitVec 32 := Scalar.muli v860 c8_i32_442
  v861
def k0_mult87 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_444 : BitVec 32 := 2#32
  let v867 : BitVec 32 := Scalar.addi v691 c2_i32_444
  let c22_i32_445 : BitVec 32 := 22#32
  let v868 : BitVec 32 := Scalar.addi v867 c22_i32_445
  let c8_i32_446 : BitVec 32 := 8#32
  let v869 : BitVec 32 := Scalar.muli v868 c8_i32_446
  v869
def k0_mult88 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_448 : BitVec 32 := 2#32
  let v875 : BitVec 32 := Scalar.addi v691 c2_i32_448
  let c23_i32_449 : BitVec 32 := 23#32
  let v876 : BitVec 32 := Scalar.addi v875 c23_i32_449
  let c8_i32_450 : BitVec 32 := 8#32
  let v877 : BitVec 32 := Scalar.muli v876 c8_i32_450
  v877
def k0_mult89 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_452 : BitVec 32 := 2#32
  let v883 : BitVec 32 := Scalar.addi v691 c2_i32_452
  let c24_i32_453 : BitVec 32 := 24#32
  let v884 : BitVec 32 := Scalar.addi v883 c24_i32_453
  let c8_i32_454 : BitVec 32 := 8#32
  let v885 : BitVec 32 := Scalar.muli v884 c8_i32_454
  v885
def k0_mult90 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_456 : BitVec 32 := 2#32
  let v891 : BitVec 32 := Scalar.addi v691 c2_i32_456
  let c25_i32_457 : BitVec 32 := 25#32
  let v892 : BitVec 32 := Scalar.addi v891 c25_i32_457
  let c8_i32_458 : BitVec 32 := 8#32
  let v893 : BitVec 32 := Scalar.muli v892 c8_i32_458
  v893
def k0_mult91 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_460 : BitVec 32 := 2#32
  let v899 : BitVec 32 := Scalar.addi v691 c2_i32_460
  let c26_i32_461 : BitVec 32 := 26#32
  let v900 : BitVec 32 := Scalar.addi v899 c26_i32_461
  let c8_i32_462 : BitVec 32 := 8#32
  let v901 : BitVec 32 := Scalar.muli v900 c8_i32_462
  v901
def k0_mult92 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_464 : BitVec 32 := 2#32
  let v907 : BitVec 32 := Scalar.addi v691 c2_i32_464
  let c27_i32_465 : BitVec 32 := 27#32
  let v908 : BitVec 32 := Scalar.addi v907 c27_i32_465
  let c8_i32_466 : BitVec 32 := 8#32
  let v909 : BitVec 32 := Scalar.muli v908 c8_i32_466
  v909
def k0_mult93 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_468 : BitVec 32 := 2#32
  let v915 : BitVec 32 := Scalar.addi v691 c2_i32_468
  let c28_i32_469 : BitVec 32 := 28#32
  let v916 : BitVec 32 := Scalar.addi v915 c28_i32_469
  let c8_i32_470 : BitVec 32 := 8#32
  let v917 : BitVec 32 := Scalar.muli v916 c8_i32_470
  v917
def k0_mult94 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_472 : BitVec 32 := 2#32
  let v923 : BitVec 32 := Scalar.addi v691 c2_i32_472
  let c29_i32_473 : BitVec 32 := 29#32
  let v924 : BitVec 32 := Scalar.addi v923 c29_i32_473
  let c8_i32_474 : BitVec 32 := 8#32
  let v925 : BitVec 32 := Scalar.muli v924 c8_i32_474
  v925
def k0_mult95 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c2_i32_476 : BitVec 32 := 2#32
  let v931 : BitVec 32 := Scalar.addi v691 c2_i32_476
  let c30_i32_477 : BitVec 32 := 30#32
  let v932 : BitVec 32 := Scalar.addi v931 c30_i32_477
  let c8_i32_478 : BitVec 32 := 8#32
  let v933 : BitVec 32 := Scalar.muli v932 c8_i32_478
  v933
def k0_mult96 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_354 : BitVec 32 := 8#32
  let v690 : BitVec 32 := Scalar.muli arg12 c8_i32_354
  let c2_i32_355 : BitVec 32 := 2#32
  let v691 : BitVec 32 := Scalar.addi v690 c2_i32_355
  let c8_i32_480 : BitVec 32 := 8#32
  let v939 : BitVec 32 := Scalar.muli v691 c8_i32_480
  v939
def k0_mult97 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_484 : BitVec 32 := 2#32
  let v947 : BitVec 32 := Scalar.addi v946 c2_i32_484
  let c0_i32_485 : BitVec 32 := 0#32
  let v948 : BitVec 32 := Scalar.addi v947 c0_i32_485
  let c8_i32_486 : BitVec 32 := 8#32
  let v949 : BitVec 32 := Scalar.muli v948 c8_i32_486
  v949
def k0_mult98 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_488 : BitVec 32 := 2#32
  let v954 : BitVec 32 := Scalar.addi v946 c2_i32_488
  let c1_i32_489 : BitVec 32 := 1#32
  let v955 : BitVec 32 := Scalar.addi v954 c1_i32_489
  let c8_i32_490 : BitVec 32 := 8#32
  let v956 : BitVec 32 := Scalar.muli v955 c8_i32_490
  v956
def k0_mult99 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_492 : BitVec 32 := 2#32
  let v962 : BitVec 32 := Scalar.addi v946 c2_i32_492
  let c2_i32_493 : BitVec 32 := 2#32
  let v963 : BitVec 32 := Scalar.addi v962 c2_i32_493
  let c8_i32_494 : BitVec 32 := 8#32
  let v964 : BitVec 32 := Scalar.muli v963 c8_i32_494
  v964
def k0_mult100 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_496 : BitVec 32 := 2#32
  let v970 : BitVec 32 := Scalar.addi v946 c2_i32_496
  let c3_i32_497 : BitVec 32 := 3#32
  let v971 : BitVec 32 := Scalar.addi v970 c3_i32_497
  let c8_i32_498 : BitVec 32 := 8#32
  let v972 : BitVec 32 := Scalar.muli v971 c8_i32_498
  v972
def k0_mult101 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_500 : BitVec 32 := 2#32
  let v978 : BitVec 32 := Scalar.addi v946 c2_i32_500
  let c4_i32_501 : BitVec 32 := 4#32
  let v979 : BitVec 32 := Scalar.addi v978 c4_i32_501
  let c8_i32_502 : BitVec 32 := 8#32
  let v980 : BitVec 32 := Scalar.muli v979 c8_i32_502
  v980
def k0_mult102 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_504 : BitVec 32 := 2#32
  let v986 : BitVec 32 := Scalar.addi v946 c2_i32_504
  let c5_i32_505 : BitVec 32 := 5#32
  let v987 : BitVec 32 := Scalar.addi v986 c5_i32_505
  let c8_i32_506 : BitVec 32 := 8#32
  let v988 : BitVec 32 := Scalar.muli v987 c8_i32_506
  v988
def k0_mult103 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_508 : BitVec 32 := 2#32
  let v994 : BitVec 32 := Scalar.addi v946 c2_i32_508
  let c6_i32_509 : BitVec 32 := 6#32
  let v995 : BitVec 32 := Scalar.addi v994 c6_i32_509
  let c8_i32_510 : BitVec 32 := 8#32
  let v996 : BitVec 32 := Scalar.muli v995 c8_i32_510
  v996
def k0_mult104 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_512 : BitVec 32 := 2#32
  let v1002 : BitVec 32 := Scalar.addi v946 c2_i32_512
  let c7_i32_513 : BitVec 32 := 7#32
  let v1003 : BitVec 32 := Scalar.addi v1002 c7_i32_513
  let c8_i32_514 : BitVec 32 := 8#32
  let v1004 : BitVec 32 := Scalar.muli v1003 c8_i32_514
  v1004
def k0_mult105 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_516 : BitVec 32 := 2#32
  let v1010 : BitVec 32 := Scalar.addi v946 c2_i32_516
  let c8_i32_517 : BitVec 32 := 8#32
  let v1011 : BitVec 32 := Scalar.addi v1010 c8_i32_517
  let c8_i32_518 : BitVec 32 := 8#32
  let v1012 : BitVec 32 := Scalar.muli v1011 c8_i32_518
  v1012
def k0_mult106 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_520 : BitVec 32 := 2#32
  let v1018 : BitVec 32 := Scalar.addi v946 c2_i32_520
  let c9_i32_521 : BitVec 32 := 9#32
  let v1019 : BitVec 32 := Scalar.addi v1018 c9_i32_521
  let c8_i32_522 : BitVec 32 := 8#32
  let v1020 : BitVec 32 := Scalar.muli v1019 c8_i32_522
  v1020
def k0_mult107 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_524 : BitVec 32 := 2#32
  let v1026 : BitVec 32 := Scalar.addi v946 c2_i32_524
  let c10_i32_525 : BitVec 32 := 10#32
  let v1027 : BitVec 32 := Scalar.addi v1026 c10_i32_525
  let c8_i32_526 : BitVec 32 := 8#32
  let v1028 : BitVec 32 := Scalar.muli v1027 c8_i32_526
  v1028
def k0_mult108 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_528 : BitVec 32 := 2#32
  let v1034 : BitVec 32 := Scalar.addi v946 c2_i32_528
  let c11_i32_529 : BitVec 32 := 11#32
  let v1035 : BitVec 32 := Scalar.addi v1034 c11_i32_529
  let c8_i32_530 : BitVec 32 := 8#32
  let v1036 : BitVec 32 := Scalar.muli v1035 c8_i32_530
  v1036
def k0_mult109 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_532 : BitVec 32 := 2#32
  let v1042 : BitVec 32 := Scalar.addi v946 c2_i32_532
  let c12_i32_533 : BitVec 32 := 12#32
  let v1043 : BitVec 32 := Scalar.addi v1042 c12_i32_533
  let c8_i32_534 : BitVec 32 := 8#32
  let v1044 : BitVec 32 := Scalar.muli v1043 c8_i32_534
  v1044
def k0_mult110 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_536 : BitVec 32 := 2#32
  let v1050 : BitVec 32 := Scalar.addi v946 c2_i32_536
  let c13_i32_537 : BitVec 32 := 13#32
  let v1051 : BitVec 32 := Scalar.addi v1050 c13_i32_537
  let c8_i32_538 : BitVec 32 := 8#32
  let v1052 : BitVec 32 := Scalar.muli v1051 c8_i32_538
  v1052
def k0_mult111 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_540 : BitVec 32 := 2#32
  let v1058 : BitVec 32 := Scalar.addi v946 c2_i32_540
  let c14_i32_541 : BitVec 32 := 14#32
  let v1059 : BitVec 32 := Scalar.addi v1058 c14_i32_541
  let c8_i32_542 : BitVec 32 := 8#32
  let v1060 : BitVec 32 := Scalar.muli v1059 c8_i32_542
  v1060
def k0_mult112 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_544 : BitVec 32 := 2#32
  let v1066 : BitVec 32 := Scalar.addi v946 c2_i32_544
  let c15_i32_545 : BitVec 32 := 15#32
  let v1067 : BitVec 32 := Scalar.addi v1066 c15_i32_545
  let c8_i32_546 : BitVec 32 := 8#32
  let v1068 : BitVec 32 := Scalar.muli v1067 c8_i32_546
  v1068
def k0_mult113 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_548 : BitVec 32 := 2#32
  let v1074 : BitVec 32 := Scalar.addi v946 c2_i32_548
  let c16_i32_549 : BitVec 32 := 16#32
  let v1075 : BitVec 32 := Scalar.addi v1074 c16_i32_549
  let c8_i32_550 : BitVec 32 := 8#32
  let v1076 : BitVec 32 := Scalar.muli v1075 c8_i32_550
  v1076
def k0_mult114 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_552 : BitVec 32 := 2#32
  let v1082 : BitVec 32 := Scalar.addi v946 c2_i32_552
  let c17_i32_553 : BitVec 32 := 17#32
  let v1083 : BitVec 32 := Scalar.addi v1082 c17_i32_553
  let c8_i32_554 : BitVec 32 := 8#32
  let v1084 : BitVec 32 := Scalar.muli v1083 c8_i32_554
  v1084
def k0_mult115 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_556 : BitVec 32 := 2#32
  let v1090 : BitVec 32 := Scalar.addi v946 c2_i32_556
  let c18_i32_557 : BitVec 32 := 18#32
  let v1091 : BitVec 32 := Scalar.addi v1090 c18_i32_557
  let c8_i32_558 : BitVec 32 := 8#32
  let v1092 : BitVec 32 := Scalar.muli v1091 c8_i32_558
  v1092
def k0_mult116 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_560 : BitVec 32 := 2#32
  let v1098 : BitVec 32 := Scalar.addi v946 c2_i32_560
  let c19_i32_561 : BitVec 32 := 19#32
  let v1099 : BitVec 32 := Scalar.addi v1098 c19_i32_561
  let c8_i32_562 : BitVec 32 := 8#32
  let v1100 : BitVec 32 := Scalar.muli v1099 c8_i32_562
  v1100
def k0_mult117 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_564 : BitVec 32 := 2#32
  let v1106 : BitVec 32 := Scalar.addi v946 c2_i32_564
  let c20_i32_565 : BitVec 32 := 20#32
  let v1107 : BitVec 32 := Scalar.addi v1106 c20_i32_565
  let c8_i32_566 : BitVec 32 := 8#32
  let v1108 : BitVec 32 := Scalar.muli v1107 c8_i32_566
  v1108
def k0_mult118 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_568 : BitVec 32 := 2#32
  let v1114 : BitVec 32 := Scalar.addi v946 c2_i32_568
  let c21_i32_569 : BitVec 32 := 21#32
  let v1115 : BitVec 32 := Scalar.addi v1114 c21_i32_569
  let c8_i32_570 : BitVec 32 := 8#32
  let v1116 : BitVec 32 := Scalar.muli v1115 c8_i32_570
  v1116
def k0_mult119 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_572 : BitVec 32 := 2#32
  let v1122 : BitVec 32 := Scalar.addi v946 c2_i32_572
  let c22_i32_573 : BitVec 32 := 22#32
  let v1123 : BitVec 32 := Scalar.addi v1122 c22_i32_573
  let c8_i32_574 : BitVec 32 := 8#32
  let v1124 : BitVec 32 := Scalar.muli v1123 c8_i32_574
  v1124
def k0_mult120 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_576 : BitVec 32 := 2#32
  let v1130 : BitVec 32 := Scalar.addi v946 c2_i32_576
  let c23_i32_577 : BitVec 32 := 23#32
  let v1131 : BitVec 32 := Scalar.addi v1130 c23_i32_577
  let c8_i32_578 : BitVec 32 := 8#32
  let v1132 : BitVec 32 := Scalar.muli v1131 c8_i32_578
  v1132
def k0_mult121 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_580 : BitVec 32 := 2#32
  let v1138 : BitVec 32 := Scalar.addi v946 c2_i32_580
  let c24_i32_581 : BitVec 32 := 24#32
  let v1139 : BitVec 32 := Scalar.addi v1138 c24_i32_581
  let c8_i32_582 : BitVec 32 := 8#32
  let v1140 : BitVec 32 := Scalar.muli v1139 c8_i32_582
  v1140
def k0_mult122 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_584 : BitVec 32 := 2#32
  let v1146 : BitVec 32 := Scalar.addi v946 c2_i32_584
  let c25_i32_585 : BitVec 32 := 25#32
  let v1147 : BitVec 32 := Scalar.addi v1146 c25_i32_585
  let c8_i32_586 : BitVec 32 := 8#32
  let v1148 : BitVec 32 := Scalar.muli v1147 c8_i32_586
  v1148
def k0_mult123 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_588 : BitVec 32 := 2#32
  let v1154 : BitVec 32 := Scalar.addi v946 c2_i32_588
  let c26_i32_589 : BitVec 32 := 26#32
  let v1155 : BitVec 32 := Scalar.addi v1154 c26_i32_589
  let c8_i32_590 : BitVec 32 := 8#32
  let v1156 : BitVec 32 := Scalar.muli v1155 c8_i32_590
  v1156
def k0_mult124 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_592 : BitVec 32 := 2#32
  let v1162 : BitVec 32 := Scalar.addi v946 c2_i32_592
  let c27_i32_593 : BitVec 32 := 27#32
  let v1163 : BitVec 32 := Scalar.addi v1162 c27_i32_593
  let c8_i32_594 : BitVec 32 := 8#32
  let v1164 : BitVec 32 := Scalar.muli v1163 c8_i32_594
  v1164
def k0_mult125 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_596 : BitVec 32 := 2#32
  let v1170 : BitVec 32 := Scalar.addi v946 c2_i32_596
  let c28_i32_597 : BitVec 32 := 28#32
  let v1171 : BitVec 32 := Scalar.addi v1170 c28_i32_597
  let c8_i32_598 : BitVec 32 := 8#32
  let v1172 : BitVec 32 := Scalar.muli v1171 c8_i32_598
  v1172
def k0_mult126 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_600 : BitVec 32 := 2#32
  let v1178 : BitVec 32 := Scalar.addi v946 c2_i32_600
  let c29_i32_601 : BitVec 32 := 29#32
  let v1179 : BitVec 32 := Scalar.addi v1178 c29_i32_601
  let c8_i32_602 : BitVec 32 := 8#32
  let v1180 : BitVec 32 := Scalar.muli v1179 c8_i32_602
  v1180
def k0_mult127 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c2_i32_604 : BitVec 32 := 2#32
  let v1186 : BitVec 32 := Scalar.addi v946 c2_i32_604
  let c30_i32_605 : BitVec 32 := 30#32
  let v1187 : BitVec 32 := Scalar.addi v1186 c30_i32_605
  let c8_i32_606 : BitVec 32 := 8#32
  let v1188 : BitVec 32 := Scalar.muli v1187 c8_i32_606
  v1188
def k0_mult128 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_482 : BitVec 32 := 8#32
  let v945 : BitVec 32 := Scalar.muli arg12 c8_i32_482
  let c3_i32_483 : BitVec 32 := 3#32
  let v946 : BitVec 32 := Scalar.addi v945 c3_i32_483
  let c8_i32_608 : BitVec 32 := 8#32
  let v1194 : BitVec 32 := Scalar.muli v946 c8_i32_608
  v1194
def k0_mult129 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_612 : BitVec 32 := 2#32
  let v1202 : BitVec 32 := Scalar.addi v1201 c2_i32_612
  let c0_i32_613 : BitVec 32 := 0#32
  let v1203 : BitVec 32 := Scalar.addi v1202 c0_i32_613
  let c8_i32_614 : BitVec 32 := 8#32
  let v1204 : BitVec 32 := Scalar.muli v1203 c8_i32_614
  v1204
def k0_mult130 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_616 : BitVec 32 := 2#32
  let v1209 : BitVec 32 := Scalar.addi v1201 c2_i32_616
  let c1_i32_617 : BitVec 32 := 1#32
  let v1210 : BitVec 32 := Scalar.addi v1209 c1_i32_617
  let c8_i32_618 : BitVec 32 := 8#32
  let v1211 : BitVec 32 := Scalar.muli v1210 c8_i32_618
  v1211
def k0_mult131 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_620 : BitVec 32 := 2#32
  let v1217 : BitVec 32 := Scalar.addi v1201 c2_i32_620
  let c2_i32_621 : BitVec 32 := 2#32
  let v1218 : BitVec 32 := Scalar.addi v1217 c2_i32_621
  let c8_i32_622 : BitVec 32 := 8#32
  let v1219 : BitVec 32 := Scalar.muli v1218 c8_i32_622
  v1219
def k0_mult132 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_624 : BitVec 32 := 2#32
  let v1225 : BitVec 32 := Scalar.addi v1201 c2_i32_624
  let c3_i32_625 : BitVec 32 := 3#32
  let v1226 : BitVec 32 := Scalar.addi v1225 c3_i32_625
  let c8_i32_626 : BitVec 32 := 8#32
  let v1227 : BitVec 32 := Scalar.muli v1226 c8_i32_626
  v1227
def k0_mult133 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_628 : BitVec 32 := 2#32
  let v1233 : BitVec 32 := Scalar.addi v1201 c2_i32_628
  let c4_i32_629 : BitVec 32 := 4#32
  let v1234 : BitVec 32 := Scalar.addi v1233 c4_i32_629
  let c8_i32_630 : BitVec 32 := 8#32
  let v1235 : BitVec 32 := Scalar.muli v1234 c8_i32_630
  v1235
def k0_mult134 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_632 : BitVec 32 := 2#32
  let v1241 : BitVec 32 := Scalar.addi v1201 c2_i32_632
  let c5_i32_633 : BitVec 32 := 5#32
  let v1242 : BitVec 32 := Scalar.addi v1241 c5_i32_633
  let c8_i32_634 : BitVec 32 := 8#32
  let v1243 : BitVec 32 := Scalar.muli v1242 c8_i32_634
  v1243
def k0_mult135 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_636 : BitVec 32 := 2#32
  let v1249 : BitVec 32 := Scalar.addi v1201 c2_i32_636
  let c6_i32_637 : BitVec 32 := 6#32
  let v1250 : BitVec 32 := Scalar.addi v1249 c6_i32_637
  let c8_i32_638 : BitVec 32 := 8#32
  let v1251 : BitVec 32 := Scalar.muli v1250 c8_i32_638
  v1251
def k0_mult136 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_640 : BitVec 32 := 2#32
  let v1257 : BitVec 32 := Scalar.addi v1201 c2_i32_640
  let c7_i32_641 : BitVec 32 := 7#32
  let v1258 : BitVec 32 := Scalar.addi v1257 c7_i32_641
  let c8_i32_642 : BitVec 32 := 8#32
  let v1259 : BitVec 32 := Scalar.muli v1258 c8_i32_642
  v1259
def k0_mult137 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_644 : BitVec 32 := 2#32
  let v1265 : BitVec 32 := Scalar.addi v1201 c2_i32_644
  let c8_i32_645 : BitVec 32 := 8#32
  let v1266 : BitVec 32 := Scalar.addi v1265 c8_i32_645
  let c8_i32_646 : BitVec 32 := 8#32
  let v1267 : BitVec 32 := Scalar.muli v1266 c8_i32_646
  v1267
def k0_mult138 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_648 : BitVec 32 := 2#32
  let v1273 : BitVec 32 := Scalar.addi v1201 c2_i32_648
  let c9_i32_649 : BitVec 32 := 9#32
  let v1274 : BitVec 32 := Scalar.addi v1273 c9_i32_649
  let c8_i32_650 : BitVec 32 := 8#32
  let v1275 : BitVec 32 := Scalar.muli v1274 c8_i32_650
  v1275
def k0_mult139 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_652 : BitVec 32 := 2#32
  let v1281 : BitVec 32 := Scalar.addi v1201 c2_i32_652
  let c10_i32_653 : BitVec 32 := 10#32
  let v1282 : BitVec 32 := Scalar.addi v1281 c10_i32_653
  let c8_i32_654 : BitVec 32 := 8#32
  let v1283 : BitVec 32 := Scalar.muli v1282 c8_i32_654
  v1283
def k0_mult140 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_656 : BitVec 32 := 2#32
  let v1289 : BitVec 32 := Scalar.addi v1201 c2_i32_656
  let c11_i32_657 : BitVec 32 := 11#32
  let v1290 : BitVec 32 := Scalar.addi v1289 c11_i32_657
  let c8_i32_658 : BitVec 32 := 8#32
  let v1291 : BitVec 32 := Scalar.muli v1290 c8_i32_658
  v1291
def k0_mult141 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_660 : BitVec 32 := 2#32
  let v1297 : BitVec 32 := Scalar.addi v1201 c2_i32_660
  let c12_i32_661 : BitVec 32 := 12#32
  let v1298 : BitVec 32 := Scalar.addi v1297 c12_i32_661
  let c8_i32_662 : BitVec 32 := 8#32
  let v1299 : BitVec 32 := Scalar.muli v1298 c8_i32_662
  v1299
def k0_mult142 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_664 : BitVec 32 := 2#32
  let v1305 : BitVec 32 := Scalar.addi v1201 c2_i32_664
  let c13_i32_665 : BitVec 32 := 13#32
  let v1306 : BitVec 32 := Scalar.addi v1305 c13_i32_665
  let c8_i32_666 : BitVec 32 := 8#32
  let v1307 : BitVec 32 := Scalar.muli v1306 c8_i32_666
  v1307
def k0_mult143 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_668 : BitVec 32 := 2#32
  let v1313 : BitVec 32 := Scalar.addi v1201 c2_i32_668
  let c14_i32_669 : BitVec 32 := 14#32
  let v1314 : BitVec 32 := Scalar.addi v1313 c14_i32_669
  let c8_i32_670 : BitVec 32 := 8#32
  let v1315 : BitVec 32 := Scalar.muli v1314 c8_i32_670
  v1315
def k0_mult144 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_672 : BitVec 32 := 2#32
  let v1321 : BitVec 32 := Scalar.addi v1201 c2_i32_672
  let c15_i32_673 : BitVec 32 := 15#32
  let v1322 : BitVec 32 := Scalar.addi v1321 c15_i32_673
  let c8_i32_674 : BitVec 32 := 8#32
  let v1323 : BitVec 32 := Scalar.muli v1322 c8_i32_674
  v1323
def k0_mult145 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_676 : BitVec 32 := 2#32
  let v1329 : BitVec 32 := Scalar.addi v1201 c2_i32_676
  let c16_i32_677 : BitVec 32 := 16#32
  let v1330 : BitVec 32 := Scalar.addi v1329 c16_i32_677
  let c8_i32_678 : BitVec 32 := 8#32
  let v1331 : BitVec 32 := Scalar.muli v1330 c8_i32_678
  v1331
def k0_mult146 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_680 : BitVec 32 := 2#32
  let v1337 : BitVec 32 := Scalar.addi v1201 c2_i32_680
  let c17_i32_681 : BitVec 32 := 17#32
  let v1338 : BitVec 32 := Scalar.addi v1337 c17_i32_681
  let c8_i32_682 : BitVec 32 := 8#32
  let v1339 : BitVec 32 := Scalar.muli v1338 c8_i32_682
  v1339
def k0_mult147 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_684 : BitVec 32 := 2#32
  let v1345 : BitVec 32 := Scalar.addi v1201 c2_i32_684
  let c18_i32_685 : BitVec 32 := 18#32
  let v1346 : BitVec 32 := Scalar.addi v1345 c18_i32_685
  let c8_i32_686 : BitVec 32 := 8#32
  let v1347 : BitVec 32 := Scalar.muli v1346 c8_i32_686
  v1347
def k0_mult148 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_688 : BitVec 32 := 2#32
  let v1353 : BitVec 32 := Scalar.addi v1201 c2_i32_688
  let c19_i32_689 : BitVec 32 := 19#32
  let v1354 : BitVec 32 := Scalar.addi v1353 c19_i32_689
  let c8_i32_690 : BitVec 32 := 8#32
  let v1355 : BitVec 32 := Scalar.muli v1354 c8_i32_690
  v1355
def k0_mult149 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_692 : BitVec 32 := 2#32
  let v1361 : BitVec 32 := Scalar.addi v1201 c2_i32_692
  let c20_i32_693 : BitVec 32 := 20#32
  let v1362 : BitVec 32 := Scalar.addi v1361 c20_i32_693
  let c8_i32_694 : BitVec 32 := 8#32
  let v1363 : BitVec 32 := Scalar.muli v1362 c8_i32_694
  v1363
def k0_mult150 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_696 : BitVec 32 := 2#32
  let v1369 : BitVec 32 := Scalar.addi v1201 c2_i32_696
  let c21_i32_697 : BitVec 32 := 21#32
  let v1370 : BitVec 32 := Scalar.addi v1369 c21_i32_697
  let c8_i32_698 : BitVec 32 := 8#32
  let v1371 : BitVec 32 := Scalar.muli v1370 c8_i32_698
  v1371
def k0_mult151 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_700 : BitVec 32 := 2#32
  let v1377 : BitVec 32 := Scalar.addi v1201 c2_i32_700
  let c22_i32_701 : BitVec 32 := 22#32
  let v1378 : BitVec 32 := Scalar.addi v1377 c22_i32_701
  let c8_i32_702 : BitVec 32 := 8#32
  let v1379 : BitVec 32 := Scalar.muli v1378 c8_i32_702
  v1379
def k0_mult152 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_704 : BitVec 32 := 2#32
  let v1385 : BitVec 32 := Scalar.addi v1201 c2_i32_704
  let c23_i32_705 : BitVec 32 := 23#32
  let v1386 : BitVec 32 := Scalar.addi v1385 c23_i32_705
  let c8_i32_706 : BitVec 32 := 8#32
  let v1387 : BitVec 32 := Scalar.muli v1386 c8_i32_706
  v1387
def k0_mult153 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_708 : BitVec 32 := 2#32
  let v1393 : BitVec 32 := Scalar.addi v1201 c2_i32_708
  let c24_i32_709 : BitVec 32 := 24#32
  let v1394 : BitVec 32 := Scalar.addi v1393 c24_i32_709
  let c8_i32_710 : BitVec 32 := 8#32
  let v1395 : BitVec 32 := Scalar.muli v1394 c8_i32_710
  v1395
def k0_mult154 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_712 : BitVec 32 := 2#32
  let v1401 : BitVec 32 := Scalar.addi v1201 c2_i32_712
  let c25_i32_713 : BitVec 32 := 25#32
  let v1402 : BitVec 32 := Scalar.addi v1401 c25_i32_713
  let c8_i32_714 : BitVec 32 := 8#32
  let v1403 : BitVec 32 := Scalar.muli v1402 c8_i32_714
  v1403
def k0_mult155 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_716 : BitVec 32 := 2#32
  let v1409 : BitVec 32 := Scalar.addi v1201 c2_i32_716
  let c26_i32_717 : BitVec 32 := 26#32
  let v1410 : BitVec 32 := Scalar.addi v1409 c26_i32_717
  let c8_i32_718 : BitVec 32 := 8#32
  let v1411 : BitVec 32 := Scalar.muli v1410 c8_i32_718
  v1411
def k0_mult156 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_720 : BitVec 32 := 2#32
  let v1417 : BitVec 32 := Scalar.addi v1201 c2_i32_720
  let c27_i32_721 : BitVec 32 := 27#32
  let v1418 : BitVec 32 := Scalar.addi v1417 c27_i32_721
  let c8_i32_722 : BitVec 32 := 8#32
  let v1419 : BitVec 32 := Scalar.muli v1418 c8_i32_722
  v1419
def k0_mult157 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_724 : BitVec 32 := 2#32
  let v1425 : BitVec 32 := Scalar.addi v1201 c2_i32_724
  let c28_i32_725 : BitVec 32 := 28#32
  let v1426 : BitVec 32 := Scalar.addi v1425 c28_i32_725
  let c8_i32_726 : BitVec 32 := 8#32
  let v1427 : BitVec 32 := Scalar.muli v1426 c8_i32_726
  v1427
def k0_mult158 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_728 : BitVec 32 := 2#32
  let v1433 : BitVec 32 := Scalar.addi v1201 c2_i32_728
  let c29_i32_729 : BitVec 32 := 29#32
  let v1434 : BitVec 32 := Scalar.addi v1433 c29_i32_729
  let c8_i32_730 : BitVec 32 := 8#32
  let v1435 : BitVec 32 := Scalar.muli v1434 c8_i32_730
  v1435
def k0_mult159 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c2_i32_732 : BitVec 32 := 2#32
  let v1441 : BitVec 32 := Scalar.addi v1201 c2_i32_732
  let c30_i32_733 : BitVec 32 := 30#32
  let v1442 : BitVec 32 := Scalar.addi v1441 c30_i32_733
  let c8_i32_734 : BitVec 32 := 8#32
  let v1443 : BitVec 32 := Scalar.muli v1442 c8_i32_734
  v1443
def k0_mult160 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_610 : BitVec 32 := 8#32
  let v1200 : BitVec 32 := Scalar.muli arg12 c8_i32_610
  let c4_i32_611 : BitVec 32 := 4#32
  let v1201 : BitVec 32 := Scalar.addi v1200 c4_i32_611
  let c8_i32_736 : BitVec 32 := 8#32
  let v1449 : BitVec 32 := Scalar.muli v1201 c8_i32_736
  v1449
def k0_mult161 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_740 : BitVec 32 := 2#32
  let v1457 : BitVec 32 := Scalar.addi v1456 c2_i32_740
  let c0_i32_741 : BitVec 32 := 0#32
  let v1458 : BitVec 32 := Scalar.addi v1457 c0_i32_741
  let c8_i32_742 : BitVec 32 := 8#32
  let v1459 : BitVec 32 := Scalar.muli v1458 c8_i32_742
  v1459
def k0_mult162 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_744 : BitVec 32 := 2#32
  let v1464 : BitVec 32 := Scalar.addi v1456 c2_i32_744
  let c1_i32_745 : BitVec 32 := 1#32
  let v1465 : BitVec 32 := Scalar.addi v1464 c1_i32_745
  let c8_i32_746 : BitVec 32 := 8#32
  let v1466 : BitVec 32 := Scalar.muli v1465 c8_i32_746
  v1466
def k0_mult163 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_748 : BitVec 32 := 2#32
  let v1472 : BitVec 32 := Scalar.addi v1456 c2_i32_748
  let c2_i32_749 : BitVec 32 := 2#32
  let v1473 : BitVec 32 := Scalar.addi v1472 c2_i32_749
  let c8_i32_750 : BitVec 32 := 8#32
  let v1474 : BitVec 32 := Scalar.muli v1473 c8_i32_750
  v1474
def k0_mult164 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_752 : BitVec 32 := 2#32
  let v1480 : BitVec 32 := Scalar.addi v1456 c2_i32_752
  let c3_i32_753 : BitVec 32 := 3#32
  let v1481 : BitVec 32 := Scalar.addi v1480 c3_i32_753
  let c8_i32_754 : BitVec 32 := 8#32
  let v1482 : BitVec 32 := Scalar.muli v1481 c8_i32_754
  v1482
def k0_mult165 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_756 : BitVec 32 := 2#32
  let v1488 : BitVec 32 := Scalar.addi v1456 c2_i32_756
  let c4_i32_757 : BitVec 32 := 4#32
  let v1489 : BitVec 32 := Scalar.addi v1488 c4_i32_757
  let c8_i32_758 : BitVec 32 := 8#32
  let v1490 : BitVec 32 := Scalar.muli v1489 c8_i32_758
  v1490
def k0_mult166 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_760 : BitVec 32 := 2#32
  let v1496 : BitVec 32 := Scalar.addi v1456 c2_i32_760
  let c5_i32_761 : BitVec 32 := 5#32
  let v1497 : BitVec 32 := Scalar.addi v1496 c5_i32_761
  let c8_i32_762 : BitVec 32 := 8#32
  let v1498 : BitVec 32 := Scalar.muli v1497 c8_i32_762
  v1498
def k0_mult167 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_764 : BitVec 32 := 2#32
  let v1504 : BitVec 32 := Scalar.addi v1456 c2_i32_764
  let c6_i32_765 : BitVec 32 := 6#32
  let v1505 : BitVec 32 := Scalar.addi v1504 c6_i32_765
  let c8_i32_766 : BitVec 32 := 8#32
  let v1506 : BitVec 32 := Scalar.muli v1505 c8_i32_766
  v1506
def k0_mult168 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_768 : BitVec 32 := 2#32
  let v1512 : BitVec 32 := Scalar.addi v1456 c2_i32_768
  let c7_i32_769 : BitVec 32 := 7#32
  let v1513 : BitVec 32 := Scalar.addi v1512 c7_i32_769
  let c8_i32_770 : BitVec 32 := 8#32
  let v1514 : BitVec 32 := Scalar.muli v1513 c8_i32_770
  v1514
def k0_mult169 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_772 : BitVec 32 := 2#32
  let v1520 : BitVec 32 := Scalar.addi v1456 c2_i32_772
  let c8_i32_773 : BitVec 32 := 8#32
  let v1521 : BitVec 32 := Scalar.addi v1520 c8_i32_773
  let c8_i32_774 : BitVec 32 := 8#32
  let v1522 : BitVec 32 := Scalar.muli v1521 c8_i32_774
  v1522
def k0_mult170 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_776 : BitVec 32 := 2#32
  let v1528 : BitVec 32 := Scalar.addi v1456 c2_i32_776
  let c9_i32_777 : BitVec 32 := 9#32
  let v1529 : BitVec 32 := Scalar.addi v1528 c9_i32_777
  let c8_i32_778 : BitVec 32 := 8#32
  let v1530 : BitVec 32 := Scalar.muli v1529 c8_i32_778
  v1530
def k0_mult171 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_780 : BitVec 32 := 2#32
  let v1536 : BitVec 32 := Scalar.addi v1456 c2_i32_780
  let c10_i32_781 : BitVec 32 := 10#32
  let v1537 : BitVec 32 := Scalar.addi v1536 c10_i32_781
  let c8_i32_782 : BitVec 32 := 8#32
  let v1538 : BitVec 32 := Scalar.muli v1537 c8_i32_782
  v1538
def k0_mult172 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_784 : BitVec 32 := 2#32
  let v1544 : BitVec 32 := Scalar.addi v1456 c2_i32_784
  let c11_i32_785 : BitVec 32 := 11#32
  let v1545 : BitVec 32 := Scalar.addi v1544 c11_i32_785
  let c8_i32_786 : BitVec 32 := 8#32
  let v1546 : BitVec 32 := Scalar.muli v1545 c8_i32_786
  v1546
def k0_mult173 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_788 : BitVec 32 := 2#32
  let v1552 : BitVec 32 := Scalar.addi v1456 c2_i32_788
  let c12_i32_789 : BitVec 32 := 12#32
  let v1553 : BitVec 32 := Scalar.addi v1552 c12_i32_789
  let c8_i32_790 : BitVec 32 := 8#32
  let v1554 : BitVec 32 := Scalar.muli v1553 c8_i32_790
  v1554
def k0_mult174 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_792 : BitVec 32 := 2#32
  let v1560 : BitVec 32 := Scalar.addi v1456 c2_i32_792
  let c13_i32_793 : BitVec 32 := 13#32
  let v1561 : BitVec 32 := Scalar.addi v1560 c13_i32_793
  let c8_i32_794 : BitVec 32 := 8#32
  let v1562 : BitVec 32 := Scalar.muli v1561 c8_i32_794
  v1562
def k0_mult175 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_796 : BitVec 32 := 2#32
  let v1568 : BitVec 32 := Scalar.addi v1456 c2_i32_796
  let c14_i32_797 : BitVec 32 := 14#32
  let v1569 : BitVec 32 := Scalar.addi v1568 c14_i32_797
  let c8_i32_798 : BitVec 32 := 8#32
  let v1570 : BitVec 32 := Scalar.muli v1569 c8_i32_798
  v1570
def k0_mult176 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_800 : BitVec 32 := 2#32
  let v1576 : BitVec 32 := Scalar.addi v1456 c2_i32_800
  let c15_i32_801 : BitVec 32 := 15#32
  let v1577 : BitVec 32 := Scalar.addi v1576 c15_i32_801
  let c8_i32_802 : BitVec 32 := 8#32
  let v1578 : BitVec 32 := Scalar.muli v1577 c8_i32_802
  v1578
def k0_mult177 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_804 : BitVec 32 := 2#32
  let v1584 : BitVec 32 := Scalar.addi v1456 c2_i32_804
  let c16_i32_805 : BitVec 32 := 16#32
  let v1585 : BitVec 32 := Scalar.addi v1584 c16_i32_805
  let c8_i32_806 : BitVec 32 := 8#32
  let v1586 : BitVec 32 := Scalar.muli v1585 c8_i32_806
  v1586
def k0_mult178 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_808 : BitVec 32 := 2#32
  let v1592 : BitVec 32 := Scalar.addi v1456 c2_i32_808
  let c17_i32_809 : BitVec 32 := 17#32
  let v1593 : BitVec 32 := Scalar.addi v1592 c17_i32_809
  let c8_i32_810 : BitVec 32 := 8#32
  let v1594 : BitVec 32 := Scalar.muli v1593 c8_i32_810
  v1594
def k0_mult179 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_812 : BitVec 32 := 2#32
  let v1600 : BitVec 32 := Scalar.addi v1456 c2_i32_812
  let c18_i32_813 : BitVec 32 := 18#32
  let v1601 : BitVec 32 := Scalar.addi v1600 c18_i32_813
  let c8_i32_814 : BitVec 32 := 8#32
  let v1602 : BitVec 32 := Scalar.muli v1601 c8_i32_814
  v1602
def k0_mult180 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_816 : BitVec 32 := 2#32
  let v1608 : BitVec 32 := Scalar.addi v1456 c2_i32_816
  let c19_i32_817 : BitVec 32 := 19#32
  let v1609 : BitVec 32 := Scalar.addi v1608 c19_i32_817
  let c8_i32_818 : BitVec 32 := 8#32
  let v1610 : BitVec 32 := Scalar.muli v1609 c8_i32_818
  v1610
def k0_mult181 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_820 : BitVec 32 := 2#32
  let v1616 : BitVec 32 := Scalar.addi v1456 c2_i32_820
  let c20_i32_821 : BitVec 32 := 20#32
  let v1617 : BitVec 32 := Scalar.addi v1616 c20_i32_821
  let c8_i32_822 : BitVec 32 := 8#32
  let v1618 : BitVec 32 := Scalar.muli v1617 c8_i32_822
  v1618
def k0_mult182 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_824 : BitVec 32 := 2#32
  let v1624 : BitVec 32 := Scalar.addi v1456 c2_i32_824
  let c21_i32_825 : BitVec 32 := 21#32
  let v1625 : BitVec 32 := Scalar.addi v1624 c21_i32_825
  let c8_i32_826 : BitVec 32 := 8#32
  let v1626 : BitVec 32 := Scalar.muli v1625 c8_i32_826
  v1626
def k0_mult183 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_828 : BitVec 32 := 2#32
  let v1632 : BitVec 32 := Scalar.addi v1456 c2_i32_828
  let c22_i32_829 : BitVec 32 := 22#32
  let v1633 : BitVec 32 := Scalar.addi v1632 c22_i32_829
  let c8_i32_830 : BitVec 32 := 8#32
  let v1634 : BitVec 32 := Scalar.muli v1633 c8_i32_830
  v1634
def k0_mult184 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_832 : BitVec 32 := 2#32
  let v1640 : BitVec 32 := Scalar.addi v1456 c2_i32_832
  let c23_i32_833 : BitVec 32 := 23#32
  let v1641 : BitVec 32 := Scalar.addi v1640 c23_i32_833
  let c8_i32_834 : BitVec 32 := 8#32
  let v1642 : BitVec 32 := Scalar.muli v1641 c8_i32_834
  v1642
def k0_mult185 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_836 : BitVec 32 := 2#32
  let v1648 : BitVec 32 := Scalar.addi v1456 c2_i32_836
  let c24_i32_837 : BitVec 32 := 24#32
  let v1649 : BitVec 32 := Scalar.addi v1648 c24_i32_837
  let c8_i32_838 : BitVec 32 := 8#32
  let v1650 : BitVec 32 := Scalar.muli v1649 c8_i32_838
  v1650
def k0_mult186 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_840 : BitVec 32 := 2#32
  let v1656 : BitVec 32 := Scalar.addi v1456 c2_i32_840
  let c25_i32_841 : BitVec 32 := 25#32
  let v1657 : BitVec 32 := Scalar.addi v1656 c25_i32_841
  let c8_i32_842 : BitVec 32 := 8#32
  let v1658 : BitVec 32 := Scalar.muli v1657 c8_i32_842
  v1658
def k0_mult187 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_844 : BitVec 32 := 2#32
  let v1664 : BitVec 32 := Scalar.addi v1456 c2_i32_844
  let c26_i32_845 : BitVec 32 := 26#32
  let v1665 : BitVec 32 := Scalar.addi v1664 c26_i32_845
  let c8_i32_846 : BitVec 32 := 8#32
  let v1666 : BitVec 32 := Scalar.muli v1665 c8_i32_846
  v1666
def k0_mult188 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_848 : BitVec 32 := 2#32
  let v1672 : BitVec 32 := Scalar.addi v1456 c2_i32_848
  let c27_i32_849 : BitVec 32 := 27#32
  let v1673 : BitVec 32 := Scalar.addi v1672 c27_i32_849
  let c8_i32_850 : BitVec 32 := 8#32
  let v1674 : BitVec 32 := Scalar.muli v1673 c8_i32_850
  v1674
def k0_mult189 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_852 : BitVec 32 := 2#32
  let v1680 : BitVec 32 := Scalar.addi v1456 c2_i32_852
  let c28_i32_853 : BitVec 32 := 28#32
  let v1681 : BitVec 32 := Scalar.addi v1680 c28_i32_853
  let c8_i32_854 : BitVec 32 := 8#32
  let v1682 : BitVec 32 := Scalar.muli v1681 c8_i32_854
  v1682
def k0_mult190 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_856 : BitVec 32 := 2#32
  let v1688 : BitVec 32 := Scalar.addi v1456 c2_i32_856
  let c29_i32_857 : BitVec 32 := 29#32
  let v1689 : BitVec 32 := Scalar.addi v1688 c29_i32_857
  let c8_i32_858 : BitVec 32 := 8#32
  let v1690 : BitVec 32 := Scalar.muli v1689 c8_i32_858
  v1690
def k0_mult191 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c2_i32_860 : BitVec 32 := 2#32
  let v1696 : BitVec 32 := Scalar.addi v1456 c2_i32_860
  let c30_i32_861 : BitVec 32 := 30#32
  let v1697 : BitVec 32 := Scalar.addi v1696 c30_i32_861
  let c8_i32_862 : BitVec 32 := 8#32
  let v1698 : BitVec 32 := Scalar.muli v1697 c8_i32_862
  v1698
def k0_mult192 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_738 : BitVec 32 := 8#32
  let v1455 : BitVec 32 := Scalar.muli arg12 c8_i32_738
  let c5_i32_739 : BitVec 32 := 5#32
  let v1456 : BitVec 32 := Scalar.addi v1455 c5_i32_739
  let c8_i32_864 : BitVec 32 := 8#32
  let v1704 : BitVec 32 := Scalar.muli v1456 c8_i32_864
  v1704
def k0_mult193 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_868 : BitVec 32 := 2#32
  let v1712 : BitVec 32 := Scalar.addi v1711 c2_i32_868
  let c0_i32_869 : BitVec 32 := 0#32
  let v1713 : BitVec 32 := Scalar.addi v1712 c0_i32_869
  let c8_i32_870 : BitVec 32 := 8#32
  let v1714 : BitVec 32 := Scalar.muli v1713 c8_i32_870
  v1714
def k0_mult194 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_872 : BitVec 32 := 2#32
  let v1719 : BitVec 32 := Scalar.addi v1711 c2_i32_872
  let c1_i32_873 : BitVec 32 := 1#32
  let v1720 : BitVec 32 := Scalar.addi v1719 c1_i32_873
  let c8_i32_874 : BitVec 32 := 8#32
  let v1721 : BitVec 32 := Scalar.muli v1720 c8_i32_874
  v1721
def k0_mult195 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_876 : BitVec 32 := 2#32
  let v1727 : BitVec 32 := Scalar.addi v1711 c2_i32_876
  let c2_i32_877 : BitVec 32 := 2#32
  let v1728 : BitVec 32 := Scalar.addi v1727 c2_i32_877
  let c8_i32_878 : BitVec 32 := 8#32
  let v1729 : BitVec 32 := Scalar.muli v1728 c8_i32_878
  v1729
def k0_mult196 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_880 : BitVec 32 := 2#32
  let v1735 : BitVec 32 := Scalar.addi v1711 c2_i32_880
  let c3_i32_881 : BitVec 32 := 3#32
  let v1736 : BitVec 32 := Scalar.addi v1735 c3_i32_881
  let c8_i32_882 : BitVec 32 := 8#32
  let v1737 : BitVec 32 := Scalar.muli v1736 c8_i32_882
  v1737
def k0_mult197 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_884 : BitVec 32 := 2#32
  let v1743 : BitVec 32 := Scalar.addi v1711 c2_i32_884
  let c4_i32_885 : BitVec 32 := 4#32
  let v1744 : BitVec 32 := Scalar.addi v1743 c4_i32_885
  let c8_i32_886 : BitVec 32 := 8#32
  let v1745 : BitVec 32 := Scalar.muli v1744 c8_i32_886
  v1745
def k0_mult198 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_888 : BitVec 32 := 2#32
  let v1751 : BitVec 32 := Scalar.addi v1711 c2_i32_888
  let c5_i32_889 : BitVec 32 := 5#32
  let v1752 : BitVec 32 := Scalar.addi v1751 c5_i32_889
  let c8_i32_890 : BitVec 32 := 8#32
  let v1753 : BitVec 32 := Scalar.muli v1752 c8_i32_890
  v1753
def k0_mult199 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_892 : BitVec 32 := 2#32
  let v1759 : BitVec 32 := Scalar.addi v1711 c2_i32_892
  let c6_i32_893 : BitVec 32 := 6#32
  let v1760 : BitVec 32 := Scalar.addi v1759 c6_i32_893
  let c8_i32_894 : BitVec 32 := 8#32
  let v1761 : BitVec 32 := Scalar.muli v1760 c8_i32_894
  v1761
def k0_mult200 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_896 : BitVec 32 := 2#32
  let v1767 : BitVec 32 := Scalar.addi v1711 c2_i32_896
  let c7_i32_897 : BitVec 32 := 7#32
  let v1768 : BitVec 32 := Scalar.addi v1767 c7_i32_897
  let c8_i32_898 : BitVec 32 := 8#32
  let v1769 : BitVec 32 := Scalar.muli v1768 c8_i32_898
  v1769
def k0_mult201 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_900 : BitVec 32 := 2#32
  let v1775 : BitVec 32 := Scalar.addi v1711 c2_i32_900
  let c8_i32_901 : BitVec 32 := 8#32
  let v1776 : BitVec 32 := Scalar.addi v1775 c8_i32_901
  let c8_i32_902 : BitVec 32 := 8#32
  let v1777 : BitVec 32 := Scalar.muli v1776 c8_i32_902
  v1777
def k0_mult202 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_904 : BitVec 32 := 2#32
  let v1783 : BitVec 32 := Scalar.addi v1711 c2_i32_904
  let c9_i32_905 : BitVec 32 := 9#32
  let v1784 : BitVec 32 := Scalar.addi v1783 c9_i32_905
  let c8_i32_906 : BitVec 32 := 8#32
  let v1785 : BitVec 32 := Scalar.muli v1784 c8_i32_906
  v1785
def k0_mult203 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_908 : BitVec 32 := 2#32
  let v1791 : BitVec 32 := Scalar.addi v1711 c2_i32_908
  let c10_i32_909 : BitVec 32 := 10#32
  let v1792 : BitVec 32 := Scalar.addi v1791 c10_i32_909
  let c8_i32_910 : BitVec 32 := 8#32
  let v1793 : BitVec 32 := Scalar.muli v1792 c8_i32_910
  v1793
def k0_mult204 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_912 : BitVec 32 := 2#32
  let v1799 : BitVec 32 := Scalar.addi v1711 c2_i32_912
  let c11_i32_913 : BitVec 32 := 11#32
  let v1800 : BitVec 32 := Scalar.addi v1799 c11_i32_913
  let c8_i32_914 : BitVec 32 := 8#32
  let v1801 : BitVec 32 := Scalar.muli v1800 c8_i32_914
  v1801
def k0_mult205 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_916 : BitVec 32 := 2#32
  let v1807 : BitVec 32 := Scalar.addi v1711 c2_i32_916
  let c12_i32_917 : BitVec 32 := 12#32
  let v1808 : BitVec 32 := Scalar.addi v1807 c12_i32_917
  let c8_i32_918 : BitVec 32 := 8#32
  let v1809 : BitVec 32 := Scalar.muli v1808 c8_i32_918
  v1809
def k0_mult206 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_920 : BitVec 32 := 2#32
  let v1815 : BitVec 32 := Scalar.addi v1711 c2_i32_920
  let c13_i32_921 : BitVec 32 := 13#32
  let v1816 : BitVec 32 := Scalar.addi v1815 c13_i32_921
  let c8_i32_922 : BitVec 32 := 8#32
  let v1817 : BitVec 32 := Scalar.muli v1816 c8_i32_922
  v1817
def k0_mult207 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_924 : BitVec 32 := 2#32
  let v1823 : BitVec 32 := Scalar.addi v1711 c2_i32_924
  let c14_i32_925 : BitVec 32 := 14#32
  let v1824 : BitVec 32 := Scalar.addi v1823 c14_i32_925
  let c8_i32_926 : BitVec 32 := 8#32
  let v1825 : BitVec 32 := Scalar.muli v1824 c8_i32_926
  v1825
def k0_mult208 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_928 : BitVec 32 := 2#32
  let v1831 : BitVec 32 := Scalar.addi v1711 c2_i32_928
  let c15_i32_929 : BitVec 32 := 15#32
  let v1832 : BitVec 32 := Scalar.addi v1831 c15_i32_929
  let c8_i32_930 : BitVec 32 := 8#32
  let v1833 : BitVec 32 := Scalar.muli v1832 c8_i32_930
  v1833
def k0_mult209 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_932 : BitVec 32 := 2#32
  let v1839 : BitVec 32 := Scalar.addi v1711 c2_i32_932
  let c16_i32_933 : BitVec 32 := 16#32
  let v1840 : BitVec 32 := Scalar.addi v1839 c16_i32_933
  let c8_i32_934 : BitVec 32 := 8#32
  let v1841 : BitVec 32 := Scalar.muli v1840 c8_i32_934
  v1841
def k0_mult210 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_936 : BitVec 32 := 2#32
  let v1847 : BitVec 32 := Scalar.addi v1711 c2_i32_936
  let c17_i32_937 : BitVec 32 := 17#32
  let v1848 : BitVec 32 := Scalar.addi v1847 c17_i32_937
  let c8_i32_938 : BitVec 32 := 8#32
  let v1849 : BitVec 32 := Scalar.muli v1848 c8_i32_938
  v1849
def k0_mult211 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_940 : BitVec 32 := 2#32
  let v1855 : BitVec 32 := Scalar.addi v1711 c2_i32_940
  let c18_i32_941 : BitVec 32 := 18#32
  let v1856 : BitVec 32 := Scalar.addi v1855 c18_i32_941
  let c8_i32_942 : BitVec 32 := 8#32
  let v1857 : BitVec 32 := Scalar.muli v1856 c8_i32_942
  v1857
def k0_mult212 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_944 : BitVec 32 := 2#32
  let v1863 : BitVec 32 := Scalar.addi v1711 c2_i32_944
  let c19_i32_945 : BitVec 32 := 19#32
  let v1864 : BitVec 32 := Scalar.addi v1863 c19_i32_945
  let c8_i32_946 : BitVec 32 := 8#32
  let v1865 : BitVec 32 := Scalar.muli v1864 c8_i32_946
  v1865
def k0_mult213 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_948 : BitVec 32 := 2#32
  let v1871 : BitVec 32 := Scalar.addi v1711 c2_i32_948
  let c20_i32_949 : BitVec 32 := 20#32
  let v1872 : BitVec 32 := Scalar.addi v1871 c20_i32_949
  let c8_i32_950 : BitVec 32 := 8#32
  let v1873 : BitVec 32 := Scalar.muli v1872 c8_i32_950
  v1873
def k0_mult214 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_952 : BitVec 32 := 2#32
  let v1879 : BitVec 32 := Scalar.addi v1711 c2_i32_952
  let c21_i32_953 : BitVec 32 := 21#32
  let v1880 : BitVec 32 := Scalar.addi v1879 c21_i32_953
  let c8_i32_954 : BitVec 32 := 8#32
  let v1881 : BitVec 32 := Scalar.muli v1880 c8_i32_954
  v1881
def k0_mult215 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_956 : BitVec 32 := 2#32
  let v1887 : BitVec 32 := Scalar.addi v1711 c2_i32_956
  let c22_i32_957 : BitVec 32 := 22#32
  let v1888 : BitVec 32 := Scalar.addi v1887 c22_i32_957
  let c8_i32_958 : BitVec 32 := 8#32
  let v1889 : BitVec 32 := Scalar.muli v1888 c8_i32_958
  v1889
def k0_mult216 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_960 : BitVec 32 := 2#32
  let v1895 : BitVec 32 := Scalar.addi v1711 c2_i32_960
  let c23_i32_961 : BitVec 32 := 23#32
  let v1896 : BitVec 32 := Scalar.addi v1895 c23_i32_961
  let c8_i32_962 : BitVec 32 := 8#32
  let v1897 : BitVec 32 := Scalar.muli v1896 c8_i32_962
  v1897
def k0_mult217 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_964 : BitVec 32 := 2#32
  let v1903 : BitVec 32 := Scalar.addi v1711 c2_i32_964
  let c24_i32_965 : BitVec 32 := 24#32
  let v1904 : BitVec 32 := Scalar.addi v1903 c24_i32_965
  let c8_i32_966 : BitVec 32 := 8#32
  let v1905 : BitVec 32 := Scalar.muli v1904 c8_i32_966
  v1905
def k0_mult218 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_968 : BitVec 32 := 2#32
  let v1911 : BitVec 32 := Scalar.addi v1711 c2_i32_968
  let c25_i32_969 : BitVec 32 := 25#32
  let v1912 : BitVec 32 := Scalar.addi v1911 c25_i32_969
  let c8_i32_970 : BitVec 32 := 8#32
  let v1913 : BitVec 32 := Scalar.muli v1912 c8_i32_970
  v1913
def k0_mult219 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_972 : BitVec 32 := 2#32
  let v1919 : BitVec 32 := Scalar.addi v1711 c2_i32_972
  let c26_i32_973 : BitVec 32 := 26#32
  let v1920 : BitVec 32 := Scalar.addi v1919 c26_i32_973
  let c8_i32_974 : BitVec 32 := 8#32
  let v1921 : BitVec 32 := Scalar.muli v1920 c8_i32_974
  v1921
def k0_mult220 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_976 : BitVec 32 := 2#32
  let v1927 : BitVec 32 := Scalar.addi v1711 c2_i32_976
  let c27_i32_977 : BitVec 32 := 27#32
  let v1928 : BitVec 32 := Scalar.addi v1927 c27_i32_977
  let c8_i32_978 : BitVec 32 := 8#32
  let v1929 : BitVec 32 := Scalar.muli v1928 c8_i32_978
  v1929
def k0_mult221 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_980 : BitVec 32 := 2#32
  let v1935 : BitVec 32 := Scalar.addi v1711 c2_i32_980
  let c28_i32_981 : BitVec 32 := 28#32
  let v1936 : BitVec 32 := Scalar.addi v1935 c28_i32_981
  let c8_i32_982 : BitVec 32 := 8#32
  let v1937 : BitVec 32 := Scalar.muli v1936 c8_i32_982
  v1937
def k0_mult222 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_984 : BitVec 32 := 2#32
  let v1943 : BitVec 32 := Scalar.addi v1711 c2_i32_984
  let c29_i32_985 : BitVec 32 := 29#32
  let v1944 : BitVec 32 := Scalar.addi v1943 c29_i32_985
  let c8_i32_986 : BitVec 32 := 8#32
  let v1945 : BitVec 32 := Scalar.muli v1944 c8_i32_986
  v1945
def k0_mult223 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c2_i32_988 : BitVec 32 := 2#32
  let v1951 : BitVec 32 := Scalar.addi v1711 c2_i32_988
  let c30_i32_989 : BitVec 32 := 30#32
  let v1952 : BitVec 32 := Scalar.addi v1951 c30_i32_989
  let c8_i32_990 : BitVec 32 := 8#32
  let v1953 : BitVec 32 := Scalar.muli v1952 c8_i32_990
  v1953
def k0_mult224 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_866 : BitVec 32 := 8#32
  let v1710 : BitVec 32 := Scalar.muli arg12 c8_i32_866
  let c6_i32_867 : BitVec 32 := 6#32
  let v1711 : BitVec 32 := Scalar.addi v1710 c6_i32_867
  let c8_i32_992 : BitVec 32 := 8#32
  let v1959 : BitVec 32 := Scalar.muli v1711 c8_i32_992
  v1959
def k0_mult225 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_996 : BitVec 32 := 2#32
  let v1967 : BitVec 32 := Scalar.addi v1966 c2_i32_996
  let c0_i32_997 : BitVec 32 := 0#32
  let v1968 : BitVec 32 := Scalar.addi v1967 c0_i32_997
  let c8_i32_998 : BitVec 32 := 8#32
  let v1969 : BitVec 32 := Scalar.muli v1968 c8_i32_998
  v1969
def k0_mult226 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1000 : BitVec 32 := 2#32
  let v1974 : BitVec 32 := Scalar.addi v1966 c2_i32_1000
  let c1_i32_1001 : BitVec 32 := 1#32
  let v1975 : BitVec 32 := Scalar.addi v1974 c1_i32_1001
  let c8_i32_1002 : BitVec 32 := 8#32
  let v1976 : BitVec 32 := Scalar.muli v1975 c8_i32_1002
  v1976
def k0_mult227 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1004 : BitVec 32 := 2#32
  let v1982 : BitVec 32 := Scalar.addi v1966 c2_i32_1004
  let c2_i32_1005 : BitVec 32 := 2#32
  let v1983 : BitVec 32 := Scalar.addi v1982 c2_i32_1005
  let c8_i32_1006 : BitVec 32 := 8#32
  let v1984 : BitVec 32 := Scalar.muli v1983 c8_i32_1006
  v1984
def k0_mult228 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1008 : BitVec 32 := 2#32
  let v1990 : BitVec 32 := Scalar.addi v1966 c2_i32_1008
  let c3_i32_1009 : BitVec 32 := 3#32
  let v1991 : BitVec 32 := Scalar.addi v1990 c3_i32_1009
  let c8_i32_1010 : BitVec 32 := 8#32
  let v1992 : BitVec 32 := Scalar.muli v1991 c8_i32_1010
  v1992
def k0_mult229 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1012 : BitVec 32 := 2#32
  let v1998 : BitVec 32 := Scalar.addi v1966 c2_i32_1012
  let c4_i32_1013 : BitVec 32 := 4#32
  let v1999 : BitVec 32 := Scalar.addi v1998 c4_i32_1013
  let c8_i32_1014 : BitVec 32 := 8#32
  let v2000 : BitVec 32 := Scalar.muli v1999 c8_i32_1014
  v2000
def k0_mult230 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1016 : BitVec 32 := 2#32
  let v2006 : BitVec 32 := Scalar.addi v1966 c2_i32_1016
  let c5_i32_1017 : BitVec 32 := 5#32
  let v2007 : BitVec 32 := Scalar.addi v2006 c5_i32_1017
  let c8_i32_1018 : BitVec 32 := 8#32
  let v2008 : BitVec 32 := Scalar.muli v2007 c8_i32_1018
  v2008
def k0_mult231 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1020 : BitVec 32 := 2#32
  let v2014 : BitVec 32 := Scalar.addi v1966 c2_i32_1020
  let c6_i32_1021 : BitVec 32 := 6#32
  let v2015 : BitVec 32 := Scalar.addi v2014 c6_i32_1021
  let c8_i32_1022 : BitVec 32 := 8#32
  let v2016 : BitVec 32 := Scalar.muli v2015 c8_i32_1022
  v2016
def k0_mult232 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1024 : BitVec 32 := 2#32
  let v2022 : BitVec 32 := Scalar.addi v1966 c2_i32_1024
  let c7_i32_1025 : BitVec 32 := 7#32
  let v2023 : BitVec 32 := Scalar.addi v2022 c7_i32_1025
  let c8_i32_1026 : BitVec 32 := 8#32
  let v2024 : BitVec 32 := Scalar.muli v2023 c8_i32_1026
  v2024
def k0_mult233 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1028 : BitVec 32 := 2#32
  let v2030 : BitVec 32 := Scalar.addi v1966 c2_i32_1028
  let c8_i32_1029 : BitVec 32 := 8#32
  let v2031 : BitVec 32 := Scalar.addi v2030 c8_i32_1029
  let c8_i32_1030 : BitVec 32 := 8#32
  let v2032 : BitVec 32 := Scalar.muli v2031 c8_i32_1030
  v2032
def k0_mult234 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1032 : BitVec 32 := 2#32
  let v2038 : BitVec 32 := Scalar.addi v1966 c2_i32_1032
  let c9_i32_1033 : BitVec 32 := 9#32
  let v2039 : BitVec 32 := Scalar.addi v2038 c9_i32_1033
  let c8_i32_1034 : BitVec 32 := 8#32
  let v2040 : BitVec 32 := Scalar.muli v2039 c8_i32_1034
  v2040
def k0_mult235 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1036 : BitVec 32 := 2#32
  let v2046 : BitVec 32 := Scalar.addi v1966 c2_i32_1036
  let c10_i32_1037 : BitVec 32 := 10#32
  let v2047 : BitVec 32 := Scalar.addi v2046 c10_i32_1037
  let c8_i32_1038 : BitVec 32 := 8#32
  let v2048 : BitVec 32 := Scalar.muli v2047 c8_i32_1038
  v2048
def k0_mult236 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1040 : BitVec 32 := 2#32
  let v2054 : BitVec 32 := Scalar.addi v1966 c2_i32_1040
  let c11_i32_1041 : BitVec 32 := 11#32
  let v2055 : BitVec 32 := Scalar.addi v2054 c11_i32_1041
  let c8_i32_1042 : BitVec 32 := 8#32
  let v2056 : BitVec 32 := Scalar.muli v2055 c8_i32_1042
  v2056
def k0_mult237 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1044 : BitVec 32 := 2#32
  let v2062 : BitVec 32 := Scalar.addi v1966 c2_i32_1044
  let c12_i32_1045 : BitVec 32 := 12#32
  let v2063 : BitVec 32 := Scalar.addi v2062 c12_i32_1045
  let c8_i32_1046 : BitVec 32 := 8#32
  let v2064 : BitVec 32 := Scalar.muli v2063 c8_i32_1046
  v2064
def k0_mult238 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1048 : BitVec 32 := 2#32
  let v2070 : BitVec 32 := Scalar.addi v1966 c2_i32_1048
  let c13_i32_1049 : BitVec 32 := 13#32
  let v2071 : BitVec 32 := Scalar.addi v2070 c13_i32_1049
  let c8_i32_1050 : BitVec 32 := 8#32
  let v2072 : BitVec 32 := Scalar.muli v2071 c8_i32_1050
  v2072
def k0_mult239 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1052 : BitVec 32 := 2#32
  let v2078 : BitVec 32 := Scalar.addi v1966 c2_i32_1052
  let c14_i32_1053 : BitVec 32 := 14#32
  let v2079 : BitVec 32 := Scalar.addi v2078 c14_i32_1053
  let c8_i32_1054 : BitVec 32 := 8#32
  let v2080 : BitVec 32 := Scalar.muli v2079 c8_i32_1054
  v2080
def k0_mult240 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1056 : BitVec 32 := 2#32
  let v2086 : BitVec 32 := Scalar.addi v1966 c2_i32_1056
  let c15_i32_1057 : BitVec 32 := 15#32
  let v2087 : BitVec 32 := Scalar.addi v2086 c15_i32_1057
  let c8_i32_1058 : BitVec 32 := 8#32
  let v2088 : BitVec 32 := Scalar.muli v2087 c8_i32_1058
  v2088
def k0_mult241 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1060 : BitVec 32 := 2#32
  let v2094 : BitVec 32 := Scalar.addi v1966 c2_i32_1060
  let c16_i32_1061 : BitVec 32 := 16#32
  let v2095 : BitVec 32 := Scalar.addi v2094 c16_i32_1061
  let c8_i32_1062 : BitVec 32 := 8#32
  let v2096 : BitVec 32 := Scalar.muli v2095 c8_i32_1062
  v2096
def k0_mult242 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1064 : BitVec 32 := 2#32
  let v2102 : BitVec 32 := Scalar.addi v1966 c2_i32_1064
  let c17_i32_1065 : BitVec 32 := 17#32
  let v2103 : BitVec 32 := Scalar.addi v2102 c17_i32_1065
  let c8_i32_1066 : BitVec 32 := 8#32
  let v2104 : BitVec 32 := Scalar.muli v2103 c8_i32_1066
  v2104
def k0_mult243 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1068 : BitVec 32 := 2#32
  let v2110 : BitVec 32 := Scalar.addi v1966 c2_i32_1068
  let c18_i32_1069 : BitVec 32 := 18#32
  let v2111 : BitVec 32 := Scalar.addi v2110 c18_i32_1069
  let c8_i32_1070 : BitVec 32 := 8#32
  let v2112 : BitVec 32 := Scalar.muli v2111 c8_i32_1070
  v2112
def k0_mult244 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1072 : BitVec 32 := 2#32
  let v2118 : BitVec 32 := Scalar.addi v1966 c2_i32_1072
  let c19_i32_1073 : BitVec 32 := 19#32
  let v2119 : BitVec 32 := Scalar.addi v2118 c19_i32_1073
  let c8_i32_1074 : BitVec 32 := 8#32
  let v2120 : BitVec 32 := Scalar.muli v2119 c8_i32_1074
  v2120
def k0_mult245 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1076 : BitVec 32 := 2#32
  let v2126 : BitVec 32 := Scalar.addi v1966 c2_i32_1076
  let c20_i32_1077 : BitVec 32 := 20#32
  let v2127 : BitVec 32 := Scalar.addi v2126 c20_i32_1077
  let c8_i32_1078 : BitVec 32 := 8#32
  let v2128 : BitVec 32 := Scalar.muli v2127 c8_i32_1078
  v2128
def k0_mult246 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1080 : BitVec 32 := 2#32
  let v2134 : BitVec 32 := Scalar.addi v1966 c2_i32_1080
  let c21_i32_1081 : BitVec 32 := 21#32
  let v2135 : BitVec 32 := Scalar.addi v2134 c21_i32_1081
  let c8_i32_1082 : BitVec 32 := 8#32
  let v2136 : BitVec 32 := Scalar.muli v2135 c8_i32_1082
  v2136
def k0_mult247 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1084 : BitVec 32 := 2#32
  let v2142 : BitVec 32 := Scalar.addi v1966 c2_i32_1084
  let c22_i32_1085 : BitVec 32 := 22#32
  let v2143 : BitVec 32 := Scalar.addi v2142 c22_i32_1085
  let c8_i32_1086 : BitVec 32 := 8#32
  let v2144 : BitVec 32 := Scalar.muli v2143 c8_i32_1086
  v2144
def k0_mult248 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1088 : BitVec 32 := 2#32
  let v2150 : BitVec 32 := Scalar.addi v1966 c2_i32_1088
  let c23_i32_1089 : BitVec 32 := 23#32
  let v2151 : BitVec 32 := Scalar.addi v2150 c23_i32_1089
  let c8_i32_1090 : BitVec 32 := 8#32
  let v2152 : BitVec 32 := Scalar.muli v2151 c8_i32_1090
  v2152
def k0_mult249 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1092 : BitVec 32 := 2#32
  let v2158 : BitVec 32 := Scalar.addi v1966 c2_i32_1092
  let c24_i32_1093 : BitVec 32 := 24#32
  let v2159 : BitVec 32 := Scalar.addi v2158 c24_i32_1093
  let c8_i32_1094 : BitVec 32 := 8#32
  let v2160 : BitVec 32 := Scalar.muli v2159 c8_i32_1094
  v2160
def k0_mult250 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1096 : BitVec 32 := 2#32
  let v2166 : BitVec 32 := Scalar.addi v1966 c2_i32_1096
  let c25_i32_1097 : BitVec 32 := 25#32
  let v2167 : BitVec 32 := Scalar.addi v2166 c25_i32_1097
  let c8_i32_1098 : BitVec 32 := 8#32
  let v2168 : BitVec 32 := Scalar.muli v2167 c8_i32_1098
  v2168
def k0_mult251 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1100 : BitVec 32 := 2#32
  let v2174 : BitVec 32 := Scalar.addi v1966 c2_i32_1100
  let c26_i32_1101 : BitVec 32 := 26#32
  let v2175 : BitVec 32 := Scalar.addi v2174 c26_i32_1101
  let c8_i32_1102 : BitVec 32 := 8#32
  let v2176 : BitVec 32 := Scalar.muli v2175 c8_i32_1102
  v2176
def k0_mult252 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1104 : BitVec 32 := 2#32
  let v2182 : BitVec 32 := Scalar.addi v1966 c2_i32_1104
  let c27_i32_1105 : BitVec 32 := 27#32
  let v2183 : BitVec 32 := Scalar.addi v2182 c27_i32_1105
  let c8_i32_1106 : BitVec 32 := 8#32
  let v2184 : BitVec 32 := Scalar.muli v2183 c8_i32_1106
  v2184
def k0_mult253 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1108 : BitVec 32 := 2#32
  let v2190 : BitVec 32 := Scalar.addi v1966 c2_i32_1108
  let c28_i32_1109 : BitVec 32 := 28#32
  let v2191 : BitVec 32 := Scalar.addi v2190 c28_i32_1109
  let c8_i32_1110 : BitVec 32 := 8#32
  let v2192 : BitVec 32 := Scalar.muli v2191 c8_i32_1110
  v2192
def k0_mult254 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1112 : BitVec 32 := 2#32
  let v2198 : BitVec 32 := Scalar.addi v1966 c2_i32_1112
  let c29_i32_1113 : BitVec 32 := 29#32
  let v2199 : BitVec 32 := Scalar.addi v2198 c29_i32_1113
  let c8_i32_1114 : BitVec 32 := 8#32
  let v2200 : BitVec 32 := Scalar.muli v2199 c8_i32_1114
  v2200
def k0_mult255 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c2_i32_1116 : BitVec 32 := 2#32
  let v2206 : BitVec 32 := Scalar.addi v1966 c2_i32_1116
  let c30_i32_1117 : BitVec 32 := 30#32
  let v2207 : BitVec 32 := Scalar.addi v2206 c30_i32_1117
  let c8_i32_1118 : BitVec 32 := 8#32
  let v2208 : BitVec 32 := Scalar.muli v2207 c8_i32_1118
  v2208
def k0_mult256 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_994 : BitVec 32 := 8#32
  let v1965 : BitVec 32 := Scalar.muli arg12 c8_i32_994
  let c7_i32_995 : BitVec 32 := 7#32
  let v1966 : BitVec 32 := Scalar.addi v1965 c7_i32_995
  let c8_i32_1120 : BitVec 32 := 8#32
  let v2214 : BitVec 32 := Scalar.muli v1966 c8_i32_1120
  v2214
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c2_i32 : BitVec 32 := 2#32
  let v3 : BitVec 32 := Scalar.muli v2 c2_i32
  let c1_i32_0 : BitVec 32 := 1#32
  let v4 : BitVec 32 := Scalar.subi v3 c1_i32_0
  let c0_i32 : BitVec 32 := 0#32
  let v5 : BitVec 32 := Scalar.maxsi v4 c0_i32
  let c0_i32_1 : BitVec 32 := 0#32
  let c0_i32_2 : BitVec 32 := 0#32
  ![v5.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S16896x1024 : Shape := ⟨2, ![16896, 1024]⟩
abbrev S1x8x30x1024 : Shape := ⟨4, ![1, 8, 30, 1024]⟩
abbrev S1x31x1024 : Shape := ⟨3, ![1, 31, 1024]⟩
abbrev S1x1024 : Shape := ⟨2, ![1, 1024]⟩
abbrev S512x1024 : Shape := ⟨2, ![512, 1024]⟩
abbrev S8x64x1024 : Shape := ⟨3, ![8, 64, 1024]⟩
abbrev S8x30x1024 : Shape := ⟨3, ![8, 30, 1024]⟩
abbrev S31x1024 : Shape := ⟨2, ![31, 1024]⟩
abbrev S8x94x1024 : Shape := ⟨3, ![8, 94, 1024]⟩
abbrev S1024 : Shape := ⟨1, ![1024]⟩
abbrev S1x1x1024 : Shape := ⟨3, ![1, 1, 1024]⟩
abbrev S_ : Shape := ⟨0, ![]⟩
abbrev S8x64 : Shape := ⟨2, ![8, 64]⟩
abbrev S8x64x1 : Shape := ⟨3, ![8, 64, 1]⟩

abbrev nBuf : Space → Nat
  | .hbm => 276
  | .vmem => 0
  | .smem => 0
  | _ => 0

abbrev hbmTy0_0 (i : Nat) : BufTy := match i % 128 with
  | 0 => ⟨S16896x1024, .f32⟩
  | 1 => ⟨S1x8x30x1024, .f32⟩
  | 2 => ⟨S1x31x1024, .f32⟩
  | 3 => ⟨S1x1024, .f32⟩
  | 4 => ⟨S1x1024, .f32⟩
  | 5 => ⟨S1x1024, .f32⟩
  | 6 => ⟨S512x1024, .f32⟩
  | 7 => ⟨S8x64x1024, .f32⟩
  | 8 => ⟨S8x30x1024, .f32⟩
  | 9 => ⟨S31x1024, .f32⟩
  | 10 => ⟨S8x94x1024, .f32⟩
  | 11 => ⟨S8x64x1024, .f32⟩
  | 12 => ⟨S1x1024, .f32⟩
  | 13 => ⟨S1024, .f32⟩
  | 14 => ⟨S1x1x1024, .f32⟩
  | 15 => ⟨S8x64x1024, .f32⟩
  | 16 => ⟨S8x64x1024, .f32⟩
  | 17 => ⟨S_, .f32⟩
  | 18 => ⟨S8x64x1024, .f32⟩
  | 19 => ⟨S8x64x1024, .f32⟩
  | 20 => ⟨S8x64x1024, .f32⟩
  | 21 => ⟨S1x1024, .f32⟩
  | 22 => ⟨S1024, .f32⟩
  | 23 => ⟨S1x1x1024, .f32⟩
  | 24 => ⟨S8x64x1024, .f32⟩
  | 25 => ⟨S8x64x1024, .f32⟩
  | 26 => ⟨S8x64x1024, .f32⟩
  | 27 => ⟨S8x64x1024, .f32⟩
  | 28 => ⟨S1x1024, .f32⟩
  | 29 => ⟨S1024, .f32⟩
  | 30 => ⟨S1x1x1024, .f32⟩
  | 31 => ⟨S8x64x1024, .f32⟩
  | 32 => ⟨S8x64x1024, .f32⟩
  | 33 => ⟨S8x64x1024, .f32⟩
  | 34 => ⟨S8x64x1024, .f32⟩
  | 35 => ⟨S1x1024, .f32⟩
  | 36 => ⟨S1024, .f32⟩
  | 37 => ⟨S1x1x1024, .f32⟩
  | 38 => ⟨S8x64x1024, .f32⟩
  | 39 => ⟨S8x64x1024, .f32⟩
  | 40 => ⟨S8x64x1024, .f32⟩
  | 41 => ⟨S8x64x1024, .f32⟩
  | 42 => ⟨S1x1024, .f32⟩
  | 43 => ⟨S1024, .f32⟩
  | 44 => ⟨S1x1x1024, .f32⟩
  | 45 => ⟨S8x64x1024, .f32⟩
  | 46 => ⟨S8x64x1024, .f32⟩
  | 47 => ⟨S8x64x1024, .f32⟩
  | 48 => ⟨S8x64x1024, .f32⟩
  | 49 => ⟨S1x1024, .f32⟩
  | 50 => ⟨S1024, .f32⟩
  | 51 => ⟨S1x1x1024, .f32⟩
  | 52 => ⟨S8x64x1024, .f32⟩
  | 53 => ⟨S8x64x1024, .f32⟩
  | 54 => ⟨S8x64x1024, .f32⟩
  | 55 => ⟨S8x64x1024, .f32⟩
  | 56 => ⟨S1x1024, .f32⟩
  | 57 => ⟨S1024, .f32⟩
  | 58 => ⟨S1x1x1024, .f32⟩
  | 59 => ⟨S8x64x1024, .f32⟩
  | 60 => ⟨S8x64x1024, .f32⟩
  | 61 => ⟨S8x64x1024, .f32⟩
  | 62 => ⟨S8x64x1024, .f32⟩
  | 63 => ⟨S1x1024, .f32⟩
  | 64 => ⟨S1024, .f32⟩
  | 65 => ⟨S1x1x1024, .f32⟩
  | 66 => ⟨S8x64x1024, .f32⟩
  | 67 => ⟨S8x64x1024, .f32⟩
  | 68 => ⟨S8x64x1024, .f32⟩
  | 69 => ⟨S8x64x1024, .f32⟩
  | 70 => ⟨S1x1024, .f32⟩
  | 71 => ⟨S1024, .f32⟩
  | 72 => ⟨S1x1x1024, .f32⟩
  | 73 => ⟨S8x64x1024, .f32⟩
  | 74 => ⟨S8x64x1024, .f32⟩
  | 75 => ⟨S8x64x1024, .f32⟩
  | 76 => ⟨S8x64x1024, .f32⟩
  | 77 => ⟨S1x1024, .f32⟩
  | 78 => ⟨S1024, .f32⟩
  | 79 => ⟨S1x1x1024, .f32⟩
  | 80 => ⟨S8x64x1024, .f32⟩
  | 81 => ⟨S8x64x1024, .f32⟩
  | 82 => ⟨S8x64x1024, .f32⟩
  | 83 => ⟨S8x64x1024, .f32⟩
  | 84 => ⟨S1x1024, .f32⟩
  | 85 => ⟨S1024, .f32⟩
  | 86 => ⟨S1x1x1024, .f32⟩
  | 87 => ⟨S8x64x1024, .f32⟩
  | 88 => ⟨S8x64x1024, .f32⟩
  | 89 => ⟨S8x64x1024, .f32⟩
  | 90 => ⟨S8x64x1024, .f32⟩
  | 91 => ⟨S1x1024, .f32⟩
  | 92 => ⟨S1024, .f32⟩
  | 93 => ⟨S1x1x1024, .f32⟩
  | 94 => ⟨S8x64x1024, .f32⟩
  | 95 => ⟨S8x64x1024, .f32⟩
  | 96 => ⟨S8x64x1024, .f32⟩
  | 97 => ⟨S8x64x1024, .f32⟩
  | 98 => ⟨S1x1024, .f32⟩
  | 99 => ⟨S1024, .f32⟩
  | 100 => ⟨S1x1x1024, .f32⟩
  | 101 => ⟨S8x64x1024, .f32⟩
  | 102 => ⟨S8x64x1024, .f32⟩
  | 103 => ⟨S8x64x1024, .f32⟩
  | 104 => ⟨S8x64x1024, .f32⟩
  | 105 => ⟨S1x1024, .f32⟩
  | 106 => ⟨S1024, .f32⟩
  | 107 => ⟨S1x1x1024, .f32⟩
  | 108 => ⟨S8x64x1024, .f32⟩
  | 109 => ⟨S8x64x1024, .f32⟩
  | 110 => ⟨S8x64x1024, .f32⟩
  | 111 => ⟨S8x64x1024, .f32⟩
  | 112 => ⟨S1x1024, .f32⟩
  | 113 => ⟨S1024, .f32⟩
  | 114 => ⟨S1x1x1024, .f32⟩
  | 115 => ⟨S8x64x1024, .f32⟩
  | 116 => ⟨S8x64x1024, .f32⟩
  | 117 => ⟨S8x64x1024, .f32⟩
  | 118 => ⟨S8x64x1024, .f32⟩
  | 119 => ⟨S1x1024, .f32⟩
  | 120 => ⟨S1024, .f32⟩
  | 121 => ⟨S1x1x1024, .f32⟩
  | 122 => ⟨S8x64x1024, .f32⟩
  | 123 => ⟨S8x64x1024, .f32⟩
  | 124 => ⟨S8x64x1024, .f32⟩
  | 125 => ⟨S8x64x1024, .f32⟩
  | 126 => ⟨S1x1024, .f32⟩
  | 127 => ⟨S1024, .f32⟩
  | _ => ⟨S16896x1024, .f32⟩

abbrev hbmTy0_1 (i : Nat) : BufTy := match i % 128 with
  | 0 => ⟨S1x1x1024, .f32⟩
  | 1 => ⟨S8x64x1024, .f32⟩
  | 2 => ⟨S8x64x1024, .f32⟩
  | 3 => ⟨S8x64x1024, .f32⟩
  | 4 => ⟨S8x64x1024, .f32⟩
  | 5 => ⟨S1x1024, .f32⟩
  | 6 => ⟨S1024, .f32⟩
  | 7 => ⟨S1x1x1024, .f32⟩
  | 8 => ⟨S8x64x1024, .f32⟩
  | 9 => ⟨S8x64x1024, .f32⟩
  | 10 => ⟨S8x64x1024, .f32⟩
  | 11 => ⟨S8x64x1024, .f32⟩
  | 12 => ⟨S1x1024, .f32⟩
  | 13 => ⟨S1024, .f32⟩
  | 14 => ⟨S1x1x1024, .f32⟩
  | 15 => ⟨S8x64x1024, .f32⟩
  | 16 => ⟨S8x64x1024, .f32⟩
  | 17 => ⟨S8x64x1024, .f32⟩
  | 18 => ⟨S8x64x1024, .f32⟩
  | 19 => ⟨S1x1024, .f32⟩
  | 20 => ⟨S1024, .f32⟩
  | 21 => ⟨S1x1x1024, .f32⟩
  | 22 => ⟨S8x64x1024, .f32⟩
  | 23 => ⟨S8x64x1024, .f32⟩
  | 24 => ⟨S8x64x1024, .f32⟩
  | 25 => ⟨S8x64x1024, .f32⟩
  | 26 => ⟨S1x1024, .f32⟩
  | 27 => ⟨S1024, .f32⟩
  | 28 => ⟨S1x1x1024, .f32⟩
  | 29 => ⟨S8x64x1024, .f32⟩
  | 30 => ⟨S8x64x1024, .f32⟩
  | 31 => ⟨S8x64x1024, .f32⟩
  | 32 => ⟨S8x64x1024, .f32⟩
  | 33 => ⟨S1x1024, .f32⟩
  | 34 => ⟨S1024, .f32⟩
  | 35 => ⟨S1x1x1024, .f32⟩
  | 36 => ⟨S8x64x1024, .f32⟩
  | 37 => ⟨S8x64x1024, .f32⟩
  | 38 => ⟨S8x64x1024, .f32⟩
  | 39 => ⟨S8x64x1024, .f32⟩
  | 40 => ⟨S1x1024, .f32⟩
  | 41 => ⟨S1024, .f32⟩
  | 42 => ⟨S1x1x1024, .f32⟩
  | 43 => ⟨S8x64x1024, .f32⟩
  | 44 => ⟨S8x64x1024, .f32⟩
  | 45 => ⟨S8x64x1024, .f32⟩
  | 46 => ⟨S8x64x1024, .f32⟩
  | 47 => ⟨S1x1024, .f32⟩
  | 48 => ⟨S1024, .f32⟩
  | 49 => ⟨S1x1x1024, .f32⟩
  | 50 => ⟨S8x64x1024, .f32⟩
  | 51 => ⟨S8x64x1024, .f32⟩
  | 52 => ⟨S8x64x1024, .f32⟩
  | 53 => ⟨S8x64x1024, .f32⟩
  | 54 => ⟨S1x1024, .f32⟩
  | 55 => ⟨S1024, .f32⟩
  | 56 => ⟨S1x1x1024, .f32⟩
  | 57 => ⟨S8x64x1024, .f32⟩
  | 58 => ⟨S8x64x1024, .f32⟩
  | 59 => ⟨S8x64x1024, .f32⟩
  | 60 => ⟨S8x64x1024, .f32⟩
  | 61 => ⟨S1x1024, .f32⟩
  | 62 => ⟨S1024, .f32⟩
  | 63 => ⟨S1x1x1024, .f32⟩
  | 64 => ⟨S8x64x1024, .f32⟩
  | 65 => ⟨S8x64x1024, .f32⟩
  | 66 => ⟨S8x64x1024, .f32⟩
  | 67 => ⟨S8x64x1024, .f32⟩
  | 68 => ⟨S1x1024, .f32⟩
  | 69 => ⟨S1024, .f32⟩
  | 70 => ⟨S1x1x1024, .f32⟩
  | 71 => ⟨S8x64x1024, .f32⟩
  | 72 => ⟨S8x64x1024, .f32⟩
  | 73 => ⟨S8x64x1024, .f32⟩
  | 74 => ⟨S8x64x1024, .f32⟩
  | 75 => ⟨S1x1024, .f32⟩
  | 76 => ⟨S1024, .f32⟩
  | 77 => ⟨S1x1x1024, .f32⟩
  | 78 => ⟨S8x64x1024, .f32⟩
  | 79 => ⟨S8x64x1024, .f32⟩
  | 80 => ⟨S8x64x1024, .f32⟩
  | 81 => ⟨S8x64x1024, .f32⟩
  | 82 => ⟨S1x1024, .f32⟩
  | 83 => ⟨S1024, .f32⟩
  | 84 => ⟨S1x1x1024, .f32⟩
  | 85 => ⟨S8x64x1024, .f32⟩
  | 86 => ⟨S8x64x1024, .f32⟩
  | 87 => ⟨S8x64x1024, .f32⟩
  | 88 => ⟨S8x64x1024, .f32⟩
  | 89 => ⟨S1x1024, .f32⟩
  | 90 => ⟨S1024, .f32⟩
  | 91 => ⟨S1x1x1024, .f32⟩
  | 92 => ⟨S8x64x1024, .f32⟩
  | 93 => ⟨S8x64x1024, .f32⟩
  | 94 => ⟨S8x64x1024, .f32⟩
  | 95 => ⟨S8x64x1024, .f32⟩
  | 96 => ⟨S1x1024, .f32⟩
  | 97 => ⟨S1024, .f32⟩
  | 98 => ⟨S1x1x1024, .f32⟩
  | 99 => ⟨S8x64x1024, .f32⟩
  | 100 => ⟨S8x64x1024, .f32⟩
  | 101 => ⟨S8x64x1024, .f32⟩
  | 102 => ⟨S1024, .f32⟩
  | 103 => ⟨S1x1x1024, .f32⟩
  | 104 => ⟨S8x64x1024, .f32⟩
  | 105 => ⟨S8x64x1024, .f32⟩
  | 106 => ⟨S_, .f32⟩
  | 107 => ⟨S8x64, .f32⟩
  | 108 => ⟨S8x64x1, .f32⟩
  | 109 => ⟨S_, .f32⟩
  | 110 => ⟨S8x64x1, .f32⟩
  | 111 => ⟨S8x64x1, .f32⟩
  | 112 => ⟨S8x64x1024, .f32⟩
  | 113 => ⟨S8x64x1024, .f32⟩
  | 114 => ⟨S8x64x1024, .f32⟩
  | 115 => ⟨S_, .f32⟩
  | 116 => ⟨S8x64, .f32⟩
  | 117 => ⟨S8x64x1, .f32⟩
  | 118 => ⟨S_, .f32⟩
  | 119 => ⟨S8x64x1, .f32⟩
  | 120 => ⟨S8x64x1, .f32⟩
  | 121 => ⟨S8x64x1024, .f32⟩
  | 122 => ⟨S8x64x1024, .f32⟩
  | 123 => ⟨S_, .f32⟩
  | 124 => ⟨S8x64x1, .f32⟩
  | 125 => ⟨S8x64x1, .f32⟩
  | 126 => ⟨S8x64x1, .f32⟩
  | 127 => ⟨S8x64x1024, .f32⟩
  | _ => ⟨S16896x1024, .f32⟩

abbrev hbmTy0_2 (i : Nat) : BufTy := match i % 128 with
  | 0 => ⟨S8x64x1024, .f32⟩
  | 1 => ⟨S1024, .f32⟩
  | 2 => ⟨S1x1x1024, .f32⟩
  | 3 => ⟨S8x64x1024, .f32⟩
  | 4 => ⟨S8x64x1024, .f32⟩
  | 5 => ⟨S1024, .f32⟩
  | 6 => ⟨S1x1x1024, .f32⟩
  | 7 => ⟨S8x64x1024, .f32⟩
  | 8 => ⟨S8x64x1024, .f32⟩
  | 9 => ⟨S8x64x1024, .f32⟩
  | 10 => ⟨S8x64x1024, .f32⟩
  | 11 => ⟨S_, .f32⟩
  | 12 => ⟨S8x64x1024, .f32⟩
  | 13 => ⟨S8x64x1024, .f32⟩
  | 14 => ⟨S_, .f32⟩
  | 15 => ⟨S8x64x1024, .f32⟩
  | 16 => ⟨S8x64x1024, .f32⟩
  | 17 => ⟨S8x64x1024, .f32⟩
  | 18 => ⟨S512x1024, .f32⟩
  | 19 => ⟨S512x1024, .bf16⟩
  | _ => ⟨S16896x1024, .f32⟩

abbrev hbmTy (i : Nat) : BufTy := match i / 128 with
  | 0 => hbmTy0_0 i
  | 1 => hbmTy0_1 i
  | 2 => hbmTy0_2 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_cst_0 : Ref sig .tc := ⟨.hbm, 234, rfl⟩
abbrev main_v227 : Ref sig .tc := ⟨.hbm, 235, rfl⟩
abbrev main_v228 : Ref sig .tc := ⟨.hbm, 236, rfl⟩
abbrev main_cst_1 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_cst_2 : Ref sig .tc := ⟨.hbm, 243, rfl⟩
abbrev main_v234 : Ref sig .tc := ⟨.hbm, 244, rfl⟩
abbrev main_v235 : Ref sig .tc := ⟨.hbm, 245, rfl⟩
abbrev main_cst_3 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_4 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_call0_v0 : Ref sig .tc := ⟨.hbm, 265, rfl⟩
abbrev main_call0_v1 : Ref sig .tc := ⟨.hbm, 266, rfl⟩
abbrev main_call0_cst : Ref sig .tc := ⟨.hbm, 267, rfl⟩
abbrev main_call0_v2 : Ref sig .tc := ⟨.hbm, 268, rfl⟩
abbrev main_call0_v3 : Ref sig .tc := ⟨.hbm, 269, rfl⟩
abbrev main_call0_cst_0 : Ref sig .tc := ⟨.hbm, 270, rfl⟩
abbrev main_call0_v4 : Ref sig .tc := ⟨.hbm, 271, rfl⟩
abbrev main_call0_v5 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩

abbrev nD : Nat := 1
abbrev τ : Topo := Topo.v7x

variable {F : FTy → Type} [FloatOps F]
-- ==== Kernel8.lean ====
abbrev S16896x1024 : Shape := ⟨2, ![16896, 1024]⟩
abbrev S1x31x1024 : Shape := ⟨3, ![1, 31, 1024]⟩
abbrev S1x1024 : Shape := ⟨2, ![1, 1024]⟩
abbrev S31x1024 : Shape := ⟨2, ![31, 1024]⟩
abbrev S1024 : Shape := ⟨1, ![1024]⟩
abbrev S_ : Shape := ⟨0, ![]⟩
abbrev S2x32x1024 : Shape := ⟨3, ![2, 32, 1024]⟩
abbrev S31x8x128 : Shape := ⟨3, ![31, 8, 128]⟩
abbrev S16384x1024 : Shape := ⟨2, ![16384, 1024]⟩
abbrev S512x1024 : Shape := ⟨2, ![512, 1024]⟩
abbrev S32x1024 : Shape := ⟨2, ![32, 1024]⟩
abbrev S1x32x1024 : Shape := ⟨3, ![1, 32, 1024]⟩
abbrev S4352x128 : Shape := ⟨2, ![4352, 128]⟩
abbrev S4096x128 : Shape := ⟨2, ![4096, 128]⟩
abbrev S32x128 : Shape := ⟨2, ![32, 128]⟩
abbrev S512x128 : Shape := ⟨2, ![512, 128]⟩
abbrev S1x8x128 : Shape := ⟨3, ![1, 8, 128]⟩
abbrev S8x128 : Shape := ⟨2, ![8, 128]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S16896x1024, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S31x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S2x32x1024, .f32⟩
  | .hbm, ⟨11, _⟩ => ⟨S31x8x128, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S1x32x1024, .f32⟩
  | .local _ .vmem, ⟨5, _⟩ => ⟨S1x32x1024, .f32⟩
  | .local _ .vmem, ⟨6, _⟩ => ⟨S31x8x128, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S4352x128, .f32⟩
  | .local _ .vmem, ⟨13, _⟩ => ⟨S4096x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_93 : BitVec 32 := 0#32
  let c64_i32 : BitVec 32 := 64#32
  let v132 : BitVec 32 := Scalar.addi c0_i32_93 c64_i32
  let c1_i32 : BitVec 32 := 1#32
  ⟨c0_i32_93, v132, c1_i32⟩
def k0_mult1 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32 : BitVec 32 := 2#32
  let v182 : BitVec 32 := Scalar.addi v181 c2_i32
  let c0_i32_127 : BitVec 32 := 0#32
  let v183 : BitVec 32 := Scalar.addi v182 c0_i32_127
  let c8_i32_128 : BitVec 32 := 8#32
  let v184 : BitVec 32 := Scalar.muli v183 c8_i32_128
  v184
def k0_off1 (k0_t1 : Fin k0_t1_loop.trips) (c0_i32_126 : BitVec 32) (c0_i32_127 : BitVec 32) : Fin 2 → Nat :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let v181 : BitVec 32 := Scalar.addi v180 c0_i32_126
  let c2_i32 : BitVec 32 := 2#32
  let v182 : BitVec 32 := Scalar.addi v181 c2_i32
  let v183 : BitVec 32 := Scalar.addi v182 c0_i32_127
  let c8_i32_128 : BitVec 32 := 8#32
  let v184 : BitVec 32 := Scalar.muli v183 c8_i32_128
  let v185 : BitVec 32 := v184
  let v186 : Index := Scalar.indexCast v185
  let c0_129 : Index := 0#32
  ![v186.toNat, 0]
def k0_mult2 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_130 : BitVec 32 := 2#32
  let v189 : BitVec 32 := Scalar.addi v181 c2_i32_130
  let c1_i32_131 : BitVec 32 := 1#32
  let v190 : BitVec 32 := Scalar.addi v189 c1_i32_131
  let c8_i32_132 : BitVec 32 := 8#32
  let v191 : BitVec 32 := Scalar.muli v190 c8_i32_132
  v191
def k0_mult3 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_134 : BitVec 32 := 2#32
  let v197 : BitVec 32 := Scalar.addi v181 c2_i32_134
  let c2_i32_135 : BitVec 32 := 2#32
  let v198 : BitVec 32 := Scalar.addi v197 c2_i32_135
  let c8_i32_136 : BitVec 32 := 8#32
  let v199 : BitVec 32 := Scalar.muli v198 c8_i32_136
  v199
def k0_mult4 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_138 : BitVec 32 := 2#32
  let v205 : BitVec 32 := Scalar.addi v181 c2_i32_138
  let c3_i32 : BitVec 32 := 3#32
  let v206 : BitVec 32 := Scalar.addi v205 c3_i32
  let c8_i32_139 : BitVec 32 := 8#32
  let v207 : BitVec 32 := Scalar.muli v206 c8_i32_139
  v207
def k0_mult5 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_141 : BitVec 32 := 2#32
  let v213 : BitVec 32 := Scalar.addi v181 c2_i32_141
  let c4_i32 : BitVec 32 := 4#32
  let v214 : BitVec 32 := Scalar.addi v213 c4_i32
  let c8_i32_142 : BitVec 32 := 8#32
  let v215 : BitVec 32 := Scalar.muli v214 c8_i32_142
  v215
def k0_mult6 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_144 : BitVec 32 := 2#32
  let v221 : BitVec 32 := Scalar.addi v181 c2_i32_144
  let c5_i32 : BitVec 32 := 5#32
  let v222 : BitVec 32 := Scalar.addi v221 c5_i32
  let c8_i32_145 : BitVec 32 := 8#32
  let v223 : BitVec 32 := Scalar.muli v222 c8_i32_145
  v223
def k0_mult7 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_147 : BitVec 32 := 2#32
  let v229 : BitVec 32 := Scalar.addi v181 c2_i32_147
  let c6_i32 : BitVec 32 := 6#32
  let v230 : BitVec 32 := Scalar.addi v229 c6_i32
  let c8_i32_148 : BitVec 32 := 8#32
  let v231 : BitVec 32 := Scalar.muli v230 c8_i32_148
  v231
def k0_mult8 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_150 : BitVec 32 := 2#32
  let v237 : BitVec 32 := Scalar.addi v181 c2_i32_150
  let c7_i32 : BitVec 32 := 7#32
  let v238 : BitVec 32 := Scalar.addi v237 c7_i32
  let c8_i32_151 : BitVec 32 := 8#32
  let v239 : BitVec 32 := Scalar.muli v238 c8_i32_151
  v239
def k0_mult9 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_153 : BitVec 32 := 2#32
  let v245 : BitVec 32 := Scalar.addi v181 c2_i32_153
  let c8_i32_154 : BitVec 32 := 8#32
  let v246 : BitVec 32 := Scalar.addi v245 c8_i32_154
  let c8_i32_155 : BitVec 32 := 8#32
  let v247 : BitVec 32 := Scalar.muli v246 c8_i32_155
  v247
def k0_mult10 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_157 : BitVec 32 := 2#32
  let v253 : BitVec 32 := Scalar.addi v181 c2_i32_157
  let c9_i32 : BitVec 32 := 9#32
  let v254 : BitVec 32 := Scalar.addi v253 c9_i32
  let c8_i32_158 : BitVec 32 := 8#32
  let v255 : BitVec 32 := Scalar.muli v254 c8_i32_158
  v255
def k0_mult11 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_160 : BitVec 32 := 2#32
  let v261 : BitVec 32 := Scalar.addi v181 c2_i32_160
  let c10_i32 : BitVec 32 := 10#32
  let v262 : BitVec 32 := Scalar.addi v261 c10_i32
  let c8_i32_161 : BitVec 32 := 8#32
  let v263 : BitVec 32 := Scalar.muli v262 c8_i32_161
  v263
def k0_mult12 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_163 : BitVec 32 := 2#32
  let v269 : BitVec 32 := Scalar.addi v181 c2_i32_163
  let c11_i32 : BitVec 32 := 11#32
  let v270 : BitVec 32 := Scalar.addi v269 c11_i32
  let c8_i32_164 : BitVec 32 := 8#32
  let v271 : BitVec 32 := Scalar.muli v270 c8_i32_164
  v271
def k0_mult13 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_166 : BitVec 32 := 2#32
  let v277 : BitVec 32 := Scalar.addi v181 c2_i32_166
  let c12_i32 : BitVec 32 := 12#32
  let v278 : BitVec 32 := Scalar.addi v277 c12_i32
  let c8_i32_167 : BitVec 32 := 8#32
  let v279 : BitVec 32 := Scalar.muli v278 c8_i32_167
  v279
def k0_mult14 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_169 : BitVec 32 := 2#32
  let v285 : BitVec 32 := Scalar.addi v181 c2_i32_169
  let c13_i32 : BitVec 32 := 13#32
  let v286 : BitVec 32 := Scalar.addi v285 c13_i32
  let c8_i32_170 : BitVec 32 := 8#32
  let v287 : BitVec 32 := Scalar.muli v286 c8_i32_170
  v287
def k0_mult15 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_172 : BitVec 32 := 2#32
  let v293 : BitVec 32 := Scalar.addi v181 c2_i32_172
  let c14_i32 : BitVec 32 := 14#32
  let v294 : BitVec 32 := Scalar.addi v293 c14_i32
  let c8_i32_173 : BitVec 32 := 8#32
  let v295 : BitVec 32 := Scalar.muli v294 c8_i32_173
  v295
def k0_mult16 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_175 : BitVec 32 := 2#32
  let v301 : BitVec 32 := Scalar.addi v181 c2_i32_175
  let c15_i32 : BitVec 32 := 15#32
  let v302 : BitVec 32 := Scalar.addi v301 c15_i32
  let c8_i32_176 : BitVec 32 := 8#32
  let v303 : BitVec 32 := Scalar.muli v302 c8_i32_176
  v303
def k0_mult17 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_178 : BitVec 32 := 2#32
  let v309 : BitVec 32 := Scalar.addi v181 c2_i32_178
  let c16_i32 : BitVec 32 := 16#32
  let v310 : BitVec 32 := Scalar.addi v309 c16_i32
  let c8_i32_179 : BitVec 32 := 8#32
  let v311 : BitVec 32 := Scalar.muli v310 c8_i32_179
  v311
def k0_mult18 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_181 : BitVec 32 := 2#32
  let v317 : BitVec 32 := Scalar.addi v181 c2_i32_181
  let c17_i32 : BitVec 32 := 17#32
  let v318 : BitVec 32 := Scalar.addi v317 c17_i32
  let c8_i32_182 : BitVec 32 := 8#32
  let v319 : BitVec 32 := Scalar.muli v318 c8_i32_182
  v319
def k0_mult19 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_184 : BitVec 32 := 2#32
  let v325 : BitVec 32 := Scalar.addi v181 c2_i32_184
  let c18_i32 : BitVec 32 := 18#32
  let v326 : BitVec 32 := Scalar.addi v325 c18_i32
  let c8_i32_185 : BitVec 32 := 8#32
  let v327 : BitVec 32 := Scalar.muli v326 c8_i32_185
  v327
def k0_mult20 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_187 : BitVec 32 := 2#32
  let v333 : BitVec 32 := Scalar.addi v181 c2_i32_187
  let c19_i32 : BitVec 32 := 19#32
  let v334 : BitVec 32 := Scalar.addi v333 c19_i32
  let c8_i32_188 : BitVec 32 := 8#32
  let v335 : BitVec 32 := Scalar.muli v334 c8_i32_188
  v335
def k0_mult21 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_190 : BitVec 32 := 2#32
  let v341 : BitVec 32 := Scalar.addi v181 c2_i32_190
  let c20_i32 : BitVec 32 := 20#32
  let v342 : BitVec 32 := Scalar.addi v341 c20_i32
  let c8_i32_191 : BitVec 32 := 8#32
  let v343 : BitVec 32 := Scalar.muli v342 c8_i32_191
  v343
def k0_mult22 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_193 : BitVec 32 := 2#32
  let v349 : BitVec 32 := Scalar.addi v181 c2_i32_193
  let c21_i32 : BitVec 32 := 21#32
  let v350 : BitVec 32 := Scalar.addi v349 c21_i32
  let c8_i32_194 : BitVec 32 := 8#32
  let v351 : BitVec 32 := Scalar.muli v350 c8_i32_194
  v351
def k0_mult23 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_196 : BitVec 32 := 2#32
  let v357 : BitVec 32 := Scalar.addi v181 c2_i32_196
  let c22_i32 : BitVec 32 := 22#32
  let v358 : BitVec 32 := Scalar.addi v357 c22_i32
  let c8_i32_197 : BitVec 32 := 8#32
  let v359 : BitVec 32 := Scalar.muli v358 c8_i32_197
  v359
def k0_mult24 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_199 : BitVec 32 := 2#32
  let v365 : BitVec 32 := Scalar.addi v181 c2_i32_199
  let c23_i32 : BitVec 32 := 23#32
  let v366 : BitVec 32 := Scalar.addi v365 c23_i32
  let c8_i32_200 : BitVec 32 := 8#32
  let v367 : BitVec 32 := Scalar.muli v366 c8_i32_200
  v367
def k0_mult25 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_202 : BitVec 32 := 2#32
  let v373 : BitVec 32 := Scalar.addi v181 c2_i32_202
  let c24_i32 : BitVec 32 := 24#32
  let v374 : BitVec 32 := Scalar.addi v373 c24_i32
  let c8_i32_203 : BitVec 32 := 8#32
  let v375 : BitVec 32 := Scalar.muli v374 c8_i32_203
  v375
def k0_mult26 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_205 : BitVec 32 := 2#32
  let v381 : BitVec 32 := Scalar.addi v181 c2_i32_205
  let c25_i32 : BitVec 32 := 25#32
  let v382 : BitVec 32 := Scalar.addi v381 c25_i32
  let c8_i32_206 : BitVec 32 := 8#32
  let v383 : BitVec 32 := Scalar.muli v382 c8_i32_206
  v383
def k0_mult27 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_208 : BitVec 32 := 2#32
  let v389 : BitVec 32 := Scalar.addi v181 c2_i32_208
  let c26_i32 : BitVec 32 := 26#32
  let v390 : BitVec 32 := Scalar.addi v389 c26_i32
  let c8_i32_209 : BitVec 32 := 8#32
  let v391 : BitVec 32 := Scalar.muli v390 c8_i32_209
  v391
def k0_mult28 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_211 : BitVec 32 := 2#32
  let v397 : BitVec 32 := Scalar.addi v181 c2_i32_211
  let c27_i32 : BitVec 32 := 27#32
  let v398 : BitVec 32 := Scalar.addi v397 c27_i32
  let c8_i32_212 : BitVec 32 := 8#32
  let v399 : BitVec 32 := Scalar.muli v398 c8_i32_212
  v399
def k0_mult29 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_214 : BitVec 32 := 2#32
  let v405 : BitVec 32 := Scalar.addi v181 c2_i32_214
  let c28_i32 : BitVec 32 := 28#32
  let v406 : BitVec 32 := Scalar.addi v405 c28_i32
  let c8_i32_215 : BitVec 32 := 8#32
  let v407 : BitVec 32 := Scalar.muli v406 c8_i32_215
  v407
def k0_mult30 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_217 : BitVec 32 := 2#32
  let v413 : BitVec 32 := Scalar.addi v181 c2_i32_217
  let c29_i32 : BitVec 32 := 29#32
  let v414 : BitVec 32 := Scalar.addi v413 c29_i32
  let c8_i32_218 : BitVec 32 := 8#32
  let v415 : BitVec 32 := Scalar.muli v414 c8_i32_218
  v415
def k0_mult31 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c2_i32_220 : BitVec 32 := 2#32
  let v421 : BitVec 32 := Scalar.addi v181 c2_i32_220
  let c30_i32 : BitVec 32 := 30#32
  let v422 : BitVec 32 := Scalar.addi v421 c30_i32
  let c8_i32_221 : BitVec 32 := 8#32
  let v423 : BitVec 32 := Scalar.muli v422 c8_i32_221
  v423
def k0_mult32 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let c0_i32_126 : BitVec 32 := 0#32
  let v181 : BitVec 32 := Scalar.addi v180 c0_i32_126
  let c8_i32_223 : BitVec 32 := 8#32
  let v429 : BitVec 32 := Scalar.muli v181 c8_i32_223
  v429
def k0_off2 (k0_t1 : Fin k0_t1_loop.trips) (c0_i32_126 : BitVec 32) : Fin 2 → Nat :=
  let c0_i32_93 : BitVec 32 := 0#32
  let c1_i32 : BitVec 32 := 1#32
  let arg12 : BitVec 32 := Scf.iv c0_i32_93 c1_i32 k0_t1
  let c8_i32 : BitVec 32 := 8#32
  let v180 : BitVec 32 := Scalar.muli arg12 c8_i32
  let v181 : BitVec 32 := Scalar.addi v180 c0_i32_126
  let c8_i32_223 : BitVec 32 := 8#32
  let v429 : BitVec 32 := Scalar.muli v181 c8_i32_223
  let v430 : BitVec 32 := v429
  let v431 : Index := Scalar.indexCast v430
  let c0_224 : Index := 0#32
  ![v431.toNat, 0]
def k0_mult33 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_227 : BitVec 32 := 2#32
  let v437 : BitVec 32 := Scalar.addi v436 c2_i32_227
  let c0_i32_228 : BitVec 32 := 0#32
  let v438 : BitVec 32 := Scalar.addi v437 c0_i32_228
  let c8_i32_229 : BitVec 32 := 8#32
  let v439 : BitVec 32 := Scalar.muli v438 c8_i32_229
  v439
def k0_mult34 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_231 : BitVec 32 := 2#32
  let v444 : BitVec 32 := Scalar.addi v436 c2_i32_231
  let c1_i32_232 : BitVec 32 := 1#32
  let v445 : BitVec 32 := Scalar.addi v444 c1_i32_232
  let c8_i32_233 : BitVec 32 := 8#32
  let v446 : BitVec 32 := Scalar.muli v445 c8_i32_233
  v446
def k0_mult35 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_235 : BitVec 32 := 2#32
  let v452 : BitVec 32 := Scalar.addi v436 c2_i32_235
  let c2_i32_236 : BitVec 32 := 2#32
  let v453 : BitVec 32 := Scalar.addi v452 c2_i32_236
  let c8_i32_237 : BitVec 32 := 8#32
  let v454 : BitVec 32 := Scalar.muli v453 c8_i32_237
  v454
def k0_mult36 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_239 : BitVec 32 := 2#32
  let v460 : BitVec 32 := Scalar.addi v436 c2_i32_239
  let c3_i32_240 : BitVec 32 := 3#32
  let v461 : BitVec 32 := Scalar.addi v460 c3_i32_240
  let c8_i32_241 : BitVec 32 := 8#32
  let v462 : BitVec 32 := Scalar.muli v461 c8_i32_241
  v462
def k0_mult37 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_243 : BitVec 32 := 2#32
  let v468 : BitVec 32 := Scalar.addi v436 c2_i32_243
  let c4_i32_244 : BitVec 32 := 4#32
  let v469 : BitVec 32 := Scalar.addi v468 c4_i32_244
  let c8_i32_245 : BitVec 32 := 8#32
  let v470 : BitVec 32 := Scalar.muli v469 c8_i32_245
  v470
def k0_mult38 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_247 : BitVec 32 := 2#32
  let v476 : BitVec 32 := Scalar.addi v436 c2_i32_247
  let c5_i32_248 : BitVec 32 := 5#32
  let v477 : BitVec 32 := Scalar.addi v476 c5_i32_248
  let c8_i32_249 : BitVec 32 := 8#32
  let v478 : BitVec 32 := Scalar.muli v477 c8_i32_249
  v478
def k0_mult39 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_251 : BitVec 32 := 2#32
  let v484 : BitVec 32 := Scalar.addi v436 c2_i32_251
  let c6_i32_252 : BitVec 32 := 6#32
  let v485 : BitVec 32 := Scalar.addi v484 c6_i32_252
  let c8_i32_253 : BitVec 32 := 8#32
  let v486 : BitVec 32 := Scalar.muli v485 c8_i32_253
  v486
def k0_mult40 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_255 : BitVec 32 := 2#32
  let v492 : BitVec 32 := Scalar.addi v436 c2_i32_255
  let c7_i32_256 : BitVec 32 := 7#32
  let v493 : BitVec 32 := Scalar.addi v492 c7_i32_256
  let c8_i32_257 : BitVec 32 := 8#32
  let v494 : BitVec 32 := Scalar.muli v493 c8_i32_257
  v494
def k0_mult41 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_259 : BitVec 32 := 2#32
  let v500 : BitVec 32 := Scalar.addi v436 c2_i32_259
  let c8_i32_260 : BitVec 32 := 8#32
  let v501 : BitVec 32 := Scalar.addi v500 c8_i32_260
  let c8_i32_261 : BitVec 32 := 8#32
  let v502 : BitVec 32 := Scalar.muli v501 c8_i32_261
  v502
def k0_mult42 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_263 : BitVec 32 := 2#32
  let v508 : BitVec 32 := Scalar.addi v436 c2_i32_263
  let c9_i32_264 : BitVec 32 := 9#32
  let v509 : BitVec 32 := Scalar.addi v508 c9_i32_264
  let c8_i32_265 : BitVec 32 := 8#32
  let v510 : BitVec 32 := Scalar.muli v509 c8_i32_265
  v510
def k0_mult43 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_267 : BitVec 32 := 2#32
  let v516 : BitVec 32 := Scalar.addi v436 c2_i32_267
  let c10_i32_268 : BitVec 32 := 10#32
  let v517 : BitVec 32 := Scalar.addi v516 c10_i32_268
  let c8_i32_269 : BitVec 32 := 8#32
  let v518 : BitVec 32 := Scalar.muli v517 c8_i32_269
  v518
def k0_mult44 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_271 : BitVec 32 := 2#32
  let v524 : BitVec 32 := Scalar.addi v436 c2_i32_271
  let c11_i32_272 : BitVec 32 := 11#32
  let v525 : BitVec 32 := Scalar.addi v524 c11_i32_272
  let c8_i32_273 : BitVec 32 := 8#32
  let v526 : BitVec 32 := Scalar.muli v525 c8_i32_273
  v526
def k0_mult45 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_275 : BitVec 32 := 2#32
  let v532 : BitVec 32 := Scalar.addi v436 c2_i32_275
  let c12_i32_276 : BitVec 32 := 12#32
  let v533 : BitVec 32 := Scalar.addi v532 c12_i32_276
  let c8_i32_277 : BitVec 32 := 8#32
  let v534 : BitVec 32 := Scalar.muli v533 c8_i32_277
  v534
def k0_mult46 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_279 : BitVec 32 := 2#32
  let v540 : BitVec 32 := Scalar.addi v436 c2_i32_279
  let c13_i32_280 : BitVec 32 := 13#32
  let v541 : BitVec 32 := Scalar.addi v540 c13_i32_280
  let c8_i32_281 : BitVec 32 := 8#32
  let v542 : BitVec 32 := Scalar.muli v541 c8_i32_281
  v542
def k0_mult47 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_283 : BitVec 32 := 2#32
  let v548 : BitVec 32 := Scalar.addi v436 c2_i32_283
  let c14_i32_284 : BitVec 32 := 14#32
  let v549 : BitVec 32 := Scalar.addi v548 c14_i32_284
  let c8_i32_285 : BitVec 32 := 8#32
  let v550 : BitVec 32 := Scalar.muli v549 c8_i32_285
  v550
def k0_mult48 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_287 : BitVec 32 := 2#32
  let v556 : BitVec 32 := Scalar.addi v436 c2_i32_287
  let c15_i32_288 : BitVec 32 := 15#32
  let v557 : BitVec 32 := Scalar.addi v556 c15_i32_288
  let c8_i32_289 : BitVec 32 := 8#32
  let v558 : BitVec 32 := Scalar.muli v557 c8_i32_289
  v558
def k0_mult49 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_291 : BitVec 32 := 2#32
  let v564 : BitVec 32 := Scalar.addi v436 c2_i32_291
  let c16_i32_292 : BitVec 32 := 16#32
  let v565 : BitVec 32 := Scalar.addi v564 c16_i32_292
  let c8_i32_293 : BitVec 32 := 8#32
  let v566 : BitVec 32 := Scalar.muli v565 c8_i32_293
  v566
def k0_mult50 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_295 : BitVec 32 := 2#32
  let v572 : BitVec 32 := Scalar.addi v436 c2_i32_295
  let c17_i32_296 : BitVec 32 := 17#32
  let v573 : BitVec 32 := Scalar.addi v572 c17_i32_296
  let c8_i32_297 : BitVec 32 := 8#32
  let v574 : BitVec 32 := Scalar.muli v573 c8_i32_297
  v574
def k0_mult51 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_299 : BitVec 32 := 2#32
  let v580 : BitVec 32 := Scalar.addi v436 c2_i32_299
  let c18_i32_300 : BitVec 32 := 18#32
  let v581 : BitVec 32 := Scalar.addi v580 c18_i32_300
  let c8_i32_301 : BitVec 32 := 8#32
  let v582 : BitVec 32 := Scalar.muli v581 c8_i32_301
  v582
def k0_mult52 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_303 : BitVec 32 := 2#32
  let v588 : BitVec 32 := Scalar.addi v436 c2_i32_303
  let c19_i32_304 : BitVec 32 := 19#32
  let v589 : BitVec 32 := Scalar.addi v588 c19_i32_304
  let c8_i32_305 : BitVec 32 := 8#32
  let v590 : BitVec 32 := Scalar.muli v589 c8_i32_305
  v590
def k0_mult53 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_307 : BitVec 32 := 2#32
  let v596 : BitVec 32 := Scalar.addi v436 c2_i32_307
  let c20_i32_308 : BitVec 32 := 20#32
  let v597 : BitVec 32 := Scalar.addi v596 c20_i32_308
  let c8_i32_309 : BitVec 32 := 8#32
  let v598 : BitVec 32 := Scalar.muli v597 c8_i32_309
  v598
def k0_mult54 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_311 : BitVec 32 := 2#32
  let v604 : BitVec 32 := Scalar.addi v436 c2_i32_311
  let c21_i32_312 : BitVec 32 := 21#32
  let v605 : BitVec 32 := Scalar.addi v604 c21_i32_312
  let c8_i32_313 : BitVec 32 := 8#32
  let v606 : BitVec 32 := Scalar.muli v605 c8_i32_313
  v606
def k0_mult55 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_315 : BitVec 32 := 2#32
  let v612 : BitVec 32 := Scalar.addi v436 c2_i32_315
  let c22_i32_316 : BitVec 32 := 22#32
  let v613 : BitVec 32 := Scalar.addi v612 c22_i32_316
  let c8_i32_317 : BitVec 32 := 8#32
  let v614 : BitVec 32 := Scalar.muli v613 c8_i32_317
  v614
def k0_mult56 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_319 : BitVec 32 := 2#32
  let v620 : BitVec 32 := Scalar.addi v436 c2_i32_319
  let c23_i32_320 : BitVec 32 := 23#32
  let v621 : BitVec 32 := Scalar.addi v620 c23_i32_320
  let c8_i32_321 : BitVec 32 := 8#32
  let v622 : BitVec 32 := Scalar.muli v621 c8_i32_321
  v622
def k0_mult57 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_323 : BitVec 32 := 2#32
  let v628 : BitVec 32 := Scalar.addi v436 c2_i32_323
  let c24_i32_324 : BitVec 32 := 24#32
  let v629 : BitVec 32 := Scalar.addi v628 c24_i32_324
  let c8_i32_325 : BitVec 32 := 8#32
  let v630 : BitVec 32 := Scalar.muli v629 c8_i32_325
  v630
def k0_mult58 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_327 : BitVec 32 := 2#32
  let v636 : BitVec 32 := Scalar.addi v436 c2_i32_327
  let c25_i32_328 : BitVec 32 := 25#32
  let v637 : BitVec 32 := Scalar.addi v636 c25_i32_328
  let c8_i32_329 : BitVec 32 := 8#32
  let v638 : BitVec 32 := Scalar.muli v637 c8_i32_329
  v638
def k0_mult59 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_331 : BitVec 32 := 2#32
  let v644 : BitVec 32 := Scalar.addi v436 c2_i32_331
  let c26_i32_332 : BitVec 32 := 26#32
  let v645 : BitVec 32 := Scalar.addi v644 c26_i32_332
  let c8_i32_333 : BitVec 32 := 8#32
  let v646 : BitVec 32 := Scalar.muli v645 c8_i32_333
  v646
def k0_mult60 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_335 : BitVec 32 := 2#32
  let v652 : BitVec 32 := Scalar.addi v436 c2_i32_335
  let c27_i32_336 : BitVec 32 := 27#32
  let v653 : BitVec 32 := Scalar.addi v652 c27_i32_336
  let c8_i32_337 : BitVec 32 := 8#32
  let v654 : BitVec 32 := Scalar.muli v653 c8_i32_337
  v654
def k0_mult61 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_339 : BitVec 32 := 2#32
  let v660 : BitVec 32 := Scalar.addi v436 c2_i32_339
  let c28_i32_340 : BitVec 32 := 28#32
  let v661 : BitVec 32 := Scalar.addi v660 c28_i32_340
  let c8_i32_341 : BitVec 32 := 8#32
  let v662 : BitVec 32 := Scalar.muli v661 c8_i32_341
  v662
def k0_mult62 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_343 : BitVec 32 := 2#32
  let v668 : BitVec 32 := Scalar.addi v436 c2_i32_343
  let c29_i32_344 : BitVec 32 := 29#32
  let v669 : BitVec 32 := Scalar.addi v668 c29_i32_344
  let c8_i32_345 : BitVec 32 := 8#32
  let v670 : BitVec 32 := Scalar.muli v669 c8_i32_345
  v670
def k0_mult63 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c2_i32_347 : BitVec 32 := 2#32
  let v676 : BitVec 32 := Scalar.addi v436 c2_i32_347
  let c30_i32_348 : BitVec 32 := 30#32
  let v677 : BitVec 32 := Scalar.addi v676 c30_i32_348
  let c8_i32_349 : BitVec 32 := 8#32
  let v678 : BitVec 32 := Scalar.muli v677 c8_i32_349
  v678
def k0_mult64 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_225 : BitVec 32 := 8#32
  let v435 : BitVec 32 := Scalar.muli arg12 c8_i32_225
  let c1_i32_226 : BitVec 32 := 1#32
  let v436 : BitVec 32 := Scalar.addi v435 c1_i32_226
  let c8_i32_351 : BitVec 32 := 8#32
  let v684 : BitVec 32 := Scalar.muli v436 c8_i32_351
  v684
def k0_mult65 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_355 : BitVec 32 := 2#32
  let v692 : BitVec 32 := Scalar.addi v691 c2_i32_355
  let c0_i32_356 : BitVec 32 := 0#32
  let v693 : BitVec 32 := Scalar.addi v692 c0_i32_356
  let c8_i32_357 : BitVec 32 := 8#32
  let v694 : BitVec 32 := Scalar.muli v693 c8_i32_357
  v694
def k0_mult66 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_359 : BitVec 32 := 2#32
  let v699 : BitVec 32 := Scalar.addi v691 c2_i32_359
  let c1_i32_360 : BitVec 32 := 1#32
  let v700 : BitVec 32 := Scalar.addi v699 c1_i32_360
  let c8_i32_361 : BitVec 32 := 8#32
  let v701 : BitVec 32 := Scalar.muli v700 c8_i32_361
  v701
def k0_mult67 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_363 : BitVec 32 := 2#32
  let v707 : BitVec 32 := Scalar.addi v691 c2_i32_363
  let c2_i32_364 : BitVec 32 := 2#32
  let v708 : BitVec 32 := Scalar.addi v707 c2_i32_364
  let c8_i32_365 : BitVec 32 := 8#32
  let v709 : BitVec 32 := Scalar.muli v708 c8_i32_365
  v709
def k0_mult68 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_367 : BitVec 32 := 2#32
  let v715 : BitVec 32 := Scalar.addi v691 c2_i32_367
  let c3_i32_368 : BitVec 32 := 3#32
  let v716 : BitVec 32 := Scalar.addi v715 c3_i32_368
  let c8_i32_369 : BitVec 32 := 8#32
  let v717 : BitVec 32 := Scalar.muli v716 c8_i32_369
  v717
def k0_mult69 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_371 : BitVec 32 := 2#32
  let v723 : BitVec 32 := Scalar.addi v691 c2_i32_371
  let c4_i32_372 : BitVec 32 := 4#32
  let v724 : BitVec 32 := Scalar.addi v723 c4_i32_372
  let c8_i32_373 : BitVec 32 := 8#32
  let v725 : BitVec 32 := Scalar.muli v724 c8_i32_373
  v725
def k0_mult70 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_375 : BitVec 32 := 2#32
  let v731 : BitVec 32 := Scalar.addi v691 c2_i32_375
  let c5_i32_376 : BitVec 32 := 5#32
  let v732 : BitVec 32 := Scalar.addi v731 c5_i32_376
  let c8_i32_377 : BitVec 32 := 8#32
  let v733 : BitVec 32 := Scalar.muli v732 c8_i32_377
  v733
def k0_mult71 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_379 : BitVec 32 := 2#32
  let v739 : BitVec 32 := Scalar.addi v691 c2_i32_379
  let c6_i32_380 : BitVec 32 := 6#32
  let v740 : BitVec 32 := Scalar.addi v739 c6_i32_380
  let c8_i32_381 : BitVec 32 := 8#32
  let v741 : BitVec 32 := Scalar.muli v740 c8_i32_381
  v741
def k0_mult72 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_383 : BitVec 32 := 2#32
  let v747 : BitVec 32 := Scalar.addi v691 c2_i32_383
  let c7_i32_384 : BitVec 32 := 7#32
  let v748 : BitVec 32 := Scalar.addi v747 c7_i32_384
  let c8_i32_385 : BitVec 32 := 8#32
  let v749 : BitVec 32 := Scalar.muli v748 c8_i32_385
  v749
def k0_mult73 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_387 : BitVec 32 := 2#32
  let v755 : BitVec 32 := Scalar.addi v691 c2_i32_387
  let c8_i32_388 : BitVec 32 := 8#32
  let v756 : BitVec 32 := Scalar.addi v755 c8_i32_388
  let c8_i32_389 : BitVec 32 := 8#32
  let v757 : BitVec 32 := Scalar.muli v756 c8_i32_389
  v757
def k0_mult74 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_391 : BitVec 32 := 2#32
  let v763 : BitVec 32 := Scalar.addi v691 c2_i32_391
  let c9_i32_392 : BitVec 32 := 9#32
  let v764 : BitVec 32 := Scalar.addi v763 c9_i32_392
  let c8_i32_393 : BitVec 32 := 8#32
  let v765 : BitVec 32 := Scalar.muli v764 c8_i32_393
  v765
def k0_mult75 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_395 : BitVec 32 := 2#32
  let v771 : BitVec 32 := Scalar.addi v691 c2_i32_395
  let c10_i32_396 : BitVec 32 := 10#32
  let v772 : BitVec 32 := Scalar.addi v771 c10_i32_396
  let c8_i32_397 : BitVec 32 := 8#32
  let v773 : BitVec 32 := Scalar.muli v772 c8_i32_397
  v773
def k0_mult76 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_399 : BitVec 32 := 2#32
  let v779 : BitVec 32 := Scalar.addi v691 c2_i32_399
  let c11_i32_400 : BitVec 32 := 11#32
  let v780 : BitVec 32 := Scalar.addi v779 c11_i32_400
  let c8_i32_401 : BitVec 32 := 8#32
  let v781 : BitVec 32 := Scalar.muli v780 c8_i32_401
  v781
def k0_mult77 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_403 : BitVec 32 := 2#32
  let v787 : BitVec 32 := Scalar.addi v691 c2_i32_403
  let c12_i32_404 : BitVec 32 := 12#32
  let v788 : BitVec 32 := Scalar.addi v787 c12_i32_404
  let c8_i32_405 : BitVec 32 := 8#32
  let v789 : BitVec 32 := Scalar.muli v788 c8_i32_405
  v789
def k0_mult78 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_407 : BitVec 32 := 2#32
  let v795 : BitVec 32 := Scalar.addi v691 c2_i32_407
  let c13_i32_408 : BitVec 32 := 13#32
  let v796 : BitVec 32 := Scalar.addi v795 c13_i32_408
  let c8_i32_409 : BitVec 32 := 8#32
  let v797 : BitVec 32 := Scalar.muli v796 c8_i32_409
  v797
def k0_mult79 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_411 : BitVec 32 := 2#32
  let v803 : BitVec 32 := Scalar.addi v691 c2_i32_411
  let c14_i32_412 : BitVec 32 := 14#32
  let v804 : BitVec 32 := Scalar.addi v803 c14_i32_412
  let c8_i32_413 : BitVec 32 := 8#32
  let v805 : BitVec 32 := Scalar.muli v804 c8_i32_413
  v805
def k0_mult80 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_415 : BitVec 32 := 2#32
  let v811 : BitVec 32 := Scalar.addi v691 c2_i32_415
  let c15_i32_416 : BitVec 32 := 15#32
  let v812 : BitVec 32 := Scalar.addi v811 c15_i32_416
  let c8_i32_417 : BitVec 32 := 8#32
  let v813 : BitVec 32 := Scalar.muli v812 c8_i32_417
  v813
def k0_mult81 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_419 : BitVec 32 := 2#32
  let v819 : BitVec 32 := Scalar.addi v691 c2_i32_419
  let c16_i32_420 : BitVec 32 := 16#32
  let v820 : BitVec 32 := Scalar.addi v819 c16_i32_420
  let c8_i32_421 : BitVec 32 := 8#32
  let v821 : BitVec 32 := Scalar.muli v820 c8_i32_421
  v821
def k0_mult82 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_423 : BitVec 32 := 2#32
  let v827 : BitVec 32 := Scalar.addi v691 c2_i32_423
  let c17_i32_424 : BitVec 32 := 17#32
  let v828 : BitVec 32 := Scalar.addi v827 c17_i32_424
  let c8_i32_425 : BitVec 32 := 8#32
  let v829 : BitVec 32 := Scalar.muli v828 c8_i32_425
  v829
def k0_mult83 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_427 : BitVec 32 := 2#32
  let v835 : BitVec 32 := Scalar.addi v691 c2_i32_427
  let c18_i32_428 : BitVec 32 := 18#32
  let v836 : BitVec 32 := Scalar.addi v835 c18_i32_428
  let c8_i32_429 : BitVec 32 := 8#32
  let v837 : BitVec 32 := Scalar.muli v836 c8_i32_429
  v837
def k0_mult84 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_431 : BitVec 32 := 2#32
  let v843 : BitVec 32 := Scalar.addi v691 c2_i32_431
  let c19_i32_432 : BitVec 32 := 19#32
  let v844 : BitVec 32 := Scalar.addi v843 c19_i32_432
  let c8_i32_433 : BitVec 32 := 8#32
  let v845 : BitVec 32 := Scalar.muli v844 c8_i32_433
  v845
def k0_mult85 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_435 : BitVec 32 := 2#32
  let v851 : BitVec 32 := Scalar.addi v691 c2_i32_435
  let c20_i32_436 : BitVec 32 := 20#32
  let v852 : BitVec 32 := Scalar.addi v851 c20_i32_436
  let c8_i32_437 : BitVec 32 := 8#32
  let v853 : BitVec 32 := Scalar.muli v852 c8_i32_437
  v853
def k0_mult86 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_439 : BitVec 32 := 2#32
  let v859 : BitVec 32 := Scalar.addi v691 c2_i32_439
  let c21_i32_440 : BitVec 32 := 21#32
  let v860 : BitVec 32 := Scalar.addi v859 c21_i32_440
  let c8_i32_441 : BitVec 32 := 8#32
  let v861 : BitVec 32 := Scalar.muli v860 c8_i32_441
  v861
def k0_mult87 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_443 : BitVec 32 := 2#32
  let v867 : BitVec 32 := Scalar.addi v691 c2_i32_443
  let c22_i32_444 : BitVec 32 := 22#32
  let v868 : BitVec 32 := Scalar.addi v867 c22_i32_444
  let c8_i32_445 : BitVec 32 := 8#32
  let v869 : BitVec 32 := Scalar.muli v868 c8_i32_445
  v869
def k0_mult88 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_447 : BitVec 32 := 2#32
  let v875 : BitVec 32 := Scalar.addi v691 c2_i32_447
  let c23_i32_448 : BitVec 32 := 23#32
  let v876 : BitVec 32 := Scalar.addi v875 c23_i32_448
  let c8_i32_449 : BitVec 32 := 8#32
  let v877 : BitVec 32 := Scalar.muli v876 c8_i32_449
  v877
def k0_mult89 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_451 : BitVec 32 := 2#32
  let v883 : BitVec 32 := Scalar.addi v691 c2_i32_451
  let c24_i32_452 : BitVec 32 := 24#32
  let v884 : BitVec 32 := Scalar.addi v883 c24_i32_452
  let c8_i32_453 : BitVec 32 := 8#32
  let v885 : BitVec 32 := Scalar.muli v884 c8_i32_453
  v885
def k0_mult90 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_455 : BitVec 32 := 2#32
  let v891 : BitVec 32 := Scalar.addi v691 c2_i32_455
  let c25_i32_456 : BitVec 32 := 25#32
  let v892 : BitVec 32 := Scalar.addi v891 c25_i32_456
  let c8_i32_457 : BitVec 32 := 8#32
  let v893 : BitVec 32 := Scalar.muli v892 c8_i32_457
  v893
def k0_mult91 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_459 : BitVec 32 := 2#32
  let v899 : BitVec 32 := Scalar.addi v691 c2_i32_459
  let c26_i32_460 : BitVec 32 := 26#32
  let v900 : BitVec 32 := Scalar.addi v899 c26_i32_460
  let c8_i32_461 : BitVec 32 := 8#32
  let v901 : BitVec 32 := Scalar.muli v900 c8_i32_461
  v901
def k0_mult92 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_463 : BitVec 32 := 2#32
  let v907 : BitVec 32 := Scalar.addi v691 c2_i32_463
  let c27_i32_464 : BitVec 32 := 27#32
  let v908 : BitVec 32 := Scalar.addi v907 c27_i32_464
  let c8_i32_465 : BitVec 32 := 8#32
  let v909 : BitVec 32 := Scalar.muli v908 c8_i32_465
  v909
def k0_mult93 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_467 : BitVec 32 := 2#32
  let v915 : BitVec 32 := Scalar.addi v691 c2_i32_467
  let c28_i32_468 : BitVec 32 := 28#32
  let v916 : BitVec 32 := Scalar.addi v915 c28_i32_468
  let c8_i32_469 : BitVec 32 := 8#32
  let v917 : BitVec 32 := Scalar.muli v916 c8_i32_469
  v917
def k0_mult94 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_471 : BitVec 32 := 2#32
  let v923 : BitVec 32 := Scalar.addi v691 c2_i32_471
  let c29_i32_472 : BitVec 32 := 29#32
  let v924 : BitVec 32 := Scalar.addi v923 c29_i32_472
  let c8_i32_473 : BitVec 32 := 8#32
  let v925 : BitVec 32 := Scalar.muli v924 c8_i32_473
  v925
def k0_mult95 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c2_i32_475 : BitVec 32 := 2#32
  let v931 : BitVec 32 := Scalar.addi v691 c2_i32_475
  let c30_i32_476 : BitVec 32 := 30#32
  let v932 : BitVec 32 := Scalar.addi v931 c30_i32_476
  let c8_i32_477 : BitVec 32 := 8#32
  let v933 : BitVec 32 := Scalar.muli v932 c8_i32_477
  v933
def k0_mult96 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_353 : BitVec 32 := 8#32
  let v690 : BitVec 32 := Scalar.muli arg12 c8_i32_353
  let c2_i32_354 : BitVec 32 := 2#32
  let v691 : BitVec 32 := Scalar.addi v690 c2_i32_354
  let c8_i32_479 : BitVec 32 := 8#32
  let v939 : BitVec 32 := Scalar.muli v691 c8_i32_479
  v939
def k0_mult97 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_483 : BitVec 32 := 2#32
  let v947 : BitVec 32 := Scalar.addi v946 c2_i32_483
  let c0_i32_484 : BitVec 32 := 0#32
  let v948 : BitVec 32 := Scalar.addi v947 c0_i32_484
  let c8_i32_485 : BitVec 32 := 8#32
  let v949 : BitVec 32 := Scalar.muli v948 c8_i32_485
  v949
def k0_mult98 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_487 : BitVec 32 := 2#32
  let v954 : BitVec 32 := Scalar.addi v946 c2_i32_487
  let c1_i32_488 : BitVec 32 := 1#32
  let v955 : BitVec 32 := Scalar.addi v954 c1_i32_488
  let c8_i32_489 : BitVec 32 := 8#32
  let v956 : BitVec 32 := Scalar.muli v955 c8_i32_489
  v956
def k0_mult99 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_491 : BitVec 32 := 2#32
  let v962 : BitVec 32 := Scalar.addi v946 c2_i32_491
  let c2_i32_492 : BitVec 32 := 2#32
  let v963 : BitVec 32 := Scalar.addi v962 c2_i32_492
  let c8_i32_493 : BitVec 32 := 8#32
  let v964 : BitVec 32 := Scalar.muli v963 c8_i32_493
  v964
def k0_mult100 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_495 : BitVec 32 := 2#32
  let v970 : BitVec 32 := Scalar.addi v946 c2_i32_495
  let c3_i32_496 : BitVec 32 := 3#32
  let v971 : BitVec 32 := Scalar.addi v970 c3_i32_496
  let c8_i32_497 : BitVec 32 := 8#32
  let v972 : BitVec 32 := Scalar.muli v971 c8_i32_497
  v972
def k0_mult101 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_499 : BitVec 32 := 2#32
  let v978 : BitVec 32 := Scalar.addi v946 c2_i32_499
  let c4_i32_500 : BitVec 32 := 4#32
  let v979 : BitVec 32 := Scalar.addi v978 c4_i32_500
  let c8_i32_501 : BitVec 32 := 8#32
  let v980 : BitVec 32 := Scalar.muli v979 c8_i32_501
  v980
def k0_mult102 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_503 : BitVec 32 := 2#32
  let v986 : BitVec 32 := Scalar.addi v946 c2_i32_503
  let c5_i32_504 : BitVec 32 := 5#32
  let v987 : BitVec 32 := Scalar.addi v986 c5_i32_504
  let c8_i32_505 : BitVec 32 := 8#32
  let v988 : BitVec 32 := Scalar.muli v987 c8_i32_505
  v988
def k0_mult103 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_507 : BitVec 32 := 2#32
  let v994 : BitVec 32 := Scalar.addi v946 c2_i32_507
  let c6_i32_508 : BitVec 32 := 6#32
  let v995 : BitVec 32 := Scalar.addi v994 c6_i32_508
  let c8_i32_509 : BitVec 32 := 8#32
  let v996 : BitVec 32 := Scalar.muli v995 c8_i32_509
  v996
def k0_mult104 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_511 : BitVec 32 := 2#32
  let v1002 : BitVec 32 := Scalar.addi v946 c2_i32_511
  let c7_i32_512 : BitVec 32 := 7#32
  let v1003 : BitVec 32 := Scalar.addi v1002 c7_i32_512
  let c8_i32_513 : BitVec 32 := 8#32
  let v1004 : BitVec 32 := Scalar.muli v1003 c8_i32_513
  v1004
def k0_mult105 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_515 : BitVec 32 := 2#32
  let v1010 : BitVec 32 := Scalar.addi v946 c2_i32_515
  let c8_i32_516 : BitVec 32 := 8#32
  let v1011 : BitVec 32 := Scalar.addi v1010 c8_i32_516
  let c8_i32_517 : BitVec 32 := 8#32
  let v1012 : BitVec 32 := Scalar.muli v1011 c8_i32_517
  v1012
def k0_mult106 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_519 : BitVec 32 := 2#32
  let v1018 : BitVec 32 := Scalar.addi v946 c2_i32_519
  let c9_i32_520 : BitVec 32 := 9#32
  let v1019 : BitVec 32 := Scalar.addi v1018 c9_i32_520
  let c8_i32_521 : BitVec 32 := 8#32
  let v1020 : BitVec 32 := Scalar.muli v1019 c8_i32_521
  v1020
def k0_mult107 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_523 : BitVec 32 := 2#32
  let v1026 : BitVec 32 := Scalar.addi v946 c2_i32_523
  let c10_i32_524 : BitVec 32 := 10#32
  let v1027 : BitVec 32 := Scalar.addi v1026 c10_i32_524
  let c8_i32_525 : BitVec 32 := 8#32
  let v1028 : BitVec 32 := Scalar.muli v1027 c8_i32_525
  v1028
def k0_mult108 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_527 : BitVec 32 := 2#32
  let v1034 : BitVec 32 := Scalar.addi v946 c2_i32_527
  let c11_i32_528 : BitVec 32 := 11#32
  let v1035 : BitVec 32 := Scalar.addi v1034 c11_i32_528
  let c8_i32_529 : BitVec 32 := 8#32
  let v1036 : BitVec 32 := Scalar.muli v1035 c8_i32_529
  v1036
def k0_mult109 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_531 : BitVec 32 := 2#32
  let v1042 : BitVec 32 := Scalar.addi v946 c2_i32_531
  let c12_i32_532 : BitVec 32 := 12#32
  let v1043 : BitVec 32 := Scalar.addi v1042 c12_i32_532
  let c8_i32_533 : BitVec 32 := 8#32
  let v1044 : BitVec 32 := Scalar.muli v1043 c8_i32_533
  v1044
def k0_mult110 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_535 : BitVec 32 := 2#32
  let v1050 : BitVec 32 := Scalar.addi v946 c2_i32_535
  let c13_i32_536 : BitVec 32 := 13#32
  let v1051 : BitVec 32 := Scalar.addi v1050 c13_i32_536
  let c8_i32_537 : BitVec 32 := 8#32
  let v1052 : BitVec 32 := Scalar.muli v1051 c8_i32_537
  v1052
def k0_mult111 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_539 : BitVec 32 := 2#32
  let v1058 : BitVec 32 := Scalar.addi v946 c2_i32_539
  let c14_i32_540 : BitVec 32 := 14#32
  let v1059 : BitVec 32 := Scalar.addi v1058 c14_i32_540
  let c8_i32_541 : BitVec 32 := 8#32
  let v1060 : BitVec 32 := Scalar.muli v1059 c8_i32_541
  v1060
def k0_mult112 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_543 : BitVec 32 := 2#32
  let v1066 : BitVec 32 := Scalar.addi v946 c2_i32_543
  let c15_i32_544 : BitVec 32 := 15#32
  let v1067 : BitVec 32 := Scalar.addi v1066 c15_i32_544
  let c8_i32_545 : BitVec 32 := 8#32
  let v1068 : BitVec 32 := Scalar.muli v1067 c8_i32_545
  v1068
def k0_mult113 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_547 : BitVec 32 := 2#32
  let v1074 : BitVec 32 := Scalar.addi v946 c2_i32_547
  let c16_i32_548 : BitVec 32 := 16#32
  let v1075 : BitVec 32 := Scalar.addi v1074 c16_i32_548
  let c8_i32_549 : BitVec 32 := 8#32
  let v1076 : BitVec 32 := Scalar.muli v1075 c8_i32_549
  v1076
def k0_mult114 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_551 : BitVec 32 := 2#32
  let v1082 : BitVec 32 := Scalar.addi v946 c2_i32_551
  let c17_i32_552 : BitVec 32 := 17#32
  let v1083 : BitVec 32 := Scalar.addi v1082 c17_i32_552
  let c8_i32_553 : BitVec 32 := 8#32
  let v1084 : BitVec 32 := Scalar.muli v1083 c8_i32_553
  v1084
def k0_mult115 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_555 : BitVec 32 := 2#32
  let v1090 : BitVec 32 := Scalar.addi v946 c2_i32_555
  let c18_i32_556 : BitVec 32 := 18#32
  let v1091 : BitVec 32 := Scalar.addi v1090 c18_i32_556
  let c8_i32_557 : BitVec 32 := 8#32
  let v1092 : BitVec 32 := Scalar.muli v1091 c8_i32_557
  v1092
def k0_mult116 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_559 : BitVec 32 := 2#32
  let v1098 : BitVec 32 := Scalar.addi v946 c2_i32_559
  let c19_i32_560 : BitVec 32 := 19#32
  let v1099 : BitVec 32 := Scalar.addi v1098 c19_i32_560
  let c8_i32_561 : BitVec 32 := 8#32
  let v1100 : BitVec 32 := Scalar.muli v1099 c8_i32_561
  v1100
def k0_mult117 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_563 : BitVec 32 := 2#32
  let v1106 : BitVec 32 := Scalar.addi v946 c2_i32_563
  let c20_i32_564 : BitVec 32 := 20#32
  let v1107 : BitVec 32 := Scalar.addi v1106 c20_i32_564
  let c8_i32_565 : BitVec 32 := 8#32
  let v1108 : BitVec 32 := Scalar.muli v1107 c8_i32_565
  v1108
def k0_mult118 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_567 : BitVec 32 := 2#32
  let v1114 : BitVec 32 := Scalar.addi v946 c2_i32_567
  let c21_i32_568 : BitVec 32 := 21#32
  let v1115 : BitVec 32 := Scalar.addi v1114 c21_i32_568
  let c8_i32_569 : BitVec 32 := 8#32
  let v1116 : BitVec 32 := Scalar.muli v1115 c8_i32_569
  v1116
def k0_mult119 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_571 : BitVec 32 := 2#32
  let v1122 : BitVec 32 := Scalar.addi v946 c2_i32_571
  let c22_i32_572 : BitVec 32 := 22#32
  let v1123 : BitVec 32 := Scalar.addi v1122 c22_i32_572
  let c8_i32_573 : BitVec 32 := 8#32
  let v1124 : BitVec 32 := Scalar.muli v1123 c8_i32_573
  v1124
def k0_mult120 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_575 : BitVec 32 := 2#32
  let v1130 : BitVec 32 := Scalar.addi v946 c2_i32_575
  let c23_i32_576 : BitVec 32 := 23#32
  let v1131 : BitVec 32 := Scalar.addi v1130 c23_i32_576
  let c8_i32_577 : BitVec 32 := 8#32
  let v1132 : BitVec 32 := Scalar.muli v1131 c8_i32_577
  v1132
def k0_mult121 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_579 : BitVec 32 := 2#32
  let v1138 : BitVec 32 := Scalar.addi v946 c2_i32_579
  let c24_i32_580 : BitVec 32 := 24#32
  let v1139 : BitVec 32 := Scalar.addi v1138 c24_i32_580
  let c8_i32_581 : BitVec 32 := 8#32
  let v1140 : BitVec 32 := Scalar.muli v1139 c8_i32_581
  v1140
def k0_mult122 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_583 : BitVec 32 := 2#32
  let v1146 : BitVec 32 := Scalar.addi v946 c2_i32_583
  let c25_i32_584 : BitVec 32 := 25#32
  let v1147 : BitVec 32 := Scalar.addi v1146 c25_i32_584
  let c8_i32_585 : BitVec 32 := 8#32
  let v1148 : BitVec 32 := Scalar.muli v1147 c8_i32_585
  v1148
def k0_mult123 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_587 : BitVec 32 := 2#32
  let v1154 : BitVec 32 := Scalar.addi v946 c2_i32_587
  let c26_i32_588 : BitVec 32 := 26#32
  let v1155 : BitVec 32 := Scalar.addi v1154 c26_i32_588
  let c8_i32_589 : BitVec 32 := 8#32
  let v1156 : BitVec 32 := Scalar.muli v1155 c8_i32_589
  v1156
def k0_mult124 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_591 : BitVec 32 := 2#32
  let v1162 : BitVec 32 := Scalar.addi v946 c2_i32_591
  let c27_i32_592 : BitVec 32 := 27#32
  let v1163 : BitVec 32 := Scalar.addi v1162 c27_i32_592
  let c8_i32_593 : BitVec 32 := 8#32
  let v1164 : BitVec 32 := Scalar.muli v1163 c8_i32_593
  v1164
def k0_mult125 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_595 : BitVec 32 := 2#32
  let v1170 : BitVec 32 := Scalar.addi v946 c2_i32_595
  let c28_i32_596 : BitVec 32 := 28#32
  let v1171 : BitVec 32 := Scalar.addi v1170 c28_i32_596
  let c8_i32_597 : BitVec 32 := 8#32
  let v1172 : BitVec 32 := Scalar.muli v1171 c8_i32_597
  v1172
def k0_mult126 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_599 : BitVec 32 := 2#32
  let v1178 : BitVec 32 := Scalar.addi v946 c2_i32_599
  let c29_i32_600 : BitVec 32 := 29#32
  let v1179 : BitVec 32 := Scalar.addi v1178 c29_i32_600
  let c8_i32_601 : BitVec 32 := 8#32
  let v1180 : BitVec 32 := Scalar.muli v1179 c8_i32_601
  v1180
def k0_mult127 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c2_i32_603 : BitVec 32 := 2#32
  let v1186 : BitVec 32 := Scalar.addi v946 c2_i32_603
  let c30_i32_604 : BitVec 32 := 30#32
  let v1187 : BitVec 32 := Scalar.addi v1186 c30_i32_604
  let c8_i32_605 : BitVec 32 := 8#32
  let v1188 : BitVec 32 := Scalar.muli v1187 c8_i32_605
  v1188
def k0_mult128 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_481 : BitVec 32 := 8#32
  let v945 : BitVec 32 := Scalar.muli arg12 c8_i32_481
  let c3_i32_482 : BitVec 32 := 3#32
  let v946 : BitVec 32 := Scalar.addi v945 c3_i32_482
  let c8_i32_607 : BitVec 32 := 8#32
  let v1194 : BitVec 32 := Scalar.muli v946 c8_i32_607
  v1194
def k0_mult129 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_611 : BitVec 32 := 2#32
  let v1202 : BitVec 32 := Scalar.addi v1201 c2_i32_611
  let c0_i32_612 : BitVec 32 := 0#32
  let v1203 : BitVec 32 := Scalar.addi v1202 c0_i32_612
  let c8_i32_613 : BitVec 32 := 8#32
  let v1204 : BitVec 32 := Scalar.muli v1203 c8_i32_613
  v1204
def k0_mult130 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_615 : BitVec 32 := 2#32
  let v1209 : BitVec 32 := Scalar.addi v1201 c2_i32_615
  let c1_i32_616 : BitVec 32 := 1#32
  let v1210 : BitVec 32 := Scalar.addi v1209 c1_i32_616
  let c8_i32_617 : BitVec 32 := 8#32
  let v1211 : BitVec 32 := Scalar.muli v1210 c8_i32_617
  v1211
def k0_mult131 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_619 : BitVec 32 := 2#32
  let v1217 : BitVec 32 := Scalar.addi v1201 c2_i32_619
  let c2_i32_620 : BitVec 32 := 2#32
  let v1218 : BitVec 32 := Scalar.addi v1217 c2_i32_620
  let c8_i32_621 : BitVec 32 := 8#32
  let v1219 : BitVec 32 := Scalar.muli v1218 c8_i32_621
  v1219
def k0_mult132 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_623 : BitVec 32 := 2#32
  let v1225 : BitVec 32 := Scalar.addi v1201 c2_i32_623
  let c3_i32_624 : BitVec 32 := 3#32
  let v1226 : BitVec 32 := Scalar.addi v1225 c3_i32_624
  let c8_i32_625 : BitVec 32 := 8#32
  let v1227 : BitVec 32 := Scalar.muli v1226 c8_i32_625
  v1227
def k0_mult133 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_627 : BitVec 32 := 2#32
  let v1233 : BitVec 32 := Scalar.addi v1201 c2_i32_627
  let c4_i32_628 : BitVec 32 := 4#32
  let v1234 : BitVec 32 := Scalar.addi v1233 c4_i32_628
  let c8_i32_629 : BitVec 32 := 8#32
  let v1235 : BitVec 32 := Scalar.muli v1234 c8_i32_629
  v1235
def k0_mult134 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_631 : BitVec 32 := 2#32
  let v1241 : BitVec 32 := Scalar.addi v1201 c2_i32_631
  let c5_i32_632 : BitVec 32 := 5#32
  let v1242 : BitVec 32 := Scalar.addi v1241 c5_i32_632
  let c8_i32_633 : BitVec 32 := 8#32
  let v1243 : BitVec 32 := Scalar.muli v1242 c8_i32_633
  v1243
def k0_mult135 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_635 : BitVec 32 := 2#32
  let v1249 : BitVec 32 := Scalar.addi v1201 c2_i32_635
  let c6_i32_636 : BitVec 32 := 6#32
  let v1250 : BitVec 32 := Scalar.addi v1249 c6_i32_636
  let c8_i32_637 : BitVec 32 := 8#32
  let v1251 : BitVec 32 := Scalar.muli v1250 c8_i32_637
  v1251
def k0_mult136 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_639 : BitVec 32 := 2#32
  let v1257 : BitVec 32 := Scalar.addi v1201 c2_i32_639
  let c7_i32_640 : BitVec 32 := 7#32
  let v1258 : BitVec 32 := Scalar.addi v1257 c7_i32_640
  let c8_i32_641 : BitVec 32 := 8#32
  let v1259 : BitVec 32 := Scalar.muli v1258 c8_i32_641
  v1259
def k0_mult137 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_643 : BitVec 32 := 2#32
  let v1265 : BitVec 32 := Scalar.addi v1201 c2_i32_643
  let c8_i32_644 : BitVec 32 := 8#32
  let v1266 : BitVec 32 := Scalar.addi v1265 c8_i32_644
  let c8_i32_645 : BitVec 32 := 8#32
  let v1267 : BitVec 32 := Scalar.muli v1266 c8_i32_645
  v1267
def k0_mult138 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_647 : BitVec 32 := 2#32
  let v1273 : BitVec 32 := Scalar.addi v1201 c2_i32_647
  let c9_i32_648 : BitVec 32 := 9#32
  let v1274 : BitVec 32 := Scalar.addi v1273 c9_i32_648
  let c8_i32_649 : BitVec 32 := 8#32
  let v1275 : BitVec 32 := Scalar.muli v1274 c8_i32_649
  v1275
def k0_mult139 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_651 : BitVec 32 := 2#32
  let v1281 : BitVec 32 := Scalar.addi v1201 c2_i32_651
  let c10_i32_652 : BitVec 32 := 10#32
  let v1282 : BitVec 32 := Scalar.addi v1281 c10_i32_652
  let c8_i32_653 : BitVec 32 := 8#32
  let v1283 : BitVec 32 := Scalar.muli v1282 c8_i32_653
  v1283
def k0_mult140 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_655 : BitVec 32 := 2#32
  let v1289 : BitVec 32 := Scalar.addi v1201 c2_i32_655
  let c11_i32_656 : BitVec 32 := 11#32
  let v1290 : BitVec 32 := Scalar.addi v1289 c11_i32_656
  let c8_i32_657 : BitVec 32 := 8#32
  let v1291 : BitVec 32 := Scalar.muli v1290 c8_i32_657
  v1291
def k0_mult141 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_659 : BitVec 32 := 2#32
  let v1297 : BitVec 32 := Scalar.addi v1201 c2_i32_659
  let c12_i32_660 : BitVec 32 := 12#32
  let v1298 : BitVec 32 := Scalar.addi v1297 c12_i32_660
  let c8_i32_661 : BitVec 32 := 8#32
  let v1299 : BitVec 32 := Scalar.muli v1298 c8_i32_661
  v1299
def k0_mult142 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_663 : BitVec 32 := 2#32
  let v1305 : BitVec 32 := Scalar.addi v1201 c2_i32_663
  let c13_i32_664 : BitVec 32 := 13#32
  let v1306 : BitVec 32 := Scalar.addi v1305 c13_i32_664
  let c8_i32_665 : BitVec 32 := 8#32
  let v1307 : BitVec 32 := Scalar.muli v1306 c8_i32_665
  v1307
def k0_mult143 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_667 : BitVec 32 := 2#32
  let v1313 : BitVec 32 := Scalar.addi v1201 c2_i32_667
  let c14_i32_668 : BitVec 32 := 14#32
  let v1314 : BitVec 32 := Scalar.addi v1313 c14_i32_668
  let c8_i32_669 : BitVec 32 := 8#32
  let v1315 : BitVec 32 := Scalar.muli v1314 c8_i32_669
  v1315
def k0_mult144 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_671 : BitVec 32 := 2#32
  let v1321 : BitVec 32 := Scalar.addi v1201 c2_i32_671
  let c15_i32_672 : BitVec 32 := 15#32
  let v1322 : BitVec 32 := Scalar.addi v1321 c15_i32_672
  let c8_i32_673 : BitVec 32 := 8#32
  let v1323 : BitVec 32 := Scalar.muli v1322 c8_i32_673
  v1323
def k0_mult145 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_675 : BitVec 32 := 2#32
  let v1329 : BitVec 32 := Scalar.addi v1201 c2_i32_675
  let c16_i32_676 : BitVec 32 := 16#32
  let v1330 : BitVec 32 := Scalar.addi v1329 c16_i32_676
  let c8_i32_677 : BitVec 32 := 8#32
  let v1331 : BitVec 32 := Scalar.muli v1330 c8_i32_677
  v1331
def k0_mult146 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_679 : BitVec 32 := 2#32
  let v1337 : BitVec 32 := Scalar.addi v1201 c2_i32_679
  let c17_i32_680 : BitVec 32 := 17#32
  let v1338 : BitVec 32 := Scalar.addi v1337 c17_i32_680
  let c8_i32_681 : BitVec 32 := 8#32
  let v1339 : BitVec 32 := Scalar.muli v1338 c8_i32_681
  v1339
def k0_mult147 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_683 : BitVec 32 := 2#32
  let v1345 : BitVec 32 := Scalar.addi v1201 c2_i32_683
  let c18_i32_684 : BitVec 32 := 18#32
  let v1346 : BitVec 32 := Scalar.addi v1345 c18_i32_684
  let c8_i32_685 : BitVec 32 := 8#32
  let v1347 : BitVec 32 := Scalar.muli v1346 c8_i32_685
  v1347
def k0_mult148 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_687 : BitVec 32 := 2#32
  let v1353 : BitVec 32 := Scalar.addi v1201 c2_i32_687
  let c19_i32_688 : BitVec 32 := 19#32
  let v1354 : BitVec 32 := Scalar.addi v1353 c19_i32_688
  let c8_i32_689 : BitVec 32 := 8#32
  let v1355 : BitVec 32 := Scalar.muli v1354 c8_i32_689
  v1355
def k0_mult149 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_691 : BitVec 32 := 2#32
  let v1361 : BitVec 32 := Scalar.addi v1201 c2_i32_691
  let c20_i32_692 : BitVec 32 := 20#32
  let v1362 : BitVec 32 := Scalar.addi v1361 c20_i32_692
  let c8_i32_693 : BitVec 32 := 8#32
  let v1363 : BitVec 32 := Scalar.muli v1362 c8_i32_693
  v1363
def k0_mult150 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_695 : BitVec 32 := 2#32
  let v1369 : BitVec 32 := Scalar.addi v1201 c2_i32_695
  let c21_i32_696 : BitVec 32 := 21#32
  let v1370 : BitVec 32 := Scalar.addi v1369 c21_i32_696
  let c8_i32_697 : BitVec 32 := 8#32
  let v1371 : BitVec 32 := Scalar.muli v1370 c8_i32_697
  v1371
def k0_mult151 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_699 : BitVec 32 := 2#32
  let v1377 : BitVec 32 := Scalar.addi v1201 c2_i32_699
  let c22_i32_700 : BitVec 32 := 22#32
  let v1378 : BitVec 32 := Scalar.addi v1377 c22_i32_700
  let c8_i32_701 : BitVec 32 := 8#32
  let v1379 : BitVec 32 := Scalar.muli v1378 c8_i32_701
  v1379
def k0_mult152 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_703 : BitVec 32 := 2#32
  let v1385 : BitVec 32 := Scalar.addi v1201 c2_i32_703
  let c23_i32_704 : BitVec 32 := 23#32
  let v1386 : BitVec 32 := Scalar.addi v1385 c23_i32_704
  let c8_i32_705 : BitVec 32 := 8#32
  let v1387 : BitVec 32 := Scalar.muli v1386 c8_i32_705
  v1387
def k0_mult153 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_707 : BitVec 32 := 2#32
  let v1393 : BitVec 32 := Scalar.addi v1201 c2_i32_707
  let c24_i32_708 : BitVec 32 := 24#32
  let v1394 : BitVec 32 := Scalar.addi v1393 c24_i32_708
  let c8_i32_709 : BitVec 32 := 8#32
  let v1395 : BitVec 32 := Scalar.muli v1394 c8_i32_709
  v1395
def k0_mult154 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_711 : BitVec 32 := 2#32
  let v1401 : BitVec 32 := Scalar.addi v1201 c2_i32_711
  let c25_i32_712 : BitVec 32 := 25#32
  let v1402 : BitVec 32 := Scalar.addi v1401 c25_i32_712
  let c8_i32_713 : BitVec 32 := 8#32
  let v1403 : BitVec 32 := Scalar.muli v1402 c8_i32_713
  v1403
def k0_mult155 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_715 : BitVec 32 := 2#32
  let v1409 : BitVec 32 := Scalar.addi v1201 c2_i32_715
  let c26_i32_716 : BitVec 32 := 26#32
  let v1410 : BitVec 32 := Scalar.addi v1409 c26_i32_716
  let c8_i32_717 : BitVec 32 := 8#32
  let v1411 : BitVec 32 := Scalar.muli v1410 c8_i32_717
  v1411
def k0_mult156 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_719 : BitVec 32 := 2#32
  let v1417 : BitVec 32 := Scalar.addi v1201 c2_i32_719
  let c27_i32_720 : BitVec 32 := 27#32
  let v1418 : BitVec 32 := Scalar.addi v1417 c27_i32_720
  let c8_i32_721 : BitVec 32 := 8#32
  let v1419 : BitVec 32 := Scalar.muli v1418 c8_i32_721
  v1419
def k0_mult157 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_723 : BitVec 32 := 2#32
  let v1425 : BitVec 32 := Scalar.addi v1201 c2_i32_723
  let c28_i32_724 : BitVec 32 := 28#32
  let v1426 : BitVec 32 := Scalar.addi v1425 c28_i32_724
  let c8_i32_725 : BitVec 32 := 8#32
  let v1427 : BitVec 32 := Scalar.muli v1426 c8_i32_725
  v1427
def k0_mult158 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_727 : BitVec 32 := 2#32
  let v1433 : BitVec 32 := Scalar.addi v1201 c2_i32_727
  let c29_i32_728 : BitVec 32 := 29#32
  let v1434 : BitVec 32 := Scalar.addi v1433 c29_i32_728
  let c8_i32_729 : BitVec 32 := 8#32
  let v1435 : BitVec 32 := Scalar.muli v1434 c8_i32_729
  v1435
def k0_mult159 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c2_i32_731 : BitVec 32 := 2#32
  let v1441 : BitVec 32 := Scalar.addi v1201 c2_i32_731
  let c30_i32_732 : BitVec 32 := 30#32
  let v1442 : BitVec 32 := Scalar.addi v1441 c30_i32_732
  let c8_i32_733 : BitVec 32 := 8#32
  let v1443 : BitVec 32 := Scalar.muli v1442 c8_i32_733
  v1443
def k0_mult160 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_609 : BitVec 32 := 8#32
  let v1200 : BitVec 32 := Scalar.muli arg12 c8_i32_609
  let c4_i32_610 : BitVec 32 := 4#32
  let v1201 : BitVec 32 := Scalar.addi v1200 c4_i32_610
  let c8_i32_735 : BitVec 32 := 8#32
  let v1449 : BitVec 32 := Scalar.muli v1201 c8_i32_735
  v1449
def k0_mult161 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_739 : BitVec 32 := 2#32
  let v1457 : BitVec 32 := Scalar.addi v1456 c2_i32_739
  let c0_i32_740 : BitVec 32 := 0#32
  let v1458 : BitVec 32 := Scalar.addi v1457 c0_i32_740
  let c8_i32_741 : BitVec 32 := 8#32
  let v1459 : BitVec 32 := Scalar.muli v1458 c8_i32_741
  v1459
def k0_mult162 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_743 : BitVec 32 := 2#32
  let v1464 : BitVec 32 := Scalar.addi v1456 c2_i32_743
  let c1_i32_744 : BitVec 32 := 1#32
  let v1465 : BitVec 32 := Scalar.addi v1464 c1_i32_744
  let c8_i32_745 : BitVec 32 := 8#32
  let v1466 : BitVec 32 := Scalar.muli v1465 c8_i32_745
  v1466
def k0_mult163 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_747 : BitVec 32 := 2#32
  let v1472 : BitVec 32 := Scalar.addi v1456 c2_i32_747
  let c2_i32_748 : BitVec 32 := 2#32
  let v1473 : BitVec 32 := Scalar.addi v1472 c2_i32_748
  let c8_i32_749 : BitVec 32 := 8#32
  let v1474 : BitVec 32 := Scalar.muli v1473 c8_i32_749
  v1474
def k0_mult164 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_751 : BitVec 32 := 2#32
  let v1480 : BitVec 32 := Scalar.addi v1456 c2_i32_751
  let c3_i32_752 : BitVec 32 := 3#32
  let v1481 : BitVec 32 := Scalar.addi v1480 c3_i32_752
  let c8_i32_753 : BitVec 32 := 8#32
  let v1482 : BitVec 32 := Scalar.muli v1481 c8_i32_753
  v1482
def k0_mult165 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_755 : BitVec 32 := 2#32
  let v1488 : BitVec 32 := Scalar.addi v1456 c2_i32_755
  let c4_i32_756 : BitVec 32 := 4#32
  let v1489 : BitVec 32 := Scalar.addi v1488 c4_i32_756
  let c8_i32_757 : BitVec 32 := 8#32
  let v1490 : BitVec 32 := Scalar.muli v1489 c8_i32_757
  v1490
def k0_mult166 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_759 : BitVec 32 := 2#32
  let v1496 : BitVec 32 := Scalar.addi v1456 c2_i32_759
  let c5_i32_760 : BitVec 32 := 5#32
  let v1497 : BitVec 32 := Scalar.addi v1496 c5_i32_760
  let c8_i32_761 : BitVec 32 := 8#32
  let v1498 : BitVec 32 := Scalar.muli v1497 c8_i32_761
  v1498
def k0_mult167 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_763 : BitVec 32 := 2#32
  let v1504 : BitVec 32 := Scalar.addi v1456 c2_i32_763
  let c6_i32_764 : BitVec 32 := 6#32
  let v1505 : BitVec 32 := Scalar.addi v1504 c6_i32_764
  let c8_i32_765 : BitVec 32 := 8#32
  let v1506 : BitVec 32 := Scalar.muli v1505 c8_i32_765
  v1506
def k0_mult168 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_767 : BitVec 32 := 2#32
  let v1512 : BitVec 32 := Scalar.addi v1456 c2_i32_767
  let c7_i32_768 : BitVec 32 := 7#32
  let v1513 : BitVec 32 := Scalar.addi v1512 c7_i32_768
  let c8_i32_769 : BitVec 32 := 8#32
  let v1514 : BitVec 32 := Scalar.muli v1513 c8_i32_769
  v1514
def k0_mult169 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_771 : BitVec 32 := 2#32
  let v1520 : BitVec 32 := Scalar.addi v1456 c2_i32_771
  let c8_i32_772 : BitVec 32 := 8#32
  let v1521 : BitVec 32 := Scalar.addi v1520 c8_i32_772
  let c8_i32_773 : BitVec 32 := 8#32
  let v1522 : BitVec 32 := Scalar.muli v1521 c8_i32_773
  v1522
def k0_mult170 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_775 : BitVec 32 := 2#32
  let v1528 : BitVec 32 := Scalar.addi v1456 c2_i32_775
  let c9_i32_776 : BitVec 32 := 9#32
  let v1529 : BitVec 32 := Scalar.addi v1528 c9_i32_776
  let c8_i32_777 : BitVec 32 := 8#32
  let v1530 : BitVec 32 := Scalar.muli v1529 c8_i32_777
  v1530
def k0_mult171 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_779 : BitVec 32 := 2#32
  let v1536 : BitVec 32 := Scalar.addi v1456 c2_i32_779
  let c10_i32_780 : BitVec 32 := 10#32
  let v1537 : BitVec 32 := Scalar.addi v1536 c10_i32_780
  let c8_i32_781 : BitVec 32 := 8#32
  let v1538 : BitVec 32 := Scalar.muli v1537 c8_i32_781
  v1538
def k0_mult172 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_783 : BitVec 32 := 2#32
  let v1544 : BitVec 32 := Scalar.addi v1456 c2_i32_783
  let c11_i32_784 : BitVec 32 := 11#32
  let v1545 : BitVec 32 := Scalar.addi v1544 c11_i32_784
  let c8_i32_785 : BitVec 32 := 8#32
  let v1546 : BitVec 32 := Scalar.muli v1545 c8_i32_785
  v1546
def k0_mult173 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_787 : BitVec 32 := 2#32
  let v1552 : BitVec 32 := Scalar.addi v1456 c2_i32_787
  let c12_i32_788 : BitVec 32 := 12#32
  let v1553 : BitVec 32 := Scalar.addi v1552 c12_i32_788
  let c8_i32_789 : BitVec 32 := 8#32
  let v1554 : BitVec 32 := Scalar.muli v1553 c8_i32_789
  v1554
def k0_mult174 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_791 : BitVec 32 := 2#32
  let v1560 : BitVec 32 := Scalar.addi v1456 c2_i32_791
  let c13_i32_792 : BitVec 32 := 13#32
  let v1561 : BitVec 32 := Scalar.addi v1560 c13_i32_792
  let c8_i32_793 : BitVec 32 := 8#32
  let v1562 : BitVec 32 := Scalar.muli v1561 c8_i32_793
  v1562
def k0_mult175 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_795 : BitVec 32 := 2#32
  let v1568 : BitVec 32 := Scalar.addi v1456 c2_i32_795
  let c14_i32_796 : BitVec 32 := 14#32
  let v1569 : BitVec 32 := Scalar.addi v1568 c14_i32_796
  let c8_i32_797 : BitVec 32 := 8#32
  let v1570 : BitVec 32 := Scalar.muli v1569 c8_i32_797
  v1570
def k0_mult176 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_799 : BitVec 32 := 2#32
  let v1576 : BitVec 32 := Scalar.addi v1456 c2_i32_799
  let c15_i32_800 : BitVec 32 := 15#32
  let v1577 : BitVec 32 := Scalar.addi v1576 c15_i32_800
  let c8_i32_801 : BitVec 32 := 8#32
  let v1578 : BitVec 32 := Scalar.muli v1577 c8_i32_801
  v1578
def k0_mult177 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_803 : BitVec 32 := 2#32
  let v1584 : BitVec 32 := Scalar.addi v1456 c2_i32_803
  let c16_i32_804 : BitVec 32 := 16#32
  let v1585 : BitVec 32 := Scalar.addi v1584 c16_i32_804
  let c8_i32_805 : BitVec 32 := 8#32
  let v1586 : BitVec 32 := Scalar.muli v1585 c8_i32_805
  v1586
def k0_mult178 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_807 : BitVec 32 := 2#32
  let v1592 : BitVec 32 := Scalar.addi v1456 c2_i32_807
  let c17_i32_808 : BitVec 32 := 17#32
  let v1593 : BitVec 32 := Scalar.addi v1592 c17_i32_808
  let c8_i32_809 : BitVec 32 := 8#32
  let v1594 : BitVec 32 := Scalar.muli v1593 c8_i32_809
  v1594
def k0_mult179 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_811 : BitVec 32 := 2#32
  let v1600 : BitVec 32 := Scalar.addi v1456 c2_i32_811
  let c18_i32_812 : BitVec 32 := 18#32
  let v1601 : BitVec 32 := Scalar.addi v1600 c18_i32_812
  let c8_i32_813 : BitVec 32 := 8#32
  let v1602 : BitVec 32 := Scalar.muli v1601 c8_i32_813
  v1602
def k0_mult180 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_815 : BitVec 32 := 2#32
  let v1608 : BitVec 32 := Scalar.addi v1456 c2_i32_815
  let c19_i32_816 : BitVec 32 := 19#32
  let v1609 : BitVec 32 := Scalar.addi v1608 c19_i32_816
  let c8_i32_817 : BitVec 32 := 8#32
  let v1610 : BitVec 32 := Scalar.muli v1609 c8_i32_817
  v1610
def k0_mult181 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_819 : BitVec 32 := 2#32
  let v1616 : BitVec 32 := Scalar.addi v1456 c2_i32_819
  let c20_i32_820 : BitVec 32 := 20#32
  let v1617 : BitVec 32 := Scalar.addi v1616 c20_i32_820
  let c8_i32_821 : BitVec 32 := 8#32
  let v1618 : BitVec 32 := Scalar.muli v1617 c8_i32_821
  v1618
def k0_mult182 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_823 : BitVec 32 := 2#32
  let v1624 : BitVec 32 := Scalar.addi v1456 c2_i32_823
  let c21_i32_824 : BitVec 32 := 21#32
  let v1625 : BitVec 32 := Scalar.addi v1624 c21_i32_824
  let c8_i32_825 : BitVec 32 := 8#32
  let v1626 : BitVec 32 := Scalar.muli v1625 c8_i32_825
  v1626
def k0_mult183 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_827 : BitVec 32 := 2#32
  let v1632 : BitVec 32 := Scalar.addi v1456 c2_i32_827
  let c22_i32_828 : BitVec 32 := 22#32
  let v1633 : BitVec 32 := Scalar.addi v1632 c22_i32_828
  let c8_i32_829 : BitVec 32 := 8#32
  let v1634 : BitVec 32 := Scalar.muli v1633 c8_i32_829
  v1634
def k0_mult184 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_831 : BitVec 32 := 2#32
  let v1640 : BitVec 32 := Scalar.addi v1456 c2_i32_831
  let c23_i32_832 : BitVec 32 := 23#32
  let v1641 : BitVec 32 := Scalar.addi v1640 c23_i32_832
  let c8_i32_833 : BitVec 32 := 8#32
  let v1642 : BitVec 32 := Scalar.muli v1641 c8_i32_833
  v1642
def k0_mult185 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_835 : BitVec 32 := 2#32
  let v1648 : BitVec 32 := Scalar.addi v1456 c2_i32_835
  let c24_i32_836 : BitVec 32 := 24#32
  let v1649 : BitVec 32 := Scalar.addi v1648 c24_i32_836
  let c8_i32_837 : BitVec 32 := 8#32
  let v1650 : BitVec 32 := Scalar.muli v1649 c8_i32_837
  v1650
def k0_mult186 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_839 : BitVec 32 := 2#32
  let v1656 : BitVec 32 := Scalar.addi v1456 c2_i32_839
  let c25_i32_840 : BitVec 32 := 25#32
  let v1657 : BitVec 32 := Scalar.addi v1656 c25_i32_840
  let c8_i32_841 : BitVec 32 := 8#32
  let v1658 : BitVec 32 := Scalar.muli v1657 c8_i32_841
  v1658
def k0_mult187 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_843 : BitVec 32 := 2#32
  let v1664 : BitVec 32 := Scalar.addi v1456 c2_i32_843
  let c26_i32_844 : BitVec 32 := 26#32
  let v1665 : BitVec 32 := Scalar.addi v1664 c26_i32_844
  let c8_i32_845 : BitVec 32 := 8#32
  let v1666 : BitVec 32 := Scalar.muli v1665 c8_i32_845
  v1666
def k0_mult188 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_847 : BitVec 32 := 2#32
  let v1672 : BitVec 32 := Scalar.addi v1456 c2_i32_847
  let c27_i32_848 : BitVec 32 := 27#32
  let v1673 : BitVec 32 := Scalar.addi v1672 c27_i32_848
  let c8_i32_849 : BitVec 32 := 8#32
  let v1674 : BitVec 32 := Scalar.muli v1673 c8_i32_849
  v1674
def k0_mult189 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_851 : BitVec 32 := 2#32
  let v1680 : BitVec 32 := Scalar.addi v1456 c2_i32_851
  let c28_i32_852 : BitVec 32 := 28#32
  let v1681 : BitVec 32 := Scalar.addi v1680 c28_i32_852
  let c8_i32_853 : BitVec 32 := 8#32
  let v1682 : BitVec 32 := Scalar.muli v1681 c8_i32_853
  v1682
def k0_mult190 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_855 : BitVec 32 := 2#32
  let v1688 : BitVec 32 := Scalar.addi v1456 c2_i32_855
  let c29_i32_856 : BitVec 32 := 29#32
  let v1689 : BitVec 32 := Scalar.addi v1688 c29_i32_856
  let c8_i32_857 : BitVec 32 := 8#32
  let v1690 : BitVec 32 := Scalar.muli v1689 c8_i32_857
  v1690
def k0_mult191 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c2_i32_859 : BitVec 32 := 2#32
  let v1696 : BitVec 32 := Scalar.addi v1456 c2_i32_859
  let c30_i32_860 : BitVec 32 := 30#32
  let v1697 : BitVec 32 := Scalar.addi v1696 c30_i32_860
  let c8_i32_861 : BitVec 32 := 8#32
  let v1698 : BitVec 32 := Scalar.muli v1697 c8_i32_861
  v1698
def k0_mult192 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_737 : BitVec 32 := 8#32
  let v1455 : BitVec 32 := Scalar.muli arg12 c8_i32_737
  let c5_i32_738 : BitVec 32 := 5#32
  let v1456 : BitVec 32 := Scalar.addi v1455 c5_i32_738
  let c8_i32_863 : BitVec 32 := 8#32
  let v1704 : BitVec 32 := Scalar.muli v1456 c8_i32_863
  v1704
def k0_mult193 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_867 : BitVec 32 := 2#32
  let v1712 : BitVec 32 := Scalar.addi v1711 c2_i32_867
  let c0_i32_868 : BitVec 32 := 0#32
  let v1713 : BitVec 32 := Scalar.addi v1712 c0_i32_868
  let c8_i32_869 : BitVec 32 := 8#32
  let v1714 : BitVec 32 := Scalar.muli v1713 c8_i32_869
  v1714
def k0_mult194 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_871 : BitVec 32 := 2#32
  let v1719 : BitVec 32 := Scalar.addi v1711 c2_i32_871
  let c1_i32_872 : BitVec 32 := 1#32
  let v1720 : BitVec 32 := Scalar.addi v1719 c1_i32_872
  let c8_i32_873 : BitVec 32 := 8#32
  let v1721 : BitVec 32 := Scalar.muli v1720 c8_i32_873
  v1721
def k0_mult195 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_875 : BitVec 32 := 2#32
  let v1727 : BitVec 32 := Scalar.addi v1711 c2_i32_875
  let c2_i32_876 : BitVec 32 := 2#32
  let v1728 : BitVec 32 := Scalar.addi v1727 c2_i32_876
  let c8_i32_877 : BitVec 32 := 8#32
  let v1729 : BitVec 32 := Scalar.muli v1728 c8_i32_877
  v1729
def k0_mult196 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_879 : BitVec 32 := 2#32
  let v1735 : BitVec 32 := Scalar.addi v1711 c2_i32_879
  let c3_i32_880 : BitVec 32 := 3#32
  let v1736 : BitVec 32 := Scalar.addi v1735 c3_i32_880
  let c8_i32_881 : BitVec 32 := 8#32
  let v1737 : BitVec 32 := Scalar.muli v1736 c8_i32_881
  v1737
def k0_mult197 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_883 : BitVec 32 := 2#32
  let v1743 : BitVec 32 := Scalar.addi v1711 c2_i32_883
  let c4_i32_884 : BitVec 32 := 4#32
  let v1744 : BitVec 32 := Scalar.addi v1743 c4_i32_884
  let c8_i32_885 : BitVec 32 := 8#32
  let v1745 : BitVec 32 := Scalar.muli v1744 c8_i32_885
  v1745
def k0_mult198 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_887 : BitVec 32 := 2#32
  let v1751 : BitVec 32 := Scalar.addi v1711 c2_i32_887
  let c5_i32_888 : BitVec 32 := 5#32
  let v1752 : BitVec 32 := Scalar.addi v1751 c5_i32_888
  let c8_i32_889 : BitVec 32 := 8#32
  let v1753 : BitVec 32 := Scalar.muli v1752 c8_i32_889
  v1753
def k0_mult199 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_891 : BitVec 32 := 2#32
  let v1759 : BitVec 32 := Scalar.addi v1711 c2_i32_891
  let c6_i32_892 : BitVec 32 := 6#32
  let v1760 : BitVec 32 := Scalar.addi v1759 c6_i32_892
  let c8_i32_893 : BitVec 32 := 8#32
  let v1761 : BitVec 32 := Scalar.muli v1760 c8_i32_893
  v1761
def k0_mult200 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_895 : BitVec 32 := 2#32
  let v1767 : BitVec 32 := Scalar.addi v1711 c2_i32_895
  let c7_i32_896 : BitVec 32 := 7#32
  let v1768 : BitVec 32 := Scalar.addi v1767 c7_i32_896
  let c8_i32_897 : BitVec 32 := 8#32
  let v1769 : BitVec 32 := Scalar.muli v1768 c8_i32_897
  v1769
def k0_mult201 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_899 : BitVec 32 := 2#32
  let v1775 : BitVec 32 := Scalar.addi v1711 c2_i32_899
  let c8_i32_900 : BitVec 32 := 8#32
  let v1776 : BitVec 32 := Scalar.addi v1775 c8_i32_900
  let c8_i32_901 : BitVec 32 := 8#32
  let v1777 : BitVec 32 := Scalar.muli v1776 c8_i32_901
  v1777
def k0_mult202 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_903 : BitVec 32 := 2#32
  let v1783 : BitVec 32 := Scalar.addi v1711 c2_i32_903
  let c9_i32_904 : BitVec 32 := 9#32
  let v1784 : BitVec 32 := Scalar.addi v1783 c9_i32_904
  let c8_i32_905 : BitVec 32 := 8#32
  let v1785 : BitVec 32 := Scalar.muli v1784 c8_i32_905
  v1785
def k0_mult203 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_907 : BitVec 32 := 2#32
  let v1791 : BitVec 32 := Scalar.addi v1711 c2_i32_907
  let c10_i32_908 : BitVec 32 := 10#32
  let v1792 : BitVec 32 := Scalar.addi v1791 c10_i32_908
  let c8_i32_909 : BitVec 32 := 8#32
  let v1793 : BitVec 32 := Scalar.muli v1792 c8_i32_909
  v1793
def k0_mult204 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_911 : BitVec 32 := 2#32
  let v1799 : BitVec 32 := Scalar.addi v1711 c2_i32_911
  let c11_i32_912 : BitVec 32 := 11#32
  let v1800 : BitVec 32 := Scalar.addi v1799 c11_i32_912
  let c8_i32_913 : BitVec 32 := 8#32
  let v1801 : BitVec 32 := Scalar.muli v1800 c8_i32_913
  v1801
def k0_mult205 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_915 : BitVec 32 := 2#32
  let v1807 : BitVec 32 := Scalar.addi v1711 c2_i32_915
  let c12_i32_916 : BitVec 32 := 12#32
  let v1808 : BitVec 32 := Scalar.addi v1807 c12_i32_916
  let c8_i32_917 : BitVec 32 := 8#32
  let v1809 : BitVec 32 := Scalar.muli v1808 c8_i32_917
  v1809
def k0_mult206 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_919 : BitVec 32 := 2#32
  let v1815 : BitVec 32 := Scalar.addi v1711 c2_i32_919
  let c13_i32_920 : BitVec 32 := 13#32
  let v1816 : BitVec 32 := Scalar.addi v1815 c13_i32_920
  let c8_i32_921 : BitVec 32 := 8#32
  let v1817 : BitVec 32 := Scalar.muli v1816 c8_i32_921
  v1817
def k0_mult207 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_923 : BitVec 32 := 2#32
  let v1823 : BitVec 32 := Scalar.addi v1711 c2_i32_923
  let c14_i32_924 : BitVec 32 := 14#32
  let v1824 : BitVec 32 := Scalar.addi v1823 c14_i32_924
  let c8_i32_925 : BitVec 32 := 8#32
  let v1825 : BitVec 32 := Scalar.muli v1824 c8_i32_925
  v1825
def k0_mult208 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_927 : BitVec 32 := 2#32
  let v1831 : BitVec 32 := Scalar.addi v1711 c2_i32_927
  let c15_i32_928 : BitVec 32 := 15#32
  let v1832 : BitVec 32 := Scalar.addi v1831 c15_i32_928
  let c8_i32_929 : BitVec 32 := 8#32
  let v1833 : BitVec 32 := Scalar.muli v1832 c8_i32_929
  v1833
def k0_mult209 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_931 : BitVec 32 := 2#32
  let v1839 : BitVec 32 := Scalar.addi v1711 c2_i32_931
  let c16_i32_932 : BitVec 32 := 16#32
  let v1840 : BitVec 32 := Scalar.addi v1839 c16_i32_932
  let c8_i32_933 : BitVec 32 := 8#32
  let v1841 : BitVec 32 := Scalar.muli v1840 c8_i32_933
  v1841
def k0_mult210 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_935 : BitVec 32 := 2#32
  let v1847 : BitVec 32 := Scalar.addi v1711 c2_i32_935
  let c17_i32_936 : BitVec 32 := 17#32
  let v1848 : BitVec 32 := Scalar.addi v1847 c17_i32_936
  let c8_i32_937 : BitVec 32 := 8#32
  let v1849 : BitVec 32 := Scalar.muli v1848 c8_i32_937
  v1849
def k0_mult211 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_939 : BitVec 32 := 2#32
  let v1855 : BitVec 32 := Scalar.addi v1711 c2_i32_939
  let c18_i32_940 : BitVec 32 := 18#32
  let v1856 : BitVec 32 := Scalar.addi v1855 c18_i32_940
  let c8_i32_941 : BitVec 32 := 8#32
  let v1857 : BitVec 32 := Scalar.muli v1856 c8_i32_941
  v1857
def k0_mult212 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_943 : BitVec 32 := 2#32
  let v1863 : BitVec 32 := Scalar.addi v1711 c2_i32_943
  let c19_i32_944 : BitVec 32 := 19#32
  let v1864 : BitVec 32 := Scalar.addi v1863 c19_i32_944
  let c8_i32_945 : BitVec 32 := 8#32
  let v1865 : BitVec 32 := Scalar.muli v1864 c8_i32_945
  v1865
def k0_mult213 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_947 : BitVec 32 := 2#32
  let v1871 : BitVec 32 := Scalar.addi v1711 c2_i32_947
  let c20_i32_948 : BitVec 32 := 20#32
  let v1872 : BitVec 32 := Scalar.addi v1871 c20_i32_948
  let c8_i32_949 : BitVec 32 := 8#32
  let v1873 : BitVec 32 := Scalar.muli v1872 c8_i32_949
  v1873
def k0_mult214 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_951 : BitVec 32 := 2#32
  let v1879 : BitVec 32 := Scalar.addi v1711 c2_i32_951
  let c21_i32_952 : BitVec 32 := 21#32
  let v1880 : BitVec 32 := Scalar.addi v1879 c21_i32_952
  let c8_i32_953 : BitVec 32 := 8#32
  let v1881 : BitVec 32 := Scalar.muli v1880 c8_i32_953
  v1881
def k0_mult215 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_955 : BitVec 32 := 2#32
  let v1887 : BitVec 32 := Scalar.addi v1711 c2_i32_955
  let c22_i32_956 : BitVec 32 := 22#32
  let v1888 : BitVec 32 := Scalar.addi v1887 c22_i32_956
  let c8_i32_957 : BitVec 32 := 8#32
  let v1889 : BitVec 32 := Scalar.muli v1888 c8_i32_957
  v1889
def k0_mult216 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_959 : BitVec 32 := 2#32
  let v1895 : BitVec 32 := Scalar.addi v1711 c2_i32_959
  let c23_i32_960 : BitVec 32 := 23#32
  let v1896 : BitVec 32 := Scalar.addi v1895 c23_i32_960
  let c8_i32_961 : BitVec 32 := 8#32
  let v1897 : BitVec 32 := Scalar.muli v1896 c8_i32_961
  v1897
def k0_mult217 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_963 : BitVec 32 := 2#32
  let v1903 : BitVec 32 := Scalar.addi v1711 c2_i32_963
  let c24_i32_964 : BitVec 32 := 24#32
  let v1904 : BitVec 32 := Scalar.addi v1903 c24_i32_964
  let c8_i32_965 : BitVec 32 := 8#32
  let v1905 : BitVec 32 := Scalar.muli v1904 c8_i32_965
  v1905
def k0_mult218 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_967 : BitVec 32 := 2#32
  let v1911 : BitVec 32 := Scalar.addi v1711 c2_i32_967
  let c25_i32_968 : BitVec 32 := 25#32
  let v1912 : BitVec 32 := Scalar.addi v1911 c25_i32_968
  let c8_i32_969 : BitVec 32 := 8#32
  let v1913 : BitVec 32 := Scalar.muli v1912 c8_i32_969
  v1913
def k0_mult219 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_971 : BitVec 32 := 2#32
  let v1919 : BitVec 32 := Scalar.addi v1711 c2_i32_971
  let c26_i32_972 : BitVec 32 := 26#32
  let v1920 : BitVec 32 := Scalar.addi v1919 c26_i32_972
  let c8_i32_973 : BitVec 32 := 8#32
  let v1921 : BitVec 32 := Scalar.muli v1920 c8_i32_973
  v1921
def k0_mult220 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_975 : BitVec 32 := 2#32
  let v1927 : BitVec 32 := Scalar.addi v1711 c2_i32_975
  let c27_i32_976 : BitVec 32 := 27#32
  let v1928 : BitVec 32 := Scalar.addi v1927 c27_i32_976
  let c8_i32_977 : BitVec 32 := 8#32
  let v1929 : BitVec 32 := Scalar.muli v1928 c8_i32_977
  v1929
def k0_mult221 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_979 : BitVec 32 := 2#32
  let v1935 : BitVec 32 := Scalar.addi v1711 c2_i32_979
  let c28_i32_980 : BitVec 32 := 28#32
  let v1936 : BitVec 32 := Scalar.addi v1935 c28_i32_980
  let c8_i32_981 : BitVec 32 := 8#32
  let v1937 : BitVec 32 := Scalar.muli v1936 c8_i32_981
  v1937
def k0_mult222 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_983 : BitVec 32 := 2#32
  let v1943 : BitVec 32 := Scalar.addi v1711 c2_i32_983
  let c29_i32_984 : BitVec 32 := 29#32
  let v1944 : BitVec 32 := Scalar.addi v1943 c29_i32_984
  let c8_i32_985 : BitVec 32 := 8#32
  let v1945 : BitVec 32 := Scalar.muli v1944 c8_i32_985
  v1945
def k0_mult223 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c2_i32_987 : BitVec 32 := 2#32
  let v1951 : BitVec 32 := Scalar.addi v1711 c2_i32_987
  let c30_i32_988 : BitVec 32 := 30#32
  let v1952 : BitVec 32 := Scalar.addi v1951 c30_i32_988
  let c8_i32_989 : BitVec 32 := 8#32
  let v1953 : BitVec 32 := Scalar.muli v1952 c8_i32_989
  v1953
def k0_mult224 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_865 : BitVec 32 := 8#32
  let v1710 : BitVec 32 := Scalar.muli arg12 c8_i32_865
  let c6_i32_866 : BitVec 32 := 6#32
  let v1711 : BitVec 32 := Scalar.addi v1710 c6_i32_866
  let c8_i32_991 : BitVec 32 := 8#32
  let v1959 : BitVec 32 := Scalar.muli v1711 c8_i32_991
  v1959
def k0_mult225 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_995 : BitVec 32 := 2#32
  let v1967 : BitVec 32 := Scalar.addi v1966 c2_i32_995
  let c0_i32_996 : BitVec 32 := 0#32
  let v1968 : BitVec 32 := Scalar.addi v1967 c0_i32_996
  let c8_i32_997 : BitVec 32 := 8#32
  let v1969 : BitVec 32 := Scalar.muli v1968 c8_i32_997
  v1969
def k0_mult226 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_999 : BitVec 32 := 2#32
  let v1974 : BitVec 32 := Scalar.addi v1966 c2_i32_999
  let c1_i32_1000 : BitVec 32 := 1#32
  let v1975 : BitVec 32 := Scalar.addi v1974 c1_i32_1000
  let c8_i32_1001 : BitVec 32 := 8#32
  let v1976 : BitVec 32 := Scalar.muli v1975 c8_i32_1001
  v1976
def k0_mult227 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1003 : BitVec 32 := 2#32
  let v1982 : BitVec 32 := Scalar.addi v1966 c2_i32_1003
  let c2_i32_1004 : BitVec 32 := 2#32
  let v1983 : BitVec 32 := Scalar.addi v1982 c2_i32_1004
  let c8_i32_1005 : BitVec 32 := 8#32
  let v1984 : BitVec 32 := Scalar.muli v1983 c8_i32_1005
  v1984
def k0_mult228 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1007 : BitVec 32 := 2#32
  let v1990 : BitVec 32 := Scalar.addi v1966 c2_i32_1007
  let c3_i32_1008 : BitVec 32 := 3#32
  let v1991 : BitVec 32 := Scalar.addi v1990 c3_i32_1008
  let c8_i32_1009 : BitVec 32 := 8#32
  let v1992 : BitVec 32 := Scalar.muli v1991 c8_i32_1009
  v1992
def k0_mult229 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1011 : BitVec 32 := 2#32
  let v1998 : BitVec 32 := Scalar.addi v1966 c2_i32_1011
  let c4_i32_1012 : BitVec 32 := 4#32
  let v1999 : BitVec 32 := Scalar.addi v1998 c4_i32_1012
  let c8_i32_1013 : BitVec 32 := 8#32
  let v2000 : BitVec 32 := Scalar.muli v1999 c8_i32_1013
  v2000
def k0_mult230 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1015 : BitVec 32 := 2#32
  let v2006 : BitVec 32 := Scalar.addi v1966 c2_i32_1015
  let c5_i32_1016 : BitVec 32 := 5#32
  let v2007 : BitVec 32 := Scalar.addi v2006 c5_i32_1016
  let c8_i32_1017 : BitVec 32 := 8#32
  let v2008 : BitVec 32 := Scalar.muli v2007 c8_i32_1017
  v2008
def k0_mult231 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1019 : BitVec 32 := 2#32
  let v2014 : BitVec 32 := Scalar.addi v1966 c2_i32_1019
  let c6_i32_1020 : BitVec 32 := 6#32
  let v2015 : BitVec 32 := Scalar.addi v2014 c6_i32_1020
  let c8_i32_1021 : BitVec 32 := 8#32
  let v2016 : BitVec 32 := Scalar.muli v2015 c8_i32_1021
  v2016
def k0_mult232 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1023 : BitVec 32 := 2#32
  let v2022 : BitVec 32 := Scalar.addi v1966 c2_i32_1023
  let c7_i32_1024 : BitVec 32 := 7#32
  let v2023 : BitVec 32 := Scalar.addi v2022 c7_i32_1024
  let c8_i32_1025 : BitVec 32 := 8#32
  let v2024 : BitVec 32 := Scalar.muli v2023 c8_i32_1025
  v2024
def k0_mult233 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1027 : BitVec 32 := 2#32
  let v2030 : BitVec 32 := Scalar.addi v1966 c2_i32_1027
  let c8_i32_1028 : BitVec 32 := 8#32
  let v2031 : BitVec 32 := Scalar.addi v2030 c8_i32_1028
  let c8_i32_1029 : BitVec 32 := 8#32
  let v2032 : BitVec 32 := Scalar.muli v2031 c8_i32_1029
  v2032
def k0_mult234 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1031 : BitVec 32 := 2#32
  let v2038 : BitVec 32 := Scalar.addi v1966 c2_i32_1031
  let c9_i32_1032 : BitVec 32 := 9#32
  let v2039 : BitVec 32 := Scalar.addi v2038 c9_i32_1032
  let c8_i32_1033 : BitVec 32 := 8#32
  let v2040 : BitVec 32 := Scalar.muli v2039 c8_i32_1033
  v2040
def k0_mult235 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1035 : BitVec 32 := 2#32
  let v2046 : BitVec 32 := Scalar.addi v1966 c2_i32_1035
  let c10_i32_1036 : BitVec 32 := 10#32
  let v2047 : BitVec 32 := Scalar.addi v2046 c10_i32_1036
  let c8_i32_1037 : BitVec 32 := 8#32
  let v2048 : BitVec 32 := Scalar.muli v2047 c8_i32_1037
  v2048
def k0_mult236 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1039 : BitVec 32 := 2#32
  let v2054 : BitVec 32 := Scalar.addi v1966 c2_i32_1039
  let c11_i32_1040 : BitVec 32 := 11#32
  let v2055 : BitVec 32 := Scalar.addi v2054 c11_i32_1040
  let c8_i32_1041 : BitVec 32 := 8#32
  let v2056 : BitVec 32 := Scalar.muli v2055 c8_i32_1041
  v2056
def k0_mult237 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1043 : BitVec 32 := 2#32
  let v2062 : BitVec 32 := Scalar.addi v1966 c2_i32_1043
  let c12_i32_1044 : BitVec 32 := 12#32
  let v2063 : BitVec 32 := Scalar.addi v2062 c12_i32_1044
  let c8_i32_1045 : BitVec 32 := 8#32
  let v2064 : BitVec 32 := Scalar.muli v2063 c8_i32_1045
  v2064
def k0_mult238 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1047 : BitVec 32 := 2#32
  let v2070 : BitVec 32 := Scalar.addi v1966 c2_i32_1047
  let c13_i32_1048 : BitVec 32 := 13#32
  let v2071 : BitVec 32 := Scalar.addi v2070 c13_i32_1048
  let c8_i32_1049 : BitVec 32 := 8#32
  let v2072 : BitVec 32 := Scalar.muli v2071 c8_i32_1049
  v2072
def k0_mult239 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1051 : BitVec 32 := 2#32
  let v2078 : BitVec 32 := Scalar.addi v1966 c2_i32_1051
  let c14_i32_1052 : BitVec 32 := 14#32
  let v2079 : BitVec 32 := Scalar.addi v2078 c14_i32_1052
  let c8_i32_1053 : BitVec 32 := 8#32
  let v2080 : BitVec 32 := Scalar.muli v2079 c8_i32_1053
  v2080
def k0_mult240 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1055 : BitVec 32 := 2#32
  let v2086 : BitVec 32 := Scalar.addi v1966 c2_i32_1055
  let c15_i32_1056 : BitVec 32 := 15#32
  let v2087 : BitVec 32 := Scalar.addi v2086 c15_i32_1056
  let c8_i32_1057 : BitVec 32 := 8#32
  let v2088 : BitVec 32 := Scalar.muli v2087 c8_i32_1057
  v2088
def k0_mult241 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1059 : BitVec 32 := 2#32
  let v2094 : BitVec 32 := Scalar.addi v1966 c2_i32_1059
  let c16_i32_1060 : BitVec 32 := 16#32
  let v2095 : BitVec 32 := Scalar.addi v2094 c16_i32_1060
  let c8_i32_1061 : BitVec 32 := 8#32
  let v2096 : BitVec 32 := Scalar.muli v2095 c8_i32_1061
  v2096
def k0_mult242 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1063 : BitVec 32 := 2#32
  let v2102 : BitVec 32 := Scalar.addi v1966 c2_i32_1063
  let c17_i32_1064 : BitVec 32 := 17#32
  let v2103 : BitVec 32 := Scalar.addi v2102 c17_i32_1064
  let c8_i32_1065 : BitVec 32 := 8#32
  let v2104 : BitVec 32 := Scalar.muli v2103 c8_i32_1065
  v2104
def k0_mult243 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1067 : BitVec 32 := 2#32
  let v2110 : BitVec 32 := Scalar.addi v1966 c2_i32_1067
  let c18_i32_1068 : BitVec 32 := 18#32
  let v2111 : BitVec 32 := Scalar.addi v2110 c18_i32_1068
  let c8_i32_1069 : BitVec 32 := 8#32
  let v2112 : BitVec 32 := Scalar.muli v2111 c8_i32_1069
  v2112
def k0_mult244 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1071 : BitVec 32 := 2#32
  let v2118 : BitVec 32 := Scalar.addi v1966 c2_i32_1071
  let c19_i32_1072 : BitVec 32 := 19#32
  let v2119 : BitVec 32 := Scalar.addi v2118 c19_i32_1072
  let c8_i32_1073 : BitVec 32 := 8#32
  let v2120 : BitVec 32 := Scalar.muli v2119 c8_i32_1073
  v2120
def k0_mult245 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1075 : BitVec 32 := 2#32
  let v2126 : BitVec 32 := Scalar.addi v1966 c2_i32_1075
  let c20_i32_1076 : BitVec 32 := 20#32
  let v2127 : BitVec 32 := Scalar.addi v2126 c20_i32_1076
  let c8_i32_1077 : BitVec 32 := 8#32
  let v2128 : BitVec 32 := Scalar.muli v2127 c8_i32_1077
  v2128
def k0_mult246 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1079 : BitVec 32 := 2#32
  let v2134 : BitVec 32 := Scalar.addi v1966 c2_i32_1079
  let c21_i32_1080 : BitVec 32 := 21#32
  let v2135 : BitVec 32 := Scalar.addi v2134 c21_i32_1080
  let c8_i32_1081 : BitVec 32 := 8#32
  let v2136 : BitVec 32 := Scalar.muli v2135 c8_i32_1081
  v2136
def k0_mult247 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1083 : BitVec 32 := 2#32
  let v2142 : BitVec 32 := Scalar.addi v1966 c2_i32_1083
  let c22_i32_1084 : BitVec 32 := 22#32
  let v2143 : BitVec 32 := Scalar.addi v2142 c22_i32_1084
  let c8_i32_1085 : BitVec 32 := 8#32
  let v2144 : BitVec 32 := Scalar.muli v2143 c8_i32_1085
  v2144
def k0_mult248 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1087 : BitVec 32 := 2#32
  let v2150 : BitVec 32 := Scalar.addi v1966 c2_i32_1087
  let c23_i32_1088 : BitVec 32 := 23#32
  let v2151 : BitVec 32 := Scalar.addi v2150 c23_i32_1088
  let c8_i32_1089 : BitVec 32 := 8#32
  let v2152 : BitVec 32 := Scalar.muli v2151 c8_i32_1089
  v2152
def k0_mult249 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1091 : BitVec 32 := 2#32
  let v2158 : BitVec 32 := Scalar.addi v1966 c2_i32_1091
  let c24_i32_1092 : BitVec 32 := 24#32
  let v2159 : BitVec 32 := Scalar.addi v2158 c24_i32_1092
  let c8_i32_1093 : BitVec 32 := 8#32
  let v2160 : BitVec 32 := Scalar.muli v2159 c8_i32_1093
  v2160
def k0_mult250 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1095 : BitVec 32 := 2#32
  let v2166 : BitVec 32 := Scalar.addi v1966 c2_i32_1095
  let c25_i32_1096 : BitVec 32 := 25#32
  let v2167 : BitVec 32 := Scalar.addi v2166 c25_i32_1096
  let c8_i32_1097 : BitVec 32 := 8#32
  let v2168 : BitVec 32 := Scalar.muli v2167 c8_i32_1097
  v2168
def k0_mult251 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1099 : BitVec 32 := 2#32
  let v2174 : BitVec 32 := Scalar.addi v1966 c2_i32_1099
  let c26_i32_1100 : BitVec 32 := 26#32
  let v2175 : BitVec 32 := Scalar.addi v2174 c26_i32_1100
  let c8_i32_1101 : BitVec 32 := 8#32
  let v2176 : BitVec 32 := Scalar.muli v2175 c8_i32_1101
  v2176
def k0_mult252 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1103 : BitVec 32 := 2#32
  let v2182 : BitVec 32 := Scalar.addi v1966 c2_i32_1103
  let c27_i32_1104 : BitVec 32 := 27#32
  let v2183 : BitVec 32 := Scalar.addi v2182 c27_i32_1104
  let c8_i32_1105 : BitVec 32 := 8#32
  let v2184 : BitVec 32 := Scalar.muli v2183 c8_i32_1105
  v2184
def k0_mult253 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1107 : BitVec 32 := 2#32
  let v2190 : BitVec 32 := Scalar.addi v1966 c2_i32_1107
  let c28_i32_1108 : BitVec 32 := 28#32
  let v2191 : BitVec 32 := Scalar.addi v2190 c28_i32_1108
  let c8_i32_1109 : BitVec 32 := 8#32
  let v2192 : BitVec 32 := Scalar.muli v2191 c8_i32_1109
  v2192
def k0_mult254 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1111 : BitVec 32 := 2#32
  let v2198 : BitVec 32 := Scalar.addi v1966 c2_i32_1111
  let c29_i32_1112 : BitVec 32 := 29#32
  let v2199 : BitVec 32 := Scalar.addi v2198 c29_i32_1112
  let c8_i32_1113 : BitVec 32 := 8#32
  let v2200 : BitVec 32 := Scalar.muli v2199 c8_i32_1113
  v2200
def k0_mult255 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c2_i32_1115 : BitVec 32 := 2#32
  let v2206 : BitVec 32 := Scalar.addi v1966 c2_i32_1115
  let c30_i32_1116 : BitVec 32 := 30#32
  let v2207 : BitVec 32 := Scalar.addi v2206 c30_i32_1116
  let c8_i32_1117 : BitVec 32 := 8#32
  let v2208 : BitVec 32 := Scalar.muli v2207 c8_i32_1117
  v2208
def k0_mult256 (k0_t1 : Fin k0_t1_loop.trips) : BitVec 32 :=
  let c0_i32_93 : BitVec 32 := 0#32
  let c1_i32 : BitVec 32 := 1#32
  let arg12 : BitVec 32 := Scf.iv c0_i32_93 c1_i32 k0_t1
  let c8_i32_993 : BitVec 32 := 8#32
  let v1965 : BitVec 32 := Scalar.muli arg12 c8_i32_993
  let c7_i32_994 : BitVec 32 := 7#32
  let v1966 : BitVec 32 := Scalar.addi v1965 c7_i32_994
  let c8_i32_1119 : BitVec 32 := 8#32
  let v2214 : BitVec 32 := Scalar.muli v1966 c8_i32_1119
  v2214
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c16_i32_0 : BitVec 32 := 16#32
  let v3 : BitVec 32 := Scalar.muli v2 c16_i32_0
  let c1_i32 : BitVec 32 := 1#32
  let v4 : BitVec 32 := Scalar.subi v3 c1_i32
  let c0_i32_1 : BitVec 32 := 0#32
  let v5 : BitVec 32 := Scalar.maxsi v4 c0_i32_1
  let c0_i32_2 : BitVec 32 := 0#32
  let c0_i32_3 : BitVec 32 := 0#32
  ![v5.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S16896x1024 : Shape := ⟨2, ![16896, 1024]⟩
abbrev S1x31x1024 : Shape := ⟨3, ![1, 31, 1024]⟩
abbrev S1x1024 : Shape := ⟨2, ![1, 1024]⟩
abbrev S16384x1024 : Shape := ⟨2, ![16384, 1024]⟩
abbrev S2x8192x1024 : Shape := ⟨3, ![2, 8192, 1024]⟩
abbrev S31x1024 : Shape := ⟨2, ![31, 1024]⟩
abbrev S_ : Shape := ⟨0, ![]⟩
abbrev S2x30x1024 : Shape := ⟨3, ![2, 30, 1024]⟩
abbrev S2x8222x1024 : Shape := ⟨3, ![2, 8222, 1024]⟩
abbrev S1024 : Shape := ⟨1, ![1024]⟩
abbrev S1x1x1024 : Shape := ⟨3, ![1, 1, 1024]⟩
abbrev S2x8192 : Shape := ⟨2, ![2, 8192]⟩
abbrev S2x8192x1 : Shape := ⟨3, ![2, 8192, 1]⟩

abbrev nBuf : Space → Nat
  | .hbm => 276
  | .vmem => 0
  | .smem => 0
  | _ => 0

abbrev hbmTy0_0 (i : Nat) : BufTy := match i % 128 with
  | 0 => ⟨S16896x1024, .f32⟩
  | 1 => ⟨S1x31x1024, .f32⟩
  | 2 => ⟨S1x1024, .f32⟩
  | 3 => ⟨S1x1024, .f32⟩
  | 4 => ⟨S1x1024, .f32⟩
  | 5 => ⟨S16384x1024, .f32⟩
  | 6 => ⟨S2x8192x1024, .f32⟩
  | 7 => ⟨S31x1024, .f32⟩
  | 8 => ⟨S_, .f32⟩
  | 9 => ⟨S2x30x1024, .f32⟩
  | 10 => ⟨S2x8222x1024, .f32⟩
  | 11 => ⟨S2x8192x1024, .f32⟩
  | 12 => ⟨S1x1024, .f32⟩
  | 13 => ⟨S1024, .f32⟩
  | 14 => ⟨S1x1x1024, .f32⟩
  | 15 => ⟨S2x8192x1024, .f32⟩
  | 16 => ⟨S2x8192x1024, .f32⟩
  | 17 => ⟨S_, .f32⟩
  | 18 => ⟨S2x8192x1024, .f32⟩
  | 19 => ⟨S2x8192x1024, .f32⟩
  | 20 => ⟨S2x8192x1024, .f32⟩
  | 21 => ⟨S1x1024, .f32⟩
  | 22 => ⟨S1024, .f32⟩
  | 23 => ⟨S1x1x1024, .f32⟩
  | 24 => ⟨S2x8192x1024, .f32⟩
  | 25 => ⟨S2x8192x1024, .f32⟩
  | 26 => ⟨S2x8192x1024, .f32⟩
  | 27 => ⟨S2x8192x1024, .f32⟩
  | 28 => ⟨S1x1024, .f32⟩
  | 29 => ⟨S1024, .f32⟩
  | 30 => ⟨S1x1x1024, .f32⟩
  | 31 => ⟨S2x8192x1024, .f32⟩
  | 32 => ⟨S2x8192x1024, .f32⟩
  | 33 => ⟨S2x8192x1024, .f32⟩
  | 34 => ⟨S2x8192x1024, .f32⟩
  | 35 => ⟨S1x1024, .f32⟩
  | 36 => ⟨S1024, .f32⟩
  | 37 => ⟨S1x1x1024, .f32⟩
  | 38 => ⟨S2x8192x1024, .f32⟩
  | 39 => ⟨S2x8192x1024, .f32⟩
  | 40 => ⟨S2x8192x1024, .f32⟩
  | 41 => ⟨S2x8192x1024, .f32⟩
  | 42 => ⟨S1x1024, .f32⟩
  | 43 => ⟨S1024, .f32⟩
  | 44 => ⟨S1x1x1024, .f32⟩
  | 45 => ⟨S2x8192x1024, .f32⟩
  | 46 => ⟨S2x8192x1024, .f32⟩
  | 47 => ⟨S2x8192x1024, .f32⟩
  | 48 => ⟨S2x8192x1024, .f32⟩
  | 49 => ⟨S1x1024, .f32⟩
  | 50 => ⟨S1024, .f32⟩
  | 51 => ⟨S1x1x1024, .f32⟩
  | 52 => ⟨S2x8192x1024, .f32⟩
  | 53 => ⟨S2x8192x1024, .f32⟩
  | 54 => ⟨S2x8192x1024, .f32⟩
  | 55 => ⟨S2x8192x1024, .f32⟩
  | 56 => ⟨S1x1024, .f32⟩
  | 57 => ⟨S1024, .f32⟩
  | 58 => ⟨S1x1x1024, .f32⟩
  | 59 => ⟨S2x8192x1024, .f32⟩
  | 60 => ⟨S2x8192x1024, .f32⟩
  | 61 => ⟨S2x8192x1024, .f32⟩
  | 62 => ⟨S2x8192x1024, .f32⟩
  | 63 => ⟨S1x1024, .f32⟩
  | 64 => ⟨S1024, .f32⟩
  | 65 => ⟨S1x1x1024, .f32⟩
  | 66 => ⟨S2x8192x1024, .f32⟩
  | 67 => ⟨S2x8192x1024, .f32⟩
  | 68 => ⟨S2x8192x1024, .f32⟩
  | 69 => ⟨S2x8192x1024, .f32⟩
  | 70 => ⟨S1x1024, .f32⟩
  | 71 => ⟨S1024, .f32⟩
  | 72 => ⟨S1x1x1024, .f32⟩
  | 73 => ⟨S2x8192x1024, .f32⟩
  | 74 => ⟨S2x8192x1024, .f32⟩
  | 75 => ⟨S2x8192x1024, .f32⟩
  | 76 => ⟨S2x8192x1024, .f32⟩
  | 77 => ⟨S1x1024, .f32⟩
  | 78 => ⟨S1024, .f32⟩
  | 79 => ⟨S1x1x1024, .f32⟩
  | 80 => ⟨S2x8192x1024, .f32⟩
  | 81 => ⟨S2x8192x1024, .f32⟩
  | 82 => ⟨S2x8192x1024, .f32⟩
  | 83 => ⟨S2x8192x1024, .f32⟩
  | 84 => ⟨S1x1024, .f32⟩
  | 85 => ⟨S1024, .f32⟩
  | 86 => ⟨S1x1x1024, .f32⟩
  | 87 => ⟨S2x8192x1024, .f32⟩
  | 88 => ⟨S2x8192x1024, .f32⟩
  | 89 => ⟨S2x8192x1024, .f32⟩
  | 90 => ⟨S2x8192x1024, .f32⟩
  | 91 => ⟨S1x1024, .f32⟩
  | 92 => ⟨S1024, .f32⟩
  | 93 => ⟨S1x1x1024, .f32⟩
  | 94 => ⟨S2x8192x1024, .f32⟩
  | 95 => ⟨S2x8192x1024, .f32⟩
  | 96 => ⟨S2x8192x1024, .f32⟩
  | 97 => ⟨S2x8192x1024, .f32⟩
  | 98 => ⟨S1x1024, .f32⟩
  | 99 => ⟨S1024, .f32⟩
  | 100 => ⟨S1x1x1024, .f32⟩
  | 101 => ⟨S2x8192x1024, .f32⟩
  | 102 => ⟨S2x8192x1024, .f32⟩
  | 103 => ⟨S2x8192x1024, .f32⟩
  | 104 => ⟨S2x8192x1024, .f32⟩
  | 105 => ⟨S1x1024, .f32⟩
  | 106 => ⟨S1024, .f32⟩
  | 107 => ⟨S1x1x1024, .f32⟩
  | 108 => ⟨S2x8192x1024, .f32⟩
  | 109 => ⟨S2x8192x1024, .f32⟩
  | 110 => ⟨S2x8192x1024, .f32⟩
  | 111 => ⟨S2x8192x1024, .f32⟩
  | 112 => ⟨S1x1024, .f32⟩
  | 113 => ⟨S1024, .f32⟩
  | 114 => ⟨S1x1x1024, .f32⟩
  | 115 => ⟨S2x8192x1024, .f32⟩
  | 116 => ⟨S2x8192x1024, .f32⟩
  | 117 => ⟨S2x8192x1024, .f32⟩
  | 118 => ⟨S2x8192x1024, .f32⟩
  | 119 => ⟨S1x1024, .f32⟩
  | 120 => ⟨S1024, .f32⟩
  | 121 => ⟨S1x1x1024, .f32⟩
  | 122 => ⟨S2x8192x1024, .f32⟩
  | 123 => ⟨S2x8192x1024, .f32⟩
  | 124 => ⟨S2x8192x1024, .f32⟩
  | 125 => ⟨S2x8192x1024, .f32⟩
  | 126 => ⟨S1x1024, .f32⟩
  | 127 => ⟨S1024, .f32⟩
  | _ => ⟨S16896x1024, .f32⟩

abbrev hbmTy0_1 (i : Nat) : BufTy := match i % 128 with
  | 0 => ⟨S1x1x1024, .f32⟩
  | 1 => ⟨S2x8192x1024, .f32⟩
  | 2 => ⟨S2x8192x1024, .f32⟩
  | 3 => ⟨S2x8192x1024, .f32⟩
  | 4 => ⟨S2x8192x1024, .f32⟩
  | 5 => ⟨S1x1024, .f32⟩
  | 6 => ⟨S1024, .f32⟩
  | 7 => ⟨S1x1x1024, .f32⟩
  | 8 => ⟨S2x8192x1024, .f32⟩
  | 9 => ⟨S2x8192x1024, .f32⟩
  | 10 => ⟨S2x8192x1024, .f32⟩
  | 11 => ⟨S2x8192x1024, .f32⟩
  | 12 => ⟨S1x1024, .f32⟩
  | 13 => ⟨S1024, .f32⟩
  | 14 => ⟨S1x1x1024, .f32⟩
  | 15 => ⟨S2x8192x1024, .f32⟩
  | 16 => ⟨S2x8192x1024, .f32⟩
  | 17 => ⟨S2x8192x1024, .f32⟩
  | 18 => ⟨S2x8192x1024, .f32⟩
  | 19 => ⟨S1x1024, .f32⟩
  | 20 => ⟨S1024, .f32⟩
  | 21 => ⟨S1x1x1024, .f32⟩
  | 22 => ⟨S2x8192x1024, .f32⟩
  | 23 => ⟨S2x8192x1024, .f32⟩
  | 24 => ⟨S2x8192x1024, .f32⟩
  | 25 => ⟨S2x8192x1024, .f32⟩
  | 26 => ⟨S1x1024, .f32⟩
  | 27 => ⟨S1024, .f32⟩
  | 28 => ⟨S1x1x1024, .f32⟩
  | 29 => ⟨S2x8192x1024, .f32⟩
  | 30 => ⟨S2x8192x1024, .f32⟩
  | 31 => ⟨S2x8192x1024, .f32⟩
  | 32 => ⟨S2x8192x1024, .f32⟩
  | 33 => ⟨S1x1024, .f32⟩
  | 34 => ⟨S1024, .f32⟩
  | 35 => ⟨S1x1x1024, .f32⟩
  | 36 => ⟨S2x8192x1024, .f32⟩
  | 37 => ⟨S2x8192x1024, .f32⟩
  | 38 => ⟨S2x8192x1024, .f32⟩
  | 39 => ⟨S2x8192x1024, .f32⟩
  | 40 => ⟨S1x1024, .f32⟩
  | 41 => ⟨S1024, .f32⟩
  | 42 => ⟨S1x1x1024, .f32⟩
  | 43 => ⟨S2x8192x1024, .f32⟩
  | 44 => ⟨S2x8192x1024, .f32⟩
  | 45 => ⟨S2x8192x1024, .f32⟩
  | 46 => ⟨S2x8192x1024, .f32⟩
  | 47 => ⟨S1x1024, .f32⟩
  | 48 => ⟨S1024, .f32⟩
  | 49 => ⟨S1x1x1024, .f32⟩
  | 50 => ⟨S2x8192x1024, .f32⟩
  | 51 => ⟨S2x8192x1024, .f32⟩
  | 52 => ⟨S2x8192x1024, .f32⟩
  | 53 => ⟨S2x8192x1024, .f32⟩
  | 54 => ⟨S1x1024, .f32⟩
  | 55 => ⟨S1024, .f32⟩
  | 56 => ⟨S1x1x1024, .f32⟩
  | 57 => ⟨S2x8192x1024, .f32⟩
  | 58 => ⟨S2x8192x1024, .f32⟩
  | 59 => ⟨S2x8192x1024, .f32⟩
  | 60 => ⟨S2x8192x1024, .f32⟩
  | 61 => ⟨S1x1024, .f32⟩
  | 62 => ⟨S1024, .f32⟩
  | 63 => ⟨S1x1x1024, .f32⟩
  | 64 => ⟨S2x8192x1024, .f32⟩
  | 65 => ⟨S2x8192x1024, .f32⟩
  | 66 => ⟨S2x8192x1024, .f32⟩
  | 67 => ⟨S2x8192x1024, .f32⟩
  | 68 => ⟨S1x1024, .f32⟩
  | 69 => ⟨S1024, .f32⟩
  | 70 => ⟨S1x1x1024, .f32⟩
  | 71 => ⟨S2x8192x1024, .f32⟩
  | 72 => ⟨S2x8192x1024, .f32⟩
  | 73 => ⟨S2x8192x1024, .f32⟩
  | 74 => ⟨S2x8192x1024, .f32⟩
  | 75 => ⟨S1x1024, .f32⟩
  | 76 => ⟨S1024, .f32⟩
  | 77 => ⟨S1x1x1024, .f32⟩
  | 78 => ⟨S2x8192x1024, .f32⟩
  | 79 => ⟨S2x8192x1024, .f32⟩
  | 80 => ⟨S2x8192x1024, .f32⟩
  | 81 => ⟨S2x8192x1024, .f32⟩
  | 82 => ⟨S1x1024, .f32⟩
  | 83 => ⟨S1024, .f32⟩
  | 84 => ⟨S1x1x1024, .f32⟩
  | 85 => ⟨S2x8192x1024, .f32⟩
  | 86 => ⟨S2x8192x1024, .f32⟩
  | 87 => ⟨S2x8192x1024, .f32⟩
  | 88 => ⟨S2x8192x1024, .f32⟩
  | 89 => ⟨S1x1024, .f32⟩
  | 90 => ⟨S1024, .f32⟩
  | 91 => ⟨S1x1x1024, .f32⟩
  | 92 => ⟨S2x8192x1024, .f32⟩
  | 93 => ⟨S2x8192x1024, .f32⟩
  | 94 => ⟨S2x8192x1024, .f32⟩
  | 95 => ⟨S2x8192x1024, .f32⟩
  | 96 => ⟨S1x1024, .f32⟩
  | 97 => ⟨S1024, .f32⟩
  | 98 => ⟨S1x1x1024, .f32⟩
  | 99 => ⟨S2x8192x1024, .f32⟩
  | 100 => ⟨S2x8192x1024, .f32⟩
  | 101 => ⟨S2x8192x1024, .f32⟩
  | 102 => ⟨S1024, .f32⟩
  | 103 => ⟨S1x1x1024, .f32⟩
  | 104 => ⟨S2x8192x1024, .f32⟩
  | 105 => ⟨S2x8192x1024, .f32⟩
  | 106 => ⟨S_, .f32⟩
  | 107 => ⟨S2x8192, .f32⟩
  | 108 => ⟨S2x8192x1, .f32⟩
  | 109 => ⟨S_, .f32⟩
  | 110 => ⟨S2x8192x1, .f32⟩
  | 111 => ⟨S2x8192x1, .f32⟩
  | 112 => ⟨S2x8192x1024, .f32⟩
  | 113 => ⟨S2x8192x1024, .f32⟩
  | 114 => ⟨S2x8192x1024, .f32⟩
  | 115 => ⟨S_, .f32⟩
  | 116 => ⟨S2x8192, .f32⟩
  | 117 => ⟨S2x8192x1, .f32⟩
  | 118 => ⟨S_, .f32⟩
  | 119 => ⟨S2x8192x1, .f32⟩
  | 120 => ⟨S2x8192x1, .f32⟩
  | 121 => ⟨S2x8192x1024, .f32⟩
  | 122 => ⟨S2x8192x1024, .f32⟩
  | 123 => ⟨S_, .f32⟩
  | 124 => ⟨S2x8192x1, .f32⟩
  | 125 => ⟨S2x8192x1, .f32⟩
  | 126 => ⟨S2x8192x1, .f32⟩
  | 127 => ⟨S2x8192x1024, .f32⟩
  | _ => ⟨S16896x1024, .f32⟩

abbrev hbmTy0_2 (i : Nat) : BufTy := match i % 128 with
  | 0 => ⟨S2x8192x1024, .f32⟩
  | 1 => ⟨S1024, .f32⟩
  | 2 => ⟨S1x1x1024, .f32⟩
  | 3 => ⟨S2x8192x1024, .f32⟩
  | 4 => ⟨S2x8192x1024, .f32⟩
  | 5 => ⟨S1024, .f32⟩
  | 6 => ⟨S1x1x1024, .f32⟩
  | 7 => ⟨S2x8192x1024, .f32⟩
  | 8 => ⟨S2x8192x1024, .f32⟩
  | 9 => ⟨S2x8192x1024, .f32⟩
  | 10 => ⟨S2x8192x1024, .f32⟩
  | 11 => ⟨S_, .f32⟩
  | 12 => ⟨S2x8192x1024, .f32⟩
  | 13 => ⟨S2x8192x1024, .f32⟩
  | 14 => ⟨S_, .f32⟩
  | 15 => ⟨S2x8192x1024, .f32⟩
  | 16 => ⟨S2x8192x1024, .f32⟩
  | 17 => ⟨S2x8192x1024, .f32⟩
  | 18 => ⟨S16384x1024, .f32⟩
  | 19 => ⟨S16384x1024, .bf16⟩
  | _ => ⟨S16896x1024, .f32⟩

abbrev hbmTy (i : Nat) : BufTy := match i / 128 with
  | 0 => hbmTy0_0 i
  | 1 => hbmTy0_1 i
  | 2 => hbmTy0_2 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_cst_1 : Ref sig .tc := ⟨.hbm, 234, rfl⟩
abbrev main_v227 : Ref sig .tc := ⟨.hbm, 235, rfl⟩
abbrev main_v228 : Ref sig .tc := ⟨.hbm, 236, rfl⟩
abbrev main_cst_2 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_cst_3 : Ref sig .tc := ⟨.hbm, 243, rfl⟩
abbrev main_v234 : Ref sig .tc := ⟨.hbm, 244, rfl⟩
abbrev main_v235 : Ref sig .tc := ⟨.hbm, 245, rfl⟩
abbrev main_cst_4 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_call0_v0 : Ref sig .tc := ⟨.hbm, 265, rfl⟩
abbrev main_call0_v1 : Ref sig .tc := ⟨.hbm, 266, rfl⟩
abbrev main_call0_cst : Ref sig .tc := ⟨.hbm, 267, rfl⟩
abbrev main_call0_v2 : Ref sig .tc := ⟨.hbm, 268, rfl⟩
abbrev main_call0_v3 : Ref sig .tc := ⟨.hbm, 269, rfl⟩
abbrev main_call0_cst_0 : Ref sig .tc := ⟨.hbm, 270, rfl⟩
abbrev main_call0_v4 : Ref sig .tc := ⟨.hbm, 271, rfl⟩
abbrev main_call0_v5 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩

abbrev nD : Nat := 1
abbrev τ : Topo := Topo.v7x

variable {F : FTy → Type} [FloatOps F]
-- ==== Proof.Kit.lean ====
/- What the proofs of the expert feed-forward call share: the host operation before the region, the prefetched tables
   (which expert a tile of rows belongs to, how many tiles are in use), the windows' blocks, the staging memrefs. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Expert

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The host's stretches of operations before the region, in order: the counts as integers, the groups' sizes and ends, the
    number of tiles in use, the tiles' experts, the rows laid out in rows of 128. -/
abbrev stretches : List (List (HloOp τ sig (Elt F))) :=
  [hostOps0, hostOps0_1, hostOps0_2, hostOps0_3, hostOps0_4, hostOps0_5, hostOps0_6]

/-- Core `c`'s TensorCore buffers when the region is entered: after the host operations. -/
def V (c : Dev nD) (b : Ref sig .tc) : Buf (Elt F) ((c : Thread nD τ).loc b) := StableHlo.after (stretches (F := F)).flatten (fun b => m (c, b)) b

/-- No host operation takes a buffer of its own. -/
theorem stretches_fresh : (stretches : List (List (HloOp τ sig (Elt F)))).Forall fun ops => ops.Forall fun op => op.fresh = ∅ := by
  simp only [List.Forall]; repeat' constructor

set_option maxHeartbeats 1600000 in
/-- @main is the host's stretches, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches
    ⟨hostOps0_sub, hostOps0_1_sub, hostOps0_2_sub, hostOps0_3_sub, hostOps0_4_sub, hostOps0_5_sub, hostOps0_6_sub⟩ stretches_fresh main_chain

/-- A buffer that no host operation writes is found as launched. -/
theorem V_of_unwritten (c : Dev nD) (b : Ref sig .tc)
    (h : (stretches (F := F)).flatten.Forall fun op => Proc.devRef .tc b ∉ op.writes) : V m c b = m ((c : Thread nD τ).loc b) :=
  StableHlo.after_of_forall_not_mem (b := Proc.devRef .tc b) _ _ (List.forall_iff_forall_mem.mp h)

/-- No host operation before the region writes argument 0. -/
theorem V_main_arg0 (c : Dev nD) : V m c main_arg0 = m ((c : Thread nD τ).loc main_arg0) := V_of_unwritten m c main_arg0 (by
  simp only [stretches, hostOps0, hostOps0_1, hostOps0_2, hostOps0_3, hostOps0_4, hostOps0_5, hostOps0_6, List.flatten_cons, List.flatten_nil, List.append_nil, List.cons_append,
    List.nil_append, List.Forall, StableHlo.TRef.unary, StableHlo.TRef.nullary, StableHlo.TRef.binary, StableHlo.TRef.ternary, StableHlo.nullary_writes, StableHlo.unary_writes,
    StableHlo.binary_writes, StableHlo.ternary_writes, StableHlo.reshape_writes, Finset.mem_singleton]
  repeat' apply And.intro
  all_goals exact StableHlo.devRef_ne_of_ne (by decide))
/-- No host operation before the region writes argument 1. -/
theorem V_main_arg1 (c : Dev nD) : V m c main_arg1 = m ((c : Thread nD τ).loc main_arg1) := V_of_unwritten m c main_arg1 (by
  simp only [stretches, hostOps0, hostOps0_1, hostOps0_2, hostOps0_3, hostOps0_4, hostOps0_5, hostOps0_6, List.flatten_cons, List.flatten_nil, List.append_nil, List.cons_append,
    List.nil_append, List.Forall, StableHlo.TRef.unary, StableHlo.TRef.nullary, StableHlo.TRef.binary, StableHlo.TRef.ternary, StableHlo.nullary_writes, StableHlo.unary_writes,
    StableHlo.binary_writes, StableHlo.ternary_writes, StableHlo.reshape_writes, Finset.mem_singleton]
  repeat' apply And.intro
  all_goals exact StableHlo.devRef_ne_of_ne (by decide))
/-- No host operation before the region writes argument 2. -/
theorem V_main_arg2 (c : Dev nD) : V m c main_arg2 = m ((c : Thread nD τ).loc main_arg2) := V_of_unwritten m c main_arg2 (by
  simp only [stretches, hostOps0, hostOps0_1, hostOps0_2, hostOps0_3, hostOps0_4, hostOps0_5, hostOps0_6, List.flatten_cons, List.flatten_nil, List.append_nil, List.cons_append,
    List.nil_append, List.Forall, StableHlo.TRef.unary, StableHlo.TRef.nullary, StableHlo.TRef.binary, StableHlo.TRef.ternary, StableHlo.nullary_writes, StableHlo.unary_writes,
    StableHlo.binary_writes, StableHlo.ternary_writes, StableHlo.reshape_writes, Finset.mem_singleton]
  repeat' apply And.intro
  all_goals exact StableHlo.devRef_ne_of_ne (by decide))
/-- No host operation before the region writes argument 3. -/
theorem V_main_arg3 (c : Dev nD) : V m c main_arg3 = m ((c : Thread nD τ).loc main_arg3) := V_of_unwritten m c main_arg3 (by
  simp only [stretches, hostOps0, hostOps0_1, hostOps0_2, hostOps0_3, hostOps0_4, hostOps0_5, hostOps0_6, List.flatten_cons, List.flatten_nil, List.append_nil, List.cons_append,
    List.nil_append, List.Forall, StableHlo.TRef.unary, StableHlo.TRef.nullary, StableHlo.TRef.binary, StableHlo.TRef.ternary, StableHlo.nullary_writes, StableHlo.unary_writes,
    StableHlo.binary_writes, StableHlo.ternary_writes, StableHlo.reshape_writes, Finset.mem_singleton]
  repeat' apply And.intro
  all_goals exact StableHlo.devRef_ne_of_ne (by decide))

/-- The buffers the region finds are the launch memory after the host's operations. -/
theorem V_eq (c : Dev nD) (b : Ref sig .tc) : V m c b = StableHlo.after (stretches (F := F)).flatten (fun b => m (c, b)) b := rfl

attribute [irreducible] V

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S97 .i32 := Memref.whole main_v26
abbrev htbM0_0 : tbM0_0.IsWhole := Memref.isWhole_whole _
abbrev tbM0_1 : Memref sig .tc .smem S1 .i32 := Memref.whole main_v14
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is handed -/

/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x512x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4096x128 .f32 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S1024x1024 .bf16 := Memref.whole cc0_scratch0
abbrev scM0_1 : Memref sig .tc .vmem S512x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Expert

end
-- ==== Proof.Body.lean ====
/- One run of the expert kernel's body, at any point of the grid, over any float values: what the two weight scratches and
   the output block hold afterwards. -/
module

public import proofs.«01_k».proof.Proof.Kit
public import Idealize.ShloMosaic.Lib.Pipeline.FrameBody
public import Idealize.ShloMosaic.Lib.Tactic
public import Idealize.ShloMosaic.Lib.WordCmp
public import Idealize.ShloMosaic.Lib.WholeRead
public import Idealize.ShloMosaic.Lib.Pointwise.Index
public import Idealize.ShloMosaic.Lib.Pipeline.Value
public import Idealize.ShloMosaic.Lib.VecWindow

@[expose] public section

set_option maxRecDepth 16384

noncomputable section

namespace Cert.KernelIdeal.Expert

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words the body reads from the tables -/

/-- Grid point `i`'s place in the table of experts, and the place before it (the first point's is its own). -/
def cur (i : grid0.Coords) : S97.Idx := ix1 (n0 := 97) (i 0)
def prev (i : grid0.Coords) : S97.Idx := ix1 (n0 := 97) ⟨(i 0).val - 1, lt_of_le_of_lt (Nat.sub_le _ _) (i 0).isLt⟩

/-- The tile at point `i` belongs to another expert than the tile before it (or is the first): its weights are loaded. -/
def Fresh (i : grid0.Coords) (te : S97.Idx → BitVec 32) : Prop := (i 0).val = 0 ∨ te (cur i) ≠ te (prev i)
/-- The tile at point `i` is in use: it lies before the number of tiles in use. -/
def Used (i : grid0.Coords) (nt : S1.Idx → BitVec 32) : Prop := (BitVec.ofNat 32 (i 0).val).slt (nt (ix1 0)) = true

/-- The current point's offset in the table of experts, in closed form, -/
theorem off_cur : ∀ i : grid0.Coords, k0_off1 i = ![(i 0).val] := by decide +kernel
/-- and the offset of the point before it. -/
theorem off_prev : ∀ i : grid0.Coords, k0_off2 i = ![(i 0).val - 1] := by decide +kernel

/-- The word the body loads at the current point's offset is the table's word there, -/
theorem word_cur (c : Dev nD) (i : grid0.Coords) (x : TbBuf0 (F := F) c tbM0_0) (j : (Rect.unit (s := S97) (k0_off1 i) S1.size (k0_off1_inb i)).shape.Idx) :
    View.readAt (Elt F) tbM0_0.view (Rect.unit (s := S97) (k0_off1 i) S1.size (k0_off1_inb i)).toLoadRect x j = x (cur i) := by
  rw [View.readAt_apply]
  refine congrArg x (funext fun a => Fin.ext ?_)
  have hj : (j a).val = 0 := Nat.lt_one_iff.mp (by have := (j a).isLt; match a with | ⟨0, _⟩ => exact this)
  match a with
  | ⟨0, _⟩ =>
    have h0 : (j 0).val = 0 := hj
    exact (congrArg (k0_off1 i 0 + 1 * ·) h0).trans (congrFun (off_cur i) 0)
/-- the word at the previous point's offset likewise, -/
theorem word_prev (c : Dev nD) (i : grid0.Coords) (x : TbBuf0 (F := F) c tbM0_0) (j : (Rect.unit (s := S97) (k0_off2 i) S1.size (k0_off2_inb i)).shape.Idx) :
    View.readAt (Elt F) tbM0_0.view (Rect.unit (s := S97) (k0_off2 i) S1.size (k0_off2_inb i)).toLoadRect x j = x (prev i) := by
  rw [View.readAt_apply]
  refine congrArg x (funext fun a => Fin.ext ?_)
  have hj : (j a).val = 0 := Nat.lt_one_iff.mp (by have := (j a).isLt; match a with | ⟨0, _⟩ => exact this)
  match a with
  | ⟨0, _⟩ =>
    have h0 : (j 0).val = 0 := hj
    exact (congrArg (k0_off2 i 0 + 1 * ·) h0).trans (congrFun (off_prev i) 0)
/-- and the number of tiles in use. -/
theorem word_tiles (c : Dev nD) (x : TbBuf0 (F := F) c tbM0_1) (j : (Rect.unit (s := S1) ![0] S1.size inb_S1_S1_0).shape.Idx) :
    View.readAt (Elt F) tbM0_1.view (Rect.unit (s := S1) ![0] S1.size inb_S1_S1_0).toLoadRect x j = x (ix1 0) := by
  rw [View.readAt_apply]
  exact congrArg x (funext fun a => match a with | ⟨0, _⟩ => Subsingleton.elim (α := Fin 1) _ _)

/-- The condition under which the body loads the weights is `Fresh`. -/
theorem fresh_iff (i : grid0.Coords) (te : S97.Idx → BitVec 32) :
    Scalar.cmpi .ne (Scalar.extui (Scalar.ori (Scalar.cmpi .eq (BitVec.ofNat 32 (i 0).val) 0#32) (Scalar.cmpi .ne (te (cur i)) (te (prev i)))) : BitVec 32) 0#32 = 1#1 ↔ Fresh i te := by
  have hi : (i 0).val < 97 := (i 0).isLt
  have h0 : (BitVec.ofNat 32 (i 0).val = 0#32) ↔ (i 0).val = 0 := by
    rw [← BitVec.toNat_inj]; simp only [BitVec.toNat_ofNat, Nat.zero_mod]; omega
  unfold Fresh
  rw [← h0, ← bne_iff_ne, ← beq_iff_eq (a := BitVec.ofNat 32 (i 0).val)]
  simp only [Scalar.cmpi, Scalar.extui, Scalar.ori, IntOp.cmpi, IntOp.ori]
  generalize (BitVec.ofNat 32 (i 0).val == 0#32) = b
  generalize (te (cur i) != te (prev i)) = b'
  cases b <;> cases b' <;> decide

/-- The condition under which the body computes is `Used`, -/
theorem used_iff (i : grid0.Coords) (nt : S1.Idx → BitVec 32) : k0_cond2 i (nt (ix1 0)) = 1#1 ↔ Used i nt := by
  unfold k0_cond2 Used
  by_cases h : (BitVec.ofNat 32 (i 0).val).slt (nt (ix1 0)) = true <;>
    simp [Scalar.cmpi, Scalar.extui, IntOp.cmpi, h]
/-- and the one under which it writes zeros is its contrary. -/
theorem unused_iff (i : grid0.Coords) (nt : S1.Idx → BitVec 32) : k0_cond3 i (nt (ix1 0)) = 1#1 ↔ ¬Used i nt := by
  unfold k0_cond3 Used
  by_cases h : (BitVec.ofNat 32 (i 0).val).slt (nt (ix1 0)) = true <;>
    simp [Scalar.cmpi, Scalar.extui, IntOp.cmpi, BitVec.sle_eq_not_slt, h]

/-! ## The rows of a block -/

/-- Every eighth row of a block of 4096 rows of 128, from row `k`: columns `128 k … 128 k + 127` of 512 rows of 1024. -/
def rows (x : S4096x128.Idx → Elt F .f32) (k : Fin 8) : FVec F S512x128 .f32 :=
  fun j => x (ix2 (n0 := 4096) (n1 := 128) ⟨k.val + 8 * (j 0).val, by have : (j 0).val < 512 := (j 0).isLt; omega⟩ (j 1))

/-- 512 rows of 1024 laid out as 4096 rows of 128. -/
def lay (y : FVec F S512x1024 .f32) : S4096x128.Idx → Elt F .f32 :=
  fun j => y (ix2 (n0 := 512) (n1 := 1024) ⟨(j 0).val / 8, by have : (j 0).val < 4096 := (j 0).isLt; omega⟩
    ⟨128 * ((j 0).val % 8) + (j 1).val, by have : (j 1).val < 128 := (j 1).isLt; omega⟩)

/-- The tile's rows through the expert whose weights the scratches hold. -/
def expertRows (x : S4096x128.Idx → Elt F .f32) (wgu : FVec F S1024x1024 .bf16) (wd : FVec F S512x1024 .bf16) : FVec F S512x1024 .f32 :=
  k0_pay11 (rows x 0) (rows x 1) (rows x 2) (rows x 3) (rows x 4) (rows x 5) (rows x 6) (rows x 7) wgu wd

open Classical in
/-- What the body leaves in the output block. -/
def outBlock (used : Prop) (x : S4096x128.Idx → Elt F .f32) (wgu : FVec F S1024x1024 .bf16) (wd : FVec F S512x1024 .bf16) : S4096x128.Idx → Elt F .f32 :=
  if used then lay (expertRows x wgu wd) else k0_pay10

/-- The eight stores of a tile's rows. -/
def stores (y : FVec F S512x1024 .f32) : List (View.Piece (Elt F) S4096x128 .f32) :=
  [⟨⟨(⟨![7, 0], S512x128.size, ![8, 1], inb_S4096x128_S512x128_7_0_s_8_1⟩ : LoadRect S4096x128), spos_8_1⟩, k0_pay9 y⟩,
        ⟨⟨(⟨![6, 0], S512x128.size, ![8, 1], inb_S4096x128_S512x128_6_0_s_8_1⟩ : LoadRect S4096x128), spos_8_1⟩, k0_pay8 y⟩,
        ⟨⟨(⟨![5, 0], S512x128.size, ![8, 1], inb_S4096x128_S512x128_5_0_s_8_1⟩ : LoadRect S4096x128), spos_8_1⟩, k0_pay7 y⟩,
        ⟨⟨(⟨![4, 0], S512x128.size, ![8, 1], inb_S4096x128_S512x128_4_0_s_8_1⟩ : LoadRect S4096x128), spos_8_1⟩, k0_pay6 y⟩,
        ⟨⟨(⟨![3, 0], S512x128.size, ![8, 1], inb_S4096x128_S512x128_3_0_s_8_1⟩ : LoadRect S4096x128), spos_8_1⟩, k0_pay5 y⟩,
        ⟨⟨(⟨![2, 0], S512x128.size, ![8, 1], inb_S4096x128_S512x128_2_0_s_8_1⟩ : LoadRect S4096x128), spos_8_1⟩, k0_pay4 y⟩,
        ⟨⟨(⟨![1, 0], S512x128.size, ![8, 1], inb_S4096x128_S512x128_1_0_s_8_1⟩ : LoadRect S4096x128), spos_8_1⟩, k0_pay3 y⟩,
        ⟨⟨(⟨![0, 0], S512x128.size, ![8, 1], inb_S4096x128_S512x128_0_0_s_8_1⟩ : LoadRect S4096x128), spos_8_1⟩, extractStridedSlice S512x128 ![0, 0] y slices_S512x1024_o0_0_S512x128⟩]

/-- A strided load of a whole buffer is its rows. -/
theorem readAt_rows (arg3 : Memref sig .tc .vmem S4096x128 .f32) (h : arg3.IsWhole) (x : S4096x128.Idx → Elt F .f32) (k : Fin 8)
    (inb : ∀ a, S512x128.size a = 0 ∨ (![k.val, 0] : Fin 2 → Nat) a + (![8, 1] : Fin 2 → Nat) a * (S512x128.size a - 1) < S4096x128.size a) :
    View.readAt (Elt F) arg3.view ⟨![k.val, 0], S512x128.size, ![8, 1], inb⟩ (h.unread x) = rows x k := by
  funext j
  rw [h.readAt_unread]
  refine congrArg x (funext fun a => Fin.ext ?_)
  match a with
  | ⟨0, _⟩ => rfl
  | ⟨1, _⟩ => show 0 + 1 * (j 1).val = (j 1).val; omega

/-- One strided store's payload is its part of the laid-out rows. -/
theorem slice_lay (y : FVec F S512x1024 .f32) (k : Fin 8) (h : S512x1024.Slices ![0, 128 * k.val] S512x128)
    (inb : ∀ a, S512x128.size a = 0 ∨ (![k.val, 0] : Fin 2 → Nat) a + (![8, 1] : Fin 2 → Nat) a * (S512x128.size a - 1) < S4096x128.size a)
    (x : S512x128.Idx) :
    extractStridedSlice S512x128 ![0, 128 * k.val] y h x
      = lay y ((⟨(⟨![k.val, 0], S512x128.size, ![8, 1], inb⟩ : LoadRect S4096x128), spos_8_1⟩ : Rect S4096x128).emb x) := by
  have h0 : (x 0).val < 512 := (x 0).isLt
  have h1 : (x 1).val < 128 := (x 1).isLt
  refine extractStridedSlice_apply _ _ _ _ _ fun a => ?_
  match a with
  | ⟨0, _⟩ => show (k.val + 8 * (x 0).val) / 8 = 0 + (x 0).val; omega
  | ⟨1, _⟩ => show 128 * ((k.val + 8 * (x 0).val) % 8) + (0 + 1 * (x 1).val) = 128 * k.val + (x 1).val; omega

/-- After the eight stores the whole block holds the laid-out rows. -/
theorem read_stores (arg6 : Memref sig .tc .vmem S4096x128 .f32) (f : arg6.view.ty.Contents (Elt F)) (y : FVec F S512x1024 .f32) :
    arg6.view.read (Elt F) (arg6.view.writes (Elt F) f (stores y)) = lay y := by
  funext j
  refine View.read_writes_apply_of_pieces _ f (lay y) (stores y) ?_ j ?_
  · simp only [stores, List.forall_mem_cons, List.not_mem_nil, false_imp_iff, implies_true, and_true]
    exact ⟨slice_lay y 7 slices_S512x1024_o0_896_S512x128 _, slice_lay y 6 slices_S512x1024_o0_768_S512x128 _, slice_lay y 5 slices_S512x1024_o0_640_S512x128 _, slice_lay y 4 slices_S512x1024_o0_512_S512x128 _,
      slice_lay y 3 slices_S512x1024_o0_384_S512x128 _, slice_lay y 2 slices_S512x1024_o0_256_S512x128 _, slice_lay y 1 slices_S512x1024_o0_128_S512x128 _, slice_lay y 0 slices_S512x1024_o0_0_S512x128 _⟩
  · have hj : (j 0).val < 4096 := (j 0).isLt
    have h1 : (j 1).val < 128 := (j 1).isLt
    have key (k : Nat) (hk : (j 0).val % 8 = k) : ∀ a : Fin 2, ∃ i < S512x128.size a, (j a).val = (![k, 0] : Fin 2 → Nat) a + (![8, 1] : Fin 2 → Nat) a * i := fun a => by
      match a with
      | ⟨0, _⟩ => exact ⟨(j 0).val / 8, by show _ < 512; omega, by show (j 0).val = k + 8 * _; omega⟩
      | ⟨1, _⟩ => exact ⟨(j 1).val, h1, by show (j 1).val = 0 + 1 * _; omega⟩
    have h8 : (j 0).val % 8 < 8 := Nat.mod_lt _ (by decide)
    simp only [stores, List.exists_mem_cons_iff, List.not_mem_nil, false_and, exists_false, or_false]
    generalize hr : (j 0).val % 8 = r at h8
    match r, h8 with
    | 0, _ => exact Or.inr (Or.inr (Or.inr (Or.inr (Or.inr (Or.inr (Or.inr ((LoadRect.mem_set _).mpr (key 0 hr))))))))
    | 1, _ => exact Or.inr (Or.inr (Or.inr (Or.inr (Or.inr (Or.inr (Or.inl ((LoadRect.mem_set _).mpr (key 1 hr))))))))
    | 2, _ => exact Or.inr (Or.inr (Or.inr (Or.inr (Or.inr (Or.inl ((LoadRect.mem_set _).mpr (key 2 hr)))))))
    | 3, _ => exact Or.inr (Or.inr (Or.inr (Or.inr (Or.inl ((LoadRect.mem_set _).mpr (key 3 hr))))))
    | 4, _ => exact Or.inr (Or.inr (Or.inr (Or.inl ((LoadRect.mem_set _).mpr (key 4 hr)))))
    | 5, _ => exact Or.inr (Or.inr (Or.inl ((LoadRect.mem_set _).mpr (key 5 hr))))
    | 6, _ => exact Or.inr (Or.inl ((LoadRect.mem_set _).mpr (key 6 hr)))
    | 7, _ => exact Or.inl ((LoadRect.mem_set _).mpr (key 7 hr))

open Classical in
/-- A scratch after the body: the new weights where they were loaded, else what it held. -/
def kept {α : Type} (fresh : Prop) (new old : α) : α := if fresh then new else old

/-- A scratch the body stores whole under a condition, read back. -/
theorem read_kept {s : Shape} {e : EltTy} (M : Memref sig .tc .vmem s e) (hM : M.IsWhole) {p q : Prop} [Decidable p] (hpq : p ↔ q)
    {off : Fin s.rank → ℕ} (inb : ∀ a, off a + s.size a ≤ s.size a) (new old : s.Idx → Elt F e) :
    M.view.read (Elt F) (if _h : p then M.view.writes (Elt F) (hM.unread old) [⟨Rect.unit off s.size inb, new⟩] else hM.unread old) = kept q new old := by
  unfold kept
  by_cases hp : p
  · rw [dif_pos hp, if_pos (hpq.mp hp)]; exact View.read_writes_full _ _ _ _ _
  · rw [dif_neg hp, if_neg (fun h => hp (hpq.mpr h))]; exact hM.read_unread _

/-- The output block the body stores in one of two ways, read back. -/
theorem read_out (M : Memref sig .tc .vmem S4096x128 .f32) {p q u : Prop} [Decidable p] [Decidable q] (hp : p ↔ u) (hq : q ↔ ¬u)
    (f : M.view.ty.Contents (Elt F)) (x : S4096x128.Idx → Elt F .f32) (wgu : FVec F S1024x1024 .bf16) (wd : FVec F S512x1024 .bf16) :
    M.view.read (Elt F) (if _h : q then M.view.writes (Elt F) (if _h : p then M.view.writes (Elt F) f (stores (expertRows x wgu wd)) else f)
        [⟨Rect.unit ![0, 0] ![4096, 128] inb_S4096x128_S4096x128_0_0, k0_pay10⟩]
      else if _h : p then M.view.writes (Elt F) f (stores (expertRows x wgu wd)) else f) = outBlock u x wgu wd := by
  unfold outBlock
  by_cases hu : u
  · rw [if_pos hu, dif_neg (fun h => hq.mp h hu), dif_pos (hp.mpr hu)]; exact read_stores M f _
  · rw [if_neg hu, dif_pos (hq.mpr hu)]; exact View.read_writes_full _ _ (s := S4096x128) _ _ _

set_option maxHeartbeats 1000000 in
/-- THE BODY, at any point: from the tile's rows, the two weight blocks, the scratches and the tables it leaves the inputs as they
    were, the scratches at the tile's expert's weights where it loaded them, and the output block at the tile's rows through
    the expert the scratches hold — or at zeros where the tile is not in use. -/
theorem body_run (c : Dev nD) (i : grid0.Coords) (arg3 : Memref sig .tc .vmem S4096x128 .f32) (harg3 : arg3.IsWhole) (arg4 : Memref sig .tc .vmem S1x1x1024x1024 .f32) (harg4 : arg4.IsWhole) (arg5 : Memref sig .tc .vmem S1x1x512x1024 .f32) (harg5 : arg5.IsWhole) (arg6 : Memref sig .tc .vmem S4096x128 .f32) (harg6 : arg6.IsWhole) (arg7 : Memref sig .tc .vmem S1024x1024 .bf16) (harg7 : arg7.IsWhole) (arg8 : Memref sig .tc .vmem S512x1024 .bf16) (harg8 : arg8.IsWhole)
    (x0 : Vec F S4096x128 .f32) (x1 : Vec F S1x1x1024x1024 .f32) (x2 : Vec F S1x1x512x1024 .f32) (w0 : Vec F S1024x1024 .bf16) (w1 : Vec F S512x1024 .bf16)
    (te : TbBuf0 (F := F) c tbM0_0) (nt : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare w0 ∗ owns (c : Thread nD τ) arg8 fullShare w1 ∗ tbPt0 c tbM0_0 te ∗ tbPt0 c tbM0_1 nt
            ∗ (iprop(owns (c : Thread nD τ) arg3 fullShare x0 ∗ owns (c : Thread nD τ) arg4 fullShare x1 ∗ owns (c : Thread nD τ) arg5 fullShare x2 ∗ owns (c : Thread nD τ) arg6 fullShare (outBlock (Used i nt) x0 (kept (Fresh i te) (k0_pay1 x1) w0) (kept (Fresh i te) (k0_pay2 x2) w1)) ∗ owns (c : Thread nD τ) arg7 fullShare (kept (Fresh i te) (k0_pay1 x1) w0) ∗ owns (c : Thread nD τ) arg8 fullShare (kept (Fresh i te) (k0_pay2 x2) w1) ∗ tbPt0 c tbM0_0 te ∗ tbPt0 c tbM0_1 nt) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K := by
  intro E K
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, HT1, Hk⟩
  obtain rfl := harg3.eq_unread hf0; obtain rfl := harg4.eq_unread hf1; obtain rfl := harg5.eq_unread hf2
  obtain rfl := harg7.eq_unread hs0; obtain rfl := harg8.eq_unread hs1
  sl_exec
  sl_step
  -- the words read, and the conditions on them
  have hte : body_run.sl.r c i te = te (prev i) := word_prev c i te _
  have hte' : body_run.sl.r_1 c i te = te (cur i) := word_cur c i te _
  have hnt : body_run.sl.r_2 c nt = nt (ix1 0) := word_tiles c nt _
  have hx1 : body_run.sl.v19 c arg4 harg4 x1 = x1 := (View.readAt_full _ _ _).trans (harg4.read_unread _)
  have hx2 : body_run.sl.v25 c arg5 harg5 x2 = x2 := (View.readAt_full _ _ _).trans (harg5.read_unread _)
  have hw0 : body_run.sl.v37 c i arg4 harg4 arg7 harg7 x1 w0 te = kept (Fresh i te) (k0_pay1 x1) w0 := by
    unfold body_run.sl.v37
    rw [View.readAt_full, hx1, hte, hte']
    exact read_kept arg7 harg7 (fresh_iff i te) _ _ _
  have hw1 : body_run.sl.v51 c i arg5 harg5 arg8 harg8 x2 w1 te = kept (Fresh i te) (k0_pay2 x2) w1 := by
    unfold body_run.sl.v51
    rw [View.readAt_full, hx2, hte, hte']
    exact read_kept arg8 harg8 (fresh_iff i te) _ _ _
  have hy : body_run.sl.r_3 c i arg3 harg3 arg4 harg4 arg5 harg5 arg7 harg7 arg8 harg8 x0 x1 x2 w0 w1 te
      = expertRows x0 (kept (Fresh i te) (k0_pay1 x1) w0) (kept (Fresh i te) (k0_pay2 x2) w1) := by
    unfold body_run.sl.r_3 expertRows
    rw [hw0, hw1, ← readAt_rows arg3 harg3 x0 0 inb_S4096x128_S512x128_0_0_s_8_1, ← readAt_rows arg3 harg3 x0 1 inb_S4096x128_S512x128_1_0_s_8_1,
      ← readAt_rows arg3 harg3 x0 2 inb_S4096x128_S512x128_2_0_s_8_1, ← readAt_rows arg3 harg3 x0 3 inb_S4096x128_S512x128_3_0_s_8_1,
      ← readAt_rows arg3 harg3 x0 4 inb_S4096x128_S512x128_4_0_s_8_1, ← readAt_rows arg3 harg3 x0 5 inb_S4096x128_S512x128_5_0_s_8_1,
      ← readAt_rows arg3 harg3 x0 6 inb_S4096x128_S512x128_6_0_s_8_1, ← readAt_rows arg3 harg3 x0 7 inb_S4096x128_S512x128_7_0_s_8_1]
    rfl
  have hy0 : body_run.sl.r_4 c i arg3 harg3 arg4 harg4 arg5 harg5 arg7 harg7 arg8 harg8 x0 x1 x2 w0 w1 te
      = extractStridedSlice S512x128 ![0, 0] (body_run.sl.r_3 c i arg3 harg3 arg4 harg4 arg5 harg5 arg7 harg7 arg8 harg8 x0 x1 x2 w0 w1 te) slices_S512x1024_o0_0_S512x128 := rfl
  rw [hy0, hy, hx1, hx2, hte, hte', hnt]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    exact read_out arg6 (used_iff i nt) (unused_iff i nt) f3 x0 _ _
  isplitl [HS0]
  · iexists _; isplitr; swap; · iexact HS0
    ipureintro
    exact read_kept arg7 harg7 (fresh_iff i te) _ _ _
  isplitl [HS1]
  · iexists _; isplitr; swap; · iexact HS1
    ipureintro
    exact read_kept arg8 harg8 (fresh_iff i te) _ _ _
  isplitl [HT0]; · iexact HT0
  iexact HT1

end Cert.KernelIdeal.Expert

end
-- ==== Proof.Blocks.lean ====
/- What the windows of the expert feed-forward call read: a point's block of rows and its expert's two weight blocks, each
   as entries of the array the region finds. -/
module

public import proofs.«01_k».proof.Proof.Kit
public import proofs.«01_k».proof.Proof.Body
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Expert

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

variable (m : (ℓ : Loc nD τ sig) → Buf (Elt F) ℓ)

/-- The weights' windows read the expert the table names for the point's tile. -/
theorem map_gate_up (pf : pre0.Contents (Elt F)) (i : grid0.Coords) :
    cc0_transform_1 k0_off1_inb numel1_S1 pf i = ![0, BitVec.toNat (w := 32) (pf 0 (cur i)), 0, 0] := by
  have h : pf.at 0 (Rect.unit (s := S97) (k0_off1 i) S1.size (k0_off1_inb i)) numel1_S1 = pf 0 (cur i) := by
    refine congrArg (pf 0) (funext fun a => Fin.ext ?_)
    match a with
    | ⟨0, _⟩ => exact congrFun (off_cur i) 0
  unfold cc0_transform_1
  show ![_, BitVec.toNat (w := 32) (pf.at 0 (Rect.unit (s := S97) (k0_off1 i) S1.size (k0_off1_inb i)) numel1_S1), _, _] = _
  rw [h]; rfl
/-- The second weight's window reads the same expert. -/
theorem map_down (pf : pre0.Contents (Elt F)) (i : grid0.Coords) :
    cc0_transform_2 k0_off1_inb numel1_S1 pf i = ![0, BitVec.toNat (w := 32) (pf 0 (cur i)), 0, 0] := map_gate_up pf i

/-- The window of rows reads the point's tile, the last tile in use where the point lies beyond it. -/
theorem map_rows (pf : pre0.Contents (Elt F)) (i : grid0.Coords) :
    cc0_transform_0 inb_S1_S1_0 numel1_S1 pf i
      = ![(Scalar.minsi (BitVec.ofNat 32 (i 0).val) (Scalar.subi (pf 1 (ix1 0)) 1#32)).toNat, 0] := by
  have h : pf.at 1 (Rect.unit (s := S1) ![0] S1.size inb_S1_S1_0) numel1_S1 = pf 1 (ix1 0) := by
    refine congrArg (pf 1) (funext fun a => ?_)
    match a with
    | ⟨0, _⟩ => exact Subsingleton.elim (α := Fin 1) _ _
  unfold cc0_transform_0
  show ![(Scalar.minsi (BitVec.ofNat 32 (i 0).val) (Scalar.subi (pf.at 1 (Rect.unit (s := S1) ![0] S1.size inb_S1_S1_0) numel1_S1) 1#32)).toNat, _] = _
  rw [h]; rfl

/-- The table names one of the 32 experts at every tile (the windows' blocks lie inside the weights). -/
theorem expert_lt (hO : Ok m) (i : grid0.Coords) : BitVec.toNat (w := 32) (tbl m 0 (cur i)) < 32 := by
  obtain ⟨h, -⟩ := hO.2.1 i
  have := h 1
  rw [map_gate_up] at this
  exact Nat.lt_of_succ_le (by simpa using this)

/-- The gate-and-up weights a point reads: the layer's block of the tile's expert, -/
theorem iblk1_apply (hO : Ok m) (c : Dev nD) (t : Fin (cfgM m hO).N) (j : S1x1x1024x1024.Idx) :
    iblk m hO c 1 t j = V m c main_arg2 (ix4 (n0 := 2) (n1 := 32) (n2 := 1024) (n3 := 1024) 0 ⟨_, expert_lt m hO (grid0.coords t)⟩ (j 2) (j 3)) := by
  show V m c main_arg2 ((((cfgM m hO).win 1).blk t).view.emb j) = _
  refine congrArg (V m c main_arg2) (funext fun a => Fin.ext ?_)
  have hm := map_gate_up (tbl m) (grid0.coords t)
  have j0 : (j 0).val = 0 := Nat.lt_one_iff.mp (j 0).isLt
  have j1 : (j 1).val = 0 := Nat.lt_one_iff.mp (j 1).isLt
  match a with
  | ⟨0, _⟩ => show cc0_transform_1 k0_off1_inb numel1_S1 (tbl m) (grid0.coords t) 0 * 1 + 1 * (j 0).val = 0; rw [hm, j0]; rfl
  | ⟨1, _⟩ => show cc0_transform_1 k0_off1_inb numel1_S1 (tbl m) (grid0.coords t) 1 * 1 + 1 * (j 1).val = BitVec.toNat (w := 32) (tbl m 0 (cur (grid0.coords t))); rw [hm, j1]; simp
  | ⟨2, _⟩ => show cc0_transform_1 k0_off1_inb numel1_S1 (tbl m) (grid0.coords t) 2 * 1024 + 1 * (j 2).val = (j 2).val; rw [hm]; simp
  | ⟨3, _⟩ => show cc0_transform_1 k0_off1_inb numel1_S1 (tbl m) (grid0.coords t) 3 * 1024 + 1 * (j 3).val = (j 3).val; rw [hm]; simp

/-- and the down weights likewise. -/
theorem iblk2_apply (hO : Ok m) (c : Dev nD) (t : Fin (cfgM m hO).N) (j : S1x1x512x1024.Idx) :
    iblk m hO c 2 t j = V m c main_arg3 (ix4 (n0 := 2) (n1 := 32) (n2 := 512) (n3 := 1024) 0 ⟨_, expert_lt m hO (grid0.coords t)⟩ (j 2) (j 3)) := by
  show V m c main_arg3 ((((cfgM m hO).win 2).blk t).view.emb j) = _
  refine congrArg (V m c main_arg3) (funext fun a => Fin.ext ?_)
  have hm := map_down (tbl m) (grid0.coords t)
  have j0 : (j 0).val = 0 := Nat.lt_one_iff.mp (j 0).isLt
  have j1 : (j 1).val = 0 := Nat.lt_one_iff.mp (j 1).isLt
  match a with
  | ⟨0, _⟩ => show cc0_transform_2 k0_off1_inb numel1_S1 (tbl m) (grid0.coords t) 0 * 1 + 1 * (j 0).val = 0; rw [hm, j0]; rfl
  | ⟨1, _⟩ => show cc0_transform_2 k0_off1_inb numel1_S1 (tbl m) (grid0.coords t) 1 * 1 + 1 * (j 1).val = BitVec.toNat (w := 32) (tbl m 0 (cur (grid0.coords t))); rw [hm, j1]; simp
  | ⟨2, _⟩ => show cc0_transform_2 k0_off1_inb numel1_S1 (tbl m) (grid0.coords t) 2 * 512 + 1 * (j 2).val = (j 2).val; rw [hm]; simp
  | ⟨3, _⟩ => show cc0_transform_2 k0_off1_inb numel1_S1 (tbl m) (grid0.coords t) 3 * 1024 + 1 * (j 3).val = (j 3).val; rw [hm]; simp

/-- So two points whose tiles belong to one expert read the same weights. -/
theorem iblk1_congr (hO : Ok m) (c : Dev nD) (t t' : Fin (cfgM m hO).N)
    (h : tbl m 0 (cur (grid0.coords t)) = tbl m 0 (cur (grid0.coords t'))) :
    (iblk m hO c 1 t : Vec F S1x1x1024x1024 .f32) = iblk m hO c 1 t' := by
  funext j
  refine (iblk1_apply m hO c t j).trans (Eq.trans ?_ (iblk1_apply m hO c t' j).symm)
  have e : (⟨_, expert_lt m hO (grid0.coords t)⟩ : Fin 32) = ⟨_, expert_lt m hO (grid0.coords t')⟩ := Fin.ext (congrArg (BitVec.toNat (w := 32)) h)
  rw [e]
/-- The second weight's blocks likewise. -/
theorem iblk2_congr (hO : Ok m) (c : Dev nD) (t t' : Fin (cfgM m hO).N)
    (h : tbl m 0 (cur (grid0.coords t)) = tbl m 0 (cur (grid0.coords t'))) :
    (iblk m hO c 2 t : Vec F S1x1x512x1024 .f32) = iblk m hO c 2 t' := by
  funext j
  refine (iblk2_apply m hO c t j).trans (Eq.trans ?_ (iblk2_apply m hO c t' j).symm)
  have e : (⟨_, expert_lt m hO (grid0.coords t)⟩ : Fin 32) = ⟨_, expert_lt m hO (grid0.coords t')⟩ := Fin.ext (congrArg (BitVec.toNat (w := 32)) h)
  rw [e]

/-- A tile before the number of tiles in use is its own minimum with the last tile in use. -/
theorem min_word (k : Nat) (n : BitVec 32) (hi : k < 97) (h : (BitVec.ofNat 32 k).slt n = true) (hn : n.toNat ≤ 2143) :
    (Scalar.minsi (BitVec.ofNat 32 k) (Scalar.subi n 1#32)).toNat = k := by
  have hk : k < n.toNat := by
    simp only [BitVec.slt, decide_eq_true_eq, BitVec.toInt, BitVec.toNat_ofNat] at h
    omega
  have hs : (n - 1#32).toNat = n.toNat - 1 := by
    rw [BitVec.toNat_sub]; simp only [BitVec.toNat_ofNat]; omega
  show (if (BitVec.ofNat 32 k).slt (n - 1#32) = true then BitVec.ofNat 32 k else n - 1#32).toNat = k
  by_cases hh : (BitVec.ofNat 32 k).slt (n - 1#32) = true
  · rw [if_pos hh, BitVec.toNat_ofNat]; omega
  · rw [if_neg hh]
    simp only [BitVec.sle, BitVec.slt, decide_eq_true_eq, BitVec.toInt, BitVec.toNat_ofNat, hs] at hh
    rw [hs]; omega

/-- A tile in use: the window of rows reads that very tile. -/
theorem map_rows_used (pf : pre0.Contents (Elt F)) (i : grid0.Coords) (h : Used i (pf 1)) (hnt : BitVec.toNat (w := 32) (pf 1 (ix1 0)) ≤ 2143) :
    cc0_transform_0 inb_S1_S1_0 numel1_S1 pf i = ![(i 0).val, 0] := by
  rw [map_rows, min_word _ _ (i 0).isLt h hnt]

/-- The rows a tile in use reads: 4096 rows of 128 lanes (512 rows of 1024) from the tile's offset. -/
theorem iblk0_apply (hO : Ok m) (c : Dev nD) (t : Fin (cfgM m hO).N) (h : Used (grid0.coords t) (tbl m 1))
    (hnt : BitVec.toNat (w := 32) (tbl m 1 (ix1 0)) ≤ 2143) (j : S4096x128.Idx) (hj : (grid0.coords t 0).val * 4096 + (j 0).val < 397312) :
    iblk m hO c 0 t j = V m c main_v27 (ix2 (n0 := 397312) (n1 := 128) ⟨(grid0.coords t 0).val * 4096 + (j 0).val, hj⟩ (j 1)) := by
  show V m c main_v27 ((((cfgM m hO).win 0).blk t).view.emb j) = _
  refine congrArg (V m c main_v27) (funext fun a => Fin.ext ?_)
  have hm := map_rows_used (tbl m) (grid0.coords t) h hnt
  match a with
  | ⟨0, _⟩ => show cc0_transform_0 inb_S1_S1_0 numel1_S1 (tbl m) (grid0.coords t) 0 * 4096 + 1 * (j 0).val = (grid0.coords t 0).val * 4096 + (j 0).val; rw [hm]; simp
  | ⟨1, _⟩ => show cc0_transform_0 inb_S1_S1_0 numel1_S1 (tbl m) (grid0.coords t) 1 * 128 + 1 * (j 1).val = (j 1).val; rw [hm]; simp

end Cert.KernelIdeal.Expert

end
-- ==== Proof.Run.lean ====
/- The run of the expert feed-forward call: what the scratch holds point by point (the current expert's weights, rounded),
   the proof data, the body obligation and the launch; over any float values. -/
module

public import proofs.«01_k».proof.Proof.Kit
public import proofs.«01_k».proof.Proof.Blocks
public import Idealize.ShloMosaic.Lib.Pipeline.FrameBody
public import Idealize.ShloMosaic.Lib.Claim
public import Idealize.ShloMosaic.Lib.Tactic
public import Idealize.ShloMosaic.Lib.WordCmp

@[expose] public section

set_option maxRecDepth 16384

noncomputable section

namespace Cert.KernelIdeal.Expert

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

variable (m : (ℓ : Loc nD τ sig) → Buf (Elt F) ℓ) (ρ : Dev nD → PrngReg)

/-- A point's coordinate is its number. -/
theorem coord_val : ∀ t : Fin grid0.N, (grid0.coords t 0).val = t.val := by decide +kernel

/-- The rounded gate-and-up weights of the expert of point `t`'s tile, -/
def wguAt (hO : Ok m) (c : Dev nD) (t : Fin (cfgM m hO).N) : Vec F S1024x1024 .bf16 := k0_pay1 (iblk m hO c 1 t)
/-- and its rounded down weights. -/
def wdAt (hO : Ok m) (c : Dev nD) (t : Fin (cfgM m hO).N) : Vec F S512x1024 .bf16 := k0_pay2 (iblk m hO c 2 t)
/-- What point `t` writes back. -/
def outAt (hO : Ok m) (c : Dev nD) (t : Fin (cfgM m hO).N) : Vec F S4096x128 .f32 :=
  outBlock (Used (grid0.coords t) (tbl m 1)) (iblk m hO c 0 t) (wguAt m hO c t) (wdAt m hO c t)

/-- The first point loads its weights whatever the scratch held. -/
theorem kept_first (h : 0 < grid0.N) {α : Type} (te : S97.Idx → BitVec 32) (new old : α) :
    kept (Fresh (grid0.coords ⟨0, h⟩) te) new old = new :=
  if_pos (Or.inl (coord_val ⟨0, h⟩))

/-- The tile before a later point's is the previous point's tile. -/
theorem prev_succ (n : ℕ) (h : n + 1 < grid0.N) : prev (grid0.coords ⟨n + 1, h⟩) = cur (grid0.coords ⟨n, Nat.lt_of_succ_lt h⟩) := by
  unfold prev cur
  refine congrArg (ix1 (n0 := 97)) (Fin.ext ?_)
  show (grid0.coords ⟨n + 1, h⟩ 0).val - 1 = (grid0.coords ⟨n, _⟩ 0).val
  rw [coord_val, coord_val]; rfl

/-- A later point finds its expert's weights in the scratch or loads them: either way it computes with them. -/
theorem kept_wgu (hO : Ok m) (c : Dev nD) (n : ℕ) (h : n + 1 < grid0.N) :
    kept (Fresh (grid0.coords ⟨n + 1, h⟩) (tbl m 0)) (wguAt m hO c ⟨n + 1, h⟩) (wguAt m hO c ⟨n, Nat.lt_of_succ_lt h⟩) = wguAt m hO c ⟨n + 1, h⟩ := by
  unfold kept
  by_cases hf : Fresh (grid0.coords ⟨n + 1, h⟩) (tbl m 0)
  · rw [if_pos hf]
  · rw [if_neg hf]
    unfold Fresh at hf
    rw [not_or, not_not, prev_succ] at hf
    exact congrArg k0_pay1 (iblk1_congr m hO c _ _ hf.2.symm)

/-- The same of the second weights. -/
theorem kept_wd (hO : Ok m) (c : Dev nD) (n : ℕ) (h : n + 1 < grid0.N) :
    kept (Fresh (grid0.coords ⟨n + 1, h⟩) (tbl m 0)) (wdAt m hO c ⟨n + 1, h⟩) (wdAt m hO c ⟨n, Nat.lt_of_succ_lt h⟩) = wdAt m hO c ⟨n + 1, h⟩ := by
  unfold kept
  by_cases hf : Fresh (grid0.coords ⟨n + 1, h⟩) (tbl m 0)
  · rw [if_pos hf]
  · rw [if_neg hf]
    unfold Fresh at hf
    rw [not_or, not_not, prev_succ] at hf
    exact congrArg k0_pay2 (iblk2_congr m hO c _ _ hf.2.symm)

/-- What is held between points: before the first the scratch at some contents; after point `n` its expert's weights. -/
def inv (hO : Ok m) (c : Dev nD) : (n : ℕ) → n ≤ (cfgM m hO).N → sProp 𝕄
  | 0, _ => iprop(Pipeline.ΦA spec0 c ∗ Pipeline.ΦT pre0 (tbl m) c)
  | n + 1, h => iprop(((owns (c : Thread nD τ) scM0_0 fullShare (wguAt m hO c ⟨n, h⟩) ∗ owns (c : Thread nD τ) scM0_1 fullShare (wdAt m hO c ⟨n, h⟩))
      ∗ (∃ r, prngReg c r)) ∗ Pipeline.ΦT pre0 (tbl m) c)

/-- The proof data: the arrays as the region finds them, each input's buffer at its block, the output's at what the
    point computes, the scratch as `inv` says. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := inv m hO c t.val (Nat.le_of_lt_succ t.isLt)
  q _ := fullShare
  owed _ := 0

/-- Every window's array starts as the host stretch left it. -/
theorem A_eq (hO : Ok m) (c : Dev nD) (w : Fin (cfgM m hO).W) : (dats m hO 0 c).A w = V m c (Pipeline.arrRef spec0 w) := by
  dsimp only [dats]
/-- Window 0 (rows) is left as loaded. -/
theorem after0_0 (hO : Ok m) (c : Dev nD) (t : Fin (cfgM m hO).N) : (dats m hO 0 c).after 0 t = iblk m hO c 0 t := by dsimp only [dats]; try rfl
/-- Window 1 (first weights) is left as loaded. -/
theorem after0_1 (hO : Ok m) (c : Dev nD) (t : Fin (cfgM m hO).N) : (dats m hO 0 c).after 1 t = iblk m hO c 1 t := by dsimp only [dats]; try rfl
/-- Window 2 (second weights) is left as loaded. -/
theorem after0_2 (hO : Ok m) (c : Dev nD) (t : Fin (cfgM m hO).N) : (dats m hO 0 c).after 2 t = iblk m hO c 2 t := by dsimp only [dats]; try rfl
/-- Window 3 (the answer) is left holding the point's answer. -/
theorem after0_3 (hO : Ok m) (c : Dev nD) (t : Fin (cfgM m hO).N) : (dats m hO 0 c).after 3 t = outAt m hO c t := by dsimp only [dats]; try rfl

/-- Window 0 is entered with its block of the sorted rows. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Window 1 is entered with its block of the first weights. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Window 2 is entered with its block of the second weights. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- No window is ever idle: the output is stored under a condition or under its contrary. -/
theorem live0_0 (hO : Ok m) (t : Fin (cfgM m hO).N) : (cfgM m hO).idle 0 (grid0.coords t) = false := rfl
/-- Window 1 is live at every point. -/
theorem live0_1 (hO : Ok m) (t : Fin (cfgM m hO).N) : (cfgM m hO).idle 1 (grid0.coords t) = false := rfl
/-- Window 2 is live at every point. -/
theorem live0_2 (hO : Ok m) (t : Fin (cfgM m hO).N) : (cfgM m hO).idle 2 (grid0.coords t) = false := rfl
/-- Window 3 is live at every point. -/
theorem live0_3 (hO : Ok m) (t : Fin (cfgM m hO).N) : (cfgM m hO).idle 3 (grid0.coords t) = false := by
  have e : (tbl m).atD 1 ![0] = tbl m 1 (ix1 0) := by
    unfold Pipeline.Prefetch.Contents.atD
    rw [dif_pos (by decide)]
    refine congrArg (tbl m 1) (funext fun a => ?_)
    match a with
    | ⟨0, _⟩ => exact Subsingleton.elim (α := Fin 1) _ _
  show (!(k0_cond2 (grid0.coords t) ((tbl m).atD 1 ![0]) == 1#1) && !(k0_cond3 (grid0.coords t) ((tbl m).atD 1 ![0]) == 1#1)) = false
  rw [e]
  by_cases h : Used (grid0.coords t) (tbl m 1)
  · have := (used_iff (grid0.coords t) (tbl m 1)).mpr h; rw [this]; rfl
  · have := (unused_iff (grid0.coords t) (tbl m 1)).mpr h; rw [this]; simp

/-! ## The body obligation -/

/-- The body as the pipeline calls it at point `t`. -/
def bodyAt (hO : Ok m) (t : Fin (cfgM m hO).N) :=
  cc0_moe_experts (F := F) (grid0.coords t) tbM0_0 htbM0_0 tbM0_1 htbM0_1 (ms0_0 m hO t) (hs0_0 m hO t) (ms0_1 m hO t) (hs0_1 m hO t)
    (ms0_2 m hO t) (hs0_2 m hO t) (ms0_3 m hO t) (hs0_3 m hO t) scM0_0 (Memref.isWhole_whole _) scM0_1 (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

/-- What the body leaves in each window's buffer, named. -/
theorem leaves0_0 (hO : Ok m) (c : Dev nD) (t : Fin (cfgM m hO).N) :
    (dats m hO 0 c).leavesExact 0 t = owns (c : Thread nD τ) (ms0_0 m hO t) fullShare (iblk m hO c 0 t) := by
  rw [← after0_0]; unfold Dat.leavesExact; rw [live0_0 m hO t]; try rfl
/-- After the body window 1's staging buffer holds its block. -/
theorem leaves0_1 (hO : Ok m) (c : Dev nD) (t : Fin (cfgM m hO).N) :
    (dats m hO 0 c).leavesExact 1 t = owns (c : Thread nD τ) (ms0_1 m hO t) fullShare (iblk m hO c 1 t) := by
  rw [← after0_1]; unfold Dat.leavesExact; rw [live0_1 m hO t]; try rfl
/-- After the body window 2's staging buffer holds its block. -/
theorem leaves0_2 (hO : Ok m) (c : Dev nD) (t : Fin (cfgM m hO).N) :
    (dats m hO 0 c).leavesExact 2 t = owns (c : Thread nD τ) (ms0_2 m hO t) fullShare (iblk m hO c 2 t) := by
  rw [← after0_2]; unfold Dat.leavesExact; rw [live0_2 m hO t]; try rfl
/-- After the body window 3's staging buffer holds the point's answer. -/
theorem leaves0_3 (hO : Ok m) (c : Dev nD) (t : Fin (cfgM m hO).N) :
    (dats m hO 0 c).leavesExact 3 t = owns (c : Thread nD τ) (ms0_3 m hO t) fullShare (outAt m hO c t) := by
  rw [← after0_3]; unfold Dat.leavesExact; rw [live0_3 m hO t]; try rfl

set_option maxHeartbeats 1200000 in
/-- The body at a point, from any scratch with which it computes with its own expert's weights. -/
theorem run_at (hO : Ok m) (c : Dev nD) (t : Fin (cfgM m hO).N) (w0 : Vec F S1024x1024 .bf16) (w1 : Vec F S512x1024 .bf16)
    (h0 : kept (Fresh (grid0.coords t) (tbl m 0)) (wguAt m hO c t) w0 = wguAt m hO c t)
    (h1 : kept (Fresh (grid0.coords t) (tbl m 0)) (wdAt m hO c t) w1 = wdAt m hO c t) :
    iprop((((owns (c : Thread nD τ) scM0_0 fullShare w0 ∗ owns (c : Thread nD τ) scM0_1 fullShare w1) ∗ (∃ r, prngReg c r)) ∗ Pipeline.ΦT pre0 (tbl m) c)
        ∗ (dats m hO 0 c).owesAt () t.castSucc
        ∗ owns (c : Thread nD τ) (ms0_0 m hO t) fullShare (iblk m hO c 0 t)
        ∗ owns (c : Thread nD τ) (ms0_1 m hO t) fullShare (iblk m hO c 1 t)
        ∗ owns (c : Thread nD τ) (ms0_2 m hO t) fullShare (iblk m hO c 2 t)
        ∗ (∃ d, owns (c : Thread nD τ) (ms0_3 m hO t) fullShare d))
      ⊢ wp frame (wpE (defs₀ (F := F)) Variants.none c none) Set.univ (bodyAt m hO t) (fun _ => bodyPost m hO c t) := by
  unfold bodyPost bodyAt
  rw [leaves0_0, leaves0_1, leaves0_2, leaves0_3, PhiT0_eq]
  rw [show (dats m hO 0 c).Φ t.succ = iprop(((owns (c : Thread nD τ) scM0_0 fullShare (wguAt m hO c t) ∗ owns (c : Thread nD τ) scM0_1 fullShare (wdAt m hO c t))
      ∗ (∃ r, prngReg c r)) ∗ Pipeline.ΦT pre0 (tbl m) c) from rfl, PhiT0_eq,
    show (dats m hO 0 c).owesAt () t.succ = (dats m hO 0 c).owesAt () t.castSucc from rfl]
  have hb := body_run c (grid0.coords t) (ms0_0 m hO t) (hs0_0 m hO t) (ms0_1 m hO t) (hs0_1 m hO t) (ms0_2 m hO t) (hs0_2 m hO t) (ms0_3 m hO t) (hs0_3 m hO t)
    scM0_0 (Memref.isWhole_whole _) scM0_1 (Memref.isWhole_whole _) (iblk m hO c 0 t) (iblk m hO c 1 t) (iblk m hO c 2 t) w0 w1 (tbl m 0) (tbl m 1)
  rw [show k0_pay1 (iblk m hO c 1 t) = wguAt m hO c t from rfl, show k0_pay2 (iblk m hO c 2 t) = wdAt m hO c t from rfl, h0, h1] at hb
  iintro ⟨⟨⟨⟨HS0, HS1⟩, Hg⟩, ⟨HT0, HT1⟩⟩, Ho, H0, H1, H2, H3⟩
  iapply (hb Set.univ _)
  isplitl [H0]; · iexact H0
  isplitl [H1]; · iexact H1
  isplitl [H2]; · iexact H2
  isplitl [H3]; · iexact H3
  isplitl [HS0]; · iexact HS0
  isplitl [HS1]; · iexact HS1
  isplitl [HT0]; · iexact HT0
  isplitl [HT1]; · iexact HT1
  iintro ⟨H0, H1, H2, H3, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  iexact H3

set_option maxHeartbeats 1200000 in
/-- The body at any point: the first loads its weights over whatever the scratch held, a later one over the weights of
    the point before it. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre
  simp only [before0_0, before0_1, before0_2]
  obtain ⟨n, hn⟩ := t
  cases n with
  | zero =>
    rw [show (dats m hO 0 c).Φ (Fin.castSucc ⟨0, hn⟩) = iprop(Pipeline.ΦA spec0 c ∗ Pipeline.ΦT pre0 (tbl m) c) from rfl, PhiA0_eq]
    iintro ⟨⟨⟨⟨⟨%w0, HS0⟩, ⟨%w1, HS1⟩⟩, Hg⟩, HT⟩, Ho, ⟨%d0, H0⟩, ⟨%d1, H1⟩, ⟨%d2, H2⟩, ⟨%d3, H3⟩⟩
    iapply (run_at m hO c ⟨0, hn⟩ w0 w1 (kept_first hn _ _ _) (kept_first hn _ _ _))
    isplitl [HS0 HS1 Hg HT]
    · isplitl [HS0 HS1 Hg]
      · isplitl [HS0 HS1]
        · isplitl [HS0]
          · iexact HS0
          iexact HS1
        iexact Hg
      iexact HT
    isplitl [Ho]; · iexact Ho
    isplitl [H0]; · iexact H0
    isplitl [H1]; · iexact H1
    isplitl [H2]; · iexact H2
    iexists _; iexact H3
  | succ n =>
    rw [show (dats m hO 0 c).Φ (Fin.castSucc ⟨n + 1, hn⟩) = iprop(((owns (c : Thread nD τ) scM0_0 fullShare (wguAt m hO c ⟨n, Nat.lt_of_succ_lt hn⟩) ∗ owns (c : Thread nD τ) scM0_1 fullShare (wdAt m hO c ⟨n, Nat.lt_of_succ_lt hn⟩))
      ∗ (∃ r, prngReg c r)) ∗ Pipeline.ΦT pre0 (tbl m) c) from rfl]
    iintro ⟨HS, Ho, ⟨%d0, H0⟩, ⟨%d1, H1⟩, ⟨%d2, H2⟩, ⟨%d3, H3⟩⟩
    iapply (run_at m hO c ⟨n + 1, hn⟩ _ _ (kept_wgu m hO c n hn) (kept_wd m hO c n hn))
    isplitl [HS]; · iexact HS
    isplitl [Ho]; · iexact Ho
    isplitl [H0]; · iexact H0
    isplitl [H1]; · iexact H1
    isplitl [H2]; · iexact H2
    iexists _; iexact H3

/-- The body a point runs is the printed body at the point's coordinates and slots. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; rfl

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact sound_body m hO c t

/-- After the last point the scratch is given back at some contents. -/
theorem inv_last (hO : Ok m) (c : Dev nD) : (dats m hO 0 c).Φ (Fin.last (cfgM m hO).N) ⊢ (Pipeline.ΦA spec0 c : sProp 𝕄) := by
  rw [show (dats m hO 0 c).Φ (Fin.last (cfgM m hO).N) = inv m hO c (96 + 1) (le_of_eq N_0.symm) from by
    dsimp only [dats]; congr 1]
  unfold inv
  rw [PhiA0_eq]
  iintro ⟨⟨⟨HS0, HS1⟩, Hg⟩, -⟩
  isplitl [HS0 HS1]
  · isplitl [HS0]
    · iexists _; iexact HS0
    iexists _; iexact HS1
  iexact Hg

/-! ## The launch -/

set_option backward.isDefEq.respectTransparency.types false in
/-- Every weakly fair execution from zero counters terminates with the output array at what the points wrote back, every
    input array as it was, every other buffer as the region found it, every semaphore at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun _ => .rfl) (hout := inv_last m hO)

end Cert.KernelIdeal.Expert

end
-- ==== Proof.Groups.lean ====
/- Groups of rows on the naturals: expert after expert, each group filled up to a multiple of 512 rows; which expert a tile of
   512 rows belongs to is how many groups end at or before the tile's first row. -/
module

public import Mathlib.Data.Nat.Count
public import Mathlib.Algebra.BigOperators.Group.List.Basic
public import Mathlib.Tactic.Ring

@[expose] public section

namespace Cert.Groups

/-- The size of an expert's group of rows: its count filled up to a multiple of 512. -/
def size (f : ℕ → ℕ) (e : ℕ) : ℕ := (f e + 511) / 512 * 512

/-- How many rows the groups before the `k`-th take. -/
def upTo (f : ℕ → ℕ) (k : ℕ) : ℕ := ((List.range k).map (size f)).sum

/-- The groups before the next take one group more. -/
theorem upTo_succ (f : ℕ → ℕ) (k : ℕ) : upTo f (k + 1) = upTo f k + size f k := by
  unfold upTo
  rw [List.range_succ, List.map_append, List.sum_append, List.map_singleton, List.sum_singleton]

/-- Groups end in the order of the experts. -/
theorem upTo_mono (f : ℕ → ℕ) : Monotone (upTo f) :=
  monotone_nat_of_le_succ fun k => by rw [upTo_succ]; exact Nat.le_add_right _ _

/-- Every group begins at a multiple of 512. -/
theorem upTo_mod (f : ℕ → ℕ) (k : ℕ) : upTo f k % 512 = 0 := by
  induction k with
  | zero => rfl
  | succ k ih => rw [upTo_succ]; unfold size; omega

/-- A prefix of the counts, summed. -/
def total (f : ℕ → ℕ) (k : ℕ) : ℕ := ((List.range k).map f).sum

/-- One count more. -/
theorem total_succ (f : ℕ → ℕ) (k : ℕ) : total f (k + 1) = total f k + f k := by
  unfold total
  rw [List.range_succ, List.map_append, List.sum_append, List.map_singleton, List.sum_singleton]

/-- The groups hold the counted rows, and at most 511 rows more for each expert. -/
theorem upTo_bounds (f : ℕ → ℕ) (k : ℕ) : total f k ≤ upTo f k ∧ upTo f k ≤ total f k + 511 * k := by
  induction k with
  | zero => exact ⟨le_rfl, le_rfl⟩
  | succ k ih => rw [upTo_succ, total_succ]; unfold size; omega

/-- A sum of numbers none of which is above a bound. -/
theorem total_le (f : ℕ → ℕ) (b : ℕ) (h : ∀ i, f i ≤ b) (k : ℕ) : total f k ≤ b * k := by
  induction k with
  | zero => exact le_rfl
  | succ k ih => rw [total_succ, Nat.mul_succ]; exact Nat.add_le_add ih (h k)

/-- Counts of at most 33792 rows each, and of one in all at least. -/
structure Fits (f : ℕ → ℕ) : Prop where
  each : ∀ i, f i ≤ 33792
  some : 1 ≤ total f 32

/-- The groups take between 1 and 2143 tiles. -/
theorem tiles_bounds {f : ℕ → ℕ} (h : Fits f) : 1 ≤ upTo f 32 / 512 ∧ upTo f 32 / 512 ≤ 2143 := by
  have := upTo_bounds f 32
  have := upTo_mod f 32
  have := h.some
  have := total_le f 33792 h.each 32
  omega

/-- No group ends past the last. -/
theorem upTo_le (f : ℕ → ℕ) {e : ℕ} (he : e ≤ 32) : upTo f e ≤ upTo f 32 := upTo_mono f he

/-- Counting the numbers with a property that goes down: a number has it exactly if it is below the count. -/
theorem lt_count_iff (p : ℕ → Prop) [DecidablePred p] (hp : ∀ i j, i ≤ j → p j → p i) (n : ℕ) : ∀ e < n, p e ↔ e < Nat.count p n := by
  induction n with
  | zero => exact fun e he => absurd he (Nat.not_lt_zero e)
  | succ n ih =>
    intro e he
    by_cases h : p n
    · have hc : Nat.count p (n + 1) = n + 1 := Nat.count_iff_forall.2 fun i hi => hp i n (Nat.lt_succ_iff.1 hi) h
      rw [hc]
      exact ⟨fun _ => he, fun _ => hp e n (Nat.lt_succ_iff.1 he) h⟩
    · have hc : Nat.count p (n + 1) = Nat.count p n := by rw [Nat.count_succ, if_neg h, Nat.add_zero]
      rw [hc]
      rcases Nat.lt_succ_iff_lt_or_eq.1 he with hlt | rfl
      · exact ih e hlt
      · exact ⟨fun hh => absurd hh h, fun hh => absurd hh (Nat.not_lt.2 (Nat.count_le _))⟩

/-- How many groups end at or before tile `t`'s first row. -/
def tileExpert (f : ℕ → ℕ) (t : ℕ) : ℕ := Nat.count (fun e => upTo f (e + 1) ≤ t * 512) 32

/-- A tile in use belongs to the expert whose group holds the tile's rows: a row of the tile lies in an expert's group exactly
    if that expert is the tile's. -/
theorem row_in_group (f : ℕ → ℕ) (t r e : ℕ) (hr : r / 512 = t) (ht : t < upTo f 32 / 512) (he : e < 32) :
    upTo f e ≤ r ∧ r < upTo f (e + 1) ↔ e = tileExpert f t := by
  have key := lt_count_iff (fun e => upTo f (e + 1) ≤ t * 512)
    (fun i j hij hj => (upTo_mono f (Nat.succ_le_succ hij)).trans hj) 32
  have hme := upTo_mod f e
  have hms := upTo_mod f (e + 1)
  have hk := key e he
  change _ ↔ e < tileExpert f t at hk
  constructor
  · rintro ⟨h1, h2⟩
    have hle : tileExpert f t ≤ e := Nat.not_lt.1 fun h => by have := hk.2 h; omega
    rcases Nat.eq_zero_or_pos e with h0 | h0
    · omega
    · have hk' := key (e - 1) (by omega)
      change _ ↔ e - 1 < tileExpert f t at hk'
      rw [Nat.sub_add_cancel h0] at hk'
      have := hk'.1 (by omega)
      omega
  · intro h
    have h2 : ¬ upTo f (e + 1) ≤ t * 512 := fun hh => by have := hk.1 hh; omega
    refine ⟨?_, by omega⟩
    rcases Nat.eq_zero_or_pos e with h0 | h0
    · rw [h0]; exact Nat.zero_le _
    · have hk' := key (e - 1) (by omega)
      change _ ↔ e - 1 < tileExpert f t at hk'
      rw [Nat.sub_add_cancel h0] at hk'
      have := hk'.2 (by omega)
      omega

/-- A tile in use has an expert. -/
theorem tileExpert_lt (f : ℕ → ℕ) (t : ℕ) (ht : t < upTo f 32 / 512) : tileExpert f t < 32 := by
  refine lt_of_le_of_ne (Nat.count_le _) fun h => ?_
  have hk := (lt_count_iff (fun e => upTo f (e + 1) ≤ t * 512)
    (fun i j hij hj => (upTo_mono f (Nat.succ_le_succ hij)).trans hj) 32 31 (by omega)).2 (by
      change 31 < tileExpert f t; omega)
  have hk : upTo f 32 ≤ t * 512 := hk
  omega

end Cert.Groups
-- ==== Proof.Tables.lean ====
/- The two tables the host prepares from the experts' counts, read on the naturals: the tiles in use are the groups' rows
   over 512, and a tile's expert is how many groups end at or before the tile's first row. -/
module

public import proofs.«01_k».proof.Proof.Kit
public import proofs.«01_k».proof.Proof.Groups
public import Idealize.ShloMosaic.Lib.Routing.OpsSearch
public import Idealize.ShloMosaic.Lib.Routing.Words
public import Idealize.ShloMosaic.Lib.Tactic

@[expose] public section

set_option maxRecDepth 16384

noncomputable section

namespace Cert.KernelIdeal.Expert

open Cert.KernelIdeal.Gen
open Idealize.ShloMosaic Idealize.ShloMosaic.TcCoe Idealize.ShloMosaic.Tactic
open Idealize.ShloMosaic.WordCmp Idealize.ShloMosaic.Routing Idealize.ShloMosaic.ValueIdx
open Cert.Groups (size upTo total Fits tileExpert)

variable {F : FTy → Type} [FloatOps F]
variable (m : (ℓ : Loc nD τ sig) → Buf (Elt F) ℓ)

/-- The counts as integers: the first 32 entries of the row. -/
def cnt (x : FVec F S1x128 .f32) : IVec S32 32 :=
  fptosi 32 (shapeCast S32 (extractStridedSlice S1x32 ![0, 0] x slices_S1x128_S1x32_0_0) shapeCasts_S1x32_S32)

/-- The counts as naturals, zero past the 32 experts. -/
def nats (x : IVec S32 32) (i : ℕ) : ℕ := if h : i < 32 then (x (ix1 (⟨i, h⟩ : Fin 32))).toNat else 0

/-- The groups' sizes as the host computes them. -/
def sizes (x : IVec S32 32) : IVec S32 32 :=
  muli (pyDiv bcast_S_S32 (subi (addi x (broadcastInDim S32 ![] bcast_S_S32 (constantI S_ 32 512#32))) (broadcastInDim S32 ![] bcast_S_S32 (constantI S_ 32 1#32)))
    (constantI S_ 32 512#32)) (broadcastInDim S32 ![] bcast_S_S32 (constantI S_ 32 512#32))

/-- The groups' ends: the running sums of their sizes. -/
def ends (x : IVec S32 32) : IVec S32 32 :=
  Host.reduceWindow IntOp.addi ![32] ![1] ![31] ![0] x (broadcastInDim S_ ![] bcast_S_S_ (constantI S_ 32 0#32)) reduceWindows_S32_S32_w32s1p31_0 h_S_

/-- The number of tiles in use: the last end over 512. -/
def tiles (x : IVec S32 32) : IVec S1 32 :=
  shapeCast S1 (pyDiv0 (shapeCast S_ (extractStridedSlice S1 ![31] x slices_S32_S1_31) shapeCasts_S1_S_) (constantI S_ 32 512#32)) shapeCasts_S_S1

/-- The tiles' experts: how many ends lie at or before the tile's first row, 31 at most. -/
def experts (x : IVec S32 32) : IVec S97 32 :=
  minsi (Host.reduce IntOp.addi (extui 32 (cmpi .sle (broadcastInDim S97x32 ![0, 1] bcast_S1x32_S97x32_0_1 (broadcastInDim S1x32 ![1] bcast_S32_S1x32_1 x))
      (broadcastInDim S97x32 ![0, 1] bcast_S97x1_S97x32_0_1 (broadcastInDim S97x1 ![0] bcast_S97_S97x1_0
        (muli (iotaInDim S97 32 0) (broadcastInDim S97 ![] bcast_S_S97 (constantI S_ 32 512#32)))))) natLt_1_32)
    (constantI S_ 32 0#32) reducesTo_S97x32_S97_d1 h_S_) (broadcastInDim S97 ![] bcast_S_S97 (constantI S_ 32 31#32))

/-! ## The tables the region finds -/

set_option maxHeartbeats 4000000 in
/-- The number of tiles in use, as the region finds it, is that of the counts launched. -/
theorem V_main_v14 (c : Dev nD) : V m c main_v14 = tiles (ends (sizes (cnt (m ((c.tc : Thread nD τ).loc main_arg1))))) := by
  rw [V_eq]
  simp only [stretches, hostOps0, hostOps0_1, hostOps0_2, hostOps0_3, hostOps0_4, hostOps0_5, hostOps0_6, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The tiles' experts, as the region finds them, are those of the counts launched. -/
theorem V_main_v26 (c : Dev nD) : V m c main_v26 = experts (ends (sizes (cnt (m ((c.tc : Thread nD τ).loc main_arg1))))) := by
  rw [V_eq]
  simp only [stretches, hostOps0, hostOps0_1, hostOps0_2, hostOps0_3, hostOps0_4, hostOps0_5, hostOps0_6, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The rows, as the region finds them, are the rows launched, laid out in rows of 128. -/
theorem V_main_v27_eq (c : Dev nD) : V m c main_v27 = shapeCast S397312x128 (m ((c.tc : Thread nD τ).loc main_arg0)) shapeCasts_S49664x1024_S397312x128 := by
  rw [V_eq]
  simp only [stretches, hostOps0, hostOps0_1, hostOps0_2, hostOps0_3, hostOps0_4, hostOps0_5, hostOps0_6, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl

/-! ## Read on the naturals -/

/-- A count is the word of its natural. -/
theorem nats_word (x : IVec S32 32) (i : Fin 32) : x (ix1 i) = BitVec.ofNat 32 (nats x i.val) := by
  unfold nats
  rw [dif_pos i.isLt]
  exact BitVec.eq_of_toNat_eq (by rw [BitVec.toNat_ofNat]; exact (Nat.mod_eq_of_lt (BitVec.isLt _)).symm)

/-- A number of rows, rounded down to a multiple of 512 after 511 were added, is the size of the group. -/
theorem size_word (hb : shape0.BroadcastsInDim (shape1 32) (![] : Fin 0 → Fin 1)) (f : ℕ → ℕ) (y : IVec (shape1 32) 32) (i : Fin 32)
    (hf : f i.val ≤ 33792) (hy : y (ix1 i) = BitVec.ofNat 32 (f i.val + 511)) :
    muli (pyDiv hb y (constantI shape0 32 512#32)) (broadcastInDim (shape1 32) ![] hb (constantI shape0 32 512#32)) (ix1 i) = BitVec.ofNat 32 (size f i.val) := by
  rw [muli_ap, pyDiv_ap hb y (constantI shape0 32 512#32) (ix1 i) (b := 512) hy rfl (by omega) (by omega) (by omega), bc0]
  exact (BitVec.ofNat_mul _ _).symm

/-- The host's sizes are the groups' sizes. -/
theorem sizes_word (x : IVec S32 32) (h : Fits (nats x)) (i : Fin 32) : sizes x (ix1 i) = BitVec.ofNat 32 (size (nats x) i.val) := by
  refine size_word bcast_S_S32 (nats x) _ i (h.each _) ?_
  rw [subi_ap, addi_ap, bc0, bc0, nats_word x i]
  show BitVec.ofNat 32 (nats x i.val) + BitVec.ofNat 32 512 - BitVec.ofNat 32 1 = _
  rw [← BitVec.ofNat_add, ofNat32_sub (by omega)]
  rfl

/-- The ends are the groups' ends. -/
theorem ends_word (x : IVec S32 32) (f : ℕ → ℕ) (hx : ∀ i : Fin 32, x (ix1 i) = BitVec.ofNat 32 (size f i.val)) (j : Fin 32) :
    ends x (ix1 j) = BitVec.ofNat 32 (upTo f (j.val + 1)) :=
  cumsum1 (N := 32) (Nm1 := 31) rfl x (size f) hx _ (bc0 _ _ _) _ _ j

/-- The number of tiles in use is the last end over 512. -/
theorem tiles_word (x : IVec S32 32) (f : ℕ → ℕ) (hx : x (ix1 (31 : Fin 32)) = BitVec.ofNat 32 (upTo f 32)) (h : Fits f) :
    tiles x (ix1 0) = BitVec.ofNat 32 (upTo f 32 / 512) := by
  have hb := Cert.Groups.tiles_bounds h
  unfold tiles
  refine (shapeCast_apply _ _ (ix1 (0 : Fin 1)) ValueIdx.ix0 rfl).trans ?_
  refine pyDiv0_ap _ _ (b := 512) ?_ rfl (by omega) (by omega) (by omega)
  refine (shapeCast_apply _ _ ValueIdx.ix0 (ix1 (0 : Fin 1)) rfl).trans ?_
  exact (slice1 31 x slices_S32_S1_31 (0 : Fin 1) (by decide)).trans hx

/-- A tile's expert is the number of groups ended at its first row, 31 at most. -/
theorem experts_word (x : IVec S32 32) (f : ℕ → ℕ) (hx : ∀ i : Fin 32, x (ix1 i) = BitVec.ofNat 32 (upTo f (i.val + 1))) (h : Fits f) (t : Fin 97) :
    experts x (ix1 t) = BitVec.ofNat 32 (min (tileExpert f t.val) 31) := by
  have hb := Cert.Groups.tiles_bounds h
  have hc : Host.reduce IntOp.addi (extui 32 (cmpi .sle (broadcastInDim S97x32 ![0, 1] bcast_S1x32_S97x32_0_1 (broadcastInDim S1x32 ![1] bcast_S32_S1x32_1 x))
      (broadcastInDim S97x32 ![0, 1] bcast_S97x1_S97x32_0_1 (broadcastInDim S97x1 ![0] bcast_S97_S97x1_0
        (muli (iotaInDim S97 32 0) (broadcastInDim S97 ![] bcast_S_S97 (constantI S_ 32 512#32)))))) natLt_1_32)
      (constantI S_ 32 0#32) reducesTo_S97x32_S97_d1 h_S_ (ix1 t) = BitVec.ofNat 32 (tileExpert f t.val) := by
    refine reduce_count (n := 97) (m := 32) (by decide) _ _ _ _ t (fun e => upTo f (e + 1) ≤ t.val * 512) fun q => ?_
    rw [cmpi_at, bcCols, bcRows, muli_ap, iota1_ap, bc0, hx]
    show IntOp.cmpi .sle _ (BitVec.ofNat 32 t.val * BitVec.ofNat 32 512) = 1#1 ↔ _
    have hu := Cert.Groups.upTo_le f (e := q.val + 1) (by omega)
    rw [← BitVec.ofNat_mul]
    show BitVec.ofBool ((BitVec.ofNat 32 (upTo f (q.val + 1))).sle (BitVec.ofNat 32 (t.val * 512))) = 1#1 ↔ _
    rw [sle_ofNat32 (by omega) (by omega)]
    by_cases hh : upTo f (q.val + 1) ≤ t.val * 512 <;> simp [hh]
  have hle : tileExpert f t.val ≤ 32 := Nat.count_le _
  show IntOp.minsi (Host.reduce IntOp.addi _ _ _ _ (ix1 t)) (BitVec.ofNat 32 31) = _
  rw [hc]
  unfold IntOp.minsi
  rw [slt_ofNat32 (by omega) (by omega)]
  by_cases hh : tileExpert f t.val < 31
  · rw [if_pos (decide_eq_true hh), Nat.min_eq_left (by omega)]
  · rw [if_neg (fun e => hh (of_decide_eq_true e)), Nat.min_eq_right (by omega)]

/-- The counts of a launch memory, on the naturals. -/
def counts (c : Dev nD) : ℕ → ℕ := nats (cnt (m ((c.tc : Thread nD τ).loc main_arg1)))

/-- The first table holds the tiles' experts, -/
theorem tbl_0 (h : Fits (counts m 0)) (t : Fin 97) : tbl m 0 (ix1 t) = BitVec.ofNat 32 (min (tileExpert (counts m 0) t.val) 31) := by
  refine (congrFun (V_main_v26 m 0) (ix1 t)).trans ?_
  exact experts_word _ (counts m 0) (ends_word _ _ (sizes_word _ h)) h t

/-- and the second the number of tiles in use. -/
theorem tbl_1 (h : Fits (counts m 0)) : tbl m 1 (ix1 0) = BitVec.ofNat 32 (upTo (counts m 0) 32 / 512) := by
  refine (congrFun (V_main_v14 m 0) (ix1 0)).trans ?_
  exact tiles_word _ (counts m 0) (ends_word _ _ (sizes_word _ h) 31) h

end Cert.KernelIdeal.Expert

end
-- ==== Proof.Frames.lean ====
/- From the precondition to the run's side condition, and the frames of both readings of the kernel: the tables the host
   prepares from the counts name an expert at every tile and at least one tile is in use, so every block lies inside its
   array. -/
module

public import proofs.«01_k».proof.Proof.Kit
public import proofs.«01_k».proof.Proof.Run
public import proofs.«01_k».proof.Proof.Tables
public import proofs.«01_k».proof.Proof.Gen.Pre_counts_of_choices
public import proofs.«01_k».proof.Defs
public import Idealize.ShloMosaic.Lib.ReduceAll
public import Idealize.ShloMosaic.Lib.Tactic
public import Idealize.ShloMosaic.Lib.Claim
public import Idealize.ShloMosaic.Lib.WordCmp

@[expose] public section

set_option maxRecDepth 16384

noncomputable section

namespace Cert.KernelIdeal.Expert

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

variable (m : (ℓ : Loc nD τ sig) → Buf (Elt F) ℓ) (ρ : Dev nD → PrngReg)

/-- What the precondition says: no count is negative or more than 33792, and together they are 1 at least. -/
theorem fits_of_pre (x : FVec F S49664x1024 .f32) (k : FVec F S1x128 .f32) (a : FVec F S2x32x1024x1024 .f32) (b : FVec F S2x32x512x1024 .f32)
    (h : Cert.Pre_counts_of_choices.fn (F := F) x k a b = fun _ => 1#1) : Cert.Groups.Fits (nats (cnt k)) := by
  have andi_one (p q : BitVec 1) : IntOp.andi p q = 1#1 ↔ p = 1#1 ∧ q = 1#1 := by revert p q; decide
  have ofBool_one (p : Bool) : BitVec.ofBool p = 1#1 ↔ p = true := by cases p <;> decide
  haveI : Subsingleton Cert.Pre_counts_of_choices.S_.Idx := ⟨fun _ _ => funext fun a => a.elim0⟩
  have e := congrFun h Idealize.ShloMosaic.ValueIdx.ix0
  simp only [Cert.Pre_counts_of_choices.fn, andi, andi_one] at e
  obtain ⟨e1, e2⟩ := e
  have hx (i : Fin 32) : cnt k (ix1 i) = BitVec.ofNat 32 (nats (cnt k) i.val) := nats_word (cnt k) i
  have each : ∀ i, nats (cnt k) i ≤ 33792 := fun i => by
    by_cases hi : i < 32
    · have t : IntOp.cmpi .sge (cnt k (ix1 (⟨i, hi⟩ : Fin 32))) 0#32 = 1#1 ∧ IntOp.cmpi .sle (cnt k (ix1 (⟨i, hi⟩ : Fin 32))) 33792#32 = 1#1 :=
        (andi_one _ _).1 (Host.reduce_andi_all _ _ _ _ _ e1 (ix1 (⟨i, hi⟩ : Fin 32)))
      simp only [IntOp.cmpi, ofBool_one, BitVec.sle, decide_eq_true_eq, BitVec.toInt, BitVec.toNat_ofNat] at t
      have hn : nats (cnt k) i = (cnt k (ix1 (⟨i, hi⟩ : Fin 32))).toNat := dif_pos hi
      omega
    · have hn : nats (cnt k) i = 0 := dif_neg hi
      omega
  have hs := Routing.reduce_sum (N := 32) (cnt k) (nats (cnt k)) hx Cert.Pre_counts_of_choices.Gen.reducesTo_S32_S_d0 Cert.Pre_counts_of_choices.Gen.h_S_
  have hle := Cert.Groups.total_le (nats (cnt k)) 33792 each 32
  change _ = BitVec.ofNat 32 (Cert.Groups.total (nats (cnt k)) 32) at hs
  have e2 : IntOp.cmpi .sge (Host.reduce IntOp.addi (cnt k) _ _ _ _) 1#32 = 1#1 := e2
  erw [hs] at e2
  simp only [IntOp.cmpi, ofBool_one, BitVec.sle, decide_eq_true_eq, BitVec.toInt, BitVec.toNat_ofNat] at e2
  exact ⟨each, by omega⟩

/-- The tile a point reads its rows from is one of the 97. -/
theorem min_lt (k : Nat) (n : BitVec 32) (hi : k < 97) (h1 : 1 ≤ n.toNat) (hn : n.toNat ≤ 2143) :
    (Scalar.minsi (BitVec.ofNat 32 k) (Scalar.subi n 1#32)).toNat < 97 := by
  have hs : (n - 1#32).toNat = n.toNat - 1 := by
    rw [BitVec.toNat_sub]; simp only [BitVec.toNat_ofNat]; omega
  show (if (BitVec.ofNat 32 k).slt (n - 1#32) = true then BitVec.ofNat 32 k else n - 1#32).toNat < 97
  by_cases hh : (BitVec.ofNat 32 k).slt (n - 1#32) = true
  · rw [if_pos hh, BitVec.toNat_ofNat]; omega
  · rw [if_neg hh]
    simp only [BitVec.slt, decide_eq_true_eq, BitVec.toInt, BitVec.toNat_ofNat, hs] at hh
    rw [hs]; omega

/-- Tables in range put every window's block inside its array. -/
theorem ok_of_words (pf : pre0.Contents (Elt F)) (h0 : ∀ w, BitVec.toNat (w := 32) (pf 0 w) < 32)
    (h1 : 1 ≤ BitVec.toNat (w := 32) (pf 1 (ix1 0))) (h2 : BitVec.toNat (w := 32) (pf 1 (ix1 0)) ≤ 2143) : ok0 pf := by
  refine ⟨fun i => ⟨fun a => ?_, .inl rfl⟩, fun i => ⟨fun a => ?_, .inl rfl⟩, fun i => ⟨fun a => ?_, .inl rfl⟩⟩
  · have hm := map_rows pf i
    have hlt := min_lt (i 0).val (pf 1 (ix1 0)) (i 0).isLt h1 h2
    match a with
    | ⟨0, _⟩ =>
      show (cc0_transform_0 inb_S1_S1_0 numel1_S1 pf i 0 + 1) * 4096 ≤ 397312
      rw [hm]
      show ((Scalar.minsi (BitVec.ofNat 32 (i 0).val) (Scalar.subi (pf 1 (ix1 0)) 1#32)).toNat + 1) * 4096 ≤ 397312
      omega
    | ⟨1, _⟩ => show (cc0_transform_0 inb_S1_S1_0 numel1_S1 pf i 1 + 1) * 128 ≤ 128; rw [hm]; simp
  · have hm := map_gate_up pf i
    have hlt := h0 (cur i)
    match a with
    | ⟨0, _⟩ => show (cc0_transform_1 k0_off1_inb numel1_S1 pf i 0 + 1) * 1 ≤ 2; rw [hm]; simp
    | ⟨1, _⟩ =>
      show (cc0_transform_1 k0_off1_inb numel1_S1 pf i 1 + 1) * 1 ≤ 32; rw [hm]
      show (BitVec.toNat (w := 32) (pf 0 (cur i)) + 1) * 1 ≤ 32; omega
    | ⟨2, _⟩ => show (cc0_transform_1 k0_off1_inb numel1_S1 pf i 2 + 1) * 1024 ≤ 1024; rw [hm]; simp
    | ⟨3, _⟩ => show (cc0_transform_1 k0_off1_inb numel1_S1 pf i 3 + 1) * 1024 ≤ 1024; rw [hm]; simp
  · have hm := map_down pf i
    have hlt := h0 (cur i)
    match a with
    | ⟨0, _⟩ => show (cc0_transform_2 k0_off1_inb numel1_S1 pf i 0 + 1) * 1 ≤ 2; rw [hm]; simp
    | ⟨1, _⟩ =>
      show (cc0_transform_2 k0_off1_inb numel1_S1 pf i 1 + 1) * 1 ≤ 32; rw [hm]
      show (BitVec.toNat (w := 32) (pf 0 (cur i)) + 1) * 1 ≤ 32; omega
    | ⟨2, _⟩ => show (cc0_transform_2 k0_off1_inb numel1_S1 pf i 2 + 1) * 512 ≤ 512; rw [hm]; simp
    | ⟨3, _⟩ => show (cc0_transform_2 k0_off1_inb numel1_S1 pf i 3 + 1) * 1024 ≤ 1024; rw [hm]; simp

/-- A launch memory whose arguments meet the precondition. -/
def Meets : Prop := ∀ c : Dev nD, (Cert.Pre_counts_of_choices.fn (F := F) (m ((c.tc : Thread nD τ).loc main_arg0)) (m ((c.tc : Thread nD τ).loc main_arg1))
  (m ((c.tc : Thread nD τ).loc main_arg2)) (m ((c.tc : Thread nD τ).loc main_arg3))) = fun _ => 1#1

/-- Its counts fit. -/
theorem fits_of_meets (h : Meets m) : Cert.Groups.Fits (counts m 0) := fits_of_pre _ _ _ _ (h 0)

/-- Its second table holds the number of tiles in use, -/
theorem tiles_toNat (h : Meets m) : BitVec.toNat (w := 32) (tbl m 1 (ix1 0)) = Cert.Groups.upTo (counts m 0) 32 / 512 := by
  have hb := Cert.Groups.tiles_bounds (fits_of_meets m h)
  refine (congrArg (BitVec.toNat (w := 32)) (tbl_1 m (fits_of_meets m h))).trans ?_
  rw [BitVec.toNat_ofNat]
  omega

/-- and its first the tiles' experts. -/
theorem expert_toNat (h : Meets m) (t : Fin 97) :
    BitVec.toNat (w := 32) (tbl m 0 (ix1 t)) = min (Cert.Groups.tileExpert (counts m 0) t.val) 31 := by
  refine (congrArg (BitVec.toNat (w := 32)) (tbl_0 m (fits_of_meets m h) t)).trans ?_
  rw [BitVec.toNat_ofNat]
  omega

/-- So its tables are in range: every tile's expert is one of the 32, and the number of tiles in use is one at least and no more than 2143. -/
theorem tbl_words (h : Meets m) : (∀ w, BitVec.toNat (w := 32) (tbl m 0 w) < 32)
    ∧ 1 ≤ BitVec.toNat (w := 32) (tbl m 1 (ix1 0)) ∧ BitVec.toNat (w := 32) (tbl m 1 (ix1 0)) ≤ 2143 := by
  have hb := Cert.Groups.tiles_bounds (fits_of_meets m h)
  refine ⟨fun w => ?_, ?_⟩
  · have each (v : S97.Idx) : BitVec.toNat (w := 32) (tbl m 0 v) < 32 := by
      have hv : v = ix1 (n0 := 97) (v 0) := funext fun a => by
        match a with
        | ⟨0, _⟩ => rfl
      rw [hv]
      refine lt_of_eq_of_lt (expert_toNat m h (v 0)) ?_
      omega
    exact each w
  · rw [tiles_toNat m h]; exact hb

/-- Such a memory admits the run. -/
theorem ok_of_meets (h : Meets m) : Ok m := ok_of_words _ (tbl_words m h).1 (tbl_words m h).2.1 (tbl_words m h).2.2

/-- The run leaves every argument as launched. -/
theorem args_kept (hO : Ok m) (r : PUnit × MemSt nD τ sig (Elt F))
    (h : Pipeline.FramePost (Pipeline.pin pcfgs fun _ => adm m hO) (dats m hO) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (by decide : main_arg0 ∈ Pipeline.restRefs sig spec0)).trans (V_main_arg0 m c),
   ((h c).2 main_arg1 (by decide : main_arg1 ∈ Pipeline.restRefs sig spec0)).trans (V_main_arg1 m c),
   (((h c).1 1).trans ((dats m hO 0 c).arrAt_in 1 rfl _)).trans (V_main_arg2 m c),
   (((h c).1 2).trans ((dats m hO 0 c).arrAt_in 2 rfl _)).trans (V_main_arg3 m c)⟩

/-- The frame, over any float values: the run terminates, the arguments end as launched, every semaphore at zero. -/
theorem frame (h : Meets m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨args_kept m (ok_of_meets m h) r hr.1, hr.2⟩) (run_main m ρ (ok_of_meets m h))

/-- The frame of the idealized kernel. -/
theorem frame_ideal : Cert.quiescent_KernelIdeal := fun m ρ h => frame (F := Ideal) m ρ h
end Cert.KernelIdeal.Expert

end
-- ==== Proof.Same.lean ====
/- The two readings of the kernel are one program: the parts, the body table and the host's text agree. -/
module

public import proofs.«01_k».proof.Proof.Frames
public import proofs.«01_k».proof.Proof.Gen.Kernel
public import proofs.«01_k».proof.Proof.Gen.Kernel.Launch

@[expose] public section

set_option maxRecDepth 16384

noncomputable section

namespace Cert.Same

open Idealize.ShloMosaic Idealize.SL.Sem
variable {F : FTy → Type} [FloatOps F]

/-- The body table of the printed kernel is that of its ideal reading. -/
theorem defs₀_eq : Cert.Kernel.defs₀ (F := F) = Cert.KernelIdeal.defs₀ (F := F) := by
  unfold Cert.Kernel.defs₀ Cert.KernelIdeal.defs₀
  congr 1
  funext l
  match l with
  | 0 => rfl

/-- Nor do the pipelines differ. -/
theorem pcfgs_eq : Cert.Kernel.pcfgs (F := F) = Cert.KernelIdeal.pcfgs (F := F) := rfl

/-- The whole body table of the printed kernel is that of its ideal reading. -/
theorem defs_eq : Cert.Kernel.defs (F := F) = Cert.KernelIdeal.defs (F := F) := by
  unfold Cert.Kernel.defs Cert.KernelIdeal.defs
  rw [defs₀_eq]
  rfl

/-- Stretch 0 of the host's operations is one list in both. -/
theorem ops0_eq : Cert.Kernel.Gen.hostOps0 (F := F) = Cert.KernelIdeal.Gen.hostOps0 (F := F) := rfl
/-- Stretch 1 of the host's operations is one list in both. -/
theorem ops1_eq : Cert.Kernel.Gen.hostOps0_1 (F := F) = Cert.KernelIdeal.Gen.hostOps0_1 (F := F) := rfl
/-- Stretch 2 of the host's operations is one list in both. -/
theorem ops2_eq : Cert.Kernel.Gen.hostOps0_2 (F := F) = Cert.KernelIdeal.Gen.hostOps0_2 (F := F) := rfl
/-- Stretch 3 of the host's operations is one list in both. -/
theorem ops3_eq : Cert.Kernel.Gen.hostOps0_3 (F := F) = Cert.KernelIdeal.Gen.hostOps0_3 (F := F) := rfl
/-- Stretch 4 of the host's operations is one list in both. -/
theorem ops4_eq : Cert.Kernel.Gen.hostOps0_4 (F := F) = Cert.KernelIdeal.Gen.hostOps0_4 (F := F) := rfl
/-- Stretch 5 of the host's operations is one list in both. -/
theorem ops5_eq : Cert.Kernel.Gen.hostOps0_5 (F := F) = Cert.KernelIdeal.Gen.hostOps0_5 (F := F) := rfl
/-- Stretch 6 of the host's operations is one list in both. -/
theorem ops6_eq : Cert.Kernel.Gen.hostOps0_6 (F := F) = Cert.KernelIdeal.Gen.hostOps0_6 (F := F) := rfl

set_option maxHeartbeats 8000000 in
/-- Seven stretches and the region are one program in both. -/
theorem chain_eq (o0 o1 o2 o3 o4 o5 o6 : List (HloOp Cert.KernelIdeal.τ Cert.KernelIdeal.sig (Elt F))) :
    (Pipeline.chain [ StableHlo.seq o0, StableHlo.seq o1, StableHlo.seq o2, StableHlo.seq o3, StableHlo.seq o4, StableHlo.seq o5, StableHlo.seq o6, Prog.lift (.customCall (Pipeline.entry 0) ()) ] : Prog (TpuEff Cert.Kernel.nD Cert.Kernel.τ Cert.Kernel.sig (Elt F) (Pipeline.Sig Cert.Kernel.Λ₀ (Fin 1) fun p => (Cert.Kernel.pcfgs (F := F) p).Adm) .tc) PUnit)
      = (Pipeline.chain [ StableHlo.seq o0, StableHlo.seq o1, StableHlo.seq o2, StableHlo.seq o3, StableHlo.seq o4, StableHlo.seq o5, StableHlo.seq o6, Prog.lift (.customCall (Pipeline.entry 0) ()) ] : Prog (TpuEff Cert.KernelIdeal.nD Cert.KernelIdeal.τ Cert.KernelIdeal.sig (Elt F) (Pipeline.Sig Cert.KernelIdeal.Λ₀ (Fin 1) fun p => (Cert.KernelIdeal.pcfgs (F := F) p).Adm) .tc) PUnit) := rfl

set_option maxHeartbeats 8000000 in
/-- The host's text of the printed kernel is that of its ideal reading. -/
theorem main_eq : Cert.Kernel.main (F := F) = Cert.KernelIdeal.main (F := F) := by
  funext c
  refine (Cert.Kernel.Gen.main_chain c).trans ?_
  rw [ops0_eq, ops1_eq, ops2_eq, ops3_eq, ops4_eq, ops5_eq, ops6_eq]
  exact (chain_eq Cert.KernelIdeal.Gen.hostOps0 Cert.KernelIdeal.Gen.hostOps0_1 Cert.KernelIdeal.Gen.hostOps0_2 Cert.KernelIdeal.Gen.hostOps0_3
    Cert.KernelIdeal.Gen.hostOps0_4 Cert.KernelIdeal.Gen.hostOps0_5 Cert.KernelIdeal.Gen.hostOps0_6).trans (Cert.KernelIdeal.Gen.main_chain c).symm

/-- The kernel's frame at the bits: the two readings are one text, so the run over any float values serves both. -/
theorem frame_kernel : Cert.quiescent_Kernel := fun m ρ h => by
  rw [defs_eq, main_eq]
  exact Cert.KernelIdeal.Expert.frame (F := Bits) m ρ h
end Cert.Same

end
-- ==== Proof.Value.lean ====
/- What the launched call leaves in its result array: every tile's block, laid at the tile's rows. -/
module

public import proofs.«01_k».proof.Proof.Frames
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.KernelIdeal.Expert

open Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]
variable (m : (ℓ : Loc nD τ sig) → Buf (Elt F) ℓ)

/-- The result's block of a point is the point's tile. -/
theorem map_result (t : Fin grid0.N) : cc0_transform_3 (grid0.coords t) = ![t.val, 0] := by
  unfold cc0_transform_3
  show ![(BitVec.ofNat 32 (grid0.coords t 0).val).toNat, (0#32).toNat] = _
  rw [coord_val, BitVec.toNat_ofNat]
  have : t.val < 97 := t.isLt
  rw [Nat.mod_eq_of_lt (by omega)]; rfl

/-- Every point writes its block back: no two points have the same. -/
theorem flush_result (hO : Ok m) (t : Fin (cfgM m hO).N) : ((cfgM m hO).win 3).flush t = true := by
  rw [Window.flush_eq_flushOf]
  show Window.flushOf grid0 true cc0_transform_3 t = true
  unfold Window.flushOf
  by_cases h : t.val + 1 = grid0.N
  · simp [h]
  · have h' : t.val + 1 < grid0.N := lt_of_le_of_ne t.isLt h
    have : cc0_transform_3 (grid0.coords ⟨t.val + 1, h'⟩) ≠ cc0_transform_3 (grid0.coords t) := by
      rw [map_result, map_result]
      intro e
      have := congrFun e 0
      simp at this
    simp only [Bool.true_and, Bool.or_eq_true, decide_eq_true_eq]
    exact .inr ⟨h', this⟩

/-- The point whose block holds a row of the result. -/
def tileOf (hO : Ok m) (r : Fin 397312) : Fin (cfgM m hO).N := ⟨r.val / 4096, by show _ < 97; omega⟩

/-- The result array: at a row, the row's tile's block. -/
def outArr (hO : Ok m) (c : Dev nD) : Vec F S397312x128 .f32 := fun i =>
  outAt m hO c (tileOf m hO (i 0)) (ix2 (n0 := 4096) (n1 := 128) ⟨(i 0).val % 4096, Nat.mod_lt _ (by decide)⟩ (i 1))

/-- Where a block's entry lies in the result. -/
def place (t : Fin grid0.N) (y : S4096x128.Idx) : S397312x128.Idx :=
  ix2 (n0 := 397312) (n1 := 128) ⟨t.val * 4096 + (y 0).val, by
    have h : t.val < 97 := t.isLt
    have h' : (y 0).val < 4096 := (y 0).isLt
    omega⟩ (y 1)

/-- A block's entries lie in the result where `place` says. -/
theorem emb_result (hO : Ok m) (t : Fin (cfgM m hO).N) (y : S4096x128.Idx) :
    (((cfgM m hO).win 3).blk t).view.emb y = place t y := by
  have hm := map_result t
  refine funext fun a => Fin.ext ?_
  match a with
  | ⟨0, _⟩ => show cc0_transform_3 (grid0.coords t) 0 * 4096 + 1 * (y 0).val = t.val * 4096 + (y 0).val; rw [hm]; simp
  | ⟨1, _⟩ => show cc0_transform_3 (grid0.coords t) 1 * 128 + 1 * (y 1).val = (y 1).val; rw [hm]; simp

/-- At a block's entry the result array holds the block's. -/
theorem outArr_place (hO : Ok m) (c : Dev nD) (t : Fin (cfgM m hO).N) (y : S4096x128.Idx) :
    outArr m hO c (place t y) = outAt m hO c t y := by
  have hy : (y 0).val < 4096 := (y 0).isLt
  have ht : tileOf m hO (place t y 0) = t := Fin.ext (by show (t.val * 4096 + (y 0).val) / 4096 = t.val; omega)
  unfold outArr
  rw [ht]
  refine congrArg (outAt m hO c t) (funext fun a => Fin.ext ?_)
  match a with
  | ⟨0, _⟩ => show (t.val * 4096 + (y 0).val) % 4096 = (y 0).val; omega
  | ⟨1, _⟩ => rfl

/-- Every entry of the result lies in some block. -/
theorem place_onto (i : S397312x128.Idx) : ∃ (t : Fin grid0.N) (y : S4096x128.Idx), place t y = i := by
  have hi : (i 0).val < 397312 := (i 0).isLt
  refine ⟨⟨(i 0).val / 4096, by show _ < 97; omega⟩, ix2 (n0 := 4096) (n1 := 128) ⟨(i 0).val % 4096, Nat.mod_lt _ (by decide)⟩ (i 1), funext fun a => Fin.ext ?_⟩
  match a with
  | ⟨0, _⟩ => show (i 0).val / 4096 * 4096 + (i 0).val % 4096 = (i 0).val; omega
  | ⟨1, _⟩ => rfl

/-- The run's result array is that. -/
theorem arr_result (hO : Ok m) (c : Dev nD) : (dats m hO 0 c).arrAt 3 (cfgM m hO).N = outArr m hO c := by
  refine (dats m hO 0 c).arrAt_eq_of_emb 3 (outArr m hO c) (fun t hf y => ?_) (fun i => ?_)
  · show (dats m hO 0 c).after 3 t y = outArr m hO c ((((cfgM m hO).win 3).blk t).view.emb y)
    rw [after0_3]
    exact ((congrArg (outArr m hO c) (emb_result m hO t y)).trans (outArr_place m hO c t y)).symm
  · obtain ⟨t, y, h⟩ := place_onto i
    refine ⟨t, flush_result m hO t, ?_⟩
    have e : (((cfgM m hO).win 3).blk t).view.emb y = i := (emb_result m hO t y).trans h
    rw [← e]
    exact View.emb_mem_set _ _

/-- Rows of 1024 laid out as rows of 128: row `r`, lane `l` is entry `128 · (r mod 8) + l` of row `r / 8`. -/
theorem relaid {α : Type} (x : S49664x1024.Idx → α) (h : S49664x1024.ShapeCasts S397312x128) (r : Fin 397312) (l : Fin 128) :
    shapeCast S397312x128 x h (ix2 r l)
      = x (ix2 (n0 := 49664) (n1 := 1024) ⟨r.val / 8, by omega⟩ ⟨128 * (r.val % 8) + l.val, by omega⟩) :=
  shapeCast_apply x h _ _ (by
    rw [Shape.rowMajor_val_two, Shape.rowMajor_val_two]
    show r.val / 8 * 1024 + (128 * (r.val % 8) + l.val) = r.val * 128 + l.val
    omega)

/-- The reshaped rows the region finds, entry by entry of the rows launched. -/
theorem V_main_v27 (c : Dev nD) (r : Fin 397312) (l : Fin 128) :
    V m c main_v27 (ix2 (n0 := 397312) (n1 := 128) r l)
      = m ((c.tc : Thread nD τ).loc main_arg0) (ix2 (n0 := 49664) (n1 := 1024) ⟨r.val / 8, by omega⟩ ⟨128 * (r.val % 8) + l.val, by omega⟩) := by
  rw [V_main_v27_eq]
  exact relaid _ _ r l

end Cert.KernelIdeal.Expert

end
-- ==== Proof.PureK.lean ====
/- The kernel's expert feed-forward of a tile, entry by entry over the extended reals. -/
module

public import proofs.«01_k».proof.Proof.Body
public import Idealize.ShloMosaic.Lib.Pointwise
public import Idealize.ShloMosaic.Lib.Pipeline.Value

@[expose] public section

set_option maxRecDepth 16384

noncomputable section

namespace Cert.KernelIdeal.Expert

open Cert.KernelIdeal.Gen
open Idealize.ShloMosaic

variable {F : FTy → Type} [FloatOps F]

/-- A tile's 4096 rows of 128 read as 512 rows of 1024. -/
def whole (x : S4096x128.Idx → Elt F .f32) : FVec F S512x1024 .f32 := fun j =>
  x (ix2 (n0 := 4096) (n1 := 128) ⟨(j 1).val / 128 + 8 * (j 0).val, by
    have : (j 0).val < 512 := (j 0).isLt
    have : (j 1).val < 1024 := (j 1).isLt
    omega⟩ ⟨(j 1).val % 128, Nat.mod_lt _ (by decide)⟩)

/-- The eight strided reads side by side are the tile's rows. -/
theorem concat_rows (x : S4096x128.Idx → Elt F .f32) (h) :
    concatenate S512x1024 1 (List.ofFn fun k : Fin 8 => (⟨S512x128, rows x k⟩ : (s : Shape) × (s.Idx → F .f32))) h = whole x := by
  funext j
  have h0 : (j 0).val < 512 := (j 0).isLt
  have h1 : (j 1).val < 1024 := (j 1).isLt
  exact concatenate_ofFn_apply (t := S512x1024) 1 (rows x) h rfl 128 rfl j ⟨(j 1).val / 128, by omega⟩ rfl
    (ix2 (n0 := 512) (n1 := 128) (j 0) ⟨(j 1).val % 128, Nat.mod_lt _ (by decide)⟩) rfl
    (fun b hb => by
      match b with
      | ⟨0, _⟩ => rfl
      | ⟨1, _⟩ => exact absurd rfl hb)

/-- The payload after its rows are put together. -/
def ffn (X : FVec F S512x1024 .f32) (wgu : FVec F S1024x1024 .bf16) (wd : FVec F S512x1024 .bf16) : FVec F S512x1024 .f32 :=
  have h : FVec F S512x1024 .f32 := matmul dot_S512x1024_S1024x1024_S512x1024_1_0_0_1_n_n none (truncf .bf16 X bitsLt_bf16_f32) wgu (constant S512x1024 .f32 0x00000000#32)
  have gt : FVec F S512x512 .f32 := extractStridedSlice S512x512 ![0, 0] h slices_S512x1024_o0_0_S512x512
  have up : FVec F S512x512 .f32 := extractStridedSlice S512x512 ![0, 512] h slices_S512x1024_o0_512_S512x512
  have one : FVec F S512x512 .f32 := broadcast S512x512 (Scalar.ofBits .f32 0x3F800000#32 : F .f32)
  have zero : FVec F S512x512 .f32 := broadcast S512x512 (Scalar.ofBits .f32 0x00000000#32 : F .f32)
  have act : FVec F S512x512 .f32 := mulf (mulf gt (divf one (addf one (exp (subf zero gt))))) up
  matmul dot_S512x512_S512x1024_S512x1024_1_0_0_1_n_n none (truncf .bf16 act bitsLt_bf16_f32) wd (constant S512x1024 .f32 0x00000000#32)

/-- The printed payload is that, of the tile's rows put together. -/
theorem expertRows_eq (x : S4096x128.Idx → Elt F .f32) (wgu : FVec F S1024x1024 .bf16) (wd : FVec F S512x1024 .bf16) :
    expertRows x wgu wd = ffn (whole x) wgu wd := by
  have e : (fun k : Fin 8 => shapeCast S512x128 (rows x k) shapeCasts_S512x128_S512x128) = rows x :=
    funext fun k => shapeCast_self _ _
  have h := concat_rows x concatenates_S512x128_S512x128_S512x128_S512x128_S512x128_S512x128_S512x128_S512x128_S512x1024_d1
  rw [← e] at h
  exact congrArg (fun X => ffn X wgu wd) h

/-- The gated linear unit. -/
def glu (a u : EReal) : EReal := a * Ideal.div 1 (1 + Ideal.exp (-a)) * u

/-- An entry of the expert's answer: the hidden entries are products of the row with the columns of the first weight. -/
theorem ffn_apply (X : FVec Ideal S512x1024 .f32) (wgu : FVec Ideal S1024x1024 .bf16) (wd : FVec Ideal S512x1024 .bf16) (p : Fin 512) (d : Fin 1024) :
    ffn X wgu wd (ix2 p d)
      = ∑ f : Fin 512, glu (∑ k : Fin 1024, X (ix2 p k) * wgu (ix2 k (⟨f.val, by omega⟩ : Fin 1024)))
          (∑ k : Fin 1024, X (ix2 p k) * wgu (ix2 k (⟨512 + f.val, by omega⟩ : Fin 1024))) * wd (ix2 f d) := by
  pointwise [ffn]
  simp only [glu, zero_sub]

/-- The cast of the first weight's block read at an index, -/
theorem pay1_apply (w : Vec Ideal S1x1x1024x1024 .f32) (k f : Fin 1024) : k0_pay1 w (ix2 k f) = w (ix4 (0 : Fin 1) (0 : Fin 1) k f) := by
  pointwise [k0_pay1]
/-- and that of the second's. -/
theorem pay2_apply (w : Vec Ideal S1x1x512x1024 .f32) (k : Fin 512) (f : Fin 1024) : k0_pay2 w (ix2 k f) = w (ix4 (0 : Fin 1) (0 : Fin 1) k f) := by
  pointwise [k0_pay2]
/-- The unused tiles' block is zero. -/
theorem pay10_apply (j : S4096x128.Idx) : (k0_pay10 : FVec Ideal S4096x128 .f32) j = 0 := by
  pointwise [k0_pay10]

end Cert.KernelIdeal.Expert

end
-- ==== Proof.PureR.lean ====
/- The reference's dense sum over the experts, entry by entry over the extended reals. -/
module

public import proofs.«01_k».proof.Proof.PureK
public import proofs.«01_k».proof.Proof.Tables
public import proofs.«01_k».proof.Proof.Gen.ReferenceIdeal
public import Idealize.ShloMosaic.Lib.Pointwise
public import Idealize.ShloMosaic.Lib.StackMember

@[expose] public section

set_option maxRecDepth 16384

noncomputable section

namespace Cert.ReferenceIdeal.Expert

open Cert.ReferenceIdeal Cert.ReferenceIdeal.Gen
open Idealize.ShloMosaic
open Idealize.ShloMosaic.WordCmp Idealize.ShloMosaic.Routing
open Cert.KernelIdeal.Expert (glu nats nats_word)
open Cert.Groups (size upTo Fits)

/-- The groups' sizes as the reference computes them. -/
def sizes (x : IVec S32 32) : IVec S32 32 :=
  muli (pyDiv bcast_S_S32 (addi x (broadcastInDim S32 ![] bcast_S_S32 (constantI S_ 32 511#32))) (constantI S_ 32 512#32))
    (broadcastInDim S32 ![] bcast_S_S32 (constantI S_ 32 512#32))

/-- The groups' ends: the running sums of their sizes. -/
def ends (x : IVec S32 32) : IVec S32 32 :=
  Host.reduceWindow IntOp.addi ![32] ![1] ![31] ![0] x (broadcastInDim S_ ![] bcast_S_S_ (constantI S_ 32 0#32)) reduceWindows_S32_S32_w32s1p31_0 h_S_

/-- Which rows an expert answers, given the groups' sizes and ends: the rows of its group. -/
def pick (sz en : IVec S32 32) : IVec S49664x32 1 :=
  andi (cmpi .sle (broadcastInDim S49664x32 ![0, 1] bcast_S1x32_S49664x32_0_1 (broadcastInDim S1x32 ![1] bcast_S32_S1x32_1 (subi en sz)))
    (broadcastInDim S49664x32 ![0, 1] bcast_S49664x1_S49664x32_0_1 (broadcastInDim S49664x1 ![0] bcast_S49664_S49664x1_0 (iotaInDim S49664 32 0))))
   (cmpi .slt (broadcastInDim S49664x32 ![0, 1] bcast_S49664x1_S49664x32_0_1 (broadcastInDim S49664x1 ![0] bcast_S49664_S49664x1_0 (iotaInDim S49664 32 0)))
    (broadcastInDim S49664x32 ![0, 1] bcast_S1x32_S49664x32_0_1 (broadcastInDim S1x32 ![1] bcast_S32_S1x32_1 en)))

/-- The gate: one where picked, zero elsewhere. -/
def gate (x : IVec S32 32) : FVec Ideal S49664x32 .f32 :=
  select (pick (sizes x) (ends (sizes x))) (broadcastInDim S49664x32 ![] bcast_S_S49664x32 (constant S_ .f32 0x3F800000#32))
    (broadcastInDim S49664x32 ![] bcast_S_S49664x32 (constant S_ .f32 0x00000000#32))

/-- Every expert's hidden entries of every row. -/
def hidden (x : FVec Ideal S49664x1024 .f32) (w : FVec Ideal S2x32x1024x1024 .f32) : FVec Ideal S32x49664x1024 .f32 :=
  transpose S32x49664x1024 [0, 2, 1] (Host.dotGeneral dot_S32x1024x1024_S49664x1024_S32x1024x49664_1_1_02_0_n_n none
    (shapeCast S32x1024x1024 (extractStridedSlice S1x32x1024x1024 ![0, 0, 0, 0] w slices_S2x32x1024x1024_S1x32x1024x1024_0_0_0_0) shapeCasts_S1x32x1024x1024_S32x1024x1024) x)
    transposes_S32x1024x49664_S32x49664x1024_0_2_1

/-- Every expert's answer to every row. -/
def answers (h : FVec Ideal S32x49664x1024 .f32) (w : FVec Ideal S2x32x512x1024 .f32) : FVec Ideal S32x49664x1024 .f32 :=
  Host.dotGeneral dot_S32x49664x512_S32x512x1024_S32x49664x1024_2_1_1_2_0_0 none
    (mulf (mulf (extractStridedSlice S32x49664x512 ![0, 0, 0] h slices_S32x49664x1024_S32x49664x512_0_0_0)
      (Host.divf (broadcastInDim S32x49664x512 ![] bcast_S_S32x49664x512 (constant S_ .f32 0x3F800000#32))
        (addf (broadcastInDim S32x49664x512 ![] bcast_S_S32x49664x512 (constant S_ .f32 0x3F800000#32))
          (Host.exp (Host.negf (extractStridedSlice S32x49664x512 ![0, 0, 0] h slices_S32x49664x1024_S32x49664x512_0_0_0))))))
      (extractStridedSlice S32x49664x512 ![0, 0, 512] h slices_S32x49664x1024_S32x49664x512_0_0_512))
    (shapeCast S32x512x1024 (extractStridedSlice S1x32x512x1024 ![0, 0, 0, 0] w slices_S2x32x512x1024_S1x32x512x1024_0_0_0_0) shapeCasts_S1x32x512x1024_S32x512x1024)

/-- The gated sum over the experts. -/
def total (g : FVec Ideal S49664x32 .f32) (y : FVec Ideal S32x49664x1024 .f32) : FVec Ideal S49664x1024 .f32 :=
  Host.reduceAdd (mulf (broadcastInDim S32x49664x1024 ![0, 1, 2] bcast_S32x49664x1_S32x49664x1024_0_1_2
      (id (broadcastInDim S32x49664x1 ![0, 1] bcast_S32x49664_S32x49664x1_0_1 (transpose S32x49664 [1, 0] g transposes_S49664x32_S32x49664_1_0)))) y)
    (constant S_ .f32 0x00000000#32) reducesTo_S32x49664x1024_S49664x1024_d0 h_S_

/-- A hidden entry is the product of the row with a column of the expert's first weight. -/
theorem hidden_apply (x : FVec Ideal S49664x1024 .f32) (w : FVec Ideal S2x32x1024x1024 .f32) (e : Fin 32) (r : Fin 49664) (f : Fin 1024) :
    hidden x w (ix3 e r f) = ∑ k : Fin 1024, x (ix2 r k) * w (ix4 (0 : Fin 2) e k f) := by
  pointwise! [hidden]

/-- An expert's answer is the product of its gated hidden entries with its second weight. -/
theorem answers_apply (h : FVec Ideal S32x49664x1024 .f32) (w : FVec Ideal S2x32x512x1024 .f32) (e : Fin 32) (r : Fin 49664) (d : Fin 1024) :
    answers h w (ix3 e r d) = ∑ f : Fin 512, glu (h (ix3 e r (⟨f.val, by omega⟩ : Fin 1024))) (h (ix3 e r (⟨512 + f.val, by omega⟩ : Fin 1024)))
      * w (ix4 (0 : Fin 2) e f d) := by
  pointwise [answers]
  simp only [glu]

/-- The gated sum read at an entry. -/
theorem total_apply (g : FVec Ideal S49664x32 .f32) (y : FVec Ideal S32x49664x1024 .f32) (r : Fin 49664) (d : Fin 1024) :
    total g y (ix2 r d) = ∑ e : Fin 32, g (ix2 r e) * y (ix3 e r d) := by
  pointwise [total, id]

open Classical in
/-- The gate is one exactly where a row is picked. -/
theorem gate_apply (x : IVec S32 32) (r : Fin 49664) (e : Fin 32) :
    gate x (ix2 r e) = if pick (sizes x) (ends (sizes x)) (ix2 r e) = 1#1 then 1 else 0 := by
  unfold gate
  generalize pick (sizes x) (ends (sizes x)) = p
  have h (p : IVec S49664x32 1) : select p (broadcastInDim S49664x32 ![] bcast_S_S49664x32 (constant S_ .f32 0x3F800000#32) : FVec Ideal S49664x32 .f32)
      (broadcastInDim S49664x32 ![] bcast_S_S49664x32 (constant S_ .f32 0x00000000#32)) (ix2 r e) = if p (ix2 r e) = 1#1 then 1 else 0 := by
    pointwise
    rfl
  exact h p

/-- The reference's sizes are the groups' sizes. -/
theorem sizes_word (x : IVec S32 32) (h : Fits (nats x)) (i : Fin 32) : sizes x (ix1 i) = BitVec.ofNat 32 (size (nats x) i.val) := by
  refine Cert.KernelIdeal.Expert.size_word bcast_S_S32 (nats x) _ i (h.each _) ?_
  rw [addi_ap, bc0, nats_word x i]
  exact (BitVec.ofNat_add _ _).symm

/-- A row is picked for an expert exactly if it lies in the expert's group. -/
theorem pick_iff (x : IVec S32 32) (h : Fits (nats x)) (r : Fin 49664) (e : Fin 32) :
    pick (sizes x) (ends (sizes x)) (ix2 r e) = 1#1 ↔ upTo (nats x) e.val ≤ r.val ∧ r.val < upTo (nats x) (e.val + 1) := by
  have hb := Cert.Groups.tiles_bounds h
  have he : ends (sizes x) (ix1 e) = BitVec.ofNat 32 (upTo (nats x) (e.val + 1)) :=
    cumsum1 (N := 32) (Nm1 := 31) rfl (sizes x) (size (nats x)) (sizes_word x h) _ (bc0 _ _ _) _ _ e
  have hs := sizes_word x h e
  have hu := Cert.Groups.upTo_succ (nats x) e.val
  have hl := Cert.Groups.upTo_le (nats x) (e := e.val + 1) (by omega)
  have andi_one (p q : BitVec 1) : IntOp.andi p q = 1#1 ↔ p = 1#1 ∧ q = 1#1 := by revert p q; decide
  have ofBool_one (p : Prop) [Decidable p] : BitVec.ofBool (decide p) = 1#1 ↔ p := by by_cases hp : p <;> simp [hp]
  have hcol (v : IVec S32 32) : broadcastInDim S49664x32 ![0, 1] bcast_S1x32_S49664x32_0_1 (broadcastInDim S1x32 ![1] bcast_S32_S1x32_1 v) (ix2 r e) = v (ix1 e) :=
    bcCols bcast_S32_S1x32_1 bcast_S1x32_S49664x32_0_1 v r e
  have hrow (v : IVec S49664 32) : broadcastInDim S49664x32 ![0, 1] bcast_S49664x1_S49664x32_0_1 (broadcastInDim S49664x1 ![0] bcast_S49664_S49664x1_0 v) (ix2 r e) = v (ix1 r) :=
    bcRows bcast_S49664_S49664x1_0 bcast_S49664x1_S49664x32_0_1 v r e
  have hi : iotaInDim S49664 32 0 (ix1 r) = BitVec.ofNat 32 r.val := rfl
  unfold pick
  rw [andi_at, cmpi_at, cmpi_at, hcol, hcol, hrow, subi_ap, hi, he, hs, ofNat32_sub (by omega), andi_one]
  show BitVec.ofBool ((BitVec.ofNat 32 _).sle (BitVec.ofNat 32 _)) = 1#1 ∧ BitVec.ofBool ((BitVec.ofNat 32 _).slt (BitVec.ofNat 32 _)) = 1#1 ↔ _
  rw [sle_ofNat32 (by omega) (by omega), slt_ofNat32 (by omega) (by omega), ofBool_one, ofBool_one]
  omega

end Cert.ReferenceIdeal.Expert

end
-- ==== Proof.Algebra.lean ====
/- The kernel's result array is the reference's gated sum: a row's gate is one for its tile's expert alone, so the sum over the
   experts is that expert's answer where the tile is in use and zero elsewhere, which is what the tile's block holds. -/
module

public import proofs.«01_k».proof.Proof.Value
public import proofs.«01_k».proof.Proof.PureR

@[expose] public section

set_option maxRecDepth 16384

noncomputable section

namespace Cert.KernelIdeal.Expert

open Cert.KernelIdeal.Gen
open Idealize.ShloMosaic Idealize.ShloMosaic.TcCoe
open Cert.ReferenceIdeal.Expert (gate pick hidden answers total)

variable (m : (ℓ : Loc nD τ sig) → Buf (Elt Ideal) ℓ)

/-- One expert's answer to one row. -/
def answer (x : FVec Ideal S49664x1024 .f32) (wgu : FVec Ideal S2x32x1024x1024 .f32) (wd : FVec Ideal S2x32x512x1024 .f32) (e : Fin 32) (r : Fin 49664) (d : Fin 1024) : EReal :=
  ∑ f : Fin 512, glu (∑ k : Fin 1024, x (ix2 r k) * wgu (ix4 (0 : Fin 2) e k (⟨f.val, by omega⟩ : Fin 1024)))
    (∑ k : Fin 1024, x (ix2 r k) * wgu (ix4 (0 : Fin 2) e k (⟨512 + f.val, by omega⟩ : Fin 1024))) * wd (ix4 (0 : Fin 2) e f d)

/-- The reference's entry where the row's tile is in use: the answer of the tile's expert. -/
theorem total_used (x : FVec Ideal S49664x1024 .f32) (n : IVec S32 32) (wgu : FVec Ideal S2x32x1024x1024 .f32) (wd : FVec Ideal S2x32x512x1024 .f32)
    (hn : Cert.Groups.Fits (nats n)) (r : Fin 49664) (d : Fin 1024) (t : ℕ) (hr : r.val / 512 = t) (ht : t < Cert.Groups.upTo (nats n) 32 / 512)
    (e : Fin 32) (he : e.val = Cert.Groups.tileExpert (nats n) t) :
    total (gate n) (answers (hidden x wgu) wd) (ix2 r d) = answer x wgu wd e r d := by
  rw [Cert.ReferenceIdeal.Expert.total_apply]
  have hg (e' : Fin 32) : gate n (ix2 r e') = if e' = e then 1 else 0 := by
    rw [Cert.ReferenceIdeal.Expert.gate_apply]
    refine if_congr ?_ rfl rfl
    rw [Cert.ReferenceIdeal.Expert.pick_iff n hn, Cert.Groups.row_in_group (nats n) t r.val e'.val hr ht e'.isLt, ← he]
    exact ⟨fun h => Fin.ext h, fun h => congrArg Fin.val h⟩
  have ha : answers (hidden x wgu) wd (ix3 e r d) = answer x wgu wd e r d := by
    rw [Cert.ReferenceIdeal.Expert.answers_apply]
    simp only [Cert.ReferenceIdeal.Expert.hidden_apply, answer]
  rw [Finset.sum_eq_single e (fun e' _ hne => by rw [hg, if_neg hne, zero_mul]) (fun h => absurd (Finset.mem_univ _) h), hg, ha, if_pos rfl, one_mul]

/-- The reference's entry past the last group: zero. -/
theorem total_unused (x : FVec Ideal S49664x1024 .f32) (n : IVec S32 32) (wgu : FVec Ideal S2x32x1024x1024 .f32) (wd : FVec Ideal S2x32x512x1024 .f32)
    (hn : Cert.Groups.Fits (nats n)) (r : Fin 49664) (d : Fin 1024) (t : ℕ) (hr : r.val / 512 = t) (ht : ¬ t < Cert.Groups.upTo (nats n) 32 / 512) :
    total (gate n) (answers (hidden x wgu) wd) (ix2 r d) = 0 := by
  rw [Cert.ReferenceIdeal.Expert.total_apply]
  refine Finset.sum_eq_zero fun e _ => ?_
  have hm := Cert.Groups.upTo_mod (nats n) 32
  have hl := Cert.Groups.upTo_le (nats n) (e := e.val + 1) (by omega)
  rw [Cert.ReferenceIdeal.Expert.gate_apply, if_neg, zero_mul]
  rw [Cert.ReferenceIdeal.Expert.pick_iff n hn]
  omega

/-- A used point's rows are the tile's rows of the array launched. -/
theorem whole_apply (hO : Ok m) (c : Dev nD) (t : Fin (cfgM m hO).N) (h : Used (grid0.coords t) (tbl m 1))
    (hnt : BitVec.toNat (w := 32) (tbl m 1 (ix1 0)) ≤ 2143) (p : Fin 512) (k : Fin 1024) (hr : t.val * 512 + p.val < 49664) :
    whole (iblk m hO c 0 t) (ix2 p k) = m ((c.tc : Thread nD τ).loc main_arg0) (ix2 (⟨t.val * 512 + p.val, hr⟩ : Fin 49664) k) := by
  have ht : t.val < 97 := t.isLt
  have hc := coord_val t
  show iblk m hO c 0 t (ix2 (n0 := 4096) (n1 := 128) ⟨k.val / 128 + 8 * p.val, by omega⟩ ⟨k.val % 128, Nat.mod_lt _ (by decide)⟩) = _
  rw [iblk0_apply m hO c t h hnt _ (by rw [hc]; show t.val * 4096 + (k.val / 128 + 8 * p.val) < 397312; omega)]
  refine (V_main_v27 m c _ _).trans ?_
  refine congrArg (m ((c.tc : Thread nD τ).loc main_arg0)) (funext fun a => Fin.ext ?_)
  match a with
  | ⟨0, _⟩ => show ((grid0.coords t 0).val * 4096 + (k.val / 128 + 8 * p.val)) / 8 = t.val * 512 + p.val; rw [hc]; omega
  | ⟨1, _⟩ => show 128 * (((grid0.coords t 0).val * 4096 + (k.val / 128 + 8 * p.val)) % 8) + k.val % 128 = k.val; rw [hc]; omega

/-- A point's weights are its expert's. -/
theorem wguAt_apply (hO : Ok m) (c : Dev nD) (t : Fin (cfgM m hO).N) (k f : Fin 1024) :
    wguAt m hO c t (ix2 k f) = m ((c.tc : Thread nD τ).loc main_arg2) (ix4 (0 : Fin 2) (⟨_, expert_lt m hO (grid0.coords t)⟩ : Fin 32) k f) := by
  refine (pay1_apply (iblk m hO c 1 t) k f).trans ((iblk1_apply m hO c t (ix4 (0 : Fin 1) (0 : Fin 1) k f)).trans ?_)
  exact congrFun (V_main_arg2 m c) _
/-- Its down weights likewise. -/
theorem wdAt_apply (hO : Ok m) (c : Dev nD) (t : Fin (cfgM m hO).N) (k : Fin 512) (f : Fin 1024) :
    wdAt m hO c t (ix2 k f) = m ((c.tc : Thread nD τ).loc main_arg3) (ix4 (0 : Fin 2) (⟨_, expert_lt m hO (grid0.coords t)⟩ : Fin 32) k f) := by
  refine (pay2_apply (iblk m hO c 2 t) k f).trans ((iblk2_apply m hO c t (ix4 (0 : Fin 1) (0 : Fin 1) k f)).trans ?_)
  exact congrFun (V_main_arg3 m c) _

/-- The block of a point in use. -/
theorem outAt_used (hO : Ok m) (c : Dev nD) (t : Fin (cfgM m hO).N) (h : Used (grid0.coords t) (tbl m 1))
    (hnt : BitVec.toNat (w := 32) (tbl m 1 (ix1 0)) ≤ 2143) (q : Fin 4096) (l : Fin 128) (hr : t.val * 512 + q.val / 8 < 49664) :
    outAt m hO c t (ix2 q l) = answer (m ((c.tc : Thread nD τ).loc main_arg0)) (m ((c.tc : Thread nD τ).loc main_arg2)) (m ((c.tc : Thread nD τ).loc main_arg3))
      ⟨_, expert_lt m hO (grid0.coords t)⟩ ⟨t.val * 512 + q.val / 8, hr⟩ ⟨128 * (q.val % 8) + l.val, by omega⟩ := by
  unfold outAt outBlock
  rw [if_pos h]
  refine (congrFun (expertRows_eq (iblk m hO c 0 t) (wguAt m hO c t) (wdAt m hO c t))
    (ix2 (⟨q.val / 8, by omega⟩ : Fin 512) (⟨128 * (q.val % 8) + l.val, by omega⟩ : Fin 1024))).trans ?_
  refine (ffn_apply (whole (iblk m hO c 0 t)) (wguAt m hO c t) (wdAt m hO c t) _ _).trans ?_
  have hw (k : Fin 1024) := whole_apply m hO c t h hnt (⟨q.val / 8, by omega⟩ : Fin 512) k hr
  simp only [hw, wguAt_apply, wdAt_apply, answer]

/-- The block of a point beyond the tiles in use. -/
theorem outAt_unused (hO : Ok m) (c : Dev nD) (t : Fin (cfgM m hO).N) (h : ¬ Used (grid0.coords t) (tbl m 1)) (j : S4096x128.Idx) :
    outAt m hO c t j = 0 := by
  unfold outAt outBlock
  rw [if_neg h]
  exact pay10_apply j

/-- The reference's result over the launched arguments. -/
def refArr (c : Dev nD) : FVec Ideal S49664x1024 .f32 :=
  total (gate (cnt (F := Ideal) (m ((c.tc : Thread nD τ).loc main_arg1))))
    (answers (hidden (m ((c.tc : Thread nD τ).loc main_arg0)) (m ((c.tc : Thread nD τ).loc main_arg2))) (m ((c.tc : Thread nD τ).loc main_arg3)))

/-- A block's entry is the reference's at the entry's row and column. -/
theorem outAt_eq (h : Meets m) (t : Fin grid0.N) (q : Fin 4096) (l : Fin 128) (hr : t.val * 512 + q.val / 8 < 49664) :
    outAt m (ok_of_meets m h) 0 t (ix2 q l)
      = refArr m 0 (ix2 (⟨t.val * 512 + q.val / 8, hr⟩ : Fin 49664) (⟨128 * (q.val % 8) + l.val, by omega⟩ : Fin 1024)) := by
  have hO := ok_of_meets m h
  have hf := fits_of_meets m h
  obtain ⟨h0, h1, h2⟩ := tbl_words m h
  have ht : t.val < 97 := t.isLt
  have hb := Cert.Groups.tiles_bounds hf
  have hcur : cur (grid0.coords t) = ix1 (⟨t.val, ht⟩ : Fin 97) := funext fun a => Fin.ext (by
    match a with
    | ⟨0, _⟩ => exact coord_val t)
  have hused : Used (grid0.coords t) (tbl m 1) ↔ t.val < Cert.Groups.upTo (counts m 0) 32 / 512 := by
    unfold Used
    rw [coord_val]
    refine (iff_of_eq (congrArg (fun n : BitVec 32 => (BitVec.ofNat 32 t.val).slt n = true) (tbl_1 m hf))).trans ?_
    show (BitVec.ofNat 32 t.val).slt (BitVec.ofNat 32 _) = true ↔ _
    rw [Routing.slt_ofNat32 (by omega) (by omega), decide_eq_true_eq]
  unfold refArr
  by_cases hu : Used (grid0.coords t) (tbl m 1)
  · have hlt := Cert.Groups.tileExpert_lt (counts m 0) t.val (hused.1 hu)
    refine (outAt_used m hO 0 t hu h2 q l hr).trans (total_used _ _ _ _ hf _ _ t.val (by show (t.val * 512 + q.val / 8) / 512 = t.val; omega) (hused.1 hu) _ ?_).symm
    show BitVec.toNat (w := 32) (tbl m 0 (cur (grid0.coords t))) = Cert.Groups.tileExpert (counts m 0) t.val
    rw [hcur]
    refine (expert_toNat m h ⟨t.val, ht⟩).trans ?_
    show min (Cert.Groups.tileExpert (counts m 0) t.val) 31 = _
    omega
  · exact (outAt_unused m hO 0 t hu _).trans
      (total_unused _ _ _ _ hf _ _ t.val (by show (t.val * 512 + q.val / 8) / 512 = t.val; omega) (fun hh => hu (hused.2 hh))).symm

/-- The kernel's result array is the reference's. -/
theorem outArr_eq (h : Meets m) (c : Dev nD) :
    outArr m (ok_of_meets m h) c = shapeCast S397312x128 (refArr m c) shapeCasts_S49664x1024_S397312x128 := by
  obtain rfl : c = 0 := Subsingleton.elim _ _
  funext i
  obtain ⟨t, y, rfl⟩ := place_onto i
  rw [outArr_place]
  have ht : t.val < 97 := t.isLt
  have hy : (y 0).val < 4096 := (y 0).isLt
  have hl : (y 1).val < 128 := (y 1).isLt
  have hr : t.val * 512 + (y 0).val / 8 < 49664 := by omega
  have hyy : y = ix2 (n0 := 4096) (n1 := 128) (y 0) (y 1) := funext fun a => by
    match a with
    | ⟨0, _⟩ => rfl
    | ⟨1, _⟩ => rfl
  refine (congrArg (outAt m (ok_of_meets m h) 0 t) hyy).trans ((outAt_eq m h t (y 0) (y 1) hr).trans ?_)
  refine Eq.trans ?_ (relaid (refArr m 0) shapeCasts_S49664x1024_S397312x128 ⟨t.val * 4096 + (y 0).val, by omega⟩ (y 1)).symm
  refine congrArg (refArr m 0) (funext fun a => Fin.ext ?_)
  match a with
  | ⟨0, _⟩ => show t.val * 512 + (y 0).val / 8 = (t.val * 4096 + (y 0).val) / 8; omega
  | ⟨1, _⟩ => show 128 * ((y 0).val % 8) + (y 1).val = 128 * ((t.val * 4096 + (y 0).val) % 8) + (y 1).val; omega

end Cert.KernelIdeal.Expert

end
-- ==== Proof.Conv.lean ====
/- The convolution layer's first product, gated, entry by entry over the extended reals: the kernel's block and the
   reference's array. -/
module

public import proofs.«01_k».proof.Proof.Gen.Kernel2Ideal.Skeleton
public import proofs.«01_k».proof.Proof.Gen.Reference2Ideal
public import Idealize.ShloMosaic.Lib.Pointwise
public import Idealize.ShloMosaic.Lib.Pipeline.Value

@[expose] public section

set_option maxRecDepth 16384

noncomputable section

namespace Cert.Conv

open Idealize.ShloMosaic

/-- A row's normalised entry: the entry over the root of the row's mean square, times the gain. -/
def norm (x : Fin 1024 → EReal) (g : EReal) (k : Fin 1024) : EReal :=
  x k * Ideal.rsqrt (Ideal.div (∑ j : Fin 1024, x j * x j) (Ideal.ofBits .f32 0x44800000#32) + Ideal.ofBits .f32 0x358637BD#32) * g

/-- A product gated by another. -/
def gated (a b : EReal) : EReal := a * Ideal.div 1 (1 + Ideal.exp (-b))

/-- The kernel's block read at an entry. -/
theorem block_apply (x : FVec Ideal Cert.Kernel2Ideal.S512x1024 .f32) (g : FVec Ideal Cert.Kernel2Ideal.S1x1024 .f32)
    (w : FVec Ideal Cert.Kernel2Ideal.S1024x2048 .bf16) (p : Fin 512) (d : Fin 1024) :
    Cert.Kernel2Ideal.Gen.k0_pay1 (F := Ideal) x g w (ix2 p d)
      = gated (∑ k : Fin 1024, norm (fun j => x (ix2 p j)) (g (ix2 (0 : Fin 1) k)) k * w (ix2 k (⟨d.val, by omega⟩ : Fin 2048)))
          (∑ k : Fin 1024, norm (fun j => x (ix2 p j)) (g (ix2 (0 : Fin 1) k)) k * w (ix2 k (⟨1024 + d.val, by omega⟩ : Fin 2048))) := by
  pointwise [Cert.Kernel2Ideal.Gen.k0_pay1]
  simp only [gated, norm, zero_sub]

section reference
open Cert.Reference2Ideal Cert.Reference2Ideal.Gen

/-- The reference's normalised rows. -/
def normed (x : FVec Ideal S16896x1024 .f32) (g : FVec Ideal S2x1024 .f32) : FVec Ideal S16896x1024 .f32 :=
  mulf (mulf x (broadcastInDim S16896x1024 ![0, 1] bcast_S16896x1_S16896x1024_0_1 (Host.rsqrt (addf (Host.divf (broadcastInDim S16896x1 ![0] bcast_S16896_S16896x1_0 (Host.reduceAdd (mulf x x) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 (shapeCast _ (extractStridedSlice S1x1024 ![1, 0] g slices_S2x1024_S1x1024_1_0) shapeCasts_S1x1024_S1024)))

/-- The reference's product of the normalised rows with the weight. -/
def product (x : FVec Ideal S16896x1024 .f32) (g : FVec Ideal S2x1024 .f32) (w : FVec Ideal S1x1024x2048 .f32) : FVec Ideal S16896x2048 .f32 :=
  Host.dotGeneral dot_S16896x1024_S1024x2048_S16896x2048_1_0_0_1_n_n none (normed x g) (shapeCast _ w shapeCasts_S1x1024x2048_S1024x2048)

/-- The reference's gating of the product's left half by its right half. -/
def gating (h : FVec Ideal S16896x2048 .f32) : FVec Ideal S16896x1024 .f32 :=
  mulf (extractStridedSlice S16896x1024 ![0, 0] h slices_S16896x2048_S16896x1024_0_0) (Host.divf (broadcastInDim S16896x1024 ![] bcast_S_S16896x1024 (constant S_ .f32 0x3F800000#32)) (addf (broadcastInDim S16896x1024 ![] bcast_S_S16896x1024 (constant S_ .f32 0x3F800000#32)) (Host.exp (Host.negf (extractStridedSlice S16896x1024 ![0, 1024] h slices_S16896x2048_S16896x1024_0_1024)))))

/-- The reference's first result. -/
def first (x : FVec Ideal S16896x1024 .f32) (g : FVec Ideal S2x1024 .f32) (w : FVec Ideal S1x1024x2048 .f32) : FVec Ideal S16896x1024 .f32 :=
  gating (product x g w)

/-- The reference's second result of the first: the last 30 rows of each long sequence, zeros before them. -/
def lastLong (u : FVec Ideal S16896x1024 .f32) : FVec Ideal S1x2x30x1024 .f32 :=
  broadcastInDim S1x2x30x1024 ![1, 2, 3] bcast_S2x30x1024_S1x2x30x1024_1_2_3 (extractStridedSlice S2x30x1024 ![0, 8192, 0] (concatenate S2x8222x1024 1 [⟨S2x30x1024, (broadcastInDim S2x30x1024 ![] bcast_S_S2x30x1024 (constant S_ .f32 0x00000000#32))⟩, ⟨S2x8192x1024, (shapeCast _ (extractStridedSlice S16384x1024 ![0, 0] u slices_S16896x1024_S16384x1024_0_0) shapeCasts_S16384x1024_S2x8192x1024)⟩] concatenates_S2x30x1024_S2x8192x1024_S2x8222x1024_d1) slices_S2x8222x1024_S2x30x1024_0_8192_0)

/-- The reference's third result of the first: the last 30 rows of each short sequence, the cached rows before them. -/
def lastShort (u : FVec Ideal S16896x1024 .f32) (a : FVec Ideal S1x8x30x1024 .f32) : FVec Ideal S1x8x30x1024 .f32 :=
  broadcastInDim S1x8x30x1024 ![1, 2, 3] bcast_S8x30x1024_S1x8x30x1024_1_2_3 (extractStridedSlice S8x30x1024 ![0, 64, 0] (concatenate S8x94x1024 1 [⟨S8x30x1024, (shapeCast _ a shapeCasts_S1x8x30x1024_S8x30x1024)⟩, ⟨S8x64x1024, (shapeCast _ (extractStridedSlice S512x1024 ![16384, 0] u slices_S16896x1024_S512x1024_16384_0) shapeCasts_S512x1024_S8x64x1024)⟩] concatenates_S8x30x1024_S8x64x1024_S8x94x1024_d1) slices_S8x94x1024_S8x30x1024_0_64_0)

/-- The normalised rows read at an entry. -/
theorem normed_apply (x : FVec Ideal S16896x1024 .f32) (g : FVec Ideal S2x1024 .f32) (r : Fin 16896) (k : Fin 1024) :
    normed x g (ix2 r k) = norm (fun j => x (ix2 r j)) (g (ix2 (1 : Fin 2) k)) k := by
  pointwise [normed]
  simp only [norm]

/-- The product read at an entry. -/
theorem product_apply (x : FVec Ideal S16896x1024 .f32) (g : FVec Ideal S2x1024 .f32) (w : FVec Ideal S1x1024x2048 .f32) (r : Fin 16896) (d : Fin 2048) :
    product x g w (ix2 r d) = ∑ k : Fin 1024, normed x g (ix2 r k) * w (ix3 (0 : Fin 1) k d) := by
  pointwise! [product]

/-- The gating read at an entry. -/
theorem gating_apply (h : FVec Ideal S16896x2048 .f32) (r : Fin 16896) (d : Fin 1024) :
    gating h (ix2 r d) = gated (h (ix2 r (⟨d.val, by omega⟩ : Fin 2048))) (h (ix2 r (⟨1024 + d.val, by omega⟩ : Fin 2048))) := by
  pointwise [gating]
  simp only [gated]

/-- The reference's first result read at an entry. -/
theorem first_apply (x : FVec Ideal S16896x1024 .f32) (g : FVec Ideal S2x1024 .f32) (w : FVec Ideal S1x1024x2048 .f32) (r : Fin 16896) (d : Fin 1024) :
    first x g w (ix2 r d)
      = gated (∑ k : Fin 1024, norm (fun j => x (ix2 r j)) (g (ix2 (1 : Fin 2) k)) k * w (ix3 (0 : Fin 1) k (⟨d.val, by omega⟩ : Fin 2048)))
          (∑ k : Fin 1024, norm (fun j => x (ix2 r j)) (g (ix2 (1 : Fin 2) k)) k * w (ix3 (0 : Fin 1) k (⟨1024 + d.val, by omega⟩ : Fin 2048))) := by
  unfold first
  rw [gating_apply, product_apply, product_apply]
  simp only [normed_apply]

/-- The second result read at an entry: of sequence `b`, the row 30 before its end and on. -/
theorem lastLong_apply (u : FVec Ideal S16896x1024 .f32) (b : Fin 2) (q : Fin 30) (d : Fin 1024) :
    lastLong u (ix4 (0 : Fin 1) b q d) = u (ix2 (⟨8192 * b.val + 8162 + q.val, by omega⟩ : Fin 16896) d) := by
  unfold lastLong
  refine (broadcastInDim_apply _ _ _ _ (ix3 (n0 := 2) (n1 := 30) (n2 := 1024) b q d) (fun a => by fin_cases a <;> rfl)).trans ?_
  refine (extractStridedSlice_apply _ _ _ _ (ix3 (n0 := 2) (n1 := 8222) (n2 := 1024) b ⟨8192 + q.val, by omega⟩ d)
    (fun a => by fin_cases a <;> simp)).trans ?_
  refine (concatenate_pair_apply_right (t := S2x8222x1024) (s₁ := S2x30x1024) (s₂ := S2x8192x1024) 1 _ _ _ _ rfl rfl (ix3 (n0 := 2) (n1 := 8192) (n2 := 1024) b ⟨8162 + q.val, by omega⟩ d)
    (fun a ha => by
      match a with
      | ⟨0, _⟩ => rfl
      | ⟨1, _⟩ => exact absurd rfl ha
      | ⟨2, _⟩ => rfl)
    (by show 8162 + q.val + 30 = 8192 + q.val; omega)).trans ?_
  refine (shapeCast_apply _ _ _ (ix2 (n0 := 16384) (n1 := 1024) ⟨8192 * b.val + 8162 + q.val, by omega⟩ d) (by
    rw [Shape.rowMajor_val_two, Shape.rowMajor_val_three]
    show (8192 * b.val + 8162 + q.val) * 1024 + d.val = (b.val * 8192 + (8162 + q.val)) * 1024 + d.val
    omega)).trans ?_
  exact extractStridedSlice_apply _ _ _ _ _ (fun a => by fin_cases a <;> simp)

end reference

section kernel
open Cert.Kernel2Ideal Cert.Kernel2Ideal.Gen

/-- The kernel's second result of its first: the last 30 rows of each long sequence, stacked. -/
def stacked (u : FVec Ideal S16896x1024 .f32) : FVec Ideal S1x2x30x1024 .f32 :=
  broadcastInDim S1x2x30x1024 ![1, 2, 3] bcast_S2x30x1024_S1x2x30x1024_1_2_3 (concatenate S2x30x1024 0
    [⟨S1x30x1024, broadcastInDim S1x30x1024 ![1, 2] bcast_S30x1024_S1x30x1024_1_2 (extractStridedSlice S30x1024 ![8162, 0] u slices_S16896x1024_S30x1024_8162_0)⟩,
      ⟨S1x30x1024, broadcastInDim S1x30x1024 ![1, 2] bcast_S30x1024_S1x30x1024_1_2 (extractStridedSlice S30x1024 ![16354, 0] u slices_S16896x1024_S30x1024_16354_0)⟩]
    concatenates_S1x30x1024_S1x30x1024_S2x30x1024_d0)

/-- It reads at an entry as the reference's does, -/
theorem stacked_apply (u : FVec Ideal S16896x1024 .f32) (b : Fin 2) (q : Fin 30) (d : Fin 1024) :
    stacked u (ix4 (0 : Fin 1) b q d) = u (ix2 (⟨8192 * b.val + 8162 + q.val, by omega⟩ : Fin 16896) d) := by
  unfold stacked
  refine (broadcastInDim_apply _ _ _ _ (ix3 (n0 := 2) (n1 := 30) (n2 := 1024) b q d) (fun a => by fin_cases a <;> rfl)).trans ?_
  match b with
  | ⟨0, _⟩ =>
    refine (concatenate_pair_apply_left (t := S2x30x1024) (s₁ := S1x30x1024) (s₂ := S1x30x1024) 0 _ _ _ _ rfl (ix3 (n0 := 1) (n1 := 30) (n2 := 1024) 0 q d)
      (fun a => by fin_cases a <;> rfl)).trans ?_
    refine (broadcastInDim_apply _ _ _ _ (ix2 (n0 := 30) (n1 := 1024) q d) (fun a => by fin_cases a <;> rfl)).trans ?_
    exact extractStridedSlice_apply _ _ _ _ _ (fun a => by fin_cases a <;> simp)
  | ⟨1, _⟩ =>
    refine (concatenate_pair_apply_right (t := S2x30x1024) (s₁ := S1x30x1024) (s₂ := S1x30x1024) 0 _ _ _ _ rfl rfl (ix3 (n0 := 1) (n1 := 30) (n2 := 1024) 0 q d)
      (fun a ha => by
        match a with
        | ⟨0, _⟩ => exact absurd rfl ha
        | ⟨1, _⟩ => rfl
        | ⟨2, _⟩ => rfl) rfl).trans ?_
    refine (broadcastInDim_apply _ _ _ _ (ix2 (n0 := 30) (n1 := 1024) q d) (fun a => by fin_cases a <;> rfl)).trans ?_
    exact extractStridedSlice_apply _ _ _ _ _ (fun a => by fin_cases a <;> simp)

/-- so the two are one. -/
theorem stacked_eq (u : FVec Ideal S16896x1024 .f32) : stacked u = lastLong u := by
  funext j
  have h0 : j 0 = (0 : Fin 1) := Subsingleton.elim (α := Fin 1) _ _
  have e : j = ix4 (n0 := 1) (n1 := 2) (n2 := 30) (n3 := 1024) 0 (j 1) (j 2) (j 3) := by
    funext a
    match a with
    | ⟨0, _⟩ => exact h0
    | ⟨1, _⟩ => rfl
    | ⟨2, _⟩ => rfl
    | ⟨3, _⟩ => rfl
  rw [e]
  exact (stacked_apply u _ _ _).trans (lastLong_apply u _ _ _).symm

end kernel

end Cert.Conv

end
-- ==== Proof.ConvIn.lean ====
/- The values of the call of the convolution layer's first product: its result array row block by row block, and the
   arrays of last rows the host cuts from it. -/
module

public import proofs.«01_k».proof.Proof.Conv
public import proofs.«01_k».proof.Proof.Gen.Kernel2Ideal.Frame
public import Idealize.ShloMosaic.Lib.Pipeline.Value
public import Idealize.ShloMosaic.Lib.Pipeline.ValueKit.Basic
public import Idealize.ShloMosaic.Lib.Pipeline.ValueKit.Geometry
public import Idealize.ShloMosaic.Lib.Pointwise
public import Idealize.ShloMosaic.Lib.StableHlo.Run

@[expose] public section

set_option maxRecDepth 16384

noncomputable section

namespace Cert.Kernel2Ideal.ConvIn

open Cert.Kernel2Ideal Cert.Kernel2Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]
variable (m : (ℓ : Loc nD τ sig) → Buf (Elt F) ℓ)

/-! ## What the windows read -/

/-- The grid's only coordinate of a point is the point. -/
theorem coord_val : ∀ t : Fin grid0.N, (grid0.coords t 0).val = t.val := by decide +kernel

/-- A point's block of rows, and of the result, is the point's. -/
theorem map_rows (t : Fin grid0.N) : cc0_transform_0 (grid0.coords t) = ![t.val, 0] := by
  unfold cc0_transform_0
  show ![(BitVec.ofNat 32 (grid0.coords t 0).val).toNat, (0#32).toNat] = _
  rw [coord_val, BitVec.toNat_ofNat]
  have : t.val < 33 := t.isLt
  rw [Nat.mod_eq_of_lt (by omega)]; rfl

/-- The gain as the region finds it: the second layer's. -/
theorem V_gain (c : Dev nD) : V m c main_v3 = shapeCast S1x1024 (shapeCast S1024 (extractStridedSlice S1x1024 ![1, 0] (m ((c.tc : Thread nD τ).loc main_arg1)) slices_S2x1024_S1x1024_1_0) shapeCasts_S1x1024_S1024) shapeCasts_S1024_S1x1024 := by
  unfold V V0
  simp only [hostOps0, List.flatten_cons, List.flatten_nil, List.append_nil, List.cons_append, List.nil_append]
  after_results_simp <;> rfl
/-- The weight as the region finds it: the launched one, rounded. -/
theorem V_weight (c : Dev nD) : V m c main_v4 = truncf .bf16 (shapeCast S1024x2048 (m ((c.tc : Thread nD τ).loc main_arg2)) shapeCasts_S1x1024x2048_S1024x2048 : FVec F S1024x2048 .f32) bitsLt_bf16_f32 := by
  unfold V V0
  simp only [hostOps0, List.flatten_cons, List.flatten_nil, List.append_nil, List.cons_append, List.nil_append]
  after_results_simp <;> rfl

/-- The point's block of rows, entry by entry of the array launched. -/
theorem rows_apply (c : Dev nD) (t : Fin cfg0.N) (p : Fin 512) (k : Fin 1024) :
    iblk m c 0 t (ix2 (n0 := 512) (n1 := 1024) p k) = m ((c.tc : Thread nD τ).loc main_arg0) (ix2 (n0 := 16896) (n1 := 1024) ⟨t.val * 512 + p.val, by
      have h : t.val < 33 := t.isLt
      omega⟩ k) := by
  refine Eq.trans ?_ (congrFun (V_main_arg0 m c) _)
  show V m c main_arg0 (((cfg0.win 0).blk t).view.emb (ix2 (n0 := 512) (n1 := 1024) p k)) = _
  refine congrArg (V m c main_arg0) (funext fun a => Fin.ext ?_)
  have hm := map_rows t
  match a with
  | ⟨0, _⟩ => show cc0_transform_0 (grid0.coords t) 0 * 512 + 1 * p.val = t.val * 512 + p.val; rw [hm]; simp
  | ⟨1, _⟩ => show cc0_transform_0 (grid0.coords t) 1 * 1024 + 1 * k.val = k.val; rw [hm]; simp

/-- Every point reads the whole gain, -/
theorem gain_apply (c : Dev nD) (t : Fin cfg0.N) (j : S1x1024.Idx) : iblk m c 1 t j = V m c main_v3 j := by
  show V m c main_v3 (((cfg0.win 1).blk t).view.emb j) = _
  refine congrArg (V m c main_v3) (funext fun a => Fin.ext ?_)
  match a with
  | ⟨0, _⟩ => show cc0_transform_1 (grid0.coords t) 0 * 1 + 1 * (j 0).val = (j 0).val; unfold cc0_transform_1; simp
  | ⟨1, _⟩ => show cc0_transform_1 (grid0.coords t) 1 * 1024 + 1 * (j 1).val = (j 1).val; unfold cc0_transform_1; simp
/-- and the whole weight. -/
theorem weight_apply (c : Dev nD) (t : Fin cfg0.N) (j : S1024x2048.Idx) : iblk m c 2 t j = V m c main_v4 j := by
  show V m c main_v4 (((cfg0.win 2).blk t).view.emb j) = _
  refine congrArg (V m c main_v4) (funext fun a => Fin.ext ?_)
  match a with
  | ⟨0, _⟩ => show cc0_transform_2 (grid0.coords t) 0 * 1024 + 1 * (j 0).val = (j 0).val; unfold cc0_transform_2; simp
  | ⟨1, _⟩ => show cc0_transform_2 (grid0.coords t) 1 * 2048 + 1 * (j 1).val = (j 1).val; unfold cc0_transform_2; simp

/-- What a point leaves in its buffer is the payload of its blocks. -/
theorem out_eq (x0 : Vec F S512x1024 .f32) (x1 : Vec F S1x1024 .f32) (x2 : Vec F S1024x2048 .bf16) : out0_3 x0 x1 x2 = k0_pay1 x0 x1 x2 := by
  have h (a : Fin 2) : (![0, 0] : Fin 2 → ℕ) a = 0 := by fin_cases a <;> rfl
  unfold out0_3
  refine (View.canon_cons_unit_lit inb_S512x1024_S512x1024_0_0 _ [] h).trans ?_
  rw [show View.ld x0 r0_0 = x0 from View.ld_unit_lit inb_S512x1024_S512x1024_0_0 x0 h,
    show View.ld x1 r0_1 = x1 from View.ld_unit_lit inb_S1x1024_S1x1024_0_0 x1 h,
    show View.ld x2 r0_2 = x2 from View.ld_unit_lit inb_S1024x2048_S1024x2048_0_0 x2 h]

/-! ## The result array -/

/-- The result's block of a point is the point's. -/
theorem map_result (t : Fin grid0.N) : cc0_transform_3 (grid0.coords t) = ![t.val, 0] := map_rows t

/-- Where a block's entry lies in the result. -/
def place (t : Fin grid0.N) (y : S512x1024.Idx) : S16896x1024.Idx :=
  ix2 (n0 := 16896) (n1 := 1024) ⟨t.val * 512 + (y 0).val, by
    have h : t.val < 33 := t.isLt
    have h' : (y 0).val < 512 := (y 0).isLt
    omega⟩ (y 1)

/-- A block's entries lie in the result where `place` says. -/
theorem emb_result (t : Fin cfg0.N) (y : S512x1024.Idx) : ((cfg0.win 3).blk t).view.emb y = place t y := by
  have hm := map_result t
  refine funext fun a => Fin.ext ?_
  match a with
  | ⟨0, _⟩ => show cc0_transform_3 (grid0.coords t) 0 * 512 + 1 * (y 0).val = t.val * 512 + (y 0).val; rw [hm]; simp
  | ⟨1, _⟩ => show cc0_transform_3 (grid0.coords t) 1 * 1024 + 1 * (y 1).val = (y 1).val; rw [hm]; simp

/-- Every entry of the result lies in some block. -/
theorem place_onto (i : S16896x1024.Idx) : ∃ (t : Fin grid0.N) (y : S512x1024.Idx), place t y = i := by
  have hi : (i 0).val < 16896 := (i 0).isLt
  refine ⟨⟨(i 0).val / 512, by show _ < 33; omega⟩, ix2 (n0 := 512) (n1 := 1024) ⟨(i 0).val % 512, Nat.mod_lt _ (by decide)⟩ (i 1), funext fun a => Fin.ext ?_⟩
  match a with
  | ⟨0, _⟩ => show (i 0).val / 512 * 512 + (i 0).val % 512 = (i 0).val; omega
  | ⟨1, _⟩ => rfl

section value
variable (m : (ℓ : Loc nD τ sig) → Buf (Elt Ideal) ℓ)

/-- The reference's first result of the arrays launched. -/
def result (c : Dev nD) : FVec Ideal S16896x1024 .f32 :=
  Cert.Conv.first (m ((c.tc : Thread nD τ).loc main_arg0)) (m ((c.tc : Thread nD τ).loc main_arg1)) (m ((c.tc : Thread nD τ).loc main_arg2))

/-- The gain's entries. -/
theorem gain_entry (c : Dev nD) (t : Fin cfg0.N) (k : Fin 1024) :
    iblk m c 1 t (ix2 (n0 := 1) (n1 := 1024) 0 k) = m ((c.tc : Thread nD τ).loc main_arg1) (ix2 (n0 := 2) (n1 := 1024) 1 k) := by
  refine (gain_apply m c t _).trans ((congrFun (V_gain m c) _).trans ?_)
  have h (g : FVec Ideal S2x1024 .f32) : shapeCast S1x1024 (shapeCast S1024 (extractStridedSlice S1x1024 ![1, 0] g slices_S2x1024_S1x1024_1_0) shapeCasts_S1x1024_S1024) shapeCasts_S1024_S1x1024 (ix2 (n0 := 1) (n1 := 1024) 0 k) = g (ix2 (n0 := 2) (n1 := 1024) 1 k) := by
    pointwise
  exact h _

/-- The weight's entries: rounding keeps an extended real. -/
theorem weight_entry (c : Dev nD) (t : Fin cfg0.N) (k : Fin 1024) (d : Fin 2048) :
    iblk m c 2 t (ix2 (n0 := 1024) (n1 := 2048) k d) = m ((c.tc : Thread nD τ).loc main_arg2) (ix3 (n0 := 1) (n1 := 1024) (n2 := 2048) 0 k d) := by
  refine (weight_apply m c t _).trans ((congrFun (V_weight m c) _).trans ?_)
  have h (w : FVec Ideal S1x1024x2048 .f32) : (truncf .bf16 (shapeCast S1024x2048 w shapeCasts_S1x1024x2048_S1024x2048 : FVec Ideal S1024x2048 .f32) bitsLt_bf16_f32 : FVec Ideal S1024x2048 .bf16) (ix2 (n0 := 1024) (n1 := 2048) k d) = w (ix3 (n0 := 1) (n1 := 1024) (n2 := 2048) 0 k d) := by
    pointwise
  exact h _

/-- A point's block holds the reference's rows. -/
theorem block_entry (c : Dev nD) (t : Fin cfg0.N) (y : S512x1024.Idx) :
    out0_3 (iblk m c 0 t) (iblk m c 1 t) (iblk m c 2 t) y = result m c (place t y) := by
  obtain ⟨p, d, rfl⟩ : ∃ (p : Fin 512) (d : Fin 1024), y = ix2 (n0 := 512) (n1 := 1024) p d := ⟨y 0, y 1, by
    funext a
    match a with
    | ⟨0, _⟩ => rfl
    | ⟨1, _⟩ => rfl⟩
  refine (congrFun (out_eq (iblk m c 0 t) (iblk m c 1 t) (iblk m c 2 t)) _).trans ?_
  refine (Cert.Conv.block_apply (iblk m c 0 t) (iblk m c 1 t) (iblk m c 2 t) p d).trans ?_
  refine Eq.trans ?_ (Cert.Conv.first_apply _ _ _ _ _).symm
  have hx := rows_apply m c t p
  have hg := gain_entry m c t
  have hw := weight_entry m c t
  simp only [hx, hg, hw]
  rfl

/-- The run's result array is the reference's. -/
theorem arr_result (c : Dev nD) : (dats m 0 c).arrAt 3 cfg0.N = result m c := by
  refine (dats m 0 c).arrAt_eq_of_emb 3 (result m c) (fun t hf y => ?_) (fun i => ?_)
  · show (dats m 0 c).after 3 t y = result m c (((cfg0.win 3).blk t).view.emb y)
    rw [after0_3]
    exact (block_entry m c t y).trans (congrArg (result m c) (emb_result t y)).symm
  · obtain ⟨t, y, h⟩ := place_onto i
    refine ⟨t, flush0_3 t, ?_⟩
    have e : ((cfg0.win 3).blk t).view.emb y = i := (emb_result t y).trans h
    rw [← e]
    exact View.emb_mem_set _ _

/-! ## The lines after the region -/

/-- What the buffers hold when the region ends. -/
def exit (c : Dev nD) : Valuation τ sig (Elt Ideal) :=
  Pipeline.withArrays spec0 c (V0 m c) fun w => (dats m 0 c).arrAt w cfg0.N

/-- The result's buffer holds the run's result array, -/
theorem exit_result (c : Dev nD) : exit m c (Proc.devRef .tc main_v5) = result m c :=
  (Pipeline.withArrays_arr spec0 launch0.win.arr_inj c (V0 m c) (fun w => (dats m 0 c).arrAt w cfg0.N) 3).trans (arr_result m c)
/-- and the cached rows' buffer the rows launched. -/
theorem exit_cached (c : Dev nD) : exit m c (Proc.devRef .tc main_arg3) = m ((c.tc : Thread nD τ).loc main_arg3) :=
  (Pipeline.withArrays_of_ne spec0 c (V0 m c) _ main_arg3 (by exact (by decide : ∀ w, Pipeline.arrRef spec0 w ≠ main_arg3))).trans (V_main_arg3 m c)

/-- The lines leave in the second result's buffer the stacked last rows, -/
theorem lines_long (W : Valuation τ sig (Elt Ideal)) :
    StableHlo.after (List.flatten [hostOps1]) W (Proc.devRef .tc main_v16) = Cert.Conv.stacked (W (Proc.devRef .tc main_v5)) := by
  simp only [hostOps1, List.flatten_cons, List.flatten_nil, List.append_nil, List.cons_append, List.nil_append]
  after_results_simp <;> rfl
/-- and in the third's the last rows after the cached ones. -/
theorem lines_short (W : Valuation τ sig (Elt Ideal)) :
    StableHlo.after (List.flatten [hostOps1]) W (Proc.devRef .tc main_v17) = Cert.Conv.lastShort (W (Proc.devRef .tc main_v5)) (W (Proc.devRef .tc main_arg3)) := by
  simp only [hostOps1, List.flatten_cons, List.flatten_nil, List.append_nil, List.cons_append, List.nil_append]
  after_results_simp <;> rfl

/-- The second result: the last rows of the long sequences. -/
theorem tail_long (c : Dev nD) : Pipeline.afterTail₀ cfgs (dats m) 0 (V0 m) [hostOps1] c main_v16 = Cert.Conv.lastLong (result m c) :=
  (lines_long (exit m c)).trans ((congrArg Cert.Conv.stacked (exit_result m c)).trans (Cert.Conv.stacked_eq _))

/-- The third result: the last rows of the short sequences, the cached rows before them. -/
theorem tail_short (c : Dev nD) : Pipeline.afterTail₀ cfgs (dats m) 0 (V0 m) [hostOps1] c main_v17 = Cert.Conv.lastShort (result m c) (m ((c.tc : Thread nD τ).loc main_arg3)) :=
  (lines_short (exit m c)).trans (congrArg₂ Cert.Conv.lastShort (exit_result m c) (exit_cached m c))

end value

end Cert.Kernel2Ideal.ConvIn

end
-- ==== Proof.Heads.lean ====
/- Means of squares over a head's entries, over the extended reals: with finite entries the product with the constant
   blocks of one over the head's width, of the squares split into two halves, is the mean. -/
module

public import Idealize.ShloMosaic.PureOps.Ideal
public import Idealize.ShloMosaic.PureOps.Ideal.Laws
public import Mathlib.Data.EReal.Operations
public import Mathlib.Data.EReal.Inv
public import Mathlib.Logic.Equiv.Fin.Basic
public import Mathlib.Algebra.BigOperators.Fin
public import Mathlib.Tactic.Ring
public import Mathlib.Tactic.NormNum
public import Mathlib.Tactic.Positivity

@[expose] public section

noncomputable section

namespace Cert.Heads

open Idealize.ShloMosaic

/-! ## Finite extended reals -/

/-- The extended real is a real. -/
def Real? (x : EReal) : Prop := ∃ r : ℝ, x = (r : EReal)

/-- Products of reals are real, -/
theorem Real?.mul {x y : EReal} : Real? x → Real? y → Real? (x * y)
  | ⟨r, hr⟩, ⟨s, hs⟩ => ⟨r * s, by rw [hr, hs, EReal.coe_mul]⟩

/-- a sum of reals is the real sum, -/
theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- so sums of reals are real. -/
theorem Real?.sum {n : ℕ} {f : Fin n → EReal} (h : ∀ i, Real? (f i)) : Real? (∑ i, f i) := by
  choose g hg using h
  exact ⟨∑ i, g i, by simp only [hg, sum_coe]⟩

/-- An extended real whose magnitude is at most a real is real. -/
theorem Real?.of_abs_le {x c : EReal} (hc : c ≠ ⊤) (h : max x (-x) ≤ c) : Real? x := by
  have h1 : x ≠ ⊤ := fun e => hc (top_le_iff.1 (by rw [← e]; exact (le_max_left _ _).trans h))
  have h2 : x ≠ ⊥ := fun e => hc (top_le_iff.1 (by
    have := (le_max_right x (-x)).trans h
    rwa [e, EReal.neg_bot] at this))
  exact ⟨x.toReal, (EReal.coe_toReal h1 h2).symm⟩

/-! ## The constants -/

/-- The guard added to a mean of squares, a positive real. -/
theorem eps_eq : Ideal.ofBits .f32 0x358637BD#32 = ((8796093 * (2 : ℝ) ^ (-43 : ℤ) : ℝ) : EReal) := by
  simp [Ideal.ofBits, Ideal.ieee, -EReal.coe_mul]
/-- A row's width. -/
theorem width_eq : Ideal.ofBits .f32 0x44800000#32 = ((1024 : ℝ) : EReal) := by
  simp [Ideal.ofBits, Ideal.ieee, -EReal.coe_mul]; norm_num
/-- A head's width -/
theorem head_eq : Ideal.ofBits .f32 0x42800000#32 = ((64 : ℝ) : EReal) := by
  simp [Ideal.ofBits, Ideal.ieee, -EReal.coe_mul]; norm_num
/-- and one over it. -/
theorem inv_head_eq : Ideal.ofBits .f32 0x3C800000#32 = ((1 / 64 : ℝ) : EReal) := by
  simp [Ideal.ofBits, Ideal.ieee, -EReal.coe_mul]; norm_num
/-- The greatest finite number of the format is below infinity. -/
theorem greatest_ne_top : Ideal.ofBits .f32 0x7F7FFFFF#32 ≠ ⊤ := by
  have : ∃ r : ℝ, Ideal.ofBits .f32 0x7F7FFFFF#32 = (r : EReal) := by
    simp [Ideal.ofBits, Ideal.ieee, -EReal.coe_mul]
  obtain ⟨r, h⟩ := this
  rw [h]
  exact EReal.coe_ne_top r

/-! ## The row's root mean square -/

/-- The reciprocal root of the mean of squares of reals, guarded, is real. -/
theorem real_root {x : Fin 1024 → EReal} (h : ∀ i, Real? (x i)) :
    Real? (Ideal.rsqrt (Ideal.div (∑ j : Fin 1024, x j * x j) (Ideal.ofBits .f32 0x44800000#32) + Ideal.ofBits .f32 0x358637BD#32)) := by
  choose g hg using h
  have e : Ideal.div (∑ j : Fin 1024, x j * x j) (Ideal.ofBits .f32 0x44800000#32) + Ideal.ofBits .f32 0x358637BD#32
      = (((∑ j, g j * g j) * (1 / 1024) + 8796093 * (2 : ℝ) ^ (-43 : ℤ) : ℝ) : EReal) := by
    rw [eps_eq, width_eq, Ideal.div_coe (by norm_num : (1024 : ℝ) ≠ 0)]
    simp only [hg, ← EReal.coe_mul, sum_coe, ← EReal.coe_add]
  have hp : 0 < (∑ j, g j * g j) * (1 / 1024) + 8796093 * (2 : ℝ) ^ (-43 : ℤ) :=
    add_pos_of_nonneg_of_pos (mul_nonneg (Finset.sum_nonneg fun i _ => mul_self_nonneg _) (by norm_num)) (by positivity)
  rw [e, Ideal.rsqrt_coe, if_neg (not_lt.2 hp.le), if_neg hp.ne']
  exact ⟨_, rfl⟩

/-- A square is not negative. -/
theorem square_nonneg (x : EReal) : 0 ≤ x * x := by
  induction x with
  | bot => simp
  | top => simp
  | coe r => exact_mod_cast mul_self_nonneg r

/-- An entry over its row's guarded root mean square is real, whatever the row: of a row with an infinite entry the
    reciprocal root is zero. -/
theorem real_entry (x : Fin 1024 → EReal) (k : Fin 1024) :
    Real? (x k * Ideal.rsqrt (Ideal.div (∑ j : Fin 1024, x j * x j) (Ideal.ofBits .f32 0x44800000#32) + Ideal.ofBits .f32 0x358637BD#32)) := by
  by_cases h : ∀ i, Real? (x i)
  · exact (h k).mul (real_root h)
  · obtain ⟨i, hi⟩ := not_forall.1 h
    have ht : x i * x i = ⊤ := by
      generalize x i = y at hi
      induction y with
      | bot => simp
      | top => simp
      | coe r => exact absurd ⟨r, rfl⟩ hi
    have hs : ∑ j : Fin 1024, x j * x j = ⊤ :=
      top_le_iff.1 (ht ▸ Finset.single_le_sum (f := fun j => x j * x j) (fun j _ => square_nonneg (x j)) (Finset.mem_univ i))
    rw [hs, eps_eq, width_eq, Ideal.div_coe (by norm_num : (1024 : ℝ) ≠ 0), EReal.top_mul_coe_of_pos (by norm_num), EReal.top_add_coe, Ideal.rsqrt_top, mul_zero]
    exact ⟨0, rfl⟩

/-! ## The head's mean square -/

/-- The entries of head `h` among a row of eight. -/
def entry (h : Fin 8) (l : Fin 64) : Fin 512 := ⟨h.val * 64 + l.val, by omega⟩

/-- Entry `j` of the head of entry `d` counts one over the head's width, the others nothing. -/
def share (j d : Fin 512) : EReal := (if j.val / 64 = d.val / 64 then 1 else 0) * Ideal.ofBits .f32 0x3C800000#32

/-- A sum over a row, one head's terms kept, is the sum over the head. -/
theorem sum_head (f : Fin 512 → ℝ) (h : Fin 8) : ∑ j : Fin 512, (if j.val / 64 = h.val then f j else 0) = ∑ l : Fin 64, f (entry h l) := by
  have e : ∑ j : Fin 512, (if j.val / 64 = h.val then f j else 0) = ∑ p : Fin 8 × Fin 64, (if p.1 = h then f (entry p.1 p.2) else 0) := by
    refine (Fintype.sum_equiv (finProdFinEquiv (m := 8) (n := 64)) _ _ fun p => ?_).symm
    obtain ⟨a, b⟩ := p
    have hv : ((finProdFinEquiv (m := 8) (n := 64)) (a, b) : Fin 512) = entry a b := Fin.ext (by
      show b.val + 64 * a.val = a.val * 64 + b.val
      omega)
    have hd : (entry a b).val / 64 = a.val := by
      show (a.val * 64 + b.val) / 64 = a.val
      omega
    show _ = if ((finProdFinEquiv (m := 8) (n := 64)) (a, b) : Fin 512).val / 64 = h.val then f ((finProdFinEquiv (m := 8) (n := 64)) (a, b) : Fin 512) else 0
    rw [hv, hd]
    simp only [Fin.ext_iff]
  rw [e, Fintype.sum_prod_type]
  rw [Finset.sum_eq_single h (fun a _ ha => by simp [ha]) (fun hn => absurd (Finset.mem_univ _) hn)]
  simp

/-- Of real entries, the two products' sum is the mean of squares over the head. -/
theorem mean_head {t : Fin 512 → EReal} (ht : ∀ j, Real? (t j)) (h : Fin 8) (e : Fin 64) :
    (∑ j : Fin 512, t j * t j * share j (entry h e)) + ∑ j : Fin 512, (t j * t j - t j * t j) * share j (entry h e)
      = Ideal.div (∑ l : Fin 64, t (entry h l) * t (entry h l)) (Ideal.ofBits .f32 0x42800000#32) := by
  choose g hg using ht
  have hd : (entry h e).val / 64 = h.val := by
    show (h.val * 64 + e.val) / 64 = h.val
    omega
  have hz : ∀ j : Fin 512, (t j * t j - t j * t j) * share j (entry h e) = 0 := fun j => by
    rw [hg, ← EReal.coe_mul, ← EReal.coe_sub, sub_self, EReal.coe_zero, zero_mul]
  have hs : ∀ j : Fin 512, t j * t j * share j (entry h e) = (((if j.val / 64 = h.val then g j * g j else 0) * (1 / 64) : ℝ) : EReal) := fun j => by
    unfold share
    rw [hg, hd, inv_head_eq]
    by_cases hj : j.val / 64 = h.val
    · rw [if_pos hj, if_pos hj, one_mul, ← EReal.coe_mul, ← EReal.coe_mul]
    · rw [if_neg hj, if_neg hj, zero_mul, mul_zero, zero_mul, EReal.coe_zero]
  simp only [hz, hs, Finset.sum_const_zero, add_zero, sum_coe]
  rw [← Finset.sum_mul, sum_head (fun j => g j * g j) h, head_eq, Ideal.div_coe (by norm_num : (64 : ℝ) ≠ 0)]
  simp only [hg, ← EReal.coe_mul, sum_coe]

end Cert.Heads

end
-- ==== Proof.Proj.lean ====
/- The attention layer's first product with its heads normalised, entry by entry over the extended reals: the kernel's
   blocks and the reference's arrays. -/
module

public import proofs.«01_k».proof.Proof.Heads
public import proofs.«01_k».proof.Proof.Gen.Kernel3Ideal.Skeleton
public import proofs.«01_k».proof.Proof.Gen.Reference3Ideal
public import Idealize.ShloMosaic.Lib.Pointwise
public import Idealize.ShloMosaic.Lib.Pipeline.Value

@[expose] public section

set_option maxRecDepth 16384

noncomputable section

namespace Cert.Proj

open Idealize.ShloMosaic

/-- A row's normalised entry: the entry over the root of the row's mean square, times the gain. -/
def norm (x : Fin 1024 → EReal) (g : EReal) (k : Fin 1024) : EReal :=
  x k * Ideal.rsqrt (Ideal.div (∑ j : Fin 1024, x j * x j) (Ideal.ofBits .f32 0x44800000#32) + Ideal.ofBits .f32 0x358637BD#32) * g

/-- The product's entry of a row, its gain and a column of the weight. -/
def line (x g w : Fin 1024 → EReal) : EReal := ∑ k : Fin 1024, norm x (g k) k * w k

/-- It is real where the gain and the weight are. -/
theorem line_real {x g w : Fin 1024 → EReal} (hg : ∀ k, Heads.Real? (g k)) (hw : ∀ k, Heads.Real? (w k)) : Heads.Real? (line x g w) :=
  .sum fun k => ((Heads.real_entry x k).mul (hg k)).mul (hw k)

section kernel
open Cert.Kernel3Ideal Cert.Kernel3Ideal.Gen

/-- The kernel's product read at an entry. -/
theorem pay1_apply (i : grid0.Coords) (x y : FVec Ideal S512x1024 .f32) (g : FVec Ideal S1x1024 .f32) (w : FVec Ideal S1024x2048 .bf16) (p : Fin 512) (d : Fin 2048) :
    k0_pay1 (F := Ideal) i x y g w (ix2 p d)
      = line (fun k => (if (i 0).val < 32 then x else y) (ix2 p k)) (fun k => g (ix2 (0 : Fin 1) k)) (fun k => w (ix2 k d)) := by
  have h : Scalar.select (Scalar.cmpi .slt (BitVec.ofNat 32 (i 0).val) 32#32) (shapeCast S512x1024 x shapeCasts_S512x1024_S512x1024) (shapeCast S512x1024 y shapeCasts_S512x1024_S512x1024) = (if (i 0).val < 32 then x else y) := by
    have hk : ∀ v : Fin 33, Scalar.cmpi .slt (BitVec.ofNat 32 v.val) 32#32 = if v.val < 32 then 1#1 else 0#1 := by decide +kernel
    rw [shapeCast_self, shapeCast_self, show Scalar.cmpi .slt (BitVec.ofNat 32 (i 0).val) 32#32 = _ from hk (i 0)]
    by_cases hi : (i 0).val < 32
    · rw [if_pos hi, if_pos hi]; rfl
    · rw [if_neg hi, if_neg hi]; rfl
  unfold k0_pay1
  simp only [h]
  generalize (if (i 0).val < 32 then x else y) = z
  pointwise
  simp only [line, norm]

/-- The kernel's block of heads, scaled, read at an entry. -/
theorem pay10_apply (t : FVec Ideal S512x512 .f32) (g : FVec Ideal S1x512 .f32) (hi lo s : FVec Ideal S512x512 .bf16) (p d : Fin 512) :
    k0_pay10 (F := Ideal) t g hi lo s s (ix2 p d) = t (ix2 p d) * Ideal.rsqrt ((∑ j : Fin 512, hi (ix2 p j) * s (ix2 j d)) + (∑ j : Fin 512, lo (ix2 p j) * s (ix2 j d)) + Ideal.ofBits .f32 0x358637BD#32)
      * g (ix2 (0 : Fin 1) d) * Ideal.ofBits .f32 0x3E000000#32 := by
  pointwise! [k0_pay10]

/-- The kernel's block of heads read at an entry. -/
theorem pay11_apply (h : FVec Ideal S512x2048 .f32) (g : FVec Ideal S1x512 .f32) (s : FVec Ideal S512x512 .bf16) (p d : Fin 512) :
    k0_pay11 (F := Ideal) h g s s (ix2 p d) = h (ix2 p (⟨1024 + d.val, by omega⟩ : Fin 2048)) * Ideal.rsqrt ((∑ j : Fin 512, h (ix2 p (⟨1024 + j.val, by omega⟩ : Fin 2048)) * h (ix2 p (⟨1024 + j.val, by omega⟩ : Fin 2048)) * s (ix2 j d)) + (∑ j : Fin 512, (h (ix2 p (⟨1024 + j.val, by omega⟩ : Fin 2048)) * h (ix2 p (⟨1024 + j.val, by omega⟩ : Fin 2048)) - h (ix2 p (⟨1024 + j.val, by omega⟩ : Fin 2048)) * h (ix2 p (⟨1024 + j.val, by omega⟩ : Fin 2048))) * s (ix2 j d)) + Ideal.ofBits .f32 0x358637BD#32)
      * g (ix2 (0 : Fin 1) d) := by
  pointwise! [k0_pay11]

/-- The slices of the kernel's product read at an entry. -/
theorem pay2_apply (i : grid0.Coords) (x y : FVec Ideal S512x1024 .f32) (g : FVec Ideal S1x1024 .f32) (w : FVec Ideal S1024x2048 .bf16) (p d : Fin 512) :
    k0_pay2 (F := Ideal) i x y g w (ix2 p d) = k0_pay1 (F := Ideal) i x y g w (ix2 p (⟨d.val, by omega⟩ : Fin 2048)) := by
  unfold k0_pay2
  generalize k0_pay1 (F := Ideal) i x y g w = h
  pointwise!
theorem pay3_apply (i : grid0.Coords) (x y : FVec Ideal S512x1024 .f32) (g : FVec Ideal S1x1024 .f32) (w : FVec Ideal S1024x2048 .bf16) (p d : Fin 512) :
    k0_pay3 (F := Ideal) i x y g w (ix2 p d) = k0_pay1 (F := Ideal) i x y g w (ix2 p (⟨1536 + d.val, by omega⟩ : Fin 2048)) := by
  unfold k0_pay3
  generalize k0_pay1 (F := Ideal) i x y g w = h
  pointwise!
theorem pay4_apply (i : grid0.Coords) (x y : FVec Ideal S512x1024 .f32) (g : FVec Ideal S1x1024 .f32) (w : FVec Ideal S1024x2048 .bf16) (p d : Fin 512) :
    k0_pay4 (F := Ideal) i x y g w (ix2 p d) = k0_pay1 (F := Ideal) i x y g w (ix2 p (⟨512 + d.val, by omega⟩ : Fin 2048)) := by
  unfold k0_pay4
  generalize k0_pay1 (F := Ideal) i x y g w = h
  pointwise!

/-- The constant blocks' array: the unit matrix of heads, each entry a block of one over the head's width. -/
def kron {F : FTy → Type} [FloatOps F] : FVec F S512x512 .f32 :=
  shapeCast S512x512 (mulf
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)) : FVec F S8x8 .f32)))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant S_ .f32 0x3C800000#32))))) shapeCasts_S8x64x8x64_S512x512

/-- It reads at an entry as the share. -/
theorem kron_apply (j d : Fin 512) : kron (F := Ideal) (ix2 j d) = Heads.share j d := by
  unfold kron
  refine (shapeCast_apply _ _ (ix2 (n0 := 512) (n1 := 512) j d) (ix4 (n0 := 8) (n1 := 64) (n2 := 8) (n3 := 64) ⟨j.val / 64, by omega⟩ ⟨j.val % 64, by omega⟩ ⟨d.val / 64, by omega⟩ ⟨d.val % 64, by omega⟩) (by
    rw [Shape.rowMajor_val_two, Shape.rowMajor_val_four]
    show ((j.val / 64 * 64 + j.val % 64) * 8 + d.val / 64) * 64 + d.val % 64 = j.val * 512 + d.val
    omega)).trans ?_
  have hk : ∀ a b : Fin 8, IntOp.cmpi .eq (IntOp.addi (BitVec.ofNat 32 a.val) 0#32) (BitVec.ofNat 32 b.val) = if a.val = b.val then 1#1 else 0#1 := by decide +kernel
  have hv (b : BitVec 1) : FloatOps.uitofp (F := Ideal) FTy.f32 b = ((b.toNat : ℝ) : EReal) := rfl
  pointwise
  rw [hv, hk ⟨j.val / 64, by omega⟩ ⟨d.val / 64, by omega⟩]
  unfold Heads.share
  by_cases h : j.val / 64 = d.val / 64
  · simp [h]
  · simp [h]

/-- The kept rows of a result of the kernel's, head by head: the last 512 of each long sequence, -/
def keptK (u : FVec Ideal S16896x512 .f32) : FVec Ideal S2x8x512x64 .f32 :=
  transpose S2x8x512x64 [0, 2, 1, 3] (shapeCast S2x512x8x64 (concatenate S1024x512 0
    [⟨S512x512, extractStridedSlice S512x512 ![7680, 0] u slices_S16896x512_S512x512_7680_0⟩,
      ⟨S512x512, extractStridedSlice S512x512 ![15872, 0] u slices_S16896x512_S512x512_15872_0⟩]
    concatenates_S512x512_S512x512_S1024x512_d0) shapeCasts_S1024x512_S2x512x8x64) transposes_S2x512x8x64_S2x8x512x64_0_2_1_3

/-- and the short sequences'. -/
def newK (u : FVec Ideal S16896x512 .f32) : FVec Ideal S8x8x64x64 .f32 :=
  transpose S8x8x64x64 [0, 2, 1, 3] (shapeCast S8x64x8x64 (extractStridedSlice S512x512 ![16384, 0] u slices_S16896x512_S512x512_16384_0) shapeCasts_S512x512_S8x64x8x64) transposes_S8x64x8x64_S8x8x64x64_0_2_1_3

/-- The kept rows read at an entry, -/
theorem keptK_apply (u : FVec Ideal S16896x512 .f32) (b : Fin 2) (h : Fin 8) (q : Fin 512) (e : Fin 64) :
    keptK u (ix4 b h q e) = u (ix2 (⟨8192 * b.val + 7680 + q.val, by omega⟩ : Fin 16896) (Heads.entry h e)) := by
  unfold keptK
  refine (transpose_apply _ _ _ (ix4 (n0 := 2) (n1 := 8) (n2 := 512) (n3 := 64) b h q e) (ix4 (n0 := 2) (n1 := 512) (n2 := 8) (n3 := 64) b q h e) (fun a => by fin_cases a <;> rfl)).trans ?_
  refine (shapeCast_apply _ _ _ (ix2 (n0 := 1024) (n1 := 512) ⟨b.val * 512 + q.val, by omega⟩ (Heads.entry h e)) (by
    rw [Shape.rowMajor_val_two, Shape.rowMajor_val_four]
    show (b.val * 512 + q.val) * 512 + (h.val * 64 + e.val) = ((b.val * 512 + q.val) * 8 + h.val) * 64 + e.val
    omega)).trans ?_
  match b with
  | ⟨0, _⟩ =>
    refine (concatenate_pair_apply_left (t := S1024x512) (s₁ := S512x512) (s₂ := S512x512) 0 _ _ _ _ rfl (ix2 (n0 := 512) (n1 := 512) q (Heads.entry h e))
      (fun a => by
        match a with
        | ⟨0, _⟩ => show q.val = 0 * 512 + q.val; omega
        | ⟨1, _⟩ => rfl)).trans ?_
    exact extractStridedSlice_apply _ _ _ _ _ (fun a => by fin_cases a <;> simp)
  | ⟨1, _⟩ =>
    refine (concatenate_pair_apply_right (t := S1024x512) (s₁ := S512x512) (s₂ := S512x512) 0 _ _ _ _ rfl rfl (ix2 (n0 := 512) (n1 := 512) q (Heads.entry h e))
      (fun a ha => by
        match a with
        | ⟨0, _⟩ => exact absurd rfl ha
        | ⟨1, _⟩ => rfl) (by show q.val + 512 = 1 * 512 + q.val; omega)).trans ?_
    exact extractStridedSlice_apply _ _ _ _ _ (fun a => by fin_cases a <;> simp)

/-- and the short sequences'. -/
theorem newK_apply (u : FVec Ideal S16896x512 .f32) (b h : Fin 8) (q e : Fin 64) :
    newK u (ix4 b h q e) = u (ix2 (⟨16384 + (b.val * 64 + q.val), by omega⟩ : Fin 16896) (Heads.entry h e)) := by
  unfold newK
  refine (transpose_apply _ _ _ (ix4 (n0 := 8) (n1 := 8) (n2 := 64) (n3 := 64) b h q e) (ix4 (n0 := 8) (n1 := 64) (n2 := 8) (n3 := 64) b q h e) (fun a => by fin_cases a <;> rfl)).trans ?_
  refine (shapeCast_apply _ _ _ (ix2 (n0 := 512) (n1 := 512) ⟨b.val * 64 + q.val, by omega⟩ (Heads.entry h e)) (by
    rw [Shape.rowMajor_val_two, Shape.rowMajor_val_four]
    show (b.val * 64 + q.val) * 512 + (h.val * 64 + e.val) = ((b.val * 64 + q.val) * 8 + h.val) * 64 + e.val
    omega)).trans ?_
  exact extractStridedSlice_apply _ _ _ _ _ (fun a => by fin_cases a <;> simp)

end kernel

section reference
open Cert.Reference3Ideal Cert.Reference3Ideal.Gen

/-- The reference's rows: the long sequences' and the short ones'. -/
def rows (a : FVec Ideal S2x8192x1024 .f32) (b : FVec Ideal S8x64x1024 .f32) : FVec Ideal S16896x1024 .f32 :=
  concatenate S16896x1024 0 [⟨S16384x1024, (shapeCast _ a shapeCasts_S2x8192x1024_S16384x1024)⟩, ⟨S512x1024, (shapeCast _ b shapeCasts_S8x64x1024_S512x1024)⟩] concatenates_S16384x1024_S512x1024_S16896x1024_d0

/-- The reference's normalised rows. -/
def normed (x : FVec Ideal S16896x1024 .f32) (g : FVec Ideal S2x1024 .f32) : FVec Ideal S16896x1024 .f32 :=
  mulf (mulf x (broadcastInDim S16896x1024 ![0, 1] bcast_S16896x1_S16896x1024_0_1 (Host.rsqrt (addf (Host.divf (broadcastInDim S16896x1 ![0] bcast_S16896_S16896x1_0 (Host.reduceAdd (mulf x x) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 (shapeCast _ (extractStridedSlice S1x1024 ![0, 0] g slices_S2x1024_S1x1024_0_0) shapeCasts_S1x1024_S1024)))

/-- The reference's product of the normalised rows with the weight. -/
def product (x : FVec Ideal S16896x1024 .f32) (g : FVec Ideal S2x1024 .f32) (w : FVec Ideal S1x1024x2048 .f32) : FVec Ideal S16896x2048 .f32 :=
  Host.dotGeneral dot_S16896x1024_S1024x2048_S16896x2048_1_0_0_1_n_n none (normed x g) (shapeCast _ w shapeCasts_S1x1024x2048_S1024x2048)

/-- The product's first quarter: the reference's first result. -/
def firstR (p : FVec Ideal S16896x2048 .f32) : FVec Ideal S16896x512 .f32 :=
  extractStridedSlice S16896x512 ![0, 0] p slices_S16896x2048_S16896x512_0_0
/-- The second quarter, the queries, head by head, -/
def queries (p : FVec Ideal S16896x2048 .f32) : FVec Ideal S16896x8x64 .f32 :=
  shapeCast _ (extractStridedSlice S16896x512 ![0, 512] p slices_S16896x2048_S16896x512_0_512) shapeCasts_S16896x512_S16896x8x64
/-- the third, the keys, -/
def keys (p : FVec Ideal S16896x2048 .f32) : FVec Ideal S16896x8x64 .f32 :=
  shapeCast _ (extractStridedSlice S16896x512 ![0, 1024] p slices_S16896x2048_S16896x512_0_1024) shapeCasts_S16896x512_S16896x8x64
/-- and the fourth, the values. -/
def vals (p : FVec Ideal S16896x2048 .f32) : FVec Ideal S16896x8x64 .f32 :=
  shapeCast _ (extractStridedSlice S16896x512 ![0, 1536] p slices_S16896x2048_S16896x512_0_1536) shapeCasts_S16896x512_S16896x8x64

/-- The reference's heads normalised. -/
def headNormed (t : FVec Ideal S16896x8x64 .f32) (g : FVec Ideal S1x64 .f32) : FVec Ideal S16896x8x64 .f32 :=
  mulf (mulf t (broadcastInDim S16896x8x64 ![0, 1, 2] bcast_S16896x8x1_S16896x8x64_0_1_2 (Host.rsqrt (addf (Host.divf (broadcastInDim S16896x8x1 ![0, 1] bcast_S16896x8_S16896x8x1_0_1 (Host.reduceAdd (mulf t t) (constant S_ .f32 0x00000000#32) reducesTo_S16896x8x64_S16896x8_d2 h_S_)) (broadcastInDim S16896x8x1 ![] bcast_S_S16896x8x1 (constant S_ .f32 0x42800000#32))) (broadcastInDim S16896x8x1 ![] bcast_S_S16896x8x1 (constant S_ .f32 0x358637BD#32)))))) (broadcastInDim S16896x8x64 ![0, 1, 2] bcast_S1x1x64_S16896x8x64_0_1_2 (broadcastInDim S1x1x64 ![2] bcast_S64_S1x1x64_2 (shapeCast _ g shapeCasts_S1x64_S64)))

/-- The reference's second result of the normalised queries: scaled, a row's heads side by side. -/
def scaled (t : FVec Ideal S16896x8x64 .f32) : FVec Ideal S16896x512 .bf16 :=
  truncf .bf16 (shapeCast _ (mulf t (broadcastInDim S16896x8x64 ![] bcast_S_S16896x8x64 (constant S_ .f32 0x3E000000#32))) shapeCasts_S16896x8x64_S16896x512) bitsLt_bf16_f32

/-- The kept rows of an array of heads, the long sequences' -/
def keptR (t : FVec Ideal S16896x8x64 .f32) : FVec Ideal S2x8x512x64 .f32 :=
  transpose S2x8x512x64 [0, 2, 1, 3] (extractStridedSlice S2x512x8x64 ![0, 7680, 0, 0] (shapeCast _ (extractStridedSlice S16384x8x64 ![0, 0, 0] t slices_S16896x8x64_S16384x8x64_0_0_0) shapeCasts_S16384x8x64_S2x8192x8x64) slices_S2x8192x8x64_S2x512x8x64_0_7680_0_0) transposes_S2x512x8x64_S2x8x512x64_0_2_1_3
/-- and the short ones'. -/
def newR (t : FVec Ideal S16896x8x64 .f32) : FVec Ideal S8x8x64x64 .f32 :=
  transpose S8x8x64x64 [0, 2, 1, 3] (shapeCast _ (extractStridedSlice S512x8x64 ![16384, 0, 0] t slices_S16896x8x64_S512x8x64_16384_0_0) shapeCasts_S512x8x64_S8x64x8x64) transposes_S8x64x8x64_S8x8x64x64_0_2_1_3

/-- A row of the long sequences. -/
theorem rows_long (a : FVec Ideal S2x8192x1024 .f32) (b : FVec Ideal S8x64x1024 .f32) (r : Fin 16896) (hr : r.val < 16384) (k : Fin 1024) :
    rows a b (ix2 r k) = shapeCast S16384x1024 a shapeCasts_S2x8192x1024_S16384x1024 (ix2 (n0 := 16384) (n1 := 1024) ⟨r.val, hr⟩ k) := by
  unfold rows
  exact concatenate_pair_apply_left (t := S16896x1024) (s₁ := S16384x1024) (s₂ := S512x1024) 0 _ _ _ _ rfl (ix2 (n0 := 16384) (n1 := 1024) ⟨r.val, hr⟩ k)
    (fun a => by fin_cases a <;> rfl)
/-- A row of the short sequences. -/
theorem rows_short (a : FVec Ideal S2x8192x1024 .f32) (b : FVec Ideal S8x64x1024 .f32) (r : Fin 16896) (q : Fin 512) (hr : q.val + 16384 = r.val) (k : Fin 1024) :
    rows a b (ix2 r k) = shapeCast S512x1024 b shapeCasts_S8x64x1024_S512x1024 (ix2 (n0 := 512) (n1 := 1024) q k) := by
  unfold rows
  exact concatenate_pair_apply_right (t := S16896x1024) (s₁ := S16384x1024) (s₂ := S512x1024) 0 _ _ _ _ rfl rfl (ix2 (n0 := 512) (n1 := 1024) q k)
    (fun a ha => by
      match a with
      | ⟨0, _⟩ => exact absurd rfl ha
      | ⟨1, _⟩ => rfl) hr

/-- The normalised rows read at an entry. -/
theorem normed_apply (x : FVec Ideal S16896x1024 .f32) (g : FVec Ideal S2x1024 .f32) (r : Fin 16896) (k : Fin 1024) :
    normed x g (ix2 r k) = norm (fun j => x (ix2 r j)) (g (ix2 (0 : Fin 2) k)) k := by
  pointwise [normed]
  simp only [norm]

/-- The product read at an entry. -/
theorem product_apply (x : FVec Ideal S16896x1024 .f32) (g : FVec Ideal S2x1024 .f32) (w : FVec Ideal S1x1024x2048 .f32) (r : Fin 16896) (d : Fin 2048) :
    product x g w (ix2 r d) = line (fun j => x (ix2 r j)) (fun k => g (ix2 (0 : Fin 2) k)) (fun k => w (ix3 (0 : Fin 1) k d)) := by
  have h : product x g w (ix2 r d) = ∑ k : Fin 1024, normed x g (ix2 r k) * w (ix3 (0 : Fin 1) k d) := by
    pointwise! [product]
  rw [h]
  simp only [normed_apply, line]

/-- The quarters read at an entry. -/
theorem firstR_apply (p : FVec Ideal S16896x2048 .f32) (r : Fin 16896) (d : Fin 512) :
    firstR p (ix2 r d) = p (ix2 r (⟨d.val, by omega⟩ : Fin 2048)) := by
  pointwise! [firstR]
theorem queries_apply (p : FVec Ideal S16896x2048 .f32) (r : Fin 16896) (h : Fin 8) (e : Fin 64) :
    queries p (ix3 r h e) = p (ix2 r (⟨512 + (Heads.entry h e).val, by omega⟩ : Fin 2048)) := by
  unfold queries
  refine (shapeCast_apply _ _ (ix3 (n0 := 16896) (n1 := 8) (n2 := 64) r h e) (ix2 (n0 := 16896) (n1 := 512) r (Heads.entry h e)) (by
    rw [Shape.rowMajor_val_two, Shape.rowMajor_val_three]
    show r.val * 512 + (h.val * 64 + e.val) = (r.val * 8 + h.val) * 64 + e.val
    omega)).trans ?_
  exact extractStridedSlice_apply _ _ _ _ _ (fun a => by fin_cases a <;> simp)
theorem keys_apply (p : FVec Ideal S16896x2048 .f32) (r : Fin 16896) (h : Fin 8) (e : Fin 64) :
    keys p (ix3 r h e) = p (ix2 r (⟨1024 + (Heads.entry h e).val, by omega⟩ : Fin 2048)) := by
  unfold keys
  refine (shapeCast_apply _ _ (ix3 (n0 := 16896) (n1 := 8) (n2 := 64) r h e) (ix2 (n0 := 16896) (n1 := 512) r (Heads.entry h e)) (by
    rw [Shape.rowMajor_val_two, Shape.rowMajor_val_three]
    show r.val * 512 + (h.val * 64 + e.val) = (r.val * 8 + h.val) * 64 + e.val
    omega)).trans ?_
  exact extractStridedSlice_apply _ _ _ _ _ (fun a => by fin_cases a <;> simp)
theorem vals_apply (p : FVec Ideal S16896x2048 .f32) (r : Fin 16896) (h : Fin 8) (e : Fin 64) :
    vals p (ix3 r h e) = p (ix2 r (⟨1536 + (Heads.entry h e).val, by omega⟩ : Fin 2048)) := by
  unfold vals
  refine (shapeCast_apply _ _ (ix3 (n0 := 16896) (n1 := 8) (n2 := 64) r h e) (ix2 (n0 := 16896) (n1 := 512) r (Heads.entry h e)) (by
    rw [Shape.rowMajor_val_two, Shape.rowMajor_val_three]
    show r.val * 512 + (h.val * 64 + e.val) = (r.val * 8 + h.val) * 64 + e.val
    omega)).trans ?_
  exact extractStridedSlice_apply _ _ _ _ _ (fun a => by fin_cases a <;> simp)

/-- The normalised heads read at an entry. -/
theorem headNormed_apply (t : FVec Ideal S16896x8x64 .f32) (g : FVec Ideal S1x64 .f32) (r : Fin 16896) (h : Fin 8) (e : Fin 64) :
    headNormed t g (ix3 r h e) = t (ix3 r h e) * Ideal.rsqrt (Ideal.div (∑ l : Fin 64, t (ix3 r h l) * t (ix3 r h l)) (Ideal.ofBits .f32 0x42800000#32) + Ideal.ofBits .f32 0x358637BD#32) * g (ix2 (0 : Fin 1) e) := by
  pointwise! [headNormed]

/-- The scaled heads read at an entry. -/
theorem scaled_apply (t : FVec Ideal S16896x8x64 .f32) (r : Fin 16896) (h : Fin 8) (e : Fin 64) :
    scaled t (ix2 r (Heads.entry h e)) = t (ix3 r h e) * Ideal.ofBits .f32 0x3E000000#32 := by
  have hs (x : FVec Ideal S16896x8x64 .f32) : shapeCast S16896x512 x shapeCasts_S16896x8x64_S16896x512 (ix2 r (Heads.entry h e)) = x (ix3 r h e) :=
    shapeCast_apply _ _ (ix2 (n0 := 16896) (n1 := 512) r (Heads.entry h e)) (ix3 (n0 := 16896) (n1 := 8) (n2 := 64) r h e) (by
      rw [Shape.rowMajor_val_two, Shape.rowMajor_val_three]
      show (r.val * 8 + h.val) * 64 + e.val = r.val * 512 + (h.val * 64 + e.val)
      omega)
  have hm : mulf t (broadcastInDim S16896x8x64 ![] bcast_S_S16896x8x64 (constant S_ .f32 0x3E000000#32)) (ix3 r h e) = t (ix3 r h e) * Ideal.ofBits .f32 0x3E000000#32 := by
    pointwise!
  exact (hs (mulf t (broadcastInDim S16896x8x64 ![] bcast_S_S16896x8x64 (constant S_ .f32 0x3E000000#32)))).trans hm

/-- The kept rows read at an entry, -/
theorem keptR_apply (t : FVec Ideal S16896x8x64 .f32) (b : Fin 2) (h : Fin 8) (q : Fin 512) (e : Fin 64) :
    keptR t (ix4 b h q e) = t (ix3 (⟨8192 * b.val + 7680 + q.val, by omega⟩ : Fin 16896) h e) := by
  unfold keptR
  refine (transpose_apply _ _ _ (ix4 (n0 := 2) (n1 := 8) (n2 := 512) (n3 := 64) b h q e) (ix4 (n0 := 2) (n1 := 512) (n2 := 8) (n3 := 64) b q h e) (fun a => by fin_cases a <;> rfl)).trans ?_
  refine (extractStridedSlice_apply _ _ _ _ (ix4 (n0 := 2) (n1 := 8192) (n2 := 8) (n3 := 64) b ⟨7680 + q.val, by omega⟩ h e) (fun a => by fin_cases a <;> simp)).trans ?_
  refine (shapeCast_apply _ _ _ (ix3 (n0 := 16384) (n1 := 8) (n2 := 64) ⟨8192 * b.val + 7680 + q.val, by omega⟩ h e) (by
    rw [Shape.rowMajor_val_three, Shape.rowMajor_val_four]
    show ((8192 * b.val + 7680 + q.val) * 8 + h.val) * 64 + e.val = ((b.val * 8192 + (7680 + q.val)) * 8 + h.val) * 64 + e.val
    omega)).trans ?_
  exact extractStridedSlice_apply _ _ _ _ _ (fun a => by fin_cases a <;> simp)

/-- and the short sequences'. -/
theorem newR_apply (t : FVec Ideal S16896x8x64 .f32) (b h : Fin 8) (q e : Fin 64) :
    newR t (ix4 b h q e) = t (ix3 (⟨16384 + (b.val * 64 + q.val), by omega⟩ : Fin 16896) h e) := by
  unfold newR
  refine (transpose_apply _ _ _ (ix4 (n0 := 8) (n1 := 8) (n2 := 64) (n3 := 64) b h q e) (ix4 (n0 := 8) (n1 := 64) (n2 := 8) (n3 := 64) b q h e) (fun a => by fin_cases a <;> rfl)).trans ?_
  refine (shapeCast_apply _ _ _ (ix3 (n0 := 512) (n1 := 8) (n2 := 64) ⟨b.val * 64 + q.val, by omega⟩ h e) (by
    rw [Shape.rowMajor_val_three, Shape.rowMajor_val_four]
    show ((b.val * 64 + q.val) * 8 + h.val) * 64 + e.val = ((b.val * 64 + q.val) * 8 + h.val) * 64 + e.val
    rfl)).trans ?_
  exact extractStridedSlice_apply _ _ _ _ _ (fun a => by fin_cases a <;> simp)

/-- An array of heads, a row's heads side by side. -/
def flat (t : FVec Ideal S16896x8x64 .f32) : FVec Ideal S16896x512 .f32 := shapeCast S16896x512 t shapeCasts_S16896x8x64_S16896x512

/-- It reads at an entry as the array does. -/
theorem flat_apply (t : FVec Ideal S16896x8x64 .f32) (r : Fin 16896) (h : Fin 8) (e : Fin 64) : flat t (ix2 r (Heads.entry h e)) = t (ix3 r h e) :=
  shapeCast_apply _ _ (ix2 (n0 := 16896) (n1 := 512) r (Heads.entry h e)) (ix3 (n0 := 16896) (n1 := 8) (n2 := 64) r h e) (by
    rw [Shape.rowMajor_val_two, Shape.rowMajor_val_three]
    show (r.val * 8 + h.val) * 64 + e.val = r.val * 512 + (h.val * 64 + e.val)
    omega)

/-- The kernel's cut of the long sequences' rows out of it is the reference's, -/
theorem keptK_flat (t : FVec Ideal S16896x8x64 .f32) : keptK (flat t) = keptR t := by
  funext j
  have e : j = ix4 (n0 := 2) (n1 := 8) (n2 := 512) (n3 := 64) (j 0) (j 1) (j 2) (j 3) := by
    funext a
    match a with
    | ⟨0, _⟩ => rfl
    | ⟨1, _⟩ => rfl
    | ⟨2, _⟩ => rfl
    | ⟨3, _⟩ => rfl
  rw [e]
  exact (keptK_apply (flat t) _ _ _ _).trans ((flat_apply t _ _ _).trans (keptR_apply t _ _ _ _).symm)
/-- and of the short sequences'. -/
theorem newK_flat (t : FVec Ideal S16896x8x64 .f32) : newK (flat t) = newR t := by
  funext j
  have e : j = ix4 (n0 := 8) (n1 := 8) (n2 := 64) (n3 := 64) (j 0) (j 1) (j 2) (j 3) := by
    funext a
    match a with
    | ⟨0, _⟩ => rfl
    | ⟨1, _⟩ => rfl
    | ⟨2, _⟩ => rfl
    | ⟨3, _⟩ => rfl
  rw [e]
  exact (newK_apply (flat t) _ _ _ _).trans ((flat_apply t _ _ _).trans (newR_apply t _ _ _ _).symm)

end reference

end Cert.Proj

end
-- ==== Proof.InProj.lean ====
/- The values of the call of the attention layer's first product: its four result arrays row block by row block, and the
   arrays of kept rows the host cuts from two of them. -/
module

public import proofs.«01_k».proof.Proof.Proj
public import proofs.«01_k».proof.Proof.Gen.Kernel3Ideal.Frame
public import proofs.«01_k».proof.Proof.Gen.Pre_finite_weights
public import Idealize.ShloMosaic.Lib.Pipeline.Value
public import Idealize.ShloMosaic.Lib.Pipeline.ValueKit.Basic
public import Idealize.ShloMosaic.Lib.Pipeline.ValueKit.Geometry
public import Idealize.ShloMosaic.Lib.Pointwise
public import Idealize.ShloMosaic.Lib.ReduceAll
public import Idealize.ShloMosaic.Lib.StableHlo.Run

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]
variable (m : (ℓ : Loc nD τ sig) → Buf (Elt F) ℓ)

/-! ## What the windows read -/

/-- The grid's only coordinate of a point is the point. -/
theorem coord_val : ∀ t : Fin grid0.N, (grid0.coords t 0).val = t.val := by decide +kernel

/-- Of the first 32 points, the block of the long sequences' rows is the point's; -/
theorem map_long : ∀ t : Fin grid0.N, t.val < 32 → cc0_transform_0 (grid0.coords t) 0 = t.val := by decide +kernel
/-- its columns are all. -/
theorem map_long_col : ∀ t : Fin grid0.N, cc0_transform_0 (grid0.coords t) 1 = 0 := by decide +kernel
/-- Of every point, the block of the short sequences' rows is the first. -/
theorem map_short : ∀ t : Fin grid0.N, cc0_transform_1 (grid0.coords t) 0 = 0 ∧ cc0_transform_1 (grid0.coords t) 1 = 0 := by decide +kernel

/-- The long sequences' rows as the region finds them, -/
theorem V_long (c : Dev nD) : V m c main_v0 = shapeCast S16384x1024 (m ((c.tc : Thread nD τ).loc main_arg0)) shapeCasts_S2x8192x1024_S16384x1024 := by
  unfold V V0
  simp only [hostOps0, hostOps0_1, hostOps0_2, List.flatten_cons, List.flatten_nil, List.append_nil, List.cons_append, List.nil_append]
  after_results_simp <;> rfl
/-- the short sequences', -/
theorem V_short (c : Dev nD) : V m c main_v1 = shapeCast S512x1024 (m ((c.tc : Thread nD τ).loc main_arg1)) shapeCasts_S8x64x1024_S512x1024 := by
  unfold V V0
  simp only [hostOps0, hostOps0_1, hostOps0_2, List.flatten_cons, List.flatten_nil, List.append_nil, List.cons_append, List.nil_append]
  after_results_simp <;> rfl
/-- the gain, the first layer's, -/
theorem V_gain (c : Dev nD) : V m c main_v16 = shapeCast S1x1024 (shapeCast S1024 (extractStridedSlice S1x1024 ![0, 0] (m ((c.tc : Thread nD τ).loc main_arg2)) slices_S2x1024_S1x1024_0_0) shapeCasts_S1x1024_S1024) shapeCasts_S1024_S1x1024 := by
  unfold V V0
  simp only [hostOps0, hostOps0_1, hostOps0_2, List.flatten_cons, List.flatten_nil, List.append_nil, List.cons_append, List.nil_append]
  after_results_simp <;> rfl
/-- the weight, rounded, -/
theorem V_weight (c : Dev nD) : V m c main_v17 = truncf .bf16 (shapeCast S1024x2048 (m ((c.tc : Thread nD τ).loc main_arg3)) shapeCasts_S1x1024x2048_S1024x2048 : FVec F S1024x2048 .f32) bitsLt_bf16_f32 := by
  unfold V V0
  simp only [hostOps0, hostOps0_1, hostOps0_2, List.flatten_cons, List.flatten_nil, List.append_nil, List.cons_append, List.nil_append]
  after_results_simp <;> rfl
/-- the queries' gain, once a head, -/
theorem V_qgain (c : Dev nD) : V m c main_v21 = shapeCast S1x512 (shapeCast S512 (broadcastInDim S8x64 ![0, 1] bcast_S1x64_S8x64_0_1 (shapeCast S1x64 (shapeCast S64 (m ((c.tc : Thread nD τ).loc main_arg4)) shapeCasts_S1x64_S64) shapeCasts_S64_S1x64)) shapeCasts_S8x64_S512) shapeCasts_S512_S1x512 := by
  unfold V V0
  simp only [hostOps0, hostOps0_1, hostOps0_2, List.flatten_cons, List.flatten_nil, List.append_nil, List.cons_append, List.nil_append]
  after_results_simp <;> rfl
/-- the keys' gain likewise, -/
theorem V_kgain (c : Dev nD) : V m c main_v25 = shapeCast S1x512 (shapeCast S512 (broadcastInDim S8x64 ![0, 1] bcast_S1x64_S8x64_0_1 (shapeCast S1x64 (shapeCast S64 (m ((c.tc : Thread nD τ).loc main_arg5)) shapeCasts_S1x64_S64) shapeCasts_S64_S1x64)) shapeCasts_S8x64_S512) shapeCasts_S512_S1x512 := by
  unfold V V0
  simp only [hostOps0, hostOps0_1, hostOps0_2, List.flatten_cons, List.flatten_nil, List.append_nil, List.cons_append, List.nil_append]
  after_results_simp <;> rfl
/-- and the constant blocks. -/
theorem V_blocks (c : Dev nD) : V m c main_v15 = truncf .bf16 (Cert.Proj.kron (F := F)) bitsLt_bf16_f32 := by
  unfold V V0
  simp only [hostOps0, hostOps0_1, hostOps0_2, List.flatten_cons, List.flatten_nil, List.append_nil, List.cons_append, List.nil_append]
  after_results_simp <;> rfl
/-- Every point reads the whole gain, -/
theorem whole_2 (c : Dev nD) (t : Fin cfg0.N) (j : S1x1024.Idx) : iblk m c 2 t j = V m c main_v16 j := by
  show V m c main_v16 (((cfg0.win 2).blk t).view.emb j) = _
  refine congrArg (V m c main_v16) (funext fun a => Fin.ext ?_)
  match a with
  | ⟨0, _⟩ => show cc0_transform_2 (grid0.coords t) 0 * 1 + 1 * (j 0).val = (j 0).val; unfold cc0_transform_2; simp
  | ⟨1, _⟩ => show cc0_transform_2 (grid0.coords t) 1 * 1024 + 1 * (j 1).val = (j 1).val; unfold cc0_transform_2; simp
/-- the whole weight, -/
theorem whole_3 (c : Dev nD) (t : Fin cfg0.N) (j : S1024x2048.Idx) : iblk m c 3 t j = V m c main_v17 j := by
  show V m c main_v17 (((cfg0.win 3).blk t).view.emb j) = _
  refine congrArg (V m c main_v17) (funext fun a => Fin.ext ?_)
  match a with
  | ⟨0, _⟩ => show cc0_transform_3 (grid0.coords t) 0 * 1024 + 1 * (j 0).val = (j 0).val; unfold cc0_transform_3; simp
  | ⟨1, _⟩ => show cc0_transform_3 (grid0.coords t) 1 * 2048 + 1 * (j 1).val = (j 1).val; unfold cc0_transform_3; simp
/-- the whole of the queries' gain, -/
theorem whole_4 (c : Dev nD) (t : Fin cfg0.N) (j : S1x512.Idx) : iblk m c 4 t j = V m c main_v21 j := by
  show V m c main_v21 (((cfg0.win 4).blk t).view.emb j) = _
  refine congrArg (V m c main_v21) (funext fun a => Fin.ext ?_)
  match a with
  | ⟨0, _⟩ => show cc0_transform_4 (grid0.coords t) 0 * 1 + 1 * (j 0).val = (j 0).val; unfold cc0_transform_4; simp
  | ⟨1, _⟩ => show cc0_transform_4 (grid0.coords t) 1 * 512 + 1 * (j 1).val = (j 1).val; unfold cc0_transform_4; simp
/-- of the keys' -/
theorem whole_5 (c : Dev nD) (t : Fin cfg0.N) (j : S1x512.Idx) : iblk m c 5 t j = V m c main_v25 j := by
  show V m c main_v25 (((cfg0.win 5).blk t).view.emb j) = _
  refine congrArg (V m c main_v25) (funext fun a => Fin.ext ?_)
  match a with
  | ⟨0, _⟩ => show cc0_transform_5 (grid0.coords t) 0 * 1 + 1 * (j 0).val = (j 0).val; unfold cc0_transform_5; simp
  | ⟨1, _⟩ => show cc0_transform_5 (grid0.coords t) 1 * 512 + 1 * (j 1).val = (j 1).val; unfold cc0_transform_5; simp
/-- and of the constant blocks. -/
theorem whole_6 (c : Dev nD) (t : Fin cfg0.N) (j : S512x512.Idx) : iblk m c 6 t j = V m c main_v15 j := by
  show V m c main_v15 (((cfg0.win 6).blk t).view.emb j) = _
  refine congrArg (V m c main_v15) (funext fun a => Fin.ext ?_)
  match a with
  | ⟨0, _⟩ => show cc0_transform_6 (grid0.coords t) 0 * 512 + 1 * (j 0).val = (j 0).val; unfold cc0_transform_6; simp
  | ⟨1, _⟩ => show cc0_transform_6 (grid0.coords t) 1 * 512 + 1 * (j 1).val = (j 1).val; unfold cc0_transform_6; simp

/-- What a point leaves in its buffers are the payloads of its blocks: the product's first quarter, -/
theorem out7_eq (i : grid0.Coords) (x0 x1 : Vec F S512x1024 .f32) (x2 : Vec F S1x1024 .f32) (x3 : Vec F S1024x2048 .bf16) (x4 x5 : Vec F S1x512 .f32) (x6 : Vec F S512x512 .bf16) :
    out0_7 i x0 x1 x2 x3 x4 x5 x6 = k0_pay2 i x0 x1 x2 x3 := by
  have h (a : Fin 2) : (![0, 0] : Fin 2 → ℕ) a = 0 := by fin_cases a <;> rfl
  unfold out0_7
  refine (View.canon_cons_unit_lit inb_S512x512_S512x512_0_0 _ [] h).trans ?_
  rw [show View.ld x0 r0_0 = x0 from View.ld_unit_lit inb_S512x1024_S512x1024_0_0 x0 h,
    show View.ld x1 r0_0 = x1 from View.ld_unit_lit inb_S512x1024_S512x1024_0_0 x1 h,
    show View.ld x2 r0_1 = x2 from View.ld_unit_lit inb_S1x1024_S1x1024_0_0 x2 h,
    show View.ld x3 r0_2 = x3 from View.ld_unit_lit inb_S1024x2048_S1024x2048_0_0 x3 h]
/-- the queries, -/
theorem out8_eq (i : grid0.Coords) (x0 x1 : Vec F S512x1024 .f32) (x2 : Vec F S1x1024 .f32) (x3 : Vec F S1024x2048 .bf16) (x4 x5 : Vec F S1x512 .f32) (x6 : Vec F S512x512 .bf16) :
    out0_8 i x0 x1 x2 x3 x4 x5 x6 = k0_pay10 (k0_pay4 i x0 x1 x2 x3) (k0_pay5 x4) (k0_pay8 i x0 x1 x2 x3) (k0_pay9 i x0 x1 x2 x3) x6 x6 := by
  have h (a : Fin 2) : (![0, 0] : Fin 2 → ℕ) a = 0 := by fin_cases a <;> rfl
  unfold out0_8
  refine (View.canon_cons_unit_lit inb_S512x512_S512x512_0_0 _ [] h).trans ?_
  rw [show View.ld x0 r0_0 = x0 from View.ld_unit_lit inb_S512x1024_S512x1024_0_0 x0 h,
    show View.ld x1 r0_0 = x1 from View.ld_unit_lit inb_S512x1024_S512x1024_0_0 x1 h,
    show View.ld x2 r0_1 = x2 from View.ld_unit_lit inb_S1x1024_S1x1024_0_0 x2 h,
    show View.ld x3 r0_2 = x3 from View.ld_unit_lit inb_S1024x2048_S1024x2048_0_0 x3 h,
    show View.ld x4 r0_4 = x4 from View.ld_unit_lit inb_S1x512_S1x512_0_0 x4 h,
    show View.ld x6 r0_3 = x6 from View.ld_unit_lit inb_S512x512_S512x512_0_0 x6 h]
/-- the keys, -/
theorem out9_eq (i : grid0.Coords) (x0 x1 : Vec F S512x1024 .f32) (x2 : Vec F S1x1024 .f32) (x3 : Vec F S1024x2048 .bf16) (x4 x5 : Vec F S1x512 .f32) (x6 : Vec F S512x512 .bf16) :
    out0_9 i x0 x1 x2 x3 x4 x5 x6 = k0_pay11 (k0_pay1 i x0 x1 x2 x3) x5 x6 x6 := by
  have h (a : Fin 2) : (![0, 0] : Fin 2 → ℕ) a = 0 := by fin_cases a <;> rfl
  unfold out0_9
  refine (View.canon_cons_unit_lit inb_S512x512_S512x512_0_0 _ [] h).trans ?_
  rw [show View.ld x0 r0_0 = x0 from View.ld_unit_lit inb_S512x1024_S512x1024_0_0 x0 h,
    show View.ld x1 r0_0 = x1 from View.ld_unit_lit inb_S512x1024_S512x1024_0_0 x1 h,
    show View.ld x2 r0_1 = x2 from View.ld_unit_lit inb_S1x1024_S1x1024_0_0 x2 h,
    show View.ld x3 r0_2 = x3 from View.ld_unit_lit inb_S1024x2048_S1024x2048_0_0 x3 h,
    show View.ld x5 r0_4 = x5 from View.ld_unit_lit inb_S1x512_S1x512_0_0 x5 h,
    show View.ld x6 r0_3 = x6 from View.ld_unit_lit inb_S512x512_S512x512_0_0 x6 h]
/-- and the values. -/
theorem out10_eq (i : grid0.Coords) (x0 x1 : Vec F S512x1024 .f32) (x2 : Vec F S1x1024 .f32) (x3 : Vec F S1024x2048 .bf16) (x4 x5 : Vec F S1x512 .f32) (x6 : Vec F S512x512 .bf16) :
    out0_10 i x0 x1 x2 x3 x4 x5 x6 = k0_pay3 i x0 x1 x2 x3 := by
  have h (a : Fin 2) : (![0, 0] : Fin 2 → ℕ) a = 0 := by fin_cases a <;> rfl
  unfold out0_10
  refine (View.canon_cons_unit_lit inb_S512x512_S512x512_0_0 _ [] h).trans ?_
  rw [show View.ld x0 r0_0 = x0 from View.ld_unit_lit inb_S512x1024_S512x1024_0_0 x0 h,
    show View.ld x1 r0_0 = x1 from View.ld_unit_lit inb_S512x1024_S512x1024_0_0 x1 h,
    show View.ld x2 r0_1 = x2 from View.ld_unit_lit inb_S1x1024_S1x1024_0_0 x2 h,
    show View.ld x3 r0_2 = x3 from View.ld_unit_lit inb_S1024x2048_S1024x2048_0_0 x3 h]

/-! ## The result arrays -/

/-- Where a block's entry lies in a result. -/
def place (t : Fin grid0.N) (y : S512x512.Idx) : S16896x512.Idx :=
  ix2 (n0 := 16896) (n1 := 512) ⟨t.val * 512 + (y 0).val, by
    have h : t.val < 33 := t.isLt
    have h' : (y 0).val < 512 := (y 0).isLt
    omega⟩ (y 1)

/-- Every entry of a result lies in some block. -/
theorem place_onto (i : S16896x512.Idx) : ∃ (t : Fin grid0.N) (y : S512x512.Idx), place t y = i := by
  have hi : (i 0).val < 16896 := (i 0).isLt
  refine ⟨⟨(i 0).val / 512, by show _ < 33; omega⟩, ix2 (n0 := 512) (n1 := 512) ⟨(i 0).val % 512, Nat.mod_lt _ (by decide)⟩ (i 1), funext fun a => Fin.ext ?_⟩
  match a with
  | ⟨0, _⟩ => show (i 0).val / 512 * 512 + (i 0).val % 512 = (i 0).val; omega
  | ⟨1, _⟩ => rfl

/-- A point's block of every result is the point's. -/
theorem map_result : ∀ t : Fin grid0.N, cc0_transform_7 (grid0.coords t) 0 = t.val ∧ cc0_transform_7 (grid0.coords t) 1 = 0 := by decide +kernel

/-- A block's entries lie in result 0 where `place` says. -/
theorem emb_7 (t : Fin cfg0.N) (y : S512x512.Idx) : ((cfg0.win 7).blk t).view.emb y = place t y := by
  have hm := map_result t
  refine funext fun a => Fin.ext ?_
  match a with
  | ⟨0, _⟩ => show cc0_transform_7 (grid0.coords t) 0 * 512 + 1 * (y 0).val = t.val * 512 + (y 0).val; rw [hm.1]; simp
  | ⟨1, _⟩ => show cc0_transform_7 (grid0.coords t) 1 * 512 + 1 * (y 1).val = (y 1).val; rw [hm.2]; simp
/-- A block's entries lie in result 1 where `place` says. -/
theorem emb_8 (t : Fin cfg0.N) (y : S512x512.Idx) : ((cfg0.win 8).blk t).view.emb y = place t y := by
  have hm := map_result t
  refine funext fun a => Fin.ext ?_
  match a with
  | ⟨0, _⟩ => show cc0_transform_7 (grid0.coords t) 0 * 512 + 1 * (y 0).val = t.val * 512 + (y 0).val; rw [hm.1]; simp
  | ⟨1, _⟩ => show cc0_transform_7 (grid0.coords t) 1 * 512 + 1 * (y 1).val = (y 1).val; rw [hm.2]; simp
/-- A block's entries lie in result 2 where `place` says. -/
theorem emb_9 (t : Fin cfg0.N) (y : S512x512.Idx) : ((cfg0.win 9).blk t).view.emb y = place t y := by
  have hm := map_result t
  refine funext fun a => Fin.ext ?_
  match a with
  | ⟨0, _⟩ => show cc0_transform_7 (grid0.coords t) 0 * 512 + 1 * (y 0).val = t.val * 512 + (y 0).val; rw [hm.1]; simp
  | ⟨1, _⟩ => show cc0_transform_7 (grid0.coords t) 1 * 512 + 1 * (y 1).val = (y 1).val; rw [hm.2]; simp
/-- A block's entries lie in result 3 where `place` says. -/
theorem emb_10 (t : Fin cfg0.N) (y : S512x512.Idx) : ((cfg0.win 10).blk t).view.emb y = place t y := by
  have hm := map_result t
  refine funext fun a => Fin.ext ?_
  match a with
  | ⟨0, _⟩ => show cc0_transform_7 (grid0.coords t) 0 * 512 + 1 * (y 0).val = t.val * 512 + (y 0).val; rw [hm.1]; simp
  | ⟨1, _⟩ => show cc0_transform_7 (grid0.coords t) 1 * 512 + 1 * (y 1).val = (y 1).val; rw [hm.2]; simp

section value
variable (m : (ℓ : Loc nD τ sig) → Buf (Elt Ideal) ℓ)

/-- The reference's rows of the arrays launched, -/
def inRows (c : Dev nD) : FVec Ideal Cert.Reference3Ideal.S16896x1024 .f32 :=
  Cert.Proj.rows (m ((c.tc : Thread nD τ).loc main_arg0)) (m ((c.tc : Thread nD τ).loc main_arg1))
/-- its product, -/
def prod (c : Dev nD) : FVec Ideal Cert.Reference3Ideal.S16896x2048 .f32 :=
  Cert.Proj.product (inRows m c) (m ((c.tc : Thread nD τ).loc main_arg2)) (m ((c.tc : Thread nD τ).loc main_arg3))
/-- its normalised queries -/
def qHeads (c : Dev nD) : FVec Ideal Cert.Reference3Ideal.S16896x8x64 .f32 :=
  Cert.Proj.headNormed (Cert.Proj.queries (prod m c)) (m ((c.tc : Thread nD τ).loc main_arg4))
/-- and keys. -/
def kHeads (c : Dev nD) : FVec Ideal Cert.Reference3Ideal.S16896x8x64 .f32 :=
  Cert.Proj.headNormed (Cert.Proj.keys (prod m c)) (m ((c.tc : Thread nD τ).loc main_arg5))

/-- The row of an array a block's row lies in. -/
def row (t : Fin grid0.N) (p : Fin 512) : Fin 16896 := ⟨t.val * 512 + p.val, by
  have h : t.val < 33 := t.isLt
  omega⟩

/-- The rows a point takes are the reference's. -/
theorem rows_entry (c : Dev nD) (t : Fin cfg0.N) (p : Fin 512) (k : Fin 1024) :
    (if (grid0.coords t 0).val < 32 then (iblk m c 0 t : FVec Ideal S512x1024 .f32) else iblk m c 1 t) (ix2 (n0 := 512) (n1 := 1024) p k) = inRows m c (ix2 (row t p) k) := by
  have ht : t.val < 33 := t.isLt
  rw [coord_val]
  by_cases h : t.val < 32
  · rw [if_pos h]
    refine Eq.trans ?_ (Cert.Proj.rows_long _ _ (row t p) (by show t.val * 512 + p.val < 16384; omega) k).symm
    refine Eq.trans ?_ (congrFun (V_long m c) _)
    show V m c main_v0 (((cfg0.win 0).blk t).view.emb (ix2 (n0 := 512) (n1 := 1024) p k)) = _
    refine congrArg (V m c main_v0) (funext fun a => Fin.ext ?_)
    match a with
    | ⟨0, _⟩ => show cc0_transform_0 (grid0.coords t) 0 * 512 + 1 * p.val = t.val * 512 + p.val; rw [map_long t h]; simp
    | ⟨1, _⟩ => show cc0_transform_0 (grid0.coords t) 1 * 1024 + 1 * k.val = k.val; rw [map_long_col t]; simp
  · rw [if_neg h]
    refine Eq.trans ?_ (Cert.Proj.rows_short _ _ (row t p) p (by show p.val + 16384 = t.val * 512 + p.val; omega) k).symm
    refine Eq.trans ?_ (congrFun (V_short m c) _)
    show V m c main_v1 (((cfg0.win 1).blk t).view.emb (ix2 (n0 := 512) (n1 := 1024) p k)) = _
    refine congrArg (V m c main_v1) (funext fun a => Fin.ext ?_)
    match a with
    | ⟨0, _⟩ => show cc0_transform_1 (grid0.coords t) 0 * 512 + 1 * p.val = p.val; rw [(map_short t).1]; simp
    | ⟨1, _⟩ => show cc0_transform_1 (grid0.coords t) 1 * 1024 + 1 * k.val = k.val; rw [(map_short t).2]; simp

/-- The gain's entries. -/
theorem gain_entry (c : Dev nD) (t : Fin cfg0.N) (k : Fin 1024) :
    iblk m c 2 t (ix2 (n0 := 1) (n1 := 1024) 0 k) = m ((c.tc : Thread nD τ).loc main_arg2) (ix2 (n0 := 2) (n1 := 1024) 0 k) := by
  refine (whole_2 m c t _).trans ((congrFun (V_gain m c) _).trans ?_)
  have h (g : FVec Ideal S2x1024 .f32) : shapeCast S1x1024 (shapeCast S1024 (extractStridedSlice S1x1024 ![0, 0] g slices_S2x1024_S1x1024_0_0) shapeCasts_S1x1024_S1024) shapeCasts_S1024_S1x1024 (ix2 (n0 := 1) (n1 := 1024) 0 k) = g (ix2 (n0 := 2) (n1 := 1024) 0 k) := by
    pointwise
  exact h _

/-- The weight's entries: rounding keeps an extended real. -/
theorem weight_entry (c : Dev nD) (t : Fin cfg0.N) (k : Fin 1024) (d : Fin 2048) :
    iblk m c 3 t (ix2 (n0 := 1024) (n1 := 2048) k d) = m ((c.tc : Thread nD τ).loc main_arg3) (ix3 (n0 := 1) (n1 := 1024) (n2 := 2048) 0 k d) := by
  refine (whole_3 m c t _).trans ((congrFun (V_weight m c) _).trans ?_)
  have h (w : FVec Ideal S1x1024x2048 .f32) : (truncf .bf16 (shapeCast S1024x2048 w shapeCasts_S1x1024x2048_S1024x2048 : FVec Ideal S1024x2048 .f32) bitsLt_bf16_f32 : FVec Ideal S1024x2048 .bf16) (ix2 (n0 := 1024) (n1 := 2048) k d) = w (ix3 (n0 := 1) (n1 := 1024) (n2 := 2048) 0 k d) := by
    pointwise
  exact h _

/-- A gain repeated once a head reads at an entry as the gain at the entry's place in its head. -/
theorem tiled_apply (g : FVec Ideal S1x64 .f32) (h : Fin 8) (e : Fin 64) :
    shapeCast S1x512 (shapeCast S512 (broadcastInDim S8x64 ![0, 1] bcast_S1x64_S8x64_0_1 (shapeCast S1x64 (shapeCast S64 g shapeCasts_S1x64_S64) shapeCasts_S64_S1x64)) shapeCasts_S8x64_S512) shapeCasts_S512_S1x512 (ix2 (n0 := 1) (n1 := 512) 0 (Cert.Heads.entry h e)) = g (ix2 (n0 := 1) (n1 := 64) 0 e) := by
  have h1 (x : FVec Ideal S512 .f32) (d : Fin 512) : shapeCast S1x512 x shapeCasts_S512_S1x512 (ix2 (n0 := 1) (n1 := 512) 0 d) = x (ix1 d) := by
    pointwise
  have h2 (x : FVec Ideal S8x64 .f32) : shapeCast S512 x shapeCasts_S8x64_S512 (ix1 (Cert.Heads.entry h e)) = x (ix2 h e) :=
    shapeCast_apply _ _ (ix1 (n0 := 512) (Cert.Heads.entry h e)) (ix2 (n0 := 8) (n1 := 64) h e) (by
      rw [Shape.rowMajor_val_one, Shape.rowMajor_val_two]
      rfl)
  rw [h1, h2]
  pointwise

/-- The queries' gain's entries -/
theorem qgain_entry (c : Dev nD) (t : Fin cfg0.N) (h : Fin 8) (e : Fin 64) :
    iblk m c 4 t (ix2 (n0 := 1) (n1 := 512) 0 (Cert.Heads.entry h e)) = m ((c.tc : Thread nD τ).loc main_arg4) (ix2 (n0 := 1) (n1 := 64) 0 e) :=
  (whole_4 m c t _).trans ((congrFun (V_qgain m c) _).trans (tiled_apply _ h e))
/-- and the keys'. -/
theorem kgain_entry (c : Dev nD) (t : Fin cfg0.N) (h : Fin 8) (e : Fin 64) :
    iblk m c 5 t (ix2 (n0 := 1) (n1 := 512) 0 (Cert.Heads.entry h e)) = m ((c.tc : Thread nD τ).loc main_arg5) (ix2 (n0 := 1) (n1 := 64) 0 e) :=
  (whole_5 m c t _).trans ((congrFun (V_kgain m c) _).trans (tiled_apply _ h e))
/-- The constant blocks' entries. -/
theorem blocks_entry (c : Dev nD) (t : Fin cfg0.N) (j d : Fin 512) : iblk m c 6 t (ix2 (n0 := 512) (n1 := 512) j d) = Cert.Heads.share j d :=
  (whole_6 m c t _).trans ((congrFun (V_blocks m c) _).trans (Cert.Proj.kron_apply j d))

/-- A point's product holds the reference's rows. -/
theorem prod_entry (c : Dev nD) (t : Fin cfg0.N) (p : Fin 512) (d : Fin 2048) :
    k0_pay1 (F := Ideal) (grid0.coords t) (iblk m c 0 t) (iblk m c 1 t) (iblk m c 2 t) (iblk m c 3 t) (ix2 p d) = prod m c (ix2 (row t p) d) := by
  refine (Cert.Proj.pay1_apply (grid0.coords t) (iblk m c 0 t) (iblk m c 1 t) (iblk m c 2 t) (iblk m c 3 t) p d).trans ?_
  refine Eq.trans ?_ (Cert.Proj.product_apply _ _ _ _ _).symm
  have hx := rows_entry m c t p
  have hg := gain_entry m c t
  have hw := fun k => weight_entry m c t k d
  simp only [hx, hg, hw]

/-! ## The precondition -/

/-- The arrays launched hold reals where the queries and the keys are made of them: the gain, the first layer's, and
    the second and third quarters of the weight. -/
def Reals (c : Dev nD) : Prop :=
  (∀ k : Fin 1024, Cert.Heads.Real? (m ((c.tc : Thread nD τ).loc main_arg2) (ix2 (n0 := 2) (n1 := 1024) 0 k)))
    ∧ ∀ (k : Fin 1024) (d : Fin 2048), 512 ≤ d.val → d.val < 1536 → Cert.Heads.Real? (m ((c.tc : Thread nD τ).loc main_arg3) (ix3 (n0 := 1) (n1 := 1024) (n2 := 2048) 0 k d))

/-- An array whose magnitudes compare at most the format's greatest finite number holds a real where one compares so. -/
theorem real_of_cmp {x : EReal} (h : Ideal.cmp .ole (max x (-x)) (Ideal.ofBits .f32 0x7F7FFFFF#32) = 1#1) : Cert.Heads.Real? x := by
  refine .of_abs_le Cert.Heads.greatest_ne_top ?_
  by_contra hn
  simp [Ideal.cmp, hn] at h

/-- The precondition says so. -/
theorem reals_of_pre (x : FVec Ideal S2x8192x1024 .f32) (y : FVec Ideal S8x64x1024 .f32) (g : FVec Ideal S2x1024 .f32) (w : FVec Ideal S1x1024x2048 .f32) (a b : FVec Ideal S1x64 .f32)
    (h : Cert.Pre_finite_weights.fn (F := Ideal) x y g w a b = fun _ => 1#1) :
    (∀ k : Fin 1024, Cert.Heads.Real? (g (ix2 (n0 := 2) (n1 := 1024) 0 k)))
      ∧ ∀ (k : Fin 1024) (d : Fin 2048), 512 ≤ d.val → d.val < 1536 → Cert.Heads.Real? (w (ix3 (n0 := 1) (n1 := 1024) (n2 := 2048) 0 k d)) := by
  haveI : Subsingleton Cert.Pre_finite_weights.S_.Idx := ⟨fun _ _ => funext fun a => a.elim0⟩
  have e := congrFun h (fun a => a.elim0)
  have and_one : ∀ a b : BitVec 1, IntOp.andi a b = 1#1 → a = 1#1 ∧ b = 1#1 := by decide
  unfold Cert.Pre_finite_weights.fn at e
  obtain ⟨eg, ew⟩ := and_one _ _ e
  refine ⟨fun k => ?_, fun k d h1 h2 => ?_⟩
  · have hk := real_of_cmp (Host.reduce_andi_all _ _ _ _ _ eg (ix2 (n0 := 1) (n1 := 1024) 0 k))
    have e : extractStridedSlice Cert.Pre_finite_weights.S1x1024 ![0, 0] g Cert.Pre_finite_weights.Facts.slices_S2x1024_S1x1024_0_0 (ix2 (n0 := 1) (n1 := 1024) 0 k) = g (ix2 (n0 := 2) (n1 := 1024) 0 k) :=
      extractStridedSlice_apply _ _ _ _ (ix2 (n0 := 2) (n1 := 1024) 0 k) (fun a => by fin_cases a <;> simp)
    exact e ▸ hk
  · have hk := real_of_cmp (Host.reduce_andi_all _ _ _ _ _ ew (ix3 (n0 := 1) (n1 := 1024) (n2 := 1024) 0 k ⟨d.val - 512, by omega⟩))
    have e : extractStridedSlice Cert.Pre_finite_weights.S1x1024x1024 ![0, 0, 512] w Cert.Pre_finite_weights.Facts.slices_S1x1024x2048_S1x1024x1024_0_0_512 (ix3 (n0 := 1) (n1 := 1024) (n2 := 1024) 0 k ⟨d.val - 512, by omega⟩)
        = w (ix3 (n0 := 1) (n1 := 1024) (n2 := 2048) 0 k d) :=
      extractStridedSlice_apply _ _ _ _ (ix3 (n0 := 1) (n1 := 1024) (n2 := 2048) 0 k d) (fun a => by
        match a with
        | ⟨0, _⟩ => rfl
        | ⟨1, _⟩ => show k.val = 0 + k.val; omega
        | ⟨2, _⟩ => show d.val = 512 + (d.val - 512); omega)
    exact e ▸ hk

/-- Then the product is real in its second and third quarters. -/
theorem prod_real (c : Dev nD) (h : Reals m c) (r : Fin 16896) (d : Fin 2048) (h1 : 512 ≤ d.val) (h2 : d.val < 1536) : Cert.Heads.Real? (prod m c (ix2 r d)) := by
  unfold prod
  rw [Cert.Proj.product_apply]
  exact Cert.Proj.line_real h.1 (fun k => h.2 k d h1 h2)

/-! ## The blocks -/

/-- Every entry of a row lies in a head. -/
theorem entry_onto (d : Fin 512) : ∃ (h : Fin 8) (e : Fin 64), d = Cert.Heads.entry h e :=
  ⟨⟨d.val / 64, by omega⟩, ⟨d.val % 64, by omega⟩, Fin.ext (by show d.val = d.val / 64 * 64 + d.val % 64; omega)⟩

/-- An index of a block by its row and its entry's head. -/
theorem idx_onto (y : S512x512.Idx) : ∃ (p : Fin 512) (h : Fin 8) (e : Fin 64), y = ix2 (n0 := 512) (n1 := 512) p (Cert.Heads.entry h e) := by
  obtain ⟨h, e, he⟩ := entry_onto (y 1)
  refine ⟨y 0, h, e, ?_⟩
  funext a
  match a with
  | ⟨0, _⟩ => rfl
  | ⟨1, _⟩ => exact he

/-- The first result's block, -/
theorem block_7 (c : Dev nD) (t : Fin cfg0.N) (y : S512x512.Idx) :
    (dats m 0 c).after 7 t y = Cert.Proj.firstR (prod m c) (place t y) := by
  obtain ⟨p, h, e, rfl⟩ := idx_onto y
  rw [after0_7]
  refine (congrFun (out7_eq (grid0.coords t) (iblk m c 0 t) (iblk m c 1 t) (iblk m c 2 t) (iblk m c 3 t) (iblk m c 4 t) (iblk m c 5 t) (iblk m c 6 t)) _).trans ?_
  exact (Cert.Proj.pay2_apply (grid0.coords t) (iblk m c 0 t) (iblk m c 1 t) (iblk m c 2 t) (iblk m c 3 t) p (Cert.Heads.entry h e)).trans
    ((prod_entry m c t p _).trans (Cert.Proj.firstR_apply (prod m c) (row t p) (Cert.Heads.entry h e)).symm)

/-- the values' -/
theorem block_10 (c : Dev nD) (t : Fin cfg0.N) (y : S512x512.Idx) :
    (dats m 0 c).after 10 t y = Cert.Proj.flat (Cert.Proj.vals (prod m c)) (place t y) := by
  obtain ⟨p, h, e, rfl⟩ := idx_onto y
  rw [after0_10]
  refine (congrFun (out10_eq (grid0.coords t) (iblk m c 0 t) (iblk m c 1 t) (iblk m c 2 t) (iblk m c 3 t) (iblk m c 4 t) (iblk m c 5 t) (iblk m c 6 t)) _).trans ?_
  exact (Cert.Proj.pay3_apply (grid0.coords t) (iblk m c 0 t) (iblk m c 1 t) (iblk m c 2 t) (iblk m c 3 t) p (Cert.Heads.entry h e)).trans
    ((prod_entry m c t p _).trans ((Cert.Proj.flat_apply (Cert.Proj.vals (prod m c)) (row t p) h e).trans (Cert.Proj.vals_apply (prod m c) (row t p) h e)).symm)

/-- the keys', -/
theorem block_9 (c : Dev nD) (hr : Reals m c) (t : Fin cfg0.N) (y : S512x512.Idx) :
    (dats m 0 c).after 9 t y = Cert.Proj.flat (kHeads m c) (place t y) := by
  obtain ⟨p, h, e, rfl⟩ := idx_onto y
  rw [after0_9]
  refine (congrFun (out9_eq (grid0.coords t) (iblk m c 0 t) (iblk m c 1 t) (iblk m c 2 t) (iblk m c 3 t) (iblk m c 4 t) (iblk m c 5 t) (iblk m c 6 t)) _).trans ?_
  refine (Cert.Proj.pay11_apply (k0_pay1 (F := Ideal) (grid0.coords t) (iblk m c 0 t) (iblk m c 1 t) (iblk m c 2 t) (iblk m c 3 t)) (iblk m c 5 t) (iblk m c 6 t) p (Cert.Heads.entry h e)).trans ?_
  refine Eq.trans ?_ ((Cert.Proj.flat_apply (kHeads m c) (row t p) h e).trans (Cert.Proj.headNormed_apply _ _ (row t p) h e)).symm
  have hp := prod_entry m c t p
  have hb := blocks_entry m c t
  have hg := kgain_entry m c t h e
  simp only [hp, hb, hg, Cert.Proj.keys_apply]
  rw [Cert.Heads.mean_head (t := fun j => prod m c (ix2 (row t p) (⟨1024 + j.val, by omega⟩ : Fin 2048))) (fun j => prod_real m c hr _ _ (by show 512 ≤ 1024 + j.val; omega) (by show 1024 + j.val < 1536; omega)) h e]

/-- and the queries'. -/
theorem block_8 (c : Dev nD) (hr : Reals m c) (t : Fin cfg0.N) (y : S512x512.Idx) :
    (dats m 0 c).after 8 t y = Cert.Proj.scaled (qHeads m c) (place t y) := by
  obtain ⟨p, h, e, rfl⟩ := idx_onto y
  rw [after0_8]
  refine (congrFun (out8_eq (grid0.coords t) (iblk m c 0 t) (iblk m c 1 t) (iblk m c 2 t) (iblk m c 3 t) (iblk m c 4 t) (iblk m c 5 t) (iblk m c 6 t)) _).trans ?_
  refine (Cert.Proj.pay10_apply (k0_pay4 (F := Ideal) (grid0.coords t) (iblk m c 0 t) (iblk m c 1 t) (iblk m c 2 t) (iblk m c 3 t)) (k0_pay5 (iblk m c 4 t))
    (k0_pay8 (grid0.coords t) (iblk m c 0 t) (iblk m c 1 t) (iblk m c 2 t) (iblk m c 3 t)) (k0_pay9 (grid0.coords t) (iblk m c 0 t) (iblk m c 1 t) (iblk m c 2 t) (iblk m c 3 t)) (iblk m c 6 t) p (Cert.Heads.entry h e)).trans ?_
  refine Eq.trans ?_ ((Cert.Proj.scaled_apply (qHeads m c) (row t p) h e).trans (congrArg (· * Ideal.ofBits .f32 0x3E000000#32) (Cert.Proj.headNormed_apply _ _ (row t p) h e))).symm
  have h4 (d : Fin 512) : k0_pay4 (F := Ideal) (grid0.coords t) (iblk m c 0 t) (iblk m c 1 t) (iblk m c 2 t) (iblk m c 3 t) (ix2 p d) = prod m c (ix2 (row t p) (⟨512 + d.val, by omega⟩ : Fin 2048)) :=
    (Cert.Proj.pay4_apply (grid0.coords t) (iblk m c 0 t) (iblk m c 1 t) (iblk m c 2 t) (iblk m c 3 t) p d).trans (prod_entry m c t p _)
  have h8 (d : Fin 512) : k0_pay8 (F := Ideal) (grid0.coords t) (iblk m c 0 t) (iblk m c 1 t) (iblk m c 2 t) (iblk m c 3 t) (ix2 p d) = prod m c (ix2 (row t p) (⟨512 + d.val, by omega⟩ : Fin 2048)) * prod m c (ix2 (row t p) (⟨512 + d.val, by omega⟩ : Fin 2048)) :=
    (show _ = k0_pay4 (F := Ideal) (grid0.coords t) (iblk m c 0 t) (iblk m c 1 t) (iblk m c 2 t) (iblk m c 3 t) (ix2 p d)
      * k0_pay4 (F := Ideal) (grid0.coords t) (iblk m c 0 t) (iblk m c 1 t) (iblk m c 2 t) (iblk m c 3 t) (ix2 p d) from rfl).trans (by rw [h4])
  have h9 (d : Fin 512) : k0_pay9 (F := Ideal) (grid0.coords t) (iblk m c 0 t) (iblk m c 1 t) (iblk m c 2 t) (iblk m c 3 t) (ix2 p d) = prod m c (ix2 (row t p) (⟨512 + d.val, by omega⟩ : Fin 2048)) * prod m c (ix2 (row t p) (⟨512 + d.val, by omega⟩ : Fin 2048)) - prod m c (ix2 (row t p) (⟨512 + d.val, by omega⟩ : Fin 2048)) * prod m c (ix2 (row t p) (⟨512 + d.val, by omega⟩ : Fin 2048)) := by
    have h : k0_pay9 (F := Ideal) (grid0.coords t) (iblk m c 0 t) (iblk m c 1 t) (iblk m c 2 t) (iblk m c 3 t) (ix2 p d)
        = k0_pay4 (F := Ideal) (grid0.coords t) (iblk m c 0 t) (iblk m c 1 t) (iblk m c 2 t) (iblk m c 3 t) (ix2 p d) * k0_pay4 (F := Ideal) (grid0.coords t) (iblk m c 0 t) (iblk m c 1 t) (iblk m c 2 t) (iblk m c 3 t) (ix2 p d)
          - k0_pay4 (F := Ideal) (grid0.coords t) (iblk m c 0 t) (iblk m c 1 t) (iblk m c 2 t) (iblk m c 3 t) (ix2 p d) * k0_pay4 (F := Ideal) (grid0.coords t) (iblk m c 0 t) (iblk m c 1 t) (iblk m c 2 t) (iblk m c 3 t) (ix2 p d) := rfl
    rw [h, h4]
  have h5 : k0_pay5 (F := Ideal) (iblk m c 4 t) (ix2 (0 : Fin 1) (Cert.Heads.entry h e)) = m ((c.tc : Thread nD τ).loc main_arg4) (ix2 (n0 := 1) (n1 := 64) 0 e) :=
    (congrFun (shapeCast_self (s := S1x512) (iblk m c 4 t) shapeCasts_S1x512_S1x512) _).trans (qgain_entry m c t h e)
  have hb := blocks_entry m c t
  simp only [h4, h8, h9, h5, hb, Cert.Proj.queries_apply]
  rw [Cert.Heads.mean_head (t := fun j => prod m c (ix2 (row t p) (⟨512 + j.val, by omega⟩ : Fin 2048))) (fun j => prod_real m c hr _ _ (by show 512 ≤ 512 + j.val; omega) (by show 512 + j.val < 1536; omega)) h e]

/-! ## The run's result arrays -/

/-- The first is the reference's, -/
theorem arr_7 (c : Dev nD) : (dats m 0 c).arrAt 7 cfg0.N = Cert.Proj.firstR (prod m c) := by
  refine (dats m 0 c).arrAt_eq_of_emb 7 (Cert.Proj.firstR (prod m c)) (fun t hf y => ?_) (fun i => ?_)
  · exact (block_7 m c t y).trans (congrArg (Cert.Proj.firstR (prod m c)) (emb_7 t y)).symm
  · obtain ⟨t, y, h⟩ := place_onto i
    refine ⟨t, flush0_7 t, ?_⟩
    have e : ((cfg0.win 7).blk t).view.emb y = i := (emb_7 t y).trans h
    rw [← e]
    exact View.emb_mem_set _ _

/-- so the queries, -/
theorem arr_8 (c : Dev nD) (hr : Reals m c) : (dats m 0 c).arrAt 8 cfg0.N = Cert.Proj.scaled (qHeads m c) := by
  refine (dats m 0 c).arrAt_eq_of_emb 8 (Cert.Proj.scaled (qHeads m c)) (fun t hf y => ?_) (fun i => ?_)
  · exact (block_8 m c hr t y).trans (congrArg (Cert.Proj.scaled (qHeads m c)) (emb_8 t y)).symm
  · obtain ⟨t, y, h⟩ := place_onto i
    refine ⟨t, flush0_8 t, ?_⟩
    have e : ((cfg0.win 8).blk t).view.emb y = i := (emb_8 t y).trans h
    rw [← e]
    exact View.emb_mem_set _ _

/-- the keys -/
theorem arr_9 (c : Dev nD) (hr : Reals m c) : (dats m 0 c).arrAt 9 cfg0.N = Cert.Proj.flat (kHeads m c) := by
  refine (dats m 0 c).arrAt_eq_of_emb 9 (Cert.Proj.flat (kHeads m c)) (fun t hf y => ?_) (fun i => ?_)
  · exact (block_9 m c hr t y).trans (congrArg (Cert.Proj.flat (kHeads m c)) (emb_9 t y)).symm
  · obtain ⟨t, y, h⟩ := place_onto i
    refine ⟨t, flush0_9 t, ?_⟩
    have e : ((cfg0.win 9).blk t).view.emb y = i := (emb_9 t y).trans h
    rw [← e]
    exact View.emb_mem_set _ _

/-- and the values. -/
theorem arr_10 (c : Dev nD) : (dats m 0 c).arrAt 10 cfg0.N = Cert.Proj.flat (Cert.Proj.vals (prod m c)) := by
  refine (dats m 0 c).arrAt_eq_of_emb 10 (Cert.Proj.flat (Cert.Proj.vals (prod m c))) (fun t hf y => ?_) (fun i => ?_)
  · exact (block_10 m c t y).trans (congrArg (Cert.Proj.flat (Cert.Proj.vals (prod m c))) (emb_10 t y)).symm
  · obtain ⟨t, y, h⟩ := place_onto i
    refine ⟨t, flush0_10 t, ?_⟩
    have e : ((cfg0.win 10).blk t).view.emb y = i := (emb_10 t y).trans h
    rw [← e]
    exact View.emb_mem_set _ _

/-! ## The lines after the region -/

/-- What the buffers hold when the region ends. -/
def exit (c : Dev nD) : Valuation τ sig (Elt Ideal) :=
  Pipeline.withArrays spec0 c (V0 m c) fun w => (dats m 0 c).arrAt w cfg0.N

/-- The keys' buffer holds the run's keys, -/
theorem exit_keys (c : Dev nD) (hr : Reals m c) : exit m c (Proc.devRef .tc main_v26_2) = Cert.Proj.flat (kHeads m c) :=
  (Pipeline.withArrays_arr spec0 launch0.win.arr_inj c (V0 m c) (fun w => (dats m 0 c).arrAt w cfg0.N) 9).trans (arr_9 m c hr)
/-- and the values' the run's values. -/
theorem exit_vals (c : Dev nD) : exit m c (Proc.devRef .tc main_v26_3) = Cert.Proj.flat (Cert.Proj.vals (prod m c)) :=
  (Pipeline.withArrays_arr spec0 launch0.win.arr_inj c (V0 m c) (fun w => (dats m 0 c).arrAt w cfg0.N) 10).trans (arr_10 m c)

/-- The lines leave in four results' buffers the cut of the keys, the long sequences' -/
theorem lines_kept_keys (W : Valuation τ sig (Elt Ideal)) :
    StableHlo.after (List.flatten [hostOps1]) W (Proc.devRef .tc main_v31) = Cert.Proj.keptK (W (Proc.devRef .tc main_v26_2)) := by
  simp only [hostOps1, List.flatten_cons, List.flatten_nil, List.append_nil, List.cons_append, List.nil_append]
  after_results_simp <;> rfl
/-- and of the values, -/
theorem lines_kept_vals (W : Valuation τ sig (Elt Ideal)) :
    StableHlo.after (List.flatten [hostOps1]) W (Proc.devRef .tc main_v36) = Cert.Proj.keptK (W (Proc.devRef .tc main_v26_3)) := by
  simp only [hostOps1, List.flatten_cons, List.flatten_nil, List.append_nil, List.cons_append, List.nil_append]
  after_results_simp <;> rfl
/-- and the short sequences' of the keys -/
theorem lines_new_keys (W : Valuation τ sig (Elt Ideal)) :
    StableHlo.after (List.flatten [hostOps1]) W (Proc.devRef .tc main_v39) = Cert.Proj.newK (W (Proc.devRef .tc main_v26_2)) := by
  simp only [hostOps1, List.flatten_cons, List.flatten_nil, List.append_nil, List.cons_append, List.nil_append]
  after_results_simp <;> rfl
/-- and of the values. -/
theorem lines_new_vals (W : Valuation τ sig (Elt Ideal)) :
    StableHlo.after (List.flatten [hostOps1]) W (Proc.devRef .tc main_v42) = Cert.Proj.newK (W (Proc.devRef .tc main_v26_3)) := by
  simp only [hostOps1, List.flatten_cons, List.flatten_nil, List.append_nil, List.cons_append, List.nil_append]
  after_results_simp <;> rfl
/-- The kept keys are the reference's, -/
theorem tail_kept_keys (c : Dev nD) (hr : Reals m c) : Pipeline.afterTail₀ cfgs (dats m) 0 (V0 m) [hostOps1] c main_v31 = Cert.Proj.keptR (kHeads m c) :=
  (lines_kept_keys (exit m c)).trans ((congrArg Cert.Proj.keptK (exit_keys m c hr)).trans (Cert.Proj.keptK_flat _))
/-- the kept values, -/
theorem tail_kept_vals (c : Dev nD) : Pipeline.afterTail₀ cfgs (dats m) 0 (V0 m) [hostOps1] c main_v36 = Cert.Proj.keptR (Cert.Proj.vals (prod m c)) :=
  (lines_kept_vals (exit m c)).trans ((congrArg Cert.Proj.keptK (exit_vals m c)).trans (Cert.Proj.keptK_flat _))
/-- the new keys -/
theorem tail_new_keys (c : Dev nD) (hr : Reals m c) : Pipeline.afterTail₀ cfgs (dats m) 0 (V0 m) [hostOps1] c main_v39 = Cert.Proj.newR (kHeads m c) :=
  (lines_new_keys (exit m c)).trans ((congrArg Cert.Proj.newK (exit_keys m c hr)).trans (Cert.Proj.newK_flat _))
/-- and the new values. -/
theorem tail_new_vals (c : Dev nD) : Pipeline.afterTail₀ cfgs (dats m) 0 (V0 m) [hostOps1] c main_v42 = Cert.Proj.newR (Cert.Proj.vals (prod m c)) :=
  (lines_new_vals (exit m c)).trans ((congrArg Cert.Proj.newK (exit_vals m c)).trans (Cert.Proj.newK_flat _))

end value

end Cert.Kernel3Ideal.InProj

end
-- ==== Proof.PostMath.lean ====
/- The product after each layer's mixer, added to the layer's rows, entry by entry over the extended reals: the kernel's
   blocks and the reference's arrays. -/
module

public import proofs.«01_k».proof.Proof.Gen.Kernel4Ideal.Skeleton
public import proofs.«01_k».proof.Proof.Gen.Kernel5Ideal.Skeleton
public import proofs.«01_k».proof.Proof.Gen.Reference4Ideal
public import proofs.«01_k».proof.Proof.Gen.Reference5Ideal
public import Idealize.ShloMosaic.Lib.Pointwise
public import Idealize.ShloMosaic.Lib.Pipeline.Value

@[expose] public section

set_option maxRecDepth 16384

noncomputable section

namespace Cert.PostMath

open Idealize.ShloMosaic

/-- The kernel takes its first choice at the first 32 points and its second at the last. -/
theorem chosen {α : Type} (i : Fin 33) (x y : α) : Scalar.select (Scalar.cmpi .slt (BitVec.ofNat 32 i.val) 32#32) x y = if i.val < 32 then x else y := by
  have hk : ∀ v : Fin 33, Scalar.cmpi .slt (BitVec.ofNat 32 v.val) 32#32 = if v.val < 32 then 1#1 else 0#1 := by decide +kernel
  rw [hk i]
  by_cases hi : i.val < 32
  · rw [if_pos hi, if_pos hi]; rfl
  · rw [if_neg hi, if_neg hi]; rfl

/-- A sum over 1024 is the sum over its first 512 and over its last. -/
theorem sum_halves (f : Fin 1024 → EReal) : ∑ k : Fin 1024, f k = (∑ k : Fin 512, f ⟨k.val, by omega⟩) + ∑ k : Fin 512, f ⟨512 + k.val, by omega⟩ :=
  Fin.sum_univ_add (a := 512) (b := 512) f

section first
open Cert.Kernel4Ideal Cert.Kernel4Ideal.Gen

/-- The first layer's block read at an entry. -/
theorem block4_apply (i : grid0.Coords) (x y : FVec Ideal S512x1024 .f32) (a b : FVec Ideal S512x512 .bf16) (u : FVec Ideal S512x1024 .bf16)
    (c d : FVec Ideal S512x512 .bf16) (v : FVec Ideal S512x1024 .bf16) (p : Fin 512) (e : Fin 1024) :
    k0_pay3 (F := Ideal) i x y a b u c d v (ix2 p e)
      = (if (i 0).val < 32 then x else y) (ix2 p e) + (∑ k : Fin 512, (if (i 0).val < 32 then a else b) (ix2 p k) * u (ix2 k e))
        + ∑ k : Fin 512, (if (i 0).val < 32 then c else d) (ix2 p k) * v (ix2 k e) := by
  have h1 : Scalar.select (Scalar.cmpi .slt (BitVec.ofNat 32 (i 0).val) 32#32) (shapeCast S512x1024 x shapeCasts_S512x1024_S512x1024) (shapeCast S512x1024 y shapeCasts_S512x1024_S512x1024) = (if (i 0).val < 32 then x else y) := by
    rw [shapeCast_self, shapeCast_self]
    exact chosen (i 0) x y
  have h2 : Scalar.select (Scalar.cmpi .slt (BitVec.ofNat 32 (i 0).val) 32#32) a b = (if (i 0).val < 32 then a else b) := chosen (i 0) a b
  have h3 : Scalar.select (Scalar.cmpi .slt (BitVec.ofNat 32 (i 0).val) 32#32) c d = (if (i 0).val < 32 then c else d) := chosen (i 0) c d
  unfold k0_pay3
  simp only [h1, h2, h3]
  generalize (if (i 0).val < 32 then x else y) = z
  generalize (if (i 0).val < 32 then a else b) = z1
  generalize (if (i 0).val < 32 then c else d) = z2
  pointwise

end first

section firstReference
open Cert.Reference4Ideal Cert.Reference4Ideal.Gen

/-- The reference's rows: the long sequences' and then the short ones'. -/
def rows (a : FVec Ideal S2x8192x1024 .f32) (b : FVec Ideal S8x64x1024 .f32) : FVec Ideal S16896x1024 .f32 :=
  concatenate S16896x1024 0 [⟨S16384x1024, (shapeCast _ a shapeCasts_S2x8192x1024_S16384x1024)⟩, ⟨S512x1024, (shapeCast _ b shapeCasts_S8x64x1024_S512x1024)⟩] concatenates_S16384x1024_S512x1024_S16896x1024_d0

/-- A half of its mixer's rows. -/
def half (a : FVec Ideal S16384x512 .bf16) (b : FVec Ideal S512x512 .bf16) : FVec Ideal S16896x512 .bf16 :=
  concatenate S16896x512 0 [⟨S16384x512, a⟩, ⟨S512x512, b⟩] concatenates_S16384x512_S512x512_S16896x512_d0

/-- Its mixer's rows: the recurrence's half beside the attention's. -/
def both (s t : FVec Ideal S16896x512 .bf16) : FVec Ideal S16896x1024 .bf16 :=
  concatenate S16896x1024 1 [⟨S16896x512, s⟩, ⟨S16896x512, t⟩] concatenates_S16896x512_S16896x512_S16896x1024_d1

/-- Its result. -/
def added (x : FVec Ideal S16896x1024 .f32) (y : FVec Ideal S16896x1024 .bf16) (w : FVec Ideal S1x1024x1024 .f32) : FVec Ideal S16896x1024 .f32 :=
  addf x (Host.dotGeneral dot_S16896x1024_S1024x1024_S16896x1024_1_0_0_1_n_n none (extf .f32 y bitsLt_bf16_f32) (shapeCast _ w shapeCasts_S1x1024x1024_S1024x1024))

/-- A row of the long sequences. -/
theorem rows_long (a : FVec Ideal S2x8192x1024 .f32) (b : FVec Ideal S8x64x1024 .f32) (r : Fin 16896) (hr : r.val < 16384) (k : Fin 1024) :
    rows a b (ix2 r k) = shapeCast S16384x1024 a shapeCasts_S2x8192x1024_S16384x1024 (ix2 (n0 := 16384) (n1 := 1024) ⟨r.val, hr⟩ k) := by
  unfold rows
  exact concatenate_pair_apply_left (t := S16896x1024) (s₁ := S16384x1024) (s₂ := S512x1024) 0 _ _ _ _ rfl (ix2 (n0 := 16384) (n1 := 1024) ⟨r.val, hr⟩ k)
    (fun a => by fin_cases a <;> rfl)
/-- A row of the short sequences. -/
theorem rows_short (a : FVec Ideal S2x8192x1024 .f32) (b : FVec Ideal S8x64x1024 .f32) (r : Fin 16896) (q : Fin 512) (hr : q.val + 16384 = r.val) (k : Fin 1024) :
    rows a b (ix2 r k) = shapeCast S512x1024 b shapeCasts_S8x64x1024_S512x1024 (ix2 (n0 := 512) (n1 := 1024) q k) := by
  unfold rows
  exact concatenate_pair_apply_right (t := S16896x1024) (s₁ := S16384x1024) (s₂ := S512x1024) 0 _ _ _ _ rfl rfl (ix2 (n0 := 512) (n1 := 1024) q k)
    (fun a ha => by
      match a with
      | ⟨0, _⟩ => exact absurd rfl ha
      | ⟨1, _⟩ => rfl) hr
/-- A mixer's row of the long sequences. -/
theorem half_long (a : FVec Ideal S16384x512 .bf16) (b : FVec Ideal S512x512 .bf16) (r : Fin 16896) (hr : r.val < 16384) (k : Fin 512) :
    half a b (ix2 r k) = a (ix2 (n0 := 16384) (n1 := 512) ⟨r.val, hr⟩ k) := by
  unfold half
  exact concatenate_pair_apply_left (t := S16896x512) (s₁ := S16384x512) (s₂ := S512x512) 0 _ _ _ _ rfl (ix2 (n0 := 16384) (n1 := 512) ⟨r.val, hr⟩ k)
    (fun a => by fin_cases a <;> rfl)
/-- A mixer's row of the short sequences. -/
theorem half_short (a : FVec Ideal S16384x512 .bf16) (b : FVec Ideal S512x512 .bf16) (r : Fin 16896) (q : Fin 512) (hr : q.val + 16384 = r.val) (k : Fin 512) :
    half a b (ix2 r k) = b (ix2 (n0 := 512) (n1 := 512) q k) := by
  unfold half
  exact concatenate_pair_apply_right (t := S16896x512) (s₁ := S16384x512) (s₂ := S512x512) 0 _ _ _ _ rfl rfl (ix2 (n0 := 512) (n1 := 512) q k)
    (fun a ha => by
      match a with
      | ⟨0, _⟩ => exact absurd rfl ha
      | ⟨1, _⟩ => rfl) hr
/-- The recurrence's half. -/
theorem both_left (s t : FVec Ideal S16896x512 .bf16) (r : Fin 16896) (k : Fin 512) :
    both s t (ix2 r (⟨k.val, by omega⟩ : Fin 1024)) = s (ix2 r k) := by
  unfold both
  exact concatenate_pair_apply_left (t := S16896x1024) (s₁ := S16896x512) (s₂ := S16896x512) 1 _ _ _ _ rfl (ix2 (n0 := 16896) (n1 := 512) r k)
    (fun a => by fin_cases a <;> rfl)
/-- The attention's half. -/
theorem both_right (s t : FVec Ideal S16896x512 .bf16) (r : Fin 16896) (k : Fin 512) :
    both s t (ix2 r (⟨512 + k.val, by omega⟩ : Fin 1024)) = t (ix2 r k) := by
  unfold both
  exact concatenate_pair_apply_right (t := S16896x1024) (s₁ := S16896x512) (s₂ := S16896x512) 1 _ _ _ _ rfl rfl (ix2 (n0 := 16896) (n1 := 512) r k)
    (fun a ha => by
      match a with
      | ⟨0, _⟩ => rfl
      | ⟨1, _⟩ => exact absurd rfl ha) (Nat.add_comm _ _)

/-- The result read at an entry. -/
theorem added_apply (x : FVec Ideal S16896x1024 .f32) (y : FVec Ideal S16896x1024 .bf16) (w : FVec Ideal S1x1024x1024 .f32) (r : Fin 16896) (e : Fin 1024) :
    added x y w (ix2 r e) = x (ix2 r e) + ∑ k : Fin 1024, y (ix2 r k) * w (ix3 (0 : Fin 1) k e) := by
  pointwise! [added]

/-- The result read at an entry, its two halves apart. -/
theorem added_both (x : FVec Ideal S16896x1024 .f32) (s t : FVec Ideal S16896x512 .bf16) (w : FVec Ideal S1x1024x1024 .f32) (r : Fin 16896) (e : Fin 1024) :
    added x (both s t) w (ix2 r e)
      = x (ix2 r e) + (∑ k : Fin 512, s (ix2 r k) * w (ix3 (0 : Fin 1) (⟨k.val, by omega⟩ : Fin 1024) e)) + ∑ k : Fin 512, t (ix2 r k) * w (ix3 (0 : Fin 1) (⟨512 + k.val, by omega⟩ : Fin 1024) e) := by
  rw [added_apply, sum_halves, ← add_assoc]
  simp only [both_left, both_right]

end firstReference

section second
open Cert.Kernel5Ideal Cert.Kernel5Ideal.Gen

/-- The second layer's block read at an entry. -/
theorem block5_apply (i : grid0.Coords) (x : FVec Ideal S512x1024 .f32) (a b : FVec Ideal S512x1024 .bf16) (u : FVec Ideal S1024x1024 .bf16) (p : Fin 512) (e : Fin 1024) :
    k0_pay3 (F := Ideal) i x a b u (ix2 p e)
      = x (ix2 p e) + ∑ k : Fin 1024, (if (i 0).val < 32 then a else b) (ix2 p k) * u (ix2 k e) := by
  have h2 : Scalar.select (Scalar.cmpi .slt (BitVec.ofNat 32 (i 0).val) 32#32) a b = (if (i 0).val < 32 then a else b) := chosen (i 0) a b
  unfold k0_pay3
  simp only [h2]
  generalize (if (i 0).val < 32 then a else b) = z1
  pointwise

end second

section secondReference
open Cert.Reference5Ideal Cert.Reference5Ideal.Gen

/-- The reference's rows of the convolution: the long sequences' and then the short ones'. -/
def whole (a : FVec Ideal S16384x1024 .bf16) (b : FVec Ideal S512x1024 .bf16) : FVec Ideal S16896x1024 .bf16 :=
  concatenate S16896x1024 0 [⟨S16384x1024, a⟩, ⟨S512x1024, b⟩] concatenates_S16384x1024_S512x1024_S16896x1024_d0

/-- Its result. -/
def added5 (x : FVec Ideal S16896x1024 .f32) (y : FVec Ideal S16896x1024 .bf16) (w : FVec Ideal S1x1024x1024 .f32) : FVec Ideal S16896x1024 .f32 :=
  addf x (Host.dotGeneral dot_S16896x1024_S1024x1024_S16896x1024_1_0_0_1_n_n none (extf .f32 y bitsLt_bf16_f32) (shapeCast _ w shapeCasts_S1x1024x1024_S1024x1024))

/-- A row of the long sequences. -/
theorem whole_long (a : FVec Ideal S16384x1024 .bf16) (b : FVec Ideal S512x1024 .bf16) (r : Fin 16896) (hr : r.val < 16384) (k : Fin 1024) :
    whole a b (ix2 r k) = a (ix2 (n0 := 16384) (n1 := 1024) ⟨r.val, hr⟩ k) := by
  unfold whole
  exact concatenate_pair_apply_left (t := S16896x1024) (s₁ := S16384x1024) (s₂ := S512x1024) 0 _ _ _ _ rfl (ix2 (n0 := 16384) (n1 := 1024) ⟨r.val, hr⟩ k)
    (fun a => by fin_cases a <;> rfl)
/-- A row of the short sequences. -/
theorem whole_short (a : FVec Ideal S16384x1024 .bf16) (b : FVec Ideal S512x1024 .bf16) (r : Fin 16896) (q : Fin 512) (hr : q.val + 16384 = r.val) (k : Fin 1024) :
    whole a b (ix2 r k) = b (ix2 (n0 := 512) (n1 := 1024) q k) := by
  unfold whole
  exact concatenate_pair_apply_right (t := S16896x1024) (s₁ := S16384x1024) (s₂ := S512x1024) 0 _ _ _ _ rfl rfl (ix2 (n0 := 512) (n1 := 1024) q k)
    (fun a ha => by
      match a with
      | ⟨0, _⟩ => exact absurd rfl ha
      | ⟨1, _⟩ => rfl) hr

/-- The result read at an entry. -/
theorem added5_apply (x : FVec Ideal S16896x1024 .f32) (y : FVec Ideal S16896x1024 .bf16) (w : FVec Ideal S1x1024x1024 .f32) (r : Fin 16896) (e : Fin 1024) :
    added5 x y w (ix2 r e) = x (ix2 r e) + ∑ k : Fin 1024, y (ix2 r k) * w (ix3 (0 : Fin 1) k e) := by
  pointwise! [added5]

end secondReference

end Cert.PostMath

end
-- ==== Proof.Post4.lean ====
/- The value of the first layer's call of the step after the mixer: its result array of rows, block by block. -/
module

public import proofs.«01_k».proof.Proof.PostMath
public import proofs.«01_k».proof.Proof.Gen.Kernel4Ideal.Frame
public import Idealize.ShloMosaic.Lib.Pipeline.Value
public import Idealize.ShloMosaic.Lib.Pipeline.ValueKit.Basic
public import Idealize.ShloMosaic.Lib.Pipeline.ValueKit.Geometry
public import Idealize.ShloMosaic.Lib.Pointwise
public import Idealize.ShloMosaic.Lib.StableHlo.Run
public import Idealize.ShloMosaic.Lib.Tactic

@[expose] public section

set_option maxRecDepth 16384

noncomputable section

namespace Cert.Kernel4Ideal.Post

open Cert.Kernel4Ideal Cert.Kernel4Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]
variable (m : (ℓ : Loc nD τ sig) → Buf (Elt F) ℓ)

/-! ## What a point leaves in its block of the result -/

/-- The kernel's loads and stores are of whole blocks. -/
theorem hz : (![0, 0] : Fin 2 → Nat) = fun _ => 0 := funext fun a => by fin_cases a <;> rfl

/-- At the first point the result's block is left the payload of the blocks read,  -/
theorem first_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S512x512 .bf16) (harg12 : arg12.IsWhole) (arg13 : Memref sig .tc .vmem S1x128 .f32) (harg13 : arg13.IsWhole) (arg14 : Memref sig .tc .vmem S512x1024 .f32) (harg14 : arg14.IsWhole) (arg15 : Memref sig .tc .vmem S512x128 .i32) (harg15 : arg15.IsWhole) (arg16 : Memref sig .tc .vmem S512x128 .f32) (harg16 : arg16.IsWhole) (arg17 : Memref sig .tc .vmem S1x128 .f32) (harg17 : arg17.IsWhole) (arg18 : Memref sig .tc .vmem S1x128 .f32) (harg18 : arg18.IsWhole) (hc0 : cond0_0 i)
    (x0 : Vec F S512x1024 .f32) (x1 : Vec F S512x1024 .f32) (x2 : Vec F S512x512 .bf16) (x3 : Vec F S512x512 .bf16) (x4 : Vec F S512x512 .bf16) (x5 : Vec F S512x512 .bf16) (x6 : Vec F S512x1024 .bf16) (x7 : Vec F S512x1024 .bf16) (x8 : Vec F S1x1024 .f32) (x9 : Vec F S1024x256 .bf16) (x10 : Vec F S1x128 .f32) (x11 : Vec F S512x512 .bf16) (x12 : Vec F S1x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = k0_pay3 i x0 x1 x2 x3 x6 x4 x5 x7 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_A
  dsimp only
  rw [View.canon_unit_zero hz]
  simp only [View.readAt_eq_ld, harg1.read_unread, harg2.read_unread, harg3.read_unread, harg4.read_unread, harg5.read_unread, harg6.read_unread, harg7.read_unread, harg8.read_unread, View.ld_unit_zero (S := S512x1024) hz, View.ld_unit_zero (S := S512x512) hz]

/-- and at every later one likewise. -/
theorem first_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S512x512 .bf16) (harg12 : arg12.IsWhole) (arg13 : Memref sig .tc .vmem S1x128 .f32) (harg13 : arg13.IsWhole) (arg14 : Memref sig .tc .vmem S512x1024 .f32) (harg14 : arg14.IsWhole) (arg15 : Memref sig .tc .vmem S512x128 .i32) (harg15 : arg15.IsWhole) (arg16 : Memref sig .tc .vmem S512x128 .f32) (harg16 : arg16.IsWhole) (arg17 : Memref sig .tc .vmem S1x128 .f32) (harg17 : arg17.IsWhole) (arg18 : Memref sig .tc .vmem S1x128 .f32) (harg18 : arg18.IsWhole) (hc0 : ¬cond0_0 i)
    (x0 : Vec F S512x1024 .f32) (x1 : Vec F S512x1024 .f32) (x2 : Vec F S512x512 .bf16) (x3 : Vec F S512x512 .bf16) (x4 : Vec F S512x512 .bf16) (x5 : Vec F S512x512 .bf16) (x6 : Vec F S512x1024 .bf16) (x7 : Vec F S512x1024 .bf16) (x8 : Vec F S1x1024 .f32) (x9 : Vec F S1024x256 .bf16) (x10 : Vec F S1x128 .f32) (x11 : Vec F S512x512 .bf16) (x12 : Vec F S1x128 .f32) (xs0 : Vec F S1x128 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 = k0_pay3 i x0 x1 x2 x3 x6 x4 x5 x7 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0)]
  unfold kernelRun0_B
  dsimp only
  rw [View.canon_unit_zero hz]
  simp only [View.readAt_eq_ld, harg1.read_unread, harg2.read_unread, harg3.read_unread, harg4.read_unread, harg5.read_unread, harg6.read_unread, harg7.read_unread, harg8.read_unread, View.ld_unit_zero (S := S512x1024) hz, View.ld_unit_zero (S := S512x512) hz]

/-- What a point leaves in its buffer is the payload of its blocks. -/
theorem after_eq (c : Dev nD) (t : Fin cfg0.N) : (dats m 0 c).after 13 t = k0_pay3 (grid0.coords t) (iblk m c 0 t) (iblk m c 1 t) (iblk m c 2 t) (iblk m c 3 t) (iblk m c 6 t) (iblk m c 4 t) (iblk m c 5 t) (iblk m c 7 t) := by
  rw [after0_13]
  by_cases h : t.val % 33 = 0
  · refine (congrArg Prod.fst (outsAt0_A m c t h)).trans ?_
    dsimp only
    rw [first_A]
  · refine (congrArg Prod.fst (outsAt0_B m c t h)).trans ?_
    dsimp only
    rw [first_B]

/-! ## What the windows read -/

/-- The grid's only coordinate of a point is the point. -/
theorem coord_val : ∀ t : Fin grid0.N, (grid0.coords t 0).val = t.val := by decide +kernel

/-- Of the first 32 points, the block of the long sequences' rows is the point's; -/
theorem map_0 : ∀ t : Fin grid0.N, t.val < 32 → cc0_transform_0 (grid0.coords t) 0 = t.val := by decide +kernel
/-- its columns are all. -/
theorem map_0_col : ∀ t : Fin grid0.N, cc0_transform_0 (grid0.coords t) 1 = 0 := by decide +kernel
/-- Of every point, the block of the short sequences' rows is the first. -/
theorem map_1 : ∀ t : Fin grid0.N, cc0_transform_1 (grid0.coords t) 0 = 0 ∧ cc0_transform_1 (grid0.coords t) 1 = 0 := by decide +kernel

/-- Of the first 32 points, the block of the long sequences' recurrence's rows is the point's; -/
theorem map_2 : ∀ t : Fin grid0.N, t.val < 32 → cc0_transform_2 (grid0.coords t) 0 = t.val := by decide +kernel
/-- its columns are all. -/
theorem map_2_col : ∀ t : Fin grid0.N, cc0_transform_2 (grid0.coords t) 1 = 0 := by decide +kernel
/-- Of every point, the block of the short sequences' recurrence's rows is the first. -/
theorem map_3 : ∀ t : Fin grid0.N, cc0_transform_3 (grid0.coords t) 0 = 0 ∧ cc0_transform_3 (grid0.coords t) 1 = 0 := by decide +kernel

/-- Of the first 32 points, the block of the long sequences' attention's rows is the point's; -/
theorem map_4 : ∀ t : Fin grid0.N, t.val < 32 → cc0_transform_4 (grid0.coords t) 0 = t.val := by decide +kernel
/-- its columns are all. -/
theorem map_4_col : ∀ t : Fin grid0.N, cc0_transform_4 (grid0.coords t) 1 = 0 := by decide +kernel
/-- Of every point, the block of the short sequences' attention's rows is the first. -/
theorem map_5 : ∀ t : Fin grid0.N, cc0_transform_5 (grid0.coords t) 0 = 0 ∧ cc0_transform_5 (grid0.coords t) 1 = 0 := by decide +kernel

/-- The long sequences' rows as the region finds them,  -/
theorem V_long (c : Dev nD) : V m c main_v5 = shapeCast S16384x1024 (m ((c.tc : Thread nD τ).loc main_arg0)) shapeCasts_S2x8192x1024_S16384x1024 := by
  unfold V
  simp only [hostOps0, hostOps0_1, hostOps0_2, List.flatten_cons, List.flatten_nil, List.append_nil, List.cons_append, List.nil_append]
  after_results_simp <;> rfl
/-- the short sequences',  -/
theorem V_short (c : Dev nD) : V m c main_v6 = shapeCast S512x1024 (m ((c.tc : Thread nD τ).loc main_arg1)) shapeCasts_S8x64x1024_S512x1024 := by
  unfold V
  simp only [hostOps0, hostOps0_1, hostOps0_2, List.flatten_cons, List.flatten_nil, List.append_nil, List.cons_append, List.nil_append]
  after_results_simp <;> rfl
/-- the weight's first rows, rounded,  -/
theorem V_upper (c : Dev nD) : V m c main_v7 = extractStridedSlice S512x1024 ![0, 0] (truncf .bf16 (shapeCast S1024x1024 (m ((c.tc : Thread nD τ).loc main_arg6)) shapeCasts_S1x1024x1024_S1024x1024 : FVec F S1024x1024 .f32) bitsLt_bf16_f32 : FVec F S1024x1024 .bf16) slices_S1024x1024_S512x1024_0_0 := by
  unfold V
  simp only [hostOps0, hostOps0_1, hostOps0_2, List.flatten_cons, List.flatten_nil, List.append_nil, List.cons_append, List.nil_append]
  after_results_simp <;> rfl
/-- and its last. -/
theorem V_lower (c : Dev nD) : V m c main_v8 = extractStridedSlice S512x1024 ![512, 0] (truncf .bf16 (shapeCast S1024x1024 (m ((c.tc : Thread nD τ).loc main_arg6)) shapeCasts_S1x1024x1024_S1024x1024 : FVec F S1024x1024 .f32) bitsLt_bf16_f32 : FVec F S1024x1024 .bf16) slices_S1024x1024_S512x1024_512_0 := by
  unfold V
  simp only [hostOps0, hostOps0_1, hostOps0_2, List.flatten_cons, List.flatten_nil, List.append_nil, List.cons_append, List.nil_append]
  after_results_simp <;> rfl

/-- Every point reads the whole of the weight's first rows,  -/
theorem whole_6 (c : Dev nD) (t : Fin cfg0.N) (j : S512x1024.Idx) : iblk m c 6 t j = V m c main_v7 j := by
  show V m c main_v7 (((cfg0.win 6).blk t).view.emb j) = _
  refine congrArg (V m c main_v7) (funext fun a => Fin.ext ?_)
  match a with
  | ⟨0, _⟩ => show cc0_transform_6 (grid0.coords t) 0 * 512 + 1 * (j 0).val = (j 0).val; unfold cc0_transform_6; simp
  | ⟨1, _⟩ => show cc0_transform_6 (grid0.coords t) 1 * 1024 + 1 * (j 1).val = (j 1).val; unfold cc0_transform_6; simp

/-- and the whole of its last. -/
theorem whole_7 (c : Dev nD) (t : Fin cfg0.N) (j : S512x1024.Idx) : iblk m c 7 t j = V m c main_v8 j := by
  show V m c main_v8 (((cfg0.win 7).blk t).view.emb j) = _
  refine congrArg (V m c main_v8) (funext fun a => Fin.ext ?_)
  match a with
  | ⟨0, _⟩ => show cc0_transform_7 (grid0.coords t) 0 * 512 + 1 * (j 0).val = (j 0).val; unfold cc0_transform_7; simp
  | ⟨1, _⟩ => show cc0_transform_7 (grid0.coords t) 1 * 1024 + 1 * (j 1).val = (j 1).val; unfold cc0_transform_7; simp

/-! ## The result array -/

/-- The result's block of a point is the point's. -/
theorem map_result : ∀ t : Fin grid0.N, cc0_transform_13 (grid0.coords t) 0 = t.val ∧ cc0_transform_13 (grid0.coords t) 1 = 0 := by decide +kernel

/-- The row of the result where a row of a point's block lies. -/
def row (t : Fin grid0.N) (p : Fin 512) : Fin 16896 := ⟨t.val * 512 + p.val, by
  have h : t.val < 33 := t.isLt
  omega⟩

/-- Where a block's entry lies in the result. -/
def place (t : Fin grid0.N) (y : S512x1024.Idx) : S16896x1024.Idx := ix2 (n0 := 16896) (n1 := 1024) (row t (y 0)) (y 1)

/-- A block's entries lie in the result where `place` says. -/
theorem emb_result (t : Fin cfg0.N) (y : S512x1024.Idx) : ((cfg0.win 13).blk t).view.emb y = place t y := by
  refine funext fun a => Fin.ext ?_
  match a with
  | ⟨0, _⟩ => show cc0_transform_13 (grid0.coords t) 0 * 512 + 1 * (y 0).val = t.val * 512 + (y 0).val; rw [(map_result t).1]; simp
  | ⟨1, _⟩ => show cc0_transform_13 (grid0.coords t) 1 * 1024 + 1 * (y 1).val = (y 1).val; rw [(map_result t).2]; simp

/-- Every entry of the result lies in some block. -/
theorem place_onto (i : S16896x1024.Idx) : ∃ (t : Fin grid0.N) (y : S512x1024.Idx), place t y = i := by
  have hi : (i 0).val < 16896 := (i 0).isLt
  refine ⟨⟨(i 0).val / 512, by show _ < 33; omega⟩, ix2 (n0 := 512) (n1 := 1024) ⟨(i 0).val % 512, Nat.mod_lt _ (by decide)⟩ (i 1), funext fun a => Fin.ext ?_⟩
  match a with
  | ⟨0, _⟩ => show (i 0).val / 512 * 512 + (i 0).val % 512 = (i 0).val; omega
  | ⟨1, _⟩ => rfl

section value
variable (m : (ℓ : Loc nD τ sig) → Buf (Elt Ideal) ℓ)

/-- The reference's rows, of the arrays launched, -/
def inRows (c : Dev nD) : FVec Ideal Cert.Reference4Ideal.S16896x1024 .f32 := Cert.PostMath.rows (m ((c.tc : Thread nD τ).loc main_arg0)) (m ((c.tc : Thread nD τ).loc main_arg1))
/-- its recurrence's rows, -/
def ssm (c : Dev nD) : FVec Ideal Cert.Reference4Ideal.S16896x512 .bf16 := Cert.PostMath.half (m ((c.tc : Thread nD τ).loc main_arg2)) (m ((c.tc : Thread nD τ).loc main_arg3))
/-- its attention's, -/
def att (c : Dev nD) : FVec Ideal Cert.Reference4Ideal.S16896x512 .bf16 := Cert.PostMath.half (m ((c.tc : Thread nD τ).loc main_arg4)) (m ((c.tc : Thread nD τ).loc main_arg5))
/-- and its result. -/
def result (c : Dev nD) : FVec Ideal S16896x1024 .f32 := Cert.PostMath.added (inRows m c) (Cert.PostMath.both (ssm m c) (att m c)) (m ((c.tc : Thread nD τ).loc main_arg6))

/-- A point's block of the layer's rows,  -/
theorem rows_entry (c : Dev nD) (t : Fin cfg0.N) (p : Fin 512) (k : Fin 1024) :
    (if (grid0.coords t 0).val < 32 then (iblk m c 0 t : FVec Ideal S512x1024 .f32) else iblk m c 1 t) (ix2 (n0 := 512) (n1 := 1024) p k) = inRows m c (ix2 (row t p) k) := by
  have ht : t.val < 33 := t.isLt
  rw [coord_val]
  by_cases h : t.val < 32
  · rw [if_pos h]
    refine Eq.trans ?_ (Cert.PostMath.rows_long _ _ (row t p) (by show t.val * 512 + p.val < 16384; omega) k).symm
    refine Eq.trans ?_ (congrFun (V_long m c) _)
    show V m c main_v5 (((cfg0.win 0).blk t).view.emb (ix2 (n0 := 512) (n1 := 1024) p k)) = _
    refine congrArg (V m c main_v5) (funext fun a => Fin.ext ?_)
    match a with
    | ⟨0, _⟩ => show cc0_transform_0 (grid0.coords t) 0 * 512 + 1 * p.val = t.val * 512 + p.val; rw [map_0 t h]; simp
    | ⟨1, _⟩ => show cc0_transform_0 (grid0.coords t) 1 * 1024 + 1 * k.val = k.val; rw [map_0_col t]; simp
  · rw [if_neg h]
    refine Eq.trans ?_ (Cert.PostMath.rows_short _ _ (row t p) p (by show p.val + 16384 = t.val * 512 + p.val; omega) k).symm
    refine Eq.trans ?_ (congrFun (V_short m c) _)
    show V m c main_v6 (((cfg0.win 1).blk t).view.emb (ix2 (n0 := 512) (n1 := 1024) p k)) = _
    refine congrArg (V m c main_v6) (funext fun a => Fin.ext ?_)
    match a with
    | ⟨0, _⟩ => show cc0_transform_1 (grid0.coords t) 0 * 512 + 1 * p.val = p.val; rw [(map_1 t).1]; simp
    | ⟨1, _⟩ => show cc0_transform_1 (grid0.coords t) 1 * 1024 + 1 * k.val = k.val; rw [(map_1 t).2]; simp

/-- of the recurrence's rows,  -/
theorem ssm_entry (c : Dev nD) (t : Fin cfg0.N) (p : Fin 512) (k : Fin 512) :
    (if (grid0.coords t 0).val < 32 then (iblk m c 2 t : FVec Ideal S512x512 .bf16) else iblk m c 3 t) (ix2 (n0 := 512) (n1 := 512) p k) = ssm m c (ix2 (row t p) k) := by
  have ht : t.val < 33 := t.isLt
  rw [coord_val]
  by_cases h : t.val < 32
  · rw [if_pos h]
    refine Eq.trans ?_ (Cert.PostMath.half_long _ _ (row t p) (by show t.val * 512 + p.val < 16384; omega) k).symm
    refine Eq.trans ?_ (congrFun (V_main_arg2 m c) _)
    show V m c main_arg2 (((cfg0.win 2).blk t).view.emb (ix2 (n0 := 512) (n1 := 512) p k)) = _
    refine congrArg (V m c main_arg2) (funext fun a => Fin.ext ?_)
    match a with
    | ⟨0, _⟩ => show cc0_transform_2 (grid0.coords t) 0 * 512 + 1 * p.val = t.val * 512 + p.val; rw [map_2 t h]; simp
    | ⟨1, _⟩ => show cc0_transform_2 (grid0.coords t) 1 * 512 + 1 * k.val = k.val; rw [map_2_col t]; simp
  · rw [if_neg h]
    refine Eq.trans ?_ (Cert.PostMath.half_short _ _ (row t p) p (by show p.val + 16384 = t.val * 512 + p.val; omega) k).symm
    refine Eq.trans ?_ (congrFun (V_main_arg3 m c) _)
    show V m c main_arg3 (((cfg0.win 3).blk t).view.emb (ix2 (n0 := 512) (n1 := 512) p k)) = _
    refine congrArg (V m c main_arg3) (funext fun a => Fin.ext ?_)
    match a with
    | ⟨0, _⟩ => show cc0_transform_3 (grid0.coords t) 0 * 512 + 1 * p.val = p.val; rw [(map_3 t).1]; simp
    | ⟨1, _⟩ => show cc0_transform_3 (grid0.coords t) 1 * 512 + 1 * k.val = k.val; rw [(map_3 t).2]; simp

/-- and of the attention's. -/
theorem att_entry (c : Dev nD) (t : Fin cfg0.N) (p : Fin 512) (k : Fin 512) :
    (if (grid0.coords t 0).val < 32 then (iblk m c 4 t : FVec Ideal S512x512 .bf16) else iblk m c 5 t) (ix2 (n0 := 512) (n1 := 512) p k) = att m c (ix2 (row t p) k) := by
  have ht : t.val < 33 := t.isLt
  rw [coord_val]
  by_cases h : t.val < 32
  · rw [if_pos h]
    refine Eq.trans ?_ (Cert.PostMath.half_long _ _ (row t p) (by show t.val * 512 + p.val < 16384; omega) k).symm
    refine Eq.trans ?_ (congrFun (V_main_arg4 m c) _)
    show V m c main_arg4 (((cfg0.win 4).blk t).view.emb (ix2 (n0 := 512) (n1 := 512) p k)) = _
    refine congrArg (V m c main_arg4) (funext fun a => Fin.ext ?_)
    match a with
    | ⟨0, _⟩ => show cc0_transform_4 (grid0.coords t) 0 * 512 + 1 * p.val = t.val * 512 + p.val; rw [map_4 t h]; simp
    | ⟨1, _⟩ => show cc0_transform_4 (grid0.coords t) 1 * 512 + 1 * k.val = k.val; rw [map_4_col t]; simp
  · rw [if_neg h]
    refine Eq.trans ?_ (Cert.PostMath.half_short _ _ (row t p) p (by show p.val + 16384 = t.val * 512 + p.val; omega) k).symm
    refine Eq.trans ?_ (congrFun (V_main_arg5 m c) _)
    show V m c main_arg5 (((cfg0.win 5).blk t).view.emb (ix2 (n0 := 512) (n1 := 512) p k)) = _
    refine congrArg (V m c main_arg5) (funext fun a => Fin.ext ?_)
    match a with
    | ⟨0, _⟩ => show cc0_transform_5 (grid0.coords t) 0 * 512 + 1 * p.val = p.val; rw [(map_5 t).1]; simp
    | ⟨1, _⟩ => show cc0_transform_5 (grid0.coords t) 1 * 512 + 1 * k.val = k.val; rw [(map_5 t).2]; simp

/-- The entries of the weight's first rows: rounding keeps an extended real. -/
theorem upper_entry (c : Dev nD) (t : Fin cfg0.N) (k : Fin 512) (e : Fin 1024) :
    iblk m c 6 t (ix2 (n0 := 512) (n1 := 1024) k e) = m ((c.tc : Thread nD τ).loc main_arg6) (ix3 (n0 := 1) (n1 := 1024) (n2 := 1024) 0 (⟨k.val, by omega⟩ : Fin 1024) e) := by
  refine (whole_6 m c t _).trans ((congrFun (V_upper m c) _).trans ?_)
  have h1 (w : FVec Ideal S1024x1024 .bf16) : extractStridedSlice S512x1024 ![0, 0] w slices_S1024x1024_S512x1024_0_0 (ix2 (n0 := 512) (n1 := 1024) k e) = w (ix2 (n0 := 1024) (n1 := 1024) (⟨k.val, by omega⟩ : Fin 1024) e) :=
    extractStridedSlice_apply _ _ _ _ (ix2 (n0 := 1024) (n1 := 1024) (⟨k.val, by omega⟩ : Fin 1024) e) (fun a => by fin_cases a <;> simp)
  have h2 (w : FVec Ideal S1x1024x1024 .f32) (k : Fin 1024) : (truncf .bf16 (shapeCast S1024x1024 w shapeCasts_S1x1024x1024_S1024x1024 : FVec Ideal S1024x1024 .f32) bitsLt_bf16_f32 : FVec Ideal S1024x1024 .bf16) (ix2 (n0 := 1024) (n1 := 1024) k e) = w (ix3 (n0 := 1) (n1 := 1024) (n2 := 1024) 0 k e) := by
    pointwise
  exact (h1 _).trans (h2 _ _)

/-- The entries of its last. -/
theorem lower_entry (c : Dev nD) (t : Fin cfg0.N) (k : Fin 512) (e : Fin 1024) :
    iblk m c 7 t (ix2 (n0 := 512) (n1 := 1024) k e) = m ((c.tc : Thread nD τ).loc main_arg6) (ix3 (n0 := 1) (n1 := 1024) (n2 := 1024) 0 (⟨512 + k.val, by omega⟩ : Fin 1024) e) := by
  refine (whole_7 m c t _).trans ((congrFun (V_lower m c) _).trans ?_)
  have h1 (w : FVec Ideal S1024x1024 .bf16) : extractStridedSlice S512x1024 ![512, 0] w slices_S1024x1024_S512x1024_512_0 (ix2 (n0 := 512) (n1 := 1024) k e) = w (ix2 (n0 := 1024) (n1 := 1024) (⟨512 + k.val, by omega⟩ : Fin 1024) e) :=
    extractStridedSlice_apply _ _ _ _ (ix2 (n0 := 1024) (n1 := 1024) (⟨512 + k.val, by omega⟩ : Fin 1024) e) (fun a => by fin_cases a <;> simp)
  have h2 (w : FVec Ideal S1x1024x1024 .f32) (k : Fin 1024) : (truncf .bf16 (shapeCast S1024x1024 w shapeCasts_S1x1024x1024_S1024x1024 : FVec Ideal S1024x1024 .f32) bitsLt_bf16_f32 : FVec Ideal S1024x1024 .bf16) (ix2 (n0 := 1024) (n1 := 1024) k e) = w (ix3 (n0 := 1) (n1 := 1024) (n2 := 1024) 0 k e) := by
    pointwise
  exact (h1 _).trans (h2 _ _)

/-- A point's block holds the reference's rows. -/
theorem block_entry (c : Dev nD) (t : Fin cfg0.N) (y : S512x1024.Idx) : k0_pay3 (grid0.coords t) (iblk m c 0 t) (iblk m c 1 t) (iblk m c 2 t) (iblk m c 3 t) (iblk m c 6 t) (iblk m c 4 t) (iblk m c 5 t) (iblk m c 7 t) y = result m c (place t y) := by
  obtain ⟨p, e, rfl⟩ : ∃ (p : Fin 512) (e : Fin 1024), y = ix2 (n0 := 512) (n1 := 1024) p e := ⟨y 0, y 1, by
    funext a
    match a with
    | ⟨0, _⟩ => rfl
    | ⟨1, _⟩ => rfl⟩
  refine (Cert.PostMath.block4_apply (grid0.coords t) (iblk m c 0 t) (iblk m c 1 t) (iblk m c 2 t) (iblk m c 3 t) (iblk m c 6 t) (iblk m c 4 t) (iblk m c 5 t) (iblk m c 7 t) p e).trans ?_
  refine Eq.trans ?_ (Cert.PostMath.added_both _ _ _ _ _ _).symm
  refine congrArg₂ (· + ·) (congrArg₂ (· + ·) (rows_entry m c t p e) (Finset.sum_congr rfl fun k _ => ?_)) (Finset.sum_congr rfl fun k _ => ?_)
  · exact congrArg₂ (· * ·) (ssm_entry m c t p k) (upper_entry m c t k e)
  · exact congrArg₂ (· * ·) (att_entry m c t p k) (lower_entry m c t k e)

/-- The run's result array is the reference's. -/
theorem arr_result (c : Dev nD) : (dats m 0 c).arrAt 13 cfg0.N = result m c := by
  refine (dats m 0 c).arrAt_eq_of_emb 13 (result m c) (fun t hf y => ?_) (fun i => ?_)
  · show (dats m 0 c).after 13 t y = result m c (((cfg0.win 13).blk t).view.emb y)
    rw [after_eq]
    exact (block_entry m c t y).trans (congrArg (result m c) (emb_result t y)).symm
  · obtain ⟨t, y, h⟩ := place_onto i
    refine ⟨t, flush0_13 t, ?_⟩
    have e : ((cfg0.win 13).blk t).view.emb y = i := (emb_result t y).trans h
    rw [← e]
    exact View.emb_mem_set _ _

end value

end Cert.Kernel4Ideal.Post

end
-- ==== Proof.Post5.lean ====
/- The value of the second layer's call of the step after the mixer: its result array of rows, block by block. -/
module

public import proofs.«01_k».proof.Proof.PostMath
public import proofs.«01_k».proof.Proof.Gen.Kernel5Ideal.Frame
public import Idealize.ShloMosaic.Lib.Pipeline.Value
public import Idealize.ShloMosaic.Lib.Pipeline.ValueKit.Basic
public import Idealize.ShloMosaic.Lib.Pipeline.ValueKit.Geometry
public import Idealize.ShloMosaic.Lib.Pointwise
public import Idealize.ShloMosaic.Lib.StableHlo.Run
public import Idealize.ShloMosaic.Lib.Tactic

@[expose] public section

set_option maxRecDepth 16384

noncomputable section

namespace Cert.Kernel5Ideal.Post

open Cert.Kernel5Ideal Cert.Kernel5Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]
variable (m : (ℓ : Loc nD τ sig) → Buf (Elt F) ℓ)

/-! ## What a point leaves in its block of the result -/

/-- The kernel's loads and stores are of whole blocks. -/
theorem hz : (![0, 0] : Fin 2 → Nat) = fun _ => 0 := funext fun a => by fin_cases a <;> rfl

/-- At the first point the result's block is left the payload of the blocks read,  -/
theorem first_A (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S1x128 .f32) (harg13 : arg13.IsWhole) (arg14 : Memref sig .tc .vmem S1x128 .f32) (harg14 : arg14.IsWhole) (hc0 : cond0_0 i)
    (x0 : Vec F S512x1024 .f32) (x1 : Vec F S512x1024 .bf16) (x2 : Vec F S512x1024 .bf16) (x3 : Vec F S1024x1024 .bf16) (x4 : Vec F S1x1024 .f32) (x5 : Vec F S1024x256 .bf16) (x6 : Vec F S1x128 .f32) (x7 : Vec F S512x512 .bf16) (x8 : Vec F S1x128 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay3 i x0 x1 x2 x3 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  rw [View.canon_unit_zero hz]
  simp only [View.readAt_eq_ld, harg1.read_unread, harg2.read_unread, harg3.read_unread, harg4.read_unread, View.ld_unit_zero (S := S1024x1024) hz, View.ld_unit_zero (S := S512x1024) hz]

/-- and at every later one likewise. -/
theorem first_B (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i)
    (x0 : Vec F S512x1024 .f32) (x1 : Vec F S512x1024 .bf16) (x2 : Vec F S512x1024 .bf16) (x3 : Vec F S1024x1024 .bf16) (x4 : Vec F S1x1024 .f32) (x5 : Vec F S1024x256 .bf16) (x6 : Vec F S1x128 .f32) (x7 : Vec F S512x512 .bf16) (x8 : Vec F S1x128 .f32) (xs0 : Vec F S1x128 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 = k0_pay3 i x0 x1 x2 x3 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0)]
  unfold kernelRun0_B
  dsimp only
  rw [View.canon_unit_zero hz]
  simp only [View.readAt_eq_ld, harg1.read_unread, harg2.read_unread, harg3.read_unread, harg4.read_unread, View.ld_unit_zero (S := S1024x1024) hz, View.ld_unit_zero (S := S512x1024) hz]

/-- What a point leaves in its buffer is the payload of its blocks. -/
theorem after_eq (c : Dev nD) (t : Fin cfg0.N) : (dats m 0 c).after 9 t = k0_pay3 (grid0.coords t) (iblk m c 0 t) (iblk m c 1 t) (iblk m c 2 t) (iblk m c 3 t) := by
  rw [after0_9]
  by_cases h : t.val % 33 = 0
  · refine (congrArg Prod.fst (outsAt0_A m c t h)).trans ?_
    dsimp only
    rw [first_A]
  · refine (congrArg Prod.fst (outsAt0_B m c t h)).trans ?_
    dsimp only
    rw [first_B]

/-! ## What the windows read -/

/-- The grid's only coordinate of a point is the point. -/
theorem coord_val : ∀ t : Fin grid0.N, (grid0.coords t 0).val = t.val := by decide +kernel

/-- The block of the layer's rows is the point's. -/
theorem map_0 : ∀ t : Fin grid0.N, cc0_transform_0 (grid0.coords t) 0 = t.val ∧ cc0_transform_0 (grid0.coords t) 1 = 0 := by decide +kernel
/-- Of the first 32 points, the block of the long sequences' mixer's rows is the point's; -/
theorem map_1 : ∀ t : Fin grid0.N, t.val < 32 → cc0_transform_1 (grid0.coords t) 0 = t.val := by decide +kernel
/-- its columns are all. -/
theorem map_1_col : ∀ t : Fin grid0.N, cc0_transform_1 (grid0.coords t) 1 = 0 := by decide +kernel
/-- Of every point, the block of the short sequences' mixer's rows is the first. -/
theorem map_2 : ∀ t : Fin grid0.N, cc0_transform_2 (grid0.coords t) 0 = 0 ∧ cc0_transform_2 (grid0.coords t) 1 = 0 := by decide +kernel

/-- The weight as the region finds it: the launched one, rounded. -/
theorem V_weight (c : Dev nD) : V m c main_v4 = truncf .bf16 (shapeCast S1024x1024 (m ((c.tc : Thread nD τ).loc main_arg3)) shapeCasts_S1x1024x1024_S1024x1024 : FVec F S1024x1024 .f32) bitsLt_bf16_f32 := by
  unfold V
  simp only [hostOps0, hostOps0_1, hostOps0_2, List.flatten_cons, List.flatten_nil, List.append_nil, List.cons_append, List.nil_append]
  after_results_simp <;> rfl

/-- Every point reads the whole weight. -/
theorem whole_3 (c : Dev nD) (t : Fin cfg0.N) (j : S1024x1024.Idx) : iblk m c 3 t j = V m c main_v4 j := by
  show V m c main_v4 (((cfg0.win 3).blk t).view.emb j) = _
  refine congrArg (V m c main_v4) (funext fun a => Fin.ext ?_)
  match a with
  | ⟨0, _⟩ => show cc0_transform_3 (grid0.coords t) 0 * 1024 + 1 * (j 0).val = (j 0).val; unfold cc0_transform_3; simp
  | ⟨1, _⟩ => show cc0_transform_3 (grid0.coords t) 1 * 1024 + 1 * (j 1).val = (j 1).val; unfold cc0_transform_3; simp

/-! ## The result array -/

/-- The result's block of a point is the point's. -/
theorem map_result : ∀ t : Fin grid0.N, cc0_transform_9 (grid0.coords t) 0 = t.val ∧ cc0_transform_9 (grid0.coords t) 1 = 0 := by decide +kernel

/-- The row of the result where a row of a point's block lies. -/
def row (t : Fin grid0.N) (p : Fin 512) : Fin 16896 := ⟨t.val * 512 + p.val, by
  have h : t.val < 33 := t.isLt
  omega⟩

/-- Where a block's entry lies in the result. -/
def place (t : Fin grid0.N) (y : S512x1024.Idx) : S16896x1024.Idx := ix2 (n0 := 16896) (n1 := 1024) (row t (y 0)) (y 1)

/-- A block's entries lie in the result where `place` says. -/
theorem emb_result (t : Fin cfg0.N) (y : S512x1024.Idx) : ((cfg0.win 9).blk t).view.emb y = place t y := by
  refine funext fun a => Fin.ext ?_
  match a with
  | ⟨0, _⟩ => show cc0_transform_9 (grid0.coords t) 0 * 512 + 1 * (y 0).val = t.val * 512 + (y 0).val; rw [(map_result t).1]; simp
  | ⟨1, _⟩ => show cc0_transform_9 (grid0.coords t) 1 * 1024 + 1 * (y 1).val = (y 1).val; rw [(map_result t).2]; simp

/-- Every entry of the result lies in some block. -/
theorem place_onto (i : S16896x1024.Idx) : ∃ (t : Fin grid0.N) (y : S512x1024.Idx), place t y = i := by
  have hi : (i 0).val < 16896 := (i 0).isLt
  refine ⟨⟨(i 0).val / 512, by show _ < 33; omega⟩, ix2 (n0 := 512) (n1 := 1024) ⟨(i 0).val % 512, Nat.mod_lt _ (by decide)⟩ (i 1), funext fun a => Fin.ext ?_⟩
  match a with
  | ⟨0, _⟩ => show (i 0).val / 512 * 512 + (i 0).val % 512 = (i 0).val; omega
  | ⟨1, _⟩ => rfl

section value
variable (m : (ℓ : Loc nD τ sig) → Buf (Elt Ideal) ℓ)

/-- The reference's rows of the mixer, of the arrays launched. -/
def mixed (c : Dev nD) : FVec Ideal Cert.Reference5Ideal.S16896x1024 .bf16 := Cert.PostMath.whole (m ((c.tc : Thread nD τ).loc main_arg1)) (m ((c.tc : Thread nD τ).loc main_arg2))

/-- The reference's result of the arrays launched. -/
def result (c : Dev nD) : FVec Ideal S16896x1024 .f32 := Cert.PostMath.added5 (m ((c.tc : Thread nD τ).loc main_arg0)) (mixed m c) (m ((c.tc : Thread nD τ).loc main_arg3))

/-- A point's block of the layer's rows. -/
theorem rows_entry (c : Dev nD) (t : Fin cfg0.N) (p : Fin 512) (k : Fin 1024) :
    iblk m c 0 t (ix2 (n0 := 512) (n1 := 1024) p k) = m ((c.tc : Thread nD τ).loc main_arg0) (ix2 (n0 := 16896) (n1 := 1024) (row t p) k) := by
  refine Eq.trans ?_ (congrFun (V_main_arg0 m c) _)
  show V m c main_arg0 (((cfg0.win 0).blk t).view.emb (ix2 (n0 := 512) (n1 := 1024) p k)) = _
  refine congrArg (V m c main_arg0) (funext fun a => Fin.ext ?_)
  match a with
  | ⟨0, _⟩ => show cc0_transform_0 (grid0.coords t) 0 * 512 + 1 * p.val = t.val * 512 + p.val; rw [(map_0 t).1]; simp
  | ⟨1, _⟩ => show cc0_transform_0 (grid0.coords t) 1 * 1024 + 1 * k.val = k.val; rw [(map_0 t).2]; simp

/-- A point's block of the mixer's rows. -/
theorem mixed_entry (c : Dev nD) (t : Fin cfg0.N) (p : Fin 512) (k : Fin 1024) :
    (if (grid0.coords t 0).val < 32 then (iblk m c 1 t : FVec Ideal S512x1024 .bf16) else iblk m c 2 t) (ix2 (n0 := 512) (n1 := 1024) p k) = mixed m c (ix2 (row t p) k) := by
  have ht : t.val < 33 := t.isLt
  rw [coord_val]
  by_cases h : t.val < 32
  · rw [if_pos h]
    refine Eq.trans ?_ (Cert.PostMath.whole_long _ _ (row t p) (by show t.val * 512 + p.val < 16384; omega) k).symm
    refine Eq.trans ?_ (congrFun (V_main_arg1 m c) _)
    show V m c main_arg1 (((cfg0.win 1).blk t).view.emb (ix2 (n0 := 512) (n1 := 1024) p k)) = _
    refine congrArg (V m c main_arg1) (funext fun a => Fin.ext ?_)
    match a with
    | ⟨0, _⟩ => show cc0_transform_1 (grid0.coords t) 0 * 512 + 1 * p.val = t.val * 512 + p.val; rw [map_1 t h]; simp
    | ⟨1, _⟩ => show cc0_transform_1 (grid0.coords t) 1 * 1024 + 1 * k.val = k.val; rw [map_1_col t]; simp
  · rw [if_neg h]
    refine Eq.trans ?_ (Cert.PostMath.whole_short _ _ (row t p) p (by show p.val + 16384 = t.val * 512 + p.val; omega) k).symm
    refine Eq.trans ?_ (congrFun (V_main_arg2 m c) _)
    show V m c main_arg2 (((cfg0.win 2).blk t).view.emb (ix2 (n0 := 512) (n1 := 1024) p k)) = _
    refine congrArg (V m c main_arg2) (funext fun a => Fin.ext ?_)
    match a with
    | ⟨0, _⟩ => show cc0_transform_2 (grid0.coords t) 0 * 512 + 1 * p.val = p.val; rw [(map_2 t).1]; simp
    | ⟨1, _⟩ => show cc0_transform_2 (grid0.coords t) 1 * 1024 + 1 * k.val = k.val; rw [(map_2 t).2]; simp

/-- The weight's entries: rounding keeps an extended real. -/
theorem weight_entry (c : Dev nD) (t : Fin cfg0.N) (k e : Fin 1024) :
    iblk m c 3 t (ix2 (n0 := 1024) (n1 := 1024) k e) = m ((c.tc : Thread nD τ).loc main_arg3) (ix3 (n0 := 1) (n1 := 1024) (n2 := 1024) 0 k e) := by
  refine (whole_3 m c t _).trans ((congrFun (V_weight m c) _).trans ?_)
  have h (w : FVec Ideal S1x1024x1024 .f32) : (truncf .bf16 (shapeCast S1024x1024 w shapeCasts_S1x1024x1024_S1024x1024 : FVec Ideal S1024x1024 .f32) bitsLt_bf16_f32 : FVec Ideal S1024x1024 .bf16) (ix2 (n0 := 1024) (n1 := 1024) k e) = w (ix3 (n0 := 1) (n1 := 1024) (n2 := 1024) 0 k e) := by
    pointwise
  exact h _

/-- A point's block holds the reference's rows. -/
theorem block_entry (c : Dev nD) (t : Fin cfg0.N) (y : S512x1024.Idx) : k0_pay3 (grid0.coords t) (iblk m c 0 t) (iblk m c 1 t) (iblk m c 2 t) (iblk m c 3 t) y = result m c (place t y) := by
  obtain ⟨p, e, rfl⟩ : ∃ (p : Fin 512) (e : Fin 1024), y = ix2 (n0 := 512) (n1 := 1024) p e := ⟨y 0, y 1, by
    funext a
    match a with
    | ⟨0, _⟩ => rfl
    | ⟨1, _⟩ => rfl⟩
  refine (Cert.PostMath.block5_apply (grid0.coords t) (iblk m c 0 t) (iblk m c 1 t) (iblk m c 2 t) (iblk m c 3 t) p e).trans ?_
  refine Eq.trans ?_ (Cert.PostMath.added5_apply _ _ _ _ _).symm
  refine congrArg₂ (· + ·) (rows_entry m c t p e) (Finset.sum_congr rfl fun k _ => ?_)
  exact congrArg₂ (· * ·) (mixed_entry m c t p k) (weight_entry m c t k e)

/-- The run's result array is the reference's. -/
theorem arr_result (c : Dev nD) : (dats m 0 c).arrAt 9 cfg0.N = result m c := by
  refine (dats m 0 c).arrAt_eq_of_emb 9 (result m c) (fun t hf y => ?_) (fun i => ?_)
  · show (dats m 0 c).after 9 t y = result m c (((cfg0.win 9).blk t).view.emb y)
    rw [after_eq]
    exact (block_entry m c t y).trans (congrArg (result m c) (emb_result t y)).symm
  · obtain ⟨t, y, h⟩ := place_onto i
    refine ⟨t, flush0_9 t, ?_⟩
    have e : ((cfg0.win 9).blk t).view.emb y = i := (emb_result t y).trans h
    rw [← e]
    exact View.emb_mem_set _ _

end value

end Cert.Kernel5Ideal.Post

end
-- ==== Proof.DiscMath.lean ====
/- The recurrence's step matrices, entry by entry over the extended reals: the kernel's columns, one row per state, and the
   reference's arrays, one row per group. -/
module

public import proofs.«01_k».proof.Proof.Gen.Kernel6Ideal.Skeleton
public import proofs.«01_k».proof.Proof.Gen.Reference6Ideal
public import Idealize.ShloMosaic.Lib.Pointwise
public import Idealize.ShloMosaic.Lib.Pipeline.Value

@[expose] public section

set_option maxRecDepth 16384

noncomputable section

namespace Cert.DiscMath

open Idealize.ShloMosaic

/-! ## One state -/

/-- The real part of a state's step over the logarithm `t` of its time, its rate being `a + b i`, -/
def stepRe (a b t : Ideal .f32) : Ideal .f32 :=
  FloatOps.mulf (FloatOps.exp (FloatOps.mulf a (FloatOps.exp t))) (FloatOps.cos (FloatOps.mulf b (FloatOps.exp t)))
/-- and the imaginary part. -/
def stepIm (a b t : Ideal .f32) : Ideal .f32 :=
  FloatOps.mulf (FloatOps.exp (FloatOps.mulf a (FloatOps.exp t))) (FloatOps.sin (FloatOps.mulf b (FloatOps.exp t)))
/-- The real part of the step less one, over the rate, -/
def holdRe (a b t : Ideal .f32) : Ideal .f32 :=
  FloatOps.divf (FloatOps.addf (FloatOps.mulf (FloatOps.subf (stepRe a b t) (FloatOps.ofBits .f32 0x3F800000#32)) a) (FloatOps.mulf (stepIm a b t) b))
    (FloatOps.addf (FloatOps.mulf a a) (FloatOps.mulf b b))
/-- and the imaginary part. -/
def holdIm (a b t : Ideal .f32) : Ideal .f32 :=
  FloatOps.divf (FloatOps.subf (FloatOps.mulf (stepIm a b t) a) (FloatOps.mulf (FloatOps.subf (stepRe a b t) (FloatOps.ofBits .f32 0x3F800000#32)) b))
    (FloatOps.addf (FloatOps.mulf a a) (FloatOps.mulf b b))
/-- The real part of that quotient times an entry `u + v i` of the input matrix, -/
def inRe (a b t u v : Ideal .f32) : Ideal .f32 := FloatOps.subf (FloatOps.mulf (holdRe a b t) u) (FloatOps.mulf (holdIm a b t) v)
/-- and the imaginary part. -/
def inIm (a b t u v : Ideal .f32) : Ideal .f32 := FloatOps.addf (FloatOps.mulf (holdRe a b t) v) (FloatOps.mulf (holdIm a b t) u)

/-- The group of a state, -/
abbrev grp (i : Fin 2048) : Fin 32 := ⟨i.val / 64, by omega⟩
/-- and its place in the group. -/
abbrev plc (i : Fin 2048) : Fin 64 := ⟨i.val % 64, by omega⟩

/-! ## The kernel's columns -/
section kernel
open Cert.Kernel6Ideal Cert.Kernel6Ideal.Gen

/-- The kernel's first column at a state, -/
theorem pay6_apply (x y z : FVec Ideal S2048x1 .f32) (j : S2048x1.Idx) : k0_pay6 (F := Ideal) x y z j = stepRe (x j) (y j) (z j) := by
  unfold k0_pay6 k0_pay5 k0_pay4 k0_pay3 k0_pay2
  simp only [shapeCast_self]
  rfl
/-- its second, -/
theorem pay7_apply (x y z : FVec Ideal S2048x1 .f32) (j : S2048x1.Idx) : k0_pay7 (F := Ideal) x y z j = stepIm (x j) (y j) (z j) := by
  unfold k0_pay7 k0_pay5 k0_pay4 k0_pay3 k0_pay2
  simp only [shapeCast_self]
  rfl
/-- the real column of quotients, -/
theorem pay10_apply (x y z : FVec Ideal S2048x1 .f32) (j : S2048x1.Idx) : k0_pay10 (F := Ideal) x y z j = holdRe (x j) (y j) (z j) := by
  unfold holdRe
  rw [← pay6_apply x y z j, ← pay7_apply x y z j]
  unfold k0_pay10 k0_pay9 k0_pay8 k0_pay3 k0_pay2
  simp only [shapeCast_self]
  rfl
/-- and the imaginary one. -/
theorem pay11_apply (x y z : FVec Ideal S2048x1 .f32) (j : S2048x1.Idx) : k0_pay11 (F := Ideal) x y z j = holdIm (x j) (y j) (z j) := by
  unfold holdIm
  rw [← pay6_apply x y z j, ← pay7_apply x y z j]
  unfold k0_pay11 k0_pay9 k0_pay8 k0_pay3 k0_pay2
  simp only [shapeCast_self]
  rfl

/-- A column broadcast along the rows. -/
theorem col_apply (x : FVec Ideal S2048x1 .f32) (i : Fin 2048) (e : Fin 16) :
    broadcastTo S2048x16 x broadcasts_S2048x1_S2048x16 (ix2 i e) = x (ix2 i 0) := by
  pointwise

/-- The kernel's first matrix at an entry, -/
theorem pay14_apply (x y z : FVec Ideal S2048x1 .f32) (u v : FVec Ideal S2048x16 .f32) (i : Fin 2048) (e : Fin 16) :
    k0_pay14 (F := Ideal) x y z u v (ix2 i e) = inRe (x (ix2 i 0)) (y (ix2 i 0)) (z (ix2 i 0)) (u (ix2 i e)) (v (ix2 i e)) := by
  unfold inRe
  rw [← pay10_apply, ← pay11_apply, ← col_apply (k0_pay10 x y z) i e, ← col_apply (k0_pay11 x y z) i e]
  unfold k0_pay14 k0_pay12 k0_pay13
  simp only [shapeCast_self]
  rfl
/-- and its second. -/
theorem pay1_apply (x y z : FVec Ideal S2048x1 .f32) (u v : FVec Ideal S2048x16 .f32) (i : Fin 2048) (e : Fin 16) :
    k0_pay1 (F := Ideal) (k0_pay10 x y z) (k0_pay11 x y z) (k0_pay12 u) (k0_pay13 v) (ix2 i e)
      = inIm (x (ix2 i 0)) (y (ix2 i 0)) (z (ix2 i 0)) (u (ix2 i e)) (v (ix2 i e)) := by
  unfold inIm
  rw [← pay10_apply, ← pay11_apply, ← col_apply (k0_pay10 x y z) i e, ← col_apply (k0_pay11 x y z) i e]
  unfold k0_pay1 k0_pay12 k0_pay13
  simp only [shapeCast_self]
  rfl

/-- An array of states as a column: row `i` is the state of the group and the place `i` gives. -/
theorem column_apply (x : FVec Ideal S1x32x64 .f32) (i : Fin 2048) :
    shapeCast S2048x1 (shapeCast S32x64 x shapeCasts_S1x32x64_S32x64) shapeCasts_S32x64_S2048x1 (ix2 i (0 : Fin 1)) = x (ix3 (0 : Fin 1) (grp i) (plc i)) := by
  rw [shapeCast_apply _ _ (ix2 i (0 : Fin 1)) (ix2 (grp i) (plc i)) (by
    rw [Shape.rowMajor_val_two, Shape.rowMajor_val_two]
    show i.val / 64 * 64 + i.val % 64 = i.val * 1 + 0
    omega)]
  exact shapeCast_apply _ _ (ix2 (grp i) (plc i)) (ix3 (0 : Fin 1) (grp i) (plc i)) (by
    rw [Shape.rowMajor_val_two, Shape.rowMajor_val_three]
    show (0 * 32 + i.val / 64) * 64 + i.val % 64 = i.val / 64 * 64 + i.val % 64
    omega)

/-- The times as a column: row `i` is the group's. -/
theorem times_apply (x : FVec Ideal S1x32 .f32) (i : Fin 2048) :
    shapeCast S2048x1 (shapeCast S2048 (broadcastInDim S32x64 ![0] bcast_S32_S32x64_0 (shapeCast S32 x shapeCasts_S1x32_S32)) shapeCasts_S32x64_S2048) shapeCasts_S2048_S2048x1 (ix2 i (0 : Fin 1))
      = x (ix2 (0 : Fin 1) (grp i)) := by
  rw [shapeCast_apply _ _ (ix2 i (0 : Fin 1)) (ix1 i) (by
    rw [Shape.rowMajor_val_two, Shape.rowMajor_val_one]
    show i.val = i.val * 1 + 0
    omega)]
  rw [shapeCast_apply _ _ (ix1 i) (ix2 (grp i) (plc i)) (by
    rw [Shape.rowMajor_val_two, Shape.rowMajor_val_one]
    show i.val / 64 * 64 + i.val % 64 = i.val
    omega)]
  pointwise

/-- A matrix per group as one matrix: row `i` is the row of the group and the place `i` gives. -/
theorem rows_apply (x : FVec Ideal S1x32x64x16 .f32) (i : Fin 2048) (e : Fin 16) :
    shapeCast S2048x16 (shapeCast S32x64x16 x shapeCasts_S1x32x64x16_S32x64x16) shapeCasts_S32x64x16_S2048x16 (ix2 i e) = x (ix4 (0 : Fin 1) (grp i) (plc i) e) := by
  rw [shapeCast_apply _ _ (ix2 i e) (ix3 (grp i) (plc i) e) (by
    rw [Shape.rowMajor_val_two, Shape.rowMajor_val_three]
    show (i.val / 64 * 64 + i.val % 64) * 16 + e.val = i.val * 16 + e.val
    omega)]
  pointwise

end kernel

/-! ## The reference's arrays -/
section reference
open Cert.Reference6Ideal Cert.Reference6Ideal.Gen

/-- The reference's times, one per group, along the states. -/
def times (t : FVec Ideal S1x32 .f32) : FVec Ideal S32x64 .f32 :=
  broadcastInDim S32x64 ![0, 1] bcast_S32x1_S32x64_0_1 (broadcastInDim S32x1 ![0] bcast_S32_S32x1_0 (Host.exp (shapeCast S32 t shapeCasts_S1x32_S32)))
/-- An argument's array of states. -/
def states (a : FVec Ideal S1x32x64 .f32) : FVec Ideal S32x64 .f32 := shapeCast S32x64 a shapeCasts_S1x32x64_S32x64
/-- The reference's steps, the real parts -/
def barRe (a b : FVec Ideal S1x32x64 .f32) (t : FVec Ideal S1x32 .f32) : FVec Ideal S32x64 .f32 :=
  mulf (Host.exp (mulf (states a) (times t))) (Host.cos (mulf (states b) (times t)))
/-- and the imaginary ones. -/
def barIm (a b : FVec Ideal S1x32x64 .f32) (t : FVec Ideal S1x32 .f32) : FVec Ideal S32x64 .f32 :=
  mulf (Host.exp (mulf (states a) (times t))) (Host.sin (mulf (states b) (times t)))
/-- The reference's quotients, the real parts -/
def coefRe (a b : FVec Ideal S1x32x64 .f32) (t : FVec Ideal S1x32 .f32) : FVec Ideal S32x64 .f32 :=
  Host.divf (addf (mulf (subf (barRe a b t) (broadcastInDim S32x64 ![] bcast_S_S32x64 (constant S_ .f32 0x3F800000#32))) (states a)) (mulf (barIm a b t) (states b)))
    (addf (mulf (states a) (states a)) (mulf (states b) (states b)))
/-- and the imaginary ones. -/
def coefIm (a b : FVec Ideal S1x32x64 .f32) (t : FVec Ideal S1x32 .f32) : FVec Ideal S32x64 .f32 :=
  Host.divf (subf (mulf (barIm a b t) (states a)) (mulf (subf (barRe a b t) (broadcastInDim S32x64 ![] bcast_S_S32x64 (constant S_ .f32 0x3F800000#32))) (states b)))
    (addf (mulf (states a) (states a)) (mulf (states b) (states b)))
/-- A quotient along the inputs. -/
def wide (q : FVec Ideal S32x64 .f32) : FVec Ideal S32x64x16 .f32 :=
  broadcastInDim S32x64x16 ![0, 1, 2] bcast_S32x64x1_S32x64x16_0_1_2 (broadcastInDim S32x64x1 ![0, 1] bcast_S32x64_S32x64x1_0_1 q)
/-- An argument's matrices. -/
def mats (u : FVec Ideal S1x32x64x16 .f32) : FVec Ideal S32x64x16 .f32 := shapeCast S32x64x16 u shapeCasts_S1x32x64x16_S32x64x16

/-- The reference's first result, -/
def ref0 (a b : FVec Ideal S1x32x64 .f32) (t : FVec Ideal S1x32 .f32) : FVec Ideal S2048x1 .f32 := shapeCast S2048x1 (barRe a b t) shapeCasts_S32x64_S2048x1
/-- its second, -/
def ref1 (a b : FVec Ideal S1x32x64 .f32) (t : FVec Ideal S1x32 .f32) : FVec Ideal S2048x1 .f32 := shapeCast S2048x1 (barIm a b t) shapeCasts_S32x64_S2048x1
/-- its third -/
def ref2 (a b : FVec Ideal S1x32x64 .f32) (t : FVec Ideal S1x32 .f32) (u v : FVec Ideal S1x32x64x16 .f32) : FVec Ideal S2048x16 .f32 :=
  shapeCast S2048x16 (subf (mulf (wide (coefRe a b t)) (mats u)) (mulf (wide (coefIm a b t)) (mats v))) shapeCasts_S32x64x16_S2048x16
/-- and its fourth. -/
def ref3 (a b : FVec Ideal S1x32x64 .f32) (t : FVec Ideal S1x32 .f32) (u v : FVec Ideal S1x32x64x16 .f32) : FVec Ideal S2048x16 .f32 :=
  shapeCast S2048x16 (addf (mulf (wide (coefRe a b t)) (mats v)) (mulf (wide (coefIm a b t)) (mats u))) shapeCasts_S32x64x16_S2048x16

/-- The times at a state, -/
theorem times_entry (t : FVec Ideal S1x32 .f32) (g : Fin 32) (p : Fin 64) : times t (ix2 g p) = FloatOps.hostUnary .exp (t (ix2 (0 : Fin 1) g)) := by
  unfold times
  pointwise
/-- an argument's array at a state, -/
theorem states_entry (a : FVec Ideal S1x32x64 .f32) (g : Fin 32) (p : Fin 64) : states a (ix2 g p) = a (ix3 (0 : Fin 1) g p) := by
  unfold states
  pointwise
/-- a quotient along the inputs at an entry, -/
theorem wide_entry (q : FVec Ideal S32x64 .f32) (g : Fin 32) (p : Fin 64) (e : Fin 16) : wide q (ix3 g p e) = q (ix2 g p) := by
  unfold wide
  pointwise
/-- and an argument's matrices at an entry. -/
theorem mats_entry (u : FVec Ideal S1x32x64x16 .f32) (g : Fin 32) (p : Fin 64) (e : Fin 16) : mats u (ix3 g p e) = u (ix4 (0 : Fin 1) g p e) := by
  unfold mats
  pointwise

/-- The reference's steps at a state, the real part -/
theorem barRe_entry (a b : FVec Ideal S1x32x64 .f32) (t : FVec Ideal S1x32 .f32) (g : Fin 32) (p : Fin 64) :
    barRe a b t (ix2 g p) = stepRe (a (ix3 (0 : Fin 1) g p)) (b (ix3 (0 : Fin 1) g p)) (t (ix2 (0 : Fin 1) g)) := by
  unfold stepRe
  rw [← states_entry a, ← states_entry b, show (FloatOps.exp (t (ix2 (0 : Fin 1) g)) : Ideal .f32) = times t (ix2 g p) from (times_entry t g p).symm]
  rfl
/-- and the imaginary one. -/
theorem barIm_entry (a b : FVec Ideal S1x32x64 .f32) (t : FVec Ideal S1x32 .f32) (g : Fin 32) (p : Fin 64) :
    barIm a b t (ix2 g p) = stepIm (a (ix3 (0 : Fin 1) g p)) (b (ix3 (0 : Fin 1) g p)) (t (ix2 (0 : Fin 1) g)) := by
  unfold stepIm
  rw [← states_entry a, ← states_entry b, show (FloatOps.exp (t (ix2 (0 : Fin 1) g)) : Ideal .f32) = times t (ix2 g p) from (times_entry t g p).symm]
  rfl
/-- The reference's quotients at a state, the real part -/
theorem coefRe_entry (a b : FVec Ideal S1x32x64 .f32) (t : FVec Ideal S1x32 .f32) (g : Fin 32) (p : Fin 64) :
    coefRe a b t (ix2 g p) = holdRe (a (ix3 (0 : Fin 1) g p)) (b (ix3 (0 : Fin 1) g p)) (t (ix2 (0 : Fin 1) g)) := by
  unfold holdRe
  rw [← barRe_entry, ← barIm_entry, ← states_entry a, ← states_entry b]
  rfl
/-- and the imaginary one. -/
theorem coefIm_entry (a b : FVec Ideal S1x32x64 .f32) (t : FVec Ideal S1x32 .f32) (g : Fin 32) (p : Fin 64) :
    coefIm a b t (ix2 g p) = holdIm (a (ix3 (0 : Fin 1) g p)) (b (ix3 (0 : Fin 1) g p)) (t (ix2 (0 : Fin 1) g)) := by
  unfold holdIm
  rw [← barRe_entry, ← barIm_entry, ← states_entry a, ← states_entry b]
  rfl

/-- A column of the reference's results at a row. -/
theorem column_entry (x : FVec Ideal S32x64 .f32) (i : Fin 2048) : shapeCast S2048x1 x shapeCasts_S32x64_S2048x1 (ix2 i (0 : Fin 1)) = x (ix2 (grp i) (plc i)) :=
  shapeCast_apply _ _ (ix2 i (0 : Fin 1)) (ix2 (grp i) (plc i)) (by
    rw [Shape.rowMajor_val_two, Shape.rowMajor_val_two]
    show i.val / 64 * 64 + i.val % 64 = i.val * 1 + 0
    omega)
/-- A matrix of the reference's results at an entry. -/
theorem matrix_entry (x : FVec Ideal S32x64x16 .f32) (i : Fin 2048) (e : Fin 16) :
    shapeCast S2048x16 x shapeCasts_S32x64x16_S2048x16 (ix2 i e) = x (ix3 (grp i) (plc i) e) :=
  shapeCast_apply _ _ (ix2 i e) (ix3 (grp i) (plc i) e) (by
    rw [Shape.rowMajor_val_two, Shape.rowMajor_val_three]
    show (i.val / 64 * 64 + i.val % 64) * 16 + e.val = i.val * 16 + e.val
    omega)

/-- The reference's first result at a row, -/
theorem ref0_entry (a b : FVec Ideal S1x32x64 .f32) (t : FVec Ideal S1x32 .f32) (i : Fin 2048) :
    ref0 a b t (ix2 i (0 : Fin 1)) = stepRe (a (ix3 (0 : Fin 1) (grp i) (plc i))) (b (ix3 (0 : Fin 1) (grp i) (plc i))) (t (ix2 (0 : Fin 1) (grp i))) :=
  (column_entry _ i).trans (barRe_entry a b t _ _)
/-- its second, -/
theorem ref1_entry (a b : FVec Ideal S1x32x64 .f32) (t : FVec Ideal S1x32 .f32) (i : Fin 2048) :
    ref1 a b t (ix2 i (0 : Fin 1)) = stepIm (a (ix3 (0 : Fin 1) (grp i) (plc i))) (b (ix3 (0 : Fin 1) (grp i) (plc i))) (t (ix2 (0 : Fin 1) (grp i))) :=
  (column_entry _ i).trans (barIm_entry a b t _ _)
/-- its third -/
theorem ref2_entry (a b : FVec Ideal S1x32x64 .f32) (t : FVec Ideal S1x32 .f32) (u v : FVec Ideal S1x32x64x16 .f32) (i : Fin 2048) (e : Fin 16) :
    ref2 a b t u v (ix2 i e) = inRe (a (ix3 (0 : Fin 1) (grp i) (plc i))) (b (ix3 (0 : Fin 1) (grp i) (plc i))) (t (ix2 (0 : Fin 1) (grp i)))
      (u (ix4 (0 : Fin 1) (grp i) (plc i) e)) (v (ix4 (0 : Fin 1) (grp i) (plc i) e)) := by
  unfold inRe
  rw [← coefRe_entry, ← coefIm_entry, ← wide_entry (coefRe a b t) _ _ e, ← wide_entry (coefIm a b t) _ _ e, ← mats_entry u, ← mats_entry v]
  exact matrix_entry _ i e
/-- and its fourth. -/
theorem ref3_entry (a b : FVec Ideal S1x32x64 .f32) (t : FVec Ideal S1x32 .f32) (u v : FVec Ideal S1x32x64x16 .f32) (i : Fin 2048) (e : Fin 16) :
    ref3 a b t u v (ix2 i e) = inIm (a (ix3 (0 : Fin 1) (grp i) (plc i))) (b (ix3 (0 : Fin 1) (grp i) (plc i))) (t (ix2 (0 : Fin 1) (grp i)))
      (u (ix4 (0 : Fin 1) (grp i) (plc i) e)) (v (ix4 (0 : Fin 1) (grp i) (plc i) e)) := by
  unfold inIm
  rw [← coefRe_entry, ← coefIm_entry, ← wide_entry (coefRe a b t) _ _ e, ← wide_entry (coefIm a b t) _ _ e, ← mats_entry u, ← mats_entry v]
  exact matrix_entry _ i e

end reference

end Cert.DiscMath

end
-- ==== Proof.Disc.lean ====
/- The values of the call that makes the recurrence's step matrices: its four result arrays, each one block. -/
module

public import proofs.«01_k».proof.Proof.DiscMath
public import proofs.«01_k».proof.Proof.Gen.Kernel6Ideal.Frame
public import Idealize.ShloMosaic.Lib.Pipeline.Value
public import Idealize.ShloMosaic.Lib.Pipeline.ValueKit.Basic
public import Idealize.ShloMosaic.Lib.Pipeline.ValueKit.Geometry
public import Idealize.ShloMosaic.Lib.Pointwise
public import Idealize.ShloMosaic.Lib.StableHlo.Run
public import Idealize.ShloMosaic.Lib.Tactic

@[expose] public section

set_option maxRecDepth 16384

noncomputable section

namespace Cert.Kernel6Ideal.Disc

open Cert.Kernel6Ideal Cert.Kernel6Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]

/-! ## What the body leaves in each result's buffer -/

/-- The kernel's loads and stores are of whole blocks. -/
theorem hz (a : Fin 2) : (![0, 0] : Fin 2 → ℕ) a = 0 := by fin_cases a <;> rfl

/-- The first result's buffer holds the payload of the blocks. -/
theorem out_5 (x0 x1 x2 : Vec F S2048x1 .f32) (x3 x4 : Vec F S2048x16 .f32) : out0_5 x0 x1 x2 x3 x4 = k0_pay6 x0 x1 x2 := by
  unfold out0_5
  refine (View.canon_cons_unit_lit inb_S2048x1_S2048x1_0_0 _ [] hz).trans ?_
  rw [show View.ld x0 r0_0 = x0 from View.ld_unit_lit inb_S2048x1_S2048x1_0_0 x0 hz,
    show View.ld x1 r0_0 = x1 from View.ld_unit_lit inb_S2048x1_S2048x1_0_0 x1 hz,
    show View.ld x2 r0_0 = x2 from View.ld_unit_lit inb_S2048x1_S2048x1_0_0 x2 hz]

/-- The second's buffer holds the payload of the blocks. -/
theorem out_6 (x0 x1 x2 : Vec F S2048x1 .f32) (x3 x4 : Vec F S2048x16 .f32) : out0_6 x0 x1 x2 x3 x4 = k0_pay7 x0 x1 x2 := by
  unfold out0_6
  refine (View.canon_cons_unit_lit inb_S2048x1_S2048x1_0_0 _ [] hz).trans ?_
  rw [show View.ld x0 r0_0 = x0 from View.ld_unit_lit inb_S2048x1_S2048x1_0_0 x0 hz,
    show View.ld x1 r0_0 = x1 from View.ld_unit_lit inb_S2048x1_S2048x1_0_0 x1 hz,
    show View.ld x2 r0_0 = x2 from View.ld_unit_lit inb_S2048x1_S2048x1_0_0 x2 hz]

/-- The third's buffer holds the payload of the blocks. -/
theorem out_7 (x0 x1 x2 : Vec F S2048x1 .f32) (x3 x4 : Vec F S2048x16 .f32) : out0_7 x0 x1 x2 x3 x4 = k0_pay14 x0 x1 x2 x3 x4 := by
  unfold out0_7
  refine (View.canon_cons_unit_lit inb_S2048x16_S2048x16_0_0 _ [] hz).trans ?_
  rw [show View.ld x0 r0_0 = x0 from View.ld_unit_lit inb_S2048x1_S2048x1_0_0 x0 hz,
    show View.ld x1 r0_0 = x1 from View.ld_unit_lit inb_S2048x1_S2048x1_0_0 x1 hz,
    show View.ld x2 r0_0 = x2 from View.ld_unit_lit inb_S2048x1_S2048x1_0_0 x2 hz,
    show View.ld x3 r0_1 = x3 from View.ld_unit_lit inb_S2048x16_S2048x16_0_0 x3 hz,
    show View.ld x4 r0_1 = x4 from View.ld_unit_lit inb_S2048x16_S2048x16_0_0 x4 hz]

/-- The fourth's buffer holds the payload of the blocks. -/
theorem out_8 (x0 x1 x2 : Vec F S2048x1 .f32) (x3 x4 : Vec F S2048x16 .f32) : out0_8 x0 x1 x2 x3 x4 = k0_pay1 (k0_pay10 x0 x1 x2) (k0_pay11 x0 x1 x2) (k0_pay12 x3) (k0_pay13 x4) := by
  unfold out0_8
  refine (View.canon_cons_unit_lit inb_S2048x16_S2048x16_0_0 _ [] hz).trans ?_
  rw [show View.ld x0 r0_0 = x0 from View.ld_unit_lit inb_S2048x1_S2048x1_0_0 x0 hz,
    show View.ld x1 r0_0 = x1 from View.ld_unit_lit inb_S2048x1_S2048x1_0_0 x1 hz,
    show View.ld x2 r0_0 = x2 from View.ld_unit_lit inb_S2048x1_S2048x1_0_0 x2 hz,
    show View.ld x3 r0_1 = x3 from View.ld_unit_lit inb_S2048x16_S2048x16_0_0 x3 hz,
    show View.ld x4 r0_1 = x4 from View.ld_unit_lit inb_S2048x16_S2048x16_0_0 x4 hz]

/-! ## What the windows read -/

section value
variable (m : (ℓ : Loc nD τ sig) → Buf (Elt Ideal) ℓ)

/-- The real parts of the rates as the region finds them. -/
theorem V_0 (c : Dev nD) : V m c main_v5 = shapeCast S2048x1 (shapeCast S32x64 (m ((c.tc : Thread nD τ).loc main_arg0)) shapeCasts_S1x32x64_S32x64) shapeCasts_S32x64_S2048x1 := by
  unfold V
  simp only [hostOps0, List.flatten_cons, List.flatten_nil, List.append_nil, List.cons_append, List.nil_append]
  after_results_simp <;> rfl
/-- The region's only point reads all of them. -/
theorem whole_0 (c : Dev nD) (t : Fin cfg0.N) (j : S2048x1.Idx) : iblk m c 0 t j = V m c main_v5 j := by
  show V m c main_v5 (((cfg0.win 0).blk t).view.emb j) = _
  refine congrArg (V m c main_v5) (funext fun a => Fin.ext ?_)
  match a with
  | ⟨0, _⟩ => show 0 * 2048 + 1 * (j 0).val = (j 0).val; omega
  | ⟨1, _⟩ => show 0 * 1 + 1 * (j 1).val = (j 1).val; omega
/-- Their entries. -/
theorem entry_0 (c : Dev nD) (t : Fin cfg0.N) (i : Fin 2048) : iblk m c 0 t (ix2 i (0 : Fin 1)) = m ((c.tc : Thread nD τ).loc main_arg0) (ix3 (0 : Fin 1) (Cert.DiscMath.grp i) (Cert.DiscMath.plc i)) :=
  (whole_0 m c t _).trans ((congrFun (V_0 m c) _).trans (Cert.DiscMath.column_apply _ i))

/-- The imaginary parts of the rates as the region finds them. -/
theorem V_1 (c : Dev nD) : V m c main_v6 = shapeCast S2048x1 (shapeCast S32x64 (m ((c.tc : Thread nD τ).loc main_arg1)) shapeCasts_S1x32x64_S32x64) shapeCasts_S32x64_S2048x1 := by
  unfold V
  simp only [hostOps0, List.flatten_cons, List.flatten_nil, List.append_nil, List.cons_append, List.nil_append]
  after_results_simp <;> rfl
/-- The region's only point reads all of them. -/
theorem whole_1 (c : Dev nD) (t : Fin cfg0.N) (j : S2048x1.Idx) : iblk m c 1 t j = V m c main_v6 j := by
  show V m c main_v6 (((cfg0.win 1).blk t).view.emb j) = _
  refine congrArg (V m c main_v6) (funext fun a => Fin.ext ?_)
  match a with
  | ⟨0, _⟩ => show 0 * 2048 + 1 * (j 0).val = (j 0).val; omega
  | ⟨1, _⟩ => show 0 * 1 + 1 * (j 1).val = (j 1).val; omega
/-- Their entries. -/
theorem entry_1 (c : Dev nD) (t : Fin cfg0.N) (i : Fin 2048) : iblk m c 1 t (ix2 i (0 : Fin 1)) = m ((c.tc : Thread nD τ).loc main_arg1) (ix3 (0 : Fin 1) (Cert.DiscMath.grp i) (Cert.DiscMath.plc i)) :=
  (whole_1 m c t _).trans ((congrFun (V_1 m c) _).trans (Cert.DiscMath.column_apply _ i))

/-- The times' logarithms as the region finds them. -/
theorem V_2 (c : Dev nD) : V m c main_v9 = shapeCast S2048x1 (shapeCast S2048 (broadcastInDim S32x64 ![0] bcast_S32_S32x64_0 (shapeCast S32 (m ((c.tc : Thread nD τ).loc main_arg2)) shapeCasts_S1x32_S32)) shapeCasts_S32x64_S2048) shapeCasts_S2048_S2048x1 := by
  unfold V
  simp only [hostOps0, List.flatten_cons, List.flatten_nil, List.append_nil, List.cons_append, List.nil_append]
  after_results_simp <;> rfl
/-- The region's only point reads all of them. -/
theorem whole_2 (c : Dev nD) (t : Fin cfg0.N) (j : S2048x1.Idx) : iblk m c 2 t j = V m c main_v9 j := by
  show V m c main_v9 (((cfg0.win 2).blk t).view.emb j) = _
  refine congrArg (V m c main_v9) (funext fun a => Fin.ext ?_)
  match a with
  | ⟨0, _⟩ => show 0 * 2048 + 1 * (j 0).val = (j 0).val; omega
  | ⟨1, _⟩ => show 0 * 1 + 1 * (j 1).val = (j 1).val; omega
/-- Their entries. -/
theorem entry_2 (c : Dev nD) (t : Fin cfg0.N) (i : Fin 2048) : iblk m c 2 t (ix2 i (0 : Fin 1)) = m ((c.tc : Thread nD τ).loc main_arg2) (ix2 (0 : Fin 1) (Cert.DiscMath.grp i)) :=
  (whole_2 m c t _).trans ((congrFun (V_2 m c) _).trans (Cert.DiscMath.times_apply _ i))

/-- The real parts of the input matrices as the region finds them. -/
theorem V_3 (c : Dev nD) : V m c main_v10 = shapeCast S2048x16 (shapeCast S32x64x16 (m ((c.tc : Thread nD τ).loc main_arg3)) shapeCasts_S1x32x64x16_S32x64x16) shapeCasts_S32x64x16_S2048x16 := by
  unfold V
  simp only [hostOps0, List.flatten_cons, List.flatten_nil, List.append_nil, List.cons_append, List.nil_append]
  after_results_simp <;> rfl
/-- The region's only point reads all of them. -/
theorem whole_3 (c : Dev nD) (t : Fin cfg0.N) (j : S2048x16.Idx) : iblk m c 3 t j = V m c main_v10 j := by
  show V m c main_v10 (((cfg0.win 3).blk t).view.emb j) = _
  refine congrArg (V m c main_v10) (funext fun a => Fin.ext ?_)
  match a with
  | ⟨0, _⟩ => show 0 * 2048 + 1 * (j 0).val = (j 0).val; omega
  | ⟨1, _⟩ => show 0 * 16 + 1 * (j 1).val = (j 1).val; omega
/-- Their entries. -/
theorem entry_3 (c : Dev nD) (t : Fin cfg0.N) (i : Fin 2048) (e : Fin 16) :
    iblk m c 3 t (ix2 i e) = m ((c.tc : Thread nD τ).loc main_arg3) (ix4 (0 : Fin 1) (Cert.DiscMath.grp i) (Cert.DiscMath.plc i) e) :=
  (whole_3 m c t _).trans ((congrFun (V_3 m c) _).trans (Cert.DiscMath.rows_apply _ i e))

/-- The imaginary parts of the input matrices as the region finds them. -/
theorem V_4 (c : Dev nD) : V m c main_v11 = shapeCast S2048x16 (shapeCast S32x64x16 (m ((c.tc : Thread nD τ).loc main_arg4)) shapeCasts_S1x32x64x16_S32x64x16) shapeCasts_S32x64x16_S2048x16 := by
  unfold V
  simp only [hostOps0, List.flatten_cons, List.flatten_nil, List.append_nil, List.cons_append, List.nil_append]
  after_results_simp <;> rfl
/-- The region's only point reads all of them. -/
theorem whole_4 (c : Dev nD) (t : Fin cfg0.N) (j : S2048x16.Idx) : iblk m c 4 t j = V m c main_v11 j := by
  show V m c main_v11 (((cfg0.win 4).blk t).view.emb j) = _
  refine congrArg (V m c main_v11) (funext fun a => Fin.ext ?_)
  match a with
  | ⟨0, _⟩ => show 0 * 2048 + 1 * (j 0).val = (j 0).val; omega
  | ⟨1, _⟩ => show 0 * 16 + 1 * (j 1).val = (j 1).val; omega
/-- Their entries. -/
theorem entry_4 (c : Dev nD) (t : Fin cfg0.N) (i : Fin 2048) (e : Fin 16) :
    iblk m c 4 t (ix2 i e) = m ((c.tc : Thread nD τ).loc main_arg4) (ix4 (0 : Fin 1) (Cert.DiscMath.grp i) (Cert.DiscMath.plc i) e) :=
  (whole_4 m c t _).trans ((congrFun (V_4 m c) _).trans (Cert.DiscMath.rows_apply _ i e))

/-! ## The result arrays -/

/-- The first result of the reference, of the arrays launched. -/
def result0 (c : Dev nD) : FVec Ideal S2048x1 .f32 := Cert.DiscMath.ref0 (m ((c.tc : Thread nD τ).loc main_arg0)) (m ((c.tc : Thread nD τ).loc main_arg1)) (m ((c.tc : Thread nD τ).loc main_arg2))
/-- The region's only block of the result is the whole result, -/
theorem emb_5 (t : Fin cfg0.N) (y : S2048x1.Idx) : ((cfg0.win 5).blk t).view.emb y = y := by
  refine funext fun a => Fin.ext ?_
  match a with
  | ⟨0, _⟩ => show 0 * 2048 + 1 * (y 0).val = (y 0).val; omega
  | ⟨1, _⟩ => show 0 * 1 + 1 * (y 1).val = (y 1).val; omega
/-- and holds the reference's. -/
theorem block_5 (c : Dev nD) (t : Fin cfg0.N) (y : S2048x1.Idx) :
    out0_5 (iblk m c 0 t) (iblk m c 1 t) (iblk m c 2 t) (iblk m c 3 t) (iblk m c 4 t) y = result0 m c y := by
  obtain ⟨i, rfl⟩ : ∃ i : Fin 2048, y = ix2 i (0 : Fin 1) := ⟨y 0, by
    funext a
    match a with
    | ⟨0, _⟩ => rfl
    | ⟨1, _⟩ => exact Subsingleton.elim (α := Fin 1) _ _⟩
  refine (congrFun (out_5 (iblk m c 0 t) (iblk m c 1 t) (iblk m c 2 t) (iblk m c 3 t) (iblk m c 4 t)) _).trans ?_
  refine (Cert.DiscMath.pay6_apply _ _ _ _).trans ?_
  rw [entry_0, entry_1, entry_2]
  exact (Cert.DiscMath.ref0_entry _ _ _ i).symm
/-- The run's result array is the reference's. -/
theorem arr_5 (c : Dev nD) : (dats m 0 c).arrAt 5 cfg0.N = result0 m c := by
  refine (dats m 0 c).arrAt_eq_of_emb 5 (result0 m c) (fun t hf y => ?_) (fun i => ?_)
  · show (dats m 0 c).after 5 t y = result0 m c (((cfg0.win 5).blk t).view.emb y)
    rw [after0_5]
    exact (block_5 m c t y).trans (congrArg (result0 m c) (emb_5 t y)).symm
  · refine ⟨t0_0, by decide +kernel, ?_⟩
    have e : ((cfg0.win 5).blk t0_0).view.emb i = i := emb_5 t0_0 i
    rw [← e]
    exact View.emb_mem_set _ _

/-- The second of the reference, of the arrays launched. -/
def result1 (c : Dev nD) : FVec Ideal S2048x1 .f32 := Cert.DiscMath.ref1 (m ((c.tc : Thread nD τ).loc main_arg0)) (m ((c.tc : Thread nD τ).loc main_arg1)) (m ((c.tc : Thread nD τ).loc main_arg2))
/-- The region's only block of the result is the whole result, -/
theorem emb_6 (t : Fin cfg0.N) (y : S2048x1.Idx) : ((cfg0.win 6).blk t).view.emb y = y := by
  refine funext fun a => Fin.ext ?_
  match a with
  | ⟨0, _⟩ => show 0 * 2048 + 1 * (y 0).val = (y 0).val; omega
  | ⟨1, _⟩ => show 0 * 1 + 1 * (y 1).val = (y 1).val; omega
/-- and holds the reference's. -/
theorem block_6 (c : Dev nD) (t : Fin cfg0.N) (y : S2048x1.Idx) :
    out0_6 (iblk m c 0 t) (iblk m c 1 t) (iblk m c 2 t) (iblk m c 3 t) (iblk m c 4 t) y = result1 m c y := by
  obtain ⟨i, rfl⟩ : ∃ i : Fin 2048, y = ix2 i (0 : Fin 1) := ⟨y 0, by
    funext a
    match a with
    | ⟨0, _⟩ => rfl
    | ⟨1, _⟩ => exact Subsingleton.elim (α := Fin 1) _ _⟩
  refine (congrFun (out_6 (iblk m c 0 t) (iblk m c 1 t) (iblk m c 2 t) (iblk m c 3 t) (iblk m c 4 t)) _).trans ?_
  refine (Cert.DiscMath.pay7_apply _ _ _ _).trans ?_
  rw [entry_0, entry_1, entry_2]
  exact (Cert.DiscMath.ref1_entry _ _ _ i).symm
/-- The run's result array is the reference's. -/
theorem arr_6 (c : Dev nD) : (dats m 0 c).arrAt 6 cfg0.N = result1 m c := by
  refine (dats m 0 c).arrAt_eq_of_emb 6 (result1 m c) (fun t hf y => ?_) (fun i => ?_)
  · show (dats m 0 c).after 6 t y = result1 m c (((cfg0.win 6).blk t).view.emb y)
    rw [after0_6]
    exact (block_6 m c t y).trans (congrArg (result1 m c) (emb_6 t y)).symm
  · refine ⟨t0_0, by decide +kernel, ?_⟩
    have e : ((cfg0.win 6).blk t0_0).view.emb i = i := emb_6 t0_0 i
    rw [← e]
    exact View.emb_mem_set _ _

/-- The third of the reference, of the arrays launched. -/
def result2 (c : Dev nD) : FVec Ideal S2048x16 .f32 := Cert.DiscMath.ref2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The region's only block of the result is the whole result, -/
theorem emb_7 (t : Fin cfg0.N) (y : S2048x16.Idx) : ((cfg0.win 7).blk t).view.emb y = y := by
  refine funext fun a => Fin.ext ?_
  match a with
  | ⟨0, _⟩ => show 0 * 2048 + 1 * (y 0).val = (y 0).val; omega
  | ⟨1, _⟩ => show 0 * 16 + 1 * (y 1).val = (y 1).val; omega
/-- and holds the reference's. -/
theorem block_7 (c : Dev nD) (t : Fin cfg0.N) (y : S2048x16.Idx) :
    out0_7 (iblk m c 0 t) (iblk m c 1 t) (iblk m c 2 t) (iblk m c 3 t) (iblk m c 4 t) y = result2 m c y := by
  obtain ⟨i, e, rfl⟩ : ∃ (i : Fin 2048) (e : Fin 16), y = ix2 i e := ⟨y 0, y 1, by
    funext a
    match a with
    | ⟨0, _⟩ => rfl
    | ⟨1, _⟩ => rfl⟩
  refine (congrFun (out_7 (iblk m c 0 t) (iblk m c 1 t) (iblk m c 2 t) (iblk m c 3 t) (iblk m c 4 t)) _).trans ?_
  refine (Cert.DiscMath.pay14_apply _ _ _ _ _ i e).trans ?_
  rw [entry_0, entry_1, entry_2, entry_3, entry_4]
  exact (Cert.DiscMath.ref2_entry _ _ _ _ _ i e).symm
/-- The run's result array is the reference's. -/
theorem arr_7 (c : Dev nD) : (dats m 0 c).arrAt 7 cfg0.N = result2 m c := by
  refine (dats m 0 c).arrAt_eq_of_emb 7 (result2 m c) (fun t hf y => ?_) (fun i => ?_)
  · show (dats m 0 c).after 7 t y = result2 m c (((cfg0.win 7).blk t).view.emb y)
    rw [after0_7]
    exact (block_7 m c t y).trans (congrArg (result2 m c) (emb_7 t y)).symm
  · refine ⟨t0_0, by decide +kernel, ?_⟩
    have e : ((cfg0.win 7).blk t0_0).view.emb i = i := emb_7 t0_0 i
    rw [← e]
    exact View.emb_mem_set _ _

/-- The fourth of the reference, of the arrays launched. -/
def result3 (c : Dev nD) : FVec Ideal S2048x16 .f32 := Cert.DiscMath.ref3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The region's only block of the result is the whole result, -/
theorem emb_8 (t : Fin cfg0.N) (y : S2048x16.Idx) : ((cfg0.win 8).blk t).view.emb y = y := by
  refine funext fun a => Fin.ext ?_
  match a with
  | ⟨0, _⟩ => show 0 * 2048 + 1 * (y 0).val = (y 0).val; omega
  | ⟨1, _⟩ => show 0 * 16 + 1 * (y 1).val = (y 1).val; omega
/-- and holds the reference's. -/
theorem block_8 (c : Dev nD) (t : Fin cfg0.N) (y : S2048x16.Idx) :
    out0_8 (iblk m c 0 t) (iblk m c 1 t) (iblk m c 2 t) (iblk m c 3 t) (iblk m c 4 t) y = result3 m c y := by
  obtain ⟨i, e, rfl⟩ : ∃ (i : Fin 2048) (e : Fin 16), y = ix2 i e := ⟨y 0, y 1, by
    funext a
    match a with
    | ⟨0, _⟩ => rfl
    | ⟨1, _⟩ => rfl⟩
  refine (congrFun (out_8 (iblk m c 0 t) (iblk m c 1 t) (iblk m c 2 t) (iblk m c 3 t) (iblk m c 4 t)) _).trans ?_
  refine (Cert.DiscMath.pay1_apply _ _ _ _ _ i e).trans ?_
  rw [entry_0, entry_1, entry_2, entry_3, entry_4]
  exact (Cert.DiscMath.ref3_entry _ _ _ _ _ i e).symm
/-- The run's result array is the reference's. -/
theorem arr_8 (c : Dev nD) : (dats m 0 c).arrAt 8 cfg0.N = result3 m c := by
  refine (dats m 0 c).arrAt_eq_of_emb 8 (result3 m c) (fun t hf y => ?_) (fun i => ?_)
  · show (dats m 0 c).after 8 t y = result3 m c (((cfg0.win 8).blk t).view.emb y)
    rw [after0_8]
    exact (block_8 m c t y).trans (congrArg (result3 m c) (emb_8 t y)).symm
  · refine ⟨t0_0, by decide +kernel, ?_⟩
    have e : ((cfg0.win 8).blk t0_0).view.emb i = i := emb_8 t0_0 i
    rw [← e]
    exact View.emb_mem_set _ _

end value

end Cert.Kernel6Ideal.Disc

end
-- ==== Proof.DwWindow.lean ====
/- The depthwise convolution's window: what its scratch holds after the strided stores of the halo and of the block. -/
module

public import proofs.«01_k».proof.Proof.Gen.Kernel7Ideal.Frame
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Geometry
public import Idealize.ShloMosaic.Lib.Pointwise
public import Idealize.ShloMosaic.Lib.Tactic

@[expose] public section

set_option maxRecDepth 16384

noncomputable section

namespace Cert.Kernel7Ideal.Dw

open Cert.Kernel7Ideal Cert.Kernel7Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]

/-! ## The window -/

/-- The rows a block's convolution runs over: the 32 rows of the halo, then the block's 64. -/
def stacked (h : FVec F S32x1024 .f32) (x : FVec F S64x1024 .f32) (r : Nat) (k : Fin 1024) : F .f32 :=
  if hr : r < 32 then h (ix2 (n0 := 32) (n1 := 1024) ⟨r, hr⟩ k)
  else if hr' : r - 32 < 64 then x (ix2 (n0 := 64) (n1 := 1024) ⟨r - 32, hr'⟩ k) else Scalar.ofBits .f32 0x00000000#32

/-- Those rows laid out as rows of 128: row 8 r + c holds columns 128 c … 128 c + 127 of row r. -/
def laid (h : FVec F S32x1024 .f32) (x : FVec F S64x1024 .f32) (q : Nat) (l : Fin 128) : F .f32 :=
  stacked h x (q / 8) ⟨128 * (q % 8) + l.val, by have := l.isLt; omega⟩

/-- The same as an array. -/
def window (h : FVec F S32x1024 .f32) (x : FVec F S64x1024 .f32) : S768x128.Idx → Elt F .f32 := fun y => laid h x (y 0).val (y 1)

/-- A strided store of the halo's columns is its part of the window. -/
theorem slice_halo (h : FVec F S32x1024 .f32) (x : FVec F S64x1024 .f32) (k : Fin 8) (hs : S32x1024.Slices ![0, 128 * k.val] S32x128)
    (inb : ∀ a, S32x128.size a = 0 ∨ (![k.val, 0] : Fin 2 → Nat) a + (![8, 1] : Fin 2 → Nat) a * (S32x128.size a - 1) < S768x128.size a)
    (y : S32x128.Idx) :
    extractStridedSlice S32x128 ![0, 128 * k.val] h hs y
      = window h x ((⟨(⟨![k.val, 0], S32x128.size, ![8, 1], inb⟩ : LoadRect S768x128), spos_8_1⟩ : Rect S768x128).emb y) := by
  have h0 : (y 0).val < 32 := (y 0).isLt
  have h1 : (y 1).val < 128 := (y 1).isLt
  have hk := k.isLt
  show _ = laid h x (k.val + 8 * (y 0).val) ⟨0 + 1 * (y 1).val, by omega⟩
  unfold laid stacked
  have hq : (k.val + 8 * (y 0).val) / 8 = (y 0).val := by omega
  rw [dif_pos (by omega)]
  refine extractStridedSlice_apply _ _ _ _ _ fun a => ?_
  match a with
  | ⟨0, _⟩ => show (k.val + 8 * (y 0).val) / 8 = 0 + (y 0).val; omega
  | ⟨1, _⟩ => show 128 * ((k.val + 8 * (y 0).val) % 8) + (0 + 1 * (y 1).val) = 128 * k.val + (y 1).val; omega

/-- A strided store of the block's columns is its part of the window. -/
theorem slice_block (h : FVec F S32x1024 .f32) (x : FVec F S64x1024 .f32) (k : Fin 8) (hs : S64x1024.Slices ![0, 128 * k.val] S64x128)
    (inb : ∀ a, S64x128.size a = 0 ∨ (![256 + k.val, 0] : Fin 2 → Nat) a + (![8, 1] : Fin 2 → Nat) a * (S64x128.size a - 1) < S768x128.size a)
    (y : S64x128.Idx) :
    extractStridedSlice S64x128 ![0, 128 * k.val] x hs y
      = window h x ((⟨(⟨![256 + k.val, 0], S64x128.size, ![8, 1], inb⟩ : LoadRect S768x128), spos_8_1⟩ : Rect S768x128).emb y) := by
  have h0 : (y 0).val < 64 := (y 0).isLt
  have h1 : (y 1).val < 128 := (y 1).isLt
  have hk := k.isLt
  show _ = laid h x (256 + k.val + 8 * (y 0).val) ⟨0 + 1 * (y 1).val, by omega⟩
  unfold laid stacked
  rw [dif_neg (by omega), dif_pos (by omega)]
  refine extractStridedSlice_apply _ _ _ _ _ fun a => ?_
  match a with
  | ⟨0, _⟩ => show (256 + k.val + 8 * (y 0).val) / 8 - 32 = 0 + (y 0).val; omega
  | ⟨1, _⟩ => show 128 * ((256 + k.val + 8 * (y 0).val) % 8) + (0 + 1 * (y 1).val) = 128 * k.val + (y 1).val; omega

/-- The loads of the halo, the row before and the block are of whole buffers. -/
theorem hz2 : (![0, 0] : Fin 2 → Nat) = fun _ => 0 := funext fun a => by fin_cases a <;> rfl
theorem hz3 : (![0, 0, 0] : Fin 3 → Nat) = fun _ => 0 := funext fun a => by fin_cases a <;> rfl

/-- After its sixteen stores the scratch holds the window. -/
theorem canon_window (c : Dev nD) (i : grid0.Coords) (arg2 : Memref sig .tc .vmem S64x1024 .f32) (harg2 : arg2.IsWhole) (arg3 : Memref sig .tc .vmem S32x1024 .f32) (harg3 : arg3.IsWhole) (arg4 : Memref sig .tc .vmem S1x32x1024 .f32) (harg4 : arg4.IsWhole)
    (x0 : Vec F S64x1024 .f32) (x1 : Vec F S32x1024 .f32) (x2 : Vec F S1x32x1024 .f32) :
    View.canon (kernelRun0_A.sl.HS0_16 c i arg2 harg2 arg3 harg3 arg4 harg4 x0 x1 x2) = window (k0_pay58 i x2 x1) x0 := by
  have e0 : View.readAt (Elt F) arg2.view (Rect.unit ![0, 0] S64x1024.size inb_S64x1024_S64x1024_0_0).toLoadRect (harg2.unread x0) = x0 := by
    rw [View.readAt_eq_ld, harg2.read_unread]; exact View.ld_unit_zero (S := S64x1024) hz2 _ _
  have e1 : View.readAt (Elt F) arg3.view (Rect.unit ![0, 0] S32x1024.size inb_S32x1024_S32x1024_0_0).toLoadRect (harg3.unread x1) = x1 := by
    rw [View.readAt_eq_ld, harg3.read_unread]; exact View.ld_unit_zero (S := S32x1024) hz2 _ _
  have e2 : View.readAt (Elt F) arg4.view (Rect.unit ![0, 0, 0] S1x32x1024.size inb_S1x32x1024_S1x32x1024_0_0_0).toLoadRect (harg4.unread x2) = x2 := by
    rw [View.readAt_eq_ld, harg4.read_unread]; exact View.ld_unit_zero (S := S1x32x1024) hz3 _ _
  unfold kernelRun0_A.sl.HS0_16 kernelRun0_A.sl.r_3 kernelRun0_A.sl.r_2 kernelRun0_A.sl.r_1 kernelRun0_A.sl.r
  rw [e0, e1, e2]
  simp only [k0_pay59, k0_pay60, k0_pay61, k0_pay62, k0_pay63, k0_pay64, k0_pay65, k0_pay66, k0_pay67, k0_pay68, k0_pay69, k0_pay70, k0_pay71, k0_pay72, k0_pay73, k0_pay74, k0_pay75, shapeCast_self]
  generalize k0_pay58 i x2 x1 = h
  funext j
  refine View.canon_apply_of_pieces (window h x0) _ ?_ j ?_
  · simp only [List.forall_mem_cons, List.not_mem_nil, false_imp_iff, implies_true, and_true]
    exact ⟨slice_block h x0 7 slices_S64x1024_o0_896_S64x128 _, slice_halo h x0 7 slices_S32x1024_o0_896_S32x128 _,
      slice_block h x0 6 slices_S64x1024_o0_768_S64x128 _, slice_halo h x0 6 slices_S32x1024_o0_768_S32x128 _,
      slice_block h x0 5 slices_S64x1024_o0_640_S64x128 _, slice_halo h x0 5 slices_S32x1024_o0_640_S32x128 _,
      slice_block h x0 4 slices_S64x1024_o0_512_S64x128 _, slice_halo h x0 4 slices_S32x1024_o0_512_S32x128 _,
      slice_block h x0 3 slices_S64x1024_o0_384_S64x128 _, slice_halo h x0 3 slices_S32x1024_o0_384_S32x128 _,
      slice_block h x0 2 slices_S64x1024_o0_256_S64x128 _, slice_halo h x0 2 slices_S32x1024_o0_256_S32x128 _,
      slice_block h x0 1 slices_S64x1024_o0_128_S64x128 _, slice_halo h x0 1 slices_S32x1024_o0_128_S32x128 _,
      slice_block h x0 0 slices_S64x1024_o0_0_S64x128 _, slice_halo h x0 0 slices_S32x1024_o0_0_S32x128 _⟩
  · have hj : (j 0).val < 768 := (j 0).isLt
    have h1 : (j 1).val < 128 := (j 1).isLt
    have keyH (k : Nat) (hk : (j 0).val % 8 = k) (hr : (j 0).val < 256) : ∀ a : Fin 2, ∃ i < S32x128.size a, (j a).val = (![k, 0] : Fin 2 → Nat) a + (![8, 1] : Fin 2 → Nat) a * i := fun a => by
      match a with
      | ⟨0, _⟩ => exact ⟨(j 0).val / 8, by show _ < 32; omega, by show (j 0).val = k + 8 * _; omega⟩
      | ⟨1, _⟩ => exact ⟨(j 1).val, h1, by show (j 1).val = 0 + 1 * _; omega⟩
    have keyB (k : Nat) (hk : (j 0).val % 8 = k) (hr : ¬(j 0).val < 256) : ∀ a : Fin 2, ∃ i < S64x128.size a, (j a).val = (![256 + k, 0] : Fin 2 → Nat) a + (![8, 1] : Fin 2 → Nat) a * i := fun a => by
      match a with
      | ⟨0, _⟩ => exact ⟨(j 0).val / 8 - 32, by show _ < 64; omega, by show (j 0).val = 256 + k + 8 * _; omega⟩
      | ⟨1, _⟩ => exact ⟨(j 1).val, h1, by show (j 1).val = 0 + 1 * _; omega⟩
    have h8 : (j 0).val % 8 < 8 := Nat.mod_lt _ (by decide)
    simp only [List.exists_mem_cons_iff, List.not_mem_nil, false_and, exists_false, or_false]
    generalize hr : (j 0).val % 8 = r at h8
    by_cases hs : (j 0).val < 256
    · match r, h8 with
      | 0, _ => exact (Or.inr (Or.inr (Or.inr (Or.inr (Or.inr (Or.inr (Or.inr (Or.inr (Or.inr (Or.inr (Or.inr (Or.inr (Or.inr (Or.inr (Or.inr ((LoadRect.mem_set _).mpr (keyH 0 hr hs)))))))))))))))))
      | 1, _ => exact (Or.inr (Or.inr (Or.inr (Or.inr (Or.inr (Or.inr (Or.inr (Or.inr (Or.inr (Or.inr (Or.inr (Or.inr (Or.inr (Or.inl ((LoadRect.mem_set _).mpr (keyH 1 hr hs))))))))))))))))
      | 2, _ => exact (Or.inr (Or.inr (Or.inr (Or.inr (Or.inr (Or.inr (Or.inr (Or.inr (Or.inr (Or.inr (Or.inr (Or.inl ((LoadRect.mem_set _).mpr (keyH 2 hr hs))))))))))))))
      | 3, _ => exact (Or.inr (Or.inr (Or.inr (Or.inr (Or.inr (Or.inr (Or.inr (Or.inr (Or.inr (Or.inl ((LoadRect.mem_set _).mpr (keyH 3 hr hs))))))))))))
      | 4, _ => exact (Or.inr (Or.inr (Or.inr (Or.inr (Or.inr (Or.inr (Or.inr (Or.inl ((LoadRect.mem_set _).mpr (keyH 4 hr hs))))))))))
      | 5, _ => exact (Or.inr (Or.inr (Or.inr (Or.inr (Or.inr (Or.inl ((LoadRect.mem_set _).mpr (keyH 5 hr hs))))))))
      | 6, _ => exact (Or.inr (Or.inr (Or.inr (Or.inl ((LoadRect.mem_set _).mpr (keyH 6 hr hs))))))
      | 7, _ => exact (Or.inr (Or.inl ((LoadRect.mem_set _).mpr (keyH 7 hr hs))))
    · match r, h8 with
      | 0, _ => exact (Or.inr (Or.inr (Or.inr (Or.inr (Or.inr (Or.inr (Or.inr (Or.inr (Or.inr (Or.inr (Or.inr (Or.inr (Or.inr (Or.inr (Or.inl ((LoadRect.mem_set _).mpr (keyB 0 hr hs)))))))))))))))))
      | 1, _ => exact (Or.inr (Or.inr (Or.inr (Or.inr (Or.inr (Or.inr (Or.inr (Or.inr (Or.inr (Or.inr (Or.inr (Or.inr (Or.inl ((LoadRect.mem_set _).mpr (keyB 1 hr hs)))))))))))))))
      | 2, _ => exact (Or.inr (Or.inr (Or.inr (Or.inr (Or.inr (Or.inr (Or.inr (Or.inr (Or.inr (Or.inr (Or.inl ((LoadRect.mem_set _).mpr (keyB 2 hr hs)))))))))))))
      | 3, _ => exact (Or.inr (Or.inr (Or.inr (Or.inr (Or.inr (Or.inr (Or.inr (Or.inr (Or.inl ((LoadRect.mem_set _).mpr (keyB 3 hr hs)))))))))))
      | 4, _ => exact (Or.inr (Or.inr (Or.inr (Or.inr (Or.inr (Or.inr (Or.inl ((LoadRect.mem_set _).mpr (keyB 4 hr hs)))))))))
      | 5, _ => exact (Or.inr (Or.inr (Or.inr (Or.inr (Or.inl ((LoadRect.mem_set _).mpr (keyB 5 hr hs)))))))
      | 6, _ => exact (Or.inr (Or.inr (Or.inl ((LoadRect.mem_set _).mpr (keyB 6 hr hs)))))
      | 7, _ => exact (Or.inl ((LoadRect.mem_set _).mpr (keyB 7 hr hs)))

end Cert.Kernel7Ideal.Dw

end
-- ==== Proof.DwTaps.lean ====
/- The depthwise convolution's loop: what its trips store, as parts of one function of the taps and of the window. -/
module

public import proofs.«01_k».proof.Proof.Gen.Kernel7Ideal.Frame
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Geometry
public import Idealize.ShloMosaic.Lib.Pointwise
public import Idealize.ShloMosaic.Lib.Tactic

@[expose] public section

set_option maxRecDepth 16384

noncomputable section

namespace Cert.Kernel7Ideal.Dw

open Cert.Kernel7Ideal Cert.Kernel7Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]

/-! ## A left-to-right sum -/

/-- The sum of the first terms, from the left. -/
def running (f : Nat → F .f32) : Nat → F .f32
  | 0 => f 0
  | n + 1 => FloatOps.addf (running f n) (f (n + 1))

/-- It depends on the terms summed alone. -/
theorem running_congr {f g : Nat → F .f32} : ∀ n : Nat, (∀ j, j ≤ n → f j = g j) → running f n = running g n
  | 0, h => h 0 (le_refl 0)
  | n + 1, h => by
    unfold running
    rw [running_congr n fun j hj => h j (by omega), h (n + 1) (le_refl _)]

/-! ## One trip of the loop -/

/-- The 31 taps as the loop holds them, by number. -/
def taps (v71 v73 v75 v77 v79 v81 v83 v85 v87 v89 v91 v93 v95 v97 v99 v101 v103 v105 v107 v109 v111 v113 : FVec F S8x128 .f32) (v114 v116 v118 v120 v122 v124 v126 v128 v130 : Vec F S1x8x128 .f32) (j : Nat) : FVec F S8x128 .f32 :=
  ([v71, v73, v75, v77, v79, v81, v83, v85, v87, v89, v91, v93, v95, v97, v99, v101, v103, v105, v107, v109, v111, v113, shapeCast S8x128 v114 shapeCasts_S1x8x128_S8x128, shapeCast S8x128 v116 shapeCasts_S1x8x128_S8x128, shapeCast S8x128 v118 shapeCasts_S1x8x128_S8x128, shapeCast S8x128 v120 shapeCasts_S1x8x128_S8x128, shapeCast S8x128 v122 shapeCasts_S1x8x128_S8x128, shapeCast S8x128 v124 shapeCasts_S1x8x128_S8x128, shapeCast S8x128 v126 shapeCasts_S1x8x128_S8x128, shapeCast S8x128 v128 shapeCasts_S1x8x128_S8x128, shapeCast S8x128 v130 shapeCasts_S1x8x128_S8x128] : List (FVec F S8x128 .f32)).getD j v71

/-- The convolution laid out as rows of 128, of the taps and of the window's rows of 128. -/
def summed (T : Nat → FVec F S8x128 .f32) (E : Nat → Fin 128 → F .f32) : S512x128.Idx → Elt F .f32 := fun y =>
  running (fun j => FloatOps.mulf (T j (ix2 (n0 := 8) (n1 := 128) ⟨(y 0).val % 8, Nat.mod_lt _ (by decide)⟩ (y 1)))
    (E (8 * ((y 0).val / 8 + 2 + j) + (y 0).val % 8) (y 1))) 30

/-- Where a trip's loads begin, -/
theorem off1_val : ∀ (k : Fin k0_t1_loop.trips) (t : Fin 8) (j : Fin 31), k0_off1 k (BitVec.ofNat 32 t.val) (BitVec.ofNat 32 j.val) 0 = 8 * (8 * k.val + t.val + 2 + j.val) := by decide +kernel
/-- and its stores. -/
theorem off2_val : ∀ (k : Fin k0_t1_loop.trips) (t : Fin 8), k0_off2 k (BitVec.ofNat 32 t.val) 0 = 8 * (8 * k.val + t.val) := by decide +kernel

/-- A load of eight rows of the window. -/
theorem load_row (arg10 : Memref sig .tc .vmem S768x128 .f32) (X : BufTy.Contents (Elt F) arg10.view.ty) (E : Nat → Fin 128 → F .f32)
    (hX : ∀ y : S768x128.Idx, arg10.view.read (Elt F) X y = E (y 0).val (y 1)) (k : Fin k0_t1_loop.trips) (a b : BitVec 32)
    (inb : ∀ d, k0_off1 k a b d + S8x128.size d ≤ S768x128.size d) (x : S8x128.Idx) :
    View.readAt (Elt F) arg10.view (Rect.unit (s := S768x128) (k0_off1 k a b) S8x128.size inb).toLoadRect X x = E (k0_off1 k a b 0 + (x 0).val) (x 1) := by
  rw [View.readAt_apply, hX]
  refine congr (congrArg E ?_) (Fin.ext ?_)
  · show k0_off1 k a b 0 + 1 * (x 0).val = _; omega
  · show 0 + 1 * (x 1).val = _; omega

/-- The sum a trip stores at one of its eight rows is that row's of the convolution. -/
theorem summed_at (T : Nat → FVec F S8x128 .f32) (E : Nat → Fin 128 → F .f32) (k : Fin k0_t1_loop.trips) (t : Fin 8)
    (inb : ∀ d, k0_off2 k (BitVec.ofNat 32 t.val) d + S8x128.size d ≤ S512x128.size d) (x : S8x128.Idx) :
    running (fun j => FloatOps.mulf (T j x) (E (k0_off1 k (BitVec.ofNat 32 t.val) (BitVec.ofNat 32 j) 0 + (x 0).val) (x 1))) 30
      = summed T E ((Rect.unit (s := S512x128) (k0_off2 k (BitVec.ofNat 32 t.val)) S8x128.size inb).emb x) := by
  have h0 : (x 0).val < 8 := (x 0).isLt
  have hr : (((Rect.unit (s := S512x128) (k0_off2 k (BitVec.ofNat 32 t.val)) S8x128.size inb).emb x) 0).val = 8 * (8 * k.val + t.val) + (x 0).val := by
    show k0_off2 k (BitVec.ofNat 32 t.val) 0 + 1 * (x 0).val = _
    rw [off2_val]; omega
  have hc : ((Rect.unit (s := S512x128) (k0_off2 k (BitVec.ofNat 32 t.val)) S8x128.size inb).emb x) 1 = x 1 := Fin.ext (by show 0 + 1 * (x 1).val = _; omega)
  unfold summed
  refine running_congr 30 fun j hj => ?_
  have ho := off1_val k t ⟨j, by omega⟩
  dsimp only at ho
  rw [ho]
  refine congr (congrArg FloatOps.mulf ?_) ?_
  · refine congrArg (T j) (funext fun a => Fin.ext ?_)
    match a with
    | ⟨0, _⟩ => show (x 0).val = _ % 8; rw [hr]; omega
    | ⟨1, _⟩ => exact (congrArg Fin.val hc).symm
  · exact congr (congrArg E (by rw [hr]; omega)) hc.symm

/-- A trip's eight stores are parts of the convolution. -/
theorem trip_pieces (𝒱 : Variants) (c : Dev nD) (bd : Option 𝒱.V) (i : grid0.Coords) (arg2 : Memref sig .tc .vmem S64x1024 .f32) (harg2 : arg2.IsWhole) (arg3 : Memref sig .tc .vmem S32x1024 .f32) (harg3 : arg3.IsWhole) (arg4 : Memref sig .tc .vmem S1x32x1024 .f32) (harg4 : arg4.IsWhole) (arg5 : Memref sig .tc .vmem S31x8x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .bf16) (harg9 : arg9.IsWhole) (arg10 : Memref sig .tc .vmem S768x128 .f32) (harg10 : arg10.IsWhole) (arg11 : Memref sig .tc .vmem S512x128 .f32) (harg11 : arg11.IsWhole) (v71 v73 v75 v77 v79 v81 v83 v85 v87 v89 v91 v93 v95 v97 v99 v101 v103 v105 v107 v109 v111 v113 : FVec F S8x128 .f32) (v114 v116 v118 v120 v122 v124 v126 v128 v130 : Vec F S1x8x128 .f32)
    (X : BufTy.Contents (Elt F) arg10.view.ty) (E : Nat → Fin 128 → F .f32) (hX : ∀ y : S768x128.Idx, arg10.view.read (Elt F) X y = E (y 0).val (y 1)) (k : Fin k0_t1_loop.trips) :
    View.PiecesOf (summed (taps v71 v73 v75 v77 v79 v81 v83 v85 v87 v89 v91 v93 v95 v97 v99 v101 v103 v105 v107 v109 v111 v113 v114 v116 v118 v120 v122 v124 v126 v128 v130) E) (tripL_k0_t1 (F := F) 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X k) := by
  unfold tripL_k0_t1 trip_k0_t1
  dsimp only
  refine ⟨fun x => (?_ : _ = _).trans (summed_at _ _ k 7 (k0_off2_inb k 7) x), fun x => (?_ : _ = _).trans (summed_at _ _ k 6 (k0_off2_inb k 6) x), fun x => (?_ : _ = _).trans (summed_at _ _ k 5 (k0_off2_inb k 5) x), fun x => (?_ : _ = _).trans (summed_at _ _ k 4 (k0_off2_inb k 4) x),
    fun x => (?_ : _ = _).trans (summed_at _ _ k 3 (k0_off2_inb k 3) x), fun x => (?_ : _ = _).trans (summed_at _ _ k 2 (k0_off2_inb k 2) x), fun x => (?_ : _ = _).trans (summed_at _ _ k 1 (k0_off2_inb k 1) x), fun x => (?_ : _ = _).trans (summed_at _ _ k 0 (k0_off2_inb k 0) x), trivial⟩
  all_goals
    simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay98, k0_pay99, k0_pay100, k0_pay101, k0_pay102, k0_pay103, k0_pay104, k0_pay105, k0_pay106, k0_pay107, shapeCast_self, addf_apply, mulf_apply, load_row arg10 X E hX]
    rfl

end Cert.Kernel7Ideal.Dw

end
-- ==== Proof.DwOut.lean ====
/- The depthwise convolution's body: what a point leaves in its block of the result. -/
module

public import proofs.«01_k».proof.Proof.DwWindow
public import proofs.«01_k».proof.Proof.DwTaps
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Geometry
public import Idealize.ShloMosaic.Lib.Pointwise
public import Idealize.ShloMosaic.Lib.Tactic

@[expose] public section

set_option maxRecDepth 16384

noncomputable section

namespace Cert.Kernel7Ideal.Dw

open Cert.Kernel7Ideal Cert.Kernel7Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]

/-! ## The loop -/

/-- The pieces of two lists of stores, one after the other, are parts of one function where those of both are. -/
theorem pieces_append {s : Shape} {e : EltTy} {Val : EltTy → Type} (G : s.Idx → Val e) : ∀ (L L' : List (View.Piece Val s e)), View.PiecesOf G L → View.PiecesOf G L' → View.PiecesOf G (L ++ L')
  | [], _, _, h' => h'
  | _ :: L, L', h, h' => ⟨h.1, pieces_append G L L' h.2 h'⟩

/-- The loop's trips are eight. -/
theorem trips_eq : Scf.trips k0_t1_loop.lb k0_t1_loop.ub k0_t1_loop.st = 8 := by decide +kernel

/-- After any number of trips every store made is a part of the convolution. -/
theorem loop_pieces (𝒱 : Variants) (c : Dev nD) (bd : Option 𝒱.V) (i : grid0.Coords) (arg2 : Memref sig .tc .vmem S64x1024 .f32) (harg2 : arg2.IsWhole) (arg3 : Memref sig .tc .vmem S32x1024 .f32) (harg3 : arg3.IsWhole) (arg4 : Memref sig .tc .vmem S1x32x1024 .f32) (harg4 : arg4.IsWhole) (arg5 : Memref sig .tc .vmem S31x8x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .bf16) (harg9 : arg9.IsWhole) (arg10 : Memref sig .tc .vmem S768x128 .f32) (harg10 : arg10.IsWhole) (arg11 : Memref sig .tc .vmem S512x128 .f32) (harg11 : arg11.IsWhole) (v71 v73 v75 v77 v79 v81 v83 v85 v87 v89 v91 v93 v95 v97 v99 v101 v103 v105 v107 v109 v111 v113 : FVec F S8x128 .f32) (v114 v116 v118 v120 v122 v124 v126 v128 v130 : Vec F S1x8x128 .f32)
    (X : BufTy.Contents (Elt F) arg10.view.ty) (E : Nat → Fin 128 → F .f32) (hX : ∀ y : S768x128.Idx, arg10.view.read (Elt F) X y = E (y 0).val (y 1)) :
    ∀ n : Nat, n ≤ k0_t1_loop.trips → View.PiecesOf (summed (taps v71 v73 v75 v77 v79 v81 v83 v85 v87 v89 v91 v93 v95 v97 v99 v101 v103 v105 v107 v109 v111 v113 v114 v116 v118 v120 v122 v124 v126 v128 v130) E) (pb_k0_t1 (F := F) 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X n)
  | 0, _ => trivial
  | n + 1, h => by
    have e := pb_k0_t1_succ (F := F) 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X ⟨n, h⟩
    dsimp only at e
    rw [e]
    exact pieces_append _ _ _ (trip_pieces 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X E hX ⟨n, h⟩)
      (loop_pieces 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X E hX n (by omega))

/-- After the loop its scratch holds the convolution. -/
theorem loop_canon (𝒱 : Variants) (c : Dev nD) (bd : Option 𝒱.V) (i : grid0.Coords) (arg2 : Memref sig .tc .vmem S64x1024 .f32) (harg2 : arg2.IsWhole) (arg3 : Memref sig .tc .vmem S32x1024 .f32) (harg3 : arg3.IsWhole) (arg4 : Memref sig .tc .vmem S1x32x1024 .f32) (harg4 : arg4.IsWhole) (arg5 : Memref sig .tc .vmem S31x8x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .bf16) (harg9 : arg9.IsWhole) (arg10 : Memref sig .tc .vmem S768x128 .f32) (harg10 : arg10.IsWhole) (arg11 : Memref sig .tc .vmem S512x128 .f32) (harg11 : arg11.IsWhole) (v71 v73 v75 v77 v79 v81 v83 v85 v87 v89 v91 v93 v95 v97 v99 v101 v103 v105 v107 v109 v111 v113 : FVec F S8x128 .f32) (v114 v116 v118 v120 v122 v124 v126 v128 v130 : Vec F S1x8x128 .f32)
    (X : BufTy.Contents (Elt F) arg10.view.ty) (E : Nat → Fin 128 → F .f32) (hX : ∀ y : S768x128.Idx, arg10.view.read (Elt F) X y = E (y 0).val (y 1)) :
    View.canon (pb_k0_t1 (F := F) 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X (Scf.trips k0_t1_loop.lb k0_t1_loop.ub k0_t1_loop.st)) = summed (taps v71 v73 v75 v77 v79 v81 v83 v85 v87 v89 v91 v93 v95 v97 v99 v101 v103 v105 v107 v109 v111 v113 v114 v116 v118 v120 v122 v124 v126 v128 v130) E := by
  funext y
  exact View.canon_apply_of_pieces _ _ (View.PiecesOf.mem (loop_pieces 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X E hX _ (le_refl _))) y
    (View.cover_of_tiledL (pb_k0_t1 (F := F) 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X (Scf.trips k0_t1_loop.lb k0_t1_loop.ub k0_t1_loop.st)) S8x128.size (by sl_kernel_rfl) y)

/-! ## The taps -/

/-- A tap's weight of a column. -/
def tapOf (w : Vec F S31x8x128 .f32) (j : Nat) (k : Fin 1024) : F .f32 :=
  if h : j < 31 then w (ix3 (n0 := 31) (n1 := 8) (n2 := 128) ⟨j, h⟩ ⟨k.val / 128, by omega⟩ ⟨k.val % 128, Nat.mod_lt _ (by decide)⟩)
  else Scalar.ofBits .f32 0x00000000#32

/-- A tap as loaded. -/
theorem tap_read (arg5 : Memref sig .tc .vmem S31x8x128 .f32) (harg5 : arg5.IsWhole) (x3 : Vec F S31x8x128 .f32) (n : Nat) (hn : n < 31)
    (inb : ∀ a, (![n, 0, 0] : Fin 3 → Nat) a + S1x8x128.size a ≤ S31x8x128.size a) (x : S8x128.Idx) (k : Fin 1024) (hk : k.val = 128 * (x 0).val + (x 1).val) :
    shapeCast S8x128 (View.readAt (Elt F) arg5.view (Rect.unit (s := S31x8x128) ![n, 0, 0] S1x8x128.size inb).toLoadRect (harg5.unread x3) : Vec F S1x8x128 .f32) shapeCasts_S1x8x128_S8x128 x
      = tapOf x3 n k := by
  have h0 : (x 0).val < 8 := (x 0).isLt
  have h1 : (x 1).val < 128 := (x 1).isLt
  refine (shapeCast_apply _ _ x (ix3 (n0 := 1) (n1 := 8) (n2 := 128) 0 (x 0) (x 1)) ?_).trans ?_
  · rw [Shape.rowMajor_val_three, Shape.rowMajor_val_two]
    show (0 * 8 + (x 0).val) * 128 + (x 1).val = (x 0).val * 128 + (x 1).val
    omega
  · rw [View.readAt_eq_ld, harg5.read_unread, tapOf, dif_pos hn]
    refine congrArg x3 (funext fun a => Fin.ext ?_)
    match a with
    | ⟨0, _⟩ => show n + 1 * 0 = n; omega
    | ⟨1, _⟩ => show 0 + 1 * (x 0).val = k.val / 128; omega
    | ⟨2, _⟩ => show 0 + 1 * (x 1).val = k.val % 128; omega

/-- The taps the body hands its loop. -/
def given (c : Dev nD) (arg5 : Memref sig .tc .vmem S31x8x128 .f32) (harg5 : arg5.IsWhole) (x3 : Vec F S31x8x128 .f32) : Nat → FVec F S8x128 .f32 :=
  taps (kernelRun0_A.sl.r_4 c arg5 harg5 x3) (kernelRun0_A.sl.r_5 c arg5 harg5 x3) (kernelRun0_A.sl.r_6 c arg5 harg5 x3) (kernelRun0_A.sl.r_7 c arg5 harg5 x3) (kernelRun0_A.sl.r_8 c arg5 harg5 x3) (kernelRun0_A.sl.r_9 c arg5 harg5 x3) (kernelRun0_A.sl.r_10 c arg5 harg5 x3) (kernelRun0_A.sl.r_11 c arg5 harg5 x3) (kernelRun0_A.sl.r_12 c arg5 harg5 x3) (kernelRun0_A.sl.r_13 c arg5 harg5 x3) (kernelRun0_A.sl.r_14 c arg5 harg5 x3) (kernelRun0_A.sl.r_15 c arg5 harg5 x3) (kernelRun0_A.sl.r_16 c arg5 harg5 x3) (kernelRun0_A.sl.r_17 c arg5 harg5 x3) (kernelRun0_A.sl.r_18 c arg5 harg5 x3) (kernelRun0_A.sl.r_19 c arg5 harg5 x3) (kernelRun0_A.sl.r_20 c arg5 harg5 x3) (kernelRun0_A.sl.r_21 c arg5 harg5 x3) (kernelRun0_A.sl.r_22 c arg5 harg5 x3) (kernelRun0_A.sl.r_23 c arg5 harg5 x3) (kernelRun0_A.sl.r_24 c arg5 harg5 x3) (kernelRun0_A.sl.r_25 c arg5 harg5 x3) (View.readAt (Elt F) arg5.view (Rect.unit (s := S31x8x128) ![22, 0, 0] S1x8x128.size inb_S31x8x128_S1x8x128_22_0_0).toLoadRect (harg5.unread x3)) (View.readAt (Elt F) arg5.view (Rect.unit (s := S31x8x128) ![23, 0, 0] S1x8x128.size inb_S31x8x128_S1x8x128_23_0_0).toLoadRect (harg5.unread x3)) (View.readAt (Elt F) arg5.view (Rect.unit (s := S31x8x128) ![24, 0, 0] S1x8x128.size inb_S31x8x128_S1x8x128_24_0_0).toLoadRect (harg5.unread x3)) (View.readAt (Elt F) arg5.view (Rect.unit (s := S31x8x128) ![25, 0, 0] S1x8x128.size inb_S31x8x128_S1x8x128_25_0_0).toLoadRect (harg5.unread x3)) (View.readAt (Elt F) arg5.view (Rect.unit (s := S31x8x128) ![26, 0, 0] S1x8x128.size inb_S31x8x128_S1x8x128_26_0_0).toLoadRect (harg5.unread x3)) (View.readAt (Elt F) arg5.view (Rect.unit (s := S31x8x128) ![27, 0, 0] S1x8x128.size inb_S31x8x128_S1x8x128_27_0_0).toLoadRect (harg5.unread x3)) (View.readAt (Elt F) arg5.view (Rect.unit (s := S31x8x128) ![28, 0, 0] S1x8x128.size inb_S31x8x128_S1x8x128_28_0_0).toLoadRect (harg5.unread x3)) (View.readAt (Elt F) arg5.view (Rect.unit (s := S31x8x128) ![29, 0, 0] S1x8x128.size inb_S31x8x128_S1x8x128_29_0_0).toLoadRect (harg5.unread x3)) (View.readAt (Elt F) arg5.view (Rect.unit (s := S31x8x128) ![30, 0, 0] S1x8x128.size inb_S31x8x128_S1x8x128_30_0_0).toLoadRect (harg5.unread x3))

/-- They are the weights. -/
theorem given_apply (c : Dev nD) (arg5 : Memref sig .tc .vmem S31x8x128 .f32) (harg5 : arg5.IsWhole) (x3 : Vec F S31x8x128 .f32) (x : S8x128.Idx) (k : Fin 1024)
    (hk : k.val = 128 * (x 0).val + (x 1).val) : ∀ j : Nat, j ≤ 30 → given c arg5 harg5 x3 j x = tapOf x3 j k
  | 0, _ => tap_read arg5 harg5 x3 0 (by decide) inb_S31x8x128_S1x8x128_0_0_0 x k hk
  | 1, _ => tap_read arg5 harg5 x3 1 (by decide) inb_S31x8x128_S1x8x128_1_0_0 x k hk
  | 2, _ => tap_read arg5 harg5 x3 2 (by decide) inb_S31x8x128_S1x8x128_2_0_0 x k hk
  | 3, _ => tap_read arg5 harg5 x3 3 (by decide) inb_S31x8x128_S1x8x128_3_0_0 x k hk
  | 4, _ => tap_read arg5 harg5 x3 4 (by decide) inb_S31x8x128_S1x8x128_4_0_0 x k hk
  | 5, _ => tap_read arg5 harg5 x3 5 (by decide) inb_S31x8x128_S1x8x128_5_0_0 x k hk
  | 6, _ => tap_read arg5 harg5 x3 6 (by decide) inb_S31x8x128_S1x8x128_6_0_0 x k hk
  | 7, _ => tap_read arg5 harg5 x3 7 (by decide) inb_S31x8x128_S1x8x128_7_0_0 x k hk
  | 8, _ => tap_read arg5 harg5 x3 8 (by decide) inb_S31x8x128_S1x8x128_8_0_0 x k hk
  | 9, _ => tap_read arg5 harg5 x3 9 (by decide) inb_S31x8x128_S1x8x128_9_0_0 x k hk
  | 10, _ => tap_read arg5 harg5 x3 10 (by decide) inb_S31x8x128_S1x8x128_10_0_0 x k hk
  | 11, _ => tap_read arg5 harg5 x3 11 (by decide) inb_S31x8x128_S1x8x128_11_0_0 x k hk
  | 12, _ => tap_read arg5 harg5 x3 12 (by decide) inb_S31x8x128_S1x8x128_12_0_0 x k hk
  | 13, _ => tap_read arg5 harg5 x3 13 (by decide) inb_S31x8x128_S1x8x128_13_0_0 x k hk
  | 14, _ => tap_read arg5 harg5 x3 14 (by decide) inb_S31x8x128_S1x8x128_14_0_0 x k hk
  | 15, _ => tap_read arg5 harg5 x3 15 (by decide) inb_S31x8x128_S1x8x128_15_0_0 x k hk
  | 16, _ => tap_read arg5 harg5 x3 16 (by decide) inb_S31x8x128_S1x8x128_16_0_0 x k hk
  | 17, _ => tap_read arg5 harg5 x3 17 (by decide) inb_S31x8x128_S1x8x128_17_0_0 x k hk
  | 18, _ => tap_read arg5 harg5 x3 18 (by decide) inb_S31x8x128_S1x8x128_18_0_0 x k hk
  | 19, _ => tap_read arg5 harg5 x3 19 (by decide) inb_S31x8x128_S1x8x128_19_0_0 x k hk
  | 20, _ => tap_read arg5 harg5 x3 20 (by decide) inb_S31x8x128_S1x8x128_20_0_0 x k hk
  | 21, _ => tap_read arg5 harg5 x3 21 (by decide) inb_S31x8x128_S1x8x128_21_0_0 x k hk
  | 22, _ => tap_read arg5 harg5 x3 22 (by decide) inb_S31x8x128_S1x8x128_22_0_0 x k hk
  | 23, _ => tap_read arg5 harg5 x3 23 (by decide) inb_S31x8x128_S1x8x128_23_0_0 x k hk
  | 24, _ => tap_read arg5 harg5 x3 24 (by decide) inb_S31x8x128_S1x8x128_24_0_0 x k hk
  | 25, _ => tap_read arg5 harg5 x3 25 (by decide) inb_S31x8x128_S1x8x128_25_0_0 x k hk
  | 26, _ => tap_read arg5 harg5 x3 26 (by decide) inb_S31x8x128_S1x8x128_26_0_0 x k hk
  | 27, _ => tap_read arg5 harg5 x3 27 (by decide) inb_S31x8x128_S1x8x128_27_0_0 x k hk
  | 28, _ => tap_read arg5 harg5 x3 28 (by decide) inb_S31x8x128_S1x8x128_28_0_0 x k hk
  | 29, _ => tap_read arg5 harg5 x3 29 (by decide) inb_S31x8x128_S1x8x128_29_0_0 x k hk
  | 30, _ => tap_read arg5 harg5 x3 30 (by decide) inb_S31x8x128_S1x8x128_30_0_0 x k hk
  | n + 31, h => absurd h (by omega)

/-! ## The block's convolution -/

/-- The convolution of a block: of every column, the sum over the taps. -/
def convolved (w : Vec F S31x8x128 .f32) (h : FVec F S32x1024 .f32) (x : FVec F S64x1024 .f32) : FVec F S64x1024 .f32 := fun y =>
  running (fun j => FloatOps.mulf (tapOf w j (y 1)) (stacked h x ((y 0).val + 2 + j) (y 1))) 30

/-- 128 of an array's columns. -/
def part (X : FVec F S64x1024 .f32) (k : Fin 8) : FVec F S64x128 .f32 := fun j =>
  X (ix2 (n0 := 64) (n1 := 1024) (j 0) ⟨128 * k.val + (j 1).val, by have : (j 1).val < 128 := (j 1).isLt; omega⟩)

/-- A strided load of the loop's scratch is 128 columns of the convolution. -/
theorem load_part (c : Dev nD) (arg5 : Memref sig .tc .vmem S31x8x128 .f32) (harg5 : arg5.IsWhole) (x3 : Vec F S31x8x128 .f32) (h : FVec F S32x1024 .f32) (x0 : FVec F S64x1024 .f32) (k : Fin 8)
    (inb : ∀ a, S64x128.size a = 0 ∨ (![k.val, 0] : Fin 2 → Nat) a + (![8, 1] : Fin 2 → Nat) a * (S64x128.size a - 1) < S512x128.size a) :
    (fun j => summed (given c arg5 harg5 x3) (laid h x0) ((⟨![k.val, 0], S64x128.size, ![8, 1], inb⟩ : LoadRect S512x128).idx j)) = part (convolved x3 h x0) k := by
  funext j
  have h0 : (j 0).val < 64 := (j 0).isLt
  have h1 : (j 1).val < 128 := (j 1).isLt
  have hk := k.isLt
  unfold summed part convolved
  refine running_congr 30 fun n hn => ?_
  refine congr (congrArg FloatOps.mulf (given_apply c arg5 harg5 x3 _ _ ?_ n hn)) ?_
  · show 128 * k.val + (j 1).val = 128 * ((k.val + 8 * (j 0).val) % 8) + (0 + 1 * (j 1).val); omega
  · show stacked h x0 ((8 * ((k.val + 8 * (j 0).val) / 8 + 2 + n) + (k.val + 8 * (j 0).val) % 8) / 8)
      ⟨128 * ((8 * ((k.val + 8 * (j 0).val) / 8 + 2 + n) + (k.val + 8 * (j 0).val) % 8) % 8) + (0 + 1 * (j 1).val), _⟩ = stacked h x0 ((j 0).val + 2 + n) ⟨128 * k.val + (j 1).val, _⟩
    exact congr (congrArg (stacked h x0) (by omega)) (Fin.ext (by show 128 * _ + _ = 128 * _ + _; omega))

/-- The eight loads side by side are the array. -/
theorem concat_parts (X : FVec F S64x1024 .f32) (h) :
    concatenate S64x1024 1 (List.ofFn fun k : Fin 8 => (⟨S64x128, part X k⟩ : (s : Shape) × (s.Idx → F .f32))) h = X := by
  funext j
  have h0 : (j 0).val < 64 := (j 0).isLt
  have h1 : (j 1).val < 1024 := (j 1).isLt
  refine (concatenate_ofFn_apply (t := S64x1024) 1 (part X) h rfl 128 rfl j ⟨(j 1).val / 128, by omega⟩ rfl
    (ix2 (n0 := 64) (n1 := 128) (j 0) ⟨(j 1).val % 128, Nat.mod_lt _ (by decide)⟩) rfl
    (fun b hb => by
      match b with
      | ⟨0, _⟩ => rfl
      | ⟨1, _⟩ => exact absurd rfl hb)).trans ?_
  unfold part
  refine congrArg X (funext fun a => Fin.ext ?_)
  match a with
  | ⟨0, _⟩ => rfl
  | ⟨1, _⟩ => show 128 * ((j 1).val / 128) + (j 1).val % 128 = (j 1).val; omega

/-! ## The block of the result -/

/-- The norm of the convolution's rows with its bias, its scale and its shift. -/
def normed (X : FVec F S64x1024 .f32) (b g s : Vec F S1x1024 .f32) : FVec F S64x1024 .f32 :=
  have y : FVec F S64x1024 .f32 := addf X (broadcastTo S64x1024 (shapeCast S1x1024 b shapeCasts_S1x1024_S1x1024) broadcasts_S1x1024_S64x1024)
  have n : FVec F S64x1 .f32 := broadcast S64x1 (Scalar.ofBits .f32 0x44800000#32)
  have mu : FVec F S64x1 .f32 := divf (shapeCast S64x1 (multiReduction .add [1] S64 y 0x00000000#32 reduces_S64x1024_S64 (.inl rfl) rfl) shapeCasts_S64_S64x1) n
  have yc : FVec F S64x1024 .f32 := subf y (broadcastTo S64x1024 mu broadcasts_S64x1_S64x1024)
  have var : FVec F S64x1 .f32 := divf (shapeCast S64x1 (multiReduction .add [1] S64 (mulf yc yc) 0x00000000#32 reduces_S64x1024_S64 (.inl rfl) rfl) shapeCasts_S64_S64x1) n
  have r : FVec F S64x1 .f32 := rsqrt (addf var (broadcast S64x1 (Scalar.ofBits .f32 0x358637BD#32)))
  addf (mulf (mulf yc (broadcastTo S64x1024 r broadcasts_S64x1_S64x1024)) (broadcastTo S64x1024 (shapeCast S1x1024 g shapeCasts_S1x1024_S1x1024) broadcasts_S1x1024_S64x1024))
    (broadcastTo S64x1024 (shapeCast S1x1024 s shapeCasts_S1x1024_S1x1024) broadcasts_S1x1024_S64x1024)

/-- The activation of the norm. -/
def active (y : FVec F S64x1024 .f32) : FVec F S64x1024 .bf16 :=
  k0_pay1 y (addf (broadcast S64x1024 (Scalar.ofBits .f32 0x3F800000#32)) (exp (subf (broadcast S64x1024 (Scalar.ofBits .f32 0x00000000#32)) y)))

/-- The payload of the parts is that of the whole. -/
theorem pay_parts (X : FVec F S64x1024 .f32) (b g s : Vec F S1x1024 .f32) :
    k0_pay1 (k0_pay108 (part X 0) (part X 1) (part X 2) (part X 3) (part X 4) (part X 5) (part X 6) (part X 7) b g s)
      (k0_pay109 (part X 0) (part X 1) (part X 2) (part X 3) (part X 4) (part X 5) (part X 6) (part X 7) b g s) = active (normed X b g s) :=
  congrArg (fun X => active (normed X b g s)) (concat_parts X concatenates_S64x128_S64x128_S64x128_S64x128_S64x128_S64x128_S64x128_S64x128_S64x1024_d1)

/-- A point leaves in its block of the result the activation of the norm of its convolution. -/
theorem out_eq (c : Dev nD) (i : grid0.Coords) (arg2 : Memref sig .tc .vmem S64x1024 .f32) (harg2 : arg2.IsWhole) (arg3 : Memref sig .tc .vmem S32x1024 .f32) (harg3 : arg3.IsWhole) (arg4 : Memref sig .tc .vmem S1x32x1024 .f32) (harg4 : arg4.IsWhole) (arg5 : Memref sig .tc .vmem S31x8x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .bf16) (harg9 : arg9.IsWhole) (arg10 : Memref sig .tc .vmem S768x128 .f32) (harg10 : arg10.IsWhole) (arg11 : Memref sig .tc .vmem S512x128 .f32) (harg11 : arg11.IsWhole)
    (x0 : Vec F S64x1024 .f32) (x1 : Vec F S32x1024 .f32) (x2 : Vec F S1x32x1024 .f32) (x3 : Vec F S31x8x128 .f32) (x4 : Vec F S1x1024 .f32) (x5 : Vec F S1x1024 .f32) (x6 : Vec F S1x1024 .f32) :
    out0_A_7 c i arg2 harg2 arg3 harg3 arg4 harg4 arg5 harg5 arg6 harg6 arg7 harg7 arg8 harg8 arg9 harg9 arg10 harg10 arg11 harg11 x0 x1 x2 x3 x4 x5 x6 = active (normed (convolved x3 (k0_pay58 i x2 x1) x0) x4 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  refine (View.canon_unit_zero hz2 _ _).trans ?_
  unfold kernelRun0_A.sl.r_29 kernelRun0_A.sl.r_30
  have hX : ∀ y : S768x128.Idx, arg10.view.read (Elt F) (arg10.view.writes (Elt F) arg10.view.junk (kernelRun0_A.sl.HS0_16 c i arg2 harg2 arg3 harg3 arg4 harg4 x0 x1 x2)) y
      = laid (k0_pay58 i x2 x1) x0 (y 0).val (y 1) := fun y => by
    rw [View.read_writes_junk_eq_canon, canon_window]
    rfl
  have key (k : Fin 8) (inb : ∀ a, S64x128.size a = 0 ∨ (![k.val, 0] : Fin 2 → Nat) a + (![8, 1] : Fin 2 → Nat) a * (S64x128.size a - 1) < S512x128.size a) :
      arg11.view.readCov (pb_k0_t1 (F := F) Variants.none c none i arg2 harg2 arg3 harg3 arg4 harg4 arg5 harg5 arg6 harg6 arg7 harg7 arg8 harg8 arg9 harg9 arg10 harg10 arg11 harg11 (kernelRun0_A.sl.r_4 c arg5 harg5 x3) (kernelRun0_A.sl.r_5 c arg5 harg5 x3) (kernelRun0_A.sl.r_6 c arg5 harg5 x3) (kernelRun0_A.sl.r_7 c arg5 harg5 x3) (kernelRun0_A.sl.r_8 c arg5 harg5 x3) (kernelRun0_A.sl.r_9 c arg5 harg5 x3) (kernelRun0_A.sl.r_10 c arg5 harg5 x3) (kernelRun0_A.sl.r_11 c arg5 harg5 x3) (kernelRun0_A.sl.r_12 c arg5 harg5 x3) (kernelRun0_A.sl.r_13 c arg5 harg5 x3) (kernelRun0_A.sl.r_14 c arg5 harg5 x3) (kernelRun0_A.sl.r_15 c arg5 harg5 x3) (kernelRun0_A.sl.r_16 c arg5 harg5 x3) (kernelRun0_A.sl.r_17 c arg5 harg5 x3) (kernelRun0_A.sl.r_18 c arg5 harg5 x3) (kernelRun0_A.sl.r_19 c arg5 harg5 x3) (kernelRun0_A.sl.r_20 c arg5 harg5 x3) (kernelRun0_A.sl.r_21 c arg5 harg5 x3) (kernelRun0_A.sl.r_22 c arg5 harg5 x3) (kernelRun0_A.sl.r_23 c arg5 harg5 x3) (kernelRun0_A.sl.r_24 c arg5 harg5 x3) (kernelRun0_A.sl.r_25 c arg5 harg5 x3) (View.readAt (Elt F) arg5.view (Rect.unit (s := S31x8x128) ![22, 0, 0] S1x8x128.size inb_S31x8x128_S1x8x128_22_0_0).toLoadRect (harg5.unread x3)) (View.readAt (Elt F) arg5.view (Rect.unit (s := S31x8x128) ![23, 0, 0] S1x8x128.size inb_S31x8x128_S1x8x128_23_0_0).toLoadRect (harg5.unread x3)) (View.readAt (Elt F) arg5.view (Rect.unit (s := S31x8x128) ![24, 0, 0] S1x8x128.size inb_S31x8x128_S1x8x128_24_0_0).toLoadRect (harg5.unread x3)) (View.readAt (Elt F) arg5.view (Rect.unit (s := S31x8x128) ![25, 0, 0] S1x8x128.size inb_S31x8x128_S1x8x128_25_0_0).toLoadRect (harg5.unread x3)) (View.readAt (Elt F) arg5.view (Rect.unit (s := S31x8x128) ![26, 0, 0] S1x8x128.size inb_S31x8x128_S1x8x128_26_0_0).toLoadRect (harg5.unread x3)) (View.readAt (Elt F) arg5.view (Rect.unit (s := S31x8x128) ![27, 0, 0] S1x8x128.size inb_S31x8x128_S1x8x128_27_0_0).toLoadRect (harg5.unread x3)) (View.readAt (Elt F) arg5.view (Rect.unit (s := S31x8x128) ![28, 0, 0] S1x8x128.size inb_S31x8x128_S1x8x128_28_0_0).toLoadRect (harg5.unread x3)) (View.readAt (Elt F) arg5.view (Rect.unit (s := S31x8x128) ![29, 0, 0] S1x8x128.size inb_S31x8x128_S1x8x128_29_0_0).toLoadRect (harg5.unread x3)) (View.readAt (Elt F) arg5.view (Rect.unit (s := S31x8x128) ![30, 0, 0] S1x8x128.size inb_S31x8x128_S1x8x128_30_0_0).toLoadRect (harg5.unread x3))
        (arg10.view.writes (Elt F) arg10.view.junk (kernelRun0_A.sl.HS0_16 c i arg2 harg2 arg3 harg3 arg4 harg4 x0 x1 x2)) (Scf.trips k0_t1_loop.lb k0_t1_loop.ub k0_t1_loop.st))
        ⟨![k.val, 0], S64x128.size, ![8, 1], inb⟩ = part (convolved x3 (k0_pay58 i x2 x1) x0) k := by
    rw [View.readCov_eq_canon', loop_canon (F := F) Variants.none c none i arg2 harg2 arg3 harg3 arg4 harg4 arg5 harg5 arg6 harg6 arg7 harg7 arg8 harg8 arg9 harg9 arg10 harg10 arg11 harg11 (kernelRun0_A.sl.r_4 c arg5 harg5 x3) (kernelRun0_A.sl.r_5 c arg5 harg5 x3) (kernelRun0_A.sl.r_6 c arg5 harg5 x3) (kernelRun0_A.sl.r_7 c arg5 harg5 x3) (kernelRun0_A.sl.r_8 c arg5 harg5 x3) (kernelRun0_A.sl.r_9 c arg5 harg5 x3) (kernelRun0_A.sl.r_10 c arg5 harg5 x3) (kernelRun0_A.sl.r_11 c arg5 harg5 x3) (kernelRun0_A.sl.r_12 c arg5 harg5 x3) (kernelRun0_A.sl.r_13 c arg5 harg5 x3) (kernelRun0_A.sl.r_14 c arg5 harg5 x3) (kernelRun0_A.sl.r_15 c arg5 harg5 x3) (kernelRun0_A.sl.r_16 c arg5 harg5 x3) (kernelRun0_A.sl.r_17 c arg5 harg5 x3) (kernelRun0_A.sl.r_18 c arg5 harg5 x3) (kernelRun0_A.sl.r_19 c arg5 harg5 x3) (kernelRun0_A.sl.r_20 c arg5 harg5 x3) (kernelRun0_A.sl.r_21 c arg5 harg5 x3) (kernelRun0_A.sl.r_22 c arg5 harg5 x3) (kernelRun0_A.sl.r_23 c arg5 harg5 x3) (kernelRun0_A.sl.r_24 c arg5 harg5 x3) (kernelRun0_A.sl.r_25 c arg5 harg5 x3) (View.readAt (Elt F) arg5.view (Rect.unit (s := S31x8x128) ![22, 0, 0] S1x8x128.size inb_S31x8x128_S1x8x128_22_0_0).toLoadRect (harg5.unread x3)) (View.readAt (Elt F) arg5.view (Rect.unit (s := S31x8x128) ![23, 0, 0] S1x8x128.size inb_S31x8x128_S1x8x128_23_0_0).toLoadRect (harg5.unread x3)) (View.readAt (Elt F) arg5.view (Rect.unit (s := S31x8x128) ![24, 0, 0] S1x8x128.size inb_S31x8x128_S1x8x128_24_0_0).toLoadRect (harg5.unread x3)) (View.readAt (Elt F) arg5.view (Rect.unit (s := S31x8x128) ![25, 0, 0] S1x8x128.size inb_S31x8x128_S1x8x128_25_0_0).toLoadRect (harg5.unread x3)) (View.readAt (Elt F) arg5.view (Rect.unit (s := S31x8x128) ![26, 0, 0] S1x8x128.size inb_S31x8x128_S1x8x128_26_0_0).toLoadRect (harg5.unread x3)) (View.readAt (Elt F) arg5.view (Rect.unit (s := S31x8x128) ![27, 0, 0] S1x8x128.size inb_S31x8x128_S1x8x128_27_0_0).toLoadRect (harg5.unread x3)) (View.readAt (Elt F) arg5.view (Rect.unit (s := S31x8x128) ![28, 0, 0] S1x8x128.size inb_S31x8x128_S1x8x128_28_0_0).toLoadRect (harg5.unread x3)) (View.readAt (Elt F) arg5.view (Rect.unit (s := S31x8x128) ![29, 0, 0] S1x8x128.size inb_S31x8x128_S1x8x128_29_0_0).toLoadRect (harg5.unread x3)) (View.readAt (Elt F) arg5.view (Rect.unit (s := S31x8x128) ![30, 0, 0] S1x8x128.size inb_S31x8x128_S1x8x128_30_0_0).toLoadRect (harg5.unread x3)) _ _ hX]
    exact load_part c arg5 harg5 x3 _ x0 k inb
  have e4 : View.readAt (Elt F) arg6.view (Rect.unit (s := S1x1024) ![0, 0] S1x1024.size inb_S1x1024_S1x1024_0_0).toLoadRect (harg6.unread x4) = x4 := by
    rw [View.readAt_eq_ld, harg6.read_unread]; exact View.ld_unit_zero (S := S1x1024) hz2 _ _
  have e5 : View.readAt (Elt F) arg7.view (Rect.unit (s := S1x1024) ![0, 0] S1x1024.size inb_S1x1024_S1x1024_0_0).toLoadRect (harg7.unread x5) = x5 := by
    rw [View.readAt_eq_ld, harg7.read_unread]; exact View.ld_unit_zero (S := S1x1024) hz2 _ _
  have e6 : View.readAt (Elt F) arg8.view (Rect.unit (s := S1x1024) ![0, 0] S1x1024.size inb_S1x1024_S1x1024_0_0).toLoadRect (harg8.unread x6) = x6 := by
    rw [View.readAt_eq_ld, harg8.read_unread]; exact View.ld_unit_zero (S := S1x1024) hz2 _ _
  rw [e4, e5, e6]
  refine Eq.trans ?_ (pay_parts _ x4 x5 x6)
  rw [← key 0 inb_S512x128_S64x128_0_0_s_8_1, ← key 1 inb_S512x128_S64x128_1_0_s_8_1, ← key 2 inb_S512x128_S64x128_2_0_s_8_1, ← key 3 inb_S512x128_S64x128_3_0_s_8_1,
    ← key 4 inb_S512x128_S64x128_4_0_s_8_1, ← key 5 inb_S512x128_S64x128_5_0_s_8_1, ← key 6 inb_S512x128_S64x128_6_0_s_8_1, ← key 7 inb_S512x128_S64x128_7_0_s_8_1]
  rfl

end Cert.Kernel7Ideal.Dw

end
-- ==== Proof.DwMath.lean ====
/- The depthwise convolution, its norm and its activation, entry by entry over the extended reals: the kernel's block and the
   reference's arrays. -/
module

public import proofs.«01_k».proof.Proof.DwOut
public import proofs.«01_k».proof.Proof.Gen.Reference7Ideal.Run
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Geometry
public import Idealize.ShloMosaic.Lib.Pointwise
public import Idealize.ShloMosaic.Lib.Tactic

@[expose] public section

set_option maxRecDepth 16384

noncomputable section

namespace Cert.DwMath

open Idealize.ShloMosaic
open Cert.Kernel7Ideal.Dw (running running_congr)

/-! ## One row -/

/-- The mean of a row. -/
def mean (y : Fin 1024 → EReal) : EReal := Ideal.div (∑ j : Fin 1024, y j) (Ideal.ofBits .f32 0x44800000#32)

/-- An entry of a row less its mean, over the root of the row's variance, scaled and shifted. -/
def lined (y : Fin 1024 → EReal) (g s : EReal) (k : Fin 1024) : EReal :=
  (y k - mean y) * Ideal.rsqrt (Ideal.div (∑ j : Fin 1024, (y j - mean y) * (y j - mean y)) (Ideal.ofBits .f32 0x44800000#32) + Ideal.ofBits .f32 0x358637BD#32) * g + s

/-- The activation. -/
def lit (a : EReal) : EReal := a * Ideal.div 1 (1 + Ideal.exp (-a))

/-! ## The kernel's block -/
section kernel
open Cert.Kernel7Ideal Cert.Kernel7Ideal.Gen Cert.Kernel7Ideal.Dw

/-- The norm of the convolution's rows read at an entry. -/
theorem normed_apply (X : FVec Ideal S64x1024 .f32) (b g s : Vec Ideal S1x1024 .f32) (p : Fin 64) (k : Fin 1024) :
    normed (F := Ideal) X b g s (ix2 p k) = lined (fun j => X (ix2 p j) + b (ix2 (0 : Fin 1) j)) (g (ix2 (0 : Fin 1) k)) (s (ix2 (0 : Fin 1) k)) k := by
  pointwise [normed]
  simp only [lined, mean]

/-- The activation read at an entry. -/
theorem active_apply (y : FVec Ideal S64x1024 .f32) (p : Fin 64) (k : Fin 1024) : active (F := Ideal) y (ix2 p k) = lit (y (ix2 p k)) := by
  pointwise [active, k0_pay1]
  simp only [lit, zero_sub]

end kernel

/-! ## The reference -/
section reference
open Cert.Reference7Ideal Cert.Reference7Ideal.Gen

/-- A tap of the reference's weights, -/
def tapR (w : FVec Ideal S31x1024 .f32) (j : Nat) (k : Fin 1024) : EReal := if h : j < 31 then w (ix2 (n0 := 31) (n1 := 1024) ⟨j, h⟩ k) else 0
/-- and a row of its extended sequences. -/
def rowR (e : FVec Ideal S8x94x1024 .f32) (b : Fin 8) (r : Nat) (k : Fin 1024) : EReal := if h : r < 94 then e (ix3 (n0 := 8) (n1 := 94) (n2 := 1024) b ⟨r, h⟩ k) else 0

/-- A tap times the shifted sequences. -/
def termR (e : FVec Ideal S8x94x1024 .f32) (w : FVec Ideal S31x1024 .f32) (j : Nat) (he : S8x94x1024.Slices ![0, j, 0] S8x64x1024) (hw : S31x1024.Slices ![j, 0] S1x1024) : FVec Ideal S8x64x1024 .f32 :=
  mulf (extractStridedSlice S8x64x1024 ![0, j, 0] e he) (broadcastInDim S8x64x1024 ![0, 1, 2] bcast_S1x1x1024_S8x64x1024_0_1_2 (broadcastInDim S1x1x1024 ![2] bcast_S1024_S1x1x1024_2 (shapeCast S1024 (extractStridedSlice S1x1024 ![j, 0] w hw) shapeCasts_S1x1024_S1024)))

/-- A row of a vector, for every row of the sequences. -/
def everyR (v : FVec Ideal S1x1024 .f32) : FVec Ideal S8x64x1024 .f32 :=
  broadcastInDim S8x64x1024 ![0, 1, 2] bcast_S1x1x1024_S8x64x1024_0_1_2 (broadcastInDim S1x1x1024 ![2] bcast_S1024_S1x1x1024_2 (shapeCast S1024 v shapeCasts_S1x1024_S1024))

/-- The sum over the taps: the first eleven, -/
def sumR0 (e : FVec Ideal S8x94x1024 .f32) (w : FVec Ideal S31x1024 .f32) : FVec Ideal S8x64x1024 .f32 :=
  addf (addf (addf (addf (addf (addf (addf (addf (addf (addf (addf (broadcastInDim S8x64x1024 ![] bcast_S_S8x64x1024 (constant S_ .f32 0x00000000#32)) (termR e w 0 slices_S8x94x1024_S8x64x1024_0_0_0 slices_S31x1024_S1x1024_0_0)) (termR e w 1 slices_S8x94x1024_S8x64x1024_0_1_0 slices_S31x1024_S1x1024_1_0)) (termR e w 2 slices_S8x94x1024_S8x64x1024_0_2_0 slices_S31x1024_S1x1024_2_0)) (termR e w 3 slices_S8x94x1024_S8x64x1024_0_3_0 slices_S31x1024_S1x1024_3_0)) (termR e w 4 slices_S8x94x1024_S8x64x1024_0_4_0 slices_S31x1024_S1x1024_4_0)) (termR e w 5 slices_S8x94x1024_S8x64x1024_0_5_0 slices_S31x1024_S1x1024_5_0)) (termR e w 6 slices_S8x94x1024_S8x64x1024_0_6_0 slices_S31x1024_S1x1024_6_0)) (termR e w 7 slices_S8x94x1024_S8x64x1024_0_7_0 slices_S31x1024_S1x1024_7_0)) (termR e w 8 slices_S8x94x1024_S8x64x1024_0_8_0 slices_S31x1024_S1x1024_8_0)) (termR e w 9 slices_S8x94x1024_S8x64x1024_0_9_0 slices_S31x1024_S1x1024_9_0)) (termR e w 10 slices_S8x94x1024_S8x64x1024_0_10_0 slices_S31x1024_S1x1024_10_0)
/-- the next eleven, -/
def sumR1 (e : FVec Ideal S8x94x1024 .f32) (w : FVec Ideal S31x1024 .f32) : FVec Ideal S8x64x1024 .f32 :=
  addf (addf (addf (addf (addf (addf (addf (addf (addf (addf (addf (sumR0 e w) (termR e w 11 slices_S8x94x1024_S8x64x1024_0_11_0 slices_S31x1024_S1x1024_11_0)) (termR e w 12 slices_S8x94x1024_S8x64x1024_0_12_0 slices_S31x1024_S1x1024_12_0)) (termR e w 13 slices_S8x94x1024_S8x64x1024_0_13_0 slices_S31x1024_S1x1024_13_0)) (termR e w 14 slices_S8x94x1024_S8x64x1024_0_14_0 slices_S31x1024_S1x1024_14_0)) (termR e w 15 slices_S8x94x1024_S8x64x1024_0_15_0 slices_S31x1024_S1x1024_15_0)) (termR e w 16 slices_S8x94x1024_S8x64x1024_0_16_0 slices_S31x1024_S1x1024_16_0)) (termR e w 17 slices_S8x94x1024_S8x64x1024_0_17_0 slices_S31x1024_S1x1024_17_0)) (termR e w 18 slices_S8x94x1024_S8x64x1024_0_18_0 slices_S31x1024_S1x1024_18_0)) (termR e w 19 slices_S8x94x1024_S8x64x1024_0_19_0 slices_S31x1024_S1x1024_19_0)) (termR e w 20 slices_S8x94x1024_S8x64x1024_0_20_0 slices_S31x1024_S1x1024_20_0)) (termR e w 21 slices_S8x94x1024_S8x64x1024_0_21_0 slices_S31x1024_S1x1024_21_0)
/-- and the last nine with the bias. -/
def sumR (e : FVec Ideal S8x94x1024 .f32) (w : FVec Ideal S31x1024 .f32) (v : FVec Ideal S1x1024 .f32) : FVec Ideal S8x64x1024 .f32 :=
  addf (addf (addf (addf (addf (addf (addf (addf (addf (addf (sumR1 e w) (termR e w 22 slices_S8x94x1024_S8x64x1024_0_22_0 slices_S31x1024_S1x1024_22_0)) (termR e w 23 slices_S8x94x1024_S8x64x1024_0_23_0 slices_S31x1024_S1x1024_23_0)) (termR e w 24 slices_S8x94x1024_S8x64x1024_0_24_0 slices_S31x1024_S1x1024_24_0)) (termR e w 25 slices_S8x94x1024_S8x64x1024_0_25_0 slices_S31x1024_S1x1024_25_0)) (termR e w 26 slices_S8x94x1024_S8x64x1024_0_26_0 slices_S31x1024_S1x1024_26_0)) (termR e w 27 slices_S8x94x1024_S8x64x1024_0_27_0 slices_S31x1024_S1x1024_27_0)) (termR e w 28 slices_S8x94x1024_S8x64x1024_0_28_0 slices_S31x1024_S1x1024_28_0)) (termR e w 29 slices_S8x94x1024_S8x64x1024_0_29_0 slices_S31x1024_S1x1024_29_0)) (termR e w 30 slices_S8x94x1024_S8x64x1024_0_30_0 slices_S31x1024_S1x1024_30_0)) (everyR v)

/-- The sequences, the cached rows before them. -/
def extR (u : FVec Ideal S16896x1024 .f32) (a : FVec Ideal S1x8x30x1024 .f32) : FVec Ideal S8x94x1024 .f32 :=
  concatenate S8x94x1024 1 [⟨S8x30x1024, shapeCast S8x30x1024 a shapeCasts_S1x8x30x1024_S8x30x1024⟩, ⟨S8x64x1024, shapeCast S8x64x1024 (extractStridedSlice S512x1024 ![16384, 0] u slices_S16896x1024_S512x1024_16384_0) shapeCasts_S512x1024_S8x64x1024⟩] concatenates_S8x30x1024_S8x64x1024_S8x94x1024_d1

/-- The mean over the columns. -/
def meanR (y : FVec Ideal S8x64x1024 .f32) : FVec Ideal S8x64x1 .f32 :=
  Host.divf (broadcastInDim S8x64x1 ![0, 1] bcast_S8x64_S8x64x1_0_1 (Host.reduceAdd y (constant S_ .f32 0x00000000#32) reducesTo_S8x64x1024_S8x64_d2 h_S_)) (broadcastInDim S8x64x1 ![] bcast_S_S8x64x1 (constant S_ .f32 0x44800000#32))
/-- Each entry less its row's mean. -/
def lessR (y : FVec Ideal S8x64x1024 .f32) : FVec Ideal S8x64x1024 .f32 :=
  subf y (broadcastInDim S8x64x1024 ![0, 1, 2] bcast_S8x64x1_S8x64x1024_0_1_2 (meanR y))
/-- The norm, scaled and shifted. -/
def normR (y : FVec Ideal S8x64x1024 .f32) (g s : FVec Ideal S1x1024 .f32) : FVec Ideal S8x64x1024 .f32 :=
  addf (mulf (mulf (lessR y) (broadcastInDim S8x64x1024 ![0, 1, 2] bcast_S8x64x1_S8x64x1024_0_1_2 (Host.rsqrt (addf (meanR (mulf (lessR y) (lessR y))) (broadcastInDim S8x64x1 ![] bcast_S_S8x64x1 (constant S_ .f32 0x358637BD#32)))))) (everyR g)) (everyR s)
/-- The activation, row by row of the flattened sequences. -/
def litR (y : FVec Ideal S8x64x1024 .f32) : FVec Ideal S512x1024 .bf16 :=
  truncf .bf16 (shapeCast S512x1024 (mulf y (Host.divf (broadcastInDim S8x64x1024 ![] bcast_S_S8x64x1024 (constant S_ .f32 0x3F800000#32)) (addf (broadcastInDim S8x64x1024 ![] bcast_S_S8x64x1024 (constant S_ .f32 0x3F800000#32)) (Host.exp (Host.negf y))))) shapeCasts_S8x64x1024_S512x1024) bitsLt_bf16_f32

/-- The reference's result. -/
def wholeR (u : FVec Ideal S16896x1024 .f32) (a : FVec Ideal S1x8x30x1024 .f32) (w : FVec Ideal S1x31x1024 .f32) (v g s : FVec Ideal S1x1024 .f32) : FVec Ideal S512x1024 .bf16 :=
  litR (normR (sumR (extR u a) (shapeCast S31x1024 w shapeCasts_S1x31x1024_S31x1024) v) g s)

/-- A tap times the shifted sequences read at an entry. -/
theorem termR_apply (e : FVec Ideal S8x94x1024 .f32) (w : FVec Ideal S31x1024 .f32) (j : Nat) (he : S8x94x1024.Slices ![0, j, 0] S8x64x1024) (hw : S31x1024.Slices ![j, 0] S1x1024)
    (b : Fin 8) (p : Fin 64) (k : Fin 1024) : termR e w j he hw (ix3 b p k) = rowR e b (p.val + j) k * tapR w j k := by
  have hj : j + 64 ≤ 94 := he.2 1
  have h1 : extractStridedSlice S8x64x1024 ![0, j, 0] e he (ix3 b p k) = rowR e b (p.val + j) k := by
    rw [rowR, dif_pos (by omega)]
    refine extractStridedSlice_apply _ _ _ _ _ fun a => ?_
    match a with
    | ⟨0, _⟩ => show b.val = 0 + b.val; omega
    | ⟨1, _⟩ => show p.val + j = j + p.val; omega
    | ⟨2, _⟩ => show k.val = 0 + k.val; omega
  have h2 : extractStridedSlice S1x1024 ![j, 0] w hw (ix2 (n0 := 1) (n1 := 1024) 0 k) = tapR w j k := by
    rw [tapR, dif_pos (by omega)]
    refine extractStridedSlice_apply _ _ _ _ _ fun a => ?_
    match a with
    | ⟨0, _⟩ => show j = j + 0; omega
    | ⟨1, _⟩ => show k.val = 0 + k.val; omega
  have h3 (x : FVec Ideal S8x64x1024 .f32) (y : FVec Ideal S1x1024 .f32) :
      mulf x (broadcastInDim S8x64x1024 ![0, 1, 2] bcast_S1x1x1024_S8x64x1024_0_1_2 (broadcastInDim S1x1x1024 ![2] bcast_S1024_S1x1x1024_2 (shapeCast S1024 y shapeCasts_S1x1024_S1024))) (ix3 b p k)
        = x (ix3 b p k) * y (ix2 (0 : Fin 1) k) := by
    pointwise
  rw [termR, h3, h1, h2]

/-- A vector's row read at an entry. -/
theorem everyR_apply (v : FVec Ideal S1x1024 .f32) (b : Fin 8) (p : Fin 64) (k : Fin 1024) : everyR v (ix3 b p k) = v (ix2 (0 : Fin 1) k) := by
  pointwise [everyR]

/-- The zero the sum begins with. -/
theorem zeroR_apply (b : Fin 8) (p : Fin 64) (k : Fin 1024) : (broadcastInDim S8x64x1024 ![] bcast_S_S8x64x1024 (constant S_ .f32 0x00000000#32) : FVec Ideal S8x64x1024 .f32) (ix3 b p k) = 0 := by
  pointwise

/-- A tap's product read at an entry. -/
abbrev prodR (e : FVec Ideal S8x94x1024 .f32) (w : FVec Ideal S31x1024 .f32) (b : Fin 8) (p : Fin 64) (k : Fin 1024) : Nat → EReal := fun j => rowR e b (p.val + j) k * tapR w j k

/-- The sum's first term, -/
theorem baseR (e : FVec Ideal S8x94x1024 .f32) (w : FVec Ideal S31x1024 .f32) (he : S8x94x1024.Slices ![0, 0, 0] S8x64x1024) (hw : S31x1024.Slices ![0, 0] S1x1024) (b : Fin 8) (p : Fin 64) (k : Fin 1024) :
    addf (broadcastInDim S8x64x1024 ![] bcast_S_S8x64x1024 (constant S_ .f32 0x00000000#32)) (termR e w 0 he hw) (ix3 b p k) = running (F := Ideal) (prodR e w b p k) 0 := by
  show (broadcastInDim S8x64x1024 ![] bcast_S_S8x64x1024 (constant S_ .f32 0x00000000#32) : FVec Ideal S8x64x1024 .f32) (ix3 b p k) + termR e w 0 he hw (ix3 b p k) = _
  rw [zeroR_apply, zero_add, termR_apply]
  rfl
/-- and each further one. -/
theorem stepR (e : FVec Ideal S8x94x1024 .f32) (w : FVec Ideal S31x1024 .f32) (x : FVec Ideal S8x64x1024 .f32) (j : Nat) (he : S8x94x1024.Slices ![0, j + 1, 0] S8x64x1024) (hw : S31x1024.Slices ![j + 1, 0] S1x1024)
    (b : Fin 8) (p : Fin 64) (k : Fin 1024) (hx : x (ix3 b p k) = running (F := Ideal) (prodR e w b p k) j) :
    addf x (termR e w (j + 1) he hw) (ix3 b p k) = running (F := Ideal) (prodR e w b p k) (j + 1) := by
  show x (ix3 b p k) + termR e w (j + 1) he hw (ix3 b p k) = _
  rw [hx, termR_apply]
  rfl

/-- The first eleven taps' sum read at an entry, -/
theorem sumR0_apply (e : FVec Ideal S8x94x1024 .f32) (w : FVec Ideal S31x1024 .f32) (b : Fin 8) (p : Fin 64) (k : Fin 1024) :
    sumR0 e w (ix3 b p k) = running (F := Ideal) (prodR e w b p k) 10 := by
  unfold sumR0
  exact (stepR e w _ 9 _ _ b p k (stepR e w _ 8 _ _ b p k (stepR e w _ 7 _ _ b p k (stepR e w _ 6 _ _ b p k (stepR e w _ 5 _ _ b p k (stepR e w _ 4 _ _ b p k (stepR e w _ 3 _ _ b p k (stepR e w _ 2 _ _ b p k (stepR e w _ 1 _ _ b p k (stepR e w _ 0 _ _ b p k (baseR e w _ _ b p k)))))))))))
/-- the first 22 taps', -/
theorem sumR1_apply (e : FVec Ideal S8x94x1024 .f32) (w : FVec Ideal S31x1024 .f32) (b : Fin 8) (p : Fin 64) (k : Fin 1024) :
    sumR1 e w (ix3 b p k) = running (F := Ideal) (prodR e w b p k) 21 := by
  unfold sumR1
  exact (stepR e w _ 20 _ _ b p k (stepR e w _ 19 _ _ b p k (stepR e w _ 18 _ _ b p k (stepR e w _ 17 _ _ b p k (stepR e w _ 16 _ _ b p k (stepR e w _ 15 _ _ b p k (stepR e w _ 14 _ _ b p k (stepR e w _ 13 _ _ b p k (stepR e w _ 12 _ _ b p k (stepR e w _ 11 _ _ b p k (stepR e w _ 10 _ _ b p k (sumR0_apply e w b p k))))))))))))
/-- and all with the bias. -/
theorem sumR_apply (e : FVec Ideal S8x94x1024 .f32) (w : FVec Ideal S31x1024 .f32) (v : FVec Ideal S1x1024 .f32) (b : Fin 8) (p : Fin 64) (k : Fin 1024) :
    sumR e w v (ix3 b p k) = running (F := Ideal) (prodR e w b p k) 30 + v (ix2 (0 : Fin 1) k) := by
  unfold sumR
  exact congrArg₂ (· + ·) (stepR e w _ 29 _ _ b p k (stepR e w _ 28 _ _ b p k (stepR e w _ 27 _ _ b p k (stepR e w _ 26 _ _ b p k (stepR e w _ 25 _ _ b p k (stepR e w _ 24 _ _ b p k (stepR e w _ 23 _ _ b p k (stepR e w _ 22 _ _ b p k (stepR e w _ 21 _ _ b p k (sumR1_apply e w b p k)))))))))) (everyR_apply v b p k)

/-- The norm read at an entry. -/
theorem normR_apply (y : FVec Ideal S8x64x1024 .f32) (g s : FVec Ideal S1x1024 .f32) (b : Fin 8) (p : Fin 64) (k : Fin 1024) :
    normR y g s (ix3 b p k) = lined (fun j => y (ix3 b p j)) (g (ix2 (0 : Fin 1) k)) (s (ix2 (0 : Fin 1) k)) k := by
  pointwise [normR, lessR, meanR, everyR]
  simp only [lined, mean]

/-- The activation read at an entry. -/
theorem litR_apply (y : FVec Ideal S8x64x1024 .f32) (b : Fin 8) (p : Fin 64) (k : Fin 1024) :
    litR y (ix2 (n0 := 512) (n1 := 1024) ⟨b.val * 64 + p.val, by omega⟩ k) = lit (y (ix3 b p k)) := by
  have h (x : FVec Ideal S8x64x1024 .f32) : (truncf .bf16 (shapeCast S512x1024 x shapeCasts_S8x64x1024_S512x1024) bitsLt_bf16_f32 : FVec Ideal S512x1024 .bf16) (ix2 (n0 := 512) (n1 := 1024) ⟨b.val * 64 + p.val, by omega⟩ k) = x (ix3 b p k) :=
    shapeCast_apply _ _ (ix2 (n0 := 512) (n1 := 1024) ⟨b.val * 64 + p.val, by omega⟩ k) (ix3 (n0 := 8) (n1 := 64) (n2 := 1024) b p k) (by
      rw [Shape.rowMajor_val_two, Shape.rowMajor_val_three]
      rfl)
  unfold litR
  rw [h]
  pointwise
  simp only [lit]

/-- A cached row, -/
theorem extR_left (u : FVec Ideal S16896x1024 .f32) (a : FVec Ideal S1x8x30x1024 .f32) (b : Fin 8) (r : Fin 30) (k : Fin 1024) :
    rowR (extR u a) b r.val k = a (ix4 (n0 := 1) (n1 := 8) (n2 := 30) (n3 := 1024) 0 b r k) := by
  rw [rowR, dif_pos (by omega)]
  have h (x : FVec Ideal S1x8x30x1024 .f32) : shapeCast S8x30x1024 x shapeCasts_S1x8x30x1024_S8x30x1024 (ix3 b r k) = x (ix4 (0 : Fin 1) b r k) := by
    pointwise
  refine Eq.trans ?_ (h a)
  unfold extR
  exact concatenate_pair_apply_left (t := S8x94x1024) (s₁ := S8x30x1024) (s₂ := S8x64x1024) 1 _ _ _ _ rfl (ix3 (n0 := 8) (n1 := 30) (n2 := 1024) b r k)
    (fun a => by fin_cases a <;> rfl)

/-- and a row of the sequence. -/
theorem extR_right (u : FVec Ideal S16896x1024 .f32) (a : FVec Ideal S1x8x30x1024 .f32) (b : Fin 8) (r : Nat) (q : Fin 64) (hr : q.val + 30 = r) (k : Fin 1024) :
    rowR (extR u a) b r k = u (ix2 (n0 := 16896) (n1 := 1024) ⟨16384 + (b.val * 64 + q.val), by omega⟩ k) := by
  rw [rowR, dif_pos (by omega)]
  have h (x : FVec Ideal S512x1024 .f32) : shapeCast S8x64x1024 x shapeCasts_S512x1024_S8x64x1024 (ix3 b q k) = x (ix2 (n0 := 512) (n1 := 1024) ⟨b.val * 64 + q.val, by omega⟩ k) :=
    shapeCast_apply _ _ (ix3 (n0 := 8) (n1 := 64) (n2 := 1024) b q k) (ix2 (n0 := 512) (n1 := 1024) ⟨b.val * 64 + q.val, by omega⟩ k) (by
      rw [Shape.rowMajor_val_two, Shape.rowMajor_val_three]
      rfl)
  have h2 : extractStridedSlice S512x1024 ![16384, 0] u slices_S16896x1024_S512x1024_16384_0 (ix2 (n0 := 512) (n1 := 1024) ⟨b.val * 64 + q.val, by omega⟩ k) = u (ix2 (n0 := 16896) (n1 := 1024) ⟨16384 + (b.val * 64 + q.val), by omega⟩ k) := by
    refine extractStridedSlice_apply _ _ _ _ _ fun a => ?_
    match a with
    | ⟨0, _⟩ => rfl
    | ⟨1, _⟩ => show k.val = 0 + k.val; omega
  refine Eq.trans ?_ ((h _).trans h2)
  unfold extR
  exact concatenate_pair_apply_right (t := S8x94x1024) (s₁ := S8x30x1024) (s₂ := S8x64x1024) 1 _ _ _ _ rfl rfl (ix3 (n0 := 8) (n1 := 64) (n2 := 1024) b q k)
    (fun a ha => by
      match a with
      | ⟨0, _⟩ => rfl
      | ⟨1, _⟩ => exact absurd rfl ha
      | ⟨2, _⟩ => rfl) hr

/-- The reference's result read at an entry. -/
theorem wholeR_apply (u : FVec Ideal S16896x1024 .f32) (a : FVec Ideal S1x8x30x1024 .f32) (w : FVec Ideal S1x31x1024 .f32) (v g s : FVec Ideal S1x1024 .f32) (b : Fin 8) (p : Fin 64) (k : Fin 1024) :
    wholeR u a w v g s (ix2 (n0 := 512) (n1 := 1024) ⟨b.val * 64 + p.val, by omega⟩ k)
      = lit (lined (fun i => running (F := Ideal) (fun j => rowR (extR u a) b (p.val + j) i * tapR (shapeCast S31x1024 w shapeCasts_S1x31x1024_S31x1024) j i) 30 + v (ix2 (0 : Fin 1) i))
          (g (ix2 (0 : Fin 1) k)) (s (ix2 (0 : Fin 1) k)) k) := by
  unfold wholeR
  rw [litR_apply, normR_apply]
  simp only [sumR_apply]

end reference

end Cert.DwMath

end
-- ==== Proof.DwValue.lean ====
/- The depthwise convolution's call over the extended reals: its result array is the reference's. -/
module

public import proofs.«01_k».proof.Proof.DwMath
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Geometry
public import Idealize.ShloMosaic.Lib.Pointwise
public import Idealize.ShloMosaic.Lib.StableHlo.Run
public import Idealize.ShloMosaic.Lib.KernelVsHost
public import Idealize.ShloMosaic.Lib.Tactic

@[expose] public section

set_option maxRecDepth 16384

noncomputable section

namespace Cert.Kernel7Ideal.Dw

open Cert.Kernel7Ideal Cert.Kernel7Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]

variable (m : (ℓ : Loc nD τ sig) → Buf (Elt F) ℓ)

/-- What a point leaves in its buffer. -/
theorem after_eq (c : Dev nD) (t : Fin cfg0.N) :
    (dats m 0 c).after 7 t = active (normed (convolved (iblk m c 3 t) (k0_pay58 (grid0.coords t) (iblk m c 2 t) (iblk m c 1 t)) (iblk m c 0 t)) (iblk m c 4 t) (iblk m c 5 t) (iblk m c 6 t)) := by
  rw [after0_7]
  unfold outsAt0
  exact out_eq c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t)

/-! ## What the windows read -/

/-- No point but the first of its sequence. -/
theorem coord_one : ∀ t : Fin grid0.N, (grid0.coords t 1).val = 0 := by decide +kernel
/-- The rows' block of a point, -/
theorem map_0 : ∀ t : Fin grid0.N, cc0_transform_0 (grid0.coords t) 0 = 256 + t.val ∧ cc0_transform_0 (grid0.coords t) 1 = 0 := by decide +kernel
/-- its block of the cached rows -/
theorem map_2 : ∀ t : Fin grid0.N, cc0_transform_2 (grid0.coords t) 0 = t.val ∧ cc0_transform_2 (grid0.coords t) 1 = 0 ∧ cc0_transform_2 (grid0.coords t) 2 = 0 := by decide +kernel
/-- and its block of the result. -/
theorem map_7 : ∀ t : Fin grid0.N, cc0_transform_7 (grid0.coords t) 0 = t.val ∧ cc0_transform_7 (grid0.coords t) 1 = 0 := by decide +kernel

/-- The cached rows as the region finds them: two rows before each sequence's 30. -/
theorem V_cache (c : Dev nD) : V m c main_v5 = pad S8x32x1024 ![0, 2, 0] ![0, 0, 0] ![0, 0, 0] (shapeCast S8x30x1024 (m ((c.tc : Thread nD τ).loc main_arg1)) shapeCasts_S1x8x30x1024_S8x30x1024 : FVec F S8x30x1024 .f32)
    (sitofp .f32 (constantI S_ 32 0#32) : FVec F S_ .f32) pads_S8x30x1024_S8x32x1024_000_200_000 h_S_ := by
  unfold V
  simp only [hostOps0, hostOps0_1, hostOps0_2, List.flatten_cons, List.flatten_nil, List.append_nil, List.cons_append, List.nil_append]
  after_results_simp <;> rfl

/-- The weights as the region finds them, -/
theorem V_taps (c : Dev nD) : V m c main_v6 = shapeCast S31x8x128 (shapeCast S31x1024 (m ((c.tc : Thread nD τ).loc main_arg2)) shapeCasts_S1x31x1024_S31x1024 : FVec F S31x1024 .f32) shapeCasts_S31x1024_S31x8x128 := by
  unfold V
  simp only [hostOps0, hostOps0_1, hostOps0_2, List.flatten_cons, List.flatten_nil, List.append_nil, List.cons_append, List.nil_append]
  after_results_simp <;> rfl
/-- which every point reads whole. -/
theorem whole_3 (c : Dev nD) (t : Fin cfg0.N) (j : S31x8x128.Idx) : iblk m c 3 t j = V m c main_v6 j := by
  show V m c main_v6 (((cfg0.win 3).blk t).view.emb j) = _
  refine congrArg (V m c main_v6) (funext fun a => Fin.ext ?_)
  match a with
  | ⟨0, _⟩ => show cc0_transform_3 (grid0.coords t) 0 * 31 + 1 * (j 0).val = (j 0).val; unfold cc0_transform_3; simp
  | ⟨1, _⟩ => show cc0_transform_3 (grid0.coords t) 1 * 8 + 1 * (j 1).val = (j 1).val; unfold cc0_transform_3; simp
  | ⟨2, _⟩ => show cc0_transform_3 (grid0.coords t) 2 * 128 + 1 * (j 2).val = (j 2).val; unfold cc0_transform_3; simp

/-- The bias's array as the region finds it, -/
theorem V_bias (c : Dev nD) : V m c main_v7 = shapeCast S1x1024 (shapeCast S1024 (m ((c.tc : Thread nD τ).loc main_arg3)) shapeCasts_S1x1024_S1024 : FVec F S1024 .f32) shapeCasts_S1024_S1x1024 := by
  unfold V
  simp only [hostOps0, hostOps0_1, hostOps0_2, List.flatten_cons, List.flatten_nil, List.append_nil, List.cons_append, List.nil_append]
  after_results_simp <;> rfl
/-- which every point reads whole. -/
theorem whole_4 (c : Dev nD) (t : Fin cfg0.N) (j : S1x1024.Idx) : iblk m c 4 t j = V m c main_v7 j := by
  show V m c main_v7 (((cfg0.win 4).blk t).view.emb j) = _
  refine congrArg (V m c main_v7) (funext fun a => Fin.ext ?_)
  match a with
  | ⟨0, _⟩ => show cc0_transform_4 (grid0.coords t) 0 * 1 + 1 * (j 0).val = (j 0).val; unfold cc0_transform_4; simp
  | ⟨1, _⟩ => show cc0_transform_4 (grid0.coords t) 1 * 1024 + 1 * (j 1).val = (j 1).val; unfold cc0_transform_4; simp

/-- The scale's array as the region finds it, -/
theorem V_scale (c : Dev nD) : V m c main_v8 = shapeCast S1x1024 (shapeCast S1024 (m ((c.tc : Thread nD τ).loc main_arg4)) shapeCasts_S1x1024_S1024 : FVec F S1024 .f32) shapeCasts_S1024_S1x1024 := by
  unfold V
  simp only [hostOps0, hostOps0_1, hostOps0_2, List.flatten_cons, List.flatten_nil, List.append_nil, List.cons_append, List.nil_append]
  after_results_simp <;> rfl
/-- which every point reads whole. -/
theorem whole_5 (c : Dev nD) (t : Fin cfg0.N) (j : S1x1024.Idx) : iblk m c 5 t j = V m c main_v8 j := by
  show V m c main_v8 (((cfg0.win 5).blk t).view.emb j) = _
  refine congrArg (V m c main_v8) (funext fun a => Fin.ext ?_)
  match a with
  | ⟨0, _⟩ => show cc0_transform_5 (grid0.coords t) 0 * 1 + 1 * (j 0).val = (j 0).val; unfold cc0_transform_5; simp
  | ⟨1, _⟩ => show cc0_transform_5 (grid0.coords t) 1 * 1024 + 1 * (j 1).val = (j 1).val; unfold cc0_transform_5; simp

/-- The shift's array as the region finds it, -/
theorem V_shift (c : Dev nD) : V m c main_v9 = shapeCast S1x1024 (shapeCast S1024 (m ((c.tc : Thread nD τ).loc main_arg5)) shapeCasts_S1x1024_S1024 : FVec F S1024 .f32) shapeCasts_S1024_S1x1024 := by
  unfold V
  simp only [hostOps0, hostOps0_1, hostOps0_2, List.flatten_cons, List.flatten_nil, List.append_nil, List.cons_append, List.nil_append]
  after_results_simp <;> rfl
/-- which every point reads whole. -/
theorem whole_6 (c : Dev nD) (t : Fin cfg0.N) (j : S1x1024.Idx) : iblk m c 6 t j = V m c main_v9 j := by
  show V m c main_v9 (((cfg0.win 6).blk t).view.emb j) = _
  refine congrArg (V m c main_v9) (funext fun a => Fin.ext ?_)
  match a with
  | ⟨0, _⟩ => show cc0_transform_6 (grid0.coords t) 0 * 1 + 1 * (j 0).val = (j 0).val; unfold cc0_transform_6; simp
  | ⟨1, _⟩ => show cc0_transform_6 (grid0.coords t) 1 * 1024 + 1 * (j 1).val = (j 1).val; unfold cc0_transform_6; simp

/-! ## The result array -/

/-- Where a block's entry lies in the result. -/
def place (t : Fin grid0.N) (y : S64x1024.Idx) : S512x1024.Idx := ix2 (n0 := 512) (n1 := 1024) ⟨t.val * 64 + (y 0).val, by
  have h : t.val < 8 := t.isLt
  have h0 : (y 0).val < 64 := (y 0).isLt
  omega⟩ (y 1)

/-- A block's entries lie in the result where `place` says. -/
theorem emb_result (t : Fin cfg0.N) (y : S64x1024.Idx) : ((cfg0.win 7).blk t).view.emb y = place t y := by
  refine funext fun a => Fin.ext ?_
  match a with
  | ⟨0, _⟩ => show cc0_transform_7 (grid0.coords t) 0 * 64 + 1 * (y 0).val = t.val * 64 + (y 0).val; rw [(map_7 t).1]; simp
  | ⟨1, _⟩ => show cc0_transform_7 (grid0.coords t) 1 * 1024 + 1 * (y 1).val = (y 1).val; rw [(map_7 t).2]; simp

/-- Every entry of the result lies in some block. -/
theorem place_onto (i : S512x1024.Idx) : ∃ (t : Fin grid0.N) (y : S64x1024.Idx), place t y = i := by
  have hi : (i 0).val < 512 := (i 0).isLt
  refine ⟨⟨(i 0).val / 64, by show _ < 8; omega⟩, ix2 (n0 := 64) (n1 := 1024) ⟨(i 0).val % 64, Nat.mod_lt _ (by decide)⟩ (i 1), funext fun a => Fin.ext ?_⟩
  match a with
  | ⟨0, _⟩ => show (i 0).val / 64 * 64 + (i 0).val % 64 = (i 0).val; omega
  | ⟨1, _⟩ => rfl

section value
variable (m : (ℓ : Loc nD τ sig) → Buf (Elt Ideal) ℓ)
open Cert.DwMath

/-- The reference's result of the arrays launched. -/
def result (c : Dev nD) : FVec Ideal S512x1024 .bf16 :=
  wholeR (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- A vector reshaped and back, read at an entry. -/
theorem vector_apply (x : FVec Ideal S1x1024 .f32) (k : Fin 1024) :
    shapeCast S1x1024 (shapeCast S1024 x shapeCasts_S1x1024_S1024 : FVec Ideal S1024 .f32) shapeCasts_S1024_S1x1024 (ix2 (n0 := 1) (n1 := 1024) 0 k) = x (ix2 (n0 := 1) (n1 := 1024) 0 k) := by
  pointwise

/-- The bias's entries. -/
theorem bias_entry (c : Dev nD) (t : Fin cfg0.N) (k : Fin 1024) : iblk m c 4 t (ix2 (n0 := 1) (n1 := 1024) 0 k) = m ((c.tc : Thread nD τ).loc main_arg3) (ix2 (n0 := 1) (n1 := 1024) 0 k) :=
  (whole_4 m c t _).trans ((congrFun (V_bias m c) _).trans (vector_apply _ k))

/-- The scale's entries. -/
theorem scale_entry (c : Dev nD) (t : Fin cfg0.N) (k : Fin 1024) : iblk m c 5 t (ix2 (n0 := 1) (n1 := 1024) 0 k) = m ((c.tc : Thread nD τ).loc main_arg4) (ix2 (n0 := 1) (n1 := 1024) 0 k) :=
  (whole_5 m c t _).trans ((congrFun (V_scale m c) _).trans (vector_apply _ k))

/-- The shift's entries. -/
theorem shift_entry (c : Dev nD) (t : Fin cfg0.N) (k : Fin 1024) : iblk m c 6 t (ix2 (n0 := 1) (n1 := 1024) 0 k) = m ((c.tc : Thread nD τ).loc main_arg5) (ix2 (n0 := 1) (n1 := 1024) 0 k) :=
  (whole_6 m c t _).trans ((congrFun (V_shift m c) _).trans (vector_apply _ k))

/-- A point's block of the rows. -/
theorem rows_entry (c : Dev nD) (t : Fin cfg0.N) (p : Fin 64) (k : Fin 1024) (h : 16384 + (t.val * 64 + p.val) < 16896) :
    iblk m c 0 t (ix2 (n0 := 64) (n1 := 1024) p k) = m ((c.tc : Thread nD τ).loc main_arg0) (ix2 (n0 := 16896) (n1 := 1024) ⟨16384 + (t.val * 64 + p.val), h⟩ k) := by
  refine Eq.trans ?_ (congrFun (V_main_arg0 m c) _)
  show V m c main_arg0 (((cfg0.win 0).blk t).view.emb (ix2 (n0 := 64) (n1 := 1024) p k)) = _
  refine congrArg (V m c main_arg0) (funext fun a => Fin.ext ?_)
  match a with
  | ⟨0, _⟩ => show cc0_transform_0 (grid0.coords t) 0 * 64 + 1 * p.val = 16384 + (t.val * 64 + p.val); rw [(map_0 t).1]; omega
  | ⟨1, _⟩ => show cc0_transform_0 (grid0.coords t) 1 * 1024 + 1 * k.val = k.val; rw [(map_0 t).2]; omega

/-- A point's block of the cached rows, past the two rows before them. -/
theorem cache_entry (c : Dev nD) (t : Fin cfg0.N) (b : Fin 8) (hb : b.val = t.val) (r : Fin 30) (k : Fin 1024) :
    iblk m c 2 t (ix3 (n0 := 1) (n1 := 32) (n2 := 1024) 0 ⟨r.val + 2, by omega⟩ k) = m ((c.tc : Thread nD τ).loc main_arg1) (ix4 (n0 := 1) (n1 := 8) (n2 := 30) (n3 := 1024) 0 b r k) := by
  have h (x : FVec Ideal S1x8x30x1024 .f32) : shapeCast S8x30x1024 x shapeCasts_S1x8x30x1024_S8x30x1024 (ix3 b r k) = x (ix4 (0 : Fin 1) b r k) := by
    pointwise
  refine Eq.trans ?_ (h _)
  have e : iblk m c 2 t (ix3 (n0 := 1) (n1 := 32) (n2 := 1024) 0 ⟨r.val + 2, by omega⟩ k) = V m c main_v5 (ix3 (n0 := 8) (n1 := 32) (n2 := 1024) b ⟨r.val + 2, by omega⟩ k) := by
    show V m c main_v5 (((cfg0.win 2).blk t).view.emb (ix3 (n0 := 1) (n1 := 32) (n2 := 1024) 0 ⟨r.val + 2, by omega⟩ k)) = _
    refine congrArg (V m c main_v5) (funext fun a => Fin.ext ?_)
    match a with
    | ⟨0, _⟩ => show cc0_transform_2 (grid0.coords t) 0 * 1 + 1 * 0 = b.val; rw [(map_2 t).1]; omega
    | ⟨1, _⟩ => show cc0_transform_2 (grid0.coords t) 1 * 32 + 1 * (r.val + 2) = r.val + 2; rw [(map_2 t).2.1]; omega
    | ⟨2, _⟩ => show cc0_transform_2 (grid0.coords t) 2 * 1024 + 1 * k.val = k.val; rw [(map_2 t).2.2]; omega
  refine e.trans ((congrFun (V_cache m c) _).trans ?_)
  refine pad_apply_of_inside _ _ _ _ _ _ _ _ (ix3 b r k) fun a => ?_
  match a with
  | ⟨0, _⟩ => show b.val = 0 + b.val * (0 + 1); omega
  | ⟨1, _⟩ => show r.val + 2 = 2 + r.val * (0 + 1); omega
  | ⟨2, _⟩ => show k.val = 0 + k.val * (0 + 1); omega

/-- The halo is the cached rows. -/
theorem halo_apply (i : grid0.Coords) (hi : (i 1).val = 0) (x : Vec Ideal S1x32x1024 .f32) (y : Vec Ideal S32x1024 .f32) (r : Fin 32) (k : Fin 1024) :
    k0_pay58 (F := Ideal) i x y (ix2 r k) = x (ix3 (0 : Fin 1) r k) := by
  have h : shapeCast S32x1024 x shapeCasts_S1x32x1024_S32x1024 (ix2 r k) = x (ix3 (0 : Fin 1) r k) := by
    pointwise
  refine Eq.trans ?_ h
  unfold k0_pay58
  rw [hi]
  rfl

/-- The taps' weights. -/
theorem tap_entry (c : Dev nD) (t : Fin cfg0.N) (j : Nat) (k : Fin 1024) :
    tapOf (iblk m c 3 t) j k = tapR (shapeCast S31x1024 (m ((c.tc : Thread nD τ).loc main_arg2)) shapeCasts_S1x31x1024_S31x1024) j k := by
  unfold tapOf tapR
  by_cases h : j < 31
  · rw [dif_pos h, dif_pos h]
    refine (whole_3 m c t _).trans ((congrFun (V_taps m c) _).trans ?_)
    refine shapeCast_apply _ _ _ (ix2 (n0 := 31) (n1 := 1024) ⟨j, h⟩ k) ?_
    rw [Shape.rowMajor_val_two, Shape.rowMajor_val_three]
    show j * 1024 + k.val = (j * 8 + k.val / 128) * 128 + k.val % 128
    omega
  · rw [dif_neg h, dif_neg h]
    pointwise

/-- The rows a point's convolution runs over are the extended sequence's. -/
theorem stacked_entry (c : Dev nD) (t : Fin cfg0.N) (b : Fin 8) (hb : b.val = t.val) (r : Nat) (hr : r < 94) (k : Fin 1024) :
    stacked (F := Ideal) (k0_pay58 (grid0.coords t) (iblk m c 2 t) (iblk m c 1 t)) (iblk m c 0 t) (r + 2) k
      = rowR (extR (m ((c.tc : Thread nD τ).loc main_arg0)) (m ((c.tc : Thread nD τ).loc main_arg1))) b r k := by
  unfold stacked
  by_cases h : r < 30
  · rw [dif_pos (by omega)]
    refine (halo_apply (grid0.coords t) (coord_one t) _ _ _ _).trans ?_
    exact (cache_entry m c t b hb ⟨r, h⟩ k).trans (extR_left _ _ b ⟨r, h⟩ k).symm
  · rw [dif_neg (by omega), dif_pos (by omega)]
    refine Eq.trans ?_ (extR_right _ _ b r ⟨r - 30, by omega⟩ (by show r - 30 + 30 = r; omega) k).symm
    refine (rows_entry m c t ⟨r + 2 - 32, by omega⟩ k (by show 16384 + (t.val * 64 + (r + 2 - 32)) < 16896; omega)).trans ?_
    refine congrArg (m ((c.tc : Thread nD τ).loc main_arg0)) (congrArg (fun q : Fin 16896 => ix2 (n0 := 16896) (n1 := 1024) q k) (Fin.ext ?_))
    show 16384 + (t.val * 64 + (r + 2 - 32)) = 16384 + (b.val * 64 + (r - 30))
    omega

/-- The convolution's entries. -/
theorem conv_entry (c : Dev nD) (t : Fin cfg0.N) (b : Fin 8) (hb : b.val = t.val) (p : Fin 64) (k : Fin 1024) :
    convolved (F := Ideal) (iblk m c 3 t) (k0_pay58 (grid0.coords t) (iblk m c 2 t) (iblk m c 1 t)) (iblk m c 0 t) (ix2 (n0 := 64) (n1 := 1024) p k)
      = running (F := Ideal) (prodR (extR (m ((c.tc : Thread nD τ).loc main_arg0)) (m ((c.tc : Thread nD τ).loc main_arg1))) (shapeCast S31x1024 (m ((c.tc : Thread nD τ).loc main_arg2)) shapeCasts_S1x31x1024_S31x1024) b p k) 30 := by
  unfold convolved
  refine running_congr 30 fun j hj => ?_
  show tapOf (iblk m c 3 t) j k * stacked (F := Ideal) (k0_pay58 (grid0.coords t) (iblk m c 2 t) (iblk m c 1 t)) (iblk m c 0 t) (p.val + 2 + j) k = rowR _ b (p.val + j) k * tapR _ j k
  rw [show p.val + 2 + j = p.val + j + 2 by omega, stacked_entry m c t b hb (p.val + j) (by omega) k, tap_entry, mul_comm]

/-- A point's block holds the reference's rows. -/
theorem block_entry (c : Dev nD) (t : Fin cfg0.N) (y : S64x1024.Idx) : (dats m 0 c).after 7 t y = result m c (place t y) := by
  obtain ⟨p, k, rfl⟩ : ∃ (p : Fin 64) (k : Fin 1024), y = ix2 (n0 := 64) (n1 := 1024) p k := ⟨y 0, y 1, by
    funext a
    match a with
    | ⟨0, _⟩ => rfl
    | ⟨1, _⟩ => rfl⟩
  refine (congrFun (after_eq m c t) _).trans ?_
  refine (active_apply _ p k).trans ?_
  refine Eq.trans ?_ (wholeR_apply _ _ _ _ _ _ (⟨t.val, t.isLt⟩ : Fin 8) p k).symm
  refine congrArg lit ((normed_apply _ _ _ _ p k).trans ?_)
  rw [scale_entry, shift_entry]
  refine congrArg (fun z => lined z _ _ k) (funext fun i => ?_)
  exact congrArg₂ (· + ·) (conv_entry m c t ⟨t.val, t.isLt⟩ rfl p i) (bias_entry m c t i)

/-- The run's result array is the reference's. -/
theorem arr_result (c : Dev nD) : (dats m 0 c).arrAt 7 cfg0.N = result m c := by
  refine (dats m 0 c).arrAt_eq_of_emb 7 (result m c) (fun t hf y => ?_) (fun i => ?_)
  · show (dats m 0 c).after 7 t y = result m c (((cfg0.win 7).blk t).view.emb y)
    exact (block_entry m c t y).trans (congrArg (result m c) (emb_result t y)).symm
  · obtain ⟨t, y, h⟩ := place_onto i
    refine ⟨t, flush0_7 t, ?_⟩
    have e : ((cfg0.win 7).blk t).view.emb y = i := (emb_result t y).trans h
    rw [← e]
    exact View.emb_mem_set _ _

end value

end Cert.Kernel7Ideal.Dw

end
-- ==== Proof.PwWindow.lean ====
/- The prompt's depthwise convolution's window: what its scratch holds after the strided stores of the halo and of the block. -/
module

public import proofs.«01_k».proof.Proof.Gen.Kernel8Ideal.Frame
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Geometry
public import Idealize.ShloMosaic.Lib.Pointwise
public import Idealize.ShloMosaic.Lib.Tactic

@[expose] public section

set_option maxRecDepth 16384

noncomputable section

namespace Cert.Kernel8Ideal.Dw

open Cert.Kernel8Ideal Cert.Kernel8Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]

/-! ## The window -/

/-- The rows a block's convolution runs over: the 32 rows of the halo, then the block's 512. -/
def stacked (h : FVec F S32x1024 .f32) (x : FVec F S512x1024 .f32) (r : Nat) (k : Fin 1024) : F .f32 :=
  if hr : r < 32 then h (ix2 (n0 := 32) (n1 := 1024) ⟨r, hr⟩ k)
  else if hr' : r - 32 < 512 then x (ix2 (n0 := 512) (n1 := 1024) ⟨r - 32, hr'⟩ k) else Scalar.ofBits .f32 0x00000000#32

/-- Those rows laid out as rows of 128: row 8 r + c holds columns 128 c … 128 c + 127 of row r. -/
def laid (h : FVec F S32x1024 .f32) (x : FVec F S512x1024 .f32) (q : Nat) (l : Fin 128) : F .f32 :=
  stacked h x (q / 8) ⟨128 * (q % 8) + l.val, by have := l.isLt; omega⟩

/-- The same as an array. -/
def window (h : FVec F S32x1024 .f32) (x : FVec F S512x1024 .f32) : S4352x128.Idx → Elt F .f32 := fun y => laid h x (y 0).val (y 1)

/-- A strided store of the halo's columns is its part of the window. -/
theorem slice_halo (h : FVec F S32x1024 .f32) (x : FVec F S512x1024 .f32) (k : Fin 8) (hs : S32x1024.Slices ![0, 128 * k.val] S32x128)
    (inb : ∀ a, S32x128.size a = 0 ∨ (![k.val, 0] : Fin 2 → Nat) a + (![8, 1] : Fin 2 → Nat) a * (S32x128.size a - 1) < S4352x128.size a)
    (y : S32x128.Idx) :
    extractStridedSlice S32x128 ![0, 128 * k.val] h hs y
      = window h x ((⟨(⟨![k.val, 0], S32x128.size, ![8, 1], inb⟩ : LoadRect S4352x128), spos_8_1⟩ : Rect S4352x128).emb y) := by
  have h0 : (y 0).val < 32 := (y 0).isLt
  have h1 : (y 1).val < 128 := (y 1).isLt
  have hk := k.isLt
  show _ = laid h x (k.val + 8 * (y 0).val) ⟨0 + 1 * (y 1).val, by omega⟩
  unfold laid stacked
  have hq : (k.val + 8 * (y 0).val) / 8 = (y 0).val := by omega
  rw [dif_pos (by omega)]
  refine extractStridedSlice_apply _ _ _ _ _ fun a => ?_
  match a with
  | ⟨0, _⟩ => show (k.val + 8 * (y 0).val) / 8 = 0 + (y 0).val; omega
  | ⟨1, _⟩ => show 128 * ((k.val + 8 * (y 0).val) % 8) + (0 + 1 * (y 1).val) = 128 * k.val + (y 1).val; omega

/-- A strided store of the block's columns is its part of the window. -/
theorem slice_block (h : FVec F S32x1024 .f32) (x : FVec F S512x1024 .f32) (k : Fin 8) (hs : S512x1024.Slices ![0, 128 * k.val] S512x128)
    (inb : ∀ a, S512x128.size a = 0 ∨ (![256 + k.val, 0] : Fin 2 → Nat) a + (![8, 1] : Fin 2 → Nat) a * (S512x128.size a - 1) < S4352x128.size a)
    (y : S512x128.Idx) :
    extractStridedSlice S512x128 ![0, 128 * k.val] x hs y
      = window h x ((⟨(⟨![256 + k.val, 0], S512x128.size, ![8, 1], inb⟩ : LoadRect S4352x128), spos_8_1⟩ : Rect S4352x128).emb y) := by
  have h0 : (y 0).val < 512 := (y 0).isLt
  have h1 : (y 1).val < 128 := (y 1).isLt
  have hk := k.isLt
  show _ = laid h x (256 + k.val + 8 * (y 0).val) ⟨0 + 1 * (y 1).val, by omega⟩
  unfold laid stacked
  rw [dif_neg (by omega), dif_pos (by omega)]
  refine extractStridedSlice_apply _ _ _ _ _ fun a => ?_
  match a with
  | ⟨0, _⟩ => show (256 + k.val + 8 * (y 0).val) / 8 - 32 = 0 + (y 0).val; omega
  | ⟨1, _⟩ => show 128 * ((256 + k.val + 8 * (y 0).val) % 8) + (0 + 1 * (y 1).val) = 128 * k.val + (y 1).val; omega

/-- The loads of the halo, the row before and the block are of whole buffers. -/
theorem hz2 : (![0, 0] : Fin 2 → Nat) = fun _ => 0 := funext fun a => by fin_cases a <;> rfl
theorem hz3 : (![0, 0, 0] : Fin 3 → Nat) = fun _ => 0 := funext fun a => by fin_cases a <;> rfl

/-- After its sixteen stores the scratch holds the window. -/
theorem canon_window (c : Dev nD) (i : grid0.Coords) (arg2 : Memref sig .tc .vmem S512x1024 .f32) (harg2 : arg2.IsWhole) (arg3 : Memref sig .tc .vmem S32x1024 .f32) (harg3 : arg3.IsWhole) (arg4 : Memref sig .tc .vmem S1x32x1024 .f32) (harg4 : arg4.IsWhole)
    (x0 : Vec F S512x1024 .f32) (x1 : Vec F S32x1024 .f32) (x2 : Vec F S1x32x1024 .f32) :
    View.canon (kernelRun0_A.sl.HS0_16 c i arg2 harg2 arg3 harg3 arg4 harg4 x0 x1 x2) = window (k0_pay58 i x2 x1) x0 := by
  have e0 : View.readAt (Elt F) arg2.view (Rect.unit ![0, 0] S512x1024.size inb_S512x1024_S512x1024_0_0).toLoadRect (harg2.unread x0) = x0 := by
    rw [View.readAt_eq_ld, harg2.read_unread]; exact View.ld_unit_zero (S := S512x1024) hz2 _ _
  have e1 : View.readAt (Elt F) arg3.view (Rect.unit ![0, 0] S32x1024.size inb_S32x1024_S32x1024_0_0).toLoadRect (harg3.unread x1) = x1 := by
    rw [View.readAt_eq_ld, harg3.read_unread]; exact View.ld_unit_zero (S := S32x1024) hz2 _ _
  have e2 : View.readAt (Elt F) arg4.view (Rect.unit ![0, 0, 0] S1x32x1024.size inb_S1x32x1024_S1x32x1024_0_0_0).toLoadRect (harg4.unread x2) = x2 := by
    rw [View.readAt_eq_ld, harg4.read_unread]; exact View.ld_unit_zero (S := S1x32x1024) hz3 _ _
  unfold kernelRun0_A.sl.HS0_16 kernelRun0_A.sl.r_3 kernelRun0_A.sl.r_2 kernelRun0_A.sl.r_1 kernelRun0_A.sl.r
  rw [e0, e1, e2]
  simp only [k0_pay59, k0_pay60, k0_pay61, k0_pay62, k0_pay63, k0_pay64, k0_pay65, k0_pay66, k0_pay67, k0_pay68, k0_pay69, k0_pay70, k0_pay71, k0_pay72, k0_pay73, k0_pay74, k0_pay75, shapeCast_self]
  generalize k0_pay58 i x2 x1 = h
  funext j
  refine View.canon_apply_of_pieces (window h x0) _ ?_ j ?_
  · simp only [List.forall_mem_cons, List.not_mem_nil, false_imp_iff, implies_true, and_true]
    exact ⟨slice_block h x0 7 slices_S512x1024_o0_896_S512x128 _, slice_halo h x0 7 slices_S32x1024_o0_896_S32x128 _,
      slice_block h x0 6 slices_S512x1024_o0_768_S512x128 _, slice_halo h x0 6 slices_S32x1024_o0_768_S32x128 _,
      slice_block h x0 5 slices_S512x1024_o0_640_S512x128 _, slice_halo h x0 5 slices_S32x1024_o0_640_S32x128 _,
      slice_block h x0 4 slices_S512x1024_o0_512_S512x128 _, slice_halo h x0 4 slices_S32x1024_o0_512_S32x128 _,
      slice_block h x0 3 slices_S512x1024_o0_384_S512x128 _, slice_halo h x0 3 slices_S32x1024_o0_384_S32x128 _,
      slice_block h x0 2 slices_S512x1024_o0_256_S512x128 _, slice_halo h x0 2 slices_S32x1024_o0_256_S32x128 _,
      slice_block h x0 1 slices_S512x1024_o0_128_S512x128 _, slice_halo h x0 1 slices_S32x1024_o0_128_S32x128 _,
      slice_block h x0 0 slices_S512x1024_o0_0_S512x128 _, slice_halo h x0 0 slices_S32x1024_o0_0_S32x128 _⟩
  · have hj : (j 0).val < 4352 := (j 0).isLt
    have h1 : (j 1).val < 128 := (j 1).isLt
    have keyH (k : Nat) (hk : (j 0).val % 8 = k) (hr : (j 0).val < 256) : ∀ a : Fin 2, ∃ i < S32x128.size a, (j a).val = (![k, 0] : Fin 2 → Nat) a + (![8, 1] : Fin 2 → Nat) a * i := fun a => by
      match a with
      | ⟨0, _⟩ => exact ⟨(j 0).val / 8, by show _ < 32; omega, by show (j 0).val = k + 8 * _; omega⟩
      | ⟨1, _⟩ => exact ⟨(j 1).val, h1, by show (j 1).val = 0 + 1 * _; omega⟩
    have keyB (k : Nat) (hk : (j 0).val % 8 = k) (hr : ¬(j 0).val < 256) : ∀ a : Fin 2, ∃ i < S512x128.size a, (j a).val = (![256 + k, 0] : Fin 2 → Nat) a + (![8, 1] : Fin 2 → Nat) a * i := fun a => by
      match a with
      | ⟨0, _⟩ => exact ⟨(j 0).val / 8 - 32, by show _ < 512; omega, by show (j 0).val = 256 + k + 8 * _; omega⟩
      | ⟨1, _⟩ => exact ⟨(j 1).val, h1, by show (j 1).val = 0 + 1 * _; omega⟩
    have h8 : (j 0).val % 8 < 8 := Nat.mod_lt _ (by decide)
    simp only [List.exists_mem_cons_iff, List.not_mem_nil, false_and, exists_false, or_false]
    generalize hr : (j 0).val % 8 = r at h8
    by_cases hs : (j 0).val < 256
    · match r, h8 with
      | 0, _ => exact (Or.inr (Or.inr (Or.inr (Or.inr (Or.inr (Or.inr (Or.inr (Or.inr (Or.inr (Or.inr (Or.inr (Or.inr (Or.inr (Or.inr (Or.inr ((LoadRect.mem_set _).mpr (keyH 0 hr hs)))))))))))))))))
      | 1, _ => exact (Or.inr (Or.inr (Or.inr (Or.inr (Or.inr (Or.inr (Or.inr (Or.inr (Or.inr (Or.inr (Or.inr (Or.inr (Or.inr (Or.inl ((LoadRect.mem_set _).mpr (keyH 1 hr hs))))))))))))))))
      | 2, _ => exact (Or.inr (Or.inr (Or.inr (Or.inr (Or.inr (Or.inr (Or.inr (Or.inr (Or.inr (Or.inr (Or.inr (Or.inl ((LoadRect.mem_set _).mpr (keyH 2 hr hs))))))))))))))
      | 3, _ => exact (Or.inr (Or.inr (Or.inr (Or.inr (Or.inr (Or.inr (Or.inr (Or.inr (Or.inr (Or.inl ((LoadRect.mem_set _).mpr (keyH 3 hr hs))))))))))))
      | 4, _ => exact (Or.inr (Or.inr (Or.inr (Or.inr (Or.inr (Or.inr (Or.inr (Or.inl ((LoadRect.mem_set _).mpr (keyH 4 hr hs))))))))))
      | 5, _ => exact (Or.inr (Or.inr (Or.inr (Or.inr (Or.inr (Or.inl ((LoadRect.mem_set _).mpr (keyH 5 hr hs))))))))
      | 6, _ => exact (Or.inr (Or.inr (Or.inr (Or.inl ((LoadRect.mem_set _).mpr (keyH 6 hr hs))))))
      | 7, _ => exact (Or.inr (Or.inl ((LoadRect.mem_set _).mpr (keyH 7 hr hs))))
    · match r, h8 with
      | 0, _ => exact (Or.inr (Or.inr (Or.inr (Or.inr (Or.inr (Or.inr (Or.inr (Or.inr (Or.inr (Or.inr (Or.inr (Or.inr (Or.inr (Or.inr (Or.inl ((LoadRect.mem_set _).mpr (keyB 0 hr hs)))))))))))))))))
      | 1, _ => exact (Or.inr (Or.inr (Or.inr (Or.inr (Or.inr (Or.inr (Or.inr (Or.inr (Or.inr (Or.inr (Or.inr (Or.inr (Or.inl ((LoadRect.mem_set _).mpr (keyB 1 hr hs)))))))))))))))
      | 2, _ => exact (Or.inr (Or.inr (Or.inr (Or.inr (Or.inr (Or.inr (Or.inr (Or.inr (Or.inr (Or.inr (Or.inl ((LoadRect.mem_set _).mpr (keyB 2 hr hs)))))))))))))
      | 3, _ => exact (Or.inr (Or.inr (Or.inr (Or.inr (Or.inr (Or.inr (Or.inr (Or.inr (Or.inl ((LoadRect.mem_set _).mpr (keyB 3 hr hs)))))))))))
      | 4, _ => exact (Or.inr (Or.inr (Or.inr (Or.inr (Or.inr (Or.inr (Or.inl ((LoadRect.mem_set _).mpr (keyB 4 hr hs)))))))))
      | 5, _ => exact (Or.inr (Or.inr (Or.inr (Or.inr (Or.inl ((LoadRect.mem_set _).mpr (keyB 5 hr hs)))))))
      | 6, _ => exact (Or.inr (Or.inr (Or.inl ((LoadRect.mem_set _).mpr (keyB 6 hr hs)))))
      | 7, _ => exact (Or.inl ((LoadRect.mem_set _).mpr (keyB 7 hr hs)))

end Cert.Kernel8Ideal.Dw

end
-- ==== Proof.PwTaps.lean ====
/- The prompt's depthwise convolution's loop: what its trips store, as parts of one function of the taps and of the window. -/
module

public import proofs.«01_k».proof.Proof.Gen.Kernel8Ideal.Frame
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Geometry
public import Idealize.ShloMosaic.Lib.Pointwise
public import Idealize.ShloMosaic.Lib.Tactic

@[expose] public section

set_option maxRecDepth 16384

noncomputable section

namespace Cert.Kernel8Ideal.Dw

open Cert.Kernel8Ideal Cert.Kernel8Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]

/-! ## A left-to-right sum -/

/-- The sum of the first terms, from the left. -/
def running (f : Nat → F .f32) : Nat → F .f32
  | 0 => f 0
  | n + 1 => FloatOps.addf (running f n) (f (n + 1))

/-- It depends on the terms summed alone. -/
theorem running_congr {f g : Nat → F .f32} : ∀ n : Nat, (∀ j, j ≤ n → f j = g j) → running f n = running g n
  | 0, h => h 0 (le_refl 0)
  | n + 1, h => by
    unfold running
    rw [running_congr n fun j hj => h j (by omega), h (n + 1) (le_refl _)]

/-! ## One trip of the loop -/

/-- The 31 taps as the loop holds them, by number. -/
def taps (v71 v73 v75 v77 v79 v81 v83 v85 v87 v89 v91 v93 v95 v97 v99 v101 v103 v105 v107 v109 v111 v113 : FVec F S8x128 .f32) (v114 v116 v118 v120 v122 v124 v126 v128 v130 : Vec F S1x8x128 .f32) (j : Nat) : FVec F S8x128 .f32 :=
  ([v71, v73, v75, v77, v79, v81, v83, v85, v87, v89, v91, v93, v95, v97, v99, v101, v103, v105, v107, v109, v111, v113, shapeCast S8x128 v114 shapeCasts_S1x8x128_S8x128, shapeCast S8x128 v116 shapeCasts_S1x8x128_S8x128, shapeCast S8x128 v118 shapeCasts_S1x8x128_S8x128, shapeCast S8x128 v120 shapeCasts_S1x8x128_S8x128, shapeCast S8x128 v122 shapeCasts_S1x8x128_S8x128, shapeCast S8x128 v124 shapeCasts_S1x8x128_S8x128, shapeCast S8x128 v126 shapeCasts_S1x8x128_S8x128, shapeCast S8x128 v128 shapeCasts_S1x8x128_S8x128, shapeCast S8x128 v130 shapeCasts_S1x8x128_S8x128] : List (FVec F S8x128 .f32)).getD j v71

/-- The convolution laid out as rows of 128, of the taps and of the window's rows of 128. -/
def summed (T : Nat → FVec F S8x128 .f32) (E : Nat → Fin 128 → F .f32) : S4096x128.Idx → Elt F .f32 := fun y =>
  running (fun j => FloatOps.mulf (T j (ix2 (n0 := 8) (n1 := 128) ⟨(y 0).val % 8, Nat.mod_lt _ (by decide)⟩ (y 1)))
    (E (8 * ((y 0).val / 8 + 2 + j) + (y 0).val % 8) (y 1))) 30

/-- Where a trip's loads begin, -/
theorem off1_val : ∀ (k : Fin k0_t1_loop.trips) (t : Fin 8) (j : Fin 31), k0_off1 k (BitVec.ofNat 32 t.val) (BitVec.ofNat 32 j.val) 0 = 8 * (8 * k.val + t.val + 2 + j.val) := by decide +kernel
/-- and its stores. -/
theorem off2_val : ∀ (k : Fin k0_t1_loop.trips) (t : Fin 8), k0_off2 k (BitVec.ofNat 32 t.val) 0 = 8 * (8 * k.val + t.val) := by decide +kernel

/-- A load of eight rows of the window. -/
theorem load_row (arg10 : Memref sig .tc .vmem S4352x128 .f32) (X : BufTy.Contents (Elt F) arg10.view.ty) (E : Nat → Fin 128 → F .f32)
    (hX : ∀ y : S4352x128.Idx, arg10.view.read (Elt F) X y = E (y 0).val (y 1)) (k : Fin k0_t1_loop.trips) (a b : BitVec 32)
    (inb : ∀ d, k0_off1 k a b d + S8x128.size d ≤ S4352x128.size d) (x : S8x128.Idx) :
    View.readAt (Elt F) arg10.view (Rect.unit (s := S4352x128) (k0_off1 k a b) S8x128.size inb).toLoadRect X x = E (k0_off1 k a b 0 + (x 0).val) (x 1) := by
  rw [View.readAt_apply, hX]
  refine congr (congrArg E ?_) (Fin.ext ?_)
  · show k0_off1 k a b 0 + 1 * (x 0).val = _; omega
  · show 0 + 1 * (x 1).val = _; omega

/-- The sum a trip stores at one of its eight rows is that row's of the convolution. -/
theorem summed_at (T : Nat → FVec F S8x128 .f32) (E : Nat → Fin 128 → F .f32) (k : Fin k0_t1_loop.trips) (t : Fin 8)
    (inb : ∀ d, k0_off2 k (BitVec.ofNat 32 t.val) d + S8x128.size d ≤ S4096x128.size d) (x : S8x128.Idx) :
    running (fun j => FloatOps.mulf (T j x) (E (k0_off1 k (BitVec.ofNat 32 t.val) (BitVec.ofNat 32 j) 0 + (x 0).val) (x 1))) 30
      = summed T E ((Rect.unit (s := S4096x128) (k0_off2 k (BitVec.ofNat 32 t.val)) S8x128.size inb).emb x) := by
  have h0 : (x 0).val < 8 := (x 0).isLt
  have hr : (((Rect.unit (s := S4096x128) (k0_off2 k (BitVec.ofNat 32 t.val)) S8x128.size inb).emb x) 0).val = 8 * (8 * k.val + t.val) + (x 0).val := by
    show k0_off2 k (BitVec.ofNat 32 t.val) 0 + 1 * (x 0).val = _
    rw [off2_val]; omega
  have hc : ((Rect.unit (s := S4096x128) (k0_off2 k (BitVec.ofNat 32 t.val)) S8x128.size inb).emb x) 1 = x 1 := Fin.ext (by show 0 + 1 * (x 1).val = _; omega)
  unfold summed
  refine running_congr 30 fun j hj => ?_
  have ho := off1_val k t ⟨j, by omega⟩
  dsimp only at ho
  rw [ho]
  refine congr (congrArg FloatOps.mulf ?_) ?_
  · refine congrArg (T j) (funext fun a => Fin.ext ?_)
    match a with
    | ⟨0, _⟩ => show (x 0).val = _ % 8; rw [hr]; omega
    | ⟨1, _⟩ => exact (congrArg Fin.val hc).symm
  · exact congr (congrArg E (by rw [hr]; omega)) hc.symm

/-- A trip's eight stores are parts of the convolution. -/
theorem trip_pieces (𝒱 : Variants) (c : Dev nD) (bd : Option 𝒱.V) (i : grid0.Coords) (arg2 : Memref sig .tc .vmem S512x1024 .f32) (harg2 : arg2.IsWhole) (arg3 : Memref sig .tc .vmem S32x1024 .f32) (harg3 : arg3.IsWhole) (arg4 : Memref sig .tc .vmem S1x32x1024 .f32) (harg4 : arg4.IsWhole) (arg5 : Memref sig .tc .vmem S31x8x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S4352x128 .f32) (harg10 : arg10.IsWhole) (arg11 : Memref sig .tc .vmem S4096x128 .f32) (harg11 : arg11.IsWhole) (v71 v73 v75 v77 v79 v81 v83 v85 v87 v89 v91 v93 v95 v97 v99 v101 v103 v105 v107 v109 v111 v113 : FVec F S8x128 .f32) (v114 v116 v118 v120 v122 v124 v126 v128 v130 : Vec F S1x8x128 .f32)
    (X : BufTy.Contents (Elt F) arg10.view.ty) (E : Nat → Fin 128 → F .f32) (hX : ∀ y : S4352x128.Idx, arg10.view.read (Elt F) X y = E (y 0).val (y 1)) (k : Fin k0_t1_loop.trips) :
    View.PiecesOf (summed (taps v71 v73 v75 v77 v79 v81 v83 v85 v87 v89 v91 v93 v95 v97 v99 v101 v103 v105 v107 v109 v111 v113 v114 v116 v118 v120 v122 v124 v126 v128 v130) E) (tripL_k0_t1 (F := F) 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X k) := by
  unfold tripL_k0_t1 trip_k0_t1
  dsimp only
  refine ⟨fun x => (?_ : _ = _).trans (summed_at _ _ k 7 (k0_off2_inb k 7) x), fun x => (?_ : _ = _).trans (summed_at _ _ k 6 (k0_off2_inb k 6) x), fun x => (?_ : _ = _).trans (summed_at _ _ k 5 (k0_off2_inb k 5) x), fun x => (?_ : _ = _).trans (summed_at _ _ k 4 (k0_off2_inb k 4) x),
    fun x => (?_ : _ = _).trans (summed_at _ _ k 3 (k0_off2_inb k 3) x), fun x => (?_ : _ = _).trans (summed_at _ _ k 2 (k0_off2_inb k 2) x), fun x => (?_ : _ = _).trans (summed_at _ _ k 1 (k0_off2_inb k 1) x), fun x => (?_ : _ = _).trans (summed_at _ _ k 0 (k0_off2_inb k 0) x), trivial⟩
  all_goals
    simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay98, k0_pay99, k0_pay100, k0_pay101, k0_pay102, k0_pay103, k0_pay104, k0_pay105, k0_pay106, k0_pay107, shapeCast_self, addf_apply, mulf_apply, load_row arg10 X E hX]
    rfl

end Cert.Kernel8Ideal.Dw

end
-- ==== Proof.PwOut.lean ====
/- The prompt's depthwise convolution's body: what a point leaves in its block of the result. -/
module

public import proofs.«01_k».proof.Proof.PwWindow
public import proofs.«01_k».proof.Proof.PwTaps
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Geometry
public import Idealize.ShloMosaic.Lib.Pointwise
public import Idealize.ShloMosaic.Lib.Tactic

@[expose] public section

set_option maxRecDepth 16384

noncomputable section

namespace Cert.Kernel8Ideal.Dw

open Cert.Kernel8Ideal Cert.Kernel8Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]

/-! ## The loop -/

/-- The pieces of two lists of stores, one after the other, are parts of one function where those of both are. -/
theorem pieces_append {s : Shape} {e : EltTy} {Val : EltTy → Type} (G : s.Idx → Val e) : ∀ (L L' : List (View.Piece Val s e)), View.PiecesOf G L → View.PiecesOf G L' → View.PiecesOf G (L ++ L')
  | [], _, _, h' => h'
  | _ :: L, L', h, h' => ⟨h.1, pieces_append G L L' h.2 h'⟩

/-- The loop's trips are 64. -/
theorem trips_eq : Scf.trips k0_t1_loop.lb k0_t1_loop.ub k0_t1_loop.st = 64 := by decide +kernel

/-- After any number of trips every store made is a part of the convolution. -/
theorem loop_pieces (𝒱 : Variants) (c : Dev nD) (bd : Option 𝒱.V) (i : grid0.Coords) (arg2 : Memref sig .tc .vmem S512x1024 .f32) (harg2 : arg2.IsWhole) (arg3 : Memref sig .tc .vmem S32x1024 .f32) (harg3 : arg3.IsWhole) (arg4 : Memref sig .tc .vmem S1x32x1024 .f32) (harg4 : arg4.IsWhole) (arg5 : Memref sig .tc .vmem S31x8x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S4352x128 .f32) (harg10 : arg10.IsWhole) (arg11 : Memref sig .tc .vmem S4096x128 .f32) (harg11 : arg11.IsWhole) (v71 v73 v75 v77 v79 v81 v83 v85 v87 v89 v91 v93 v95 v97 v99 v101 v103 v105 v107 v109 v111 v113 : FVec F S8x128 .f32) (v114 v116 v118 v120 v122 v124 v126 v128 v130 : Vec F S1x8x128 .f32)
    (X : BufTy.Contents (Elt F) arg10.view.ty) (E : Nat → Fin 128 → F .f32) (hX : ∀ y : S4352x128.Idx, arg10.view.read (Elt F) X y = E (y 0).val (y 1)) :
    ∀ n : Nat, n ≤ k0_t1_loop.trips → View.PiecesOf (summed (taps v71 v73 v75 v77 v79 v81 v83 v85 v87 v89 v91 v93 v95 v97 v99 v101 v103 v105 v107 v109 v111 v113 v114 v116 v118 v120 v122 v124 v126 v128 v130) E) (pb_k0_t1 (F := F) 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X n)
  | 0, _ => trivial
  | n + 1, h => by
    have e := pb_k0_t1_succ (F := F) 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X ⟨n, h⟩
    dsimp only at e
    rw [e]
    exact pieces_append _ _ _ (trip_pieces 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X E hX ⟨n, h⟩)
      (loop_pieces 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X E hX n (by omega))

/-- After the loop its scratch holds the convolution. -/
theorem loop_canon (𝒱 : Variants) (c : Dev nD) (bd : Option 𝒱.V) (i : grid0.Coords) (arg2 : Memref sig .tc .vmem S512x1024 .f32) (harg2 : arg2.IsWhole) (arg3 : Memref sig .tc .vmem S32x1024 .f32) (harg3 : arg3.IsWhole) (arg4 : Memref sig .tc .vmem S1x32x1024 .f32) (harg4 : arg4.IsWhole) (arg5 : Memref sig .tc .vmem S31x8x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S4352x128 .f32) (harg10 : arg10.IsWhole) (arg11 : Memref sig .tc .vmem S4096x128 .f32) (harg11 : arg11.IsWhole) (v71 v73 v75 v77 v79 v81 v83 v85 v87 v89 v91 v93 v95 v97 v99 v101 v103 v105 v107 v109 v111 v113 : FVec F S8x128 .f32) (v114 v116 v118 v120 v122 v124 v126 v128 v130 : Vec F S1x8x128 .f32)
    (X : BufTy.Contents (Elt F) arg10.view.ty) (E : Nat → Fin 128 → F .f32) (hX : ∀ y : S4352x128.Idx, arg10.view.read (Elt F) X y = E (y 0).val (y 1)) :
    View.canon (pb_k0_t1 (F := F) 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X (Scf.trips k0_t1_loop.lb k0_t1_loop.ub k0_t1_loop.st)) = summed (taps v71 v73 v75 v77 v79 v81 v83 v85 v87 v89 v91 v93 v95 v97 v99 v101 v103 v105 v107 v109 v111 v113 v114 v116 v118 v120 v122 v124 v126 v128 v130) E := by
  funext y
  exact View.canon_apply_of_pieces _ _ (View.PiecesOf.mem (loop_pieces 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X E hX _ (le_refl _))) y
    (View.cover_of_tiledL (pb_k0_t1 (F := F) 𝒱 c bd i arg2 harg2 arg3 harg3 arg4 harg4 arg5 harg5 arg6 harg6 arg7 harg7 arg8 harg8 arg9 harg9 arg10 harg10 arg11 harg11 v71 v73 v75 v77 v79 v81 v83 v85 v87 v89 v91 v93 v95 v97 v99 v101 v103 v105 v107 v109 v111 v113 v114 v116 v118 v120 v122 v124 v126 v128 v130 X (Scf.trips k0_t1_loop.lb k0_t1_loop.ub k0_t1_loop.st)) S8x128.size (by sl_kernel_rfl) y)

/-! ## The taps -/

/-- A tap's weight of a column. -/
def tapOf (w : Vec F S31x8x128 .f32) (j : Nat) (k : Fin 1024) : F .f32 :=
  if h : j < 31 then w (ix3 (n0 := 31) (n1 := 8) (n2 := 128) ⟨j, h⟩ ⟨k.val / 128, by omega⟩ ⟨k.val % 128, Nat.mod_lt _ (by decide)⟩)
  else Scalar.ofBits .f32 0x00000000#32

/-- A tap as loaded. -/
theorem tap_read (arg5 : Memref sig .tc .vmem S31x8x128 .f32) (harg5 : arg5.IsWhole) (x3 : Vec F S31x8x128 .f32) (n : Nat) (hn : n < 31)
    (inb : ∀ a, (![n, 0, 0] : Fin 3 → Nat) a + S1x8x128.size a ≤ S31x8x128.size a) (x : S8x128.Idx) (k : Fin 1024) (hk : k.val = 128 * (x 0).val + (x 1).val) :
    shapeCast S8x128 (View.readAt (Elt F) arg5.view (Rect.unit (s := S31x8x128) ![n, 0, 0] S1x8x128.size inb).toLoadRect (harg5.unread x3) : Vec F S1x8x128 .f32) shapeCasts_S1x8x128_S8x128 x
      = tapOf x3 n k := by
  have h0 : (x 0).val < 8 := (x 0).isLt
  have h1 : (x 1).val < 128 := (x 1).isLt
  refine (shapeCast_apply _ _ x (ix3 (n0 := 1) (n1 := 8) (n2 := 128) 0 (x 0) (x 1)) ?_).trans ?_
  · rw [Shape.rowMajor_val_three, Shape.rowMajor_val_two]
    show (0 * 8 + (x 0).val) * 128 + (x 1).val = (x 0).val * 128 + (x 1).val
    omega
  · rw [View.readAt_eq_ld, harg5.read_unread, tapOf, dif_pos hn]
    refine congrArg x3 (funext fun a => Fin.ext ?_)
    match a with
    | ⟨0, _⟩ => show n + 1 * 0 = n; omega
    | ⟨1, _⟩ => show 0 + 1 * (x 0).val = k.val / 128; omega
    | ⟨2, _⟩ => show 0 + 1 * (x 1).val = k.val % 128; omega

/-- The taps the body hands its loop. -/
def given (c : Dev nD) (arg5 : Memref sig .tc .vmem S31x8x128 .f32) (harg5 : arg5.IsWhole) (x3 : Vec F S31x8x128 .f32) : Nat → FVec F S8x128 .f32 :=
  taps (kernelRun0_A.sl.r_4 c arg5 harg5 x3) (kernelRun0_A.sl.r_5 c arg5 harg5 x3) (kernelRun0_A.sl.r_6 c arg5 harg5 x3) (kernelRun0_A.sl.r_7 c arg5 harg5 x3) (kernelRun0_A.sl.r_8 c arg5 harg5 x3) (kernelRun0_A.sl.r_9 c arg5 harg5 x3) (kernelRun0_A.sl.r_10 c arg5 harg5 x3) (kernelRun0_A.sl.r_11 c arg5 harg5 x3) (kernelRun0_A.sl.r_12 c arg5 harg5 x3) (kernelRun0_A.sl.r_13 c arg5 harg5 x3) (kernelRun0_A.sl.r_14 c arg5 harg5 x3) (kernelRun0_A.sl.r_15 c arg5 harg5 x3) (kernelRun0_A.sl.r_16 c arg5 harg5 x3) (kernelRun0_A.sl.r_17 c arg5 harg5 x3) (kernelRun0_A.sl.r_18 c arg5 harg5 x3) (kernelRun0_A.sl.r_19 c arg5 harg5 x3) (kernelRun0_A.sl.r_20 c arg5 harg5 x3) (kernelRun0_A.sl.r_21 c arg5 harg5 x3) (kernelRun0_A.sl.r_22 c arg5 harg5 x3) (kernelRun0_A.sl.r_23 c arg5 harg5 x3) (kernelRun0_A.sl.r_24 c arg5 harg5 x3) (kernelRun0_A.sl.r_25 c arg5 harg5 x3) (View.readAt (Elt F) arg5.view (Rect.unit (s := S31x8x128) ![22, 0, 0] S1x8x128.size inb_S31x8x128_S1x8x128_22_0_0).toLoadRect (harg5.unread x3)) (View.readAt (Elt F) arg5.view (Rect.unit (s := S31x8x128) ![23, 0, 0] S1x8x128.size inb_S31x8x128_S1x8x128_23_0_0).toLoadRect (harg5.unread x3)) (View.readAt (Elt F) arg5.view (Rect.unit (s := S31x8x128) ![24, 0, 0] S1x8x128.size inb_S31x8x128_S1x8x128_24_0_0).toLoadRect (harg5.unread x3)) (View.readAt (Elt F) arg5.view (Rect.unit (s := S31x8x128) ![25, 0, 0] S1x8x128.size inb_S31x8x128_S1x8x128_25_0_0).toLoadRect (harg5.unread x3)) (View.readAt (Elt F) arg5.view (Rect.unit (s := S31x8x128) ![26, 0, 0] S1x8x128.size inb_S31x8x128_S1x8x128_26_0_0).toLoadRect (harg5.unread x3)) (View.readAt (Elt F) arg5.view (Rect.unit (s := S31x8x128) ![27, 0, 0] S1x8x128.size inb_S31x8x128_S1x8x128_27_0_0).toLoadRect (harg5.unread x3)) (View.readAt (Elt F) arg5.view (Rect.unit (s := S31x8x128) ![28, 0, 0] S1x8x128.size inb_S31x8x128_S1x8x128_28_0_0).toLoadRect (harg5.unread x3)) (View.readAt (Elt F) arg5.view (Rect.unit (s := S31x8x128) ![29, 0, 0] S1x8x128.size inb_S31x8x128_S1x8x128_29_0_0).toLoadRect (harg5.unread x3)) (View.readAt (Elt F) arg5.view (Rect.unit (s := S31x8x128) ![30, 0, 0] S1x8x128.size inb_S31x8x128_S1x8x128_30_0_0).toLoadRect (harg5.unread x3))

/-- They are the weights. -/
theorem given_apply (c : Dev nD) (arg5 : Memref sig .tc .vmem S31x8x128 .f32) (harg5 : arg5.IsWhole) (x3 : Vec F S31x8x128 .f32) (x : S8x128.Idx) (k : Fin 1024)
    (hk : k.val = 128 * (x 0).val + (x 1).val) : ∀ j : Nat, j ≤ 30 → given c arg5 harg5 x3 j x = tapOf x3 j k
  | 0, _ => tap_read arg5 harg5 x3 0 (by decide) inb_S31x8x128_S1x8x128_0_0_0 x k hk
  | 1, _ => tap_read arg5 harg5 x3 1 (by decide) inb_S31x8x128_S1x8x128_1_0_0 x k hk
  | 2, _ => tap_read arg5 harg5 x3 2 (by decide) inb_S31x8x128_S1x8x128_2_0_0 x k hk
  | 3, _ => tap_read arg5 harg5 x3 3 (by decide) inb_S31x8x128_S1x8x128_3_0_0 x k hk
  | 4, _ => tap_read arg5 harg5 x3 4 (by decide) inb_S31x8x128_S1x8x128_4_0_0 x k hk
  | 5, _ => tap_read arg5 harg5 x3 5 (by decide) inb_S31x8x128_S1x8x128_5_0_0 x k hk
  | 6, _ => tap_read arg5 harg5 x3 6 (by decide) inb_S31x8x128_S1x8x128_6_0_0 x k hk
  | 7, _ => tap_read arg5 harg5 x3 7 (by decide) inb_S31x8x128_S1x8x128_7_0_0 x k hk
  | 8, _ => tap_read arg5 harg5 x3 8 (by decide) inb_S31x8x128_S1x8x128_8_0_0 x k hk
  | 9, _ => tap_read arg5 harg5 x3 9 (by decide) inb_S31x8x128_S1x8x128_9_0_0 x k hk
  | 10, _ => tap_read arg5 harg5 x3 10 (by decide) inb_S31x8x128_S1x8x128_10_0_0 x k hk
  | 11, _ => tap_read arg5 harg5 x3 11 (by decide) inb_S31x8x128_S1x8x128_11_0_0 x k hk
  | 12, _ => tap_read arg5 harg5 x3 12 (by decide) inb_S31x8x128_S1x8x128_12_0_0 x k hk
  | 13, _ => tap_read arg5 harg5 x3 13 (by decide) inb_S31x8x128_S1x8x128_13_0_0 x k hk
  | 14, _ => tap_read arg5 harg5 x3 14 (by decide) inb_S31x8x128_S1x8x128_14_0_0 x k hk
  | 15, _ => tap_read arg5 harg5 x3 15 (by decide) inb_S31x8x128_S1x8x128_15_0_0 x k hk
  | 16, _ => tap_read arg5 harg5 x3 16 (by decide) inb_S31x8x128_S1x8x128_16_0_0 x k hk
  | 17, _ => tap_read arg5 harg5 x3 17 (by decide) inb_S31x8x128_S1x8x128_17_0_0 x k hk
  | 18, _ => tap_read arg5 harg5 x3 18 (by decide) inb_S31x8x128_S1x8x128_18_0_0 x k hk
  | 19, _ => tap_read arg5 harg5 x3 19 (by decide) inb_S31x8x128_S1x8x128_19_0_0 x k hk
  | 20, _ => tap_read arg5 harg5 x3 20 (by decide) inb_S31x8x128_S1x8x128_20_0_0 x k hk
  | 21, _ => tap_read arg5 harg5 x3 21 (by decide) inb_S31x8x128_S1x8x128_21_0_0 x k hk
  | 22, _ => tap_read arg5 harg5 x3 22 (by decide) inb_S31x8x128_S1x8x128_22_0_0 x k hk
  | 23, _ => tap_read arg5 harg5 x3 23 (by decide) inb_S31x8x128_S1x8x128_23_0_0 x k hk
  | 24, _ => tap_read arg5 harg5 x3 24 (by decide) inb_S31x8x128_S1x8x128_24_0_0 x k hk
  | 25, _ => tap_read arg5 harg5 x3 25 (by decide) inb_S31x8x128_S1x8x128_25_0_0 x k hk
  | 26, _ => tap_read arg5 harg5 x3 26 (by decide) inb_S31x8x128_S1x8x128_26_0_0 x k hk
  | 27, _ => tap_read arg5 harg5 x3 27 (by decide) inb_S31x8x128_S1x8x128_27_0_0 x k hk
  | 28, _ => tap_read arg5 harg5 x3 28 (by decide) inb_S31x8x128_S1x8x128_28_0_0 x k hk
  | 29, _ => tap_read arg5 harg5 x3 29 (by decide) inb_S31x8x128_S1x8x128_29_0_0 x k hk
  | 30, _ => tap_read arg5 harg5 x3 30 (by decide) inb_S31x8x128_S1x8x128_30_0_0 x k hk
  | n + 31, h => absurd h (by omega)

/-! ## The block's convolution -/

/-- The convolution of a block: of every column, the sum over the taps. -/
def convolved (w : Vec F S31x8x128 .f32) (h : FVec F S32x1024 .f32) (x : FVec F S512x1024 .f32) : FVec F S512x1024 .f32 := fun y =>
  running (fun j => FloatOps.mulf (tapOf w j (y 1)) (stacked h x ((y 0).val + 2 + j) (y 1))) 30

/-- 128 of an array's columns. -/
def part (X : FVec F S512x1024 .f32) (k : Fin 8) : FVec F S512x128 .f32 := fun j =>
  X (ix2 (n0 := 512) (n1 := 1024) (j 0) ⟨128 * k.val + (j 1).val, by have : (j 1).val < 128 := (j 1).isLt; omega⟩)

/-- A strided load of the loop's scratch is 128 columns of the convolution. -/
theorem load_part (c : Dev nD) (arg5 : Memref sig .tc .vmem S31x8x128 .f32) (harg5 : arg5.IsWhole) (x3 : Vec F S31x8x128 .f32) (h : FVec F S32x1024 .f32) (x0 : FVec F S512x1024 .f32) (k : Fin 8)
    (inb : ∀ a, S512x128.size a = 0 ∨ (![k.val, 0] : Fin 2 → Nat) a + (![8, 1] : Fin 2 → Nat) a * (S512x128.size a - 1) < S4096x128.size a) :
    (fun j => summed (given c arg5 harg5 x3) (laid h x0) ((⟨![k.val, 0], S512x128.size, ![8, 1], inb⟩ : LoadRect S4096x128).idx j)) = part (convolved x3 h x0) k := by
  funext j
  have h0 : (j 0).val < 512 := (j 0).isLt
  have h1 : (j 1).val < 128 := (j 1).isLt
  have hk := k.isLt
  unfold summed part convolved
  refine running_congr 30 fun n hn => ?_
  refine congr (congrArg FloatOps.mulf (given_apply c arg5 harg5 x3 _ _ ?_ n hn)) ?_
  · show 128 * k.val + (j 1).val = 128 * ((k.val + 8 * (j 0).val) % 8) + (0 + 1 * (j 1).val); omega
  · show stacked h x0 ((8 * ((k.val + 8 * (j 0).val) / 8 + 2 + n) + (k.val + 8 * (j 0).val) % 8) / 8)
      ⟨128 * ((8 * ((k.val + 8 * (j 0).val) / 8 + 2 + n) + (k.val + 8 * (j 0).val) % 8) % 8) + (0 + 1 * (j 1).val), _⟩ = stacked h x0 ((j 0).val + 2 + n) ⟨128 * k.val + (j 1).val, _⟩
    exact congr (congrArg (stacked h x0) (by omega)) (Fin.ext (by show 128 * _ + _ = 128 * _ + _; omega))

/-- The eight loads side by side are the array. -/
theorem concat_parts (X : FVec F S512x1024 .f32) (h) :
    concatenate S512x1024 1 (List.ofFn fun k : Fin 8 => (⟨S512x128, part X k⟩ : (s : Shape) × (s.Idx → F .f32))) h = X := by
  funext j
  have h0 : (j 0).val < 512 := (j 0).isLt
  have h1 : (j 1).val < 1024 := (j 1).isLt
  refine (concatenate_ofFn_apply (t := S512x1024) 1 (part X) h rfl 128 rfl j ⟨(j 1).val / 128, by omega⟩ rfl
    (ix2 (n0 := 512) (n1 := 128) (j 0) ⟨(j 1).val % 128, Nat.mod_lt _ (by decide)⟩) rfl
    (fun b hb => by
      match b with
      | ⟨0, _⟩ => rfl
      | ⟨1, _⟩ => exact absurd rfl hb)).trans ?_
  unfold part
  refine congrArg X (funext fun a => Fin.ext ?_)
  match a with
  | ⟨0, _⟩ => rfl
  | ⟨1, _⟩ => show 128 * ((j 1).val / 128) + (j 1).val % 128 = (j 1).val; omega

/-! ## The block of the result -/

/-- The norm of the convolution's rows with its bias, its scale and its shift. -/
def normed (X : FVec F S512x1024 .f32) (b g s : Vec F S1x1024 .f32) : FVec F S512x1024 .f32 :=
  have y : FVec F S512x1024 .f32 := addf X (broadcastTo S512x1024 (shapeCast S1x1024 b shapeCasts_S1x1024_S1x1024) broadcasts_S1x1024_S512x1024)
  have n : FVec F S512x1 .f32 := broadcast S512x1 (Scalar.ofBits .f32 0x44800000#32)
  have mu : FVec F S512x1 .f32 := divf (shapeCast S512x1 (multiReduction .add [1] S512 y 0x00000000#32 reduces_S512x1024_S512 (.inl rfl) rfl) shapeCasts_S512_S512x1) n
  have yc : FVec F S512x1024 .f32 := subf y (broadcastTo S512x1024 mu broadcasts_S512x1_S512x1024)
  have var : FVec F S512x1 .f32 := divf (shapeCast S512x1 (multiReduction .add [1] S512 (mulf yc yc) 0x00000000#32 reduces_S512x1024_S512 (.inl rfl) rfl) shapeCasts_S512_S512x1) n
  have r : FVec F S512x1 .f32 := rsqrt (addf var (broadcast S512x1 (Scalar.ofBits .f32 0x358637BD#32)))
  addf (mulf (mulf yc (broadcastTo S512x1024 r broadcasts_S512x1_S512x1024)) (broadcastTo S512x1024 (shapeCast S1x1024 g shapeCasts_S1x1024_S1x1024) broadcasts_S1x1024_S512x1024))
    (broadcastTo S512x1024 (shapeCast S1x1024 s shapeCasts_S1x1024_S1x1024) broadcasts_S1x1024_S512x1024)

/-- The activation of the norm. -/
def active (y : FVec F S512x1024 .f32) : FVec F S512x1024 .bf16 :=
  k0_pay1 y (addf (broadcast S512x1024 (Scalar.ofBits .f32 0x3F800000#32)) (exp (subf (broadcast S512x1024 (Scalar.ofBits .f32 0x00000000#32)) y)))

/-- The payload of the parts is that of the whole. -/
theorem pay_parts (X : FVec F S512x1024 .f32) (b g s : Vec F S1x1024 .f32) :
    k0_pay1 (k0_pay108 (part X 0) (part X 1) (part X 2) (part X 3) (part X 4) (part X 5) (part X 6) (part X 7) b g s)
      (k0_pay109 (part X 0) (part X 1) (part X 2) (part X 3) (part X 4) (part X 5) (part X 6) (part X 7) b g s) = active (normed X b g s) :=
  congrArg (fun X => active (normed X b g s)) (concat_parts X concatenates_S512x128_S512x128_S512x128_S512x128_S512x128_S512x128_S512x128_S512x128_S512x1024_d1)

/-- A point leaves in its block of the result the activation of the norm of its convolution. -/
theorem out_eq (c : Dev nD) (i : grid0.Coords) (arg2 : Memref sig .tc .vmem S512x1024 .f32) (harg2 : arg2.IsWhole) (arg3 : Memref sig .tc .vmem S32x1024 .f32) (harg3 : arg3.IsWhole) (arg4 : Memref sig .tc .vmem S1x32x1024 .f32) (harg4 : arg4.IsWhole) (arg5 : Memref sig .tc .vmem S31x8x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S4352x128 .f32) (harg10 : arg10.IsWhole) (arg11 : Memref sig .tc .vmem S4096x128 .f32) (harg11 : arg11.IsWhole)
    (x0 : Vec F S512x1024 .f32) (x1 : Vec F S32x1024 .f32) (x2 : Vec F S1x32x1024 .f32) (x3 : Vec F S31x8x128 .f32) (x4 : Vec F S1x1024 .f32) (x5 : Vec F S1x1024 .f32) (x6 : Vec F S1x1024 .f32) :
    out0_A_7 c i arg2 harg2 arg3 harg3 arg4 harg4 arg5 harg5 arg6 harg6 arg7 harg7 arg8 harg8 arg9 harg9 arg10 harg10 arg11 harg11 x0 x1 x2 x3 x4 x5 x6 = active (normed (convolved x3 (k0_pay58 i x2 x1) x0) x4 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  refine (View.canon_unit_zero hz2 _ _).trans ?_
  unfold kernelRun0_A.sl.r_29 kernelRun0_A.sl.r_30
  have hX : ∀ y : S4352x128.Idx, arg10.view.read (Elt F) (arg10.view.writes (Elt F) arg10.view.junk (kernelRun0_A.sl.HS0_16 c i arg2 harg2 arg3 harg3 arg4 harg4 x0 x1 x2)) y
      = laid (k0_pay58 i x2 x1) x0 (y 0).val (y 1) := fun y => by
    rw [View.read_writes_junk_eq_canon, canon_window]
    rfl
  have key (k : Fin 8) (inb : ∀ a, S512x128.size a = 0 ∨ (![k.val, 0] : Fin 2 → Nat) a + (![8, 1] : Fin 2 → Nat) a * (S512x128.size a - 1) < S4096x128.size a) :
      arg11.view.readCov (pb_k0_t1 (F := F) Variants.none c none i arg2 harg2 arg3 harg3 arg4 harg4 arg5 harg5 arg6 harg6 arg7 harg7 arg8 harg8 arg9 harg9 arg10 harg10 arg11 harg11 (kernelRun0_A.sl.r_4 c arg5 harg5 x3) (kernelRun0_A.sl.r_5 c arg5 harg5 x3) (kernelRun0_A.sl.r_6 c arg5 harg5 x3) (kernelRun0_A.sl.r_7 c arg5 harg5 x3) (kernelRun0_A.sl.r_8 c arg5 harg5 x3) (kernelRun0_A.sl.r_9 c arg5 harg5 x3) (kernelRun0_A.sl.r_10 c arg5 harg5 x3) (kernelRun0_A.sl.r_11 c arg5 harg5 x3) (kernelRun0_A.sl.r_12 c arg5 harg5 x3) (kernelRun0_A.sl.r_13 c arg5 harg5 x3) (kernelRun0_A.sl.r_14 c arg5 harg5 x3) (kernelRun0_A.sl.r_15 c arg5 harg5 x3) (kernelRun0_A.sl.r_16 c arg5 harg5 x3) (kernelRun0_A.sl.r_17 c arg5 harg5 x3) (kernelRun0_A.sl.r_18 c arg5 harg5 x3) (kernelRun0_A.sl.r_19 c arg5 harg5 x3) (kernelRun0_A.sl.r_20 c arg5 harg5 x3) (kernelRun0_A.sl.r_21 c arg5 harg5 x3) (kernelRun0_A.sl.r_22 c arg5 harg5 x3) (kernelRun0_A.sl.r_23 c arg5 harg5 x3) (kernelRun0_A.sl.r_24 c arg5 harg5 x3) (kernelRun0_A.sl.r_25 c arg5 harg5 x3) (View.readAt (Elt F) arg5.view (Rect.unit (s := S31x8x128) ![22, 0, 0] S1x8x128.size inb_S31x8x128_S1x8x128_22_0_0).toLoadRect (harg5.unread x3)) (View.readAt (Elt F) arg5.view (Rect.unit (s := S31x8x128) ![23, 0, 0] S1x8x128.size inb_S31x8x128_S1x8x128_23_0_0).toLoadRect (harg5.unread x3)) (View.readAt (Elt F) arg5.view (Rect.unit (s := S31x8x128) ![24, 0, 0] S1x8x128.size inb_S31x8x128_S1x8x128_24_0_0).toLoadRect (harg5.unread x3)) (View.readAt (Elt F) arg5.view (Rect.unit (s := S31x8x128) ![25, 0, 0] S1x8x128.size inb_S31x8x128_S1x8x128_25_0_0).toLoadRect (harg5.unread x3)) (View.readAt (Elt F) arg5.view (Rect.unit (s := S31x8x128) ![26, 0, 0] S1x8x128.size inb_S31x8x128_S1x8x128_26_0_0).toLoadRect (harg5.unread x3)) (View.readAt (Elt F) arg5.view (Rect.unit (s := S31x8x128) ![27, 0, 0] S1x8x128.size inb_S31x8x128_S1x8x128_27_0_0).toLoadRect (harg5.unread x3)) (View.readAt (Elt F) arg5.view (Rect.unit (s := S31x8x128) ![28, 0, 0] S1x8x128.size inb_S31x8x128_S1x8x128_28_0_0).toLoadRect (harg5.unread x3)) (View.readAt (Elt F) arg5.view (Rect.unit (s := S31x8x128) ![29, 0, 0] S1x8x128.size inb_S31x8x128_S1x8x128_29_0_0).toLoadRect (harg5.unread x3)) (View.readAt (Elt F) arg5.view (Rect.unit (s := S31x8x128) ![30, 0, 0] S1x8x128.size inb_S31x8x128_S1x8x128_30_0_0).toLoadRect (harg5.unread x3))
        (arg10.view.writes (Elt F) arg10.view.junk (kernelRun0_A.sl.HS0_16 c i arg2 harg2 arg3 harg3 arg4 harg4 x0 x1 x2)) (Scf.trips k0_t1_loop.lb k0_t1_loop.ub k0_t1_loop.st))
        ⟨![k.val, 0], S512x128.size, ![8, 1], inb⟩ = part (convolved x3 (k0_pay58 i x2 x1) x0) k := by
    rw [View.readCov_eq_canon', loop_canon (F := F) Variants.none c none i arg2 harg2 arg3 harg3 arg4 harg4 arg5 harg5 arg6 harg6 arg7 harg7 arg8 harg8 arg9 harg9 arg10 harg10 arg11 harg11 (kernelRun0_A.sl.r_4 c arg5 harg5 x3) (kernelRun0_A.sl.r_5 c arg5 harg5 x3) (kernelRun0_A.sl.r_6 c arg5 harg5 x3) (kernelRun0_A.sl.r_7 c arg5 harg5 x3) (kernelRun0_A.sl.r_8 c arg5 harg5 x3) (kernelRun0_A.sl.r_9 c arg5 harg5 x3) (kernelRun0_A.sl.r_10 c arg5 harg5 x3) (kernelRun0_A.sl.r_11 c arg5 harg5 x3) (kernelRun0_A.sl.r_12 c arg5 harg5 x3) (kernelRun0_A.sl.r_13 c arg5 harg5 x3) (kernelRun0_A.sl.r_14 c arg5 harg5 x3) (kernelRun0_A.sl.r_15 c arg5 harg5 x3) (kernelRun0_A.sl.r_16 c arg5 harg5 x3) (kernelRun0_A.sl.r_17 c arg5 harg5 x3) (kernelRun0_A.sl.r_18 c arg5 harg5 x3) (kernelRun0_A.sl.r_19 c arg5 harg5 x3) (kernelRun0_A.sl.r_20 c arg5 harg5 x3) (kernelRun0_A.sl.r_21 c arg5 harg5 x3) (kernelRun0_A.sl.r_22 c arg5 harg5 x3) (kernelRun0_A.sl.r_23 c arg5 harg5 x3) (kernelRun0_A.sl.r_24 c arg5 harg5 x3) (kernelRun0_A.sl.r_25 c arg5 harg5 x3) (View.readAt (Elt F) arg5.view (Rect.unit (s := S31x8x128) ![22, 0, 0] S1x8x128.size inb_S31x8x128_S1x8x128_22_0_0).toLoadRect (harg5.unread x3)) (View.readAt (Elt F) arg5.view (Rect.unit (s := S31x8x128) ![23, 0, 0] S1x8x128.size inb_S31x8x128_S1x8x128_23_0_0).toLoadRect (harg5.unread x3)) (View.readAt (Elt F) arg5.view (Rect.unit (s := S31x8x128) ![24, 0, 0] S1x8x128.size inb_S31x8x128_S1x8x128_24_0_0).toLoadRect (harg5.unread x3)) (View.readAt (Elt F) arg5.view (Rect.unit (s := S31x8x128) ![25, 0, 0] S1x8x128.size inb_S31x8x128_S1x8x128_25_0_0).toLoadRect (harg5.unread x3)) (View.readAt (Elt F) arg5.view (Rect.unit (s := S31x8x128) ![26, 0, 0] S1x8x128.size inb_S31x8x128_S1x8x128_26_0_0).toLoadRect (harg5.unread x3)) (View.readAt (Elt F) arg5.view (Rect.unit (s := S31x8x128) ![27, 0, 0] S1x8x128.size inb_S31x8x128_S1x8x128_27_0_0).toLoadRect (harg5.unread x3)) (View.readAt (Elt F) arg5.view (Rect.unit (s := S31x8x128) ![28, 0, 0] S1x8x128.size inb_S31x8x128_S1x8x128_28_0_0).toLoadRect (harg5.unread x3)) (View.readAt (Elt F) arg5.view (Rect.unit (s := S31x8x128) ![29, 0, 0] S1x8x128.size inb_S31x8x128_S1x8x128_29_0_0).toLoadRect (harg5.unread x3)) (View.readAt (Elt F) arg5.view (Rect.unit (s := S31x8x128) ![30, 0, 0] S1x8x128.size inb_S31x8x128_S1x8x128_30_0_0).toLoadRect (harg5.unread x3)) _ _ hX]
    exact load_part c arg5 harg5 x3 _ x0 k inb
  have e4 : View.readAt (Elt F) arg6.view (Rect.unit (s := S1x1024) ![0, 0] S1x1024.size inb_S1x1024_S1x1024_0_0).toLoadRect (harg6.unread x4) = x4 := by
    rw [View.readAt_eq_ld, harg6.read_unread]; exact View.ld_unit_zero (S := S1x1024) hz2 _ _
  have e5 : View.readAt (Elt F) arg7.view (Rect.unit (s := S1x1024) ![0, 0] S1x1024.size inb_S1x1024_S1x1024_0_0).toLoadRect (harg7.unread x5) = x5 := by
    rw [View.readAt_eq_ld, harg7.read_unread]; exact View.ld_unit_zero (S := S1x1024) hz2 _ _
  have e6 : View.readAt (Elt F) arg8.view (Rect.unit (s := S1x1024) ![0, 0] S1x1024.size inb_S1x1024_S1x1024_0_0).toLoadRect (harg8.unread x6) = x6 := by
    rw [View.readAt_eq_ld, harg8.read_unread]; exact View.ld_unit_zero (S := S1x1024) hz2 _ _
  rw [e4, e5, e6]
  refine Eq.trans ?_ (pay_parts _ x4 x5 x6)
  rw [← key 0 inb_S4096x128_S512x128_0_0_s_8_1, ← key 1 inb_S4096x128_S512x128_1_0_s_8_1, ← key 2 inb_S4096x128_S512x128_2_0_s_8_1, ← key 3 inb_S4096x128_S512x128_3_0_s_8_1,
    ← key 4 inb_S4096x128_S512x128_4_0_s_8_1, ← key 5 inb_S4096x128_S512x128_5_0_s_8_1, ← key 6 inb_S4096x128_S512x128_6_0_s_8_1, ← key 7 inb_S4096x128_S512x128_7_0_s_8_1]
  rfl

end Cert.Kernel8Ideal.Dw

end
-- ==== Proof.PwMath.lean ====
/- The prompt's depthwise convolution, its norm and its activation, entry by entry over the extended reals: the kernel's block and the
   reference's arrays. -/
module

public import proofs.«01_k».proof.Proof.PwOut
public import proofs.«01_k».proof.Proof.DwMath
public import proofs.«01_k».proof.Proof.Gen.Reference8Ideal.Run
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Geometry
public import Idealize.ShloMosaic.Lib.Pointwise
public import Idealize.ShloMosaic.Lib.Tactic

@[expose] public section

set_option maxRecDepth 16384

noncomputable section

namespace Cert.PwMath

open Idealize.ShloMosaic
open Cert.Kernel8Ideal.Dw (running running_congr)
open Cert.DwMath (mean lined lit)

/-! ## The kernel's block -/
section kernel
open Cert.Kernel8Ideal Cert.Kernel8Ideal.Gen Cert.Kernel8Ideal.Dw

/-- The norm of the convolution's rows read at an entry. -/
theorem normed_apply (X : FVec Ideal S512x1024 .f32) (b g s : Vec Ideal S1x1024 .f32) (p : Fin 512) (k : Fin 1024) :
    normed (F := Ideal) X b g s (ix2 p k) = lined (fun j => X (ix2 p j) + b (ix2 (0 : Fin 1) j)) (g (ix2 (0 : Fin 1) k)) (s (ix2 (0 : Fin 1) k)) k := by
  pointwise [normed]
  simp only [lined, mean]

/-- The activation read at an entry. -/
theorem active_apply (y : FVec Ideal S512x1024 .f32) (p : Fin 512) (k : Fin 1024) : active (F := Ideal) y (ix2 p k) = lit (y (ix2 p k)) := by
  pointwise [active, k0_pay1]
  simp only [lit, zero_sub]

end kernel

/-! ## The reference -/
section reference
open Cert.Reference8Ideal Cert.Reference8Ideal.Gen

/-- A tap of the reference's weights, -/
def tapR (w : FVec Ideal S31x1024 .f32) (j : Nat) (k : Fin 1024) : EReal := if h : j < 31 then w (ix2 (n0 := 31) (n1 := 1024) ⟨j, h⟩ k) else 0
/-- and a row of its extended sequences. -/
def rowR (e : FVec Ideal S2x8222x1024 .f32) (b : Fin 2) (r : Nat) (k : Fin 1024) : EReal := if h : r < 8222 then e (ix3 (n0 := 2) (n1 := 8222) (n2 := 1024) b ⟨r, h⟩ k) else 0

/-- A tap times the shifted sequences. -/
def termR (e : FVec Ideal S2x8222x1024 .f32) (w : FVec Ideal S31x1024 .f32) (j : Nat) (he : S2x8222x1024.Slices ![0, j, 0] S2x8192x1024) (hw : S31x1024.Slices ![j, 0] S1x1024) : FVec Ideal S2x8192x1024 .f32 :=
  mulf (extractStridedSlice S2x8192x1024 ![0, j, 0] e he) (broadcastInDim S2x8192x1024 ![0, 1, 2] bcast_S1x1x1024_S2x8192x1024_0_1_2 (broadcastInDim S1x1x1024 ![2] bcast_S1024_S1x1x1024_2 (shapeCast S1024 (extractStridedSlice S1x1024 ![j, 0] w hw) shapeCasts_S1x1024_S1024)))

/-- A row of a vector, for every row of the sequences. -/
def everyR (v : FVec Ideal S1x1024 .f32) : FVec Ideal S2x8192x1024 .f32 :=
  broadcastInDim S2x8192x1024 ![0, 1, 2] bcast_S1x1x1024_S2x8192x1024_0_1_2 (broadcastInDim S1x1x1024 ![2] bcast_S1024_S1x1x1024_2 (shapeCast S1024 v shapeCasts_S1x1024_S1024))

/-- The sum over the taps: the first eleven, -/
def sumR0 (e : FVec Ideal S2x8222x1024 .f32) (w : FVec Ideal S31x1024 .f32) : FVec Ideal S2x8192x1024 .f32 :=
  addf (addf (addf (addf (addf (addf (addf (addf (addf (addf (addf (broadcastInDim S2x8192x1024 ![] bcast_S_S2x8192x1024 (constant S_ .f32 0x00000000#32)) (termR e w 0 slices_S2x8222x1024_S2x8192x1024_0_0_0 slices_S31x1024_S1x1024_0_0)) (termR e w 1 slices_S2x8222x1024_S2x8192x1024_0_1_0 slices_S31x1024_S1x1024_1_0)) (termR e w 2 slices_S2x8222x1024_S2x8192x1024_0_2_0 slices_S31x1024_S1x1024_2_0)) (termR e w 3 slices_S2x8222x1024_S2x8192x1024_0_3_0 slices_S31x1024_S1x1024_3_0)) (termR e w 4 slices_S2x8222x1024_S2x8192x1024_0_4_0 slices_S31x1024_S1x1024_4_0)) (termR e w 5 slices_S2x8222x1024_S2x8192x1024_0_5_0 slices_S31x1024_S1x1024_5_0)) (termR e w 6 slices_S2x8222x1024_S2x8192x1024_0_6_0 slices_S31x1024_S1x1024_6_0)) (termR e w 7 slices_S2x8222x1024_S2x8192x1024_0_7_0 slices_S31x1024_S1x1024_7_0)) (termR e w 8 slices_S2x8222x1024_S2x8192x1024_0_8_0 slices_S31x1024_S1x1024_8_0)) (termR e w 9 slices_S2x8222x1024_S2x8192x1024_0_9_0 slices_S31x1024_S1x1024_9_0)) (termR e w 10 slices_S2x8222x1024_S2x8192x1024_0_10_0 slices_S31x1024_S1x1024_10_0)
/-- the next eleven, -/
def sumR1 (e : FVec Ideal S2x8222x1024 .f32) (w : FVec Ideal S31x1024 .f32) : FVec Ideal S2x8192x1024 .f32 :=
  addf (addf (addf (addf (addf (addf (addf (addf (addf (addf (addf (sumR0 e w) (termR e w 11 slices_S2x8222x1024_S2x8192x1024_0_11_0 slices_S31x1024_S1x1024_11_0)) (termR e w 12 slices_S2x8222x1024_S2x8192x1024_0_12_0 slices_S31x1024_S1x1024_12_0)) (termR e w 13 slices_S2x8222x1024_S2x8192x1024_0_13_0 slices_S31x1024_S1x1024_13_0)) (termR e w 14 slices_S2x8222x1024_S2x8192x1024_0_14_0 slices_S31x1024_S1x1024_14_0)) (termR e w 15 slices_S2x8222x1024_S2x8192x1024_0_15_0 slices_S31x1024_S1x1024_15_0)) (termR e w 16 slices_S2x8222x1024_S2x8192x1024_0_16_0 slices_S31x1024_S1x1024_16_0)) (termR e w 17 slices_S2x8222x1024_S2x8192x1024_0_17_0 slices_S31x1024_S1x1024_17_0)) (termR e w 18 slices_S2x8222x1024_S2x8192x1024_0_18_0 slices_S31x1024_S1x1024_18_0)) (termR e w 19 slices_S2x8222x1024_S2x8192x1024_0_19_0 slices_S31x1024_S1x1024_19_0)) (termR e w 20 slices_S2x8222x1024_S2x8192x1024_0_20_0 slices_S31x1024_S1x1024_20_0)) (termR e w 21 slices_S2x8222x1024_S2x8192x1024_0_21_0 slices_S31x1024_S1x1024_21_0)
/-- and the last nine with the bias. -/
def sumR (e : FVec Ideal S2x8222x1024 .f32) (w : FVec Ideal S31x1024 .f32) (v : FVec Ideal S1x1024 .f32) : FVec Ideal S2x8192x1024 .f32 :=
  addf (addf (addf (addf (addf (addf (addf (addf (addf (addf (sumR1 e w) (termR e w 22 slices_S2x8222x1024_S2x8192x1024_0_22_0 slices_S31x1024_S1x1024_22_0)) (termR e w 23 slices_S2x8222x1024_S2x8192x1024_0_23_0 slices_S31x1024_S1x1024_23_0)) (termR e w 24 slices_S2x8222x1024_S2x8192x1024_0_24_0 slices_S31x1024_S1x1024_24_0)) (termR e w 25 slices_S2x8222x1024_S2x8192x1024_0_25_0 slices_S31x1024_S1x1024_25_0)) (termR e w 26 slices_S2x8222x1024_S2x8192x1024_0_26_0 slices_S31x1024_S1x1024_26_0)) (termR e w 27 slices_S2x8222x1024_S2x8192x1024_0_27_0 slices_S31x1024_S1x1024_27_0)) (termR e w 28 slices_S2x8222x1024_S2x8192x1024_0_28_0 slices_S31x1024_S1x1024_28_0)) (termR e w 29 slices_S2x8222x1024_S2x8192x1024_0_29_0 slices_S31x1024_S1x1024_29_0)) (termR e w 30 slices_S2x8222x1024_S2x8192x1024_0_30_0 slices_S31x1024_S1x1024_30_0)) (everyR v)

/-- The sequences, rows of zeros before them. -/
def extR (u : FVec Ideal S16896x1024 .f32) : FVec Ideal S2x8222x1024 .f32 :=
  concatenate S2x8222x1024 1 [⟨S2x30x1024, broadcastInDim S2x30x1024 ![] bcast_S_S2x30x1024 (constant S_ .f32 0x00000000#32)⟩, ⟨S2x8192x1024, shapeCast S2x8192x1024 (extractStridedSlice S16384x1024 ![0, 0] u slices_S16896x1024_S16384x1024_0_0) shapeCasts_S16384x1024_S2x8192x1024⟩] concatenates_S2x30x1024_S2x8192x1024_S2x8222x1024_d1

/-- The mean over the columns. -/
def meanR (y : FVec Ideal S2x8192x1024 .f32) : FVec Ideal S2x8192x1 .f32 :=
  Host.divf (broadcastInDim S2x8192x1 ![0, 1] bcast_S2x8192_S2x8192x1_0_1 (Host.reduceAdd y (constant S_ .f32 0x00000000#32) reducesTo_S2x8192x1024_S2x8192_d2 h_S_)) (broadcastInDim S2x8192x1 ![] bcast_S_S2x8192x1 (constant S_ .f32 0x44800000#32))
/-- Each entry less its row's mean. -/
def lessR (y : FVec Ideal S2x8192x1024 .f32) : FVec Ideal S2x8192x1024 .f32 :=
  subf y (broadcastInDim S2x8192x1024 ![0, 1, 2] bcast_S2x8192x1_S2x8192x1024_0_1_2 (meanR y))
/-- The norm, scaled and shifted. -/
def normR (y : FVec Ideal S2x8192x1024 .f32) (g s : FVec Ideal S1x1024 .f32) : FVec Ideal S2x8192x1024 .f32 :=
  addf (mulf (mulf (lessR y) (broadcastInDim S2x8192x1024 ![0, 1, 2] bcast_S2x8192x1_S2x8192x1024_0_1_2 (Host.rsqrt (addf (meanR (mulf (lessR y) (lessR y))) (broadcastInDim S2x8192x1 ![] bcast_S_S2x8192x1 (constant S_ .f32 0x358637BD#32)))))) (everyR g)) (everyR s)
/-- The activation, row by row of the flattened sequences. -/
def litR (y : FVec Ideal S2x8192x1024 .f32) : FVec Ideal S16384x1024 .bf16 :=
  truncf .bf16 (shapeCast S16384x1024 (mulf y (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf y))))) shapeCasts_S2x8192x1024_S16384x1024) bitsLt_bf16_f32

/-- The reference's result. -/
def wholeR (u : FVec Ideal S16896x1024 .f32) (w : FVec Ideal S1x31x1024 .f32) (v g s : FVec Ideal S1x1024 .f32) : FVec Ideal S16384x1024 .bf16 :=
  litR (normR (sumR (extR u) (shapeCast S31x1024 w shapeCasts_S1x31x1024_S31x1024) v) g s)

/-- A tap times the shifted sequences read at an entry. -/
theorem termR_apply (e : FVec Ideal S2x8222x1024 .f32) (w : FVec Ideal S31x1024 .f32) (j : Nat) (he : S2x8222x1024.Slices ![0, j, 0] S2x8192x1024) (hw : S31x1024.Slices ![j, 0] S1x1024)
    (b : Fin 2) (p : Fin 8192) (k : Fin 1024) : termR e w j he hw (ix3 b p k) = rowR e b (p.val + j) k * tapR w j k := by
  have hj : j + 8192 ≤ 8222 := he.2 1
  have h1 : extractStridedSlice S2x8192x1024 ![0, j, 0] e he (ix3 b p k) = rowR e b (p.val + j) k := by
    rw [rowR, dif_pos (by omega)]
    refine extractStridedSlice_apply _ _ _ _ _ fun a => ?_
    match a with
    | ⟨0, _⟩ => show b.val = 0 + b.val; omega
    | ⟨1, _⟩ => show p.val + j = j + p.val; omega
    | ⟨2, _⟩ => show k.val = 0 + k.val; omega
  have h2 : extractStridedSlice S1x1024 ![j, 0] w hw (ix2 (n0 := 1) (n1 := 1024) 0 k) = tapR w j k := by
    rw [tapR, dif_pos (by omega)]
    refine extractStridedSlice_apply _ _ _ _ _ fun a => ?_
    match a with
    | ⟨0, _⟩ => show j = j + 0; omega
    | ⟨1, _⟩ => show k.val = 0 + k.val; omega
  have h3 (x : FVec Ideal S2x8192x1024 .f32) (y : FVec Ideal S1x1024 .f32) :
      mulf x (broadcastInDim S2x8192x1024 ![0, 1, 2] bcast_S1x1x1024_S2x8192x1024_0_1_2 (broadcastInDim S1x1x1024 ![2] bcast_S1024_S1x1x1024_2 (shapeCast S1024 y shapeCasts_S1x1024_S1024))) (ix3 b p k)
        = x (ix3 b p k) * y (ix2 (0 : Fin 1) k) := by
    pointwise
  rw [termR, h3, h1, h2]

/-- A vector's row read at an entry. -/
theorem everyR_apply (v : FVec Ideal S1x1024 .f32) (b : Fin 2) (p : Fin 8192) (k : Fin 1024) : everyR v (ix3 b p k) = v (ix2 (0 : Fin 1) k) := by
  pointwise [everyR]

/-- The zero the sum begins with. -/
theorem zeroR_apply (b : Fin 2) (p : Fin 8192) (k : Fin 1024) : (broadcastInDim S2x8192x1024 ![] bcast_S_S2x8192x1024 (constant S_ .f32 0x00000000#32) : FVec Ideal S2x8192x1024 .f32) (ix3 b p k) = 0 := by
  pointwise

/-- A tap's product read at an entry. -/
abbrev prodR (e : FVec Ideal S2x8222x1024 .f32) (w : FVec Ideal S31x1024 .f32) (b : Fin 2) (p : Fin 8192) (k : Fin 1024) : Nat → EReal := fun j => rowR e b (p.val + j) k * tapR w j k

/-- The sum's first term, -/
theorem baseR (e : FVec Ideal S2x8222x1024 .f32) (w : FVec Ideal S31x1024 .f32) (he : S2x8222x1024.Slices ![0, 0, 0] S2x8192x1024) (hw : S31x1024.Slices ![0, 0] S1x1024) (b : Fin 2) (p : Fin 8192) (k : Fin 1024) :
    addf (broadcastInDim S2x8192x1024 ![] bcast_S_S2x8192x1024 (constant S_ .f32 0x00000000#32)) (termR e w 0 he hw) (ix3 b p k) = running (F := Ideal) (prodR e w b p k) 0 := by
  show (broadcastInDim S2x8192x1024 ![] bcast_S_S2x8192x1024 (constant S_ .f32 0x00000000#32) : FVec Ideal S2x8192x1024 .f32) (ix3 b p k) + termR e w 0 he hw (ix3 b p k) = _
  rw [zeroR_apply, zero_add, termR_apply]
  rfl
/-- and each further one. -/
theorem stepR (e : FVec Ideal S2x8222x1024 .f32) (w : FVec Ideal S31x1024 .f32) (x : FVec Ideal S2x8192x1024 .f32) (j : Nat) (he : S2x8222x1024.Slices ![0, j + 1, 0] S2x8192x1024) (hw : S31x1024.Slices ![j + 1, 0] S1x1024)
    (b : Fin 2) (p : Fin 8192) (k : Fin 1024) (hx : x (ix3 b p k) = running (F := Ideal) (prodR e w b p k) j) :
    addf x (termR e w (j + 1) he hw) (ix3 b p k) = running (F := Ideal) (prodR e w b p k) (j + 1) := by
  show x (ix3 b p k) + termR e w (j + 1) he hw (ix3 b p k) = _
  rw [hx, termR_apply]
  rfl

/-- The first eleven taps' sum read at an entry, -/
theorem sumR0_apply (e : FVec Ideal S2x8222x1024 .f32) (w : FVec Ideal S31x1024 .f32) (b : Fin 2) (p : Fin 8192) (k : Fin 1024) :
    sumR0 e w (ix3 b p k) = running (F := Ideal) (prodR e w b p k) 10 := by
  unfold sumR0
  exact (stepR e w _ 9 _ _ b p k (stepR e w _ 8 _ _ b p k (stepR e w _ 7 _ _ b p k (stepR e w _ 6 _ _ b p k (stepR e w _ 5 _ _ b p k (stepR e w _ 4 _ _ b p k (stepR e w _ 3 _ _ b p k (stepR e w _ 2 _ _ b p k (stepR e w _ 1 _ _ b p k (stepR e w _ 0 _ _ b p k (baseR e w _ _ b p k)))))))))))
/-- the first 22 taps', -/
theorem sumR1_apply (e : FVec Ideal S2x8222x1024 .f32) (w : FVec Ideal S31x1024 .f32) (b : Fin 2) (p : Fin 8192) (k : Fin 1024) :
    sumR1 e w (ix3 b p k) = running (F := Ideal) (prodR e w b p k) 21 := by
  unfold sumR1
  exact (stepR e w _ 20 _ _ b p k (stepR e w _ 19 _ _ b p k (stepR e w _ 18 _ _ b p k (stepR e w _ 17 _ _ b p k (stepR e w _ 16 _ _ b p k (stepR e w _ 15 _ _ b p k (stepR e w _ 14 _ _ b p k (stepR e w _ 13 _ _ b p k (stepR e w _ 12 _ _ b p k (stepR e w _ 11 _ _ b p k (stepR e w _ 10 _ _ b p k (sumR0_apply e w b p k))))))))))))
/-- and all with the bias. -/
theorem sumR_apply (e : FVec Ideal S2x8222x1024 .f32) (w : FVec Ideal S31x1024 .f32) (v : FVec Ideal S1x1024 .f32) (b : Fin 2) (p : Fin 8192) (k : Fin 1024) :
    sumR e w v (ix3 b p k) = running (F := Ideal) (prodR e w b p k) 30 + v (ix2 (0 : Fin 1) k) := by
  unfold sumR
  exact congrArg₂ (· + ·) (stepR e w _ 29 _ _ b p k (stepR e w _ 28 _ _ b p k (stepR e w _ 27 _ _ b p k (stepR e w _ 26 _ _ b p k (stepR e w _ 25 _ _ b p k (stepR e w _ 24 _ _ b p k (stepR e w _ 23 _ _ b p k (stepR e w _ 22 _ _ b p k (stepR e w _ 21 _ _ b p k (sumR1_apply e w b p k)))))))))) (everyR_apply v b p k)

/-- The norm read at an entry. -/
theorem normR_apply (y : FVec Ideal S2x8192x1024 .f32) (g s : FVec Ideal S1x1024 .f32) (b : Fin 2) (p : Fin 8192) (k : Fin 1024) :
    normR y g s (ix3 b p k) = lined (fun j => y (ix3 b p j)) (g (ix2 (0 : Fin 1) k)) (s (ix2 (0 : Fin 1) k)) k := by
  pointwise [normR, lessR, meanR, everyR]
  simp only [lined, mean]

/-- The activation read at an entry. -/
theorem litR_apply (y : FVec Ideal S2x8192x1024 .f32) (b : Fin 2) (p : Fin 8192) (k : Fin 1024) :
    litR y (ix2 (n0 := 16384) (n1 := 1024) ⟨b.val * 8192 + p.val, by omega⟩ k) = lit (y (ix3 b p k)) := by
  have h (x : FVec Ideal S2x8192x1024 .f32) : (truncf .bf16 (shapeCast S16384x1024 x shapeCasts_S2x8192x1024_S16384x1024) bitsLt_bf16_f32 : FVec Ideal S16384x1024 .bf16) (ix2 (n0 := 16384) (n1 := 1024) ⟨b.val * 8192 + p.val, by omega⟩ k) = x (ix3 b p k) :=
    shapeCast_apply _ _ (ix2 (n0 := 16384) (n1 := 1024) ⟨b.val * 8192 + p.val, by omega⟩ k) (ix3 (n0 := 2) (n1 := 8192) (n2 := 1024) b p k) (by
      rw [Shape.rowMajor_val_two, Shape.rowMajor_val_three]
      rfl)
  unfold litR
  rw [h]
  pointwise
  simp only [lit]

/-- A row of zeros, -/
theorem extR_left (u : FVec Ideal S16896x1024 .f32) (b : Fin 2) (r : Fin 30) (k : Fin 1024) :
    rowR (extR u) b r.val k = 0 := by
  rw [rowR, dif_pos (by omega)]
  have h : (broadcastInDim S2x30x1024 ![] bcast_S_S2x30x1024 (constant S_ .f32 0x00000000#32) : FVec Ideal S2x30x1024 .f32) (ix3 b r k) = 0 := by
    pointwise
  refine Eq.trans ?_ h
  unfold extR
  exact concatenate_pair_apply_left (t := S2x8222x1024) (s₁ := S2x30x1024) (s₂ := S2x8192x1024) 1 _ _ _ _ rfl (ix3 (n0 := 2) (n1 := 30) (n2 := 1024) b r k)
    (fun a => by fin_cases a <;> rfl)

/-- and a row of the sequence. -/
theorem extR_right (u : FVec Ideal S16896x1024 .f32) (b : Fin 2) (r : Nat) (q : Fin 8192) (hr : q.val + 30 = r) (k : Fin 1024) :
    rowR (extR u) b r k = u (ix2 (n0 := 16896) (n1 := 1024) ⟨b.val * 8192 + q.val, by omega⟩ k) := by
  rw [rowR, dif_pos (by omega)]
  have h (x : FVec Ideal S16384x1024 .f32) : shapeCast S2x8192x1024 x shapeCasts_S16384x1024_S2x8192x1024 (ix3 b q k) = x (ix2 (n0 := 16384) (n1 := 1024) ⟨b.val * 8192 + q.val, by omega⟩ k) :=
    shapeCast_apply _ _ (ix3 (n0 := 2) (n1 := 8192) (n2 := 1024) b q k) (ix2 (n0 := 16384) (n1 := 1024) ⟨b.val * 8192 + q.val, by omega⟩ k) (by
      rw [Shape.rowMajor_val_two, Shape.rowMajor_val_three]
      rfl)
  have h2 : extractStridedSlice S16384x1024 ![0, 0] u slices_S16896x1024_S16384x1024_0_0 (ix2 (n0 := 16384) (n1 := 1024) ⟨b.val * 8192 + q.val, by omega⟩ k) = u (ix2 (n0 := 16896) (n1 := 1024) ⟨b.val * 8192 + q.val, by omega⟩ k) := by
    refine extractStridedSlice_apply _ _ _ _ _ fun a => ?_
    match a with
    | ⟨0, _⟩ => show b.val * 8192 + q.val = 0 + (b.val * 8192 + q.val); omega
    | ⟨1, _⟩ => show k.val = 0 + k.val; omega
  refine Eq.trans ?_ ((h _).trans h2)
  unfold extR
  exact concatenate_pair_apply_right (t := S2x8222x1024) (s₁ := S2x30x1024) (s₂ := S2x8192x1024) 1 _ _ _ _ rfl rfl (ix3 (n0 := 2) (n1 := 8192) (n2 := 1024) b q k)
    (fun a ha => by
      match a with
      | ⟨0, _⟩ => rfl
      | ⟨1, _⟩ => exact absurd rfl ha
      | ⟨2, _⟩ => rfl) hr

/-- The reference's result read at an entry. -/
theorem wholeR_apply (u : FVec Ideal S16896x1024 .f32) (w : FVec Ideal S1x31x1024 .f32) (v g s : FVec Ideal S1x1024 .f32) (b : Fin 2) (p : Fin 8192) (k : Fin 1024) :
    wholeR u w v g s (ix2 (n0 := 16384) (n1 := 1024) ⟨b.val * 8192 + p.val, by omega⟩ k)
      = lit (lined (fun i => running (F := Ideal) (fun j => rowR (extR u) b (p.val + j) i * tapR (shapeCast S31x1024 w shapeCasts_S1x31x1024_S31x1024) j i) 30 + v (ix2 (0 : Fin 1) i))
          (g (ix2 (0 : Fin 1) k)) (s (ix2 (0 : Fin 1) k)) k) := by
  unfold wholeR
  rw [litR_apply, normR_apply]
  simp only [sumR_apply]

end reference

end Cert.PwMath

end
-- ==== Proof.PwValue.lean ====
/- The prompt's depthwise convolution's call over the extended reals: its result array is the reference's. -/
module

public import proofs.«01_k».proof.Proof.PwMath
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Geometry
public import Idealize.ShloMosaic.Lib.Pointwise
public import Idealize.ShloMosaic.Lib.StableHlo.Run
public import Idealize.ShloMosaic.Lib.KernelVsHost
public import Idealize.ShloMosaic.Lib.Tactic

@[expose] public section

set_option maxRecDepth 16384

noncomputable section

namespace Cert.Kernel8Ideal.Dw

open Cert.Kernel8Ideal Cert.Kernel8Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable {F : FTy → Type} [FloatOps F]

variable (m : (ℓ : Loc nD τ sig) → Buf (Elt F) ℓ)

/-- What a point leaves in its buffer. -/
theorem after_eq (c : Dev nD) (t : Fin cfg0.N) :
    (dats m 0 c).after 7 t = active (normed (convolved (iblk m c 3 t) (k0_pay58 (grid0.coords t) (iblk m c 2 t) (iblk m c 1 t)) (iblk m c 0 t)) (iblk m c 4 t) (iblk m c 5 t) (iblk m c 6 t)) := by
  rw [after0_7]
  unfold outsAt0
  exact out_eq c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t)

/-! ## What the windows read -/

/-- A point's place in its sequence. -/
theorem coord_one : ∀ t : Fin grid0.N, (grid0.coords t 1).val = t.val % 16 := by decide +kernel
/-- The rows' block of a point, -/
theorem map_0 : ∀ t : Fin grid0.N, cc0_transform_0 (grid0.coords t) 0 = t.val ∧ cc0_transform_0 (grid0.coords t) 1 = 0 := by decide +kernel
/-- the 32 rows before it, -/
theorem map_1 : ∀ t : Fin grid0.N, cc0_transform_1 (grid0.coords t) 0 = t.val * 16 - 1 ∧ cc0_transform_1 (grid0.coords t) 1 = 0 := by decide +kernel
/-- and its block of the result. -/
theorem map_7 : ∀ t : Fin grid0.N, cc0_transform_7 (grid0.coords t) 0 = t.val ∧ cc0_transform_7 (grid0.coords t) 1 = 0 := by decide +kernel

/-- The rows before each sequence as the region finds them. -/
theorem V_left (c : Dev nD) : V m c main_v4 = (broadcastInDim S2x32x1024 ![] bcast_S_S2x32x1024 (constant S_ .f32 0x00000000#32) : FVec F S2x32x1024 .f32) := by
  unfold V
  simp only [hostOps0]
  after_results_simp <;> rfl

/-- The weights as the region finds them, -/
theorem V_taps (c : Dev nD) : V m c main_v5 = shapeCast S31x8x128 (shapeCast S31x1024 (m ((c.tc : Thread nD τ).loc main_arg1)) shapeCasts_S1x31x1024_S31x1024 : FVec F S31x1024 .f32) shapeCasts_S31x1024_S31x8x128 := by
  unfold V
  simp only [hostOps0]
  after_results_simp <;> rfl
/-- which every point reads whole. -/
theorem whole_3 (c : Dev nD) (t : Fin cfg0.N) (j : S31x8x128.Idx) : iblk m c 3 t j = V m c main_v5 j := by
  show V m c main_v5 (((cfg0.win 3).blk t).view.emb j) = _
  refine congrArg (V m c main_v5) (funext fun a => Fin.ext ?_)
  match a with
  | ⟨0, _⟩ => show cc0_transform_3 (grid0.coords t) 0 * 31 + 1 * (j 0).val = (j 0).val; unfold cc0_transform_3; simp
  | ⟨1, _⟩ => show cc0_transform_3 (grid0.coords t) 1 * 8 + 1 * (j 1).val = (j 1).val; unfold cc0_transform_3; simp
  | ⟨2, _⟩ => show cc0_transform_3 (grid0.coords t) 2 * 128 + 1 * (j 2).val = (j 2).val; unfold cc0_transform_3; simp

/-- The bias's array as the region finds it, -/
theorem V_bias (c : Dev nD) : V m c main_v6 = shapeCast S1x1024 (shapeCast S1024 (m ((c.tc : Thread nD τ).loc main_arg2)) shapeCasts_S1x1024_S1024 : FVec F S1024 .f32) shapeCasts_S1024_S1x1024 := by
  unfold V
  simp only [hostOps0]
  after_results_simp <;> rfl
/-- which every point reads whole. -/
theorem whole_4 (c : Dev nD) (t : Fin cfg0.N) (j : S1x1024.Idx) : iblk m c 4 t j = V m c main_v6 j := by
  show V m c main_v6 (((cfg0.win 4).blk t).view.emb j) = _
  refine congrArg (V m c main_v6) (funext fun a => Fin.ext ?_)
  match a with
  | ⟨0, _⟩ => show cc0_transform_4 (grid0.coords t) 0 * 1 + 1 * (j 0).val = (j 0).val; unfold cc0_transform_4; simp
  | ⟨1, _⟩ => show cc0_transform_4 (grid0.coords t) 1 * 1024 + 1 * (j 1).val = (j 1).val; unfold cc0_transform_4; simp

/-- The scale's array as the region finds it, -/
theorem V_scale (c : Dev nD) : V m c main_v7 = shapeCast S1x1024 (shapeCast S1024 (m ((c.tc : Thread nD τ).loc main_arg3)) shapeCasts_S1x1024_S1024 : FVec F S1024 .f32) shapeCasts_S1024_S1x1024 := by
  unfold V
  simp only [hostOps0]
  after_results_simp <;> rfl
/-- which every point reads whole. -/
theorem whole_5 (c : Dev nD) (t : Fin cfg0.N) (j : S1x1024.Idx) : iblk m c 5 t j = V m c main_v7 j := by
  show V m c main_v7 (((cfg0.win 5).blk t).view.emb j) = _
  refine congrArg (V m c main_v7) (funext fun a => Fin.ext ?_)
  match a with
  | ⟨0, _⟩ => show cc0_transform_5 (grid0.coords t) 0 * 1 + 1 * (j 0).val = (j 0).val; unfold cc0_transform_5; simp
  | ⟨1, _⟩ => show cc0_transform_5 (grid0.coords t) 1 * 1024 + 1 * (j 1).val = (j 1).val; unfold cc0_transform_5; simp

/-- The shift's array as the region finds it, -/
theorem V_shift (c : Dev nD) : V m c main_v8 = shapeCast S1x1024 (shapeCast S1024 (m ((c.tc : Thread nD τ).loc main_arg4)) shapeCasts_S1x1024_S1024 : FVec F S1024 .f32) shapeCasts_S1024_S1x1024 := by
  unfold V
  simp only [hostOps0]
  after_results_simp <;> rfl
/-- which every point reads whole. -/
theorem whole_6 (c : Dev nD) (t : Fin cfg0.N) (j : S1x1024.Idx) : iblk m c 6 t j = V m c main_v8 j := by
  show V m c main_v8 (((cfg0.win 6).blk t).view.emb j) = _
  refine congrArg (V m c main_v8) (funext fun a => Fin.ext ?_)
  match a with
  | ⟨0, _⟩ => show cc0_transform_6 (grid0.coords t) 0 * 1 + 1 * (j 0).val = (j 0).val; unfold cc0_transform_6; simp
  | ⟨1, _⟩ => show cc0_transform_6 (grid0.coords t) 1 * 1024 + 1 * (j 1).val = (j 1).val; unfold cc0_transform_6; simp

/-! ## The result array -/

/-- Where a block's entry lies in the result. -/
def place (t : Fin grid0.N) (y : S512x1024.Idx) : S16384x1024.Idx := ix2 (n0 := 16384) (n1 := 1024) ⟨t.val * 512 + (y 0).val, by
  have h : t.val < 32 := t.isLt
  have h0 : (y 0).val < 512 := (y 0).isLt
  omega⟩ (y 1)

/-- A block's entries lie in the result where `place` says. -/
theorem emb_result (t : Fin cfg0.N) (y : S512x1024.Idx) : ((cfg0.win 7).blk t).view.emb y = place t y := by
  refine funext fun a => Fin.ext ?_
  match a with
  | ⟨0, _⟩ => show cc0_transform_7 (grid0.coords t) 0 * 512 + 1 * (y 0).val = t.val * 512 + (y 0).val; rw [(map_7 t).1]; simp
  | ⟨1, _⟩ => show cc0_transform_7 (grid0.coords t) 1 * 1024 + 1 * (y 1).val = (y 1).val; rw [(map_7 t).2]; simp

/-- Every entry of the result lies in some block. -/
theorem place_onto (i : S16384x1024.Idx) : ∃ (t : Fin grid0.N) (y : S512x1024.Idx), place t y = i := by
  have hi : (i 0).val < 16384 := (i 0).isLt
  refine ⟨⟨(i 0).val / 512, by show _ < 32; omega⟩, ix2 (n0 := 512) (n1 := 1024) ⟨(i 0).val % 512, Nat.mod_lt _ (by decide)⟩ (i 1), funext fun a => Fin.ext ?_⟩
  match a with
  | ⟨0, _⟩ => show (i 0).val / 512 * 512 + (i 0).val % 512 = (i 0).val; omega
  | ⟨1, _⟩ => rfl

section value
variable (m : (ℓ : Loc nD τ sig) → Buf (Elt Ideal) ℓ)
open Cert.PwMath
open Cert.DwMath (mean lined lit)

/-- The reference's result of the arrays launched. -/
def result (c : Dev nD) : FVec Ideal S16384x1024 .bf16 :=
  wholeR (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4))

/-- A vector reshaped and back, read at an entry. -/
theorem vector_apply (x : FVec Ideal S1x1024 .f32) (k : Fin 1024) :
    shapeCast S1x1024 (shapeCast S1024 x shapeCasts_S1x1024_S1024 : FVec Ideal S1024 .f32) shapeCasts_S1024_S1x1024 (ix2 (n0 := 1) (n1 := 1024) 0 k) = x (ix2 (n0 := 1) (n1 := 1024) 0 k) := by
  pointwise

/-- The bias's entries. -/
theorem bias_entry (c : Dev nD) (t : Fin cfg0.N) (k : Fin 1024) : iblk m c 4 t (ix2 (n0 := 1) (n1 := 1024) 0 k) = m ((c.tc : Thread nD τ).loc main_arg2) (ix2 (n0 := 1) (n1 := 1024) 0 k) :=
  (whole_4 m c t _).trans ((congrFun (V_bias m c) _).trans (vector_apply _ k))

/-- The scale's entries. -/
theorem scale_entry (c : Dev nD) (t : Fin cfg0.N) (k : Fin 1024) : iblk m c 5 t (ix2 (n0 := 1) (n1 := 1024) 0 k) = m ((c.tc : Thread nD τ).loc main_arg3) (ix2 (n0 := 1) (n1 := 1024) 0 k) :=
  (whole_5 m c t _).trans ((congrFun (V_scale m c) _).trans (vector_apply _ k))

/-- The shift's entries. -/
theorem shift_entry (c : Dev nD) (t : Fin cfg0.N) (k : Fin 1024) : iblk m c 6 t (ix2 (n0 := 1) (n1 := 1024) 0 k) = m ((c.tc : Thread nD τ).loc main_arg4) (ix2 (n0 := 1) (n1 := 1024) 0 k) :=
  (whole_6 m c t _).trans ((congrFun (V_shift m c) _).trans (vector_apply _ k))

/-- A point's block of the rows. -/
theorem rows_entry (c : Dev nD) (t : Fin cfg0.N) (p : Fin 512) (k : Fin 1024) (h : t.val * 512 + p.val < 16896) :
    iblk m c 0 t (ix2 (n0 := 512) (n1 := 1024) p k) = m ((c.tc : Thread nD τ).loc main_arg0) (ix2 (n0 := 16896) (n1 := 1024) ⟨t.val * 512 + p.val, h⟩ k) := by
  refine Eq.trans ?_ (congrFun (V_main_arg0 m c) _)
  show V m c main_arg0 (((cfg0.win 0).blk t).view.emb (ix2 (n0 := 512) (n1 := 1024) p k)) = _
  refine congrArg (V m c main_arg0) (funext fun a => Fin.ext ?_)
  match a with
  | ⟨0, _⟩ => show cc0_transform_0 (grid0.coords t) 0 * 512 + 1 * p.val = t.val * 512 + p.val; rw [(map_0 t).1]; omega
  | ⟨1, _⟩ => show cc0_transform_0 (grid0.coords t) 1 * 1024 + 1 * k.val = k.val; rw [(map_0 t).2]; omega

/-- The rows before a point's block. -/
theorem before_entry (c : Dev nD) (t : Fin cfg0.N) (ht : 0 < t.val) (r : Fin 32) (k : Fin 1024) (h : t.val * 512 - 32 + r.val < 16896) :
    iblk m c 1 t (ix2 (n0 := 32) (n1 := 1024) r k) = m ((c.tc : Thread nD τ).loc main_arg0) (ix2 (n0 := 16896) (n1 := 1024) ⟨t.val * 512 - 32 + r.val, h⟩ k) := by
  refine Eq.trans ?_ (congrFun (V_main_arg0 m c) _)
  show V m c main_arg0 (((cfg0.win 1).blk t).view.emb (ix2 (n0 := 32) (n1 := 1024) r k)) = _
  refine congrArg (V m c main_arg0) (funext fun a => Fin.ext ?_)
  match a with
  | ⟨0, _⟩ => show cc0_transform_1 (grid0.coords t) 0 * 32 + 1 * r.val = t.val * 512 - 32 + r.val; rw [(map_1 t).1]; omega
  | ⟨1, _⟩ => show cc0_transform_1 (grid0.coords t) 1 * 1024 + 1 * k.val = k.val; rw [(map_1 t).2]; omega

/-- The rows before a sequence are zeros. -/
theorem left_entry (c : Dev nD) (t : Fin cfg0.N) (y : S1x32x1024.Idx) : @Eq EReal (iblk m c 2 t y) 0 := by
  have h (x : S2x32x1024.Idx) : (broadcastInDim S2x32x1024 ![] bcast_S_S2x32x1024 (constant S_ .f32 0x00000000#32) : FVec Ideal S2x32x1024 .f32) x = 0 := by
    obtain ⟨a, r, k, rfl⟩ : ∃ (a : Fin 2) (r : Fin 32) (k : Fin 1024), x = ix3 (n0 := 2) (n1 := 32) (n2 := 1024) a r k := ⟨x 0, x 1, x 2, by
      funext i
      match i with
      | ⟨0, _⟩ => rfl
      | ⟨1, _⟩ => rfl
      | ⟨2, _⟩ => rfl⟩
    pointwise
  show @Eq EReal (V m c main_v4 (((cfg0.win 2).blk t).view.emb y)) 0
  exact (congrFun (V_left m c) _).trans (h _)

/-- At a sequence's first point the halo is the rows before the sequence, -/
theorem halo_first (i : grid0.Coords) (hi : (i 1).val = 0) (x : Vec Ideal S1x32x1024 .f32) (y : Vec Ideal S32x1024 .f32) (r : Fin 32) (k : Fin 1024) :
    k0_pay58 (F := Ideal) i x y (ix2 r k) = x (ix3 (0 : Fin 1) r k) := by
  have h : shapeCast S32x1024 x shapeCasts_S1x32x1024_S32x1024 (ix2 r k) = x (ix3 (0 : Fin 1) r k) := by
    pointwise
  refine Eq.trans ?_ h
  unfold k0_pay58
  rw [hi]
  rfl

/-- The test of a point's place in its sequence, where it is not the first. -/
theorem test_later : ∀ n : Fin 16, n.val ≠ 0 → Scalar.cmpi .eq (BitVec.ofNat 32 n.val) 0#32 = 0#1 := by decide +kernel

/-- and at a later one the rows before the block. -/
theorem halo_later (i : grid0.Coords) (hi : (i 1).val ≠ 0) (x : Vec Ideal S1x32x1024 .f32) (y : Vec Ideal S32x1024 .f32) : k0_pay58 (F := Ideal) i x y = y := by
  have h : Scalar.cmpi .eq (BitVec.ofNat 32 (i 1).val) 0#32 = 0#1 := test_later (i 1) hi
  show Scalar.select (Scalar.cmpi .eq (BitVec.ofNat 32 (i 1).val) 0#32) (shapeCast S32x1024 x shapeCasts_S1x32x1024_S32x1024) y = y
  rw [h]
  rfl

/-- The taps' weights. -/
theorem tap_entry (c : Dev nD) (t : Fin cfg0.N) (j : Nat) (k : Fin 1024) :
    tapOf (iblk m c 3 t) j k = tapR (shapeCast S31x1024 (m ((c.tc : Thread nD τ).loc main_arg1)) shapeCasts_S1x31x1024_S31x1024) j k := by
  unfold tapOf tapR
  by_cases h : j < 31
  · rw [dif_pos h, dif_pos h]
    refine (whole_3 m c t _).trans ((congrFun (V_taps m c) _).trans ?_)
    refine shapeCast_apply _ _ _ (ix2 (n0 := 31) (n1 := 1024) ⟨j, h⟩ k) ?_
    rw [Shape.rowMajor_val_two, Shape.rowMajor_val_three]
    show j * 1024 + k.val = (j * 8 + k.val / 128) * 128 + k.val % 128
    omega
  · rw [dif_neg h, dif_neg h]
    pointwise

/-- The rows a point's convolution runs over are the extended sequence's. -/
theorem stacked_entry (c : Dev nD) (t : Fin cfg0.N) (b : Fin 2) (hb : b.val = t.val / 16) (r : Nat) (hr : r < 542) (k : Fin 1024) :
    stacked (F := Ideal) (k0_pay58 (grid0.coords t) (iblk m c 2 t) (iblk m c 1 t)) (iblk m c 0 t) (r + 2) k
      = rowR (extR (m ((c.tc : Thread nD τ).loc main_arg0))) b (t.val % 16 * 512 + r) k := by
  have ht : t.val < 32 := t.isLt
  unfold stacked
  by_cases h : r < 30
  · rw [dif_pos (by omega)]
    by_cases h0 : t.val % 16 = 0
    · refine (halo_first (grid0.coords t) ((coord_one t).trans h0) _ _ _ _).trans ?_
      refine (left_entry m c t _).trans ?_
      rw [h0, show 0 * 512 + r = r by omega]
      exact (extR_left _ b ⟨r, h⟩ k).symm
    · rw [halo_later (grid0.coords t) (fun e => h0 ((coord_one t).symm.trans e))]
      refine Eq.trans ?_ (extR_right _ b _ ⟨t.val % 16 * 512 + r - 30, by omega⟩ (by show t.val % 16 * 512 + r - 30 + 30 = _; omega) k).symm
      refine (before_entry m c t (by omega) ⟨r + 2, by omega⟩ k (by show t.val * 512 - 32 + (r + 2) < 16896; omega)).trans ?_
      refine congrArg (m ((c.tc : Thread nD τ).loc main_arg0)) (congrArg (fun q : Fin 16896 => ix2 (n0 := 16896) (n1 := 1024) q k) (Fin.ext ?_))
      show t.val * 512 - 32 + (r + 2) = b.val * 8192 + (t.val % 16 * 512 + r - 30)
      omega
  · rw [dif_neg (by omega), dif_pos (by omega)]
    refine Eq.trans ?_ (extR_right _ b _ ⟨t.val % 16 * 512 + r - 30, by omega⟩ (by show t.val % 16 * 512 + r - 30 + 30 = _; omega) k).symm
    refine (rows_entry m c t ⟨r + 2 - 32, by omega⟩ k (by show t.val * 512 + (r + 2 - 32) < 16896; omega)).trans ?_
    refine congrArg (m ((c.tc : Thread nD τ).loc main_arg0)) (congrArg (fun q : Fin 16896 => ix2 (n0 := 16896) (n1 := 1024) q k) (Fin.ext ?_))
    show t.val * 512 + (r + 2 - 32) = b.val * 8192 + (t.val % 16 * 512 + r - 30)
    omega

/-- The convolution's entries. -/
theorem conv_entry (c : Dev nD) (t : Fin cfg0.N) (b : Fin 2) (hb : b.val = t.val / 16) (p : Fin 512) (q : Fin 8192) (hq : q.val = t.val % 16 * 512 + p.val) (k : Fin 1024) :
    convolved (F := Ideal) (iblk m c 3 t) (k0_pay58 (grid0.coords t) (iblk m c 2 t) (iblk m c 1 t)) (iblk m c 0 t) (ix2 (n0 := 512) (n1 := 1024) p k)
      = running (F := Ideal) (prodR (extR (m ((c.tc : Thread nD τ).loc main_arg0))) (shapeCast S31x1024 (m ((c.tc : Thread nD τ).loc main_arg1)) shapeCasts_S1x31x1024_S31x1024) b q k) 30 := by
  unfold convolved
  refine running_congr 30 fun j hj => ?_
  show tapOf (iblk m c 3 t) j k * stacked (F := Ideal) (k0_pay58 (grid0.coords t) (iblk m c 2 t) (iblk m c 1 t)) (iblk m c 0 t) (p.val + 2 + j) k = rowR _ b (q.val + j) k * tapR _ j k
  rw [show p.val + 2 + j = p.val + j + 2 by omega, stacked_entry m c t b hb (p.val + j) (by omega) k, tap_entry, mul_comm, hq, Nat.add_assoc]

/-- A point's block holds the reference's rows. -/
theorem block_entry (c : Dev nD) (t : Fin cfg0.N) (y : S512x1024.Idx) : (dats m 0 c).after 7 t y = result m c (place t y) := by
  obtain ⟨p, k, rfl⟩ : ∃ (p : Fin 512) (k : Fin 1024), y = ix2 (n0 := 512) (n1 := 1024) p k := ⟨y 0, y 1, by
    funext a
    match a with
    | ⟨0, _⟩ => rfl
    | ⟨1, _⟩ => rfl⟩
  have ht : t.val < 32 := t.isLt
  obtain ⟨b, hb⟩ : ∃ b : Fin 2, b.val = t.val / 16 := ⟨⟨t.val / 16, by omega⟩, rfl⟩
  obtain ⟨q, hq⟩ : ∃ q : Fin 8192, q.val = t.val % 16 * 512 + p.val := ⟨⟨t.val % 16 * 512 + p.val, by omega⟩, rfl⟩
  have e : place t (ix2 (n0 := 512) (n1 := 1024) p k) = ix2 (n0 := 16384) (n1 := 1024) ⟨b.val * 8192 + q.val, by omega⟩ k :=
    congrArg (fun z : Fin 16384 => ix2 (n0 := 16384) (n1 := 1024) z k) (Fin.ext (by show t.val * 512 + p.val = b.val * 8192 + q.val; omega))
  rw [e]
  refine (congrFun (after_eq m c t) _).trans ?_
  refine (active_apply _ p k).trans ?_
  refine Eq.trans ?_ (wholeR_apply _ _ _ _ _ b q k).symm
  refine congrArg lit ((normed_apply _ _ _ _ p k).trans ?_)
  rw [scale_entry, shift_entry]
  refine congrArg (fun z => lined z _ _ k) (funext fun i => ?_)
  exact congrArg₂ (· + ·) (conv_entry m c t b hb p q hq i) (bias_entry m c t i)

/-- The run's result array is the reference's. -/
theorem arr_result (c : Dev nD) : (dats m 0 c).arrAt 7 cfg0.N = result m c := by
  refine (dats m 0 c).arrAt_eq_of_emb 7 (result m c) (fun t hf y => ?_) (fun i => ?_)
  · show (dats m 0 c).after 7 t y = result m c (((cfg0.win 7).blk t).view.emb y)
    exact (block_entry m c t y).trans (congrArg (result m c) (emb_result t y)).symm
  · obtain ⟨t, y, h⟩ := place_onto i
    refine ⟨t, flush0_7 t, ?_⟩
    have e : ((cfg0.win 7).blk t).view.emb y = i := (emb_result t y).trans h
    rw [← e]
    exact View.emb_mem_set _ _

end value

end Cert.Kernel8Ideal.Dw

end
-- ==== Proof.lean ====
module

public import proofs.«01_k».proof.Proof.Gen.Kernel8
public import proofs.«01_k».proof.Proof.Gen.Kernel8Ideal
public import proofs.«01_k».proof.Proof.Gen.Kernel8Ideal.Frame
public import proofs.«01_k».proof.Proof.Gen.Kernel8.Frame
public import proofs.«01_k».proof.Proof.Gen.Reference8Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Kernel7.Frame
public import proofs.«01_k».proof.Proof.Gen.Reference7Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Kernel6.Frame
public import proofs.«01_k».proof.Proof.Gen.Reference6Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5.Frame
public import proofs.«01_k».proof.Proof.Gen.Reference5Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4.Frame
public import proofs.«01_k».proof.Proof.Gen.Reference4Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3.Frame
public import proofs.«01_k».proof.Proof.Gen.Reference3Ideal.Run
public import proofs.«01_k».proof.Proof.Gen.Pre_finite_weights
public import proofs.«01_k».proof.Proof.Gen.Kernel2
public import proofs.«01_k».proof.Proof.Gen.Kernel2Ideal
public import proofs.«01_k».proof.Proof.Gen.Kernel2Ideal.Frame
public import proofs.«01_k».proof.Proof.Gen.Kernel2.Frame
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_counts_of_choices
public import proofs.«01_k».proof.Proof.Frames
public import proofs.«01_k».proof.Proof.Same
public import proofs.«01_k».proof.Proof.Algebra
public import proofs.«01_k».proof.Proof.ConvIn
public import proofs.«01_k».proof.Proof.InProj
public import proofs.«01_k».proof.Proof.Post4
public import proofs.«01_k».proof.Proof.Post5
public import proofs.«01_k».proof.Proof.Disc
public import proofs.«01_k».proof.Proof.DwValue
public import proofs.«01_k».proof.Proof.PwValue
public import Idealize.ShloMosaic.Adequacy
public import Idealize.ShloMosaic.Init

@[expose] public section

noncomputable section

namespace Cert.Proof

open Idealize.ShloMosaic Idealize.SL.Sem

/-- The reference's frame: its operations write no argument and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The values: over the extended reals the kernel leaves in its result array what the reference leaves in its own. -/
theorem same_values : Cert.algebraic_KernelIdeal_ReferenceIdeal := fun m ρ m' ρ' h hm => by
  refine ⟨fun c => shapeCast Cert.KernelIdeal.S397312x128 (Cert.KernelIdeal.Expert.refArr m c) Cert.KernelIdeal.Gen.shapeCasts_S49664x1024_S397312x128, ?_, ?_⟩
  · refine (θ_run Cert.KernelIdeal.defs _ _).mono (fun r hr c => ⟨?_, Cert.KernelIdeal.Expert.args_kept m (Cert.KernelIdeal.Expert.ok_of_meets m h) r hr.1 c⟩)
      (Cert.KernelIdeal.Expert.run_main (F := Ideal) m ρ (Cert.KernelIdeal.Expert.ok_of_meets m h))
    exact ((hr.1 c).1 3).trans ((Cert.KernelIdeal.Expert.arr_result m (Cert.KernelIdeal.Expert.ok_of_meets m h) c).trans (Cert.KernelIdeal.Expert.outArr_eq m h c))
  · refine (θ_run Cert.ReferenceIdeal.defs _ _).mono (fun r hr c => ⟨?_, (hr c).2⟩) (Cert.ReferenceIdeal.Value.run (F := Ideal) m' ρ')
    obtain ⟨e0, e1, e2, e3⟩ := hm c
    refine (hr c).1.trans ?_
    unfold Cert.ReferenceIdeal.Value.res_main_v39
    rw [e0, e1, e2, e3]
    rfl

/-- The second reference's frame likewise. -/
theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

open Cert.Kernel2Ideal.ConvIn in
/-- The second call's values: over the extended reals its three results are the reference's. -/
theorem same_values2 : Cert.algebraic_Kernel2Ideal_Reference2Ideal := fun m ρ m' ρ' h hm => by
  refine ⟨result m, fun c => Cert.Conv.lastLong (result m c),
    fun c => Cert.Conv.lastShort (result m c) (m ((c.tc : Thread Cert.Kernel2Ideal.nD Cert.Kernel2Ideal.τ).loc Cert.Kernel2Ideal.main_arg3)), ?_, ?_⟩
  · refine (θ_run Cert.Kernel2Ideal.defs _ _).mono (fun r hr c => ⟨?_, ?_, ?_, hr.2 c⟩)
      (θ_run_and (Cert.Kernel2Ideal.Gen.run_main (F := Ideal) m ρ) (Cert.Kernel2Ideal.Gen.unchanged (F := Ideal) m ρ))
    · exact ((hr.1 c).1 3).trans (arr_result m c)
    · exact ((hr.1 c).2 Cert.Kernel2Ideal.main_v16 (Pipeline.mem_restRefs_of Cert.Kernel2Ideal.main_v16 (by decide) (by decide))).trans (tail_long m c)
    · exact ((hr.1 c).2 Cert.Kernel2Ideal.main_v17 (Pipeline.mem_restRefs_of Cert.Kernel2Ideal.main_v17 (by decide) (by decide))).trans (tail_short m c)
  · refine (θ_run Cert.Reference2Ideal.defs _ _).mono (fun r hr c => ?_) (Cert.Reference2Ideal.Value.run (F := Ideal) m' ρ')
    obtain ⟨e0, e1, e2, e3⟩ := hm c
    obtain ⟨h0, h1, h2, ha⟩ := hr c
    have hv : Cert.Conv.first (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2)) = result m c := by
      rw [e0, e1, e2]; rfl
    exact ⟨h0.trans hv, h1.trans (congrArg Cert.Conv.lastLong hv), h2.trans (congrArg₂ Cert.Conv.lastShort hv e3), ha⟩

/-- The third reference's frame likewise. -/
theorem frame_reference3 : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

open Cert.Kernel3Ideal.InProj in
/-- The third call's values: over the extended reals its six results are the reference's. -/
theorem same_values3 : Cert.algebraic_Kernel3Ideal_Reference3Ideal_pre_finite_weights := fun m ρ m' ρ' h hm => by
  have real : ∀ c, Reals m c := fun c => reals_of_pre _ _ _ _ _ _ (h c)
  refine ⟨fun c => Cert.Proj.firstR (prod m c), fun c => Cert.Proj.scaled (qHeads m c), fun c => Cert.Proj.keptR (kHeads m c), fun c => Cert.Proj.keptR (Cert.Proj.vals (prod m c)),
    fun c => Cert.Proj.newR (kHeads m c), fun c => Cert.Proj.newR (Cert.Proj.vals (prod m c)), ?_, ?_⟩
  · refine (θ_run Cert.Kernel3Ideal.defs _ _).mono (fun r hr c => ⟨?_, ?_, ?_, ?_, ?_, ?_, hr.2 c⟩)
      (θ_run_and (Cert.Kernel3Ideal.Gen.run_main (F := Ideal) m ρ) (Cert.Kernel3Ideal.Gen.unchanged (F := Ideal) m ρ))
    · exact ((hr.1 c).1 7).trans (arr_7 m c)
    · exact ((hr.1 c).1 8).trans (arr_8 m c (real c))
    · exact ((hr.1 c).2 Cert.Kernel3Ideal.main_v31 (Pipeline.mem_restRefs_of Cert.Kernel3Ideal.main_v31 (by decide) (by decide))).trans (tail_kept_keys m c (real c))
    · exact ((hr.1 c).2 Cert.Kernel3Ideal.main_v36 (Pipeline.mem_restRefs_of Cert.Kernel3Ideal.main_v36 (by decide) (by decide))).trans (tail_kept_vals m c)
    · exact ((hr.1 c).2 Cert.Kernel3Ideal.main_v39 (Pipeline.mem_restRefs_of Cert.Kernel3Ideal.main_v39 (by decide) (by decide))).trans (tail_new_keys m c (real c))
    · exact ((hr.1 c).2 Cert.Kernel3Ideal.main_v42 (Pipeline.mem_restRefs_of Cert.Kernel3Ideal.main_v42 (by decide) (by decide))).trans (tail_new_vals m c)
  · refine (θ_run Cert.Reference3Ideal.defs _ _).mono (fun r hr c => ?_) (Cert.Reference3Ideal.Value.run (F := Ideal) m' ρ')
    obtain ⟨e0, e1, e2, e3, e4, e5⟩ := hm c
    obtain ⟨h0, h1, h2, h3, h4, h5, ha⟩ := hr c
    have hp : Cert.Proj.product (Cert.Proj.rows (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = prod m c := by
      rw [e0, e1, e2, e3]; rfl
    have hq : Cert.Proj.headNormed (Cert.Proj.queries (Cert.Proj.product (Cert.Proj.rows (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))) (m' ((c.tc : Thread Cert.Reference3Ideal.nD Cert.Reference3Ideal.τ).loc Cert.Reference3Ideal.main_arg4)) = qHeads m c := by
      rw [hp, e4]; rfl
    have hk : Cert.Proj.headNormed (Cert.Proj.keys (Cert.Proj.product (Cert.Proj.rows (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))) (m' ((c.tc : Thread Cert.Reference3Ideal.nD Cert.Reference3Ideal.τ).loc Cert.Reference3Ideal.main_arg5)) = kHeads m c := by
      rw [hp, e5]; rfl
    exact ⟨h0.trans (congrArg Cert.Proj.firstR hp), h1.trans (congrArg Cert.Proj.scaled hq), h2.trans (congrArg Cert.Proj.keptR hk),
      h3.trans (congrArg (fun p => Cert.Proj.keptR (Cert.Proj.vals p)) hp), h4.trans (congrArg Cert.Proj.newR hk),
      h5.trans (congrArg (fun p => Cert.Proj.newR (Cert.Proj.vals p)) hp), ha⟩

/-- The fourth reference's frame likewise. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Kernel4Ideal.Post in
/-- The fourth call's values: over the extended reals its array of rows is the reference's. -/
theorem same_values4 : Cert.algebraic_Kernel4Ideal_Reference4Ideal := fun m ρ m' ρ' h hm => by
  refine ⟨result m, ?_, ?_⟩
  · refine (θ_run Cert.Kernel4Ideal.defs _ _).mono (fun r hr c => ⟨?_, hr.2 c⟩)
      (θ_run_and (Cert.Kernel4Ideal.Gen.run_main (F := Ideal) m ρ) (Cert.Kernel4Ideal.Gen.unchanged (F := Ideal) m ρ))
    exact ((hr.1 c).1 13).trans (arr_result m c)
  · refine (θ_run Cert.Reference4Ideal.defs _ _).mono (fun r hr c => ⟨?_, (hr c).2⟩) (Cert.Reference4Ideal.Value.run (F := Ideal) m' ρ')
    obtain ⟨e0, e1, e2, e3, e4, e5, e6, e7, e8, e9⟩ := hm c
    have hv : Cert.PostMath.added (Cert.PostMath.rows (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))) (Cert.PostMath.both (Cert.PostMath.half (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))) (Cert.PostMath.half (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)))) (m' ((c.tc : Thread Cert.Reference4Ideal.nD Cert.Reference4Ideal.τ).loc Cert.Reference4Ideal.main_arg6)) = result m c := by
      rw [e0, e1, e2, e3, e4, e5, e6]; rfl
    exact (hr c).1.trans hv

/-- The fifth reference's frame likewise. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

open Cert.Kernel5Ideal.Post in
/-- The fifth call's values: over the extended reals its array of rows is the reference's. -/
theorem same_values5 : Cert.algebraic_Kernel5Ideal_Reference5Ideal := fun m ρ m' ρ' h hm => by
  refine ⟨result m, ?_, ?_⟩
  · refine (θ_run Cert.Kernel5Ideal.defs _ _).mono (fun r hr c => ⟨?_, hr.2 c⟩)
      (θ_run_and (Cert.Kernel5Ideal.Gen.run_main (F := Ideal) m ρ) (Cert.Kernel5Ideal.Gen.unchanged (F := Ideal) m ρ))
    exact ((hr.1 c).1 9).trans (arr_result m c)
  · refine (θ_run Cert.Reference5Ideal.defs _ _).mono (fun r hr c => ⟨?_, (hr c).2⟩) (Cert.Reference5Ideal.Value.run (F := Ideal) m' ρ')
    obtain ⟨e0, e1, e2, e3, e4, e5, e6⟩ := hm c
    have hv : Cert.PostMath.added5 (m' ((c.tc : Thread Cert.Reference5Ideal.nD Cert.Reference5Ideal.τ).loc Cert.Reference5Ideal.main_arg0)) (Cert.PostMath.whole (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))) (m' ((c.tc : Thread Cert.Reference5Ideal.nD Cert.Reference5Ideal.τ).loc Cert.Reference5Ideal.main_arg3)) = result m c := by
      rw [e0, e1, e2, e3]; rfl
    exact (hr c).1.trans hv

/-- The sixth reference's frame likewise. -/
theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

open Cert.Kernel6Ideal.Disc in
/-- The sixth call's values: over the extended reals its four results are the reference's. -/
theorem same_values6 : Cert.algebraic_Kernel6Ideal_Reference6Ideal := fun m ρ m' ρ' h hm => by
  refine ⟨result0 m, result1 m, result2 m, result3 m, ?_, ?_⟩
  · refine (θ_run Cert.Kernel6Ideal.defs _ _).mono (fun r hr c => ⟨?_, ?_, ?_, ?_, hr.2 c⟩)
      (θ_run_and (Cert.Kernel6Ideal.Gen.run_main (F := Ideal) m ρ) (Cert.Kernel6Ideal.Gen.unchanged (F := Ideal) m ρ))
    · exact ((hr.1 c).1 5).trans (arr_5 m c)
    · exact ((hr.1 c).1 6).trans (arr_6 m c)
    · exact ((hr.1 c).1 7).trans (arr_7 m c)
    · exact ((hr.1 c).1 8).trans (arr_8 m c)
  · refine (θ_run Cert.Reference6Ideal.defs _ _).mono (fun r hr c => ?_) (Cert.Reference6Ideal.Value.run (F := Ideal) m' ρ')
    obtain ⟨e0, e1, e2, e3, e4⟩ := hm c
    obtain ⟨h0, h1, h2, h3, ha⟩ := hr c
    have v0 : Cert.DiscMath.ref0 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = result0 m c := by
      rw [e0, e1, e2]; rfl
    have v1 : Cert.DiscMath.ref1 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = result1 m c := by
      rw [e0, e1, e2]; rfl
    have v2 : Cert.DiscMath.ref2 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) = result2 m c := by
      rw [e0, e1, e2, e3, e4]; rfl
    have v3 : Cert.DiscMath.ref3 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) = result3 m c := by
      rw [e0, e1, e2, e3, e4]; rfl
    exact ⟨h0.trans v0, h1.trans v1, h2.trans v2, h3.trans v3, ha⟩

/-- The seventh reference's frame likewise. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

open Cert.Kernel7Ideal.Dw in
/-- The seventh call's values: over the extended reals its result is the reference's. -/
theorem same_values7 : Cert.algebraic_Kernel7Ideal_Reference7Ideal := fun m ρ m' ρ' h hm => by
  refine ⟨result m, ?_, ?_⟩
  · refine (θ_run Cert.Kernel7Ideal.defs _ _).mono (fun r hr c => ⟨?_, hr.2 c⟩)
      (θ_run_and (Cert.Kernel7Ideal.Gen.run_main (F := Ideal) m ρ) (Cert.Kernel7Ideal.Gen.unchanged (F := Ideal) m ρ))
    exact ((hr.1 c).1 7).trans (arr_result m c)
  · refine (θ_run Cert.Reference7Ideal.defs _ _).mono (fun r hr c => ?_) (Cert.Reference7Ideal.Value.run (F := Ideal) m' ρ')
    obtain ⟨e0, e1, e2, e3, e4, e5⟩ := hm c
    obtain ⟨h0, ha⟩ := hr c
    have hv : Cert.DwMath.wholeR (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) = result m c := by
      rw [e0, e1, e2, e3, e4, e5]; rfl
    exact ⟨h0.trans hv, ha⟩

/-- The eighth reference's frame likewise. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

open Cert.Kernel8Ideal.Dw in
/-- The eighth call's values: over the extended reals its result is the reference's. -/
theorem same_values8 : Cert.algebraic_Kernel8Ideal_Reference8Ideal := fun m ρ m' ρ' h hm => by
  refine ⟨result m, ?_, ?_⟩
  · refine (θ_run Cert.Kernel8Ideal.defs _ _).mono (fun r hr c => ⟨?_, hr.2 c⟩)
      (θ_run_and (Cert.Kernel8Ideal.Gen.run_main (F := Ideal) m ρ) (Cert.Kernel8Ideal.Gen.unchanged (F := Ideal) m ρ))
    exact ((hr.1 c).1 7).trans (arr_result m c)
  · refine (θ_run Cert.Reference8Ideal.defs _ _).mono (fun r hr c => ?_) (Cert.Reference8Ideal.Value.run (F := Ideal) m' ρ')
    obtain ⟨e0, e1, e2, e3, e4⟩ := hm c
    obtain ⟨h0, ha⟩ := hr c
    have hv : Cert.PwMath.wholeR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) = result m c := by
      rw [e0, e1, e2, e3, e4]; rfl
    exact ⟨h0.trans hv, ha⟩

/-- The certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_counts_of_choices.Gen.facts, Cert.Pre_finite_weights.Gen.facts,
  Cert.Same.frame_kernel, Cert.KernelIdeal.Expert.frame_ideal, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, fun m ρ _ => Cert.Kernel3Ideal.Gen.frame m ρ, frame_reference3, fun m ρ _ => frame_reference3 m ρ trivial,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  trivial, same_values, trivial, same_values2, IdealRules.bf16_pack.statement _, same_values3,
  IdealRules.bf16_pack.statement _, same_values4, IdealRules.bf16_pack.statement _, same_values5,
  trivial, same_values6, trivial, same_values7, trivial, same_values8⟩

end Cert.Proof

end
